-- ==== Defs.lean ====
def Pre_WgradOwn (m : (ℓ : Loc Cert.WgradOwn.nD Cert.WgradOwn.τ Cert.WgradOwn.sig) → Buf (Elt Bits) ℓ) : Prop :=
  True

def Pre_WgradOwnIdeal (m : (ℓ : Loc Cert.WgradOwnIdeal.nD Cert.WgradOwnIdeal.τ Cert.WgradOwnIdeal.sig) → Buf (Elt Ideal) ℓ) : Prop :=
  True

def Pre_WgradOwnRefIdeal (m : (ℓ : Loc Cert.WgradOwnRefIdeal.nD Cert.WgradOwnRefIdeal.τ Cert.WgradOwnRefIdeal.sig) → Buf (Elt Ideal) ℓ) : Prop :=
  True

def Pre_WgradSibling (m : (ℓ : Loc Cert.WgradSibling.nD Cert.WgradSibling.τ Cert.WgradSibling.sig) → Buf (Elt Bits) ℓ) : Prop :=
  True

def Pre_WgradSiblingIdeal (m : (ℓ : Loc Cert.WgradSiblingIdeal.nD Cert.WgradSiblingIdeal.τ Cert.WgradSiblingIdeal.sig) → Buf (Elt Ideal) ℓ) : Prop :=
  True

def Pre_WgradSiblingRefIdeal (m : (ℓ : Loc Cert.WgradSiblingRefIdeal.nD Cert.WgradSiblingRefIdeal.τ Cert.WgradSiblingRefIdeal.sig) → Buf (Elt Ideal) ℓ) : Prop :=
  True

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradRefIdeal (m : (ℓ : Loc Cert.InDgradRefIdeal.nD Cert.InDgradRefIdeal.τ Cert.InDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_AttnWgrad (m : (ℓ : Loc Cert.AttnWgrad.nD Cert.AttnWgrad.τ Cert.AttnWgrad.sig) → Buf (Elt Bits) ℓ) : Prop :=
  True

def Pre_AttnWgradIdeal (m : (ℓ : Loc Cert.AttnWgradIdeal.nD Cert.AttnWgradIdeal.τ Cert.AttnWgradIdeal.sig) → Buf (Elt Ideal) ℓ) : Prop :=
  True

def Pre_AttnWgradRefIdeal (m : (ℓ : Loc Cert.AttnWgradRefIdeal.nD Cert.AttnWgradRefIdeal.τ Cert.AttnWgradRefIdeal.sig) → Buf (Elt Ideal) ℓ) : Prop :=
  True

def Pre_HgrnWgrad (m : (ℓ : Loc Cert.HgrnWgrad.nD Cert.HgrnWgrad.τ Cert.HgrnWgrad.sig) → Buf (Elt Bits) ℓ) : Prop :=
  True

def Pre_HgrnWgradIdeal (m : (ℓ : Loc Cert.HgrnWgradIdeal.nD Cert.HgrnWgradIdeal.τ Cert.HgrnWgradIdeal.sig) → Buf (Elt Ideal) ℓ) : Prop :=
  True

def Pre_HgrnWgradRefIdeal (m : (ℓ : Loc Cert.HgrnWgradRefIdeal.nD Cert.HgrnWgradRefIdeal.τ Cert.HgrnWgradRefIdeal.sig) → Buf (Elt Ideal) ℓ) : Prop :=
  True

def Pre_AttnDgrad (m : (ℓ : Loc Cert.AttnDgrad.nD Cert.AttnDgrad.τ Cert.AttnDgrad.sig) → Buf (Elt Bits) ℓ) : Prop :=
  True

def Pre_AttnDgradIdeal (m : (ℓ : Loc Cert.AttnDgradIdeal.nD Cert.AttnDgradIdeal.τ Cert.AttnDgradIdeal.sig) → Buf (Elt Ideal) ℓ) : Prop :=
  True

def Pre_AttnDgradRefIdeal (m : (ℓ : Loc Cert.AttnDgradRefIdeal.nD Cert.AttnDgradRefIdeal.τ Cert.AttnDgradRefIdeal.sig) → Buf (Elt Ideal) ℓ) : Prop :=
  True

def Pre_HgrnDgrad (m : (ℓ : Loc Cert.HgrnDgrad.nD Cert.HgrnDgrad.τ Cert.HgrnDgrad.sig) → Buf (Elt Bits) ℓ) : Prop :=
  True

def Pre_HgrnDgradIdeal (m : (ℓ : Loc Cert.HgrnDgradIdeal.nD Cert.HgrnDgradIdeal.τ Cert.HgrnDgradIdeal.sig) → Buf (Elt Ideal) ℓ) : Prop :=
  True

def Pre_HgrnDgradRefIdeal (m : (ℓ : Loc Cert.HgrnDgradRefIdeal.nD Cert.HgrnDgradRefIdeal.τ Cert.HgrnDgradRefIdeal.sig) → Buf (Elt Ideal) ℓ) : Prop :=
  True

def Pre_InProjOwn (m : (ℓ : Loc Cert.InProjOwn.nD Cert.InProjOwn.τ Cert.InProjOwn.sig) → Buf (Elt Bits) ℓ) : Prop :=
  True

def Pre_InProjOwnIdeal (m : (ℓ : Loc Cert.InProjOwnIdeal.nD Cert.InProjOwnIdeal.τ Cert.InProjOwnIdeal.sig) → Buf (Elt Ideal) ℓ) : Prop :=
  True

def Pre_InProjOwnRefIdeal (m : (ℓ : Loc Cert.InProjOwnRefIdeal.nD Cert.InProjOwnRefIdeal.τ Cert.InProjOwnRefIdeal.sig) → Buf (Elt Ideal) ℓ) : Prop :=
  True

def Pre_InProjPeer0 (m : (ℓ : Loc Cert.InProjPeer0.nD Cert.InProjPeer0.τ Cert.InProjPeer0.sig) → Buf (Elt Bits) ℓ) : Prop :=
  True

def Pre_InProjPeer0Ideal (m : (ℓ : Loc Cert.InProjPeer0Ideal.nD Cert.InProjPeer0Ideal.τ Cert.InProjPeer0Ideal.sig) → Buf (Elt Ideal) ℓ) : Prop :=
  True

def Pre_InProjPeer0RefIdeal (m : (ℓ : Loc Cert.InProjPeer0RefIdeal.nD Cert.InProjPeer0RefIdeal.τ Cert.InProjPeer0RefIdeal.sig) → Buf (Elt Ideal) ℓ) : Prop :=
  True

def Pre_InProjPeer1 (m : (ℓ : Loc Cert.InProjPeer1.nD Cert.InProjPeer1.τ Cert.InProjPeer1.sig) → Buf (Elt Bits) ℓ) : Prop :=
  True

def Pre_InProjPeer1Ideal (m : (ℓ : Loc Cert.InProjPeer1Ideal.nD Cert.InProjPeer1Ideal.τ Cert.InProjPeer1Ideal.sig) → Buf (Elt Ideal) ℓ) : Prop :=
  True

def Pre_InProjPeer1RefIdeal (m : (ℓ : Loc Cert.InProjPeer1RefIdeal.nD Cert.InProjPeer1RefIdeal.τ Cert.InProjPeer1RefIdeal.sig) → Buf (Elt Ideal) ℓ) : Prop :=
  True

def Pre_InProjPeer2 (m : (ℓ : Loc Cert.InProjPeer2.nD Cert.InProjPeer2.τ Cert.InProjPeer2.sig) → Buf (Elt Bits) ℓ) : Prop :=
  True

def Pre_InProjPeer2Ideal (m : (ℓ : Loc Cert.InProjPeer2Ideal.nD Cert.InProjPeer2Ideal.τ Cert.InProjPeer2Ideal.sig) → Buf (Elt Ideal) ℓ) : Prop :=
  True

def Pre_InProjPeer2RefIdeal (m : (ℓ : Loc Cert.InProjPeer2RefIdeal.nD Cert.InProjPeer2RefIdeal.τ Cert.InProjPeer2RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamHgrn (m : (ℓ : Loc Cert.AdamHgrn.nD Cert.AdamHgrn.τ Cert.AdamHgrn.sig) → Buf (Elt Bits) ℓ) : Prop :=
  True

def Pre_AdamHgrnIdeal (m : (ℓ : Loc Cert.AdamHgrnIdeal.nD Cert.AdamHgrnIdeal.τ Cert.AdamHgrnIdeal.sig) → Buf (Elt Ideal) ℓ) : Prop :=
  True

def Pre_AdamHgrnRefIdeal (m : (ℓ : Loc Cert.AdamHgrnRefIdeal.nD Cert.AdamHgrnRefIdeal.τ Cert.AdamHgrnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_PostLoss (m : (ℓ : Loc Cert.PostLoss.nD Cert.PostLoss.τ Cert.PostLoss.sig) → Buf (Elt Bits) ℓ) : Prop :=
  True

def Pre_PostLossIdeal (m : (ℓ : Loc Cert.PostLossIdeal.nD Cert.PostLossIdeal.τ Cert.PostLossIdeal.sig) → Buf (Elt Ideal) ℓ) : Prop :=
  True

def Pre_PostLossRefIdeal (m : (ℓ : Loc Cert.PostLossRefIdeal.nD Cert.PostLossRefIdeal.τ Cert.PostLossRefIdeal.sig) → Buf (Elt Ideal) ℓ) : Prop :=
  True

def Pre_SumIn0 (m : (ℓ : Loc Cert.SumIn0.nD Cert.SumIn0.τ Cert.SumIn0.sig) → Buf (Elt Bits) ℓ) : Prop :=
  True

def Pre_SumIn0Ideal (m : (ℓ : Loc Cert.SumIn0Ideal.nD Cert.SumIn0Ideal.τ Cert.SumIn0Ideal.sig) → Buf (Elt Ideal) ℓ) : Prop :=
  True

def Pre_SumIn0RefIdeal (m : (ℓ : Loc Cert.SumIn0RefIdeal.nD Cert.SumIn0RefIdeal.τ Cert.SumIn0RefIdeal.sig) → Buf (Elt Ideal) ℓ) : Prop :=
  True

def Pre_SumIn1 (m : (ℓ : Loc Cert.SumIn1.nD Cert.SumIn1.τ Cert.SumIn1.sig) → Buf (Elt Bits) ℓ) : Prop :=
  True

def Pre_SumIn1Ideal (m : (ℓ : Loc Cert.SumIn1Ideal.nD Cert.SumIn1Ideal.τ Cert.SumIn1Ideal.sig) → Buf (Elt Ideal) ℓ) : Prop :=
  True

def Pre_SumIn1RefIdeal (m : (ℓ : Loc Cert.SumIn1RefIdeal.nD Cert.SumIn1RefIdeal.τ Cert.SumIn1RefIdeal.sig) → Buf (Elt Ideal) ℓ) : Prop :=
  True

def Pre_SumAttn0 (m : (ℓ : Loc Cert.SumAttn0.nD Cert.SumAttn0.τ Cert.SumAttn0.sig) → Buf (Elt Bits) ℓ) : Prop :=
  True

def Pre_SumAttn0Ideal (m : (ℓ : Loc Cert.SumAttn0Ideal.nD Cert.SumAttn0Ideal.τ Cert.SumAttn0Ideal.sig) → Buf (Elt Ideal) ℓ) : Prop :=
  True

def Pre_SumAttn0RefIdeal (m : (ℓ : Loc Cert.SumAttn0RefIdeal.nD Cert.SumAttn0RefIdeal.τ Cert.SumAttn0RefIdeal.sig) → Buf (Elt Ideal) ℓ) : Prop :=
  True

def Pre_SumAttn1 (m : (ℓ : Loc Cert.SumAttn1.nD Cert.SumAttn1.τ Cert.SumAttn1.sig) → Buf (Elt Bits) ℓ) : Prop :=
  True

def Pre_SumAttn1Ideal (m : (ℓ : Loc Cert.SumAttn1Ideal.nD Cert.SumAttn1Ideal.τ Cert.SumAttn1Ideal.sig) → Buf (Elt Ideal) ℓ) : Prop :=
  True

def Pre_SumAttn1RefIdeal (m : (ℓ : Loc Cert.SumAttn1RefIdeal.nD Cert.SumAttn1RefIdeal.τ Cert.SumAttn1RefIdeal.sig) → Buf (Elt Ideal) ℓ) : Prop :=
  True

def Pre_SumHgrn0 (m : (ℓ : Loc Cert.SumHgrn0.nD Cert.SumHgrn0.τ Cert.SumHgrn0.sig) → Buf (Elt Bits) ℓ) : Prop :=
  True

def Pre_SumHgrn0Ideal (m : (ℓ : Loc Cert.SumHgrn0Ideal.nD Cert.SumHgrn0Ideal.τ Cert.SumHgrn0Ideal.sig) → Buf (Elt Ideal) ℓ) : Prop :=
  True

def Pre_SumHgrn0RefIdeal (m : (ℓ : Loc Cert.SumHgrn0RefIdeal.nD Cert.SumHgrn0RefIdeal.τ Cert.SumHgrn0RefIdeal.sig) → Buf (Elt Ideal) ℓ) : Prop :=
  True

def Pre_SumHgrn1 (m : (ℓ : Loc Cert.SumHgrn1.nD Cert.SumHgrn1.τ Cert.SumHgrn1.sig) → Buf (Elt Bits) ℓ) : Prop :=
  True

def Pre_SumHgrn1Ideal (m : (ℓ : Loc Cert.SumHgrn1Ideal.nD Cert.SumHgrn1Ideal.τ Cert.SumHgrn1Ideal.sig) → Buf (Elt Ideal) ℓ) : Prop :=
  True

def Pre_SumHgrn1RefIdeal (m : (ℓ : Loc Cert.SumHgrn1RefIdeal.nD Cert.SumHgrn1RefIdeal.τ Cert.SumHgrn1RefIdeal.sig) → Buf (Elt Ideal) ℓ) : Prop :=
  True

def Pre_SumOut0 (m : (ℓ : Loc Cert.SumOut0.nD Cert.SumOut0.τ Cert.SumOut0.sig) → Buf (Elt Bits) ℓ) : Prop :=
  True

def Pre_SumOut0Ideal (m : (ℓ : Loc Cert.SumOut0Ideal.nD Cert.SumOut0Ideal.τ Cert.SumOut0Ideal.sig) → Buf (Elt Ideal) ℓ) : Prop :=
  True

def Pre_SumOut0RefIdeal (m : (ℓ : Loc Cert.SumOut0RefIdeal.nD Cert.SumOut0RefIdeal.τ Cert.SumOut0RefIdeal.sig) → Buf (Elt Ideal) ℓ) : Prop :=
  True

def Pre_SumOut1 (m : (ℓ : Loc Cert.SumOut1.nD Cert.SumOut1.τ Cert.SumOut1.sig) → Buf (Elt Bits) ℓ) : Prop :=
  True

def Pre_SumOut1Ideal (m : (ℓ : Loc Cert.SumOut1Ideal.nD Cert.SumOut1Ideal.τ Cert.SumOut1Ideal.sig) → Buf (Elt Ideal) ℓ) : Prop :=
  True

def Pre_SumOut1RefIdeal (m : (ℓ : Loc Cert.SumOut1RefIdeal.nD Cert.SumOut1RefIdeal.τ Cert.SumOut1RefIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastAttn (m : (ℓ : Loc Cert.CastAttn.nD Cert.CastAttn.τ Cert.CastAttn.sig) → Buf (Elt Bits) ℓ) : Prop :=
  True

def Pre_CastAttnIdeal (m : (ℓ : Loc Cert.CastAttnIdeal.nD Cert.CastAttnIdeal.τ Cert.CastAttnIdeal.sig) → Buf (Elt Ideal) ℓ) : Prop :=
  True

def Pre_CastAttnRefIdeal (m : (ℓ : Loc Cert.CastAttnRefIdeal.nD Cert.CastAttnRefIdeal.τ Cert.CastAttnRefIdeal.sig) → Buf (Elt Ideal) ℓ) : Prop :=
  True

def Pre_CastHgrn (m : (ℓ : Loc Cert.CastHgrn.nD Cert.CastHgrn.τ Cert.CastHgrn.sig) → Buf (Elt Bits) ℓ) : Prop :=
  True

def Pre_CastHgrnIdeal (m : (ℓ : Loc Cert.CastHgrnIdeal.nD Cert.CastHgrnIdeal.τ Cert.CastHgrnIdeal.sig) → Buf (Elt Ideal) ℓ) : Prop :=
  True

def Pre_CastHgrnRefIdeal (m : (ℓ : Loc Cert.CastHgrnRefIdeal.nD Cert.CastHgrnRefIdeal.τ Cert.CastHgrnRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def Pre_SibIn (m : (ℓ : Loc Cert.SibIn.nD Cert.SibIn.τ Cert.SibIn.sig) → Buf (Elt Bits) ℓ) : Prop :=
  True

def Pre_SibInIdeal (m : (ℓ : Loc Cert.SibInIdeal.nD Cert.SibInIdeal.τ Cert.SibInIdeal.sig) → Buf (Elt Ideal) ℓ) : Prop :=
  True

def Pre_SibInRefIdeal (m : (ℓ : Loc Cert.SibInRefIdeal.nD Cert.SibInRefIdeal.τ Cert.SibInRefIdeal.sig) → Buf (Elt Ideal) ℓ) : Prop :=
  True

def Pre_SibAttn (m : (ℓ : Loc Cert.SibAttn.nD Cert.SibAttn.τ Cert.SibAttn.sig) → Buf (Elt Bits) ℓ) : Prop :=
  True

def Pre_SibAttnIdeal (m : (ℓ : Loc Cert.SibAttnIdeal.nD Cert.SibAttnIdeal.τ Cert.SibAttnIdeal.sig) → Buf (Elt Ideal) ℓ) : Prop :=
  True

def Pre_SibAttnRefIdeal (m : (ℓ : Loc Cert.SibAttnRefIdeal.nD Cert.SibAttnRefIdeal.τ Cert.SibAttnRefIdeal.sig) → Buf (Elt Ideal) ℓ) : Prop :=
  True

def Pre_SibHgrn (m : (ℓ : Loc Cert.SibHgrn.nD Cert.SibHgrn.τ Cert.SibHgrn.sig) → Buf (Elt Bits) ℓ) : Prop :=
  True

def Pre_SibHgrnIdeal (m : (ℓ : Loc Cert.SibHgrnIdeal.nD Cert.SibHgrnIdeal.τ Cert.SibHgrnIdeal.sig) → Buf (Elt Ideal) ℓ) : Prop :=
  True

def Pre_SibHgrnRefIdeal (m : (ℓ : Loc Cert.SibHgrnRefIdeal.nD Cert.SibHgrnRefIdeal.τ Cert.SibHgrnRefIdeal.sig) → Buf (Elt Ideal) ℓ) : Prop :=
  True

def Pre_SibOut (m : (ℓ : Loc Cert.SibOut.nD Cert.SibOut.τ Cert.SibOut.sig) → Buf (Elt Bits) ℓ) : Prop :=
  True

def Pre_SibOutIdeal (m : (ℓ : Loc Cert.SibOutIdeal.nD Cert.SibOutIdeal.τ Cert.SibOutIdeal.sig) → Buf (Elt Ideal) ℓ) : Prop :=
  True

def Pre_SibOutRefIdeal (m : (ℓ : Loc Cert.SibOutRefIdeal.nD Cert.SibOutRefIdeal.τ Cert.SibOutRefIdeal.sig) → Buf (Elt Ideal) ℓ) : Prop :=
  True

def quiescent_WgradOwn [hWgradOwn : Cert.WgradOwn.Facts] : Prop :=
  ∀ (m : (ℓ : Loc Cert.WgradOwn.nD Cert.WgradOwn.τ Cert.WgradOwn.sig) → Buf (Elt Bits) ℓ) (g : Dev Cert.WgradOwn.nD → PrngReg), Pre_WgradOwn m →
    θ_run (Cert.WgradOwn.defs (F := Bits)) (onTc (τ := Cert.WgradOwn.τ) (Cert.WgradOwn.main (F := Bits))) ⟨m, fun _ => 0, g⟩ (fun r => (∀ c : Dev Cert.WgradOwn.nD,
      r.2.mem ((c.tc : Thread Cert.WgradOwn.nD Cert.WgradOwn.τ).loc Cert.WgradOwn.main_arg0) = m ((c.tc : Thread Cert.WgradOwn.nD Cert.WgradOwn.τ).loc Cert.WgradOwn.main_arg0)
      ∧ r.2.mem ((c.tc : Thread Cert.WgradOwn.nD Cert.WgradOwn.τ).loc Cert.WgradOwn.main_arg1) = m ((c.tc : Thread Cert.WgradOwn.nD Cert.WgradOwn.τ).loc Cert.WgradOwn.main_arg1)
      ∧ r.2.mem ((c.tc : Thread Cert.WgradOwn.nD Cert.WgradOwn.τ).loc Cert.WgradOwn.main_arg2) = m ((c.tc : Thread Cert.WgradOwn.nD Cert.WgradOwn.τ).loc Cert.WgradOwn.main_arg2))
      ∧ r.2.sem = fun _ => 0)

def quiescent_WgradOwnIdeal [hWgradOwnIdeal : Cert.WgradOwnIdeal.Facts] : Prop :=
  ∀ (m : (ℓ : Loc Cert.WgradOwnIdeal.nD Cert.WgradOwnIdeal.τ Cert.WgradOwnIdeal.sig) → Buf (Elt Ideal) ℓ) (g : Dev Cert.WgradOwnIdeal.nD → PrngReg), Pre_WgradOwnIdeal m →
    θ_run (Cert.WgradOwnIdeal.defs (F := Ideal)) (onTc (τ := Cert.WgradOwnIdeal.τ) (Cert.WgradOwnIdeal.main (F := Ideal))) ⟨m, fun _ => 0, g⟩ (fun r => (∀ c : Dev Cert.WgradOwnIdeal.nD,
      r.2.mem ((c.tc : Thread Cert.WgradOwnIdeal.nD Cert.WgradOwnIdeal.τ).loc Cert.WgradOwnIdeal.main_arg0) = m ((c.tc : Thread Cert.WgradOwnIdeal.nD Cert.WgradOwnIdeal.τ).loc Cert.WgradOwnIdeal.main_arg0)
      ∧ r.2.mem ((c.tc : Thread Cert.WgradOwnIdeal.nD Cert.WgradOwnIdeal.τ).loc Cert.WgradOwnIdeal.main_arg1) = m ((c.tc : Thread Cert.WgradOwnIdeal.nD Cert.WgradOwnIdeal.τ).loc Cert.WgradOwnIdeal.main_arg1)
      ∧ r.2.mem ((c.tc : Thread Cert.WgradOwnIdeal.nD Cert.WgradOwnIdeal.τ).loc Cert.WgradOwnIdeal.main_arg2) = m ((c.tc : Thread Cert.WgradOwnIdeal.nD Cert.WgradOwnIdeal.τ).loc Cert.WgradOwnIdeal.main_arg2))
      ∧ r.2.sem = fun _ => 0)

def quiescent_WgradOwnRefIdeal [hWgradOwnRefIdeal : Cert.WgradOwnRefIdeal.Facts] : Prop :=
  ∀ (m : (ℓ : Loc Cert.WgradOwnRefIdeal.nD Cert.WgradOwnRefIdeal.τ Cert.WgradOwnRefIdeal.sig) → Buf (Elt Ideal) ℓ) (g : Dev Cert.WgradOwnRefIdeal.nD → PrngReg), Pre_WgradOwnRefIdeal m →
    θ_run (Cert.WgradOwnRefIdeal.defs (F := Ideal)) (onTc (τ := Cert.WgradOwnRefIdeal.τ) (Cert.WgradOwnRefIdeal.main (F := Ideal))) ⟨m, fun _ => 0, g⟩ (fun r => (∀ c : Dev Cert.WgradOwnRefIdeal.nD,
      r.2.mem ((c.tc : Thread Cert.WgradOwnRefIdeal.nD Cert.WgradOwnRefIdeal.τ).loc Cert.WgradOwnRefIdeal.main_arg0) = m ((c.tc : Thread Cert.WgradOwnRefIdeal.nD Cert.WgradOwnRefIdeal.τ).loc Cert.WgradOwnRefIdeal.main_arg0)
      ∧ r.2.mem ((c.tc : Thread Cert.WgradOwnRefIdeal.nD Cert.WgradOwnRefIdeal.τ).loc Cert.WgradOwnRefIdeal.main_arg1) = m ((c.tc : Thread Cert.WgradOwnRefIdeal.nD Cert.WgradOwnRefIdeal.τ).loc Cert.WgradOwnRefIdeal.main_arg1)
      ∧ r.2.mem ((c.tc : Thread Cert.WgradOwnRefIdeal.nD Cert.WgradOwnRefIdeal.τ).loc Cert.WgradOwnRefIdeal.main_arg2) = m ((c.tc : Thread Cert.WgradOwnRefIdeal.nD Cert.WgradOwnRefIdeal.τ).loc Cert.WgradOwnRefIdeal.main_arg2))
      ∧ r.2.sem = fun _ => 0)

def quiescent_WgradSibling [hWgradSibling : Cert.WgradSibling.Facts] : Prop :=
  ∀ (m : (ℓ : Loc Cert.WgradSibling.nD Cert.WgradSibling.τ Cert.WgradSibling.sig) → Buf (Elt Bits) ℓ) (g : Dev Cert.WgradSibling.nD → PrngReg), Pre_WgradSibling m →
    θ_run (Cert.WgradSibling.defs (F := Bits)) (onTc (τ := Cert.WgradSibling.τ) (Cert.WgradSibling.main (F := Bits))) ⟨m, fun _ => 0, g⟩ (fun r => (∀ c : Dev Cert.WgradSibling.nD,
      r.2.mem ((c.tc : Thread Cert.WgradSibling.nD Cert.WgradSibling.τ).loc Cert.WgradSibling.main_arg0) = m ((c.tc : Thread Cert.WgradSibling.nD Cert.WgradSibling.τ).loc Cert.WgradSibling.main_arg0)
      ∧ r.2.mem ((c.tc : Thread Cert.WgradSibling.nD Cert.WgradSibling.τ).loc Cert.WgradSibling.main_arg1) = m ((c.tc : Thread Cert.WgradSibling.nD Cert.WgradSibling.τ).loc Cert.WgradSibling.main_arg1))
      ∧ r.2.sem = fun _ => 0)

def quiescent_WgradSiblingIdeal [hWgradSiblingIdeal : Cert.WgradSiblingIdeal.Facts] : Prop :=
  ∀ (m : (ℓ : Loc Cert.WgradSiblingIdeal.nD Cert.WgradSiblingIdeal.τ Cert.WgradSiblingIdeal.sig) → Buf (Elt Ideal) ℓ) (g : Dev Cert.WgradSiblingIdeal.nD → PrngReg), Pre_WgradSiblingIdeal m →
    θ_run (Cert.WgradSiblingIdeal.defs (F := Ideal)) (onTc (τ := Cert.WgradSiblingIdeal.τ) (Cert.WgradSiblingIdeal.main (F := Ideal))) ⟨m, fun _ => 0, g⟩ (fun r => (∀ c : Dev Cert.WgradSiblingIdeal.nD,
      r.2.mem ((c.tc : Thread Cert.WgradSiblingIdeal.nD Cert.WgradSiblingIdeal.τ).loc Cert.WgradSiblingIdeal.main_arg0) = m ((c.tc : Thread Cert.WgradSiblingIdeal.nD Cert.WgradSiblingIdeal.τ).loc Cert.WgradSiblingIdeal.main_arg0)
      ∧ r.2.mem ((c.tc : Thread Cert.WgradSiblingIdeal.nD Cert.WgradSiblingIdeal.τ).loc Cert.WgradSiblingIdeal.main_arg1) = m ((c.tc : Thread Cert.WgradSiblingIdeal.nD Cert.WgradSiblingIdeal.τ).loc Cert.WgradSiblingIdeal.main_arg1))
      ∧ r.2.sem = fun _ => 0)

def quiescent_WgradSiblingRefIdeal [hWgradSiblingRefIdeal : Cert.WgradSiblingRefIdeal.Facts] : Prop :=
  ∀ (m : (ℓ : Loc Cert.WgradSiblingRefIdeal.nD Cert.WgradSiblingRefIdeal.τ Cert.WgradSiblingRefIdeal.sig) → Buf (Elt Ideal) ℓ) (g : Dev Cert.WgradSiblingRefIdeal.nD → PrngReg), Pre_WgradSiblingRefIdeal m →
    θ_run (Cert.WgradSiblingRefIdeal.defs (F := Ideal)) (onTc (τ := Cert.WgradSiblingRefIdeal.τ) (Cert.WgradSiblingRefIdeal.main (F := Ideal))) ⟨m, fun _ => 0, g⟩ (fun r => (∀ c : Dev Cert.WgradSiblingRefIdeal.nD,
      r.2.mem ((c.tc : Thread Cert.WgradSiblingRefIdeal.nD Cert.WgradSiblingRefIdeal.τ).loc Cert.WgradSiblingRefIdeal.main_arg0) = m ((c.tc : Thread Cert.WgradSiblingRefIdeal.nD Cert.WgradSiblingRefIdeal.τ).loc Cert.WgradSiblingRefIdeal.main_arg0)
      ∧ r.2.mem ((c.tc : Thread Cert.WgradSiblingRefIdeal.nD Cert.WgradSiblingRefIdeal.τ).loc Cert.WgradSiblingRefIdeal.main_arg1) = m ((c.tc : Thread Cert.WgradSiblingRefIdeal.nD Cert.WgradSiblingRefIdeal.τ).loc Cert.WgradSiblingRefIdeal.main_arg1))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ r.2.sem = fun _ => 0)

def quiescent_InDgradRefIdeal [hInDgradRefIdeal : Cert.InDgradRefIdeal.Facts] : Prop :=
  ∀ (m : (ℓ : Loc Cert.InDgradRefIdeal.nD Cert.InDgradRefIdeal.τ Cert.InDgradRefIdeal.sig) → Buf (Elt Ideal) ℓ) (g : Dev Cert.InDgradRefIdeal.nD → PrngReg), Pre_InDgradRefIdeal m →
    θ_run (Cert.InDgradRefIdeal.defs (F := Ideal)) (onTc (τ := Cert.InDgradRefIdeal.τ) (Cert.InDgradRefIdeal.main (F := Ideal))) ⟨m, fun _ => 0, g⟩ (fun r => (∀ c : Dev Cert.InDgradRefIdeal.nD,
      r.2.mem ((c.tc : Thread Cert.InDgradRefIdeal.nD Cert.InDgradRefIdeal.τ).loc Cert.InDgradRefIdeal.main_arg0) = m ((c.tc : Thread Cert.InDgradRefIdeal.nD Cert.InDgradRefIdeal.τ).loc Cert.InDgradRefIdeal.main_arg0)
      ∧ r.2.mem ((c.tc : Thread Cert.InDgradRefIdeal.nD Cert.InDgradRefIdeal.τ).loc Cert.InDgradRefIdeal.main_arg1) = m ((c.tc : Thread Cert.InDgradRefIdeal.nD Cert.InDgradRefIdeal.τ).loc Cert.InDgradRefIdeal.main_arg1)
      ∧ r.2.mem ((c.tc : Thread Cert.InDgradRefIdeal.nD Cert.InDgradRefIdeal.τ).loc Cert.InDgradRefIdeal.main_arg2) = m ((c.tc : Thread Cert.InDgradRefIdeal.nD Cert.InDgradRefIdeal.τ).loc Cert.InDgradRefIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_AttnWgrad [hAttnWgrad : Cert.AttnWgrad.Facts] : Prop :=
  ∀ (m : (ℓ : Loc Cert.AttnWgrad.nD Cert.AttnWgrad.τ Cert.AttnWgrad.sig) → Buf (Elt Bits) ℓ) (g : Dev Cert.AttnWgrad.nD → PrngReg), Pre_AttnWgrad m →
    θ_run (Cert.AttnWgrad.defs (F := Bits)) (onTc (τ := Cert.AttnWgrad.τ) (Cert.AttnWgrad.main (F := Bits))) ⟨m, fun _ => 0, g⟩ (fun r => (∀ c : Dev Cert.AttnWgrad.nD,
      r.2.mem ((c.tc : Thread Cert.AttnWgrad.nD Cert.AttnWgrad.τ).loc Cert.AttnWgrad.main_arg0) = m ((c.tc : Thread Cert.AttnWgrad.nD Cert.AttnWgrad.τ).loc Cert.AttnWgrad.main_arg0)
      ∧ r.2.mem ((c.tc : Thread Cert.AttnWgrad.nD Cert.AttnWgrad.τ).loc Cert.AttnWgrad.main_arg1) = m ((c.tc : Thread Cert.AttnWgrad.nD Cert.AttnWgrad.τ).loc Cert.AttnWgrad.main_arg1))
      ∧ r.2.sem = fun _ => 0)

def quiescent_AttnWgradIdeal [hAttnWgradIdeal : Cert.AttnWgradIdeal.Facts] : Prop :=
  ∀ (m : (ℓ : Loc Cert.AttnWgradIdeal.nD Cert.AttnWgradIdeal.τ Cert.AttnWgradIdeal.sig) → Buf (Elt Ideal) ℓ) (g : Dev Cert.AttnWgradIdeal.nD → PrngReg), Pre_AttnWgradIdeal m →
    θ_run (Cert.AttnWgradIdeal.defs (F := Ideal)) (onTc (τ := Cert.AttnWgradIdeal.τ) (Cert.AttnWgradIdeal.main (F := Ideal))) ⟨m, fun _ => 0, g⟩ (fun r => (∀ c : Dev Cert.AttnWgradIdeal.nD,
      r.2.mem ((c.tc : Thread Cert.AttnWgradIdeal.nD Cert.AttnWgradIdeal.τ).loc Cert.AttnWgradIdeal.main_arg0) = m ((c.tc : Thread Cert.AttnWgradIdeal.nD Cert.AttnWgradIdeal.τ).loc Cert.AttnWgradIdeal.main_arg0)
      ∧ r.2.mem ((c.tc : Thread Cert.AttnWgradIdeal.nD Cert.AttnWgradIdeal.τ).loc Cert.AttnWgradIdeal.main_arg1) = m ((c.tc : Thread Cert.AttnWgradIdeal.nD Cert.AttnWgradIdeal.τ).loc Cert.AttnWgradIdeal.main_arg1))
      ∧ r.2.sem = fun _ => 0)

def quiescent_AttnWgradRefIdeal [hAttnWgradRefIdeal : Cert.AttnWgradRefIdeal.Facts] : Prop :=
  ∀ (m : (ℓ : Loc Cert.AttnWgradRefIdeal.nD Cert.AttnWgradRefIdeal.τ Cert.AttnWgradRefIdeal.sig) → Buf (Elt Ideal) ℓ) (g : Dev Cert.AttnWgradRefIdeal.nD → PrngReg), Pre_AttnWgradRefIdeal m →
    θ_run (Cert.AttnWgradRefIdeal.defs (F := Ideal)) (onTc (τ := Cert.AttnWgradRefIdeal.τ) (Cert.AttnWgradRefIdeal.main (F := Ideal))) ⟨m, fun _ => 0, g⟩ (fun r => (∀ c : Dev Cert.AttnWgradRefIdeal.nD,
      r.2.mem ((c.tc : Thread Cert.AttnWgradRefIdeal.nD Cert.AttnWgradRefIdeal.τ).loc Cert.AttnWgradRefIdeal.main_arg0) = m ((c.tc : Thread Cert.AttnWgradRefIdeal.nD Cert.AttnWgradRefIdeal.τ).loc Cert.AttnWgradRefIdeal.main_arg0)
      ∧ r.2.mem ((c.tc : Thread Cert.AttnWgradRefIdeal.nD Cert.AttnWgradRefIdeal.τ).loc Cert.AttnWgradRefIdeal.main_arg1) = m ((c.tc : Thread Cert.AttnWgradRefIdeal.nD Cert.AttnWgradRefIdeal.τ).loc Cert.AttnWgradRefIdeal.main_arg1))
      ∧ r.2.sem = fun _ => 0)

def quiescent_HgrnWgrad [hHgrnWgrad : Cert.HgrnWgrad.Facts] : Prop :=
  ∀ (m : (ℓ : Loc Cert.HgrnWgrad.nD Cert.HgrnWgrad.τ Cert.HgrnWgrad.sig) → Buf (Elt Bits) ℓ) (g : Dev Cert.HgrnWgrad.nD → PrngReg), Pre_HgrnWgrad m →
    θ_run (Cert.HgrnWgrad.defs (F := Bits)) (onTc (τ := Cert.HgrnWgrad.τ) (Cert.HgrnWgrad.main (F := Bits))) ⟨m, fun _ => 0, g⟩ (fun r => (∀ c : Dev Cert.HgrnWgrad.nD,
      r.2.mem ((c.tc : Thread Cert.HgrnWgrad.nD Cert.HgrnWgrad.τ).loc Cert.HgrnWgrad.main_arg0) = m ((c.tc : Thread Cert.HgrnWgrad.nD Cert.HgrnWgrad.τ).loc Cert.HgrnWgrad.main_arg0)
      ∧ r.2.mem ((c.tc : Thread Cert.HgrnWgrad.nD Cert.HgrnWgrad.τ).loc Cert.HgrnWgrad.main_arg1) = m ((c.tc : Thread Cert.HgrnWgrad.nD Cert.HgrnWgrad.τ).loc Cert.HgrnWgrad.main_arg1))
      ∧ r.2.sem = fun _ => 0)

def quiescent_HgrnWgradIdeal [hHgrnWgradIdeal : Cert.HgrnWgradIdeal.Facts] : Prop :=
  ∀ (m : (ℓ : Loc Cert.HgrnWgradIdeal.nD Cert.HgrnWgradIdeal.τ Cert.HgrnWgradIdeal.sig) → Buf (Elt Ideal) ℓ) (g : Dev Cert.HgrnWgradIdeal.nD → PrngReg), Pre_HgrnWgradIdeal m →
    θ_run (Cert.HgrnWgradIdeal.defs (F := Ideal)) (onTc (τ := Cert.HgrnWgradIdeal.τ) (Cert.HgrnWgradIdeal.main (F := Ideal))) ⟨m, fun _ => 0, g⟩ (fun r => (∀ c : Dev Cert.HgrnWgradIdeal.nD,
      r.2.mem ((c.tc : Thread Cert.HgrnWgradIdeal.nD Cert.HgrnWgradIdeal.τ).loc Cert.HgrnWgradIdeal.main_arg0) = m ((c.tc : Thread Cert.HgrnWgradIdeal.nD Cert.HgrnWgradIdeal.τ).loc Cert.HgrnWgradIdeal.main_arg0)
      ∧ r.2.mem ((c.tc : Thread Cert.HgrnWgradIdeal.nD Cert.HgrnWgradIdeal.τ).loc Cert.HgrnWgradIdeal.main_arg1) = m ((c.tc : Thread Cert.HgrnWgradIdeal.nD Cert.HgrnWgradIdeal.τ).loc Cert.HgrnWgradIdeal.main_arg1))
      ∧ r.2.sem = fun _ => 0)

def quiescent_HgrnWgradRefIdeal [hHgrnWgradRefIdeal : Cert.HgrnWgradRefIdeal.Facts] : Prop :=
  ∀ (m : (ℓ : Loc Cert.HgrnWgradRefIdeal.nD Cert.HgrnWgradRefIdeal.τ Cert.HgrnWgradRefIdeal.sig) → Buf (Elt Ideal) ℓ) (g : Dev Cert.HgrnWgradRefIdeal.nD → PrngReg), Pre_HgrnWgradRefIdeal m →
    θ_run (Cert.HgrnWgradRefIdeal.defs (F := Ideal)) (onTc (τ := Cert.HgrnWgradRefIdeal.τ) (Cert.HgrnWgradRefIdeal.main (F := Ideal))) ⟨m, fun _ => 0, g⟩ (fun r => (∀ c : Dev Cert.HgrnWgradRefIdeal.nD,
      r.2.mem ((c.tc : Thread Cert.HgrnWgradRefIdeal.nD Cert.HgrnWgradRefIdeal.τ).loc Cert.HgrnWgradRefIdeal.main_arg0) = m ((c.tc : Thread Cert.HgrnWgradRefIdeal.nD Cert.HgrnWgradRefIdeal.τ).loc Cert.HgrnWgradRefIdeal.main_arg0)
      ∧ r.2.mem ((c.tc : Thread Cert.HgrnWgradRefIdeal.nD Cert.HgrnWgradRefIdeal.τ).loc Cert.HgrnWgradRefIdeal.main_arg1) = m ((c.tc : Thread Cert.HgrnWgradRefIdeal.nD Cert.HgrnWgradRefIdeal.τ).loc Cert.HgrnWgradRefIdeal.main_arg1))
      ∧ r.2.sem = fun _ => 0)

def quiescent_AttnDgrad [hAttnDgrad : Cert.AttnDgrad.Facts] : Prop :=
  ∀ (m : (ℓ : Loc Cert.AttnDgrad.nD Cert.AttnDgrad.τ Cert.AttnDgrad.sig) → Buf (Elt Bits) ℓ) (g : Dev Cert.AttnDgrad.nD → PrngReg), Pre_AttnDgrad m →
    θ_run (Cert.AttnDgrad.defs (F := Bits)) (onTc (τ := Cert.AttnDgrad.τ) (Cert.AttnDgrad.main (F := Bits))) ⟨m, fun _ => 0, g⟩ (fun r => (∀ c : Dev Cert.AttnDgrad.nD,
      r.2.mem ((c.tc : Thread Cert.AttnDgrad.nD Cert.AttnDgrad.τ).loc Cert.AttnDgrad.main_arg0) = m ((c.tc : Thread Cert.AttnDgrad.nD Cert.AttnDgrad.τ).loc Cert.AttnDgrad.main_arg0)
      ∧ r.2.mem ((c.tc : Thread Cert.AttnDgrad.nD Cert.AttnDgrad.τ).loc Cert.AttnDgrad.main_arg1) = m ((c.tc : Thread Cert.AttnDgrad.nD Cert.AttnDgrad.τ).loc Cert.AttnDgrad.main_arg1)
      ∧ r.2.mem ((c.tc : Thread Cert.AttnDgrad.nD Cert.AttnDgrad.τ).loc Cert.AttnDgrad.main_arg2) = m ((c.tc : Thread Cert.AttnDgrad.nD Cert.AttnDgrad.τ).loc Cert.AttnDgrad.main_arg2))
      ∧ r.2.sem = fun _ => 0)

def quiescent_AttnDgradIdeal [hAttnDgradIdeal : Cert.AttnDgradIdeal.Facts] : Prop :=
  ∀ (m : (ℓ : Loc Cert.AttnDgradIdeal.nD Cert.AttnDgradIdeal.τ Cert.AttnDgradIdeal.sig) → Buf (Elt Ideal) ℓ) (g : Dev Cert.AttnDgradIdeal.nD → PrngReg), Pre_AttnDgradIdeal m →
    θ_run (Cert.AttnDgradIdeal.defs (F := Ideal)) (onTc (τ := Cert.AttnDgradIdeal.τ) (Cert.AttnDgradIdeal.main (F := Ideal))) ⟨m, fun _ => 0, g⟩ (fun r => (∀ c : Dev Cert.AttnDgradIdeal.nD,
      r.2.mem ((c.tc : Thread Cert.AttnDgradIdeal.nD Cert.AttnDgradIdeal.τ).loc Cert.AttnDgradIdeal.main_arg0) = m ((c.tc : Thread Cert.AttnDgradIdeal.nD Cert.AttnDgradIdeal.τ).loc Cert.AttnDgradIdeal.main_arg0)
      ∧ r.2.mem ((c.tc : Thread Cert.AttnDgradIdeal.nD Cert.AttnDgradIdeal.τ).loc Cert.AttnDgradIdeal.main_arg1) = m ((c.tc : Thread Cert.AttnDgradIdeal.nD Cert.AttnDgradIdeal.τ).loc Cert.AttnDgradIdeal.main_arg1)
      ∧ r.2.mem ((c.tc : Thread Cert.AttnDgradIdeal.nD Cert.AttnDgradIdeal.τ).loc Cert.AttnDgradIdeal.main_arg2) = m ((c.tc : Thread Cert.AttnDgradIdeal.nD Cert.AttnDgradIdeal.τ).loc Cert.AttnDgradIdeal.main_arg2))
      ∧ r.2.sem = fun _ => 0)

def quiescent_AttnDgradRefIdeal [hAttnDgradRefIdeal : Cert.AttnDgradRefIdeal.Facts] : Prop :=
  ∀ (m : (ℓ : Loc Cert.AttnDgradRefIdeal.nD Cert.AttnDgradRefIdeal.τ Cert.AttnDgradRefIdeal.sig) → Buf (Elt Ideal) ℓ) (g : Dev Cert.AttnDgradRefIdeal.nD → PrngReg), Pre_AttnDgradRefIdeal m →
    θ_run (Cert.AttnDgradRefIdeal.defs (F := Ideal)) (onTc (τ := Cert.AttnDgradRefIdeal.τ) (Cert.AttnDgradRefIdeal.main (F := Ideal))) ⟨m, fun _ => 0, g⟩ (fun r => (∀ c : Dev Cert.AttnDgradRefIdeal.nD,
      r.2.mem ((c.tc : Thread Cert.AttnDgradRefIdeal.nD Cert.AttnDgradRefIdeal.τ).loc Cert.AttnDgradRefIdeal.main_arg0) = m ((c.tc : Thread Cert.AttnDgradRefIdeal.nD Cert.AttnDgradRefIdeal.τ).loc Cert.AttnDgradRefIdeal.main_arg0)
      ∧ r.2.mem ((c.tc : Thread Cert.AttnDgradRefIdeal.nD Cert.AttnDgradRefIdeal.τ).loc Cert.AttnDgradRefIdeal.main_arg1) = m ((c.tc : Thread Cert.AttnDgradRefIdeal.nD Cert.AttnDgradRefIdeal.τ).loc Cert.AttnDgradRefIdeal.main_arg1)
      ∧ r.2.mem ((c.tc : Thread Cert.AttnDgradRefIdeal.nD Cert.AttnDgradRefIdeal.τ).loc Cert.AttnDgradRefIdeal.main_arg2) = m ((c.tc : Thread Cert.AttnDgradRefIdeal.nD Cert.AttnDgradRefIdeal.τ).loc Cert.AttnDgradRefIdeal.main_arg2))
      ∧ r.2.sem = fun _ => 0)

def quiescent_HgrnDgrad [hHgrnDgrad : Cert.HgrnDgrad.Facts] : Prop :=
  ∀ (m : (ℓ : Loc Cert.HgrnDgrad.nD Cert.HgrnDgrad.τ Cert.HgrnDgrad.sig) → Buf (Elt Bits) ℓ) (g : Dev Cert.HgrnDgrad.nD → PrngReg), Pre_HgrnDgrad m →
    θ_run (Cert.HgrnDgrad.defs (F := Bits)) (onTc (τ := Cert.HgrnDgrad.τ) (Cert.HgrnDgrad.main (F := Bits))) ⟨m, fun _ => 0, g⟩ (fun r => (∀ c : Dev Cert.HgrnDgrad.nD,
      r.2.mem ((c.tc : Thread Cert.HgrnDgrad.nD Cert.HgrnDgrad.τ).loc Cert.HgrnDgrad.main_arg0) = m ((c.tc : Thread Cert.HgrnDgrad.nD Cert.HgrnDgrad.τ).loc Cert.HgrnDgrad.main_arg0)
      ∧ r.2.mem ((c.tc : Thread Cert.HgrnDgrad.nD Cert.HgrnDgrad.τ).loc Cert.HgrnDgrad.main_arg1) = m ((c.tc : Thread Cert.HgrnDgrad.nD Cert.HgrnDgrad.τ).loc Cert.HgrnDgrad.main_arg1)
      ∧ r.2.mem ((c.tc : Thread Cert.HgrnDgrad.nD Cert.HgrnDgrad.τ).loc Cert.HgrnDgrad.main_arg2) = m ((c.tc : Thread Cert.HgrnDgrad.nD Cert.HgrnDgrad.τ).loc Cert.HgrnDgrad.main_arg2))
      ∧ r.2.sem = fun _ => 0)

def quiescent_HgrnDgradIdeal [hHgrnDgradIdeal : Cert.HgrnDgradIdeal.Facts] : Prop :=
  ∀ (m : (ℓ : Loc Cert.HgrnDgradIdeal.nD Cert.HgrnDgradIdeal.τ Cert.HgrnDgradIdeal.sig) → Buf (Elt Ideal) ℓ) (g : Dev Cert.HgrnDgradIdeal.nD → PrngReg), Pre_HgrnDgradIdeal m →
    θ_run (Cert.HgrnDgradIdeal.defs (F := Ideal)) (onTc (τ := Cert.HgrnDgradIdeal.τ) (Cert.HgrnDgradIdeal.main (F := Ideal))) ⟨m, fun _ => 0, g⟩ (fun r => (∀ c : Dev Cert.HgrnDgradIdeal.nD,
      r.2.mem ((c.tc : Thread Cert.HgrnDgradIdeal.nD Cert.HgrnDgradIdeal.τ).loc Cert.HgrnDgradIdeal.main_arg0) = m ((c.tc : Thread Cert.HgrnDgradIdeal.nD Cert.HgrnDgradIdeal.τ).loc Cert.HgrnDgradIdeal.main_arg0)
      ∧ r.2.mem ((c.tc : Thread Cert.HgrnDgradIdeal.nD Cert.HgrnDgradIdeal.τ).loc Cert.HgrnDgradIdeal.main_arg1) = m ((c.tc : Thread Cert.HgrnDgradIdeal.nD Cert.HgrnDgradIdeal.τ).loc Cert.HgrnDgradIdeal.main_arg1)
      ∧ r.2.mem ((c.tc : Thread Cert.HgrnDgradIdeal.nD Cert.HgrnDgradIdeal.τ).loc Cert.HgrnDgradIdeal.main_arg2) = m ((c.tc : Thread Cert.HgrnDgradIdeal.nD Cert.HgrnDgradIdeal.τ).loc Cert.HgrnDgradIdeal.main_arg2))
      ∧ r.2.sem = fun _ => 0)

def quiescent_HgrnDgradRefIdeal [hHgrnDgradRefIdeal : Cert.HgrnDgradRefIdeal.Facts] : Prop :=
  ∀ (m : (ℓ : Loc Cert.HgrnDgradRefIdeal.nD Cert.HgrnDgradRefIdeal.τ Cert.HgrnDgradRefIdeal.sig) → Buf (Elt Ideal) ℓ) (g : Dev Cert.HgrnDgradRefIdeal.nD → PrngReg), Pre_HgrnDgradRefIdeal m →
    θ_run (Cert.HgrnDgradRefIdeal.defs (F := Ideal)) (onTc (τ := Cert.HgrnDgradRefIdeal.τ) (Cert.HgrnDgradRefIdeal.main (F := Ideal))) ⟨m, fun _ => 0, g⟩ (fun r => (∀ c : Dev Cert.HgrnDgradRefIdeal.nD,
      r.2.mem ((c.tc : Thread Cert.HgrnDgradRefIdeal.nD Cert.HgrnDgradRefIdeal.τ).loc Cert.HgrnDgradRefIdeal.main_arg0) = m ((c.tc : Thread Cert.HgrnDgradRefIdeal.nD Cert.HgrnDgradRefIdeal.τ).loc Cert.HgrnDgradRefIdeal.main_arg0)
      ∧ r.2.mem ((c.tc : Thread Cert.HgrnDgradRefIdeal.nD Cert.HgrnDgradRefIdeal.τ).loc Cert.HgrnDgradRefIdeal.main_arg1) = m ((c.tc : Thread Cert.HgrnDgradRefIdeal.nD Cert.HgrnDgradRefIdeal.τ).loc Cert.HgrnDgradRefIdeal.main_arg1)
      ∧ r.2.mem ((c.tc : Thread Cert.HgrnDgradRefIdeal.nD Cert.HgrnDgradRefIdeal.τ).loc Cert.HgrnDgradRefIdeal.main_arg2) = m ((c.tc : Thread Cert.HgrnDgradRefIdeal.nD Cert.HgrnDgradRefIdeal.τ).loc Cert.HgrnDgradRefIdeal.main_arg2))
      ∧ r.2.sem = fun _ => 0)

def quiescent_InProjOwn [hInProjOwn : Cert.InProjOwn.Facts] : Prop :=
  ∀ (m : (ℓ : Loc Cert.InProjOwn.nD Cert.InProjOwn.τ Cert.InProjOwn.sig) → Buf (Elt Bits) ℓ) (g : Dev Cert.InProjOwn.nD → PrngReg), Pre_InProjOwn m →
    θ_run (Cert.InProjOwn.defs (F := Bits)) (onTc (τ := Cert.InProjOwn.τ) (Cert.InProjOwn.main (F := Bits))) ⟨m, fun _ => 0, g⟩ (fun r => (∀ c : Dev Cert.InProjOwn.nD,
      r.2.mem ((c.tc : Thread Cert.InProjOwn.nD Cert.InProjOwn.τ).loc Cert.InProjOwn.main_arg0) = m ((c.tc : Thread Cert.InProjOwn.nD Cert.InProjOwn.τ).loc Cert.InProjOwn.main_arg0)
      ∧ r.2.mem ((c.tc : Thread Cert.InProjOwn.nD Cert.InProjOwn.τ).loc Cert.InProjOwn.main_arg1) = m ((c.tc : Thread Cert.InProjOwn.nD Cert.InProjOwn.τ).loc Cert.InProjOwn.main_arg1)
      ∧ r.2.mem ((c.tc : Thread Cert.InProjOwn.nD Cert.InProjOwn.τ).loc Cert.InProjOwn.main_arg2) = m ((c.tc : Thread Cert.InProjOwn.nD Cert.InProjOwn.τ).loc Cert.InProjOwn.main_arg2))
      ∧ r.2.sem = fun _ => 0)

def quiescent_InProjOwnIdeal [hInProjOwnIdeal : Cert.InProjOwnIdeal.Facts] : Prop :=
  ∀ (m : (ℓ : Loc Cert.InProjOwnIdeal.nD Cert.InProjOwnIdeal.τ Cert.InProjOwnIdeal.sig) → Buf (Elt Ideal) ℓ) (g : Dev Cert.InProjOwnIdeal.nD → PrngReg), Pre_InProjOwnIdeal m →
    θ_run (Cert.InProjOwnIdeal.defs (F := Ideal)) (onTc (τ := Cert.InProjOwnIdeal.τ) (Cert.InProjOwnIdeal.main (F := Ideal))) ⟨m, fun _ => 0, g⟩ (fun r => (∀ c : Dev Cert.InProjOwnIdeal.nD,
      r.2.mem ((c.tc : Thread Cert.InProjOwnIdeal.nD Cert.InProjOwnIdeal.τ).loc Cert.InProjOwnIdeal.main_arg0) = m ((c.tc : Thread Cert.InProjOwnIdeal.nD Cert.InProjOwnIdeal.τ).loc Cert.InProjOwnIdeal.main_arg0)
      ∧ r.2.mem ((c.tc : Thread Cert.InProjOwnIdeal.nD Cert.InProjOwnIdeal.τ).loc Cert.InProjOwnIdeal.main_arg1) = m ((c.tc : Thread Cert.InProjOwnIdeal.nD Cert.InProjOwnIdeal.τ).loc Cert.InProjOwnIdeal.main_arg1)
      ∧ r.2.mem ((c.tc : Thread Cert.InProjOwnIdeal.nD Cert.InProjOwnIdeal.τ).loc Cert.InProjOwnIdeal.main_arg2) = m ((c.tc : Thread Cert.InProjOwnIdeal.nD Cert.InProjOwnIdeal.τ).loc Cert.InProjOwnIdeal.main_arg2))
      ∧ r.2.sem = fun _ => 0)

def quiescent_InProjOwnRefIdeal [hInProjOwnRefIdeal : Cert.InProjOwnRefIdeal.Facts] : Prop :=
  ∀ (m : (ℓ : Loc Cert.InProjOwnRefIdeal.nD Cert.InProjOwnRefIdeal.τ Cert.InProjOwnRefIdeal.sig) → Buf (Elt Ideal) ℓ) (g : Dev Cert.InProjOwnRefIdeal.nD → PrngReg), Pre_InProjOwnRefIdeal m →
    θ_run (Cert.InProjOwnRefIdeal.defs (F := Ideal)) (onTc (τ := Cert.InProjOwnRefIdeal.τ) (Cert.InProjOwnRefIdeal.main (F := Ideal))) ⟨m, fun _ => 0, g⟩ (fun r => (∀ c : Dev Cert.InProjOwnRefIdeal.nD,
      r.2.mem ((c.tc : Thread Cert.InProjOwnRefIdeal.nD Cert.InProjOwnRefIdeal.τ).loc Cert.InProjOwnRefIdeal.main_arg0) = m ((c.tc : Thread Cert.InProjOwnRefIdeal.nD Cert.InProjOwnRefIdeal.τ).loc Cert.InProjOwnRefIdeal.main_arg0)
      ∧ r.2.mem ((c.tc : Thread Cert.InProjOwnRefIdeal.nD Cert.InProjOwnRefIdeal.τ).loc Cert.InProjOwnRefIdeal.main_arg1) = m ((c.tc : Thread Cert.InProjOwnRefIdeal.nD Cert.InProjOwnRefIdeal.τ).loc Cert.InProjOwnRefIdeal.main_arg1)
      ∧ r.2.mem ((c.tc : Thread Cert.InProjOwnRefIdeal.nD Cert.InProjOwnRefIdeal.τ).loc Cert.InProjOwnRefIdeal.main_arg2) = m ((c.tc : Thread Cert.InProjOwnRefIdeal.nD Cert.InProjOwnRefIdeal.τ).loc Cert.InProjOwnRefIdeal.main_arg2))
      ∧ r.2.sem = fun _ => 0)

def quiescent_InProjPeer0 [hInProjPeer0 : Cert.InProjPeer0.Facts] : Prop :=
  ∀ (m : (ℓ : Loc Cert.InProjPeer0.nD Cert.InProjPeer0.τ Cert.InProjPeer0.sig) → Buf (Elt Bits) ℓ) (g : Dev Cert.InProjPeer0.nD → PrngReg), Pre_InProjPeer0 m →
    θ_run (Cert.InProjPeer0.defs (F := Bits)) (onTc (τ := Cert.InProjPeer0.τ) (Cert.InProjPeer0.main (F := Bits))) ⟨m, fun _ => 0, g⟩ (fun r => (∀ c : Dev Cert.InProjPeer0.nD,
      r.2.mem ((c.tc : Thread Cert.InProjPeer0.nD Cert.InProjPeer0.τ).loc Cert.InProjPeer0.main_arg0) = m ((c.tc : Thread Cert.InProjPeer0.nD Cert.InProjPeer0.τ).loc Cert.InProjPeer0.main_arg0)
      ∧ r.2.mem ((c.tc : Thread Cert.InProjPeer0.nD Cert.InProjPeer0.τ).loc Cert.InProjPeer0.main_arg1) = m ((c.tc : Thread Cert.InProjPeer0.nD Cert.InProjPeer0.τ).loc Cert.InProjPeer0.main_arg1)
      ∧ r.2.mem ((c.tc : Thread Cert.InProjPeer0.nD Cert.InProjPeer0.τ).loc Cert.InProjPeer0.main_arg2) = m ((c.tc : Thread Cert.InProjPeer0.nD Cert.InProjPeer0.τ).loc Cert.InProjPeer0.main_arg2)
      ∧ r.2.mem ((c.tc : Thread Cert.InProjPeer0.nD Cert.InProjPeer0.τ).loc Cert.InProjPeer0.main_arg3) = m ((c.tc : Thread Cert.InProjPeer0.nD Cert.InProjPeer0.τ).loc Cert.InProjPeer0.main_arg3))
      ∧ r.2.sem = fun _ => 0)

def quiescent_InProjPeer0Ideal [hInProjPeer0Ideal : Cert.InProjPeer0Ideal.Facts] : Prop :=
  ∀ (m : (ℓ : Loc Cert.InProjPeer0Ideal.nD Cert.InProjPeer0Ideal.τ Cert.InProjPeer0Ideal.sig) → Buf (Elt Ideal) ℓ) (g : Dev Cert.InProjPeer0Ideal.nD → PrngReg), Pre_InProjPeer0Ideal m →
    θ_run (Cert.InProjPeer0Ideal.defs (F := Ideal)) (onTc (τ := Cert.InProjPeer0Ideal.τ) (Cert.InProjPeer0Ideal.main (F := Ideal))) ⟨m, fun _ => 0, g⟩ (fun r => (∀ c : Dev Cert.InProjPeer0Ideal.nD,
      r.2.mem ((c.tc : Thread Cert.InProjPeer0Ideal.nD Cert.InProjPeer0Ideal.τ).loc Cert.InProjPeer0Ideal.main_arg0) = m ((c.tc : Thread Cert.InProjPeer0Ideal.nD Cert.InProjPeer0Ideal.τ).loc Cert.InProjPeer0Ideal.main_arg0)
      ∧ r.2.mem ((c.tc : Thread Cert.InProjPeer0Ideal.nD Cert.InProjPeer0Ideal.τ).loc Cert.InProjPeer0Ideal.main_arg1) = m ((c.tc : Thread Cert.InProjPeer0Ideal.nD Cert.InProjPeer0Ideal.τ).loc Cert.InProjPeer0Ideal.main_arg1)
      ∧ r.2.mem ((c.tc : Thread Cert.InProjPeer0Ideal.nD Cert.InProjPeer0Ideal.τ).loc Cert.InProjPeer0Ideal.main_arg2) = m ((c.tc : Thread Cert.InProjPeer0Ideal.nD Cert.InProjPeer0Ideal.τ).loc Cert.InProjPeer0Ideal.main_arg2)
      ∧ r.2.mem ((c.tc : Thread Cert.InProjPeer0Ideal.nD Cert.InProjPeer0Ideal.τ).loc Cert.InProjPeer0Ideal.main_arg3) = m ((c.tc : Thread Cert.InProjPeer0Ideal.nD Cert.InProjPeer0Ideal.τ).loc Cert.InProjPeer0Ideal.main_arg3))
      ∧ r.2.sem = fun _ => 0)

def quiescent_InProjPeer0RefIdeal [hInProjPeer0RefIdeal : Cert.InProjPeer0RefIdeal.Facts] : Prop :=
  ∀ (m : (ℓ : Loc Cert.InProjPeer0RefIdeal.nD Cert.InProjPeer0RefIdeal.τ Cert.InProjPeer0RefIdeal.sig) → Buf (Elt Ideal) ℓ) (g : Dev Cert.InProjPeer0RefIdeal.nD → PrngReg), Pre_InProjPeer0RefIdeal m →
    θ_run (Cert.InProjPeer0RefIdeal.defs (F := Ideal)) (onTc (τ := Cert.InProjPeer0RefIdeal.τ) (Cert.InProjPeer0RefIdeal.main (F := Ideal))) ⟨m, fun _ => 0, g⟩ (fun r => (∀ c : Dev Cert.InProjPeer0RefIdeal.nD,
      r.2.mem ((c.tc : Thread Cert.InProjPeer0RefIdeal.nD Cert.InProjPeer0RefIdeal.τ).loc Cert.InProjPeer0RefIdeal.main_arg0) = m ((c.tc : Thread Cert.InProjPeer0RefIdeal.nD Cert.InProjPeer0RefIdeal.τ).loc Cert.InProjPeer0RefIdeal.main_arg0)
      ∧ r.2.mem ((c.tc : Thread Cert.InProjPeer0RefIdeal.nD Cert.InProjPeer0RefIdeal.τ).loc Cert.InProjPeer0RefIdeal.main_arg1) = m ((c.tc : Thread Cert.InProjPeer0RefIdeal.nD Cert.InProjPeer0RefIdeal.τ).loc Cert.InProjPeer0RefIdeal.main_arg1)
      ∧ r.2.mem ((c.tc : Thread Cert.InProjPeer0RefIdeal.nD Cert.InProjPeer0RefIdeal.τ).loc Cert.InProjPeer0RefIdeal.main_arg2) = m ((c.tc : Thread Cert.InProjPeer0RefIdeal.nD Cert.InProjPeer0RefIdeal.τ).loc Cert.InProjPeer0RefIdeal.main_arg2)
      ∧ r.2.mem ((c.tc : Thread Cert.InProjPeer0RefIdeal.nD Cert.InProjPeer0RefIdeal.τ).loc Cert.InProjPeer0RefIdeal.main_arg3) = m ((c.tc : Thread Cert.InProjPeer0RefIdeal.nD Cert.InProjPeer0RefIdeal.τ).loc Cert.InProjPeer0RefIdeal.main_arg3))
      ∧ r.2.sem = fun _ => 0)

def quiescent_InProjPeer1 [hInProjPeer1 : Cert.InProjPeer1.Facts] : Prop :=
  ∀ (m : (ℓ : Loc Cert.InProjPeer1.nD Cert.InProjPeer1.τ Cert.InProjPeer1.sig) → Buf (Elt Bits) ℓ) (g : Dev Cert.InProjPeer1.nD → PrngReg), Pre_InProjPeer1 m →
    θ_run (Cert.InProjPeer1.defs (F := Bits)) (onTc (τ := Cert.InProjPeer1.τ) (Cert.InProjPeer1.main (F := Bits))) ⟨m, fun _ => 0, g⟩ (fun r => (∀ c : Dev Cert.InProjPeer1.nD,
      r.2.mem ((c.tc : Thread Cert.InProjPeer1.nD Cert.InProjPeer1.τ).loc Cert.InProjPeer1.main_arg0) = m ((c.tc : Thread Cert.InProjPeer1.nD Cert.InProjPeer1.τ).loc Cert.InProjPeer1.main_arg0)
      ∧ r.2.mem ((c.tc : Thread Cert.InProjPeer1.nD Cert.InProjPeer1.τ).loc Cert.InProjPeer1.main_arg1) = m ((c.tc : Thread Cert.InProjPeer1.nD Cert.InProjPeer1.τ).loc Cert.InProjPeer1.main_arg1)
      ∧ r.2.mem ((c.tc : Thread Cert.InProjPeer1.nD Cert.InProjPeer1.τ).loc Cert.InProjPeer1.main_arg2) = m ((c.tc : Thread Cert.InProjPeer1.nD Cert.InProjPeer1.τ).loc Cert.InProjPeer1.main_arg2))
      ∧ r.2.sem = fun _ => 0)

def quiescent_InProjPeer1Ideal [hInProjPeer1Ideal : Cert.InProjPeer1Ideal.Facts] : Prop :=
  ∀ (m : (ℓ : Loc Cert.InProjPeer1Ideal.nD Cert.InProjPeer1Ideal.τ Cert.InProjPeer1Ideal.sig) → Buf (Elt Ideal) ℓ) (g : Dev Cert.InProjPeer1Ideal.nD → PrngReg), Pre_InProjPeer1Ideal m →
    θ_run (Cert.InProjPeer1Ideal.defs (F := Ideal)) (onTc (τ := Cert.InProjPeer1Ideal.τ) (Cert.InProjPeer1Ideal.main (F := Ideal))) ⟨m, fun _ => 0, g⟩ (fun r => (∀ c : Dev Cert.InProjPeer1Ideal.nD,
      r.2.mem ((c.tc : Thread Cert.InProjPeer1Ideal.nD Cert.InProjPeer1Ideal.τ).loc Cert.InProjPeer1Ideal.main_arg0) = m ((c.tc : Thread Cert.InProjPeer1Ideal.nD Cert.InProjPeer1Ideal.τ).loc Cert.InProjPeer1Ideal.main_arg0)
      ∧ r.2.mem ((c.tc : Thread Cert.InProjPeer1Ideal.nD Cert.InProjPeer1Ideal.τ).loc Cert.InProjPeer1Ideal.main_arg1) = m ((c.tc : Thread Cert.InProjPeer1Ideal.nD Cert.InProjPeer1Ideal.τ).loc Cert.InProjPeer1Ideal.main_arg1)
      ∧ r.2.mem ((c.tc : Thread Cert.InProjPeer1Ideal.nD Cert.InProjPeer1Ideal.τ).loc Cert.InProjPeer1Ideal.main_arg2) = m ((c.tc : Thread Cert.InProjPeer1Ideal.nD Cert.InProjPeer1Ideal.τ).loc Cert.InProjPeer1Ideal.main_arg2))
      ∧ r.2.sem = fun _ => 0)

def quiescent_InProjPeer1RefIdeal [hInProjPeer1RefIdeal : Cert.InProjPeer1RefIdeal.Facts] : Prop :=
  ∀ (m : (ℓ : Loc Cert.InProjPeer1RefIdeal.nD Cert.InProjPeer1RefIdeal.τ Cert.InProjPeer1RefIdeal.sig) → Buf (Elt Ideal) ℓ) (g : Dev Cert.InProjPeer1RefIdeal.nD → PrngReg), Pre_InProjPeer1RefIdeal m →
    θ_run (Cert.InProjPeer1RefIdeal.defs (F := Ideal)) (onTc (τ := Cert.InProjPeer1RefIdeal.τ) (Cert.InProjPeer1RefIdeal.main (F := Ideal))) ⟨m, fun _ => 0, g⟩ (fun r => (∀ c : Dev Cert.InProjPeer1RefIdeal.nD,
      r.2.mem ((c.tc : Thread Cert.InProjPeer1RefIdeal.nD Cert.InProjPeer1RefIdeal.τ).loc Cert.InProjPeer1RefIdeal.main_arg0) = m ((c.tc : Thread Cert.InProjPeer1RefIdeal.nD Cert.InProjPeer1RefIdeal.τ).loc Cert.InProjPeer1RefIdeal.main_arg0)
      ∧ r.2.mem ((c.tc : Thread Cert.InProjPeer1RefIdeal.nD Cert.InProjPeer1RefIdeal.τ).loc Cert.InProjPeer1RefIdeal.main_arg1) = m ((c.tc : Thread Cert.InProjPeer1RefIdeal.nD Cert.InProjPeer1RefIdeal.τ).loc Cert.InProjPeer1RefIdeal.main_arg1)
      ∧ r.2.mem ((c.tc : Thread Cert.InProjPeer1RefIdeal.nD Cert.InProjPeer1RefIdeal.τ).loc Cert.InProjPeer1RefIdeal.main_arg2) = m ((c.tc : Thread Cert.InProjPeer1RefIdeal.nD Cert.InProjPeer1RefIdeal.τ).loc Cert.InProjPeer1RefIdeal.main_arg2))
      ∧ r.2.sem = fun _ => 0)

def quiescent_InProjPeer2 [hInProjPeer2 : Cert.InProjPeer2.Facts] : Prop :=
  ∀ (m : (ℓ : Loc Cert.InProjPeer2.nD Cert.InProjPeer2.τ Cert.InProjPeer2.sig) → Buf (Elt Bits) ℓ) (g : Dev Cert.InProjPeer2.nD → PrngReg), Pre_InProjPeer2 m →
    θ_run (Cert.InProjPeer2.defs (F := Bits)) (onTc (τ := Cert.InProjPeer2.τ) (Cert.InProjPeer2.main (F := Bits))) ⟨m, fun _ => 0, g⟩ (fun r => (∀ c : Dev Cert.InProjPeer2.nD,
      r.2.mem ((c.tc : Thread Cert.InProjPeer2.nD Cert.InProjPeer2.τ).loc Cert.InProjPeer2.main_arg0) = m ((c.tc : Thread Cert.InProjPeer2.nD Cert.InProjPeer2.τ).loc Cert.InProjPeer2.main_arg0)
      ∧ r.2.mem ((c.tc : Thread Cert.InProjPeer2.nD Cert.InProjPeer2.τ).loc Cert.InProjPeer2.main_arg1) = m ((c.tc : Thread Cert.InProjPeer2.nD Cert.InProjPeer2.τ).loc Cert.InProjPeer2.main_arg1)
      ∧ r.2.mem ((c.tc : Thread Cert.InProjPeer2.nD Cert.InProjPeer2.τ).loc Cert.InProjPeer2.main_arg2) = m ((c.tc : Thread Cert.InProjPeer2.nD Cert.InProjPeer2.τ).loc Cert.InProjPeer2.main_arg2)
      ∧ r.2.mem ((c.tc : Thread Cert.InProjPeer2.nD Cert.InProjPeer2.τ).loc Cert.InProjPeer2.main_arg3) = m ((c.tc : Thread Cert.InProjPeer2.nD Cert.InProjPeer2.τ).loc Cert.InProjPeer2.main_arg3))
      ∧ r.2.sem = fun _ => 0)

def quiescent_InProjPeer2Ideal [hInProjPeer2Ideal : Cert.InProjPeer2Ideal.Facts] : Prop :=
  ∀ (m : (ℓ : Loc Cert.InProjPeer2Ideal.nD Cert.InProjPeer2Ideal.τ Cert.InProjPeer2Ideal.sig) → Buf (Elt Ideal) ℓ) (g : Dev Cert.InProjPeer2Ideal.nD → PrngReg), Pre_InProjPeer2Ideal m →
    θ_run (Cert.InProjPeer2Ideal.defs (F := Ideal)) (onTc (τ := Cert.InProjPeer2Ideal.τ) (Cert.InProjPeer2Ideal.main (F := Ideal))) ⟨m, fun _ => 0, g⟩ (fun r => (∀ c : Dev Cert.InProjPeer2Ideal.nD,
      r.2.mem ((c.tc : Thread Cert.InProjPeer2Ideal.nD Cert.InProjPeer2Ideal.τ).loc Cert.InProjPeer2Ideal.main_arg0) = m ((c.tc : Thread Cert.InProjPeer2Ideal.nD Cert.InProjPeer2Ideal.τ).loc Cert.InProjPeer2Ideal.main_arg0)
      ∧ r.2.mem ((c.tc : Thread Cert.InProjPeer2Ideal.nD Cert.InProjPeer2Ideal.τ).loc Cert.InProjPeer2Ideal.main_arg1) = m ((c.tc : Thread Cert.InProjPeer2Ideal.nD Cert.InProjPeer2Ideal.τ).loc Cert.InProjPeer2Ideal.main_arg1)
      ∧ r.2.mem ((c.tc : Thread Cert.InProjPeer2Ideal.nD Cert.InProjPeer2Ideal.τ).loc Cert.InProjPeer2Ideal.main_arg2) = m ((c.tc : Thread Cert.InProjPeer2Ideal.nD Cert.InProjPeer2Ideal.τ).loc Cert.InProjPeer2Ideal.main_arg2)
      ∧ r.2.mem ((c.tc : Thread Cert.InProjPeer2Ideal.nD Cert.InProjPeer2Ideal.τ).loc Cert.InProjPeer2Ideal.main_arg3) = m ((c.tc : Thread Cert.InProjPeer2Ideal.nD Cert.InProjPeer2Ideal.τ).loc Cert.InProjPeer2Ideal.main_arg3))
      ∧ r.2.sem = fun _ => 0)

def quiescent_InProjPeer2RefIdeal [hInProjPeer2RefIdeal : Cert.InProjPeer2RefIdeal.Facts] : Prop :=
  ∀ (m : (ℓ : Loc Cert.InProjPeer2RefIdeal.nD Cert.InProjPeer2RefIdeal.τ Cert.InProjPeer2RefIdeal.sig) → Buf (Elt Ideal) ℓ) (g : Dev Cert.InProjPeer2RefIdeal.nD → PrngReg), Pre_InProjPeer2RefIdeal m →
    θ_run (Cert.InProjPeer2RefIdeal.defs (F := Ideal)) (onTc (τ := Cert.InProjPeer2RefIdeal.τ) (Cert.InProjPeer2RefIdeal.main (F := Ideal))) ⟨m, fun _ => 0, g⟩ (fun r => (∀ c : Dev Cert.InProjPeer2RefIdeal.nD,
      r.2.mem ((c.tc : Thread Cert.InProjPeer2RefIdeal.nD Cert.InProjPeer2RefIdeal.τ).loc Cert.InProjPeer2RefIdeal.main_arg0) = m ((c.tc : Thread Cert.InProjPeer2RefIdeal.nD Cert.InProjPeer2RefIdeal.τ).loc Cert.InProjPeer2RefIdeal.main_arg0)
      ∧ r.2.mem ((c.tc : Thread Cert.InProjPeer2RefIdeal.nD Cert.InProjPeer2RefIdeal.τ).loc Cert.InProjPeer2RefIdeal.main_arg1) = m ((c.tc : Thread Cert.InProjPeer2RefIdeal.nD Cert.InProjPeer2RefIdeal.τ).loc Cert.InProjPeer2RefIdeal.main_arg1)
      ∧ r.2.mem ((c.tc : Thread Cert.InProjPeer2RefIdeal.nD Cert.InProjPeer2RefIdeal.τ).loc Cert.InProjPeer2RefIdeal.main_arg2) = m ((c.tc : Thread Cert.InProjPeer2RefIdeal.nD Cert.InProjPeer2RefIdeal.τ).loc Cert.InProjPeer2RefIdeal.main_arg2)
      ∧ r.2.mem ((c.tc : Thread Cert.InProjPeer2RefIdeal.nD Cert.InProjPeer2RefIdeal.τ).loc Cert.InProjPeer2RefIdeal.main_arg3) = m ((c.tc : Thread Cert.InProjPeer2RefIdeal.nD Cert.InProjPeer2RefIdeal.τ).loc Cert.InProjPeer2RefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamHgrn [hAdamHgrn : Cert.AdamHgrn.Facts] : Prop :=
  ∀ (m : (ℓ : Loc Cert.AdamHgrn.nD Cert.AdamHgrn.τ Cert.AdamHgrn.sig) → Buf (Elt Bits) ℓ) (g : Dev Cert.AdamHgrn.nD → PrngReg), Pre_AdamHgrn m →
    θ_run (Cert.AdamHgrn.defs (F := Bits)) (onTc (τ := Cert.AdamHgrn.τ) (Cert.AdamHgrn.main (F := Bits))) ⟨m, fun _ => 0, g⟩ (fun r => (∀ c : Dev Cert.AdamHgrn.nD,
      r.2.mem ((c.tc : Thread Cert.AdamHgrn.nD Cert.AdamHgrn.τ).loc Cert.AdamHgrn.main_arg0) = m ((c.tc : Thread Cert.AdamHgrn.nD Cert.AdamHgrn.τ).loc Cert.AdamHgrn.main_arg0)
      ∧ r.2.mem ((c.tc : Thread Cert.AdamHgrn.nD Cert.AdamHgrn.τ).loc Cert.AdamHgrn.main_arg1) = m ((c.tc : Thread Cert.AdamHgrn.nD Cert.AdamHgrn.τ).loc Cert.AdamHgrn.main_arg1)
      ∧ r.2.mem ((c.tc : Thread Cert.AdamHgrn.nD Cert.AdamHgrn.τ).loc Cert.AdamHgrn.main_arg2) = m ((c.tc : Thread Cert.AdamHgrn.nD Cert.AdamHgrn.τ).loc Cert.AdamHgrn.main_arg2)
      ∧ r.2.mem ((c.tc : Thread Cert.AdamHgrn.nD Cert.AdamHgrn.τ).loc Cert.AdamHgrn.main_arg3) = m ((c.tc : Thread Cert.AdamHgrn.nD Cert.AdamHgrn.τ).loc Cert.AdamHgrn.main_arg3))
      ∧ r.2.sem = fun _ => 0)

def quiescent_AdamHgrnIdeal [hAdamHgrnIdeal : Cert.AdamHgrnIdeal.Facts] : Prop :=
  ∀ (m : (ℓ : Loc Cert.AdamHgrnIdeal.nD Cert.AdamHgrnIdeal.τ Cert.AdamHgrnIdeal.sig) → Buf (Elt Ideal) ℓ) (g : Dev Cert.AdamHgrnIdeal.nD → PrngReg), Pre_AdamHgrnIdeal m →
    θ_run (Cert.AdamHgrnIdeal.defs (F := Ideal)) (onTc (τ := Cert.AdamHgrnIdeal.τ) (Cert.AdamHgrnIdeal.main (F := Ideal))) ⟨m, fun _ => 0, g⟩ (fun r => (∀ c : Dev Cert.AdamHgrnIdeal.nD,
      r.2.mem ((c.tc : Thread Cert.AdamHgrnIdeal.nD Cert.AdamHgrnIdeal.τ).loc Cert.AdamHgrnIdeal.main_arg0) = m ((c.tc : Thread Cert.AdamHgrnIdeal.nD Cert.AdamHgrnIdeal.τ).loc Cert.AdamHgrnIdeal.main_arg0)
      ∧ r.2.mem ((c.tc : Thread Cert.AdamHgrnIdeal.nD Cert.AdamHgrnIdeal.τ).loc Cert.AdamHgrnIdeal.main_arg1) = m ((c.tc : Thread Cert.AdamHgrnIdeal.nD Cert.AdamHgrnIdeal.τ).loc Cert.AdamHgrnIdeal.main_arg1)
      ∧ r.2.mem ((c.tc : Thread Cert.AdamHgrnIdeal.nD Cert.AdamHgrnIdeal.τ).loc Cert.AdamHgrnIdeal.main_arg2) = m ((c.tc : Thread Cert.AdamHgrnIdeal.nD Cert.AdamHgrnIdeal.τ).loc Cert.AdamHgrnIdeal.main_arg2)
      ∧ r.2.mem ((c.tc : Thread Cert.AdamHgrnIdeal.nD Cert.AdamHgrnIdeal.τ).loc Cert.AdamHgrnIdeal.main_arg3) = m ((c.tc : Thread Cert.AdamHgrnIdeal.nD Cert.AdamHgrnIdeal.τ).loc Cert.AdamHgrnIdeal.main_arg3))
      ∧ r.2.sem = fun _ => 0)

def quiescent_AdamHgrnRefIdeal [hAdamHgrnRefIdeal : Cert.AdamHgrnRefIdeal.Facts] : Prop :=
  ∀ (m : (ℓ : Loc Cert.AdamHgrnRefIdeal.nD Cert.AdamHgrnRefIdeal.τ Cert.AdamHgrnRefIdeal.sig) → Buf (Elt Ideal) ℓ) (g : Dev Cert.AdamHgrnRefIdeal.nD → PrngReg), Pre_AdamHgrnRefIdeal m →
    θ_run (Cert.AdamHgrnRefIdeal.defs (F := Ideal)) (onTc (τ := Cert.AdamHgrnRefIdeal.τ) (Cert.AdamHgrnRefIdeal.main (F := Ideal))) ⟨m, fun _ => 0, g⟩ (fun r => (∀ c : Dev Cert.AdamHgrnRefIdeal.nD,
      r.2.mem ((c.tc : Thread Cert.AdamHgrnRefIdeal.nD Cert.AdamHgrnRefIdeal.τ).loc Cert.AdamHgrnRefIdeal.main_arg0) = m ((c.tc : Thread Cert.AdamHgrnRefIdeal.nD Cert.AdamHgrnRefIdeal.τ).loc Cert.AdamHgrnRefIdeal.main_arg0)
      ∧ r.2.mem ((c.tc : Thread Cert.AdamHgrnRefIdeal.nD Cert.AdamHgrnRefIdeal.τ).loc Cert.AdamHgrnRefIdeal.main_arg1) = m ((c.tc : Thread Cert.AdamHgrnRefIdeal.nD Cert.AdamHgrnRefIdeal.τ).loc Cert.AdamHgrnRefIdeal.main_arg1)
      ∧ r.2.mem ((c.tc : Thread Cert.AdamHgrnRefIdeal.nD Cert.AdamHgrnRefIdeal.τ).loc Cert.AdamHgrnRefIdeal.main_arg2) = m ((c.tc : Thread Cert.AdamHgrnRefIdeal.nD Cert.AdamHgrnRefIdeal.τ).loc Cert.AdamHgrnRefIdeal.main_arg2)
      ∧ r.2.mem ((c.tc : Thread Cert.AdamHgrnRefIdeal.nD Cert.AdamHgrnRefIdeal.τ).loc Cert.AdamHgrnRefIdeal.main_arg3) = m ((c.tc : Thread Cert.AdamHgrnRefIdeal.nD Cert.AdamHgrnRefIdeal.τ).loc Cert.AdamHgrnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_PostLoss [hPostLoss : Cert.PostLoss.Facts] : Prop :=
  ∀ (m : (ℓ : Loc Cert.PostLoss.nD Cert.PostLoss.τ Cert.PostLoss.sig) → Buf (Elt Bits) ℓ) (g : Dev Cert.PostLoss.nD → PrngReg), Pre_PostLoss m →
    θ_run (Cert.PostLoss.defs (F := Bits)) (onTc (τ := Cert.PostLoss.τ) (Cert.PostLoss.main (F := Bits))) ⟨m, fun _ => 0, g⟩ (fun r => (∀ c : Dev Cert.PostLoss.nD,
      r.2.mem ((c.tc : Thread Cert.PostLoss.nD Cert.PostLoss.τ).loc Cert.PostLoss.main_arg0) = m ((c.tc : Thread Cert.PostLoss.nD Cert.PostLoss.τ).loc Cert.PostLoss.main_arg0)
      ∧ r.2.mem ((c.tc : Thread Cert.PostLoss.nD Cert.PostLoss.τ).loc Cert.PostLoss.main_arg1) = m ((c.tc : Thread Cert.PostLoss.nD Cert.PostLoss.τ).loc Cert.PostLoss.main_arg1)
      ∧ r.2.mem ((c.tc : Thread Cert.PostLoss.nD Cert.PostLoss.τ).loc Cert.PostLoss.main_arg2) = m ((c.tc : Thread Cert.PostLoss.nD Cert.PostLoss.τ).loc Cert.PostLoss.main_arg2)
      ∧ r.2.mem ((c.tc : Thread Cert.PostLoss.nD Cert.PostLoss.τ).loc Cert.PostLoss.main_arg3) = m ((c.tc : Thread Cert.PostLoss.nD Cert.PostLoss.τ).loc Cert.PostLoss.main_arg3))
      ∧ r.2.sem = fun _ => 0)

def quiescent_PostLossIdeal [hPostLossIdeal : Cert.PostLossIdeal.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ r.2.sem = fun _ => 0)

def quiescent_PostLossRefIdeal [hPostLossRefIdeal : Cert.PostLossRefIdeal.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3))
      ∧ r.2.sem = fun _ => 0)

def quiescent_SumIn0 [hSumIn0 : Cert.SumIn0.Facts] : Prop :=
  ∀ (m : (ℓ : Loc Cert.SumIn0.nD Cert.SumIn0.τ Cert.SumIn0.sig) → Buf (Elt Bits) ℓ) (g : Dev Cert.SumIn0.nD → PrngReg), Pre_SumIn0 m →
    θ_run (Cert.SumIn0.defs (F := Bits)) (onTc (τ := Cert.SumIn0.τ) (Cert.SumIn0.main (F := Bits))) ⟨m, fun _ => 0, g⟩ (fun r => (∀ c : Dev Cert.SumIn0.nD,
      r.2.mem ((c.tc : Thread Cert.SumIn0.nD Cert.SumIn0.τ).loc Cert.SumIn0.main_arg0) = m ((c.tc : Thread Cert.SumIn0.nD Cert.SumIn0.τ).loc Cert.SumIn0.main_arg0)
      ∧ r.2.mem ((c.tc : Thread Cert.SumIn0.nD Cert.SumIn0.τ).loc Cert.SumIn0.main_arg1) = m ((c.tc : Thread Cert.SumIn0.nD Cert.SumIn0.τ).loc Cert.SumIn0.main_arg1)
      ∧ r.2.mem ((c.tc : Thread Cert.SumIn0.nD Cert.SumIn0.τ).loc Cert.SumIn0.main_arg2) = m ((c.tc : Thread Cert.SumIn0.nD Cert.SumIn0.τ).loc Cert.SumIn0.main_arg2))
      ∧ r.2.sem = fun _ => 0)

def quiescent_SumIn0Ideal [hSumIn0Ideal : Cert.SumIn0Ideal.Facts] : Prop :=
  ∀ (m : (ℓ : Loc Cert.SumIn0Ideal.nD Cert.SumIn0Ideal.τ Cert.SumIn0Ideal.sig) → Buf (Elt Ideal) ℓ) (g : Dev Cert.SumIn0Ideal.nD → PrngReg), Pre_SumIn0Ideal m →
    θ_run (Cert.SumIn0Ideal.defs (F := Ideal)) (onTc (τ := Cert.SumIn0Ideal.τ) (Cert.SumIn0Ideal.main (F := Ideal))) ⟨m, fun _ => 0, g⟩ (fun r => (∀ c : Dev Cert.SumIn0Ideal.nD,
      r.2.mem ((c.tc : Thread Cert.SumIn0Ideal.nD Cert.SumIn0Ideal.τ).loc Cert.SumIn0Ideal.main_arg0) = m ((c.tc : Thread Cert.SumIn0Ideal.nD Cert.SumIn0Ideal.τ).loc Cert.SumIn0Ideal.main_arg0)
      ∧ r.2.mem ((c.tc : Thread Cert.SumIn0Ideal.nD Cert.SumIn0Ideal.τ).loc Cert.SumIn0Ideal.main_arg1) = m ((c.tc : Thread Cert.SumIn0Ideal.nD Cert.SumIn0Ideal.τ).loc Cert.SumIn0Ideal.main_arg1)
      ∧ r.2.mem ((c.tc : Thread Cert.SumIn0Ideal.nD Cert.SumIn0Ideal.τ).loc Cert.SumIn0Ideal.main_arg2) = m ((c.tc : Thread Cert.SumIn0Ideal.nD Cert.SumIn0Ideal.τ).loc Cert.SumIn0Ideal.main_arg2))
      ∧ r.2.sem = fun _ => 0)

def quiescent_SumIn0RefIdeal [hSumIn0RefIdeal : Cert.SumIn0RefIdeal.Facts] : Prop :=
  ∀ (m : (ℓ : Loc Cert.SumIn0RefIdeal.nD Cert.SumIn0RefIdeal.τ Cert.SumIn0RefIdeal.sig) → Buf (Elt Ideal) ℓ) (g : Dev Cert.SumIn0RefIdeal.nD → PrngReg), Pre_SumIn0RefIdeal m →
    θ_run (Cert.SumIn0RefIdeal.defs (F := Ideal)) (onTc (τ := Cert.SumIn0RefIdeal.τ) (Cert.SumIn0RefIdeal.main (F := Ideal))) ⟨m, fun _ => 0, g⟩ (fun r => (∀ c : Dev Cert.SumIn0RefIdeal.nD,
      r.2.mem ((c.tc : Thread Cert.SumIn0RefIdeal.nD Cert.SumIn0RefIdeal.τ).loc Cert.SumIn0RefIdeal.main_arg0) = m ((c.tc : Thread Cert.SumIn0RefIdeal.nD Cert.SumIn0RefIdeal.τ).loc Cert.SumIn0RefIdeal.main_arg0)
      ∧ r.2.mem ((c.tc : Thread Cert.SumIn0RefIdeal.nD Cert.SumIn0RefIdeal.τ).loc Cert.SumIn0RefIdeal.main_arg1) = m ((c.tc : Thread Cert.SumIn0RefIdeal.nD Cert.SumIn0RefIdeal.τ).loc Cert.SumIn0RefIdeal.main_arg1)
      ∧ r.2.mem ((c.tc : Thread Cert.SumIn0RefIdeal.nD Cert.SumIn0RefIdeal.τ).loc Cert.SumIn0RefIdeal.main_arg2) = m ((c.tc : Thread Cert.SumIn0RefIdeal.nD Cert.SumIn0RefIdeal.τ).loc Cert.SumIn0RefIdeal.main_arg2))
      ∧ r.2.sem = fun _ => 0)

def quiescent_SumIn1 [hSumIn1 : Cert.SumIn1.Facts] : Prop :=
  ∀ (m : (ℓ : Loc Cert.SumIn1.nD Cert.SumIn1.τ Cert.SumIn1.sig) → Buf (Elt Bits) ℓ) (g : Dev Cert.SumIn1.nD → PrngReg), Pre_SumIn1 m →
    θ_run (Cert.SumIn1.defs (F := Bits)) (onTc (τ := Cert.SumIn1.τ) (Cert.SumIn1.main (F := Bits))) ⟨m, fun _ => 0, g⟩ (fun r => (∀ c : Dev Cert.SumIn1.nD,
      r.2.mem ((c.tc : Thread Cert.SumIn1.nD Cert.SumIn1.τ).loc Cert.SumIn1.main_arg0) = m ((c.tc : Thread Cert.SumIn1.nD Cert.SumIn1.τ).loc Cert.SumIn1.main_arg0)
      ∧ r.2.mem ((c.tc : Thread Cert.SumIn1.nD Cert.SumIn1.τ).loc Cert.SumIn1.main_arg1) = m ((c.tc : Thread Cert.SumIn1.nD Cert.SumIn1.τ).loc Cert.SumIn1.main_arg1)
      ∧ r.2.mem ((c.tc : Thread Cert.SumIn1.nD Cert.SumIn1.τ).loc Cert.SumIn1.main_arg2) = m ((c.tc : Thread Cert.SumIn1.nD Cert.SumIn1.τ).loc Cert.SumIn1.main_arg2))
      ∧ r.2.sem = fun _ => 0)

def quiescent_SumIn1Ideal [hSumIn1Ideal : Cert.SumIn1Ideal.Facts] : Prop :=
  ∀ (m : (ℓ : Loc Cert.SumIn1Ideal.nD Cert.SumIn1Ideal.τ Cert.SumIn1Ideal.sig) → Buf (Elt Ideal) ℓ) (g : Dev Cert.SumIn1Ideal.nD → PrngReg), Pre_SumIn1Ideal m →
    θ_run (Cert.SumIn1Ideal.defs (F := Ideal)) (onTc (τ := Cert.SumIn1Ideal.τ) (Cert.SumIn1Ideal.main (F := Ideal))) ⟨m, fun _ => 0, g⟩ (fun r => (∀ c : Dev Cert.SumIn1Ideal.nD,
      r.2.mem ((c.tc : Thread Cert.SumIn1Ideal.nD Cert.SumIn1Ideal.τ).loc Cert.SumIn1Ideal.main_arg0) = m ((c.tc : Thread Cert.SumIn1Ideal.nD Cert.SumIn1Ideal.τ).loc Cert.SumIn1Ideal.main_arg0)
      ∧ r.2.mem ((c.tc : Thread Cert.SumIn1Ideal.nD Cert.SumIn1Ideal.τ).loc Cert.SumIn1Ideal.main_arg1) = m ((c.tc : Thread Cert.SumIn1Ideal.nD Cert.SumIn1Ideal.τ).loc Cert.SumIn1Ideal.main_arg1)
      ∧ r.2.mem ((c.tc : Thread Cert.SumIn1Ideal.nD Cert.SumIn1Ideal.τ).loc Cert.SumIn1Ideal.main_arg2) = m ((c.tc : Thread Cert.SumIn1Ideal.nD Cert.SumIn1Ideal.τ).loc Cert.SumIn1Ideal.main_arg2))
      ∧ r.2.sem = fun _ => 0)

def quiescent_SumIn1RefIdeal [hSumIn1RefIdeal : Cert.SumIn1RefIdeal.Facts] : Prop :=
  ∀ (m : (ℓ : Loc Cert.SumIn1RefIdeal.nD Cert.SumIn1RefIdeal.τ Cert.SumIn1RefIdeal.sig) → Buf (Elt Ideal) ℓ) (g : Dev Cert.SumIn1RefIdeal.nD → PrngReg), Pre_SumIn1RefIdeal m →
    θ_run (Cert.SumIn1RefIdeal.defs (F := Ideal)) (onTc (τ := Cert.SumIn1RefIdeal.τ) (Cert.SumIn1RefIdeal.main (F := Ideal))) ⟨m, fun _ => 0, g⟩ (fun r => (∀ c : Dev Cert.SumIn1RefIdeal.nD,
      r.2.mem ((c.tc : Thread Cert.SumIn1RefIdeal.nD Cert.SumIn1RefIdeal.τ).loc Cert.SumIn1RefIdeal.main_arg0) = m ((c.tc : Thread Cert.SumIn1RefIdeal.nD Cert.SumIn1RefIdeal.τ).loc Cert.SumIn1RefIdeal.main_arg0)
      ∧ r.2.mem ((c.tc : Thread Cert.SumIn1RefIdeal.nD Cert.SumIn1RefIdeal.τ).loc Cert.SumIn1RefIdeal.main_arg1) = m ((c.tc : Thread Cert.SumIn1RefIdeal.nD Cert.SumIn1RefIdeal.τ).loc Cert.SumIn1RefIdeal.main_arg1)
      ∧ r.2.mem ((c.tc : Thread Cert.SumIn1RefIdeal.nD Cert.SumIn1RefIdeal.τ).loc Cert.SumIn1RefIdeal.main_arg2) = m ((c.tc : Thread Cert.SumIn1RefIdeal.nD Cert.SumIn1RefIdeal.τ).loc Cert.SumIn1RefIdeal.main_arg2))
      ∧ r.2.sem = fun _ => 0)

def quiescent_SumAttn0 [hSumAttn0 : Cert.SumAttn0.Facts] : Prop :=
  ∀ (m : (ℓ : Loc Cert.SumAttn0.nD Cert.SumAttn0.τ Cert.SumAttn0.sig) → Buf (Elt Bits) ℓ) (g : Dev Cert.SumAttn0.nD → PrngReg), Pre_SumAttn0 m →
    θ_run (Cert.SumAttn0.defs (F := Bits)) (onTc (τ := Cert.SumAttn0.τ) (Cert.SumAttn0.main (F := Bits))) ⟨m, fun _ => 0, g⟩ (fun r => (∀ c : Dev Cert.SumAttn0.nD,
      r.2.mem ((c.tc : Thread Cert.SumAttn0.nD Cert.SumAttn0.τ).loc Cert.SumAttn0.main_arg0) = m ((c.tc : Thread Cert.SumAttn0.nD Cert.SumAttn0.τ).loc Cert.SumAttn0.main_arg0)
      ∧ r.2.mem ((c.tc : Thread Cert.SumAttn0.nD Cert.SumAttn0.τ).loc Cert.SumAttn0.main_arg1) = m ((c.tc : Thread Cert.SumAttn0.nD Cert.SumAttn0.τ).loc Cert.SumAttn0.main_arg1)
      ∧ r.2.mem ((c.tc : Thread Cert.SumAttn0.nD Cert.SumAttn0.τ).loc Cert.SumAttn0.main_arg2) = m ((c.tc : Thread Cert.SumAttn0.nD Cert.SumAttn0.τ).loc Cert.SumAttn0.main_arg2))
      ∧ r.2.sem = fun _ => 0)

def quiescent_SumAttn0Ideal [hSumAttn0Ideal : Cert.SumAttn0Ideal.Facts] : Prop :=
  ∀ (m : (ℓ : Loc Cert.SumAttn0Ideal.nD Cert.SumAttn0Ideal.τ Cert.SumAttn0Ideal.sig) → Buf (Elt Ideal) ℓ) (g : Dev Cert.SumAttn0Ideal.nD → PrngReg), Pre_SumAttn0Ideal m →
    θ_run (Cert.SumAttn0Ideal.defs (F := Ideal)) (onTc (τ := Cert.SumAttn0Ideal.τ) (Cert.SumAttn0Ideal.main (F := Ideal))) ⟨m, fun _ => 0, g⟩ (fun r => (∀ c : Dev Cert.SumAttn0Ideal.nD,
      r.2.mem ((c.tc : Thread Cert.SumAttn0Ideal.nD Cert.SumAttn0Ideal.τ).loc Cert.SumAttn0Ideal.main_arg0) = m ((c.tc : Thread Cert.SumAttn0Ideal.nD Cert.SumAttn0Ideal.τ).loc Cert.SumAttn0Ideal.main_arg0)
      ∧ r.2.mem ((c.tc : Thread Cert.SumAttn0Ideal.nD Cert.SumAttn0Ideal.τ).loc Cert.SumAttn0Ideal.main_arg1) = m ((c.tc : Thread Cert.SumAttn0Ideal.nD Cert.SumAttn0Ideal.τ).loc Cert.SumAttn0Ideal.main_arg1)
      ∧ r.2.mem ((c.tc : Thread Cert.SumAttn0Ideal.nD Cert.SumAttn0Ideal.τ).loc Cert.SumAttn0Ideal.main_arg2) = m ((c.tc : Thread Cert.SumAttn0Ideal.nD Cert.SumAttn0Ideal.τ).loc Cert.SumAttn0Ideal.main_arg2))
      ∧ r.2.sem = fun _ => 0)

def quiescent_SumAttn0RefIdeal [hSumAttn0RefIdeal : Cert.SumAttn0RefIdeal.Facts] : Prop :=
  ∀ (m : (ℓ : Loc Cert.SumAttn0RefIdeal.nD Cert.SumAttn0RefIdeal.τ Cert.SumAttn0RefIdeal.sig) → Buf (Elt Ideal) ℓ) (g : Dev Cert.SumAttn0RefIdeal.nD → PrngReg), Pre_SumAttn0RefIdeal m →
    θ_run (Cert.SumAttn0RefIdeal.defs (F := Ideal)) (onTc (τ := Cert.SumAttn0RefIdeal.τ) (Cert.SumAttn0RefIdeal.main (F := Ideal))) ⟨m, fun _ => 0, g⟩ (fun r => (∀ c : Dev Cert.SumAttn0RefIdeal.nD,
      r.2.mem ((c.tc : Thread Cert.SumAttn0RefIdeal.nD Cert.SumAttn0RefIdeal.τ).loc Cert.SumAttn0RefIdeal.main_arg0) = m ((c.tc : Thread Cert.SumAttn0RefIdeal.nD Cert.SumAttn0RefIdeal.τ).loc Cert.SumAttn0RefIdeal.main_arg0)
      ∧ r.2.mem ((c.tc : Thread Cert.SumAttn0RefIdeal.nD Cert.SumAttn0RefIdeal.τ).loc Cert.SumAttn0RefIdeal.main_arg1) = m ((c.tc : Thread Cert.SumAttn0RefIdeal.nD Cert.SumAttn0RefIdeal.τ).loc Cert.SumAttn0RefIdeal.main_arg1)
      ∧ r.2.mem ((c.tc : Thread Cert.SumAttn0RefIdeal.nD Cert.SumAttn0RefIdeal.τ).loc Cert.SumAttn0RefIdeal.main_arg2) = m ((c.tc : Thread Cert.SumAttn0RefIdeal.nD Cert.SumAttn0RefIdeal.τ).loc Cert.SumAttn0RefIdeal.main_arg2))
      ∧ r.2.sem = fun _ => 0)

def quiescent_SumAttn1 [hSumAttn1 : Cert.SumAttn1.Facts] : Prop :=
  ∀ (m : (ℓ : Loc Cert.SumAttn1.nD Cert.SumAttn1.τ Cert.SumAttn1.sig) → Buf (Elt Bits) ℓ) (g : Dev Cert.SumAttn1.nD → PrngReg), Pre_SumAttn1 m →
    θ_run (Cert.SumAttn1.defs (F := Bits)) (onTc (τ := Cert.SumAttn1.τ) (Cert.SumAttn1.main (F := Bits))) ⟨m, fun _ => 0, g⟩ (fun r => (∀ c : Dev Cert.SumAttn1.nD,
      r.2.mem ((c.tc : Thread Cert.SumAttn1.nD Cert.SumAttn1.τ).loc Cert.SumAttn1.main_arg0) = m ((c.tc : Thread Cert.SumAttn1.nD Cert.SumAttn1.τ).loc Cert.SumAttn1.main_arg0)
      ∧ r.2.mem ((c.tc : Thread Cert.SumAttn1.nD Cert.SumAttn1.τ).loc Cert.SumAttn1.main_arg1) = m ((c.tc : Thread Cert.SumAttn1.nD Cert.SumAttn1.τ).loc Cert.SumAttn1.main_arg1)
      ∧ r.2.mem ((c.tc : Thread Cert.SumAttn1.nD Cert.SumAttn1.τ).loc Cert.SumAttn1.main_arg2) = m ((c.tc : Thread Cert.SumAttn1.nD Cert.SumAttn1.τ).loc Cert.SumAttn1.main_arg2))
      ∧ r.2.sem = fun _ => 0)

def quiescent_SumAttn1Ideal [hSumAttn1Ideal : Cert.SumAttn1Ideal.Facts] : Prop :=
  ∀ (m : (ℓ : Loc Cert.SumAttn1Ideal.nD Cert.SumAttn1Ideal.τ Cert.SumAttn1Ideal.sig) → Buf (Elt Ideal) ℓ) (g : Dev Cert.SumAttn1Ideal.nD → PrngReg), Pre_SumAttn1Ideal m →
    θ_run (Cert.SumAttn1Ideal.defs (F := Ideal)) (onTc (τ := Cert.SumAttn1Ideal.τ) (Cert.SumAttn1Ideal.main (F := Ideal))) ⟨m, fun _ => 0, g⟩ (fun r => (∀ c : Dev Cert.SumAttn1Ideal.nD,
      r.2.mem ((c.tc : Thread Cert.SumAttn1Ideal.nD Cert.SumAttn1Ideal.τ).loc Cert.SumAttn1Ideal.main_arg0) = m ((c.tc : Thread Cert.SumAttn1Ideal.nD Cert.SumAttn1Ideal.τ).loc Cert.SumAttn1Ideal.main_arg0)
      ∧ r.2.mem ((c.tc : Thread Cert.SumAttn1Ideal.nD Cert.SumAttn1Ideal.τ).loc Cert.SumAttn1Ideal.main_arg1) = m ((c.tc : Thread Cert.SumAttn1Ideal.nD Cert.SumAttn1Ideal.τ).loc Cert.SumAttn1Ideal.main_arg1)
      ∧ r.2.mem ((c.tc : Thread Cert.SumAttn1Ideal.nD Cert.SumAttn1Ideal.τ).loc Cert.SumAttn1Ideal.main_arg2) = m ((c.tc : Thread Cert.SumAttn1Ideal.nD Cert.SumAttn1Ideal.τ).loc Cert.SumAttn1Ideal.main_arg2))
      ∧ r.2.sem = fun _ => 0)

def quiescent_SumAttn1RefIdeal [hSumAttn1RefIdeal : Cert.SumAttn1RefIdeal.Facts] : Prop :=
  ∀ (m : (ℓ : Loc Cert.SumAttn1RefIdeal.nD Cert.SumAttn1RefIdeal.τ Cert.SumAttn1RefIdeal.sig) → Buf (Elt Ideal) ℓ) (g : Dev Cert.SumAttn1RefIdeal.nD → PrngReg), Pre_SumAttn1RefIdeal m →
    θ_run (Cert.SumAttn1RefIdeal.defs (F := Ideal)) (onTc (τ := Cert.SumAttn1RefIdeal.τ) (Cert.SumAttn1RefIdeal.main (F := Ideal))) ⟨m, fun _ => 0, g⟩ (fun r => (∀ c : Dev Cert.SumAttn1RefIdeal.nD,
      r.2.mem ((c.tc : Thread Cert.SumAttn1RefIdeal.nD Cert.SumAttn1RefIdeal.τ).loc Cert.SumAttn1RefIdeal.main_arg0) = m ((c.tc : Thread Cert.SumAttn1RefIdeal.nD Cert.SumAttn1RefIdeal.τ).loc Cert.SumAttn1RefIdeal.main_arg0)
      ∧ r.2.mem ((c.tc : Thread Cert.SumAttn1RefIdeal.nD Cert.SumAttn1RefIdeal.τ).loc Cert.SumAttn1RefIdeal.main_arg1) = m ((c.tc : Thread Cert.SumAttn1RefIdeal.nD Cert.SumAttn1RefIdeal.τ).loc Cert.SumAttn1RefIdeal.main_arg1)
      ∧ r.2.mem ((c.tc : Thread Cert.SumAttn1RefIdeal.nD Cert.SumAttn1RefIdeal.τ).loc Cert.SumAttn1RefIdeal.main_arg2) = m ((c.tc : Thread Cert.SumAttn1RefIdeal.nD Cert.SumAttn1RefIdeal.τ).loc Cert.SumAttn1RefIdeal.main_arg2))
      ∧ r.2.sem = fun _ => 0)

def quiescent_SumHgrn0 [hSumHgrn0 : Cert.SumHgrn0.Facts] : Prop :=
  ∀ (m : (ℓ : Loc Cert.SumHgrn0.nD Cert.SumHgrn0.τ Cert.SumHgrn0.sig) → Buf (Elt Bits) ℓ) (g : Dev Cert.SumHgrn0.nD → PrngReg), Pre_SumHgrn0 m →
    θ_run (Cert.SumHgrn0.defs (F := Bits)) (onTc (τ := Cert.SumHgrn0.τ) (Cert.SumHgrn0.main (F := Bits))) ⟨m, fun _ => 0, g⟩ (fun r => (∀ c : Dev Cert.SumHgrn0.nD,
      r.2.mem ((c.tc : Thread Cert.SumHgrn0.nD Cert.SumHgrn0.τ).loc Cert.SumHgrn0.main_arg0) = m ((c.tc : Thread Cert.SumHgrn0.nD Cert.SumHgrn0.τ).loc Cert.SumHgrn0.main_arg0)
      ∧ r.2.mem ((c.tc : Thread Cert.SumHgrn0.nD Cert.SumHgrn0.τ).loc Cert.SumHgrn0.main_arg1) = m ((c.tc : Thread Cert.SumHgrn0.nD Cert.SumHgrn0.τ).loc Cert.SumHgrn0.main_arg1)
      ∧ r.2.mem ((c.tc : Thread Cert.SumHgrn0.nD Cert.SumHgrn0.τ).loc Cert.SumHgrn0.main_arg2) = m ((c.tc : Thread Cert.SumHgrn0.nD Cert.SumHgrn0.τ).loc Cert.SumHgrn0.main_arg2))
      ∧ r.2.sem = fun _ => 0)

def quiescent_SumHgrn0Ideal [hSumHgrn0Ideal : Cert.SumHgrn0Ideal.Facts] : Prop :=
  ∀ (m : (ℓ : Loc Cert.SumHgrn0Ideal.nD Cert.SumHgrn0Ideal.τ Cert.SumHgrn0Ideal.sig) → Buf (Elt Ideal) ℓ) (g : Dev Cert.SumHgrn0Ideal.nD → PrngReg), Pre_SumHgrn0Ideal m →
    θ_run (Cert.SumHgrn0Ideal.defs (F := Ideal)) (onTc (τ := Cert.SumHgrn0Ideal.τ) (Cert.SumHgrn0Ideal.main (F := Ideal))) ⟨m, fun _ => 0, g⟩ (fun r => (∀ c : Dev Cert.SumHgrn0Ideal.nD,
      r.2.mem ((c.tc : Thread Cert.SumHgrn0Ideal.nD Cert.SumHgrn0Ideal.τ).loc Cert.SumHgrn0Ideal.main_arg0) = m ((c.tc : Thread Cert.SumHgrn0Ideal.nD Cert.SumHgrn0Ideal.τ).loc Cert.SumHgrn0Ideal.main_arg0)
      ∧ r.2.mem ((c.tc : Thread Cert.SumHgrn0Ideal.nD Cert.SumHgrn0Ideal.τ).loc Cert.SumHgrn0Ideal.main_arg1) = m ((c.tc : Thread Cert.SumHgrn0Ideal.nD Cert.SumHgrn0Ideal.τ).loc Cert.SumHgrn0Ideal.main_arg1)
      ∧ r.2.mem ((c.tc : Thread Cert.SumHgrn0Ideal.nD Cert.SumHgrn0Ideal.τ).loc Cert.SumHgrn0Ideal.main_arg2) = m ((c.tc : Thread Cert.SumHgrn0Ideal.nD Cert.SumHgrn0Ideal.τ).loc Cert.SumHgrn0Ideal.main_arg2))
      ∧ r.2.sem = fun _ => 0)

def quiescent_SumHgrn0RefIdeal [hSumHgrn0RefIdeal : Cert.SumHgrn0RefIdeal.Facts] : Prop :=
  ∀ (m : (ℓ : Loc Cert.SumHgrn0RefIdeal.nD Cert.SumHgrn0RefIdeal.τ Cert.SumHgrn0RefIdeal.sig) → Buf (Elt Ideal) ℓ) (g : Dev Cert.SumHgrn0RefIdeal.nD → PrngReg), Pre_SumHgrn0RefIdeal m →
    θ_run (Cert.SumHgrn0RefIdeal.defs (F := Ideal)) (onTc (τ := Cert.SumHgrn0RefIdeal.τ) (Cert.SumHgrn0RefIdeal.main (F := Ideal))) ⟨m, fun _ => 0, g⟩ (fun r => (∀ c : Dev Cert.SumHgrn0RefIdeal.nD,
      r.2.mem ((c.tc : Thread Cert.SumHgrn0RefIdeal.nD Cert.SumHgrn0RefIdeal.τ).loc Cert.SumHgrn0RefIdeal.main_arg0) = m ((c.tc : Thread Cert.SumHgrn0RefIdeal.nD Cert.SumHgrn0RefIdeal.τ).loc Cert.SumHgrn0RefIdeal.main_arg0)
      ∧ r.2.mem ((c.tc : Thread Cert.SumHgrn0RefIdeal.nD Cert.SumHgrn0RefIdeal.τ).loc Cert.SumHgrn0RefIdeal.main_arg1) = m ((c.tc : Thread Cert.SumHgrn0RefIdeal.nD Cert.SumHgrn0RefIdeal.τ).loc Cert.SumHgrn0RefIdeal.main_arg1)
      ∧ r.2.mem ((c.tc : Thread Cert.SumHgrn0RefIdeal.nD Cert.SumHgrn0RefIdeal.τ).loc Cert.SumHgrn0RefIdeal.main_arg2) = m ((c.tc : Thread Cert.SumHgrn0RefIdeal.nD Cert.SumHgrn0RefIdeal.τ).loc Cert.SumHgrn0RefIdeal.main_arg2))
      ∧ r.2.sem = fun _ => 0)

def quiescent_SumHgrn1 [hSumHgrn1 : Cert.SumHgrn1.Facts] : Prop :=
  ∀ (m : (ℓ : Loc Cert.SumHgrn1.nD Cert.SumHgrn1.τ Cert.SumHgrn1.sig) → Buf (Elt Bits) ℓ) (g : Dev Cert.SumHgrn1.nD → PrngReg), Pre_SumHgrn1 m →
    θ_run (Cert.SumHgrn1.defs (F := Bits)) (onTc (τ := Cert.SumHgrn1.τ) (Cert.SumHgrn1.main (F := Bits))) ⟨m, fun _ => 0, g⟩ (fun r => (∀ c : Dev Cert.SumHgrn1.nD,
      r.2.mem ((c.tc : Thread Cert.SumHgrn1.nD Cert.SumHgrn1.τ).loc Cert.SumHgrn1.main_arg0) = m ((c.tc : Thread Cert.SumHgrn1.nD Cert.SumHgrn1.τ).loc Cert.SumHgrn1.main_arg0)
      ∧ r.2.mem ((c.tc : Thread Cert.SumHgrn1.nD Cert.SumHgrn1.τ).loc Cert.SumHgrn1.main_arg1) = m ((c.tc : Thread Cert.SumHgrn1.nD Cert.SumHgrn1.τ).loc Cert.SumHgrn1.main_arg1)
      ∧ r.2.mem ((c.tc : Thread Cert.SumHgrn1.nD Cert.SumHgrn1.τ).loc Cert.SumHgrn1.main_arg2) = m ((c.tc : Thread Cert.SumHgrn1.nD Cert.SumHgrn1.τ).loc Cert.SumHgrn1.main_arg2))
      ∧ r.2.sem = fun _ => 0)

def quiescent_SumHgrn1Ideal [hSumHgrn1Ideal : Cert.SumHgrn1Ideal.Facts] : Prop :=
  ∀ (m : (ℓ : Loc Cert.SumHgrn1Ideal.nD Cert.SumHgrn1Ideal.τ Cert.SumHgrn1Ideal.sig) → Buf (Elt Ideal) ℓ) (g : Dev Cert.SumHgrn1Ideal.nD → PrngReg), Pre_SumHgrn1Ideal m →
    θ_run (Cert.SumHgrn1Ideal.defs (F := Ideal)) (onTc (τ := Cert.SumHgrn1Ideal.τ) (Cert.SumHgrn1Ideal.main (F := Ideal))) ⟨m, fun _ => 0, g⟩ (fun r => (∀ c : Dev Cert.SumHgrn1Ideal.nD,
      r.2.mem ((c.tc : Thread Cert.SumHgrn1Ideal.nD Cert.SumHgrn1Ideal.τ).loc Cert.SumHgrn1Ideal.main_arg0) = m ((c.tc : Thread Cert.SumHgrn1Ideal.nD Cert.SumHgrn1Ideal.τ).loc Cert.SumHgrn1Ideal.main_arg0)
      ∧ r.2.mem ((c.tc : Thread Cert.SumHgrn1Ideal.nD Cert.SumHgrn1Ideal.τ).loc Cert.SumHgrn1Ideal.main_arg1) = m ((c.tc : Thread Cert.SumHgrn1Ideal.nD Cert.SumHgrn1Ideal.τ).loc Cert.SumHgrn1Ideal.main_arg1)
      ∧ r.2.mem ((c.tc : Thread Cert.SumHgrn1Ideal.nD Cert.SumHgrn1Ideal.τ).loc Cert.SumHgrn1Ideal.main_arg2) = m ((c.tc : Thread Cert.SumHgrn1Ideal.nD Cert.SumHgrn1Ideal.τ).loc Cert.SumHgrn1Ideal.main_arg2))
      ∧ r.2.sem = fun _ => 0)

def quiescent_SumHgrn1RefIdeal [hSumHgrn1RefIdeal : Cert.SumHgrn1RefIdeal.Facts] : Prop :=
  ∀ (m : (ℓ : Loc Cert.SumHgrn1RefIdeal.nD Cert.SumHgrn1RefIdeal.τ Cert.SumHgrn1RefIdeal.sig) → Buf (Elt Ideal) ℓ) (g : Dev Cert.SumHgrn1RefIdeal.nD → PrngReg), Pre_SumHgrn1RefIdeal m →
    θ_run (Cert.SumHgrn1RefIdeal.defs (F := Ideal)) (onTc (τ := Cert.SumHgrn1RefIdeal.τ) (Cert.SumHgrn1RefIdeal.main (F := Ideal))) ⟨m, fun _ => 0, g⟩ (fun r => (∀ c : Dev Cert.SumHgrn1RefIdeal.nD,
      r.2.mem ((c.tc : Thread Cert.SumHgrn1RefIdeal.nD Cert.SumHgrn1RefIdeal.τ).loc Cert.SumHgrn1RefIdeal.main_arg0) = m ((c.tc : Thread Cert.SumHgrn1RefIdeal.nD Cert.SumHgrn1RefIdeal.τ).loc Cert.SumHgrn1RefIdeal.main_arg0)
      ∧ r.2.mem ((c.tc : Thread Cert.SumHgrn1RefIdeal.nD Cert.SumHgrn1RefIdeal.τ).loc Cert.SumHgrn1RefIdeal.main_arg1) = m ((c.tc : Thread Cert.SumHgrn1RefIdeal.nD Cert.SumHgrn1RefIdeal.τ).loc Cert.SumHgrn1RefIdeal.main_arg1)
      ∧ r.2.mem ((c.tc : Thread Cert.SumHgrn1RefIdeal.nD Cert.SumHgrn1RefIdeal.τ).loc Cert.SumHgrn1RefIdeal.main_arg2) = m ((c.tc : Thread Cert.SumHgrn1RefIdeal.nD Cert.SumHgrn1RefIdeal.τ).loc Cert.SumHgrn1RefIdeal.main_arg2))
      ∧ r.2.sem = fun _ => 0)

def quiescent_SumOut0 [hSumOut0 : Cert.SumOut0.Facts] : Prop :=
  ∀ (m : (ℓ : Loc Cert.SumOut0.nD Cert.SumOut0.τ Cert.SumOut0.sig) → Buf (Elt Bits) ℓ) (g : Dev Cert.SumOut0.nD → PrngReg), Pre_SumOut0 m →
    θ_run (Cert.SumOut0.defs (F := Bits)) (onTc (τ := Cert.SumOut0.τ) (Cert.SumOut0.main (F := Bits))) ⟨m, fun _ => 0, g⟩ (fun r => (∀ c : Dev Cert.SumOut0.nD,
      r.2.mem ((c.tc : Thread Cert.SumOut0.nD Cert.SumOut0.τ).loc Cert.SumOut0.main_arg0) = m ((c.tc : Thread Cert.SumOut0.nD Cert.SumOut0.τ).loc Cert.SumOut0.main_arg0)
      ∧ r.2.mem ((c.tc : Thread Cert.SumOut0.nD Cert.SumOut0.τ).loc Cert.SumOut0.main_arg1) = m ((c.tc : Thread Cert.SumOut0.nD Cert.SumOut0.τ).loc Cert.SumOut0.main_arg1)
      ∧ r.2.mem ((c.tc : Thread Cert.SumOut0.nD Cert.SumOut0.τ).loc Cert.SumOut0.main_arg2) = m ((c.tc : Thread Cert.SumOut0.nD Cert.SumOut0.τ).loc Cert.SumOut0.main_arg2))
      ∧ r.2.sem = fun _ => 0)

def quiescent_SumOut0Ideal [hSumOut0Ideal : Cert.SumOut0Ideal.Facts] : Prop :=
  ∀ (m : (ℓ : Loc Cert.SumOut0Ideal.nD Cert.SumOut0Ideal.τ Cert.SumOut0Ideal.sig) → Buf (Elt Ideal) ℓ) (g : Dev Cert.SumOut0Ideal.nD → PrngReg), Pre_SumOut0Ideal m →
    θ_run (Cert.SumOut0Ideal.defs (F := Ideal)) (onTc (τ := Cert.SumOut0Ideal.τ) (Cert.SumOut0Ideal.main (F := Ideal))) ⟨m, fun _ => 0, g⟩ (fun r => (∀ c : Dev Cert.SumOut0Ideal.nD,
      r.2.mem ((c.tc : Thread Cert.SumOut0Ideal.nD Cert.SumOut0Ideal.τ).loc Cert.SumOut0Ideal.main_arg0) = m ((c.tc : Thread Cert.SumOut0Ideal.nD Cert.SumOut0Ideal.τ).loc Cert.SumOut0Ideal.main_arg0)
      ∧ r.2.mem ((c.tc : Thread Cert.SumOut0Ideal.nD Cert.SumOut0Ideal.τ).loc Cert.SumOut0Ideal.main_arg1) = m ((c.tc : Thread Cert.SumOut0Ideal.nD Cert.SumOut0Ideal.τ).loc Cert.SumOut0Ideal.main_arg1)
      ∧ r.2.mem ((c.tc : Thread Cert.SumOut0Ideal.nD Cert.SumOut0Ideal.τ).loc Cert.SumOut0Ideal.main_arg2) = m ((c.tc : Thread Cert.SumOut0Ideal.nD Cert.SumOut0Ideal.τ).loc Cert.SumOut0Ideal.main_arg2))
      ∧ r.2.sem = fun _ => 0)

def quiescent_SumOut0RefIdeal [hSumOut0RefIdeal : Cert.SumOut0RefIdeal.Facts] : Prop :=
  ∀ (m : (ℓ : Loc Cert.SumOut0RefIdeal.nD Cert.SumOut0RefIdeal.τ Cert.SumOut0RefIdeal.sig) → Buf (Elt Ideal) ℓ) (g : Dev Cert.SumOut0RefIdeal.nD → PrngReg), Pre_SumOut0RefIdeal m →
    θ_run (Cert.SumOut0RefIdeal.defs (F := Ideal)) (onTc (τ := Cert.SumOut0RefIdeal.τ) (Cert.SumOut0RefIdeal.main (F := Ideal))) ⟨m, fun _ => 0, g⟩ (fun r => (∀ c : Dev Cert.SumOut0RefIdeal.nD,
      r.2.mem ((c.tc : Thread Cert.SumOut0RefIdeal.nD Cert.SumOut0RefIdeal.τ).loc Cert.SumOut0RefIdeal.main_arg0) = m ((c.tc : Thread Cert.SumOut0RefIdeal.nD Cert.SumOut0RefIdeal.τ).loc Cert.SumOut0RefIdeal.main_arg0)
      ∧ r.2.mem ((c.tc : Thread Cert.SumOut0RefIdeal.nD Cert.SumOut0RefIdeal.τ).loc Cert.SumOut0RefIdeal.main_arg1) = m ((c.tc : Thread Cert.SumOut0RefIdeal.nD Cert.SumOut0RefIdeal.τ).loc Cert.SumOut0RefIdeal.main_arg1)
      ∧ r.2.mem ((c.tc : Thread Cert.SumOut0RefIdeal.nD Cert.SumOut0RefIdeal.τ).loc Cert.SumOut0RefIdeal.main_arg2) = m ((c.tc : Thread Cert.SumOut0RefIdeal.nD Cert.SumOut0RefIdeal.τ).loc Cert.SumOut0RefIdeal.main_arg2))
      ∧ r.2.sem = fun _ => 0)

def quiescent_SumOut1 [hSumOut1 : Cert.SumOut1.Facts] : Prop :=
  ∀ (m : (ℓ : Loc Cert.SumOut1.nD Cert.SumOut1.τ Cert.SumOut1.sig) → Buf (Elt Bits) ℓ) (g : Dev Cert.SumOut1.nD → PrngReg), Pre_SumOut1 m →
    θ_run (Cert.SumOut1.defs (F := Bits)) (onTc (τ := Cert.SumOut1.τ) (Cert.SumOut1.main (F := Bits))) ⟨m, fun _ => 0, g⟩ (fun r => (∀ c : Dev Cert.SumOut1.nD,
      r.2.mem ((c.tc : Thread Cert.SumOut1.nD Cert.SumOut1.τ).loc Cert.SumOut1.main_arg0) = m ((c.tc : Thread Cert.SumOut1.nD Cert.SumOut1.τ).loc Cert.SumOut1.main_arg0)
      ∧ r.2.mem ((c.tc : Thread Cert.SumOut1.nD Cert.SumOut1.τ).loc Cert.SumOut1.main_arg1) = m ((c.tc : Thread Cert.SumOut1.nD Cert.SumOut1.τ).loc Cert.SumOut1.main_arg1)
      ∧ r.2.mem ((c.tc : Thread Cert.SumOut1.nD Cert.SumOut1.τ).loc Cert.SumOut1.main_arg2) = m ((c.tc : Thread Cert.SumOut1.nD Cert.SumOut1.τ).loc Cert.SumOut1.main_arg2))
      ∧ r.2.sem = fun _ => 0)

def quiescent_SumOut1Ideal [hSumOut1Ideal : Cert.SumOut1Ideal.Facts] : Prop :=
  ∀ (m : (ℓ : Loc Cert.SumOut1Ideal.nD Cert.SumOut1Ideal.τ Cert.SumOut1Ideal.sig) → Buf (Elt Ideal) ℓ) (g : Dev Cert.SumOut1Ideal.nD → PrngReg), Pre_SumOut1Ideal m →
    θ_run (Cert.SumOut1Ideal.defs (F := Ideal)) (onTc (τ := Cert.SumOut1Ideal.τ) (Cert.SumOut1Ideal.main (F := Ideal))) ⟨m, fun _ => 0, g⟩ (fun r => (∀ c : Dev Cert.SumOut1Ideal.nD,
      r.2.mem ((c.tc : Thread Cert.SumOut1Ideal.nD Cert.SumOut1Ideal.τ).loc Cert.SumOut1Ideal.main_arg0) = m ((c.tc : Thread Cert.SumOut1Ideal.nD Cert.SumOut1Ideal.τ).loc Cert.SumOut1Ideal.main_arg0)
      ∧ r.2.mem ((c.tc : Thread Cert.SumOut1Ideal.nD Cert.SumOut1Ideal.τ).loc Cert.SumOut1Ideal.main_arg1) = m ((c.tc : Thread Cert.SumOut1Ideal.nD Cert.SumOut1Ideal.τ).loc Cert.SumOut1Ideal.main_arg1)
      ∧ r.2.mem ((c.tc : Thread Cert.SumOut1Ideal.nD Cert.SumOut1Ideal.τ).loc Cert.SumOut1Ideal.main_arg2) = m ((c.tc : Thread Cert.SumOut1Ideal.nD Cert.SumOut1Ideal.τ).loc Cert.SumOut1Ideal.main_arg2))
      ∧ r.2.sem = fun _ => 0)

def quiescent_SumOut1RefIdeal [hSumOut1RefIdeal : Cert.SumOut1RefIdeal.Facts] : Prop :=
  ∀ (m : (ℓ : Loc Cert.SumOut1RefIdeal.nD Cert.SumOut1RefIdeal.τ Cert.SumOut1RefIdeal.sig) → Buf (Elt Ideal) ℓ) (g : Dev Cert.SumOut1RefIdeal.nD → PrngReg), Pre_SumOut1RefIdeal m →
    θ_run (Cert.SumOut1RefIdeal.defs (F := Ideal)) (onTc (τ := Cert.SumOut1RefIdeal.τ) (Cert.SumOut1RefIdeal.main (F := Ideal))) ⟨m, fun _ => 0, g⟩ (fun r => (∀ c : Dev Cert.SumOut1RefIdeal.nD,
      r.2.mem ((c.tc : Thread Cert.SumOut1RefIdeal.nD Cert.SumOut1RefIdeal.τ).loc Cert.SumOut1RefIdeal.main_arg0) = m ((c.tc : Thread Cert.SumOut1RefIdeal.nD Cert.SumOut1RefIdeal.τ).loc Cert.SumOut1RefIdeal.main_arg0)
      ∧ r.2.mem ((c.tc : Thread Cert.SumOut1RefIdeal.nD Cert.SumOut1RefIdeal.τ).loc Cert.SumOut1RefIdeal.main_arg1) = m ((c.tc : Thread Cert.SumOut1RefIdeal.nD Cert.SumOut1RefIdeal.τ).loc Cert.SumOut1RefIdeal.main_arg1)
      ∧ r.2.mem ((c.tc : Thread Cert.SumOut1RefIdeal.nD Cert.SumOut1RefIdeal.τ).loc Cert.SumOut1RefIdeal.main_arg2) = m ((c.tc : Thread Cert.SumOut1RefIdeal.nD Cert.SumOut1RefIdeal.τ).loc Cert.SumOut1RefIdeal.main_arg2))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastAttn [hCastAttn : Cert.CastAttn.Facts] : Prop :=
  ∀ (m : (ℓ : Loc Cert.CastAttn.nD Cert.CastAttn.τ Cert.CastAttn.sig) → Buf (Elt Bits) ℓ) (g : Dev Cert.CastAttn.nD → PrngReg), Pre_CastAttn m →
    θ_run (Cert.CastAttn.defs (F := Bits)) (onTc (τ := Cert.CastAttn.τ) (Cert.CastAttn.main (F := Bits))) ⟨m, fun _ => 0, g⟩ (fun r => (∀ c : Dev Cert.CastAttn.nD,
      r.2.mem ((c.tc : Thread Cert.CastAttn.nD Cert.CastAttn.τ).loc Cert.CastAttn.main_arg0) = m ((c.tc : Thread Cert.CastAttn.nD Cert.CastAttn.τ).loc Cert.CastAttn.main_arg0))
      ∧ r.2.sem = fun _ => 0)

def quiescent_CastAttnIdeal [hCastAttnIdeal : Cert.CastAttnIdeal.Facts] : Prop :=
  ∀ (m : (ℓ : Loc Cert.CastAttnIdeal.nD Cert.CastAttnIdeal.τ Cert.CastAttnIdeal.sig) → Buf (Elt Ideal) ℓ) (g : Dev Cert.CastAttnIdeal.nD → PrngReg), Pre_CastAttnIdeal m →
    θ_run (Cert.CastAttnIdeal.defs (F := Ideal)) (onTc (τ := Cert.CastAttnIdeal.τ) (Cert.CastAttnIdeal.main (F := Ideal))) ⟨m, fun _ => 0, g⟩ (fun r => (∀ c : Dev Cert.CastAttnIdeal.nD,
      r.2.mem ((c.tc : Thread Cert.CastAttnIdeal.nD Cert.CastAttnIdeal.τ).loc Cert.CastAttnIdeal.main_arg0) = m ((c.tc : Thread Cert.CastAttnIdeal.nD Cert.CastAttnIdeal.τ).loc Cert.CastAttnIdeal.main_arg0))
      ∧ r.2.sem = fun _ => 0)

def quiescent_CastAttnRefIdeal [hCastAttnRefIdeal : Cert.CastAttnRefIdeal.Facts] : Prop :=
  ∀ (m : (ℓ : Loc Cert.CastAttnRefIdeal.nD Cert.CastAttnRefIdeal.τ Cert.CastAttnRefIdeal.sig) → Buf (Elt Ideal) ℓ) (g : Dev Cert.CastAttnRefIdeal.nD → PrngReg), Pre_CastAttnRefIdeal m →
    θ_run (Cert.CastAttnRefIdeal.defs (F := Ideal)) (onTc (τ := Cert.CastAttnRefIdeal.τ) (Cert.CastAttnRefIdeal.main (F := Ideal))) ⟨m, fun _ => 0, g⟩ (fun r => (∀ c : Dev Cert.CastAttnRefIdeal.nD,
      r.2.mem ((c.tc : Thread Cert.CastAttnRefIdeal.nD Cert.CastAttnRefIdeal.τ).loc Cert.CastAttnRefIdeal.main_arg0) = m ((c.tc : Thread Cert.CastAttnRefIdeal.nD Cert.CastAttnRefIdeal.τ).loc Cert.CastAttnRefIdeal.main_arg0))
      ∧ r.2.sem = fun _ => 0)

def quiescent_CastHgrn [hCastHgrn : Cert.CastHgrn.Facts] : Prop :=
  ∀ (m : (ℓ : Loc Cert.CastHgrn.nD Cert.CastHgrn.τ Cert.CastHgrn.sig) → Buf (Elt Bits) ℓ) (g : Dev Cert.CastHgrn.nD → PrngReg), Pre_CastHgrn m →
    θ_run (Cert.CastHgrn.defs (F := Bits)) (onTc (τ := Cert.CastHgrn.τ) (Cert.CastHgrn.main (F := Bits))) ⟨m, fun _ => 0, g⟩ (fun r => (∀ c : Dev Cert.CastHgrn.nD,
      r.2.mem ((c.tc : Thread Cert.CastHgrn.nD Cert.CastHgrn.τ).loc Cert.CastHgrn.main_arg0) = m ((c.tc : Thread Cert.CastHgrn.nD Cert.CastHgrn.τ).loc Cert.CastHgrn.main_arg0))
      ∧ r.2.sem = fun _ => 0)

def quiescent_CastHgrnIdeal [hCastHgrnIdeal : Cert.CastHgrnIdeal.Facts] : Prop :=
  ∀ (m : (ℓ : Loc Cert.CastHgrnIdeal.nD Cert.CastHgrnIdeal.τ Cert.CastHgrnIdeal.sig) → Buf (Elt Ideal) ℓ) (g : Dev Cert.CastHgrnIdeal.nD → PrngReg), Pre_CastHgrnIdeal m →
    θ_run (Cert.CastHgrnIdeal.defs (F := Ideal)) (onTc (τ := Cert.CastHgrnIdeal.τ) (Cert.CastHgrnIdeal.main (F := Ideal))) ⟨m, fun _ => 0, g⟩ (fun r => (∀ c : Dev Cert.CastHgrnIdeal.nD,
      r.2.mem ((c.tc : Thread Cert.CastHgrnIdeal.nD Cert.CastHgrnIdeal.τ).loc Cert.CastHgrnIdeal.main_arg0) = m ((c.tc : Thread Cert.CastHgrnIdeal.nD Cert.CastHgrnIdeal.τ).loc Cert.CastHgrnIdeal.main_arg0))
      ∧ r.2.sem = fun _ => 0)

def quiescent_CastHgrnRefIdeal [hCastHgrnRefIdeal : Cert.CastHgrnRefIdeal.Facts] : Prop :=
  ∀ (m : (ℓ : Loc Cert.CastHgrnRefIdeal.nD Cert.CastHgrnRefIdeal.τ Cert.CastHgrnRefIdeal.sig) → Buf (Elt Ideal) ℓ) (g : Dev Cert.CastHgrnRefIdeal.nD → PrngReg), Pre_CastHgrnRefIdeal m →
    θ_run (Cert.CastHgrnRefIdeal.defs (F := Ideal)) (onTc (τ := Cert.CastHgrnRefIdeal.τ) (Cert.CastHgrnRefIdeal.main (F := Ideal))) ⟨m, fun _ => 0, g⟩ (fun r => (∀ c : Dev Cert.CastHgrnRefIdeal.nD,
      r.2.mem ((c.tc : Thread Cert.CastHgrnRefIdeal.nD Cert.CastHgrnRefIdeal.τ).loc Cert.CastHgrnRefIdeal.main_arg0) = m ((c.tc : Thread Cert.CastHgrnRefIdeal.nD Cert.CastHgrnRefIdeal.τ).loc Cert.CastHgrnRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def quiescent_SibIn [hSibIn : Cert.SibIn.Facts] : Prop :=
  ∀ (m : (ℓ : Loc Cert.SibIn.nD Cert.SibIn.τ Cert.SibIn.sig) → Buf (Elt Bits) ℓ) (g : Dev Cert.SibIn.nD → PrngReg), Pre_SibIn m →
    θ_run (Cert.SibIn.defs (F := Bits)) (onTc (τ := Cert.SibIn.τ) (Cert.SibIn.main (F := Bits))) ⟨m, fun _ => 0, g⟩ (fun r => (∀ c : Dev Cert.SibIn.nD,
      r.2.mem ((c.tc : Thread Cert.SibIn.nD Cert.SibIn.τ).loc Cert.SibIn.main_arg0) = m ((c.tc : Thread Cert.SibIn.nD Cert.SibIn.τ).loc Cert.SibIn.main_arg0)
      ∧ r.2.mem ((c.tc : Thread Cert.SibIn.nD Cert.SibIn.τ).loc Cert.SibIn.main_arg1) = m ((c.tc : Thread Cert.SibIn.nD Cert.SibIn.τ).loc Cert.SibIn.main_arg1))
      ∧ r.2.sem = fun _ => 0)

def quiescent_SibInIdeal [hSibInIdeal : Cert.SibInIdeal.Facts] : Prop :=
  ∀ (m : (ℓ : Loc Cert.SibInIdeal.nD Cert.SibInIdeal.τ Cert.SibInIdeal.sig) → Buf (Elt Ideal) ℓ) (g : Dev Cert.SibInIdeal.nD → PrngReg), Pre_SibInIdeal m →
    θ_run (Cert.SibInIdeal.defs (F := Ideal)) (onTc (τ := Cert.SibInIdeal.τ) (Cert.SibInIdeal.main (F := Ideal))) ⟨m, fun _ => 0, g⟩ (fun r => (∀ c : Dev Cert.SibInIdeal.nD,
      r.2.mem ((c.tc : Thread Cert.SibInIdeal.nD Cert.SibInIdeal.τ).loc Cert.SibInIdeal.main_arg0) = m ((c.tc : Thread Cert.SibInIdeal.nD Cert.SibInIdeal.τ).loc Cert.SibInIdeal.main_arg0)
      ∧ r.2.mem ((c.tc : Thread Cert.SibInIdeal.nD Cert.SibInIdeal.τ).loc Cert.SibInIdeal.main_arg1) = m ((c.tc : Thread Cert.SibInIdeal.nD Cert.SibInIdeal.τ).loc Cert.SibInIdeal.main_arg1))
      ∧ r.2.sem = fun _ => 0)

def quiescent_SibInRefIdeal [hSibInRefIdeal : Cert.SibInRefIdeal.Facts] : Prop :=
  ∀ (m : (ℓ : Loc Cert.SibInRefIdeal.nD Cert.SibInRefIdeal.τ Cert.SibInRefIdeal.sig) → Buf (Elt Ideal) ℓ) (g : Dev Cert.SibInRefIdeal.nD → PrngReg), Pre_SibInRefIdeal m →
    θ_run (Cert.SibInRefIdeal.defs (F := Ideal)) (onTc (τ := Cert.SibInRefIdeal.τ) (Cert.SibInRefIdeal.main (F := Ideal))) ⟨m, fun _ => 0, g⟩ (fun r => (∀ c : Dev Cert.SibInRefIdeal.nD,
      r.2.mem ((c.tc : Thread Cert.SibInRefIdeal.nD Cert.SibInRefIdeal.τ).loc Cert.SibInRefIdeal.main_arg0) = m ((c.tc : Thread Cert.SibInRefIdeal.nD Cert.SibInRefIdeal.τ).loc Cert.SibInRefIdeal.main_arg0)
      ∧ r.2.mem ((c.tc : Thread Cert.SibInRefIdeal.nD Cert.SibInRefIdeal.τ).loc Cert.SibInRefIdeal.main_arg1) = m ((c.tc : Thread Cert.SibInRefIdeal.nD Cert.SibInRefIdeal.τ).loc Cert.SibInRefIdeal.main_arg1))
      ∧ r.2.sem = fun _ => 0)

def quiescent_SibAttn [hSibAttn : Cert.SibAttn.Facts] : Prop :=
  ∀ (m : (ℓ : Loc Cert.SibAttn.nD Cert.SibAttn.τ Cert.SibAttn.sig) → Buf (Elt Bits) ℓ) (g : Dev Cert.SibAttn.nD → PrngReg), Pre_SibAttn m →
    θ_run (Cert.SibAttn.defs (F := Bits)) (onTc (τ := Cert.SibAttn.τ) (Cert.SibAttn.main (F := Bits))) ⟨m, fun _ => 0, g⟩ (fun r => (∀ c : Dev Cert.SibAttn.nD,
      r.2.mem ((c.tc : Thread Cert.SibAttn.nD Cert.SibAttn.τ).loc Cert.SibAttn.main_arg0) = m ((c.tc : Thread Cert.SibAttn.nD Cert.SibAttn.τ).loc Cert.SibAttn.main_arg0)
      ∧ r.2.mem ((c.tc : Thread Cert.SibAttn.nD Cert.SibAttn.τ).loc Cert.SibAttn.main_arg1) = m ((c.tc : Thread Cert.SibAttn.nD Cert.SibAttn.τ).loc Cert.SibAttn.main_arg1))
      ∧ r.2.sem = fun _ => 0)

def quiescent_SibAttnIdeal [hSibAttnIdeal : Cert.SibAttnIdeal.Facts] : Prop :=
  ∀ (m : (ℓ : Loc Cert.SibAttnIdeal.nD Cert.SibAttnIdeal.τ Cert.SibAttnIdeal.sig) → Buf (Elt Ideal) ℓ) (g : Dev Cert.SibAttnIdeal.nD → PrngReg), Pre_SibAttnIdeal m →
    θ_run (Cert.SibAttnIdeal.defs (F := Ideal)) (onTc (τ := Cert.SibAttnIdeal.τ) (Cert.SibAttnIdeal.main (F := Ideal))) ⟨m, fun _ => 0, g⟩ (fun r => (∀ c : Dev Cert.SibAttnIdeal.nD,
      r.2.mem ((c.tc : Thread Cert.SibAttnIdeal.nD Cert.SibAttnIdeal.τ).loc Cert.SibAttnIdeal.main_arg0) = m ((c.tc : Thread Cert.SibAttnIdeal.nD Cert.SibAttnIdeal.τ).loc Cert.SibAttnIdeal.main_arg0)
      ∧ r.2.mem ((c.tc : Thread Cert.SibAttnIdeal.nD Cert.SibAttnIdeal.τ).loc Cert.SibAttnIdeal.main_arg1) = m ((c.tc : Thread Cert.SibAttnIdeal.nD Cert.SibAttnIdeal.τ).loc Cert.SibAttnIdeal.main_arg1))
      ∧ r.2.sem = fun _ => 0)

def quiescent_SibAttnRefIdeal [hSibAttnRefIdeal : Cert.SibAttnRefIdeal.Facts] : Prop :=
  ∀ (m : (ℓ : Loc Cert.SibAttnRefIdeal.nD Cert.SibAttnRefIdeal.τ Cert.SibAttnRefIdeal.sig) → Buf (Elt Ideal) ℓ) (g : Dev Cert.SibAttnRefIdeal.nD → PrngReg), Pre_SibAttnRefIdeal m →
    θ_run (Cert.SibAttnRefIdeal.defs (F := Ideal)) (onTc (τ := Cert.SibAttnRefIdeal.τ) (Cert.SibAttnRefIdeal.main (F := Ideal))) ⟨m, fun _ => 0, g⟩ (fun r => (∀ c : Dev Cert.SibAttnRefIdeal.nD,
      r.2.mem ((c.tc : Thread Cert.SibAttnRefIdeal.nD Cert.SibAttnRefIdeal.τ).loc Cert.SibAttnRefIdeal.main_arg0) = m ((c.tc : Thread Cert.SibAttnRefIdeal.nD Cert.SibAttnRefIdeal.τ).loc Cert.SibAttnRefIdeal.main_arg0)
      ∧ r.2.mem ((c.tc : Thread Cert.SibAttnRefIdeal.nD Cert.SibAttnRefIdeal.τ).loc Cert.SibAttnRefIdeal.main_arg1) = m ((c.tc : Thread Cert.SibAttnRefIdeal.nD Cert.SibAttnRefIdeal.τ).loc Cert.SibAttnRefIdeal.main_arg1))
      ∧ r.2.sem = fun _ => 0)

def quiescent_SibHgrn [hSibHgrn : Cert.SibHgrn.Facts] : Prop :=
  ∀ (m : (ℓ : Loc Cert.SibHgrn.nD Cert.SibHgrn.τ Cert.SibHgrn.sig) → Buf (Elt Bits) ℓ) (g : Dev Cert.SibHgrn.nD → PrngReg), Pre_SibHgrn m →
    θ_run (Cert.SibHgrn.defs (F := Bits)) (onTc (τ := Cert.SibHgrn.τ) (Cert.SibHgrn.main (F := Bits))) ⟨m, fun _ => 0, g⟩ (fun r => (∀ c : Dev Cert.SibHgrn.nD,
      r.2.mem ((c.tc : Thread Cert.SibHgrn.nD Cert.SibHgrn.τ).loc Cert.SibHgrn.main_arg0) = m ((c.tc : Thread Cert.SibHgrn.nD Cert.SibHgrn.τ).loc Cert.SibHgrn.main_arg0)
      ∧ r.2.mem ((c.tc : Thread Cert.SibHgrn.nD Cert.SibHgrn.τ).loc Cert.SibHgrn.main_arg1) = m ((c.tc : Thread Cert.SibHgrn.nD Cert.SibHgrn.τ).loc Cert.SibHgrn.main_arg1))
      ∧ r.2.sem = fun _ => 0)

def quiescent_SibHgrnIdeal [hSibHgrnIdeal : Cert.SibHgrnIdeal.Facts] : Prop :=
  ∀ (m : (ℓ : Loc Cert.SibHgrnIdeal.nD Cert.SibHgrnIdeal.τ Cert.SibHgrnIdeal.sig) → Buf (Elt Ideal) ℓ) (g : Dev Cert.SibHgrnIdeal.nD → PrngReg), Pre_SibHgrnIdeal m →
    θ_run (Cert.SibHgrnIdeal.defs (F := Ideal)) (onTc (τ := Cert.SibHgrnIdeal.τ) (Cert.SibHgrnIdeal.main (F := Ideal))) ⟨m, fun _ => 0, g⟩ (fun r => (∀ c : Dev Cert.SibHgrnIdeal.nD,
      r.2.mem ((c.tc : Thread Cert.SibHgrnIdeal.nD Cert.SibHgrnIdeal.τ).loc Cert.SibHgrnIdeal.main_arg0) = m ((c.tc : Thread Cert.SibHgrnIdeal.nD Cert.SibHgrnIdeal.τ).loc Cert.SibHgrnIdeal.main_arg0)
      ∧ r.2.mem ((c.tc : Thread Cert.SibHgrnIdeal.nD Cert.SibHgrnIdeal.τ).loc Cert.SibHgrnIdeal.main_arg1) = m ((c.tc : Thread Cert.SibHgrnIdeal.nD Cert.SibHgrnIdeal.τ).loc Cert.SibHgrnIdeal.main_arg1))
      ∧ r.2.sem = fun _ => 0)

def quiescent_SibHgrnRefIdeal [hSibHgrnRefIdeal : Cert.SibHgrnRefIdeal.Facts] : Prop :=
  ∀ (m : (ℓ : Loc Cert.SibHgrnRefIdeal.nD Cert.SibHgrnRefIdeal.τ Cert.SibHgrnRefIdeal.sig) → Buf (Elt Ideal) ℓ) (g : Dev Cert.SibHgrnRefIdeal.nD → PrngReg), Pre_SibHgrnRefIdeal m →
    θ_run (Cert.SibHgrnRefIdeal.defs (F := Ideal)) (onTc (τ := Cert.SibHgrnRefIdeal.τ) (Cert.SibHgrnRefIdeal.main (F := Ideal))) ⟨m, fun _ => 0, g⟩ (fun r => (∀ c : Dev Cert.SibHgrnRefIdeal.nD,
      r.2.mem ((c.tc : Thread Cert.SibHgrnRefIdeal.nD Cert.SibHgrnRefIdeal.τ).loc Cert.SibHgrnRefIdeal.main_arg0) = m ((c.tc : Thread Cert.SibHgrnRefIdeal.nD Cert.SibHgrnRefIdeal.τ).loc Cert.SibHgrnRefIdeal.main_arg0)
      ∧ r.2.mem ((c.tc : Thread Cert.SibHgrnRefIdeal.nD Cert.SibHgrnRefIdeal.τ).loc Cert.SibHgrnRefIdeal.main_arg1) = m ((c.tc : Thread Cert.SibHgrnRefIdeal.nD Cert.SibHgrnRefIdeal.τ).loc Cert.SibHgrnRefIdeal.main_arg1))
      ∧ r.2.sem = fun _ => 0)

def quiescent_SibOut [hSibOut : Cert.SibOut.Facts] : Prop :=
  ∀ (m : (ℓ : Loc Cert.SibOut.nD Cert.SibOut.τ Cert.SibOut.sig) → Buf (Elt Bits) ℓ) (g : Dev Cert.SibOut.nD → PrngReg), Pre_SibOut m →
    θ_run (Cert.SibOut.defs (F := Bits)) (onTc (τ := Cert.SibOut.τ) (Cert.SibOut.main (F := Bits))) ⟨m, fun _ => 0, g⟩ (fun r => (∀ c : Dev Cert.SibOut.nD,
      r.2.mem ((c.tc : Thread Cert.SibOut.nD Cert.SibOut.τ).loc Cert.SibOut.main_arg0) = m ((c.tc : Thread Cert.SibOut.nD Cert.SibOut.τ).loc Cert.SibOut.main_arg0)
      ∧ r.2.mem ((c.tc : Thread Cert.SibOut.nD Cert.SibOut.τ).loc Cert.SibOut.main_arg1) = m ((c.tc : Thread Cert.SibOut.nD Cert.SibOut.τ).loc Cert.SibOut.main_arg1))
      ∧ r.2.sem = fun _ => 0)

def quiescent_SibOutIdeal [hSibOutIdeal : Cert.SibOutIdeal.Facts] : Prop :=
  ∀ (m : (ℓ : Loc Cert.SibOutIdeal.nD Cert.SibOutIdeal.τ Cert.SibOutIdeal.sig) → Buf (Elt Ideal) ℓ) (g : Dev Cert.SibOutIdeal.nD → PrngReg), Pre_SibOutIdeal m →
    θ_run (Cert.SibOutIdeal.defs (F := Ideal)) (onTc (τ := Cert.SibOutIdeal.τ) (Cert.SibOutIdeal.main (F := Ideal))) ⟨m, fun _ => 0, g⟩ (fun r => (∀ c : Dev Cert.SibOutIdeal.nD,
      r.2.mem ((c.tc : Thread Cert.SibOutIdeal.nD Cert.SibOutIdeal.τ).loc Cert.SibOutIdeal.main_arg0) = m ((c.tc : Thread Cert.SibOutIdeal.nD Cert.SibOutIdeal.τ).loc Cert.SibOutIdeal.main_arg0)
      ∧ r.2.mem ((c.tc : Thread Cert.SibOutIdeal.nD Cert.SibOutIdeal.τ).loc Cert.SibOutIdeal.main_arg1) = m ((c.tc : Thread Cert.SibOutIdeal.nD Cert.SibOutIdeal.τ).loc Cert.SibOutIdeal.main_arg1))
      ∧ r.2.sem = fun _ => 0)

def quiescent_SibOutRefIdeal [hSibOutRefIdeal : Cert.SibOutRefIdeal.Facts] : Prop :=
  ∀ (m : (ℓ : Loc Cert.SibOutRefIdeal.nD Cert.SibOutRefIdeal.τ Cert.SibOutRefIdeal.sig) → Buf (Elt Ideal) ℓ) (g : Dev Cert.SibOutRefIdeal.nD → PrngReg), Pre_SibOutRefIdeal m →
    θ_run (Cert.SibOutRefIdeal.defs (F := Ideal)) (onTc (τ := Cert.SibOutRefIdeal.τ) (Cert.SibOutRefIdeal.main (F := Ideal))) ⟨m, fun _ => 0, g⟩ (fun r => (∀ c : Dev Cert.SibOutRefIdeal.nD,
      r.2.mem ((c.tc : Thread Cert.SibOutRefIdeal.nD Cert.SibOutRefIdeal.τ).loc Cert.SibOutRefIdeal.main_arg0) = m ((c.tc : Thread Cert.SibOutRefIdeal.nD Cert.SibOutRefIdeal.τ).loc Cert.SibOutRefIdeal.main_arg0)
      ∧ r.2.mem ((c.tc : Thread Cert.SibOutRefIdeal.nD Cert.SibOutRefIdeal.τ).loc Cert.SibOutRefIdeal.main_arg1) = m ((c.tc : Thread Cert.SibOutRefIdeal.nD Cert.SibOutRefIdeal.τ).loc Cert.SibOutRefIdeal.main_arg1))
      ∧ r.2.sem = fun _ => 0)

def preserves_WgradOwn_WgradOwnIdeal : Prop :=
  True

def algebraic_WgradOwnIdeal_WgradOwnRefIdeal [hWgradOwnIdeal : Cert.WgradOwnIdeal.Facts] [hWgradOwnRefIdeal : Cert.WgradOwnRefIdeal.Facts] : Prop :=
  ∀ (m : (ℓ : Loc Cert.WgradOwnIdeal.nD Cert.WgradOwnIdeal.τ Cert.WgradOwnIdeal.sig) → Buf (Elt Ideal) ℓ) (g : Dev Cert.WgradOwnIdeal.nD → PrngReg)
    (m' : (ℓ : Loc Cert.WgradOwnRefIdeal.nD Cert.WgradOwnRefIdeal.τ Cert.WgradOwnRefIdeal.sig) → Buf (Elt Ideal) ℓ) (g' : Dev Cert.WgradOwnRefIdeal.nD → PrngReg), Pre_WgradOwnIdeal m →
    (∀ c : Dev Cert.WgradOwnIdeal.nD,
      m' ((c.tc : Thread Cert.WgradOwnRefIdeal.nD Cert.WgradOwnRefIdeal.τ).loc Cert.WgradOwnRefIdeal.main_arg0) = m ((c.tc : Thread Cert.WgradOwnIdeal.nD Cert.WgradOwnIdeal.τ).loc Cert.WgradOwnIdeal.main_arg0)
      ∧ m' ((c.tc : Thread Cert.WgradOwnRefIdeal.nD Cert.WgradOwnRefIdeal.τ).loc Cert.WgradOwnRefIdeal.main_arg1) = m ((c.tc : Thread Cert.WgradOwnIdeal.nD Cert.WgradOwnIdeal.τ).loc Cert.WgradOwnIdeal.main_arg1)
      ∧ m' ((c.tc : Thread Cert.WgradOwnRefIdeal.nD Cert.WgradOwnRefIdeal.τ).loc Cert.WgradOwnRefIdeal.main_arg2) = m ((c.tc : Thread Cert.WgradOwnIdeal.nD Cert.WgradOwnIdeal.τ).loc Cert.WgradOwnIdeal.main_arg2)) →
    ∃ (v0 : (c : Dev Cert.WgradOwnIdeal.nD) → Buf (Elt Ideal) ((c.tc : Thread Cert.WgradOwnIdeal.nD Cert.WgradOwnIdeal.τ).loc Cert.WgradOwnIdeal.main_v1)),
      θ_run (Cert.WgradOwnIdeal.defs (F := Ideal)) (onTc (τ := Cert.WgradOwnIdeal.τ) (Cert.WgradOwnIdeal.main (F := Ideal))) ⟨m, fun _ => 0, g⟩ (fun r => ∀ c : Dev Cert.WgradOwnIdeal.nD,
          r.2.mem ((c.tc : Thread Cert.WgradOwnIdeal.nD Cert.WgradOwnIdeal.τ).loc Cert.WgradOwnIdeal.main_v1) = v0 c
          ∧ r.2.mem ((c.tc : Thread Cert.WgradOwnIdeal.nD Cert.WgradOwnIdeal.τ).loc Cert.WgradOwnIdeal.main_arg0) = m ((c.tc : Thread Cert.WgradOwnIdeal.nD Cert.WgradOwnIdeal.τ).loc Cert.WgradOwnIdeal.main_arg0)
          ∧ r.2.mem ((c.tc : Thread Cert.WgradOwnIdeal.nD Cert.WgradOwnIdeal.τ).loc Cert.WgradOwnIdeal.main_arg1) = m ((c.tc : Thread Cert.WgradOwnIdeal.nD Cert.WgradOwnIdeal.τ).loc Cert.WgradOwnIdeal.main_arg1)
          ∧ r.2.mem ((c.tc : Thread Cert.WgradOwnIdeal.nD Cert.WgradOwnIdeal.τ).loc Cert.WgradOwnIdeal.main_arg2) = m ((c.tc : Thread Cert.WgradOwnIdeal.nD Cert.WgradOwnIdeal.τ).loc Cert.WgradOwnIdeal.main_arg2))
      ∧ θ_run (Cert.WgradOwnRefIdeal.defs (F := Ideal)) (onTc (τ := Cert.WgradOwnRefIdeal.τ) (Cert.WgradOwnRefIdeal.main (F := Ideal))) ⟨m', fun _ => 0, g'⟩ (fun r => ∀ c : Dev Cert.WgradOwnRefIdeal.nD,
          r.2.mem ((c.tc : Thread Cert.WgradOwnRefIdeal.nD Cert.WgradOwnRefIdeal.τ).loc Cert.WgradOwnRefIdeal.main_v17) = v0 c
          ∧ r.2.mem ((c.tc : Thread Cert.WgradOwnRefIdeal.nD Cert.WgradOwnRefIdeal.τ).loc Cert.WgradOwnRefIdeal.main_arg0) = m' ((c.tc : Thread Cert.WgradOwnRefIdeal.nD Cert.WgradOwnRefIdeal.τ).loc Cert.WgradOwnRefIdeal.main_arg0)
          ∧ r.2.mem ((c.tc : Thread Cert.WgradOwnRefIdeal.nD Cert.WgradOwnRefIdeal.τ).loc Cert.WgradOwnRefIdeal.main_arg1) = m' ((c.tc : Thread Cert.WgradOwnRefIdeal.nD Cert.WgradOwnRefIdeal.τ).loc Cert.WgradOwnRefIdeal.main_arg1)
          ∧ r.2.mem ((c.tc : Thread Cert.WgradOwnRefIdeal.nD Cert.WgradOwnRefIdeal.τ).loc Cert.WgradOwnRefIdeal.main_arg2) = m' ((c.tc : Thread Cert.WgradOwnRefIdeal.nD Cert.WgradOwnRefIdeal.τ).loc Cert.WgradOwnRefIdeal.main_arg2))

def preserves_WgradSibling_WgradSiblingIdeal : Prop :=
  True

def algebraic_WgradSiblingIdeal_WgradSiblingRefIdeal [hWgradSiblingIdeal : Cert.WgradSiblingIdeal.Facts] [hWgradSiblingRefIdeal : Cert.WgradSiblingRefIdeal.Facts] : Prop :=
  ∀ (m : (ℓ : Loc Cert.WgradSiblingIdeal.nD Cert.WgradSiblingIdeal.τ Cert.WgradSiblingIdeal.sig) → Buf (Elt Ideal) ℓ) (g : Dev Cert.WgradSiblingIdeal.nD → PrngReg)
    (m' : (ℓ : Loc Cert.WgradSiblingRefIdeal.nD Cert.WgradSiblingRefIdeal.τ Cert.WgradSiblingRefIdeal.sig) → Buf (Elt Ideal) ℓ) (g' : Dev Cert.WgradSiblingRefIdeal.nD → PrngReg), Pre_WgradSiblingIdeal m →
    (∀ c : Dev Cert.WgradSiblingIdeal.nD,
      m' ((c.tc : Thread Cert.WgradSiblingRefIdeal.nD Cert.WgradSiblingRefIdeal.τ).loc Cert.WgradSiblingRefIdeal.main_arg0) = m ((c.tc : Thread Cert.WgradSiblingIdeal.nD Cert.WgradSiblingIdeal.τ).loc Cert.WgradSiblingIdeal.main_arg0)
      ∧ m' ((c.tc : Thread Cert.WgradSiblingRefIdeal.nD Cert.WgradSiblingRefIdeal.τ).loc Cert.WgradSiblingRefIdeal.main_arg1) = m ((c.tc : Thread Cert.WgradSiblingIdeal.nD Cert.WgradSiblingIdeal.τ).loc Cert.WgradSiblingIdeal.main_arg1)) →
    ∃ (v0 : (c : Dev Cert.WgradSiblingIdeal.nD) → Buf (Elt Ideal) ((c.tc : Thread Cert.WgradSiblingIdeal.nD Cert.WgradSiblingIdeal.τ).loc Cert.WgradSiblingIdeal.main_v3)),
      θ_run (Cert.WgradSiblingIdeal.defs (F := Ideal)) (onTc (τ := Cert.WgradSiblingIdeal.τ) (Cert.WgradSiblingIdeal.main (F := Ideal))) ⟨m, fun _ => 0, g⟩ (fun r => ∀ c : Dev Cert.WgradSiblingIdeal.nD,
          r.2.mem ((c.tc : Thread Cert.WgradSiblingIdeal.nD Cert.WgradSiblingIdeal.τ).loc Cert.WgradSiblingIdeal.main_v3) = v0 c
          ∧ r.2.mem ((c.tc : Thread Cert.WgradSiblingIdeal.nD Cert.WgradSiblingIdeal.τ).loc Cert.WgradSiblingIdeal.main_arg0) = m ((c.tc : Thread Cert.WgradSiblingIdeal.nD Cert.WgradSiblingIdeal.τ).loc Cert.WgradSiblingIdeal.main_arg0)
          ∧ r.2.mem ((c.tc : Thread Cert.WgradSiblingIdeal.nD Cert.WgradSiblingIdeal.τ).loc Cert.WgradSiblingIdeal.main_arg1) = m ((c.tc : Thread Cert.WgradSiblingIdeal.nD Cert.WgradSiblingIdeal.τ).loc Cert.WgradSiblingIdeal.main_arg1))
      ∧ θ_run (Cert.WgradSiblingRefIdeal.defs (F := Ideal)) (onTc (τ := Cert.WgradSiblingRefIdeal.τ) (Cert.WgradSiblingRefIdeal.main (F := Ideal))) ⟨m', fun _ => 0, g'⟩ (fun r => ∀ c : Dev Cert.WgradSiblingRefIdeal.nD,
          r.2.mem ((c.tc : Thread Cert.WgradSiblingRefIdeal.nD Cert.WgradSiblingRefIdeal.τ).loc Cert.WgradSiblingRefIdeal.main_v17) = v0 c
          ∧ r.2.mem ((c.tc : Thread Cert.WgradSiblingRefIdeal.nD Cert.WgradSiblingRefIdeal.τ).loc Cert.WgradSiblingRefIdeal.main_arg0) = m' ((c.tc : Thread Cert.WgradSiblingRefIdeal.nD Cert.WgradSiblingRefIdeal.τ).loc Cert.WgradSiblingRefIdeal.main_arg0)
          ∧ r.2.mem ((c.tc : Thread Cert.WgradSiblingRefIdeal.nD Cert.WgradSiblingRefIdeal.τ).loc Cert.WgradSiblingRefIdeal.main_arg1) = m' ((c.tc : Thread Cert.WgradSiblingRefIdeal.nD Cert.WgradSiblingRefIdeal.τ).loc Cert.WgradSiblingRefIdeal.main_arg1))

def preserves_InDgrad_InDgradIdeal : Prop :=
  True

def algebraic_InDgradIdeal_InDgradRefIdeal [hInDgradIdeal : Cert.InDgradIdeal.Facts] [hInDgradRefIdeal : Cert.InDgradRefIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradRefIdeal.nD Cert.InDgradRefIdeal.τ Cert.InDgradRefIdeal.sig) → Buf (Elt Ideal) ℓ) (g' : Dev Cert.InDgradRefIdeal.nD → PrngReg), Pre_InDgradIdeal m →
    (∀ c : Dev Cert.InDgradIdeal.nD,
      m' ((c.tc : Thread Cert.InDgradRefIdeal.nD Cert.InDgradRefIdeal.τ).loc Cert.InDgradRefIdeal.main_arg0) = m ((c.tc : Thread Cert.InDgradIdeal.nD Cert.InDgradIdeal.τ).loc Cert.InDgradIdeal.main_arg0)
      ∧ m' ((c.tc : Thread Cert.InDgradRefIdeal.nD Cert.InDgradRefIdeal.τ).loc Cert.InDgradRefIdeal.main_arg1) = m ((c.tc : Thread Cert.InDgradIdeal.nD Cert.InDgradIdeal.τ).loc Cert.InDgradIdeal.main_arg1)
      ∧ m' ((c.tc : Thread Cert.InDgradRefIdeal.nD Cert.InDgradRefIdeal.τ).loc Cert.InDgradRefIdeal.main_arg2) = m ((c.tc : Thread Cert.InDgradIdeal.nD Cert.InDgradIdeal.τ).loc Cert.InDgradIdeal.main_arg2)) →
    ∃ (v0 : (c : Dev Cert.InDgradIdeal.nD) → Buf (Elt Ideal) ((c.tc : Thread Cert.InDgradIdeal.nD Cert.InDgradIdeal.τ).loc Cert.InDgradIdeal.main_v1)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v1) = v0 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ θ_run (Cert.InDgradRefIdeal.defs (F := Ideal)) (onTc (τ := Cert.InDgradRefIdeal.τ) (Cert.InDgradRefIdeal.main (F := Ideal))) ⟨m', fun _ => 0, g'⟩ (fun r => ∀ c : Dev Cert.InDgradRefIdeal.nD,
          r.2.mem ((c.tc : Thread Cert.InDgradRefIdeal.nD Cert.InDgradRefIdeal.τ).loc Cert.InDgradRefIdeal.main_v4) = v0 c
          ∧ r.2.mem ((c.tc : Thread Cert.InDgradRefIdeal.nD Cert.InDgradRefIdeal.τ).loc Cert.InDgradRefIdeal.main_arg0) = m' ((c.tc : Thread Cert.InDgradRefIdeal.nD Cert.InDgradRefIdeal.τ).loc Cert.InDgradRefIdeal.main_arg0)
          ∧ r.2.mem ((c.tc : Thread Cert.InDgradRefIdeal.nD Cert.InDgradRefIdeal.τ).loc Cert.InDgradRefIdeal.main_arg1) = m' ((c.tc : Thread Cert.InDgradRefIdeal.nD Cert.InDgradRefIdeal.τ).loc Cert.InDgradRefIdeal.main_arg1)
          ∧ r.2.mem ((c.tc : Thread Cert.InDgradRefIdeal.nD Cert.InDgradRefIdeal.τ).loc Cert.InDgradRefIdeal.main_arg2) = m' ((c.tc : Thread Cert.InDgradRefIdeal.nD Cert.InDgradRefIdeal.τ).loc Cert.InDgradRefIdeal.main_arg2))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v6) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_AttnWgrad_AttnWgradIdeal : Prop :=
  True

def algebraic_AttnWgradIdeal_AttnWgradRefIdeal [hAttnWgradIdeal : Cert.AttnWgradIdeal.Facts] [hAttnWgradRefIdeal : Cert.AttnWgradRefIdeal.Facts] : Prop :=
  ∀ (m : (ℓ : Loc Cert.AttnWgradIdeal.nD Cert.AttnWgradIdeal.τ Cert.AttnWgradIdeal.sig) → Buf (Elt Ideal) ℓ) (g : Dev Cert.AttnWgradIdeal.nD → PrngReg)
    (m' : (ℓ : Loc Cert.AttnWgradRefIdeal.nD Cert.AttnWgradRefIdeal.τ Cert.AttnWgradRefIdeal.sig) → Buf (Elt Ideal) ℓ) (g' : Dev Cert.AttnWgradRefIdeal.nD → PrngReg), Pre_AttnWgradIdeal m →
    (∀ c : Dev Cert.AttnWgradIdeal.nD,
      m' ((c.tc : Thread Cert.AttnWgradRefIdeal.nD Cert.AttnWgradRefIdeal.τ).loc Cert.AttnWgradRefIdeal.main_arg0) = m ((c.tc : Thread Cert.AttnWgradIdeal.nD Cert.AttnWgradIdeal.τ).loc Cert.AttnWgradIdeal.main_arg0)
      ∧ m' ((c.tc : Thread Cert.AttnWgradRefIdeal.nD Cert.AttnWgradRefIdeal.τ).loc Cert.AttnWgradRefIdeal.main_arg1) = m ((c.tc : Thread Cert.AttnWgradIdeal.nD Cert.AttnWgradIdeal.τ).loc Cert.AttnWgradIdeal.main_arg1)) →
    ∃ (v0 : (c : Dev Cert.AttnWgradIdeal.nD) → Buf (Elt Ideal) ((c.tc : Thread Cert.AttnWgradIdeal.nD Cert.AttnWgradIdeal.τ).loc Cert.AttnWgradIdeal.main_v0)),
      θ_run (Cert.AttnWgradIdeal.defs (F := Ideal)) (onTc (τ := Cert.AttnWgradIdeal.τ) (Cert.AttnWgradIdeal.main (F := Ideal))) ⟨m, fun _ => 0, g⟩ (fun r => ∀ c : Dev Cert.AttnWgradIdeal.nD,
          r.2.mem ((c.tc : Thread Cert.AttnWgradIdeal.nD Cert.AttnWgradIdeal.τ).loc Cert.AttnWgradIdeal.main_v0) = v0 c
          ∧ r.2.mem ((c.tc : Thread Cert.AttnWgradIdeal.nD Cert.AttnWgradIdeal.τ).loc Cert.AttnWgradIdeal.main_arg0) = m ((c.tc : Thread Cert.AttnWgradIdeal.nD Cert.AttnWgradIdeal.τ).loc Cert.AttnWgradIdeal.main_arg0)
          ∧ r.2.mem ((c.tc : Thread Cert.AttnWgradIdeal.nD Cert.AttnWgradIdeal.τ).loc Cert.AttnWgradIdeal.main_arg1) = m ((c.tc : Thread Cert.AttnWgradIdeal.nD Cert.AttnWgradIdeal.τ).loc Cert.AttnWgradIdeal.main_arg1))
      ∧ θ_run (Cert.AttnWgradRefIdeal.defs (F := Ideal)) (onTc (τ := Cert.AttnWgradRefIdeal.τ) (Cert.AttnWgradRefIdeal.main (F := Ideal))) ⟨m', fun _ => 0, g'⟩ (fun r => ∀ c : Dev Cert.AttnWgradRefIdeal.nD,
          r.2.mem ((c.tc : Thread Cert.AttnWgradRefIdeal.nD Cert.AttnWgradRefIdeal.τ).loc Cert.AttnWgradRefIdeal.main_v15) = v0 c
          ∧ r.2.mem ((c.tc : Thread Cert.AttnWgradRefIdeal.nD Cert.AttnWgradRefIdeal.τ).loc Cert.AttnWgradRefIdeal.main_arg0) = m' ((c.tc : Thread Cert.AttnWgradRefIdeal.nD Cert.AttnWgradRefIdeal.τ).loc Cert.AttnWgradRefIdeal.main_arg0)
          ∧ r.2.mem ((c.tc : Thread Cert.AttnWgradRefIdeal.nD Cert.AttnWgradRefIdeal.τ).loc Cert.AttnWgradRefIdeal.main_arg1) = m' ((c.tc : Thread Cert.AttnWgradRefIdeal.nD Cert.AttnWgradRefIdeal.τ).loc Cert.AttnWgradRefIdeal.main_arg1))

def preserves_HgrnWgrad_HgrnWgradIdeal : Prop :=
  True

def algebraic_HgrnWgradIdeal_HgrnWgradRefIdeal [hHgrnWgradIdeal : Cert.HgrnWgradIdeal.Facts] [hHgrnWgradRefIdeal : Cert.HgrnWgradRefIdeal.Facts] : Prop :=
  ∀ (m : (ℓ : Loc Cert.HgrnWgradIdeal.nD Cert.HgrnWgradIdeal.τ Cert.HgrnWgradIdeal.sig) → Buf (Elt Ideal) ℓ) (g : Dev Cert.HgrnWgradIdeal.nD → PrngReg)
    (m' : (ℓ : Loc Cert.HgrnWgradRefIdeal.nD Cert.HgrnWgradRefIdeal.τ Cert.HgrnWgradRefIdeal.sig) → Buf (Elt Ideal) ℓ) (g' : Dev Cert.HgrnWgradRefIdeal.nD → PrngReg), Pre_HgrnWgradIdeal m →
    (∀ c : Dev Cert.HgrnWgradIdeal.nD,
      m' ((c.tc : Thread Cert.HgrnWgradRefIdeal.nD Cert.HgrnWgradRefIdeal.τ).loc Cert.HgrnWgradRefIdeal.main_arg0) = m ((c.tc : Thread Cert.HgrnWgradIdeal.nD Cert.HgrnWgradIdeal.τ).loc Cert.HgrnWgradIdeal.main_arg0)
      ∧ m' ((c.tc : Thread Cert.HgrnWgradRefIdeal.nD Cert.HgrnWgradRefIdeal.τ).loc Cert.HgrnWgradRefIdeal.main_arg1) = m ((c.tc : Thread Cert.HgrnWgradIdeal.nD Cert.HgrnWgradIdeal.τ).loc Cert.HgrnWgradIdeal.main_arg1)) →
    ∃ (v0 : (c : Dev Cert.HgrnWgradIdeal.nD) → Buf (Elt Ideal) ((c.tc : Thread Cert.HgrnWgradIdeal.nD Cert.HgrnWgradIdeal.τ).loc Cert.HgrnWgradIdeal.main_v0)),
      θ_run (Cert.HgrnWgradIdeal.defs (F := Ideal)) (onTc (τ := Cert.HgrnWgradIdeal.τ) (Cert.HgrnWgradIdeal.main (F := Ideal))) ⟨m, fun _ => 0, g⟩ (fun r => ∀ c : Dev Cert.HgrnWgradIdeal.nD,
          r.2.mem ((c.tc : Thread Cert.HgrnWgradIdeal.nD Cert.HgrnWgradIdeal.τ).loc Cert.HgrnWgradIdeal.main_v0) = v0 c
          ∧ r.2.mem ((c.tc : Thread Cert.HgrnWgradIdeal.nD Cert.HgrnWgradIdeal.τ).loc Cert.HgrnWgradIdeal.main_arg0) = m ((c.tc : Thread Cert.HgrnWgradIdeal.nD Cert.HgrnWgradIdeal.τ).loc Cert.HgrnWgradIdeal.main_arg0)
          ∧ r.2.mem ((c.tc : Thread Cert.HgrnWgradIdeal.nD Cert.HgrnWgradIdeal.τ).loc Cert.HgrnWgradIdeal.main_arg1) = m ((c.tc : Thread Cert.HgrnWgradIdeal.nD Cert.HgrnWgradIdeal.τ).loc Cert.HgrnWgradIdeal.main_arg1))
      ∧ θ_run (Cert.HgrnWgradRefIdeal.defs (F := Ideal)) (onTc (τ := Cert.HgrnWgradRefIdeal.τ) (Cert.HgrnWgradRefIdeal.main (F := Ideal))) ⟨m', fun _ => 0, g'⟩ (fun r => ∀ c : Dev Cert.HgrnWgradRefIdeal.nD,
          r.2.mem ((c.tc : Thread Cert.HgrnWgradRefIdeal.nD Cert.HgrnWgradRefIdeal.τ).loc Cert.HgrnWgradRefIdeal.main_v15) = v0 c
          ∧ r.2.mem ((c.tc : Thread Cert.HgrnWgradRefIdeal.nD Cert.HgrnWgradRefIdeal.τ).loc Cert.HgrnWgradRefIdeal.main_arg0) = m' ((c.tc : Thread Cert.HgrnWgradRefIdeal.nD Cert.HgrnWgradRefIdeal.τ).loc Cert.HgrnWgradRefIdeal.main_arg0)
          ∧ r.2.mem ((c.tc : Thread Cert.HgrnWgradRefIdeal.nD Cert.HgrnWgradRefIdeal.τ).loc Cert.HgrnWgradRefIdeal.main_arg1) = m' ((c.tc : Thread Cert.HgrnWgradRefIdeal.nD Cert.HgrnWgradRefIdeal.τ).loc Cert.HgrnWgradRefIdeal.main_arg1))

def preserves_AttnDgrad_AttnDgradIdeal : Prop :=
  True

def algebraic_AttnDgradIdeal_AttnDgradRefIdeal [hAttnDgradIdeal : Cert.AttnDgradIdeal.Facts] [hAttnDgradRefIdeal : Cert.AttnDgradRefIdeal.Facts] : Prop :=
  ∀ (m : (ℓ : Loc Cert.AttnDgradIdeal.nD Cert.AttnDgradIdeal.τ Cert.AttnDgradIdeal.sig) → Buf (Elt Ideal) ℓ) (g : Dev Cert.AttnDgradIdeal.nD → PrngReg)
    (m' : (ℓ : Loc Cert.AttnDgradRefIdeal.nD Cert.AttnDgradRefIdeal.τ Cert.AttnDgradRefIdeal.sig) → Buf (Elt Ideal) ℓ) (g' : Dev Cert.AttnDgradRefIdeal.nD → PrngReg), Pre_AttnDgradIdeal m →
    (∀ c : Dev Cert.AttnDgradIdeal.nD,
      m' ((c.tc : Thread Cert.AttnDgradRefIdeal.nD Cert.AttnDgradRefIdeal.τ).loc Cert.AttnDgradRefIdeal.main_arg0) = m ((c.tc : Thread Cert.AttnDgradIdeal.nD Cert.AttnDgradIdeal.τ).loc Cert.AttnDgradIdeal.main_arg0)
      ∧ m' ((c.tc : Thread Cert.AttnDgradRefIdeal.nD Cert.AttnDgradRefIdeal.τ).loc Cert.AttnDgradRefIdeal.main_arg1) = m ((c.tc : Thread Cert.AttnDgradIdeal.nD Cert.AttnDgradIdeal.τ).loc Cert.AttnDgradIdeal.main_arg1)
      ∧ m' ((c.tc : Thread Cert.AttnDgradRefIdeal.nD Cert.AttnDgradRefIdeal.τ).loc Cert.AttnDgradRefIdeal.main_arg2) = m ((c.tc : Thread Cert.AttnDgradIdeal.nD Cert.AttnDgradIdeal.τ).loc Cert.AttnDgradIdeal.main_arg2)) →
    ∃ (v0 : (c : Dev Cert.AttnDgradIdeal.nD) → Buf (Elt Ideal) ((c.tc : Thread Cert.AttnDgradIdeal.nD Cert.AttnDgradIdeal.τ).loc Cert.AttnDgradIdeal.main_v1)),
      θ_run (Cert.AttnDgradIdeal.defs (F := Ideal)) (onTc (τ := Cert.AttnDgradIdeal.τ) (Cert.AttnDgradIdeal.main (F := Ideal))) ⟨m, fun _ => 0, g⟩ (fun r => ∀ c : Dev Cert.AttnDgradIdeal.nD,
          r.2.mem ((c.tc : Thread Cert.AttnDgradIdeal.nD Cert.AttnDgradIdeal.τ).loc Cert.AttnDgradIdeal.main_v1) = v0 c
          ∧ r.2.mem ((c.tc : Thread Cert.AttnDgradIdeal.nD Cert.AttnDgradIdeal.τ).loc Cert.AttnDgradIdeal.main_arg0) = m ((c.tc : Thread Cert.AttnDgradIdeal.nD Cert.AttnDgradIdeal.τ).loc Cert.AttnDgradIdeal.main_arg0)
          ∧ r.2.mem ((c.tc : Thread Cert.AttnDgradIdeal.nD Cert.AttnDgradIdeal.τ).loc Cert.AttnDgradIdeal.main_arg1) = m ((c.tc : Thread Cert.AttnDgradIdeal.nD Cert.AttnDgradIdeal.τ).loc Cert.AttnDgradIdeal.main_arg1)
          ∧ r.2.mem ((c.tc : Thread Cert.AttnDgradIdeal.nD Cert.AttnDgradIdeal.τ).loc Cert.AttnDgradIdeal.main_arg2) = m ((c.tc : Thread Cert.AttnDgradIdeal.nD Cert.AttnDgradIdeal.τ).loc Cert.AttnDgradIdeal.main_arg2))
      ∧ θ_run (Cert.AttnDgradRefIdeal.defs (F := Ideal)) (onTc (τ := Cert.AttnDgradRefIdeal.τ) (Cert.AttnDgradRefIdeal.main (F := Ideal))) ⟨m', fun _ => 0, g'⟩ (fun r => ∀ c : Dev Cert.AttnDgradRefIdeal.nD,
          r.2.mem ((c.tc : Thread Cert.AttnDgradRefIdeal.nD Cert.AttnDgradRefIdeal.τ).loc Cert.AttnDgradRefIdeal.main_v4) = v0 c
          ∧ r.2.mem ((c.tc : Thread Cert.AttnDgradRefIdeal.nD Cert.AttnDgradRefIdeal.τ).loc Cert.AttnDgradRefIdeal.main_arg0) = m' ((c.tc : Thread Cert.AttnDgradRefIdeal.nD Cert.AttnDgradRefIdeal.τ).loc Cert.AttnDgradRefIdeal.main_arg0)
          ∧ r.2.mem ((c.tc : Thread Cert.AttnDgradRefIdeal.nD Cert.AttnDgradRefIdeal.τ).loc Cert.AttnDgradRefIdeal.main_arg1) = m' ((c.tc : Thread Cert.AttnDgradRefIdeal.nD Cert.AttnDgradRefIdeal.τ).loc Cert.AttnDgradRefIdeal.main_arg1)
          ∧ r.2.mem ((c.tc : Thread Cert.AttnDgradRefIdeal.nD Cert.AttnDgradRefIdeal.τ).loc Cert.AttnDgradRefIdeal.main_arg2) = m' ((c.tc : Thread Cert.AttnDgradRefIdeal.nD Cert.AttnDgradRefIdeal.τ).loc Cert.AttnDgradRefIdeal.main_arg2))

def preserves_HgrnDgrad_HgrnDgradIdeal : Prop :=
  True

def algebraic_HgrnDgradIdeal_HgrnDgradRefIdeal [hHgrnDgradIdeal : Cert.HgrnDgradIdeal.Facts] [hHgrnDgradRefIdeal : Cert.HgrnDgradRefIdeal.Facts] : Prop :=
  ∀ (m : (ℓ : Loc Cert.HgrnDgradIdeal.nD Cert.HgrnDgradIdeal.τ Cert.HgrnDgradIdeal.sig) → Buf (Elt Ideal) ℓ) (g : Dev Cert.HgrnDgradIdeal.nD → PrngReg)
    (m' : (ℓ : Loc Cert.HgrnDgradRefIdeal.nD Cert.HgrnDgradRefIdeal.τ Cert.HgrnDgradRefIdeal.sig) → Buf (Elt Ideal) ℓ) (g' : Dev Cert.HgrnDgradRefIdeal.nD → PrngReg), Pre_HgrnDgradIdeal m →
    (∀ c : Dev Cert.HgrnDgradIdeal.nD,
      m' ((c.tc : Thread Cert.HgrnDgradRefIdeal.nD Cert.HgrnDgradRefIdeal.τ).loc Cert.HgrnDgradRefIdeal.main_arg0) = m ((c.tc : Thread Cert.HgrnDgradIdeal.nD Cert.HgrnDgradIdeal.τ).loc Cert.HgrnDgradIdeal.main_arg0)
      ∧ m' ((c.tc : Thread Cert.HgrnDgradRefIdeal.nD Cert.HgrnDgradRefIdeal.τ).loc Cert.HgrnDgradRefIdeal.main_arg1) = m ((c.tc : Thread Cert.HgrnDgradIdeal.nD Cert.HgrnDgradIdeal.τ).loc Cert.HgrnDgradIdeal.main_arg1)
      ∧ m' ((c.tc : Thread Cert.HgrnDgradRefIdeal.nD Cert.HgrnDgradRefIdeal.τ).loc Cert.HgrnDgradRefIdeal.main_arg2) = m ((c.tc : Thread Cert.HgrnDgradIdeal.nD Cert.HgrnDgradIdeal.τ).loc Cert.HgrnDgradIdeal.main_arg2)) →
    ∃ (v0 : (c : Dev Cert.HgrnDgradIdeal.nD) → Buf (Elt Ideal) ((c.tc : Thread Cert.HgrnDgradIdeal.nD Cert.HgrnDgradIdeal.τ).loc Cert.HgrnDgradIdeal.main_v1)),
      θ_run (Cert.HgrnDgradIdeal.defs (F := Ideal)) (onTc (τ := Cert.HgrnDgradIdeal.τ) (Cert.HgrnDgradIdeal.main (F := Ideal))) ⟨m, fun _ => 0, g⟩ (fun r => ∀ c : Dev Cert.HgrnDgradIdeal.nD,
          r.2.mem ((c.tc : Thread Cert.HgrnDgradIdeal.nD Cert.HgrnDgradIdeal.τ).loc Cert.HgrnDgradIdeal.main_v1) = v0 c
          ∧ r.2.mem ((c.tc : Thread Cert.HgrnDgradIdeal.nD Cert.HgrnDgradIdeal.τ).loc Cert.HgrnDgradIdeal.main_arg0) = m ((c.tc : Thread Cert.HgrnDgradIdeal.nD Cert.HgrnDgradIdeal.τ).loc Cert.HgrnDgradIdeal.main_arg0)
          ∧ r.2.mem ((c.tc : Thread Cert.HgrnDgradIdeal.nD Cert.HgrnDgradIdeal.τ).loc Cert.HgrnDgradIdeal.main_arg1) = m ((c.tc : Thread Cert.HgrnDgradIdeal.nD Cert.HgrnDgradIdeal.τ).loc Cert.HgrnDgradIdeal.main_arg1)
          ∧ r.2.mem ((c.tc : Thread Cert.HgrnDgradIdeal.nD Cert.HgrnDgradIdeal.τ).loc Cert.HgrnDgradIdeal.main_arg2) = m ((c.tc : Thread Cert.HgrnDgradIdeal.nD Cert.HgrnDgradIdeal.τ).loc Cert.HgrnDgradIdeal.main_arg2))
      ∧ θ_run (Cert.HgrnDgradRefIdeal.defs (F := Ideal)) (onTc (τ := Cert.HgrnDgradRefIdeal.τ) (Cert.HgrnDgradRefIdeal.main (F := Ideal))) ⟨m', fun _ => 0, g'⟩ (fun r => ∀ c : Dev Cert.HgrnDgradRefIdeal.nD,
          r.2.mem ((c.tc : Thread Cert.HgrnDgradRefIdeal.nD Cert.HgrnDgradRefIdeal.τ).loc Cert.HgrnDgradRefIdeal.main_v4) = v0 c
          ∧ r.2.mem ((c.tc : Thread Cert.HgrnDgradRefIdeal.nD Cert.HgrnDgradRefIdeal.τ).loc Cert.HgrnDgradRefIdeal.main_arg0) = m' ((c.tc : Thread Cert.HgrnDgradRefIdeal.nD Cert.HgrnDgradRefIdeal.τ).loc Cert.HgrnDgradRefIdeal.main_arg0)
          ∧ r.2.mem ((c.tc : Thread Cert.HgrnDgradRefIdeal.nD Cert.HgrnDgradRefIdeal.τ).loc Cert.HgrnDgradRefIdeal.main_arg1) = m' ((c.tc : Thread Cert.HgrnDgradRefIdeal.nD Cert.HgrnDgradRefIdeal.τ).loc Cert.HgrnDgradRefIdeal.main_arg1)
          ∧ r.2.mem ((c.tc : Thread Cert.HgrnDgradRefIdeal.nD Cert.HgrnDgradRefIdeal.τ).loc Cert.HgrnDgradRefIdeal.main_arg2) = m' ((c.tc : Thread Cert.HgrnDgradRefIdeal.nD Cert.HgrnDgradRefIdeal.τ).loc Cert.HgrnDgradRefIdeal.main_arg2))

def preserves_InProjOwn_InProjOwnIdeal : Prop :=
  True

def algebraic_InProjOwnIdeal_InProjOwnRefIdeal [hInProjOwnIdeal : Cert.InProjOwnIdeal.Facts] [hInProjOwnRefIdeal : Cert.InProjOwnRefIdeal.Facts] : Prop :=
  ∀ (m : (ℓ : Loc Cert.InProjOwnIdeal.nD Cert.InProjOwnIdeal.τ Cert.InProjOwnIdeal.sig) → Buf (Elt Ideal) ℓ) (g : Dev Cert.InProjOwnIdeal.nD → PrngReg)
    (m' : (ℓ : Loc Cert.InProjOwnRefIdeal.nD Cert.InProjOwnRefIdeal.τ Cert.InProjOwnRefIdeal.sig) → Buf (Elt Ideal) ℓ) (g' : Dev Cert.InProjOwnRefIdeal.nD → PrngReg), Pre_InProjOwnIdeal m →
    (∀ c : Dev Cert.InProjOwnIdeal.nD,
      m' ((c.tc : Thread Cert.InProjOwnRefIdeal.nD Cert.InProjOwnRefIdeal.τ).loc Cert.InProjOwnRefIdeal.main_arg0) = m ((c.tc : Thread Cert.InProjOwnIdeal.nD Cert.InProjOwnIdeal.τ).loc Cert.InProjOwnIdeal.main_arg0)
      ∧ m' ((c.tc : Thread Cert.InProjOwnRefIdeal.nD Cert.InProjOwnRefIdeal.τ).loc Cert.InProjOwnRefIdeal.main_arg1) = m ((c.tc : Thread Cert.InProjOwnIdeal.nD Cert.InProjOwnIdeal.τ).loc Cert.InProjOwnIdeal.main_arg1)
      ∧ m' ((c.tc : Thread Cert.InProjOwnRefIdeal.nD Cert.InProjOwnRefIdeal.τ).loc Cert.InProjOwnRefIdeal.main_arg2) = m ((c.tc : Thread Cert.InProjOwnIdeal.nD Cert.InProjOwnIdeal.τ).loc Cert.InProjOwnIdeal.main_arg2)) →
    ∃ (v0 : (c : Dev Cert.InProjOwnIdeal.nD) → Buf (Elt Ideal) ((c.tc : Thread Cert.InProjOwnIdeal.nD Cert.InProjOwnIdeal.τ).loc Cert.InProjOwnIdeal.main_v5)),
      θ_run (Cert.InProjOwnIdeal.defs (F := Ideal)) (onTc (τ := Cert.InProjOwnIdeal.τ) (Cert.InProjOwnIdeal.main (F := Ideal))) ⟨m, fun _ => 0, g⟩ (fun r => ∀ c : Dev Cert.InProjOwnIdeal.nD,
          r.2.mem ((c.tc : Thread Cert.InProjOwnIdeal.nD Cert.InProjOwnIdeal.τ).loc Cert.InProjOwnIdeal.main_v5) = v0 c
          ∧ r.2.mem ((c.tc : Thread Cert.InProjOwnIdeal.nD Cert.InProjOwnIdeal.τ).loc Cert.InProjOwnIdeal.main_arg0) = m ((c.tc : Thread Cert.InProjOwnIdeal.nD Cert.InProjOwnIdeal.τ).loc Cert.InProjOwnIdeal.main_arg0)
          ∧ r.2.mem ((c.tc : Thread Cert.InProjOwnIdeal.nD Cert.InProjOwnIdeal.τ).loc Cert.InProjOwnIdeal.main_arg1) = m ((c.tc : Thread Cert.InProjOwnIdeal.nD Cert.InProjOwnIdeal.τ).loc Cert.InProjOwnIdeal.main_arg1)
          ∧ r.2.mem ((c.tc : Thread Cert.InProjOwnIdeal.nD Cert.InProjOwnIdeal.τ).loc Cert.InProjOwnIdeal.main_arg2) = m ((c.tc : Thread Cert.InProjOwnIdeal.nD Cert.InProjOwnIdeal.τ).loc Cert.InProjOwnIdeal.main_arg2))
      ∧ θ_run (Cert.InProjOwnRefIdeal.defs (F := Ideal)) (onTc (τ := Cert.InProjOwnRefIdeal.τ) (Cert.InProjOwnRefIdeal.main (F := Ideal))) ⟨m', fun _ => 0, g'⟩ (fun r => ∀ c : Dev Cert.InProjOwnRefIdeal.nD,
          r.2.mem ((c.tc : Thread Cert.InProjOwnRefIdeal.nD Cert.InProjOwnRefIdeal.τ).loc Cert.InProjOwnRefIdeal.main_v2) = v0 c
          ∧ r.2.mem ((c.tc : Thread Cert.InProjOwnRefIdeal.nD Cert.InProjOwnRefIdeal.τ).loc Cert.InProjOwnRefIdeal.main_arg0) = m' ((c.tc : Thread Cert.InProjOwnRefIdeal.nD Cert.InProjOwnRefIdeal.τ).loc Cert.InProjOwnRefIdeal.main_arg0)
          ∧ r.2.mem ((c.tc : Thread Cert.InProjOwnRefIdeal.nD Cert.InProjOwnRefIdeal.τ).loc Cert.InProjOwnRefIdeal.main_arg1) = m' ((c.tc : Thread Cert.InProjOwnRefIdeal.nD Cert.InProjOwnRefIdeal.τ).loc Cert.InProjOwnRefIdeal.main_arg1)
          ∧ r.2.mem ((c.tc : Thread Cert.InProjOwnRefIdeal.nD Cert.InProjOwnRefIdeal.τ).loc Cert.InProjOwnRefIdeal.main_arg2) = m' ((c.tc : Thread Cert.InProjOwnRefIdeal.nD Cert.InProjOwnRefIdeal.τ).loc Cert.InProjOwnRefIdeal.main_arg2))

def preserves_InProjPeer0_InProjPeer0Ideal : Prop :=
  True

def algebraic_InProjPeer0Ideal_InProjPeer0RefIdeal [hInProjPeer0Ideal : Cert.InProjPeer0Ideal.Facts] [hInProjPeer0RefIdeal : Cert.InProjPeer0RefIdeal.Facts] : Prop :=
  ∀ (m : (ℓ : Loc Cert.InProjPeer0Ideal.nD Cert.InProjPeer0Ideal.τ Cert.InProjPeer0Ideal.sig) → Buf (Elt Ideal) ℓ) (g : Dev Cert.InProjPeer0Ideal.nD → PrngReg)
    (m' : (ℓ : Loc Cert.InProjPeer0RefIdeal.nD Cert.InProjPeer0RefIdeal.τ Cert.InProjPeer0RefIdeal.sig) → Buf (Elt Ideal) ℓ) (g' : Dev Cert.InProjPeer0RefIdeal.nD → PrngReg), Pre_InProjPeer0Ideal m →
    (∀ c : Dev Cert.InProjPeer0Ideal.nD,
      m' ((c.tc : Thread Cert.InProjPeer0RefIdeal.nD Cert.InProjPeer0RefIdeal.τ).loc Cert.InProjPeer0RefIdeal.main_arg0) = m ((c.tc : Thread Cert.InProjPeer0Ideal.nD Cert.InProjPeer0Ideal.τ).loc Cert.InProjPeer0Ideal.main_arg0)
      ∧ m' ((c.tc : Thread Cert.InProjPeer0RefIdeal.nD Cert.InProjPeer0RefIdeal.τ).loc Cert.InProjPeer0RefIdeal.main_arg1) = m ((c.tc : Thread Cert.InProjPeer0Ideal.nD Cert.InProjPeer0Ideal.τ).loc Cert.InProjPeer0Ideal.main_arg1)
      ∧ m' ((c.tc : Thread Cert.InProjPeer0RefIdeal.nD Cert.InProjPeer0RefIdeal.τ).loc Cert.InProjPeer0RefIdeal.main_arg2) = m ((c.tc : Thread Cert.InProjPeer0Ideal.nD Cert.InProjPeer0Ideal.τ).loc Cert.InProjPeer0Ideal.main_arg2)
      ∧ m' ((c.tc : Thread Cert.InProjPeer0RefIdeal.nD Cert.InProjPeer0RefIdeal.τ).loc Cert.InProjPeer0RefIdeal.main_arg3) = m ((c.tc : Thread Cert.InProjPeer0Ideal.nD Cert.InProjPeer0Ideal.τ).loc Cert.InProjPeer0Ideal.main_arg3)) →
    ∃ (v0 : (c : Dev Cert.InProjPeer0Ideal.nD) → Buf (Elt Ideal) ((c.tc : Thread Cert.InProjPeer0Ideal.nD Cert.InProjPeer0Ideal.τ).loc Cert.InProjPeer0Ideal.main_v5)),
      θ_run (Cert.InProjPeer0Ideal.defs (F := Ideal)) (onTc (τ := Cert.InProjPeer0Ideal.τ) (Cert.InProjPeer0Ideal.main (F := Ideal))) ⟨m, fun _ => 0, g⟩ (fun r => ∀ c : Dev Cert.InProjPeer0Ideal.nD,
          r.2.mem ((c.tc : Thread Cert.InProjPeer0Ideal.nD Cert.InProjPeer0Ideal.τ).loc Cert.InProjPeer0Ideal.main_v5) = v0 c
          ∧ r.2.mem ((c.tc : Thread Cert.InProjPeer0Ideal.nD Cert.InProjPeer0Ideal.τ).loc Cert.InProjPeer0Ideal.main_arg0) = m ((c.tc : Thread Cert.InProjPeer0Ideal.nD Cert.InProjPeer0Ideal.τ).loc Cert.InProjPeer0Ideal.main_arg0)
          ∧ r.2.mem ((c.tc : Thread Cert.InProjPeer0Ideal.nD Cert.InProjPeer0Ideal.τ).loc Cert.InProjPeer0Ideal.main_arg1) = m ((c.tc : Thread Cert.InProjPeer0Ideal.nD Cert.InProjPeer0Ideal.τ).loc Cert.InProjPeer0Ideal.main_arg1)
          ∧ r.2.mem ((c.tc : Thread Cert.InProjPeer0Ideal.nD Cert.InProjPeer0Ideal.τ).loc Cert.InProjPeer0Ideal.main_arg2) = m ((c.tc : Thread Cert.InProjPeer0Ideal.nD Cert.InProjPeer0Ideal.τ).loc Cert.InProjPeer0Ideal.main_arg2)
          ∧ r.2.mem ((c.tc : Thread Cert.InProjPeer0Ideal.nD Cert.InProjPeer0Ideal.τ).loc Cert.InProjPeer0Ideal.main_arg3) = m ((c.tc : Thread Cert.InProjPeer0Ideal.nD Cert.InProjPeer0Ideal.τ).loc Cert.InProjPeer0Ideal.main_arg3))
      ∧ θ_run (Cert.InProjPeer0RefIdeal.defs (F := Ideal)) (onTc (τ := Cert.InProjPeer0RefIdeal.τ) (Cert.InProjPeer0RefIdeal.main (F := Ideal))) ⟨m', fun _ => 0, g'⟩ (fun r => ∀ c : Dev Cert.InProjPeer0RefIdeal.nD,
          r.2.mem ((c.tc : Thread Cert.InProjPeer0RefIdeal.nD Cert.InProjPeer0RefIdeal.τ).loc Cert.InProjPeer0RefIdeal.main_v6) = v0 c
          ∧ r.2.mem ((c.tc : Thread Cert.InProjPeer0RefIdeal.nD Cert.InProjPeer0RefIdeal.τ).loc Cert.InProjPeer0RefIdeal.main_arg0) = m' ((c.tc : Thread Cert.InProjPeer0RefIdeal.nD Cert.InProjPeer0RefIdeal.τ).loc Cert.InProjPeer0RefIdeal.main_arg0)
          ∧ r.2.mem ((c.tc : Thread Cert.InProjPeer0RefIdeal.nD Cert.InProjPeer0RefIdeal.τ).loc Cert.InProjPeer0RefIdeal.main_arg1) = m' ((c.tc : Thread Cert.InProjPeer0RefIdeal.nD Cert.InProjPeer0RefIdeal.τ).loc Cert.InProjPeer0RefIdeal.main_arg1)
          ∧ r.2.mem ((c.tc : Thread Cert.InProjPeer0RefIdeal.nD Cert.InProjPeer0RefIdeal.τ).loc Cert.InProjPeer0RefIdeal.main_arg2) = m' ((c.tc : Thread Cert.InProjPeer0RefIdeal.nD Cert.InProjPeer0RefIdeal.τ).loc Cert.InProjPeer0RefIdeal.main_arg2)
          ∧ r.2.mem ((c.tc : Thread Cert.InProjPeer0RefIdeal.nD Cert.InProjPeer0RefIdeal.τ).loc Cert.InProjPeer0RefIdeal.main_arg3) = m' ((c.tc : Thread Cert.InProjPeer0RefIdeal.nD Cert.InProjPeer0RefIdeal.τ).loc Cert.InProjPeer0RefIdeal.main_arg3))

def preserves_InProjPeer1_InProjPeer1Ideal : Prop :=
  True

def algebraic_InProjPeer1Ideal_InProjPeer1RefIdeal [hInProjPeer1Ideal : Cert.InProjPeer1Ideal.Facts] [hInProjPeer1RefIdeal : Cert.InProjPeer1RefIdeal.Facts] : Prop :=
  ∀ (m : (ℓ : Loc Cert.InProjPeer1Ideal.nD Cert.InProjPeer1Ideal.τ Cert.InProjPeer1Ideal.sig) → Buf (Elt Ideal) ℓ) (g : Dev Cert.InProjPeer1Ideal.nD → PrngReg)
    (m' : (ℓ : Loc Cert.InProjPeer1RefIdeal.nD Cert.InProjPeer1RefIdeal.τ Cert.InProjPeer1RefIdeal.sig) → Buf (Elt Ideal) ℓ) (g' : Dev Cert.InProjPeer1RefIdeal.nD → PrngReg), Pre_InProjPeer1Ideal m →
    (∀ c : Dev Cert.InProjPeer1Ideal.nD,
      m' ((c.tc : Thread Cert.InProjPeer1RefIdeal.nD Cert.InProjPeer1RefIdeal.τ).loc Cert.InProjPeer1RefIdeal.main_arg0) = m ((c.tc : Thread Cert.InProjPeer1Ideal.nD Cert.InProjPeer1Ideal.τ).loc Cert.InProjPeer1Ideal.main_arg0)
      ∧ m' ((c.tc : Thread Cert.InProjPeer1RefIdeal.nD Cert.InProjPeer1RefIdeal.τ).loc Cert.InProjPeer1RefIdeal.main_arg1) = m ((c.tc : Thread Cert.InProjPeer1Ideal.nD Cert.InProjPeer1Ideal.τ).loc Cert.InProjPeer1Ideal.main_arg1)
      ∧ m' ((c.tc : Thread Cert.InProjPeer1RefIdeal.nD Cert.InProjPeer1RefIdeal.τ).loc Cert.InProjPeer1RefIdeal.main_arg2) = m ((c.tc : Thread Cert.InProjPeer1Ideal.nD Cert.InProjPeer1Ideal.τ).loc Cert.InProjPeer1Ideal.main_arg2)) →
    ∃ (v0 : (c : Dev Cert.InProjPeer1Ideal.nD) → Buf (Elt Ideal) ((c.tc : Thread Cert.InProjPeer1Ideal.nD Cert.InProjPeer1Ideal.τ).loc Cert.InProjPeer1Ideal.main_v5)),
      θ_run (Cert.InProjPeer1Ideal.defs (F := Ideal)) (onTc (τ := Cert.InProjPeer1Ideal.τ) (Cert.InProjPeer1Ideal.main (F := Ideal))) ⟨m, fun _ => 0, g⟩ (fun r => ∀ c : Dev Cert.InProjPeer1Ideal.nD,
          r.2.mem ((c.tc : Thread Cert.InProjPeer1Ideal.nD Cert.InProjPeer1Ideal.τ).loc Cert.InProjPeer1Ideal.main_v5) = v0 c
          ∧ r.2.mem ((c.tc : Thread Cert.InProjPeer1Ideal.nD Cert.InProjPeer1Ideal.τ).loc Cert.InProjPeer1Ideal.main_arg0) = m ((c.tc : Thread Cert.InProjPeer1Ideal.nD Cert.InProjPeer1Ideal.τ).loc Cert.InProjPeer1Ideal.main_arg0)
          ∧ r.2.mem ((c.tc : Thread Cert.InProjPeer1Ideal.nD Cert.InProjPeer1Ideal.τ).loc Cert.InProjPeer1Ideal.main_arg1) = m ((c.tc : Thread Cert.InProjPeer1Ideal.nD Cert.InProjPeer1Ideal.τ).loc Cert.InProjPeer1Ideal.main_arg1)
          ∧ r.2.mem ((c.tc : Thread Cert.InProjPeer1Ideal.nD Cert.InProjPeer1Ideal.τ).loc Cert.InProjPeer1Ideal.main_arg2) = m ((c.tc : Thread Cert.InProjPeer1Ideal.nD Cert.InProjPeer1Ideal.τ).loc Cert.InProjPeer1Ideal.main_arg2))
      ∧ θ_run (Cert.InProjPeer1RefIdeal.defs (F := Ideal)) (onTc (τ := Cert.InProjPeer1RefIdeal.τ) (Cert.InProjPeer1RefIdeal.main (F := Ideal))) ⟨m', fun _ => 0, g'⟩ (fun r => ∀ c : Dev Cert.InProjPeer1RefIdeal.nD,
          r.2.mem ((c.tc : Thread Cert.InProjPeer1RefIdeal.nD Cert.InProjPeer1RefIdeal.τ).loc Cert.InProjPeer1RefIdeal.main_v6) = v0 c
          ∧ r.2.mem ((c.tc : Thread Cert.InProjPeer1RefIdeal.nD Cert.InProjPeer1RefIdeal.τ).loc Cert.InProjPeer1RefIdeal.main_arg0) = m' ((c.tc : Thread Cert.InProjPeer1RefIdeal.nD Cert.InProjPeer1RefIdeal.τ).loc Cert.InProjPeer1RefIdeal.main_arg0)
          ∧ r.2.mem ((c.tc : Thread Cert.InProjPeer1RefIdeal.nD Cert.InProjPeer1RefIdeal.τ).loc Cert.InProjPeer1RefIdeal.main_arg1) = m' ((c.tc : Thread Cert.InProjPeer1RefIdeal.nD Cert.InProjPeer1RefIdeal.τ).loc Cert.InProjPeer1RefIdeal.main_arg1)
          ∧ r.2.mem ((c.tc : Thread Cert.InProjPeer1RefIdeal.nD Cert.InProjPeer1RefIdeal.τ).loc Cert.InProjPeer1RefIdeal.main_arg2) = m' ((c.tc : Thread Cert.InProjPeer1RefIdeal.nD Cert.InProjPeer1RefIdeal.τ).loc Cert.InProjPeer1RefIdeal.main_arg2))

def preserves_InProjPeer2_InProjPeer2Ideal : Prop :=
  True

def algebraic_InProjPeer2Ideal_InProjPeer2RefIdeal [hInProjPeer2Ideal : Cert.InProjPeer2Ideal.Facts] [hInProjPeer2RefIdeal : Cert.InProjPeer2RefIdeal.Facts] : Prop :=
  ∀ (m : (ℓ : Loc Cert.InProjPeer2Ideal.nD Cert.InProjPeer2Ideal.τ Cert.InProjPeer2Ideal.sig) → Buf (Elt Ideal) ℓ) (g : Dev Cert.InProjPeer2Ideal.nD → PrngReg)
    (m' : (ℓ : Loc Cert.InProjPeer2RefIdeal.nD Cert.InProjPeer2RefIdeal.τ Cert.InProjPeer2RefIdeal.sig) → Buf (Elt Ideal) ℓ) (g' : Dev Cert.InProjPeer2RefIdeal.nD → PrngReg), Pre_InProjPeer2Ideal m →
    (∀ c : Dev Cert.InProjPeer2Ideal.nD,
      m' ((c.tc : Thread Cert.InProjPeer2RefIdeal.nD Cert.InProjPeer2RefIdeal.τ).loc Cert.InProjPeer2RefIdeal.main_arg0) = m ((c.tc : Thread Cert.InProjPeer2Ideal.nD Cert.InProjPeer2Ideal.τ).loc Cert.InProjPeer2Ideal.main_arg0)
      ∧ m' ((c.tc : Thread Cert.InProjPeer2RefIdeal.nD Cert.InProjPeer2RefIdeal.τ).loc Cert.InProjPeer2RefIdeal.main_arg1) = m ((c.tc : Thread Cert.InProjPeer2Ideal.nD Cert.InProjPeer2Ideal.τ).loc Cert.InProjPeer2Ideal.main_arg1)
      ∧ m' ((c.tc : Thread Cert.InProjPeer2RefIdeal.nD Cert.InProjPeer2RefIdeal.τ).loc Cert.InProjPeer2RefIdeal.main_arg2) = m ((c.tc : Thread Cert.InProjPeer2Ideal.nD Cert.InProjPeer2Ideal.τ).loc Cert.InProjPeer2Ideal.main_arg2)
      ∧ m' ((c.tc : Thread Cert.InProjPeer2RefIdeal.nD Cert.InProjPeer2RefIdeal.τ).loc Cert.InProjPeer2RefIdeal.main_arg3) = m ((c.tc : Thread Cert.InProjPeer2Ideal.nD Cert.InProjPeer2Ideal.τ).loc Cert.InProjPeer2Ideal.main_arg3)) →
    ∃ (v0 : (c : Dev Cert.InProjPeer2Ideal.nD) → Buf (Elt Ideal) ((c.tc : Thread Cert.InProjPeer2Ideal.nD Cert.InProjPeer2Ideal.τ).loc Cert.InProjPeer2Ideal.main_v6)),
      θ_run (Cert.InProjPeer2Ideal.defs (F := Ideal)) (onTc (τ := Cert.InProjPeer2Ideal.τ) (Cert.InProjPeer2Ideal.main (F := Ideal))) ⟨m, fun _ => 0, g⟩ (fun r => ∀ c : Dev Cert.InProjPeer2Ideal.nD,
          r.2.mem ((c.tc : Thread Cert.InProjPeer2Ideal.nD Cert.InProjPeer2Ideal.τ).loc Cert.InProjPeer2Ideal.main_v6) = v0 c
          ∧ r.2.mem ((c.tc : Thread Cert.InProjPeer2Ideal.nD Cert.InProjPeer2Ideal.τ).loc Cert.InProjPeer2Ideal.main_arg0) = m ((c.tc : Thread Cert.InProjPeer2Ideal.nD Cert.InProjPeer2Ideal.τ).loc Cert.InProjPeer2Ideal.main_arg0)
          ∧ r.2.mem ((c.tc : Thread Cert.InProjPeer2Ideal.nD Cert.InProjPeer2Ideal.τ).loc Cert.InProjPeer2Ideal.main_arg1) = m ((c.tc : Thread Cert.InProjPeer2Ideal.nD Cert.InProjPeer2Ideal.τ).loc Cert.InProjPeer2Ideal.main_arg1)
          ∧ r.2.mem ((c.tc : Thread Cert.InProjPeer2Ideal.nD Cert.InProjPeer2Ideal.τ).loc Cert.InProjPeer2Ideal.main_arg2) = m ((c.tc : Thread Cert.InProjPeer2Ideal.nD Cert.InProjPeer2Ideal.τ).loc Cert.InProjPeer2Ideal.main_arg2)
          ∧ r.2.mem ((c.tc : Thread Cert.InProjPeer2Ideal.nD Cert.InProjPeer2Ideal.τ).loc Cert.InProjPeer2Ideal.main_arg3) = m ((c.tc : Thread Cert.InProjPeer2Ideal.nD Cert.InProjPeer2Ideal.τ).loc Cert.InProjPeer2Ideal.main_arg3))
      ∧ θ_run (Cert.InProjPeer2RefIdeal.defs (F := Ideal)) (onTc (τ := Cert.InProjPeer2RefIdeal.τ) (Cert.InProjPeer2RefIdeal.main (F := Ideal))) ⟨m', fun _ => 0, g'⟩ (fun r => ∀ c : Dev Cert.InProjPeer2RefIdeal.nD,
          r.2.mem ((c.tc : Thread Cert.InProjPeer2RefIdeal.nD Cert.InProjPeer2RefIdeal.τ).loc Cert.InProjPeer2RefIdeal.main_v6) = v0 c
          ∧ r.2.mem ((c.tc : Thread Cert.InProjPeer2RefIdeal.nD Cert.InProjPeer2RefIdeal.τ).loc Cert.InProjPeer2RefIdeal.main_arg0) = m' ((c.tc : Thread Cert.InProjPeer2RefIdeal.nD Cert.InProjPeer2RefIdeal.τ).loc Cert.InProjPeer2RefIdeal.main_arg0)
          ∧ r.2.mem ((c.tc : Thread Cert.InProjPeer2RefIdeal.nD Cert.InProjPeer2RefIdeal.τ).loc Cert.InProjPeer2RefIdeal.main_arg1) = m' ((c.tc : Thread Cert.InProjPeer2RefIdeal.nD Cert.InProjPeer2RefIdeal.τ).loc Cert.InProjPeer2RefIdeal.main_arg1)
          ∧ r.2.mem ((c.tc : Thread Cert.InProjPeer2RefIdeal.nD Cert.InProjPeer2RefIdeal.τ).loc Cert.InProjPeer2RefIdeal.main_arg2) = m' ((c.tc : Thread Cert.InProjPeer2RefIdeal.nD Cert.InProjPeer2RefIdeal.τ).loc Cert.InProjPeer2RefIdeal.main_arg2)
          ∧ r.2.mem ((c.tc : Thread Cert.InProjPeer2RefIdeal.nD Cert.InProjPeer2RefIdeal.τ).loc Cert.InProjPeer2RefIdeal.main_arg3) = m' ((c.tc : Thread Cert.InProjPeer2RefIdeal.nD Cert.InProjPeer2RefIdeal.τ).loc Cert.InProjPeer2RefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)) →
    ∃ (v0 : (c : Dev Cert.AttnProjIdeal.nD) → Buf (Elt Ideal) ((c.tc : Thread Cert.AttnProjIdeal.nD Cert.AttnProjIdeal.τ).loc Cert.AttnProjIdeal.main_v1)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v1) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v2) = v0 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v1_0)) (v1 : (c : Dev Cert.MergeFwdIdeal.nD) → Buf (Elt Ideal) ((c.tc : Thread Cert.MergeFwdIdeal.nD Cert.MergeFwdIdeal.τ).loc Cert.MergeFwdIdeal.main_v1_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v1_0) = v0 c
          ∧ r.2.mem ((c.tc : Thread Cert.MergeFwdIdeal.nD Cert.MergeFwdIdeal.τ).loc Cert.MergeFwdIdeal.main_v1_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v20) = v0 c
          ∧ r.2.mem ((c.tc : Thread Cert.MergeFwdRefIdeal.nD Cert.MergeFwdRefIdeal.τ).loc Cert.MergeFwdRefIdeal.main_v21) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v35) = v1 c
          ∧ r.2.mem ((c.tc : Thread Cert.MergeRefIdeal.nD Cert.MergeRefIdeal.τ).loc Cert.MergeRefIdeal.main_v37) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)) (v3 : (c : Dev Cert.AdamAttnIdeal.nD) → Buf (Elt Ideal) ((c.tc : Thread Cert.AdamAttnIdeal.nD Cert.AdamAttnIdeal.τ).loc Cert.AdamAttnIdeal.main_v0_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_v0_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v23) = v0 c
          ∧ r.2.mem ((c.tc : Thread Cert.AdamAttnRefIdeal.nD Cert.AdamAttnRefIdeal.τ).loc Cert.AdamAttnRefIdeal.main_v4) = v1 c
          ∧ r.2.mem ((c.tc : Thread Cert.AdamAttnRefIdeal.nD Cert.AdamAttnRefIdeal.τ).loc Cert.AdamAttnRefIdeal.main_v10) = v2 c
          ∧ r.2.mem ((c.tc : Thread Cert.AdamAttnRefIdeal.nD Cert.AdamAttnRefIdeal.τ).loc Cert.AdamAttnRefIdeal.main_arg1) = v3 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamHgrn_AdamHgrnIdeal : Prop :=
  True

def algebraic_AdamHgrnIdeal_AdamHgrnRefIdeal [hAdamHgrnIdeal : Cert.AdamHgrnIdeal.Facts] [hAdamHgrnRefIdeal : Cert.AdamHgrnRefIdeal.Facts] : Prop :=
  ∀ (m : (ℓ : Loc Cert.AdamHgrnIdeal.nD Cert.AdamHgrnIdeal.τ Cert.AdamHgrnIdeal.sig) → Buf (Elt Ideal) ℓ) (g : Dev Cert.AdamHgrnIdeal.nD → PrngReg)
    (m' : (ℓ : Loc Cert.AdamHgrnRefIdeal.nD Cert.AdamHgrnRefIdeal.τ Cert.AdamHgrnRefIdeal.sig) → Buf (Elt Ideal) ℓ) (g' : Dev Cert.AdamHgrnRefIdeal.nD → PrngReg), Pre_AdamHgrnIdeal m →
    (∀ c : Dev Cert.AdamHgrnIdeal.nD,
      m' ((c.tc : Thread Cert.AdamHgrnRefIdeal.nD Cert.AdamHgrnRefIdeal.τ).loc Cert.AdamHgrnRefIdeal.main_arg0) = m ((c.tc : Thread Cert.AdamHgrnIdeal.nD Cert.AdamHgrnIdeal.τ).loc Cert.AdamHgrnIdeal.main_arg0)
      ∧ m' ((c.tc : Thread Cert.AdamHgrnRefIdeal.nD Cert.AdamHgrnRefIdeal.τ).loc Cert.AdamHgrnRefIdeal.main_arg1) = m ((c.tc : Thread Cert.AdamHgrnIdeal.nD Cert.AdamHgrnIdeal.τ).loc Cert.AdamHgrnIdeal.main_arg1)
      ∧ m' ((c.tc : Thread Cert.AdamHgrnRefIdeal.nD Cert.AdamHgrnRefIdeal.τ).loc Cert.AdamHgrnRefIdeal.main_arg2) = m ((c.tc : Thread Cert.AdamHgrnIdeal.nD Cert.AdamHgrnIdeal.τ).loc Cert.AdamHgrnIdeal.main_arg2)
      ∧ m' ((c.tc : Thread Cert.AdamHgrnRefIdeal.nD Cert.AdamHgrnRefIdeal.τ).loc Cert.AdamHgrnRefIdeal.main_arg3) = m ((c.tc : Thread Cert.AdamHgrnIdeal.nD Cert.AdamHgrnIdeal.τ).loc Cert.AdamHgrnIdeal.main_arg3)) →
    ∃ (v0 : (c : Dev Cert.AdamHgrnIdeal.nD) → Buf (Elt Ideal) ((c.tc : Thread Cert.AdamHgrnIdeal.nD Cert.AdamHgrnIdeal.τ).loc Cert.AdamHgrnIdeal.main_v0_0)) (v1 : (c : Dev Cert.AdamHgrnIdeal.nD) → Buf (Elt Ideal) ((c.tc : Thread Cert.AdamHgrnIdeal.nD Cert.AdamHgrnIdeal.τ).loc Cert.AdamHgrnIdeal.main_v0_1)) (v2 : (c : Dev Cert.AdamHgrnIdeal.nD) → Buf (Elt Ideal) ((c.tc : Thread Cert.AdamHgrnIdeal.nD Cert.AdamHgrnIdeal.τ).loc Cert.AdamHgrnIdeal.main_v0_2)) (v3 : (c : Dev Cert.AdamHgrnIdeal.nD) → Buf (Elt Ideal) ((c.tc : Thread Cert.AdamHgrnIdeal.nD Cert.AdamHgrnIdeal.τ).loc Cert.AdamHgrnIdeal.main_v0_3)),
      θ_run (Cert.AdamHgrnIdeal.defs (F := Ideal)) (onTc (τ := Cert.AdamHgrnIdeal.τ) (Cert.AdamHgrnIdeal.main (F := Ideal))) ⟨m, fun _ => 0, g⟩ (fun r => ∀ c : Dev Cert.AdamHgrnIdeal.nD,
          r.2.mem ((c.tc : Thread Cert.AdamHgrnIdeal.nD Cert.AdamHgrnIdeal.τ).loc Cert.AdamHgrnIdeal.main_v0_0) = v0 c
          ∧ r.2.mem ((c.tc : Thread Cert.AdamHgrnIdeal.nD Cert.AdamHgrnIdeal.τ).loc Cert.AdamHgrnIdeal.main_v0_1) = v1 c
          ∧ r.2.mem ((c.tc : Thread Cert.AdamHgrnIdeal.nD Cert.AdamHgrnIdeal.τ).loc Cert.AdamHgrnIdeal.main_v0_2) = v2 c
          ∧ r.2.mem ((c.tc : Thread Cert.AdamHgrnIdeal.nD Cert.AdamHgrnIdeal.τ).loc Cert.AdamHgrnIdeal.main_v0_3) = v3 c
          ∧ r.2.mem ((c.tc : Thread Cert.AdamHgrnIdeal.nD Cert.AdamHgrnIdeal.τ).loc Cert.AdamHgrnIdeal.main_arg0) = m ((c.tc : Thread Cert.AdamHgrnIdeal.nD Cert.AdamHgrnIdeal.τ).loc Cert.AdamHgrnIdeal.main_arg0)
          ∧ r.2.mem ((c.tc : Thread Cert.AdamHgrnIdeal.nD Cert.AdamHgrnIdeal.τ).loc Cert.AdamHgrnIdeal.main_arg1) = m ((c.tc : Thread Cert.AdamHgrnIdeal.nD Cert.AdamHgrnIdeal.τ).loc Cert.AdamHgrnIdeal.main_arg1)
          ∧ r.2.mem ((c.tc : Thread Cert.AdamHgrnIdeal.nD Cert.AdamHgrnIdeal.τ).loc Cert.AdamHgrnIdeal.main_arg2) = m ((c.tc : Thread Cert.AdamHgrnIdeal.nD Cert.AdamHgrnIdeal.τ).loc Cert.AdamHgrnIdeal.main_arg2)
          ∧ r.2.mem ((c.tc : Thread Cert.AdamHgrnIdeal.nD Cert.AdamHgrnIdeal.τ).loc Cert.AdamHgrnIdeal.main_arg3) = m ((c.tc : Thread Cert.AdamHgrnIdeal.nD Cert.AdamHgrnIdeal.τ).loc Cert.AdamHgrnIdeal.main_arg3))
      ∧ θ_run (Cert.AdamHgrnRefIdeal.defs (F := Ideal)) (onTc (τ := Cert.AdamHgrnRefIdeal.τ) (Cert.AdamHgrnRefIdeal.main (F := Ideal))) ⟨m', fun _ => 0, g'⟩ (fun r => ∀ c : Dev Cert.AdamHgrnRefIdeal.nD,
          r.2.mem ((c.tc : Thread Cert.AdamHgrnRefIdeal.nD Cert.AdamHgrnRefIdeal.τ).loc Cert.AdamHgrnRefIdeal.main_v23) = v0 c
          ∧ r.2.mem ((c.tc : Thread Cert.AdamHgrnRefIdeal.nD Cert.AdamHgrnRefIdeal.τ).loc Cert.AdamHgrnRefIdeal.main_v4) = v1 c
          ∧ r.2.mem ((c.tc : Thread Cert.AdamHgrnRefIdeal.nD Cert.AdamHgrnRefIdeal.τ).loc Cert.AdamHgrnRefIdeal.main_v10) = v2 c
          ∧ r.2.mem ((c.tc : Thread Cert.AdamHgrnRefIdeal.nD Cert.AdamHgrnRefIdeal.τ).loc Cert.AdamHgrnRefIdeal.main_arg1) = v3 c
          ∧ r.2.mem ((c.tc : Thread Cert.AdamHgrnRefIdeal.nD Cert.AdamHgrnRefIdeal.τ).loc Cert.AdamHgrnRefIdeal.main_arg0) = m' ((c.tc : Thread Cert.AdamHgrnRefIdeal.nD Cert.AdamHgrnRefIdeal.τ).loc Cert.AdamHgrnRefIdeal.main_arg0)
          ∧ r.2.mem ((c.tc : Thread Cert.AdamHgrnRefIdeal.nD Cert.AdamHgrnRefIdeal.τ).loc Cert.AdamHgrnRefIdeal.main_arg1) = m' ((c.tc : Thread Cert.AdamHgrnRefIdeal.nD Cert.AdamHgrnRefIdeal.τ).loc Cert.AdamHgrnRefIdeal.main_arg1)
          ∧ r.2.mem ((c.tc : Thread Cert.AdamHgrnRefIdeal.nD Cert.AdamHgrnRefIdeal.τ).loc Cert.AdamHgrnRefIdeal.main_arg2) = m' ((c.tc : Thread Cert.AdamHgrnRefIdeal.nD Cert.AdamHgrnRefIdeal.τ).loc Cert.AdamHgrnRefIdeal.main_arg2)
          ∧ r.2.mem ((c.tc : Thread Cert.AdamHgrnRefIdeal.nD Cert.AdamHgrnRefIdeal.τ).loc Cert.AdamHgrnRefIdeal.main_arg3) = m' ((c.tc : Thread Cert.AdamHgrnRefIdeal.nD Cert.AdamHgrnRefIdeal.τ).loc Cert.AdamHgrnRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg1) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_v7) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v8_0)) (v1 : (c : Dev Cert.NormBwdIdeal.nD) → Buf (Elt Ideal) ((c.tc : Thread Cert.NormBwdIdeal.nD Cert.NormBwdIdeal.τ).loc Cert.NormBwdIdeal.main_v8_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v8_0) = v0 c
          ∧ r.2.mem ((c.tc : Thread Cert.NormBwdIdeal.nD Cert.NormBwdIdeal.τ).loc Cert.NormBwdIdeal.main_v8_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v18) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_PostLoss_PostLossIdeal : Prop :=
  True

def algebraic_PostLossIdeal_PostLossRefIdeal [hPostLossIdeal : Cert.PostLossIdeal.Facts] [hPostLossRefIdeal : Cert.PostLossRefIdeal.Facts] : Prop :=
  ∀ (m : (ℓ : Loc Cert.PostLossIdeal.nD Cert.PostLossIdeal.τ Cert.PostLossIdeal.sig) → Buf (Elt Ideal) ℓ) (g : Dev Cert.PostLossIdeal.nD → PrngReg)
    (m' : (ℓ : Loc Cert.PostLossRefIdeal.nD Cert.PostLossRefIdeal.τ Cert.PostLossRefIdeal.sig) → Buf (Elt Ideal) ℓ) (g' : Dev Cert.PostLossRefIdeal.nD → PrngReg), Pre_PostLossIdeal m →
    (∀ c : Dev Cert.PostLossIdeal.nD,
      m' ((c.tc : Thread Cert.PostLossRefIdeal.nD Cert.PostLossRefIdeal.τ).loc Cert.PostLossRefIdeal.main_arg0) = m ((c.tc : Thread Cert.PostLossIdeal.nD Cert.PostLossIdeal.τ).loc Cert.PostLossIdeal.main_arg0)
      ∧ m' ((c.tc : Thread Cert.PostLossRefIdeal.nD Cert.PostLossRefIdeal.τ).loc Cert.PostLossRefIdeal.main_arg1) = m ((c.tc : Thread Cert.PostLossIdeal.nD Cert.PostLossIdeal.τ).loc Cert.PostLossIdeal.main_arg1)
      ∧ m' ((c.tc : Thread Cert.PostLossRefIdeal.nD Cert.PostLossRefIdeal.τ).loc Cert.PostLossRefIdeal.main_arg2) = m ((c.tc : Thread Cert.PostLossIdeal.nD Cert.PostLossIdeal.τ).loc Cert.PostLossIdeal.main_arg2)
      ∧ m' ((c.tc : Thread Cert.PostLossRefIdeal.nD Cert.PostLossRefIdeal.τ).loc Cert.PostLossRefIdeal.main_arg3) = m ((c.tc : Thread Cert.PostLossIdeal.nD Cert.PostLossIdeal.τ).loc Cert.PostLossIdeal.main_arg3)) →
    ∃ (v0 : (c : Dev Cert.PostLossIdeal.nD) → Buf (Elt Ideal) ((c.tc : Thread Cert.PostLossIdeal.nD Cert.PostLossIdeal.τ).loc Cert.PostLossIdeal.main_v0_0)) (v1 : (c : Dev Cert.PostLossIdeal.nD) → Buf (Elt Ideal) ((c.tc : Thread Cert.PostLossIdeal.nD Cert.PostLossIdeal.τ).loc Cert.PostLossIdeal.main_v0_1)) (v2 : (c : Dev Cert.PostLossIdeal.nD) → Buf (Elt Ideal) ((c.tc : Thread Cert.PostLossIdeal.nD Cert.PostLossIdeal.τ).loc Cert.PostLossIdeal.main_v0_2)) (v3 : (c : Dev Cert.PostLossIdeal.nD) → Buf (Elt Ideal) ((c.tc : Thread Cert.PostLossIdeal.nD Cert.PostLossIdeal.τ).loc Cert.PostLossIdeal.main_v0_3)),
      θ_run (Cert.PostLossIdeal.defs (F := Ideal)) (onTc (τ := Cert.PostLossIdeal.τ) (Cert.PostLossIdeal.main (F := Ideal))) ⟨m, fun _ => 0, g⟩ (fun r => ∀ c : Dev Cert.PostLossIdeal.nD,
          r.2.mem ((c.tc : Thread Cert.PostLossIdeal.nD Cert.PostLossIdeal.τ).loc Cert.PostLossIdeal.main_v0_0) = v0 c
          ∧ r.2.mem ((c.tc : Thread Cert.PostLossIdeal.nD Cert.PostLossIdeal.τ).loc Cert.PostLossIdeal.main_v0_1) = v1 c
          ∧ r.2.mem ((c.tc : Thread Cert.PostLossIdeal.nD Cert.PostLossIdeal.τ).loc Cert.PostLossIdeal.main_v0_2) = v2 c
          ∧ r.2.mem ((c.tc : Thread Cert.PostLossIdeal.nD Cert.PostLossIdeal.τ).loc Cert.PostLossIdeal.main_v0_3) = v3 c
          ∧ r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
          ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
          ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
          ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ θ_run (Cert.PostLossRefIdeal.defs (F := Ideal)) (onTc (τ := Cert.PostLossRefIdeal.τ) (Cert.PostLossRefIdeal.main (F := Ideal))) ⟨m', fun _ => 0, g'⟩ (fun r => ∀ c : Dev Cert.PostLossRefIdeal.nD,
          r.2.mem ((c.tc : Thread Cert.PostLossRefIdeal.nD Cert.PostLossRefIdeal.τ).loc Cert.PostLossRefIdeal.main_v51) = v0 c
          ∧ r.2.mem ((c.tc : Thread Cert.PostLossRefIdeal.nD Cert.PostLossRefIdeal.τ).loc Cert.PostLossRefIdeal.main_v31) = v1 c
          ∧ r.2.mem ((c.tc : Thread Cert.PostLossRefIdeal.nD Cert.PostLossRefIdeal.τ).loc Cert.PostLossRefIdeal.main_v52) = v2 c
          ∧ r.2.mem ((c.tc : Thread Cert.PostLossRefIdeal.nD Cert.PostLossRefIdeal.τ).loc Cert.PostLossRefIdeal.main_v34) = v3 c
          ∧ r.2.mem ((c.tc : Thread Cert.PostLossRefIdeal.nD Cert.PostLossRefIdeal.τ).loc Cert.PostLossRefIdeal.main_arg0) = m' ((c.tc : Thread Cert.PostLossRefIdeal.nD Cert.PostLossRefIdeal.τ).loc Cert.PostLossRefIdeal.main_arg0)
          ∧ r.2.mem ((c.tc : Thread Cert.PostLossRefIdeal.nD Cert.PostLossRefIdeal.τ).loc Cert.PostLossRefIdeal.main_arg1) = m' ((c.tc : Thread Cert.PostLossRefIdeal.nD Cert.PostLossRefIdeal.τ).loc Cert.PostLossRefIdeal.main_arg1)
          ∧ r.2.mem ((c.tc : Thread Cert.PostLossRefIdeal.nD Cert.PostLossRefIdeal.τ).loc Cert.PostLossRefIdeal.main_arg2) = m' ((c.tc : Thread Cert.PostLossRefIdeal.nD Cert.PostLossRefIdeal.τ).loc Cert.PostLossRefIdeal.main_arg2)
          ∧ r.2.mem ((c.tc : Thread Cert.PostLossRefIdeal.nD Cert.PostLossRefIdeal.τ).loc Cert.PostLossRefIdeal.main_arg3) = m' ((c.tc : Thread Cert.PostLossRefIdeal.nD Cert.PostLossRefIdeal.τ).loc Cert.PostLossRefIdeal.main_arg3))

def preserves_SumIn0_SumIn0Ideal : Prop :=
  True

def algebraic_SumIn0Ideal_SumIn0RefIdeal [hSumIn0Ideal : Cert.SumIn0Ideal.Facts] [hSumIn0RefIdeal : Cert.SumIn0RefIdeal.Facts] : Prop :=
  ∀ (m : (ℓ : Loc Cert.SumIn0Ideal.nD Cert.SumIn0Ideal.τ Cert.SumIn0Ideal.sig) → Buf (Elt Ideal) ℓ) (g : Dev Cert.SumIn0Ideal.nD → PrngReg)
    (m' : (ℓ : Loc Cert.SumIn0RefIdeal.nD Cert.SumIn0RefIdeal.τ Cert.SumIn0RefIdeal.sig) → Buf (Elt Ideal) ℓ) (g' : Dev Cert.SumIn0RefIdeal.nD → PrngReg), Pre_SumIn0Ideal m →
    (∀ c : Dev Cert.SumIn0Ideal.nD,
      m' ((c.tc : Thread Cert.SumIn0RefIdeal.nD Cert.SumIn0RefIdeal.τ).loc Cert.SumIn0RefIdeal.main_arg0) = m ((c.tc : Thread Cert.SumIn0Ideal.nD Cert.SumIn0Ideal.τ).loc Cert.SumIn0Ideal.main_arg0)
      ∧ m' ((c.tc : Thread Cert.SumIn0RefIdeal.nD Cert.SumIn0RefIdeal.τ).loc Cert.SumIn0RefIdeal.main_arg1) = m ((c.tc : Thread Cert.SumIn0Ideal.nD Cert.SumIn0Ideal.τ).loc Cert.SumIn0Ideal.main_arg1)
      ∧ m' ((c.tc : Thread Cert.SumIn0RefIdeal.nD Cert.SumIn0RefIdeal.τ).loc Cert.SumIn0RefIdeal.main_arg2) = m ((c.tc : Thread Cert.SumIn0Ideal.nD Cert.SumIn0Ideal.τ).loc Cert.SumIn0Ideal.main_arg2)) →
    ∃ (v0 : (c : Dev Cert.SumIn0Ideal.nD) → Buf (Elt Ideal) ((c.tc : Thread Cert.SumIn0Ideal.nD Cert.SumIn0Ideal.τ).loc Cert.SumIn0Ideal.main_v7)),
      θ_run (Cert.SumIn0Ideal.defs (F := Ideal)) (onTc (τ := Cert.SumIn0Ideal.τ) (Cert.SumIn0Ideal.main (F := Ideal))) ⟨m, fun _ => 0, g⟩ (fun r => ∀ c : Dev Cert.SumIn0Ideal.nD,
          r.2.mem ((c.tc : Thread Cert.SumIn0Ideal.nD Cert.SumIn0Ideal.τ).loc Cert.SumIn0Ideal.main_v7) = v0 c
          ∧ r.2.mem ((c.tc : Thread Cert.SumIn0Ideal.nD Cert.SumIn0Ideal.τ).loc Cert.SumIn0Ideal.main_arg0) = m ((c.tc : Thread Cert.SumIn0Ideal.nD Cert.SumIn0Ideal.τ).loc Cert.SumIn0Ideal.main_arg0)
          ∧ r.2.mem ((c.tc : Thread Cert.SumIn0Ideal.nD Cert.SumIn0Ideal.τ).loc Cert.SumIn0Ideal.main_arg1) = m ((c.tc : Thread Cert.SumIn0Ideal.nD Cert.SumIn0Ideal.τ).loc Cert.SumIn0Ideal.main_arg1)
          ∧ r.2.mem ((c.tc : Thread Cert.SumIn0Ideal.nD Cert.SumIn0Ideal.τ).loc Cert.SumIn0Ideal.main_arg2) = m ((c.tc : Thread Cert.SumIn0Ideal.nD Cert.SumIn0Ideal.τ).loc Cert.SumIn0Ideal.main_arg2))
      ∧ θ_run (Cert.SumIn0RefIdeal.defs (F := Ideal)) (onTc (τ := Cert.SumIn0RefIdeal.τ) (Cert.SumIn0RefIdeal.main (F := Ideal))) ⟨m', fun _ => 0, g'⟩ (fun r => ∀ c : Dev Cert.SumIn0RefIdeal.nD,
          r.2.mem ((c.tc : Thread Cert.SumIn0RefIdeal.nD Cert.SumIn0RefIdeal.τ).loc Cert.SumIn0RefIdeal.main_v9) = v0 c
          ∧ r.2.mem ((c.tc : Thread Cert.SumIn0RefIdeal.nD Cert.SumIn0RefIdeal.τ).loc Cert.SumIn0RefIdeal.main_arg0) = m' ((c.tc : Thread Cert.SumIn0RefIdeal.nD Cert.SumIn0RefIdeal.τ).loc Cert.SumIn0RefIdeal.main_arg0)
          ∧ r.2.mem ((c.tc : Thread Cert.SumIn0RefIdeal.nD Cert.SumIn0RefIdeal.τ).loc Cert.SumIn0RefIdeal.main_arg1) = m' ((c.tc : Thread Cert.SumIn0RefIdeal.nD Cert.SumIn0RefIdeal.τ).loc Cert.SumIn0RefIdeal.main_arg1)
          ∧ r.2.mem ((c.tc : Thread Cert.SumIn0RefIdeal.nD Cert.SumIn0RefIdeal.τ).loc Cert.SumIn0RefIdeal.main_arg2) = m' ((c.tc : Thread Cert.SumIn0RefIdeal.nD Cert.SumIn0RefIdeal.τ).loc Cert.SumIn0RefIdeal.main_arg2))

def preserves_SumIn1_SumIn1Ideal : Prop :=
  True

def algebraic_SumIn1Ideal_SumIn1RefIdeal [hSumIn1Ideal : Cert.SumIn1Ideal.Facts] [hSumIn1RefIdeal : Cert.SumIn1RefIdeal.Facts] : Prop :=
  ∀ (m : (ℓ : Loc Cert.SumIn1Ideal.nD Cert.SumIn1Ideal.τ Cert.SumIn1Ideal.sig) → Buf (Elt Ideal) ℓ) (g : Dev Cert.SumIn1Ideal.nD → PrngReg)
    (m' : (ℓ : Loc Cert.SumIn1RefIdeal.nD Cert.SumIn1RefIdeal.τ Cert.SumIn1RefIdeal.sig) → Buf (Elt Ideal) ℓ) (g' : Dev Cert.SumIn1RefIdeal.nD → PrngReg), Pre_SumIn1Ideal m →
    (∀ c : Dev Cert.SumIn1Ideal.nD,
      m' ((c.tc : Thread Cert.SumIn1RefIdeal.nD Cert.SumIn1RefIdeal.τ).loc Cert.SumIn1RefIdeal.main_arg0) = m ((c.tc : Thread Cert.SumIn1Ideal.nD Cert.SumIn1Ideal.τ).loc Cert.SumIn1Ideal.main_arg0)
      ∧ m' ((c.tc : Thread Cert.SumIn1RefIdeal.nD Cert.SumIn1RefIdeal.τ).loc Cert.SumIn1RefIdeal.main_arg1) = m ((c.tc : Thread Cert.SumIn1Ideal.nD Cert.SumIn1Ideal.τ).loc Cert.SumIn1Ideal.main_arg1)
      ∧ m' ((c.tc : Thread Cert.SumIn1RefIdeal.nD Cert.SumIn1RefIdeal.τ).loc Cert.SumIn1RefIdeal.main_arg2) = m ((c.tc : Thread Cert.SumIn1Ideal.nD Cert.SumIn1Ideal.τ).loc Cert.SumIn1Ideal.main_arg2)) →
    ∃ (v0 : (c : Dev Cert.SumIn1Ideal.nD) → Buf (Elt Ideal) ((c.tc : Thread Cert.SumIn1Ideal.nD Cert.SumIn1Ideal.τ).loc Cert.SumIn1Ideal.main_v7)),
      θ_run (Cert.SumIn1Ideal.defs (F := Ideal)) (onTc (τ := Cert.SumIn1Ideal.τ) (Cert.SumIn1Ideal.main (F := Ideal))) ⟨m, fun _ => 0, g⟩ (fun r => ∀ c : Dev Cert.SumIn1Ideal.nD,
          r.2.mem ((c.tc : Thread Cert.SumIn1Ideal.nD Cert.SumIn1Ideal.τ).loc Cert.SumIn1Ideal.main_v7) = v0 c
          ∧ r.2.mem ((c.tc : Thread Cert.SumIn1Ideal.nD Cert.SumIn1Ideal.τ).loc Cert.SumIn1Ideal.main_arg0) = m ((c.tc : Thread Cert.SumIn1Ideal.nD Cert.SumIn1Ideal.τ).loc Cert.SumIn1Ideal.main_arg0)
          ∧ r.2.mem ((c.tc : Thread Cert.SumIn1Ideal.nD Cert.SumIn1Ideal.τ).loc Cert.SumIn1Ideal.main_arg1) = m ((c.tc : Thread Cert.SumIn1Ideal.nD Cert.SumIn1Ideal.τ).loc Cert.SumIn1Ideal.main_arg1)
          ∧ r.2.mem ((c.tc : Thread Cert.SumIn1Ideal.nD Cert.SumIn1Ideal.τ).loc Cert.SumIn1Ideal.main_arg2) = m ((c.tc : Thread Cert.SumIn1Ideal.nD Cert.SumIn1Ideal.τ).loc Cert.SumIn1Ideal.main_arg2))
      ∧ θ_run (Cert.SumIn1RefIdeal.defs (F := Ideal)) (onTc (τ := Cert.SumIn1RefIdeal.τ) (Cert.SumIn1RefIdeal.main (F := Ideal))) ⟨m', fun _ => 0, g'⟩ (fun r => ∀ c : Dev Cert.SumIn1RefIdeal.nD,
          r.2.mem ((c.tc : Thread Cert.SumIn1RefIdeal.nD Cert.SumIn1RefIdeal.τ).loc Cert.SumIn1RefIdeal.main_v9) = v0 c
          ∧ r.2.mem ((c.tc : Thread Cert.SumIn1RefIdeal.nD Cert.SumIn1RefIdeal.τ).loc Cert.SumIn1RefIdeal.main_arg0) = m' ((c.tc : Thread Cert.SumIn1RefIdeal.nD Cert.SumIn1RefIdeal.τ).loc Cert.SumIn1RefIdeal.main_arg0)
          ∧ r.2.mem ((c.tc : Thread Cert.SumIn1RefIdeal.nD Cert.SumIn1RefIdeal.τ).loc Cert.SumIn1RefIdeal.main_arg1) = m' ((c.tc : Thread Cert.SumIn1RefIdeal.nD Cert.SumIn1RefIdeal.τ).loc Cert.SumIn1RefIdeal.main_arg1)
          ∧ r.2.mem ((c.tc : Thread Cert.SumIn1RefIdeal.nD Cert.SumIn1RefIdeal.τ).loc Cert.SumIn1RefIdeal.main_arg2) = m' ((c.tc : Thread Cert.SumIn1RefIdeal.nD Cert.SumIn1RefIdeal.τ).loc Cert.SumIn1RefIdeal.main_arg2))

def preserves_SumAttn0_SumAttn0Ideal : Prop :=
  True

def algebraic_SumAttn0Ideal_SumAttn0RefIdeal [hSumAttn0Ideal : Cert.SumAttn0Ideal.Facts] [hSumAttn0RefIdeal : Cert.SumAttn0RefIdeal.Facts] : Prop :=
  ∀ (m : (ℓ : Loc Cert.SumAttn0Ideal.nD Cert.SumAttn0Ideal.τ Cert.SumAttn0Ideal.sig) → Buf (Elt Ideal) ℓ) (g : Dev Cert.SumAttn0Ideal.nD → PrngReg)
    (m' : (ℓ : Loc Cert.SumAttn0RefIdeal.nD Cert.SumAttn0RefIdeal.τ Cert.SumAttn0RefIdeal.sig) → Buf (Elt Ideal) ℓ) (g' : Dev Cert.SumAttn0RefIdeal.nD → PrngReg), Pre_SumAttn0Ideal m →
    (∀ c : Dev Cert.SumAttn0Ideal.nD,
      m' ((c.tc : Thread Cert.SumAttn0RefIdeal.nD Cert.SumAttn0RefIdeal.τ).loc Cert.SumAttn0RefIdeal.main_arg0) = m ((c.tc : Thread Cert.SumAttn0Ideal.nD Cert.SumAttn0Ideal.τ).loc Cert.SumAttn0Ideal.main_arg0)
      ∧ m' ((c.tc : Thread Cert.SumAttn0RefIdeal.nD Cert.SumAttn0RefIdeal.τ).loc Cert.SumAttn0RefIdeal.main_arg1) = m ((c.tc : Thread Cert.SumAttn0Ideal.nD Cert.SumAttn0Ideal.τ).loc Cert.SumAttn0Ideal.main_arg1)
      ∧ m' ((c.tc : Thread Cert.SumAttn0RefIdeal.nD Cert.SumAttn0RefIdeal.τ).loc Cert.SumAttn0RefIdeal.main_arg2) = m ((c.tc : Thread Cert.SumAttn0Ideal.nD Cert.SumAttn0Ideal.τ).loc Cert.SumAttn0Ideal.main_arg2)) →
    ∃ (v0 : (c : Dev Cert.SumAttn0Ideal.nD) → Buf (Elt Ideal) ((c.tc : Thread Cert.SumAttn0Ideal.nD Cert.SumAttn0Ideal.τ).loc Cert.SumAttn0Ideal.main_v7)),
      θ_run (Cert.SumAttn0Ideal.defs (F := Ideal)) (onTc (τ := Cert.SumAttn0Ideal.τ) (Cert.SumAttn0Ideal.main (F := Ideal))) ⟨m, fun _ => 0, g⟩ (fun r => ∀ c : Dev Cert.SumAttn0Ideal.nD,
          r.2.mem ((c.tc : Thread Cert.SumAttn0Ideal.nD Cert.SumAttn0Ideal.τ).loc Cert.SumAttn0Ideal.main_v7) = v0 c
          ∧ r.2.mem ((c.tc : Thread Cert.SumAttn0Ideal.nD Cert.SumAttn0Ideal.τ).loc Cert.SumAttn0Ideal.main_arg0) = m ((c.tc : Thread Cert.SumAttn0Ideal.nD Cert.SumAttn0Ideal.τ).loc Cert.SumAttn0Ideal.main_arg0)
          ∧ r.2.mem ((c.tc : Thread Cert.SumAttn0Ideal.nD Cert.SumAttn0Ideal.τ).loc Cert.SumAttn0Ideal.main_arg1) = m ((c.tc : Thread Cert.SumAttn0Ideal.nD Cert.SumAttn0Ideal.τ).loc Cert.SumAttn0Ideal.main_arg1)
          ∧ r.2.mem ((c.tc : Thread Cert.SumAttn0Ideal.nD Cert.SumAttn0Ideal.τ).loc Cert.SumAttn0Ideal.main_arg2) = m ((c.tc : Thread Cert.SumAttn0Ideal.nD Cert.SumAttn0Ideal.τ).loc Cert.SumAttn0Ideal.main_arg2))
      ∧ θ_run (Cert.SumAttn0RefIdeal.defs (F := Ideal)) (onTc (τ := Cert.SumAttn0RefIdeal.τ) (Cert.SumAttn0RefIdeal.main (F := Ideal))) ⟨m', fun _ => 0, g'⟩ (fun r => ∀ c : Dev Cert.SumAttn0RefIdeal.nD,
          r.2.mem ((c.tc : Thread Cert.SumAttn0RefIdeal.nD Cert.SumAttn0RefIdeal.τ).loc Cert.SumAttn0RefIdeal.main_v9) = v0 c
          ∧ r.2.mem ((c.tc : Thread Cert.SumAttn0RefIdeal.nD Cert.SumAttn0RefIdeal.τ).loc Cert.SumAttn0RefIdeal.main_arg0) = m' ((c.tc : Thread Cert.SumAttn0RefIdeal.nD Cert.SumAttn0RefIdeal.τ).loc Cert.SumAttn0RefIdeal.main_arg0)
          ∧ r.2.mem ((c.tc : Thread Cert.SumAttn0RefIdeal.nD Cert.SumAttn0RefIdeal.τ).loc Cert.SumAttn0RefIdeal.main_arg1) = m' ((c.tc : Thread Cert.SumAttn0RefIdeal.nD Cert.SumAttn0RefIdeal.τ).loc Cert.SumAttn0RefIdeal.main_arg1)
          ∧ r.2.mem ((c.tc : Thread Cert.SumAttn0RefIdeal.nD Cert.SumAttn0RefIdeal.τ).loc Cert.SumAttn0RefIdeal.main_arg2) = m' ((c.tc : Thread Cert.SumAttn0RefIdeal.nD Cert.SumAttn0RefIdeal.τ).loc Cert.SumAttn0RefIdeal.main_arg2))

def preserves_SumAttn1_SumAttn1Ideal : Prop :=
  True

def algebraic_SumAttn1Ideal_SumAttn1RefIdeal [hSumAttn1Ideal : Cert.SumAttn1Ideal.Facts] [hSumAttn1RefIdeal : Cert.SumAttn1RefIdeal.Facts] : Prop :=
  ∀ (m : (ℓ : Loc Cert.SumAttn1Ideal.nD Cert.SumAttn1Ideal.τ Cert.SumAttn1Ideal.sig) → Buf (Elt Ideal) ℓ) (g : Dev Cert.SumAttn1Ideal.nD → PrngReg)
    (m' : (ℓ : Loc Cert.SumAttn1RefIdeal.nD Cert.SumAttn1RefIdeal.τ Cert.SumAttn1RefIdeal.sig) → Buf (Elt Ideal) ℓ) (g' : Dev Cert.SumAttn1RefIdeal.nD → PrngReg), Pre_SumAttn1Ideal m →
    (∀ c : Dev Cert.SumAttn1Ideal.nD,
      m' ((c.tc : Thread Cert.SumAttn1RefIdeal.nD Cert.SumAttn1RefIdeal.τ).loc Cert.SumAttn1RefIdeal.main_arg0) = m ((c.tc : Thread Cert.SumAttn1Ideal.nD Cert.SumAttn1Ideal.τ).loc Cert.SumAttn1Ideal.main_arg0)
      ∧ m' ((c.tc : Thread Cert.SumAttn1RefIdeal.nD Cert.SumAttn1RefIdeal.τ).loc Cert.SumAttn1RefIdeal.main_arg1) = m ((c.tc : Thread Cert.SumAttn1Ideal.nD Cert.SumAttn1Ideal.τ).loc Cert.SumAttn1Ideal.main_arg1)
      ∧ m' ((c.tc : Thread Cert.SumAttn1RefIdeal.nD Cert.SumAttn1RefIdeal.τ).loc Cert.SumAttn1RefIdeal.main_arg2) = m ((c.tc : Thread Cert.SumAttn1Ideal.nD Cert.SumAttn1Ideal.τ).loc Cert.SumAttn1Ideal.main_arg2)) →
    ∃ (v0 : (c : Dev Cert.SumAttn1Ideal.nD) → Buf (Elt Ideal) ((c.tc : Thread Cert.SumAttn1Ideal.nD Cert.SumAttn1Ideal.τ).loc Cert.SumAttn1Ideal.main_v7)),
      θ_run (Cert.SumAttn1Ideal.defs (F := Ideal)) (onTc (τ := Cert.SumAttn1Ideal.τ) (Cert.SumAttn1Ideal.main (F := Ideal))) ⟨m, fun _ => 0, g⟩ (fun r => ∀ c : Dev Cert.SumAttn1Ideal.nD,
          r.2.mem ((c.tc : Thread Cert.SumAttn1Ideal.nD Cert.SumAttn1Ideal.τ).loc Cert.SumAttn1Ideal.main_v7) = v0 c
          ∧ r.2.mem ((c.tc : Thread Cert.SumAttn1Ideal.nD Cert.SumAttn1Ideal.τ).loc Cert.SumAttn1Ideal.main_arg0) = m ((c.tc : Thread Cert.SumAttn1Ideal.nD Cert.SumAttn1Ideal.τ).loc Cert.SumAttn1Ideal.main_arg0)
          ∧ r.2.mem ((c.tc : Thread Cert.SumAttn1Ideal.nD Cert.SumAttn1Ideal.τ).loc Cert.SumAttn1Ideal.main_arg1) = m ((c.tc : Thread Cert.SumAttn1Ideal.nD Cert.SumAttn1Ideal.τ).loc Cert.SumAttn1Ideal.main_arg1)
          ∧ r.2.mem ((c.tc : Thread Cert.SumAttn1Ideal.nD Cert.SumAttn1Ideal.τ).loc Cert.SumAttn1Ideal.main_arg2) = m ((c.tc : Thread Cert.SumAttn1Ideal.nD Cert.SumAttn1Ideal.τ).loc Cert.SumAttn1Ideal.main_arg2))
      ∧ θ_run (Cert.SumAttn1RefIdeal.defs (F := Ideal)) (onTc (τ := Cert.SumAttn1RefIdeal.τ) (Cert.SumAttn1RefIdeal.main (F := Ideal))) ⟨m', fun _ => 0, g'⟩ (fun r => ∀ c : Dev Cert.SumAttn1RefIdeal.nD,
          r.2.mem ((c.tc : Thread Cert.SumAttn1RefIdeal.nD Cert.SumAttn1RefIdeal.τ).loc Cert.SumAttn1RefIdeal.main_v9) = v0 c
          ∧ r.2.mem ((c.tc : Thread Cert.SumAttn1RefIdeal.nD Cert.SumAttn1RefIdeal.τ).loc Cert.SumAttn1RefIdeal.main_arg0) = m' ((c.tc : Thread Cert.SumAttn1RefIdeal.nD Cert.SumAttn1RefIdeal.τ).loc Cert.SumAttn1RefIdeal.main_arg0)
          ∧ r.2.mem ((c.tc : Thread Cert.SumAttn1RefIdeal.nD Cert.SumAttn1RefIdeal.τ).loc Cert.SumAttn1RefIdeal.main_arg1) = m' ((c.tc : Thread Cert.SumAttn1RefIdeal.nD Cert.SumAttn1RefIdeal.τ).loc Cert.SumAttn1RefIdeal.main_arg1)
          ∧ r.2.mem ((c.tc : Thread Cert.SumAttn1RefIdeal.nD Cert.SumAttn1RefIdeal.τ).loc Cert.SumAttn1RefIdeal.main_arg2) = m' ((c.tc : Thread Cert.SumAttn1RefIdeal.nD Cert.SumAttn1RefIdeal.τ).loc Cert.SumAttn1RefIdeal.main_arg2))

def preserves_SumHgrn0_SumHgrn0Ideal : Prop :=
  True

def algebraic_SumHgrn0Ideal_SumHgrn0RefIdeal [hSumHgrn0Ideal : Cert.SumHgrn0Ideal.Facts] [hSumHgrn0RefIdeal : Cert.SumHgrn0RefIdeal.Facts] : Prop :=
  ∀ (m : (ℓ : Loc Cert.SumHgrn0Ideal.nD Cert.SumHgrn0Ideal.τ Cert.SumHgrn0Ideal.sig) → Buf (Elt Ideal) ℓ) (g : Dev Cert.SumHgrn0Ideal.nD → PrngReg)
    (m' : (ℓ : Loc Cert.SumHgrn0RefIdeal.nD Cert.SumHgrn0RefIdeal.τ Cert.SumHgrn0RefIdeal.sig) → Buf (Elt Ideal) ℓ) (g' : Dev Cert.SumHgrn0RefIdeal.nD → PrngReg), Pre_SumHgrn0Ideal m →
    (∀ c : Dev Cert.SumHgrn0Ideal.nD,
      m' ((c.tc : Thread Cert.SumHgrn0RefIdeal.nD Cert.SumHgrn0RefIdeal.τ).loc Cert.SumHgrn0RefIdeal.main_arg0) = m ((c.tc : Thread Cert.SumHgrn0Ideal.nD Cert.SumHgrn0Ideal.τ).loc Cert.SumHgrn0Ideal.main_arg0)
      ∧ m' ((c.tc : Thread Cert.SumHgrn0RefIdeal.nD Cert.SumHgrn0RefIdeal.τ).loc Cert.SumHgrn0RefIdeal.main_arg1) = m ((c.tc : Thread Cert.SumHgrn0Ideal.nD Cert.SumHgrn0Ideal.τ).loc Cert.SumHgrn0Ideal.main_arg1)
      ∧ m' ((c.tc : Thread Cert.SumHgrn0RefIdeal.nD Cert.SumHgrn0RefIdeal.τ).loc Cert.SumHgrn0RefIdeal.main_arg2) = m ((c.tc : Thread Cert.SumHgrn0Ideal.nD Cert.SumHgrn0Ideal.τ).loc Cert.SumHgrn0Ideal.main_arg2)) →
    ∃ (v0 : (c : Dev Cert.SumHgrn0Ideal.nD) → Buf (Elt Ideal) ((c.tc : Thread Cert.SumHgrn0Ideal.nD Cert.SumHgrn0Ideal.τ).loc Cert.SumHgrn0Ideal.main_v7)),
      θ_run (Cert.SumHgrn0Ideal.defs (F := Ideal)) (onTc (τ := Cert.SumHgrn0Ideal.τ) (Cert.SumHgrn0Ideal.main (F := Ideal))) ⟨m, fun _ => 0, g⟩ (fun r => ∀ c : Dev Cert.SumHgrn0Ideal.nD,
          r.2.mem ((c.tc : Thread Cert.SumHgrn0Ideal.nD Cert.SumHgrn0Ideal.τ).loc Cert.SumHgrn0Ideal.main_v7) = v0 c
          ∧ r.2.mem ((c.tc : Thread Cert.SumHgrn0Ideal.nD Cert.SumHgrn0Ideal.τ).loc Cert.SumHgrn0Ideal.main_arg0) = m ((c.tc : Thread Cert.SumHgrn0Ideal.nD Cert.SumHgrn0Ideal.τ).loc Cert.SumHgrn0Ideal.main_arg0)
          ∧ r.2.mem ((c.tc : Thread Cert.SumHgrn0Ideal.nD Cert.SumHgrn0Ideal.τ).loc Cert.SumHgrn0Ideal.main_arg1) = m ((c.tc : Thread Cert.SumHgrn0Ideal.nD Cert.SumHgrn0Ideal.τ).loc Cert.SumHgrn0Ideal.main_arg1)
          ∧ r.2.mem ((c.tc : Thread Cert.SumHgrn0Ideal.nD Cert.SumHgrn0Ideal.τ).loc Cert.SumHgrn0Ideal.main_arg2) = m ((c.tc : Thread Cert.SumHgrn0Ideal.nD Cert.SumHgrn0Ideal.τ).loc Cert.SumHgrn0Ideal.main_arg2))
      ∧ θ_run (Cert.SumHgrn0RefIdeal.defs (F := Ideal)) (onTc (τ := Cert.SumHgrn0RefIdeal.τ) (Cert.SumHgrn0RefIdeal.main (F := Ideal))) ⟨m', fun _ => 0, g'⟩ (fun r => ∀ c : Dev Cert.SumHgrn0RefIdeal.nD,
          r.2.mem ((c.tc : Thread Cert.SumHgrn0RefIdeal.nD Cert.SumHgrn0RefIdeal.τ).loc Cert.SumHgrn0RefIdeal.main_v9) = v0 c
          ∧ r.2.mem ((c.tc : Thread Cert.SumHgrn0RefIdeal.nD Cert.SumHgrn0RefIdeal.τ).loc Cert.SumHgrn0RefIdeal.main_arg0) = m' ((c.tc : Thread Cert.SumHgrn0RefIdeal.nD Cert.SumHgrn0RefIdeal.τ).loc Cert.SumHgrn0RefIdeal.main_arg0)
          ∧ r.2.mem ((c.tc : Thread Cert.SumHgrn0RefIdeal.nD Cert.SumHgrn0RefIdeal.τ).loc Cert.SumHgrn0RefIdeal.main_arg1) = m' ((c.tc : Thread Cert.SumHgrn0RefIdeal.nD Cert.SumHgrn0RefIdeal.τ).loc Cert.SumHgrn0RefIdeal.main_arg1)
          ∧ r.2.mem ((c.tc : Thread Cert.SumHgrn0RefIdeal.nD Cert.SumHgrn0RefIdeal.τ).loc Cert.SumHgrn0RefIdeal.main_arg2) = m' ((c.tc : Thread Cert.SumHgrn0RefIdeal.nD Cert.SumHgrn0RefIdeal.τ).loc Cert.SumHgrn0RefIdeal.main_arg2))

def preserves_SumHgrn1_SumHgrn1Ideal : Prop :=
  True

def algebraic_SumHgrn1Ideal_SumHgrn1RefIdeal [hSumHgrn1Ideal : Cert.SumHgrn1Ideal.Facts] [hSumHgrn1RefIdeal : Cert.SumHgrn1RefIdeal.Facts] : Prop :=
  ∀ (m : (ℓ : Loc Cert.SumHgrn1Ideal.nD Cert.SumHgrn1Ideal.τ Cert.SumHgrn1Ideal.sig) → Buf (Elt Ideal) ℓ) (g : Dev Cert.SumHgrn1Ideal.nD → PrngReg)
    (m' : (ℓ : Loc Cert.SumHgrn1RefIdeal.nD Cert.SumHgrn1RefIdeal.τ Cert.SumHgrn1RefIdeal.sig) → Buf (Elt Ideal) ℓ) (g' : Dev Cert.SumHgrn1RefIdeal.nD → PrngReg), Pre_SumHgrn1Ideal m →
    (∀ c : Dev Cert.SumHgrn1Ideal.nD,
      m' ((c.tc : Thread Cert.SumHgrn1RefIdeal.nD Cert.SumHgrn1RefIdeal.τ).loc Cert.SumHgrn1RefIdeal.main_arg0) = m ((c.tc : Thread Cert.SumHgrn1Ideal.nD Cert.SumHgrn1Ideal.τ).loc Cert.SumHgrn1Ideal.main_arg0)
      ∧ m' ((c.tc : Thread Cert.SumHgrn1RefIdeal.nD Cert.SumHgrn1RefIdeal.τ).loc Cert.SumHgrn1RefIdeal.main_arg1) = m ((c.tc : Thread Cert.SumHgrn1Ideal.nD Cert.SumHgrn1Ideal.τ).loc Cert.SumHgrn1Ideal.main_arg1)
      ∧ m' ((c.tc : Thread Cert.SumHgrn1RefIdeal.nD Cert.SumHgrn1RefIdeal.τ).loc Cert.SumHgrn1RefIdeal.main_arg2) = m ((c.tc : Thread Cert.SumHgrn1Ideal.nD Cert.SumHgrn1Ideal.τ).loc Cert.SumHgrn1Ideal.main_arg2)) →
    ∃ (v0 : (c : Dev Cert.SumHgrn1Ideal.nD) → Buf (Elt Ideal) ((c.tc : Thread Cert.SumHgrn1Ideal.nD Cert.SumHgrn1Ideal.τ).loc Cert.SumHgrn1Ideal.main_v7)),
      θ_run (Cert.SumHgrn1Ideal.defs (F := Ideal)) (onTc (τ := Cert.SumHgrn1Ideal.τ) (Cert.SumHgrn1Ideal.main (F := Ideal))) ⟨m, fun _ => 0, g⟩ (fun r => ∀ c : Dev Cert.SumHgrn1Ideal.nD,
          r.2.mem ((c.tc : Thread Cert.SumHgrn1Ideal.nD Cert.SumHgrn1Ideal.τ).loc Cert.SumHgrn1Ideal.main_v7) = v0 c
          ∧ r.2.mem ((c.tc : Thread Cert.SumHgrn1Ideal.nD Cert.SumHgrn1Ideal.τ).loc Cert.SumHgrn1Ideal.main_arg0) = m ((c.tc : Thread Cert.SumHgrn1Ideal.nD Cert.SumHgrn1Ideal.τ).loc Cert.SumHgrn1Ideal.main_arg0)
          ∧ r.2.mem ((c.tc : Thread Cert.SumHgrn1Ideal.nD Cert.SumHgrn1Ideal.τ).loc Cert.SumHgrn1Ideal.main_arg1) = m ((c.tc : Thread Cert.SumHgrn1Ideal.nD Cert.SumHgrn1Ideal.τ).loc Cert.SumHgrn1Ideal.main_arg1)
          ∧ r.2.mem ((c.tc : Thread Cert.SumHgrn1Ideal.nD Cert.SumHgrn1Ideal.τ).loc Cert.SumHgrn1Ideal.main_arg2) = m ((c.tc : Thread Cert.SumHgrn1Ideal.nD Cert.SumHgrn1Ideal.τ).loc Cert.SumHgrn1Ideal.main_arg2))
      ∧ θ_run (Cert.SumHgrn1RefIdeal.defs (F := Ideal)) (onTc (τ := Cert.SumHgrn1RefIdeal.τ) (Cert.SumHgrn1RefIdeal.main (F := Ideal))) ⟨m', fun _ => 0, g'⟩ (fun r => ∀ c : Dev Cert.SumHgrn1RefIdeal.nD,
          r.2.mem ((c.tc : Thread Cert.SumHgrn1RefIdeal.nD Cert.SumHgrn1RefIdeal.τ).loc Cert.SumHgrn1RefIdeal.main_v9) = v0 c
          ∧ r.2.mem ((c.tc : Thread Cert.SumHgrn1RefIdeal.nD Cert.SumHgrn1RefIdeal.τ).loc Cert.SumHgrn1RefIdeal.main_arg0) = m' ((c.tc : Thread Cert.SumHgrn1RefIdeal.nD Cert.SumHgrn1RefIdeal.τ).loc Cert.SumHgrn1RefIdeal.main_arg0)
          ∧ r.2.mem ((c.tc : Thread Cert.SumHgrn1RefIdeal.nD Cert.SumHgrn1RefIdeal.τ).loc Cert.SumHgrn1RefIdeal.main_arg1) = m' ((c.tc : Thread Cert.SumHgrn1RefIdeal.nD Cert.SumHgrn1RefIdeal.τ).loc Cert.SumHgrn1RefIdeal.main_arg1)
          ∧ r.2.mem ((c.tc : Thread Cert.SumHgrn1RefIdeal.nD Cert.SumHgrn1RefIdeal.τ).loc Cert.SumHgrn1RefIdeal.main_arg2) = m' ((c.tc : Thread Cert.SumHgrn1RefIdeal.nD Cert.SumHgrn1RefIdeal.τ).loc Cert.SumHgrn1RefIdeal.main_arg2))

def preserves_SumOut0_SumOut0Ideal : Prop :=
  True

def algebraic_SumOut0Ideal_SumOut0RefIdeal [hSumOut0Ideal : Cert.SumOut0Ideal.Facts] [hSumOut0RefIdeal : Cert.SumOut0RefIdeal.Facts] : Prop :=
  ∀ (m : (ℓ : Loc Cert.SumOut0Ideal.nD Cert.SumOut0Ideal.τ Cert.SumOut0Ideal.sig) → Buf (Elt Ideal) ℓ) (g : Dev Cert.SumOut0Ideal.nD → PrngReg)
    (m' : (ℓ : Loc Cert.SumOut0RefIdeal.nD Cert.SumOut0RefIdeal.τ Cert.SumOut0RefIdeal.sig) → Buf (Elt Ideal) ℓ) (g' : Dev Cert.SumOut0RefIdeal.nD → PrngReg), Pre_SumOut0Ideal m →
    (∀ c : Dev Cert.SumOut0Ideal.nD,
      m' ((c.tc : Thread Cert.SumOut0RefIdeal.nD Cert.SumOut0RefIdeal.τ).loc Cert.SumOut0RefIdeal.main_arg0) = m ((c.tc : Thread Cert.SumOut0Ideal.nD Cert.SumOut0Ideal.τ).loc Cert.SumOut0Ideal.main_arg0)
      ∧ m' ((c.tc : Thread Cert.SumOut0RefIdeal.nD Cert.SumOut0RefIdeal.τ).loc Cert.SumOut0RefIdeal.main_arg1) = m ((c.tc : Thread Cert.SumOut0Ideal.nD Cert.SumOut0Ideal.τ).loc Cert.SumOut0Ideal.main_arg1)
      ∧ m' ((c.tc : Thread Cert.SumOut0RefIdeal.nD Cert.SumOut0RefIdeal.τ).loc Cert.SumOut0RefIdeal.main_arg2) = m ((c.tc : Thread Cert.SumOut0Ideal.nD Cert.SumOut0Ideal.τ).loc Cert.SumOut0Ideal.main_arg2)) →
    ∃ (v0 : (c : Dev Cert.SumOut0Ideal.nD) → Buf (Elt Ideal) ((c.tc : Thread Cert.SumOut0Ideal.nD Cert.SumOut0Ideal.τ).loc Cert.SumOut0Ideal.main_v7)),
      θ_run (Cert.SumOut0Ideal.defs (F := Ideal)) (onTc (τ := Cert.SumOut0Ideal.τ) (Cert.SumOut0Ideal.main (F := Ideal))) ⟨m, fun _ => 0, g⟩ (fun r => ∀ c : Dev Cert.SumOut0Ideal.nD,
          r.2.mem ((c.tc : Thread Cert.SumOut0Ideal.nD Cert.SumOut0Ideal.τ).loc Cert.SumOut0Ideal.main_v7) = v0 c
          ∧ r.2.mem ((c.tc : Thread Cert.SumOut0Ideal.nD Cert.SumOut0Ideal.τ).loc Cert.SumOut0Ideal.main_arg0) = m ((c.tc : Thread Cert.SumOut0Ideal.nD Cert.SumOut0Ideal.τ).loc Cert.SumOut0Ideal.main_arg0)
          ∧ r.2.mem ((c.tc : Thread Cert.SumOut0Ideal.nD Cert.SumOut0Ideal.τ).loc Cert.SumOut0Ideal.main_arg1) = m ((c.tc : Thread Cert.SumOut0Ideal.nD Cert.SumOut0Ideal.τ).loc Cert.SumOut0Ideal.main_arg1)
          ∧ r.2.mem ((c.tc : Thread Cert.SumOut0Ideal.nD Cert.SumOut0Ideal.τ).loc Cert.SumOut0Ideal.main_arg2) = m ((c.tc : Thread Cert.SumOut0Ideal.nD Cert.SumOut0Ideal.τ).loc Cert.SumOut0Ideal.main_arg2))
      ∧ θ_run (Cert.SumOut0RefIdeal.defs (F := Ideal)) (onTc (τ := Cert.SumOut0RefIdeal.τ) (Cert.SumOut0RefIdeal.main (F := Ideal))) ⟨m', fun _ => 0, g'⟩ (fun r => ∀ c : Dev Cert.SumOut0RefIdeal.nD,
          r.2.mem ((c.tc : Thread Cert.SumOut0RefIdeal.nD Cert.SumOut0RefIdeal.τ).loc Cert.SumOut0RefIdeal.main_v9) = v0 c
          ∧ r.2.mem ((c.tc : Thread Cert.SumOut0RefIdeal.nD Cert.SumOut0RefIdeal.τ).loc Cert.SumOut0RefIdeal.main_arg0) = m' ((c.tc : Thread Cert.SumOut0RefIdeal.nD Cert.SumOut0RefIdeal.τ).loc Cert.SumOut0RefIdeal.main_arg0)
          ∧ r.2.mem ((c.tc : Thread Cert.SumOut0RefIdeal.nD Cert.SumOut0RefIdeal.τ).loc Cert.SumOut0RefIdeal.main_arg1) = m' ((c.tc : Thread Cert.SumOut0RefIdeal.nD Cert.SumOut0RefIdeal.τ).loc Cert.SumOut0RefIdeal.main_arg1)
          ∧ r.2.mem ((c.tc : Thread Cert.SumOut0RefIdeal.nD Cert.SumOut0RefIdeal.τ).loc Cert.SumOut0RefIdeal.main_arg2) = m' ((c.tc : Thread Cert.SumOut0RefIdeal.nD Cert.SumOut0RefIdeal.τ).loc Cert.SumOut0RefIdeal.main_arg2))

def preserves_SumOut1_SumOut1Ideal : Prop :=
  True

def algebraic_SumOut1Ideal_SumOut1RefIdeal [hSumOut1Ideal : Cert.SumOut1Ideal.Facts] [hSumOut1RefIdeal : Cert.SumOut1RefIdeal.Facts] : Prop :=
  ∀ (m : (ℓ : Loc Cert.SumOut1Ideal.nD Cert.SumOut1Ideal.τ Cert.SumOut1Ideal.sig) → Buf (Elt Ideal) ℓ) (g : Dev Cert.SumOut1Ideal.nD → PrngReg)
    (m' : (ℓ : Loc Cert.SumOut1RefIdeal.nD Cert.SumOut1RefIdeal.τ Cert.SumOut1RefIdeal.sig) → Buf (Elt Ideal) ℓ) (g' : Dev Cert.SumOut1RefIdeal.nD → PrngReg), Pre_SumOut1Ideal m →
    (∀ c : Dev Cert.SumOut1Ideal.nD,
      m' ((c.tc : Thread Cert.SumOut1RefIdeal.nD Cert.SumOut1RefIdeal.τ).loc Cert.SumOut1RefIdeal.main_arg0) = m ((c.tc : Thread Cert.SumOut1Ideal.nD Cert.SumOut1Ideal.τ).loc Cert.SumOut1Ideal.main_arg0)
      ∧ m' ((c.tc : Thread Cert.SumOut1RefIdeal.nD Cert.SumOut1RefIdeal.τ).loc Cert.SumOut1RefIdeal.main_arg1) = m ((c.tc : Thread Cert.SumOut1Ideal.nD Cert.SumOut1Ideal.τ).loc Cert.SumOut1Ideal.main_arg1)
      ∧ m' ((c.tc : Thread Cert.SumOut1RefIdeal.nD Cert.SumOut1RefIdeal.τ).loc Cert.SumOut1RefIdeal.main_arg2) = m ((c.tc : Thread Cert.SumOut1Ideal.nD Cert.SumOut1Ideal.τ).loc Cert.SumOut1Ideal.main_arg2)) →
    ∃ (v0 : (c : Dev Cert.SumOut1Ideal.nD) → Buf (Elt Ideal) ((c.tc : Thread Cert.SumOut1Ideal.nD Cert.SumOut1Ideal.τ).loc Cert.SumOut1Ideal.main_v7)),
      θ_run (Cert.SumOut1Ideal.defs (F := Ideal)) (onTc (τ := Cert.SumOut1Ideal.τ) (Cert.SumOut1Ideal.main (F := Ideal))) ⟨m, fun _ => 0, g⟩ (fun r => ∀ c : Dev Cert.SumOut1Ideal.nD,
          r.2.mem ((c.tc : Thread Cert.SumOut1Ideal.nD Cert.SumOut1Ideal.τ).loc Cert.SumOut1Ideal.main_v7) = v0 c
          ∧ r.2.mem ((c.tc : Thread Cert.SumOut1Ideal.nD Cert.SumOut1Ideal.τ).loc Cert.SumOut1Ideal.main_arg0) = m ((c.tc : Thread Cert.SumOut1Ideal.nD Cert.SumOut1Ideal.τ).loc Cert.SumOut1Ideal.main_arg0)
          ∧ r.2.mem ((c.tc : Thread Cert.SumOut1Ideal.nD Cert.SumOut1Ideal.τ).loc Cert.SumOut1Ideal.main_arg1) = m ((c.tc : Thread Cert.SumOut1Ideal.nD Cert.SumOut1Ideal.τ).loc Cert.SumOut1Ideal.main_arg1)
          ∧ r.2.mem ((c.tc : Thread Cert.SumOut1Ideal.nD Cert.SumOut1Ideal.τ).loc Cert.SumOut1Ideal.main_arg2) = m ((c.tc : Thread Cert.SumOut1Ideal.nD Cert.SumOut1Ideal.τ).loc Cert.SumOut1Ideal.main_arg2))
      ∧ θ_run (Cert.SumOut1RefIdeal.defs (F := Ideal)) (onTc (τ := Cert.SumOut1RefIdeal.τ) (Cert.SumOut1RefIdeal.main (F := Ideal))) ⟨m', fun _ => 0, g'⟩ (fun r => ∀ c : Dev Cert.SumOut1RefIdeal.nD,
          r.2.mem ((c.tc : Thread Cert.SumOut1RefIdeal.nD Cert.SumOut1RefIdeal.τ).loc Cert.SumOut1RefIdeal.main_v9) = v0 c
          ∧ r.2.mem ((c.tc : Thread Cert.SumOut1RefIdeal.nD Cert.SumOut1RefIdeal.τ).loc Cert.SumOut1RefIdeal.main_arg0) = m' ((c.tc : Thread Cert.SumOut1RefIdeal.nD Cert.SumOut1RefIdeal.τ).loc Cert.SumOut1RefIdeal.main_arg0)
          ∧ r.2.mem ((c.tc : Thread Cert.SumOut1RefIdeal.nD Cert.SumOut1RefIdeal.τ).loc Cert.SumOut1RefIdeal.main_arg1) = m' ((c.tc : Thread Cert.SumOut1RefIdeal.nD Cert.SumOut1RefIdeal.τ).loc Cert.SumOut1RefIdeal.main_arg1)
          ∧ r.2.mem ((c.tc : Thread Cert.SumOut1RefIdeal.nD Cert.SumOut1RefIdeal.τ).loc Cert.SumOut1RefIdeal.main_arg2) = m' ((c.tc : Thread Cert.SumOut1RefIdeal.nD Cert.SumOut1RefIdeal.τ).loc Cert.SumOut1RefIdeal.main_arg2))

def preserves_CastIn_CastInIdeal : Prop :=
  True

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v4)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v4) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v0) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastAttn_CastAttnIdeal : Prop :=
  True

def algebraic_CastAttnIdeal_CastAttnRefIdeal [hCastAttnIdeal : Cert.CastAttnIdeal.Facts] [hCastAttnRefIdeal : Cert.CastAttnRefIdeal.Facts] : Prop :=
  ∀ (m : (ℓ : Loc Cert.CastAttnIdeal.nD Cert.CastAttnIdeal.τ Cert.CastAttnIdeal.sig) → Buf (Elt Ideal) ℓ) (g : Dev Cert.CastAttnIdeal.nD → PrngReg)
    (m' : (ℓ : Loc Cert.CastAttnRefIdeal.nD Cert.CastAttnRefIdeal.τ Cert.CastAttnRefIdeal.sig) → Buf (Elt Ideal) ℓ) (g' : Dev Cert.CastAttnRefIdeal.nD → PrngReg), Pre_CastAttnIdeal m →
    (∀ c : Dev Cert.CastAttnIdeal.nD,
      m' ((c.tc : Thread Cert.CastAttnRefIdeal.nD Cert.CastAttnRefIdeal.τ).loc Cert.CastAttnRefIdeal.main_arg0) = m ((c.tc : Thread Cert.CastAttnIdeal.nD Cert.CastAttnIdeal.τ).loc Cert.CastAttnIdeal.main_arg0)) →
    ∃ (v0 : (c : Dev Cert.CastAttnIdeal.nD) → Buf (Elt Ideal) ((c.tc : Thread Cert.CastAttnIdeal.nD Cert.CastAttnIdeal.τ).loc Cert.CastAttnIdeal.main_v4)),
      θ_run (Cert.CastAttnIdeal.defs (F := Ideal)) (onTc (τ := Cert.CastAttnIdeal.τ) (Cert.CastAttnIdeal.main (F := Ideal))) ⟨m, fun _ => 0, g⟩ (fun r => ∀ c : Dev Cert.CastAttnIdeal.nD,
          r.2.mem ((c.tc : Thread Cert.CastAttnIdeal.nD Cert.CastAttnIdeal.τ).loc Cert.CastAttnIdeal.main_v4) = v0 c
          ∧ r.2.mem ((c.tc : Thread Cert.CastAttnIdeal.nD Cert.CastAttnIdeal.τ).loc Cert.CastAttnIdeal.main_arg0) = m ((c.tc : Thread Cert.CastAttnIdeal.nD Cert.CastAttnIdeal.τ).loc Cert.CastAttnIdeal.main_arg0))
      ∧ θ_run (Cert.CastAttnRefIdeal.defs (F := Ideal)) (onTc (τ := Cert.CastAttnRefIdeal.τ) (Cert.CastAttnRefIdeal.main (F := Ideal))) ⟨m', fun _ => 0, g'⟩ (fun r => ∀ c : Dev Cert.CastAttnRefIdeal.nD,
          r.2.mem ((c.tc : Thread Cert.CastAttnRefIdeal.nD Cert.CastAttnRefIdeal.τ).loc Cert.CastAttnRefIdeal.main_v0) = v0 c
          ∧ r.2.mem ((c.tc : Thread Cert.CastAttnRefIdeal.nD Cert.CastAttnRefIdeal.τ).loc Cert.CastAttnRefIdeal.main_arg0) = m' ((c.tc : Thread Cert.CastAttnRefIdeal.nD Cert.CastAttnRefIdeal.τ).loc Cert.CastAttnRefIdeal.main_arg0))

def preserves_CastHgrn_CastHgrnIdeal : Prop :=
  True

def algebraic_CastHgrnIdeal_CastHgrnRefIdeal [hCastHgrnIdeal : Cert.CastHgrnIdeal.Facts] [hCastHgrnRefIdeal : Cert.CastHgrnRefIdeal.Facts] : Prop :=
  ∀ (m : (ℓ : Loc Cert.CastHgrnIdeal.nD Cert.CastHgrnIdeal.τ Cert.CastHgrnIdeal.sig) → Buf (Elt Ideal) ℓ) (g : Dev Cert.CastHgrnIdeal.nD → PrngReg)
    (m' : (ℓ : Loc Cert.CastHgrnRefIdeal.nD Cert.CastHgrnRefIdeal.τ Cert.CastHgrnRefIdeal.sig) → Buf (Elt Ideal) ℓ) (g' : Dev Cert.CastHgrnRefIdeal.nD → PrngReg), Pre_CastHgrnIdeal m →
    (∀ c : Dev Cert.CastHgrnIdeal.nD,
      m' ((c.tc : Thread Cert.CastHgrnRefIdeal.nD Cert.CastHgrnRefIdeal.τ).loc Cert.CastHgrnRefIdeal.main_arg0) = m ((c.tc : Thread Cert.CastHgrnIdeal.nD Cert.CastHgrnIdeal.τ).loc Cert.CastHgrnIdeal.main_arg0)) →
    ∃ (v0 : (c : Dev Cert.CastHgrnIdeal.nD) → Buf (Elt Ideal) ((c.tc : Thread Cert.CastHgrnIdeal.nD Cert.CastHgrnIdeal.τ).loc Cert.CastHgrnIdeal.main_v4)),
      θ_run (Cert.CastHgrnIdeal.defs (F := Ideal)) (onTc (τ := Cert.CastHgrnIdeal.τ) (Cert.CastHgrnIdeal.main (F := Ideal))) ⟨m, fun _ => 0, g⟩ (fun r => ∀ c : Dev Cert.CastHgrnIdeal.nD,
          r.2.mem ((c.tc : Thread Cert.CastHgrnIdeal.nD Cert.CastHgrnIdeal.τ).loc Cert.CastHgrnIdeal.main_v4) = v0 c
          ∧ r.2.mem ((c.tc : Thread Cert.CastHgrnIdeal.nD Cert.CastHgrnIdeal.τ).loc Cert.CastHgrnIdeal.main_arg0) = m ((c.tc : Thread Cert.CastHgrnIdeal.nD Cert.CastHgrnIdeal.τ).loc Cert.CastHgrnIdeal.main_arg0))
      ∧ θ_run (Cert.CastHgrnRefIdeal.defs (F := Ideal)) (onTc (τ := Cert.CastHgrnRefIdeal.τ) (Cert.CastHgrnRefIdeal.main (F := Ideal))) ⟨m', fun _ => 0, g'⟩ (fun r => ∀ c : Dev Cert.CastHgrnRefIdeal.nD,
          r.2.mem ((c.tc : Thread Cert.CastHgrnRefIdeal.nD Cert.CastHgrnRefIdeal.τ).loc Cert.CastHgrnRefIdeal.main_v0) = v0 c
          ∧ r.2.mem ((c.tc : Thread Cert.CastHgrnRefIdeal.nD Cert.CastHgrnRefIdeal.τ).loc Cert.CastHgrnRefIdeal.main_arg0) = m' ((c.tc : Thread Cert.CastHgrnRefIdeal.nD Cert.CastHgrnRefIdeal.τ).loc Cert.CastHgrnRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v4)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v4) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v0) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def preserves_SibIn_SibInIdeal : Prop :=
  True

def algebraic_SibInIdeal_SibInRefIdeal [hSibInIdeal : Cert.SibInIdeal.Facts] [hSibInRefIdeal : Cert.SibInRefIdeal.Facts] : Prop :=
  ∀ (m : (ℓ : Loc Cert.SibInIdeal.nD Cert.SibInIdeal.τ Cert.SibInIdeal.sig) → Buf (Elt Ideal) ℓ) (g : Dev Cert.SibInIdeal.nD → PrngReg)
    (m' : (ℓ : Loc Cert.SibInRefIdeal.nD Cert.SibInRefIdeal.τ Cert.SibInRefIdeal.sig) → Buf (Elt Ideal) ℓ) (g' : Dev Cert.SibInRefIdeal.nD → PrngReg), Pre_SibInIdeal m →
    (∀ c : Dev Cert.SibInIdeal.nD,
      m' ((c.tc : Thread Cert.SibInRefIdeal.nD Cert.SibInRefIdeal.τ).loc Cert.SibInRefIdeal.main_arg0) = m ((c.tc : Thread Cert.SibInIdeal.nD Cert.SibInIdeal.τ).loc Cert.SibInIdeal.main_arg0)
      ∧ m' ((c.tc : Thread Cert.SibInRefIdeal.nD Cert.SibInRefIdeal.τ).loc Cert.SibInRefIdeal.main_arg1) = m ((c.tc : Thread Cert.SibInIdeal.nD Cert.SibInIdeal.τ).loc Cert.SibInIdeal.main_arg1)) →
    ∃ (v0 : (c : Dev Cert.SibInIdeal.nD) → Buf (Elt Ideal) ((c.tc : Thread Cert.SibInIdeal.nD Cert.SibInIdeal.τ).loc Cert.SibInIdeal.main_v16)),
      θ_run (Cert.SibInIdeal.defs (F := Ideal)) (onTc (τ := Cert.SibInIdeal.τ) (Cert.SibInIdeal.main (F := Ideal))) ⟨m, fun _ => 0, g⟩ (fun r => ∀ c : Dev Cert.SibInIdeal.nD,
          r.2.mem ((c.tc : Thread Cert.SibInIdeal.nD Cert.SibInIdeal.τ).loc Cert.SibInIdeal.main_v16) = v0 c
          ∧ r.2.mem ((c.tc : Thread Cert.SibInIdeal.nD Cert.SibInIdeal.τ).loc Cert.SibInIdeal.main_arg0) = m ((c.tc : Thread Cert.SibInIdeal.nD Cert.SibInIdeal.τ).loc Cert.SibInIdeal.main_arg0)
          ∧ r.2.mem ((c.tc : Thread Cert.SibInIdeal.nD Cert.SibInIdeal.τ).loc Cert.SibInIdeal.main_arg1) = m ((c.tc : Thread Cert.SibInIdeal.nD Cert.SibInIdeal.τ).loc Cert.SibInIdeal.main_arg1))
      ∧ θ_run (Cert.SibInRefIdeal.defs (F := Ideal)) (onTc (τ := Cert.SibInRefIdeal.τ) (Cert.SibInRefIdeal.main (F := Ideal))) ⟨m', fun _ => 0, g'⟩ (fun r => ∀ c : Dev Cert.SibInRefIdeal.nD,
          r.2.mem ((c.tc : Thread Cert.SibInRefIdeal.nD Cert.SibInRefIdeal.τ).loc Cert.SibInRefIdeal.main_v5) = v0 c
          ∧ r.2.mem ((c.tc : Thread Cert.SibInRefIdeal.nD Cert.SibInRefIdeal.τ).loc Cert.SibInRefIdeal.main_arg0) = m' ((c.tc : Thread Cert.SibInRefIdeal.nD Cert.SibInRefIdeal.τ).loc Cert.SibInRefIdeal.main_arg0)
          ∧ r.2.mem ((c.tc : Thread Cert.SibInRefIdeal.nD Cert.SibInRefIdeal.τ).loc Cert.SibInRefIdeal.main_arg1) = m' ((c.tc : Thread Cert.SibInRefIdeal.nD Cert.SibInRefIdeal.τ).loc Cert.SibInRefIdeal.main_arg1))

def preserves_SibAttn_SibAttnIdeal : Prop :=
  True

def algebraic_SibAttnIdeal_SibAttnRefIdeal [hSibAttnIdeal : Cert.SibAttnIdeal.Facts] [hSibAttnRefIdeal : Cert.SibAttnRefIdeal.Facts] : Prop :=
  ∀ (m : (ℓ : Loc Cert.SibAttnIdeal.nD Cert.SibAttnIdeal.τ Cert.SibAttnIdeal.sig) → Buf (Elt Ideal) ℓ) (g : Dev Cert.SibAttnIdeal.nD → PrngReg)
    (m' : (ℓ : Loc Cert.SibAttnRefIdeal.nD Cert.SibAttnRefIdeal.τ Cert.SibAttnRefIdeal.sig) → Buf (Elt Ideal) ℓ) (g' : Dev Cert.SibAttnRefIdeal.nD → PrngReg), Pre_SibAttnIdeal m →
    (∀ c : Dev Cert.SibAttnIdeal.nD,
      m' ((c.tc : Thread Cert.SibAttnRefIdeal.nD Cert.SibAttnRefIdeal.τ).loc Cert.SibAttnRefIdeal.main_arg0) = m ((c.tc : Thread Cert.SibAttnIdeal.nD Cert.SibAttnIdeal.τ).loc Cert.SibAttnIdeal.main_arg0)
      ∧ m' ((c.tc : Thread Cert.SibAttnRefIdeal.nD Cert.SibAttnRefIdeal.τ).loc Cert.SibAttnRefIdeal.main_arg1) = m ((c.tc : Thread Cert.SibAttnIdeal.nD Cert.SibAttnIdeal.τ).loc Cert.SibAttnIdeal.main_arg1)) →
    ∃ (v0 : (c : Dev Cert.SibAttnIdeal.nD) → Buf (Elt Ideal) ((c.tc : Thread Cert.SibAttnIdeal.nD Cert.SibAttnIdeal.τ).loc Cert.SibAttnIdeal.main_v16)),
      θ_run (Cert.SibAttnIdeal.defs (F := Ideal)) (onTc (τ := Cert.SibAttnIdeal.τ) (Cert.SibAttnIdeal.main (F := Ideal))) ⟨m, fun _ => 0, g⟩ (fun r => ∀ c : Dev Cert.SibAttnIdeal.nD,
          r.2.mem ((c.tc : Thread Cert.SibAttnIdeal.nD Cert.SibAttnIdeal.τ).loc Cert.SibAttnIdeal.main_v16) = v0 c
          ∧ r.2.mem ((c.tc : Thread Cert.SibAttnIdeal.nD Cert.SibAttnIdeal.τ).loc Cert.SibAttnIdeal.main_arg0) = m ((c.tc : Thread Cert.SibAttnIdeal.nD Cert.SibAttnIdeal.τ).loc Cert.SibAttnIdeal.main_arg0)
          ∧ r.2.mem ((c.tc : Thread Cert.SibAttnIdeal.nD Cert.SibAttnIdeal.τ).loc Cert.SibAttnIdeal.main_arg1) = m ((c.tc : Thread Cert.SibAttnIdeal.nD Cert.SibAttnIdeal.τ).loc Cert.SibAttnIdeal.main_arg1))
      ∧ θ_run (Cert.SibAttnRefIdeal.defs (F := Ideal)) (onTc (τ := Cert.SibAttnRefIdeal.τ) (Cert.SibAttnRefIdeal.main (F := Ideal))) ⟨m', fun _ => 0, g'⟩ (fun r => ∀ c : Dev Cert.SibAttnRefIdeal.nD,
          r.2.mem ((c.tc : Thread Cert.SibAttnRefIdeal.nD Cert.SibAttnRefIdeal.τ).loc Cert.SibAttnRefIdeal.main_v7) = v0 c
          ∧ r.2.mem ((c.tc : Thread Cert.SibAttnRefIdeal.nD Cert.SibAttnRefIdeal.τ).loc Cert.SibAttnRefIdeal.main_arg0) = m' ((c.tc : Thread Cert.SibAttnRefIdeal.nD Cert.SibAttnRefIdeal.τ).loc Cert.SibAttnRefIdeal.main_arg0)
          ∧ r.2.mem ((c.tc : Thread Cert.SibAttnRefIdeal.nD Cert.SibAttnRefIdeal.τ).loc Cert.SibAttnRefIdeal.main_arg1) = m' ((c.tc : Thread Cert.SibAttnRefIdeal.nD Cert.SibAttnRefIdeal.τ).loc Cert.SibAttnRefIdeal.main_arg1))

def preserves_SibHgrn_SibHgrnIdeal : Prop :=
  True

def algebraic_SibHgrnIdeal_SibHgrnRefIdeal [hSibHgrnIdeal : Cert.SibHgrnIdeal.Facts] [hSibHgrnRefIdeal : Cert.SibHgrnRefIdeal.Facts] : Prop :=
  ∀ (m : (ℓ : Loc Cert.SibHgrnIdeal.nD Cert.SibHgrnIdeal.τ Cert.SibHgrnIdeal.sig) → Buf (Elt Ideal) ℓ) (g : Dev Cert.SibHgrnIdeal.nD → PrngReg)
    (m' : (ℓ : Loc Cert.SibHgrnRefIdeal.nD Cert.SibHgrnRefIdeal.τ Cert.SibHgrnRefIdeal.sig) → Buf (Elt Ideal) ℓ) (g' : Dev Cert.SibHgrnRefIdeal.nD → PrngReg), Pre_SibHgrnIdeal m →
    (∀ c : Dev Cert.SibHgrnIdeal.nD,
      m' ((c.tc : Thread Cert.SibHgrnRefIdeal.nD Cert.SibHgrnRefIdeal.τ).loc Cert.SibHgrnRefIdeal.main_arg0) = m ((c.tc : Thread Cert.SibHgrnIdeal.nD Cert.SibHgrnIdeal.τ).loc Cert.SibHgrnIdeal.main_arg0)
      ∧ m' ((c.tc : Thread Cert.SibHgrnRefIdeal.nD Cert.SibHgrnRefIdeal.τ).loc Cert.SibHgrnRefIdeal.main_arg1) = m ((c.tc : Thread Cert.SibHgrnIdeal.nD Cert.SibHgrnIdeal.τ).loc Cert.SibHgrnIdeal.main_arg1)) →
    ∃ (v0 : (c : Dev Cert.SibHgrnIdeal.nD) → Buf (Elt Ideal) ((c.tc : Thread Cert.SibHgrnIdeal.nD Cert.SibHgrnIdeal.τ).loc Cert.SibHgrnIdeal.main_v16)),
      θ_run (Cert.SibHgrnIdeal.defs (F := Ideal)) (onTc (τ := Cert.SibHgrnIdeal.τ) (Cert.SibHgrnIdeal.main (F := Ideal))) ⟨m, fun _ => 0, g⟩ (fun r => ∀ c : Dev Cert.SibHgrnIdeal.nD,
          r.2.mem ((c.tc : Thread Cert.SibHgrnIdeal.nD Cert.SibHgrnIdeal.τ).loc Cert.SibHgrnIdeal.main_v16) = v0 c
          ∧ r.2.mem ((c.tc : Thread Cert.SibHgrnIdeal.nD Cert.SibHgrnIdeal.τ).loc Cert.SibHgrnIdeal.main_arg0) = m ((c.tc : Thread Cert.SibHgrnIdeal.nD Cert.SibHgrnIdeal.τ).loc Cert.SibHgrnIdeal.main_arg0)
          ∧ r.2.mem ((c.tc : Thread Cert.SibHgrnIdeal.nD Cert.SibHgrnIdeal.τ).loc Cert.SibHgrnIdeal.main_arg1) = m ((c.tc : Thread Cert.SibHgrnIdeal.nD Cert.SibHgrnIdeal.τ).loc Cert.SibHgrnIdeal.main_arg1))
      ∧ θ_run (Cert.SibHgrnRefIdeal.defs (F := Ideal)) (onTc (τ := Cert.SibHgrnRefIdeal.τ) (Cert.SibHgrnRefIdeal.main (F := Ideal))) ⟨m', fun _ => 0, g'⟩ (fun r => ∀ c : Dev Cert.SibHgrnRefIdeal.nD,
          r.2.mem ((c.tc : Thread Cert.SibHgrnRefIdeal.nD Cert.SibHgrnRefIdeal.τ).loc Cert.SibHgrnRefIdeal.main_v7) = v0 c
          ∧ r.2.mem ((c.tc : Thread Cert.SibHgrnRefIdeal.nD Cert.SibHgrnRefIdeal.τ).loc Cert.SibHgrnRefIdeal.main_arg0) = m' ((c.tc : Thread Cert.SibHgrnRefIdeal.nD Cert.SibHgrnRefIdeal.τ).loc Cert.SibHgrnRefIdeal.main_arg0)
          ∧ r.2.mem ((c.tc : Thread Cert.SibHgrnRefIdeal.nD Cert.SibHgrnRefIdeal.τ).loc Cert.SibHgrnRefIdeal.main_arg1) = m' ((c.tc : Thread Cert.SibHgrnRefIdeal.nD Cert.SibHgrnRefIdeal.τ).loc Cert.SibHgrnRefIdeal.main_arg1))

def preserves_SibOut_SibOutIdeal : Prop :=
  True

def algebraic_SibOutIdeal_SibOutRefIdeal [hSibOutIdeal : Cert.SibOutIdeal.Facts] [hSibOutRefIdeal : Cert.SibOutRefIdeal.Facts] : Prop :=
  ∀ (m : (ℓ : Loc Cert.SibOutIdeal.nD Cert.SibOutIdeal.τ Cert.SibOutIdeal.sig) → Buf (Elt Ideal) ℓ) (g : Dev Cert.SibOutIdeal.nD → PrngReg)
    (m' : (ℓ : Loc Cert.SibOutRefIdeal.nD Cert.SibOutRefIdeal.τ Cert.SibOutRefIdeal.sig) → Buf (Elt Ideal) ℓ) (g' : Dev Cert.SibOutRefIdeal.nD → PrngReg), Pre_SibOutIdeal m →
    (∀ c : Dev Cert.SibOutIdeal.nD,
      m' ((c.tc : Thread Cert.SibOutRefIdeal.nD Cert.SibOutRefIdeal.τ).loc Cert.SibOutRefIdeal.main_arg0) = m ((c.tc : Thread Cert.SibOutIdeal.nD Cert.SibOutIdeal.τ).loc Cert.SibOutIdeal.main_arg0)
      ∧ m' ((c.tc : Thread Cert.SibOutRefIdeal.nD Cert.SibOutRefIdeal.τ).loc Cert.SibOutRefIdeal.main_arg1) = m ((c.tc : Thread Cert.SibOutIdeal.nD Cert.SibOutIdeal.τ).loc Cert.SibOutIdeal.main_arg1)) →
    ∃ (v0 : (c : Dev Cert.SibOutIdeal.nD) → Buf (Elt Ideal) ((c.tc : Thread Cert.SibOutIdeal.nD Cert.SibOutIdeal.τ).loc Cert.SibOutIdeal.main_v16)),
      θ_run (Cert.SibOutIdeal.defs (F := Ideal)) (onTc (τ := Cert.SibOutIdeal.τ) (Cert.SibOutIdeal.main (F := Ideal))) ⟨m, fun _ => 0, g⟩ (fun r => ∀ c : Dev Cert.SibOutIdeal.nD,
          r.2.mem ((c.tc : Thread Cert.SibOutIdeal.nD Cert.SibOutIdeal.τ).loc Cert.SibOutIdeal.main_v16) = v0 c
          ∧ r.2.mem ((c.tc : Thread Cert.SibOutIdeal.nD Cert.SibOutIdeal.τ).loc Cert.SibOutIdeal.main_arg0) = m ((c.tc : Thread Cert.SibOutIdeal.nD Cert.SibOutIdeal.τ).loc Cert.SibOutIdeal.main_arg0)
          ∧ r.2.mem ((c.tc : Thread Cert.SibOutIdeal.nD Cert.SibOutIdeal.τ).loc Cert.SibOutIdeal.main_arg1) = m ((c.tc : Thread Cert.SibOutIdeal.nD Cert.SibOutIdeal.τ).loc Cert.SibOutIdeal.main_arg1))
      ∧ θ_run (Cert.SibOutRefIdeal.defs (F := Ideal)) (onTc (τ := Cert.SibOutRefIdeal.τ) (Cert.SibOutRefIdeal.main (F := Ideal))) ⟨m', fun _ => 0, g'⟩ (fun r => ∀ c : Dev Cert.SibOutRefIdeal.nD,
          r.2.mem ((c.tc : Thread Cert.SibOutRefIdeal.nD Cert.SibOutRefIdeal.τ).loc Cert.SibOutRefIdeal.main_v7) = v0 c
          ∧ r.2.mem ((c.tc : Thread Cert.SibOutRefIdeal.nD Cert.SibOutRefIdeal.τ).loc Cert.SibOutRefIdeal.main_arg0) = m' ((c.tc : Thread Cert.SibOutRefIdeal.nD Cert.SibOutRefIdeal.τ).loc Cert.SibOutRefIdeal.main_arg0)
          ∧ r.2.mem ((c.tc : Thread Cert.SibOutRefIdeal.nD Cert.SibOutRefIdeal.τ).loc Cert.SibOutRefIdeal.main_arg1) = m' ((c.tc : Thread Cert.SibOutRefIdeal.nD Cert.SibOutRefIdeal.τ).loc Cert.SibOutRefIdeal.main_arg1))

def Claim : Prop :=
  ∃ (hWgradOwn : Cert.WgradOwn.Facts) (hWgradOwnIdeal : Cert.WgradOwnIdeal.Facts) (hWgradOwnRefIdeal : Cert.WgradOwnRefIdeal.Facts) (hWgradSibling : Cert.WgradSibling.Facts) (hWgradSiblingIdeal : Cert.WgradSiblingIdeal.Facts) (hWgradSiblingRefIdeal : Cert.WgradSiblingRefIdeal.Facts) (hInDgrad : Cert.InDgrad.Facts) (hInDgradIdeal : Cert.InDgradIdeal.Facts) (hInDgradRefIdeal : Cert.InDgradRefIdeal.Facts) (hOutWgrad : Cert.OutWgrad.Facts) (hOutWgradIdeal : Cert.OutWgradIdeal.Facts) (hOutWgradRefIdeal : Cert.OutWgradRefIdeal.Facts) (hAttnWgrad : Cert.AttnWgrad.Facts) (hAttnWgradIdeal : Cert.AttnWgradIdeal.Facts) (hAttnWgradRefIdeal : Cert.AttnWgradRefIdeal.Facts) (hHgrnWgrad : Cert.HgrnWgrad.Facts) (hHgrnWgradIdeal : Cert.HgrnWgradIdeal.Facts) (hHgrnWgradRefIdeal : Cert.HgrnWgradRefIdeal.Facts) (hAttnDgrad : Cert.AttnDgrad.Facts) (hAttnDgradIdeal : Cert.AttnDgradIdeal.Facts) (hAttnDgradRefIdeal : Cert.AttnDgradRefIdeal.Facts) (hHgrnDgrad : Cert.HgrnDgrad.Facts) (hHgrnDgradIdeal : Cert.HgrnDgradIdeal.Facts) (hHgrnDgradRefIdeal : Cert.HgrnDgradRefIdeal.Facts) (hInProjOwn : Cert.InProjOwn.Facts) (hInProjOwnIdeal : Cert.InProjOwnIdeal.Facts) (hInProjOwnRefIdeal : Cert.InProjOwnRefIdeal.Facts) (hInProjPeer0 : Cert.InProjPeer0.Facts) (hInProjPeer0Ideal : Cert.InProjPeer0Ideal.Facts) (hInProjPeer0RefIdeal : Cert.InProjPeer0RefIdeal.Facts) (hInProjPeer1 : Cert.InProjPeer1.Facts) (hInProjPeer1Ideal : Cert.InProjPeer1Ideal.Facts) (hInProjPeer1RefIdeal : Cert.InProjPeer1RefIdeal.Facts) (hInProjPeer2 : Cert.InProjPeer2.Facts) (hInProjPeer2Ideal : Cert.InProjPeer2Ideal.Facts) (hInProjPeer2RefIdeal : Cert.InProjPeer2RefIdeal.Facts) (hOutProj : Cert.OutProj.Facts) (hOutProjIdeal : Cert.OutProjIdeal.Facts) (hOutProjRefIdeal : Cert.OutProjRefIdeal.Facts) (hAttnProj : Cert.AttnProj.Facts) (hAttnProjIdeal : Cert.AttnProjIdeal.Facts) (hAttnProjRefIdeal : Cert.AttnProjRefIdeal.Facts) (hMergeFwd : Cert.MergeFwd.Facts) (hMergeFwdIdeal : Cert.MergeFwdIdeal.Facts) (hMergeFwdRefIdeal : Cert.MergeFwdRefIdeal.Facts) (hMerge : Cert.Merge.Facts) (hMergeIdeal : Cert.MergeIdeal.Facts) (hMergeRefIdeal : Cert.MergeRefIdeal.Facts) (hAdamIn : Cert.AdamIn.Facts) (hAdamInIdeal : Cert.AdamInIdeal.Facts) (hAdamInRefIdeal : Cert.AdamInRefIdeal.Facts) (hAdamAttn : Cert.AdamAttn.Facts) (hAdamAttnIdeal : Cert.AdamAttnIdeal.Facts) (hAdamAttnRefIdeal : Cert.AdamAttnRefIdeal.Facts) (hAdamHgrn : Cert.AdamHgrn.Facts) (hAdamHgrnIdeal : Cert.AdamHgrnIdeal.Facts) (hAdamHgrnRefIdeal : Cert.AdamHgrnRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hNormFwd : Cert.NormFwd.Facts) (hNormFwdIdeal : Cert.NormFwdIdeal.Facts) (hNormFwdRefIdeal : Cert.NormFwdRefIdeal.Facts) (hNormBwd : Cert.NormBwd.Facts) (hNormBwdIdeal : Cert.NormBwdIdeal.Facts) (hNormBwdRefIdeal : Cert.NormBwdRefIdeal.Facts) (hPostLoss : Cert.PostLoss.Facts) (hPostLossIdeal : Cert.PostLossIdeal.Facts) (hPostLossRefIdeal : Cert.PostLossRefIdeal.Facts) (hSumIn0 : Cert.SumIn0.Facts) (hSumIn0Ideal : Cert.SumIn0Ideal.Facts) (hSumIn0RefIdeal : Cert.SumIn0RefIdeal.Facts) (hSumIn1 : Cert.SumIn1.Facts) (hSumIn1Ideal : Cert.SumIn1Ideal.Facts) (hSumIn1RefIdeal : Cert.SumIn1RefIdeal.Facts) (hSumAttn0 : Cert.SumAttn0.Facts) (hSumAttn0Ideal : Cert.SumAttn0Ideal.Facts) (hSumAttn0RefIdeal : Cert.SumAttn0RefIdeal.Facts) (hSumAttn1 : Cert.SumAttn1.Facts) (hSumAttn1Ideal : Cert.SumAttn1Ideal.Facts) (hSumAttn1RefIdeal : Cert.SumAttn1RefIdeal.Facts) (hSumHgrn0 : Cert.SumHgrn0.Facts) (hSumHgrn0Ideal : Cert.SumHgrn0Ideal.Facts) (hSumHgrn0RefIdeal : Cert.SumHgrn0RefIdeal.Facts) (hSumHgrn1 : Cert.SumHgrn1.Facts) (hSumHgrn1Ideal : Cert.SumHgrn1Ideal.Facts) (hSumHgrn1RefIdeal : Cert.SumHgrn1RefIdeal.Facts) (hSumOut0 : Cert.SumOut0.Facts) (hSumOut0Ideal : Cert.SumOut0Ideal.Facts) (hSumOut0RefIdeal : Cert.SumOut0RefIdeal.Facts) (hSumOut1 : Cert.SumOut1.Facts) (hSumOut1Ideal : Cert.SumOut1Ideal.Facts) (hSumOut1RefIdeal : Cert.SumOut1RefIdeal.Facts) (hCastIn : Cert.CastIn.Facts) (hCastInIdeal : Cert.CastInIdeal.Facts) (hCastInRefIdeal : Cert.CastInRefIdeal.Facts) (hCastAttn : Cert.CastAttn.Facts) (hCastAttnIdeal : Cert.CastAttnIdeal.Facts) (hCastAttnRefIdeal : Cert.CastAttnRefIdeal.Facts) (hCastHgrn : Cert.CastHgrn.Facts) (hCastHgrnIdeal : Cert.CastHgrnIdeal.Facts) (hCastHgrnRefIdeal : Cert.CastHgrnRefIdeal.Facts) (hCastOut : Cert.CastOut.Facts) (hCastOutIdeal : Cert.CastOutIdeal.Facts) (hCastOutRefIdeal : Cert.CastOutRefIdeal.Facts) (hSibIn : Cert.SibIn.Facts) (hSibInIdeal : Cert.SibInIdeal.Facts) (hSibInRefIdeal : Cert.SibInRefIdeal.Facts) (hSibAttn : Cert.SibAttn.Facts) (hSibAttnIdeal : Cert.SibAttnIdeal.Facts) (hSibAttnRefIdeal : Cert.SibAttnRefIdeal.Facts) (hSibHgrn : Cert.SibHgrn.Facts) (hSibHgrnIdeal : Cert.SibHgrnIdeal.Facts) (hSibHgrnRefIdeal : Cert.SibHgrnRefIdeal.Facts) (hSibOut : Cert.SibOut.Facts) (hSibOutIdeal : Cert.SibOutIdeal.Facts) (hSibOutRefIdeal : Cert.SibOutRefIdeal.Facts),
    quiescent_WgradOwn (hWgradOwn := hWgradOwn)
    ∧ quiescent_WgradOwnIdeal (hWgradOwnIdeal := hWgradOwnIdeal)
    ∧ quiescent_WgradOwnRefIdeal (hWgradOwnRefIdeal := hWgradOwnRefIdeal)
    ∧ quiescent_WgradSibling (hWgradSibling := hWgradSibling)
    ∧ quiescent_WgradSiblingIdeal (hWgradSiblingIdeal := hWgradSiblingIdeal)
    ∧ quiescent_WgradSiblingRefIdeal (hWgradSiblingRefIdeal := hWgradSiblingRefIdeal)
    ∧ quiescent_InDgrad (hInDgrad := hInDgrad)
    ∧ quiescent_InDgradIdeal (hInDgradIdeal := hInDgradIdeal)
    ∧ quiescent_InDgradRefIdeal (hInDgradRefIdeal := hInDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_AttnWgrad (hAttnWgrad := hAttnWgrad)
    ∧ quiescent_AttnWgradIdeal (hAttnWgradIdeal := hAttnWgradIdeal)
    ∧ quiescent_AttnWgradRefIdeal (hAttnWgradRefIdeal := hAttnWgradRefIdeal)
    ∧ quiescent_HgrnWgrad (hHgrnWgrad := hHgrnWgrad)
    ∧ quiescent_HgrnWgradIdeal (hHgrnWgradIdeal := hHgrnWgradIdeal)
    ∧ quiescent_HgrnWgradRefIdeal (hHgrnWgradRefIdeal := hHgrnWgradRefIdeal)
    ∧ quiescent_AttnDgrad (hAttnDgrad := hAttnDgrad)
    ∧ quiescent_AttnDgradIdeal (hAttnDgradIdeal := hAttnDgradIdeal)
    ∧ quiescent_AttnDgradRefIdeal (hAttnDgradRefIdeal := hAttnDgradRefIdeal)
    ∧ quiescent_HgrnDgrad (hHgrnDgrad := hHgrnDgrad)
    ∧ quiescent_HgrnDgradIdeal (hHgrnDgradIdeal := hHgrnDgradIdeal)
    ∧ quiescent_HgrnDgradRefIdeal (hHgrnDgradRefIdeal := hHgrnDgradRefIdeal)
    ∧ quiescent_InProjOwn (hInProjOwn := hInProjOwn)
    ∧ quiescent_InProjOwnIdeal (hInProjOwnIdeal := hInProjOwnIdeal)
    ∧ quiescent_InProjOwnRefIdeal (hInProjOwnRefIdeal := hInProjOwnRefIdeal)
    ∧ quiescent_InProjPeer0 (hInProjPeer0 := hInProjPeer0)
    ∧ quiescent_InProjPeer0Ideal (hInProjPeer0Ideal := hInProjPeer0Ideal)
    ∧ quiescent_InProjPeer0RefIdeal (hInProjPeer0RefIdeal := hInProjPeer0RefIdeal)
    ∧ quiescent_InProjPeer1 (hInProjPeer1 := hInProjPeer1)
    ∧ quiescent_InProjPeer1Ideal (hInProjPeer1Ideal := hInProjPeer1Ideal)
    ∧ quiescent_InProjPeer1RefIdeal (hInProjPeer1RefIdeal := hInProjPeer1RefIdeal)
    ∧ quiescent_InProjPeer2 (hInProjPeer2 := hInProjPeer2)
    ∧ quiescent_InProjPeer2Ideal (hInProjPeer2Ideal := hInProjPeer2Ideal)
    ∧ quiescent_InProjPeer2RefIdeal (hInProjPeer2RefIdeal := hInProjPeer2RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamHgrn (hAdamHgrn := hAdamHgrn)
    ∧ quiescent_AdamHgrnIdeal (hAdamHgrnIdeal := hAdamHgrnIdeal)
    ∧ quiescent_AdamHgrnRefIdeal (hAdamHgrnRefIdeal := hAdamHgrnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_PostLoss (hPostLoss := hPostLoss)
    ∧ quiescent_PostLossIdeal (hPostLossIdeal := hPostLossIdeal)
    ∧ quiescent_PostLossRefIdeal (hPostLossRefIdeal := hPostLossRefIdeal)
    ∧ quiescent_SumIn0 (hSumIn0 := hSumIn0)
    ∧ quiescent_SumIn0Ideal (hSumIn0Ideal := hSumIn0Ideal)
    ∧ quiescent_SumIn0RefIdeal (hSumIn0RefIdeal := hSumIn0RefIdeal)
    ∧ quiescent_SumIn1 (hSumIn1 := hSumIn1)
    ∧ quiescent_SumIn1Ideal (hSumIn1Ideal := hSumIn1Ideal)
    ∧ quiescent_SumIn1RefIdeal (hSumIn1RefIdeal := hSumIn1RefIdeal)
    ∧ quiescent_SumAttn0 (hSumAttn0 := hSumAttn0)
    ∧ quiescent_SumAttn0Ideal (hSumAttn0Ideal := hSumAttn0Ideal)
    ∧ quiescent_SumAttn0RefIdeal (hSumAttn0RefIdeal := hSumAttn0RefIdeal)
    ∧ quiescent_SumAttn1 (hSumAttn1 := hSumAttn1)
    ∧ quiescent_SumAttn1Ideal (hSumAttn1Ideal := hSumAttn1Ideal)
    ∧ quiescent_SumAttn1RefIdeal (hSumAttn1RefIdeal := hSumAttn1RefIdeal)
    ∧ quiescent_SumHgrn0 (hSumHgrn0 := hSumHgrn0)
    ∧ quiescent_SumHgrn0Ideal (hSumHgrn0Ideal := hSumHgrn0Ideal)
    ∧ quiescent_SumHgrn0RefIdeal (hSumHgrn0RefIdeal := hSumHgrn0RefIdeal)
    ∧ quiescent_SumHgrn1 (hSumHgrn1 := hSumHgrn1)
    ∧ quiescent_SumHgrn1Ideal (hSumHgrn1Ideal := hSumHgrn1Ideal)
    ∧ quiescent_SumHgrn1RefIdeal (hSumHgrn1RefIdeal := hSumHgrn1RefIdeal)
    ∧ quiescent_SumOut0 (hSumOut0 := hSumOut0)
    ∧ quiescent_SumOut0Ideal (hSumOut0Ideal := hSumOut0Ideal)
    ∧ quiescent_SumOut0RefIdeal (hSumOut0RefIdeal := hSumOut0RefIdeal)
    ∧ quiescent_SumOut1 (hSumOut1 := hSumOut1)
    ∧ quiescent_SumOut1Ideal (hSumOut1Ideal := hSumOut1Ideal)
    ∧ quiescent_SumOut1RefIdeal (hSumOut1RefIdeal := hSumOut1RefIdeal)
    ∧ quiescent_CastIn (hCastIn := hCastIn)
    ∧ quiescent_CastInIdeal (hCastInIdeal := hCastInIdeal)
    ∧ quiescent_CastInRefIdeal (hCastInRefIdeal := hCastInRefIdeal)
    ∧ quiescent_CastAttn (hCastAttn := hCastAttn)
    ∧ quiescent_CastAttnIdeal (hCastAttnIdeal := hCastAttnIdeal)
    ∧ quiescent_CastAttnRefIdeal (hCastAttnRefIdeal := hCastAttnRefIdeal)
    ∧ quiescent_CastHgrn (hCastHgrn := hCastHgrn)
    ∧ quiescent_CastHgrnIdeal (hCastHgrnIdeal := hCastHgrnIdeal)
    ∧ quiescent_CastHgrnRefIdeal (hCastHgrnRefIdeal := hCastHgrnRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ quiescent_SibIn (hSibIn := hSibIn)
    ∧ quiescent_SibInIdeal (hSibInIdeal := hSibInIdeal)
    ∧ quiescent_SibInRefIdeal (hSibInRefIdeal := hSibInRefIdeal)
    ∧ quiescent_SibAttn (hSibAttn := hSibAttn)
    ∧ quiescent_SibAttnIdeal (hSibAttnIdeal := hSibAttnIdeal)
    ∧ quiescent_SibAttnRefIdeal (hSibAttnRefIdeal := hSibAttnRefIdeal)
    ∧ quiescent_SibHgrn (hSibHgrn := hSibHgrn)
    ∧ quiescent_SibHgrnIdeal (hSibHgrnIdeal := hSibHgrnIdeal)
    ∧ quiescent_SibHgrnRefIdeal (hSibHgrnRefIdeal := hSibHgrnRefIdeal)
    ∧ quiescent_SibOut (hSibOut := hSibOut)
    ∧ quiescent_SibOutIdeal (hSibOutIdeal := hSibOutIdeal)
    ∧ quiescent_SibOutRefIdeal (hSibOutRefIdeal := hSibOutRefIdeal)
    ∧ preserves_WgradOwn_WgradOwnIdeal
    ∧ algebraic_WgradOwnIdeal_WgradOwnRefIdeal (hWgradOwnIdeal := hWgradOwnIdeal) (hWgradOwnRefIdeal := hWgradOwnRefIdeal)
    ∧ preserves_WgradSibling_WgradSiblingIdeal
    ∧ algebraic_WgradSiblingIdeal_WgradSiblingRefIdeal (hWgradSiblingIdeal := hWgradSiblingIdeal) (hWgradSiblingRefIdeal := hWgradSiblingRefIdeal)
    ∧ preserves_InDgrad_InDgradIdeal
    ∧ algebraic_InDgradIdeal_InDgradRefIdeal (hInDgradIdeal := hInDgradIdeal) (hInDgradRefIdeal := hInDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_AttnWgrad_AttnWgradIdeal
    ∧ algebraic_AttnWgradIdeal_AttnWgradRefIdeal (hAttnWgradIdeal := hAttnWgradIdeal) (hAttnWgradRefIdeal := hAttnWgradRefIdeal)
    ∧ preserves_HgrnWgrad_HgrnWgradIdeal
    ∧ algebraic_HgrnWgradIdeal_HgrnWgradRefIdeal (hHgrnWgradIdeal := hHgrnWgradIdeal) (hHgrnWgradRefIdeal := hHgrnWgradRefIdeal)
    ∧ preserves_AttnDgrad_AttnDgradIdeal
    ∧ algebraic_AttnDgradIdeal_AttnDgradRefIdeal (hAttnDgradIdeal := hAttnDgradIdeal) (hAttnDgradRefIdeal := hAttnDgradRefIdeal)
    ∧ preserves_HgrnDgrad_HgrnDgradIdeal
    ∧ algebraic_HgrnDgradIdeal_HgrnDgradRefIdeal (hHgrnDgradIdeal := hHgrnDgradIdeal) (hHgrnDgradRefIdeal := hHgrnDgradRefIdeal)
    ∧ preserves_InProjOwn_InProjOwnIdeal
    ∧ algebraic_InProjOwnIdeal_InProjOwnRefIdeal (hInProjOwnIdeal := hInProjOwnIdeal) (hInProjOwnRefIdeal := hInProjOwnRefIdeal)
    ∧ preserves_InProjPeer0_InProjPeer0Ideal
    ∧ algebraic_InProjPeer0Ideal_InProjPeer0RefIdeal (hInProjPeer0Ideal := hInProjPeer0Ideal) (hInProjPeer0RefIdeal := hInProjPeer0RefIdeal)
    ∧ preserves_InProjPeer1_InProjPeer1Ideal
    ∧ algebraic_InProjPeer1Ideal_InProjPeer1RefIdeal (hInProjPeer1Ideal := hInProjPeer1Ideal) (hInProjPeer1RefIdeal := hInProjPeer1RefIdeal)
    ∧ preserves_InProjPeer2_InProjPeer2Ideal
    ∧ algebraic_InProjPeer2Ideal_InProjPeer2RefIdeal (hInProjPeer2Ideal := hInProjPeer2Ideal) (hInProjPeer2RefIdeal := hInProjPeer2RefIdeal)
    ∧ preserves_OutProj_OutProjIdeal
    ∧ algebraic_OutProjIdeal_OutProjRefIdeal (hOutProjIdeal := hOutProjIdeal) (hOutProjRefIdeal := hOutProjRefIdeal)
    ∧ preserves_AttnProj_AttnProjIdeal
    ∧ algebraic_AttnProjIdeal_AttnProjRefIdeal (hAttnProjIdeal := hAttnProjIdeal) (hAttnProjRefIdeal := hAttnProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Merge_MergeIdeal
    ∧ algebraic_MergeIdeal_MergeRefIdeal (hMergeIdeal := hMergeIdeal) (hMergeRefIdeal := hMergeRefIdeal)
    ∧ preserves_AdamIn_AdamInIdeal
    ∧ algebraic_AdamInIdeal_AdamInRefIdeal (hAdamInIdeal := hAdamInIdeal) (hAdamInRefIdeal := hAdamInRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamHgrn_AdamHgrnIdeal
    ∧ algebraic_AdamHgrnIdeal_AdamHgrnRefIdeal (hAdamHgrnIdeal := hAdamHgrnIdeal) (hAdamHgrnRefIdeal := hAdamHgrnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_PostLoss_PostLossIdeal
    ∧ algebraic_PostLossIdeal_PostLossRefIdeal (hPostLossIdeal := hPostLossIdeal) (hPostLossRefIdeal := hPostLossRefIdeal)
    ∧ preserves_SumIn0_SumIn0Ideal
    ∧ algebraic_SumIn0Ideal_SumIn0RefIdeal (hSumIn0Ideal := hSumIn0Ideal) (hSumIn0RefIdeal := hSumIn0RefIdeal)
    ∧ preserves_SumIn1_SumIn1Ideal
    ∧ algebraic_SumIn1Ideal_SumIn1RefIdeal (hSumIn1Ideal := hSumIn1Ideal) (hSumIn1RefIdeal := hSumIn1RefIdeal)
    ∧ preserves_SumAttn0_SumAttn0Ideal
    ∧ algebraic_SumAttn0Ideal_SumAttn0RefIdeal (hSumAttn0Ideal := hSumAttn0Ideal) (hSumAttn0RefIdeal := hSumAttn0RefIdeal)
    ∧ preserves_SumAttn1_SumAttn1Ideal
    ∧ algebraic_SumAttn1Ideal_SumAttn1RefIdeal (hSumAttn1Ideal := hSumAttn1Ideal) (hSumAttn1RefIdeal := hSumAttn1RefIdeal)
    ∧ preserves_SumHgrn0_SumHgrn0Ideal
    ∧ algebraic_SumHgrn0Ideal_SumHgrn0RefIdeal (hSumHgrn0Ideal := hSumHgrn0Ideal) (hSumHgrn0RefIdeal := hSumHgrn0RefIdeal)
    ∧ preserves_SumHgrn1_SumHgrn1Ideal
    ∧ algebraic_SumHgrn1Ideal_SumHgrn1RefIdeal (hSumHgrn1Ideal := hSumHgrn1Ideal) (hSumHgrn1RefIdeal := hSumHgrn1RefIdeal)
    ∧ preserves_SumOut0_SumOut0Ideal
    ∧ algebraic_SumOut0Ideal_SumOut0RefIdeal (hSumOut0Ideal := hSumOut0Ideal) (hSumOut0RefIdeal := hSumOut0RefIdeal)
    ∧ preserves_SumOut1_SumOut1Ideal
    ∧ algebraic_SumOut1Ideal_SumOut1RefIdeal (hSumOut1Ideal := hSumOut1Ideal) (hSumOut1RefIdeal := hSumOut1RefIdeal)
    ∧ preserves_CastIn_CastInIdeal
    ∧ algebraic_CastInIdeal_CastInRefIdeal (hCastInIdeal := hCastInIdeal) (hCastInRefIdeal := hCastInRefIdeal)
    ∧ preserves_CastAttn_CastAttnIdeal
    ∧ algebraic_CastAttnIdeal_CastAttnRefIdeal (hCastAttnIdeal := hCastAttnIdeal) (hCastAttnRefIdeal := hCastAttnRefIdeal)
    ∧ preserves_CastHgrn_CastHgrnIdeal
    ∧ algebraic_CastHgrnIdeal_CastHgrnRefIdeal (hCastHgrnIdeal := hCastHgrnIdeal) (hCastHgrnRefIdeal := hCastHgrnRefIdeal)
    ∧ preserves_CastOut_CastOutIdeal
    ∧ algebraic_CastOutIdeal_CastOutRefIdeal (hCastOutIdeal := hCastOutIdeal) (hCastOutRefIdeal := hCastOutRefIdeal)
    ∧ preserves_SibIn_SibInIdeal
    ∧ algebraic_SibInIdeal_SibInRefIdeal (hSibInIdeal := hSibInIdeal) (hSibInRefIdeal := hSibInRefIdeal)
    ∧ preserves_SibAttn_SibAttnIdeal
    ∧ algebraic_SibAttnIdeal_SibAttnRefIdeal (hSibAttnIdeal := hSibAttnIdeal) (hSibAttnRefIdeal := hSibAttnRefIdeal)
    ∧ preserves_SibHgrn_SibHgrnIdeal
    ∧ algebraic_SibHgrnIdeal_SibHgrnRefIdeal (hSibHgrnIdeal := hSibHgrnIdeal) (hSibHgrnRefIdeal := hSibHgrnRefIdeal)
    ∧ preserves_SibOut_SibOutIdeal
    ∧ algebraic_SibOutIdeal_SibOutRefIdeal (hSibOutIdeal := hSibOutIdeal) (hSibOutRefIdeal := hSibOutRefIdeal)
-- ==== WgradOwn.lean ====
abbrev S4096x2048 : Shape := ⟨2, ![4096, 2048]⟩
abbrev S4096x10752 : Shape := ⟨2, ![4096, 10752]⟩
abbrev S8x128 : Shape := ⟨2, ![8, 128]⟩
abbrev S_ : Shape := ⟨0, ![]⟩
abbrev S1 : Shape := ⟨1, ![1]⟩
abbrev S4x1024x2688 : Shape := ⟨3, ![4, 1024, 2688]⟩
abbrev S4096x1024 : Shape := ⟨2, ![4096, 1024]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 5
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S8x128, .f32⟩
  | .hbm, ⟨3, _⟩ => ⟨S_, .i32⟩
  | .hbm, ⟨4, _⟩ => ⟨S4x1024x2688, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .bf16⟩
  | .local _ .vmem, ⟨4, _⟩ => ⟨S1x1024x896, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradOwnRefIdeal.lean ====
abbrev S4096x2048 : Shape := ⟨2, ![4096, 2048]⟩
abbrev S4096x10752 : Shape := ⟨2, ![4096, 10752]⟩
abbrev S8x128 : Shape := ⟨2, ![8, 128]⟩
abbrev S_ : Shape := ⟨0, ![]⟩
abbrev S2048x10752 : Shape := ⟨2, ![2048, 10752]⟩
abbrev S10752x2048 : Shape := ⟨2, ![10752, 2048]⟩
abbrev S1024x10752 : Shape := ⟨2, ![1024, 10752]⟩
abbrev S1024x2688 : Shape := ⟨2, ![1024, 2688]⟩
abbrev S1x1024x2688 : Shape := ⟨3, ![1, 1024, 2688]⟩
abbrev S4x1024x2688 : Shape := ⟨3, ![4, 1024, 2688]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S8x128, .f32⟩
  | .hbm, ⟨3, _⟩ => ⟨S_, .f32⟩
  | .hbm, ⟨4, _⟩ => ⟨S2048x10752, .f32⟩
  | .hbm, ⟨5, _⟩ => ⟨S4096x2048, .f32⟩
  | .hbm, ⟨6, _⟩ => ⟨S4096x10752, .f32⟩
  | .hbm, ⟨7, _⟩ => ⟨S4096x10752, .f32⟩
  | .hbm, ⟨8, _⟩ => ⟨S10752x2048, .f32⟩
  | .hbm, ⟨9, _⟩ => ⟨S2048x10752, .f32⟩
  | .hbm, ⟨10, _⟩ => ⟨S1024x10752, .f32⟩
  | .hbm, ⟨11, _⟩ => ⟨S1024x10752, .f32⟩
  | .hbm, ⟨12, _⟩ => ⟨S1024x2688, .f32⟩
  | .hbm, ⟨13, _⟩ => ⟨S1024x2688, .f32⟩
  | .hbm, ⟨14, _⟩ => ⟨S1024x2688, .f32⟩
  | .hbm, ⟨15, _⟩ => ⟨S1024x2688, .f32⟩
  | .hbm, ⟨16, _⟩ => ⟨S1x1024x2688, .f32⟩
  | .hbm, ⟨17, _⟩ => ⟨S1x1024x2688, .f32⟩
  | .hbm, ⟨18, _⟩ => ⟨S1x1024x2688, .f32⟩
  | .hbm, ⟨19, _⟩ => ⟨S1x1024x2688, .f32⟩
  | .hbm, ⟨20, _⟩ => ⟨S4x1024x2688, .f32⟩
  | .hbm, ⟨21, _⟩ => ⟨S4x1024x2688, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== WgradSibling.lean ====
abbrev S4096x2048 : Shape := ⟨2, ![4096, 2048]⟩
abbrev S4096x10752 : Shape := ⟨2, ![4096, 10752]⟩
abbrev S_ : Shape := ⟨0, ![]⟩
abbrev S1 : Shape := ⟨1, ![1]⟩
abbrev S4x1024x2688 : Shape := ⟨3, ![4, 1024, 2688]⟩
abbrev S4096x1024 : Shape := ⟨2, ![4096, 1024]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 7
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S4x1024x2688, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .bf16⟩
  | .local _ .vmem, ⟨4, _⟩ => ⟨S1x1024x896, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v3 : Ref sig .tc := ⟨.hbm, 6, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradSiblingRefIdeal.lean ====
abbrev S4096x2048 : Shape := ⟨2, ![4096, 2048]⟩
abbrev S4096x10752 : Shape := ⟨2, ![4096, 10752]⟩
abbrev S_ : Shape := ⟨0, ![]⟩
abbrev S2048x10752 : Shape := ⟨2, ![2048, 10752]⟩
abbrev S10752x2048 : Shape := ⟨2, ![10752, 2048]⟩
abbrev S1024x10752 : Shape := ⟨2, ![1024, 10752]⟩
abbrev S1024x2688 : Shape := ⟨2, ![1024, 2688]⟩
abbrev S1x1024x2688 : Shape := ⟨3, ![1, 1024, 2688]⟩
abbrev S4x1024x2688 : Shape := ⟨3, ![4, 1024, 2688]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S_, .f32⟩
  | .hbm, ⟨3, _⟩ => ⟨S2048x10752, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S10752x2048, .f32⟩
  | .hbm, ⟨8, _⟩ => ⟨S2048x10752, .f32⟩
  | .hbm, ⟨9, _⟩ => ⟨S1024x10752, .f32⟩
  | .hbm, ⟨10, _⟩ => ⟨S1024x10752, .f32⟩
  | .hbm, ⟨11, _⟩ => ⟨S1024x2688, .f32⟩
  | .hbm, ⟨12, _⟩ => ⟨S1024x2688, .f32⟩
  | .hbm, ⟨13, _⟩ => ⟨S1024x2688, .f32⟩
  | .hbm, ⟨14, _⟩ => ⟨S1024x2688, .f32⟩
  | .hbm, ⟨15, _⟩ => ⟨S1x1024x2688, .f32⟩
  | .hbm, ⟨16, _⟩ => ⟨S1x1024x2688, .f32⟩
  | .hbm, ⟨17, _⟩ => ⟨S1x1024x2688, .f32⟩
  | .hbm, ⟨18, _⟩ => ⟨S1x1024x2688, .f32⟩
  | .hbm, ⟨19, _⟩ => ⟨S4x1024x2688, .f32⟩
  | .hbm, ⟨20, _⟩ => ⟨S4x1024x2688, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== InDgrad.lean ====
abbrev S4096x10752 : Shape := ⟨2, ![4096, 10752]⟩
abbrev S2048x10752 : Shape := ⟨2, ![2048, 10752]⟩
abbrev S8x128 : Shape := ⟨2, ![8, 128]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S8x128, .f32⟩
  | .hbm, ⟨3, _⟩ => ⟨S2048x10752, .bf16⟩
  | .hbm, ⟨4, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDgradRefIdeal.lean ====
abbrev S4096x10752 : Shape := ⟨2, ![4096, 10752]⟩
abbrev S2048x10752 : Shape := ⟨2, ![2048, 10752]⟩
abbrev S8x128 : Shape := ⟨2, ![8, 128]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S4096x2048, .f32⟩
  | .hbm, ⟨8, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutWgrad.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnWgrad.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnWgradRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S4x1024x512, .f32⟩
  | .hbm, ⟨18, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== HgrnWgrad.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnWgradRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S4x1024x512, .f32⟩
  | .hbm, ⟨18, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== AttnDgrad.lean ====
abbrev S4096x2048 : Shape := ⟨2, ![4096, 2048]⟩
abbrev S1024x2048 : Shape := ⟨2, ![1024, 2048]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S8x128, .f32⟩
  | .hbm, ⟨3, _⟩ => ⟨S1024x2048, .bf16⟩
  | .hbm, ⟨4, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDgradRefIdeal.lean ====
abbrev S4096x2048 : Shape := ⟨2, ![4096, 2048]⟩
abbrev S1024x2048 : Shape := ⟨2, ![1024, 2048]⟩
abbrev S8x128 : Shape := ⟨2, ![8, 128]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== HgrnDgrad.lean ====
abbrev S4096x2048 : Shape := ⟨2, ![4096, 2048]⟩
abbrev S1024x2048 : Shape := ⟨2, ![1024, 2048]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S8x128, .f32⟩
  | .hbm, ⟨3, _⟩ => ⟨S1024x2048, .bf16⟩
  | .hbm, ⟨4, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnDgradRefIdeal.lean ====
abbrev S4096x2048 : Shape := ⟨2, ![4096, 2048]⟩
abbrev S1024x2048 : Shape := ⟨2, ![1024, 2048]⟩
abbrev S8x128 : Shape := ⟨2, ![8, 128]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProjOwn.lean ====
abbrev S4096x2048 : Shape := ⟨2, ![4096, 2048]⟩
abbrev S2048x10752 : Shape := ⟨2, ![2048, 10752]⟩
abbrev S8x128 : Shape := ⟨2, ![8, 128]⟩
abbrev S_ : Shape := ⟨0, ![]⟩
abbrev S1 : Shape := ⟨1, ![1]⟩
abbrev S4096x10752 : Shape := ⟨2, ![4096, 10752]⟩
abbrev S512x2048 : Shape := ⟨2, ![512, 2048]⟩
abbrev S2048x2688 : Shape := ⟨2, ![2048, 2688]⟩
abbrev S512x2688 : Shape := ⟨2, ![512, 2688]⟩
abbrev S4096x2688 : Shape := ⟨2, ![4096, 2688]⟩

abbrev nBuf : Space → Nat
  | .hbm => 11
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S8x128, .f32⟩
  | .hbm, ⟨3, _⟩ => ⟨S2048x10752, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4096x10752, .f32⟩
  | .hbm, ⟨10, _⟩ => ⟨S4096x2688, .f32⟩
  | .local _ .vmem, ⟨0, _⟩ => ⟨S512x2048, .bf16⟩
  | .local _ .vmem, ⟨1, _⟩ => ⟨S512x2048, .bf16⟩
  | .local _ .vmem, ⟨2, _⟩ => ⟨S2048x2688, .bf16⟩
  | .local _ .vmem, ⟨3, _⟩ => ⟨S512x2688, .f32⟩
  | .local _ .vmem, ⟨4, _⟩ => ⟨S512x2688, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v4 : Ref sig .tc := ⟨.hbm, 9, rfl⟩
abbrev main_v5 : Ref sig .tc := ⟨.hbm, 10, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  ![arg0.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjOwnRefIdeal.lean ====
abbrev S4096x2048 : Shape := ⟨2, ![4096, 2048]⟩
abbrev S2048x10752 : Shape := ⟨2, ![2048, 10752]⟩
abbrev S8x128 : Shape := ⟨2, ![8, 128]⟩
abbrev S2048x2688 : Shape := ⟨2, ![2048, 2688]⟩
abbrev S4096x2688 : Shape := ⟨2, ![4096, 2688]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S8x128, .f32⟩
  | .hbm, ⟨3, _⟩ => ⟨S4096x2048, .f32⟩
  | .hbm, ⟨4, _⟩ => ⟨S2048x2688, .f32⟩
  | .hbm, ⟨5, _⟩ => ⟨S4096x2688, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProjPeer0.lean ====
abbrev S4096x2048 : Shape := ⟨2, ![4096, 2048]⟩
abbrev S2048x10752 : Shape := ⟨2, ![2048, 10752]⟩
abbrev S4096x10752 : Shape := ⟨2, ![4096, 10752]⟩
abbrev S8x128 : Shape := ⟨2, ![8, 128]⟩
abbrev S_ : Shape := ⟨0, ![]⟩
abbrev S1 : Shape := ⟨1, ![1]⟩
abbrev S512x2048 : Shape := ⟨2, ![512, 2048]⟩
abbrev S2048x2688 : Shape := ⟨2, ![2048, 2688]⟩
abbrev S512x2688 : Shape := ⟨2, ![512, 2688]⟩

abbrev nBuf : Space → Nat
  | .hbm => 13
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S8x128, .f32⟩
  | .hbm, ⟨4, _⟩ => ⟨S2048x10752, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096x10752, .f32⟩
  | .local _ .vmem, ⟨0, _⟩ => ⟨S512x2048, .bf16⟩
  | .local _ .vmem, ⟨1, _⟩ => ⟨S512x2048, .bf16⟩
  | .local _ .vmem, ⟨2, _⟩ => ⟨S2048x2688, .bf16⟩
  | .local _ .vmem, ⟨3, _⟩ => ⟨S512x2688, .f32⟩
  | .local _ .vmem, ⟨4, _⟩ => ⟨S512x2688, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v5 : Ref sig .tc := ⟨.hbm, 12, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  ![arg0.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjPeer0RefIdeal.lean ====
abbrev S4096x2048 : Shape := ⟨2, ![4096, 2048]⟩
abbrev S2048x10752 : Shape := ⟨2, ![2048, 10752]⟩
abbrev S4096x10752 : Shape := ⟨2, ![4096, 10752]⟩
abbrev S8x128 : Shape := ⟨2, ![8, 128]⟩
abbrev S2048x2688 : Shape := ⟨2, ![2048, 2688]⟩
abbrev S4096x2688 : Shape := ⟨2, ![4096, 2688]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S8x128, .f32⟩
  | .hbm, ⟨4, _⟩ => ⟨S4096x2048, .f32⟩
  | .hbm, ⟨5, _⟩ => ⟨S2048x2688, .f32⟩
  | .hbm, ⟨6, _⟩ => ⟨S4096x2688, .f32⟩
  | .hbm, ⟨7, _⟩ => ⟨S4096x2688, .f32⟩
  | .hbm, ⟨8, _⟩ => ⟨S4096x2688, .f32⟩
  | .hbm, ⟨9, _⟩ => ⟨S4096x2688, .f32⟩
  | .hbm, ⟨10, _⟩ => ⟨S4096x10752, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProjPeer1.lean ====
abbrev S4096x2048 : Shape := ⟨2, ![4096, 2048]⟩
abbrev S2048x10752 : Shape := ⟨2, ![2048, 10752]⟩
abbrev S4096x10752 : Shape := ⟨2, ![4096, 10752]⟩
abbrev S_ : Shape := ⟨0, ![]⟩
abbrev S1 : Shape := ⟨1, ![1]⟩
abbrev S512x2048 : Shape := ⟨2, ![512, 2048]⟩
abbrev S2048x2688 : Shape := ⟨2, ![2048, 2688]⟩
abbrev S512x2688 : Shape := ⟨2, ![512, 2688]⟩

abbrev nBuf : Space → Nat
  | .hbm => 12
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S2048x10752, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096x10752, .f32⟩
  | .local _ .vmem, ⟨0, _⟩ => ⟨S512x2048, .bf16⟩
  | .local _ .vmem, ⟨1, _⟩ => ⟨S512x2048, .bf16⟩
  | .local _ .vmem, ⟨2, _⟩ => ⟨S2048x2688, .bf16⟩
  | .local _ .vmem, ⟨3, _⟩ => ⟨S512x2688, .f32⟩
  | .local _ .vmem, ⟨4, _⟩ => ⟨S512x2688, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  ![arg0.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjPeer1RefIdeal.lean ====
abbrev S4096x2048 : Shape := ⟨2, ![4096, 2048]⟩
abbrev S2048x10752 : Shape := ⟨2, ![2048, 10752]⟩
abbrev S4096x10752 : Shape := ⟨2, ![4096, 10752]⟩
abbrev S2048x2688 : Shape := ⟨2, ![2048, 2688]⟩
abbrev S4096x2688 : Shape := ⟨2, ![4096, 2688]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S4096x2048, .f32⟩
  | .hbm, ⟨4, _⟩ => ⟨S2048x2688, .f32⟩
  | .hbm, ⟨5, _⟩ => ⟨S4096x2688, .f32⟩
  | .hbm, ⟨6, _⟩ => ⟨S4096x2688, .f32⟩
  | .hbm, ⟨7, _⟩ => ⟨S4096x2688, .f32⟩
  | .hbm, ⟨8, _⟩ => ⟨S4096x2688, .f32⟩
  | .hbm, ⟨9, _⟩ => ⟨S4096x10752, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjPeer2.lean ====
abbrev S4096x2048 : Shape := ⟨2, ![4096, 2048]⟩
abbrev S2048x10752 : Shape := ⟨2, ![2048, 10752]⟩
abbrev S4096x10752 : Shape := ⟨2, ![4096, 10752]⟩
abbrev S8x128 : Shape := ⟨2, ![8, 128]⟩
abbrev S_ : Shape := ⟨0, ![]⟩
abbrev S1 : Shape := ⟨1, ![1]⟩
abbrev S512x2048 : Shape := ⟨2, ![512, 2048]⟩
abbrev S2048x2688 : Shape := ⟨2, ![2048, 2688]⟩
abbrev S512x2688 : Shape := ⟨2, ![512, 2688]⟩

abbrev nBuf : Space → Nat
  | .hbm => 15
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S8x128, .f32⟩
  | .hbm, ⟨4, _⟩ => ⟨S2048x10752, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096x10752, .f32⟩
  | .local _ .vmem, ⟨0, _⟩ => ⟨S512x2048, .bf16⟩
  | .local _ .vmem, ⟨1, _⟩ => ⟨S512x2048, .bf16⟩
  | .local _ .vmem, ⟨2, _⟩ => ⟨S2048x2688, .bf16⟩
  | .local _ .vmem, ⟨3, _⟩ => ⟨S512x2688, .f32⟩
  | .local _ .vmem, ⟨4, _⟩ => ⟨S512x2688, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_c_3 : Ref sig .tc := ⟨.hbm, 12, rfl⟩
abbrev main_v4 : Ref sig .tc := ⟨.hbm, 13, rfl⟩
abbrev main_v6 : Ref sig .tc := ⟨.hbm, 14, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  ![arg0.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjPeer2RefIdeal.lean ====
abbrev S4096x2048 : Shape := ⟨2, ![4096, 2048]⟩
abbrev S2048x10752 : Shape := ⟨2, ![2048, 10752]⟩
abbrev S4096x10752 : Shape := ⟨2, ![4096, 10752]⟩
abbrev S8x128 : Shape := ⟨2, ![8, 128]⟩
abbrev S2048x2688 : Shape := ⟨2, ![2048, 2688]⟩
abbrev S4096x2688 : Shape := ⟨2, ![4096, 2688]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .f32⟩
  | .hbm, ⟨2, _⟩ => ⟨S4096x10752, .f32⟩
  | .hbm, ⟨3, _⟩ => ⟨S8x128, .f32⟩
  | .hbm, ⟨4, _⟩ => ⟨S4096x2048, .f32⟩
  | .hbm, ⟨5, _⟩ => ⟨S2048x2688, .f32⟩
  | .hbm, ⟨6, _⟩ => ⟨S4096x2688, .f32⟩
  | .hbm, ⟨7, _⟩ => ⟨S4096x2688, .f32⟩
  | .hbm, ⟨8, _⟩ => ⟨S4096x2688, .f32⟩
  | .hbm, ⟨9, _⟩ => ⟨S4096x2688, .f32⟩
  | .hbm, ⟨10, _⟩ => ⟨S4096x10752, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnProj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S1024x2048, .bf16⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | .hbm, ⟨4, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeFwd.lean ====
abbrev S4096x1024 : Shape := ⟨2, ![4096, 1024]⟩
abbrev S1024x2048 : Shape := ⟨2, ![1024, 2048]⟩
abbrev S4096x10752 : Shape := ⟨2, ![4096, 10752]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x10752, .f32⟩
  | .hbm, ⟨3, _⟩ => ⟨S4096x2048, .bf16⟩
  | .hbm, ⟨4, _⟩ => ⟨S1024x2048, .bf16⟩
  | .hbm, ⟨5, _⟩ => ⟨S4096x2048, .bf16⟩
  | .hbm, ⟨6, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v1 : BitVec 32 := Scalar.muli arg1 c1024_i32
  let v2 : BitVec 32 := Scalar.addi c6656_i32 v1
  v2
def k0_mult2 (i : grid0.Coords) : BitVec 32 :=
  let c8704_i32 : BitVec 32 := 8704#32
  let arg1 : BitVec 32 := BitVec.ofNat 32 (i 1).val
  let c1024_i32 : BitVec 32 := 1024#32
  let v1 : BitVec 32 := Scalar.muli arg1 c1024_i32
  let v2 : BitVec 32 := Scalar.addi c8704_i32 v1
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c6656_i32 : BitVec 32 := 6656#32
  let v2 : BitVec 32 := Scalar.addi c6656_i32 v1
  let v3 : BitVec 32 := v2
  let c0_i32 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c8704_i32 : BitVec 32 := 8704#32
  let v2 : BitVec 32 := Scalar.addi c8704_i32 v1
  let v3 : BitVec 32 := v2
  let c0_i32 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdRefIdeal.lean ====
abbrev S4096x1024 : Shape := ⟨2, ![4096, 1024]⟩
abbrev S1024x2048 : Shape := ⟨2, ![1024, 2048]⟩
abbrev S4096x10752 : Shape := ⟨2, ![4096, 10752]⟩
abbrev S4096x2048 : Shape := ⟨2, ![4096, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x10752, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Merge.lean ====
abbrev S4096x2048 : Shape := ⟨2, ![4096, 2048]⟩
abbrev S2048x2048 : Shape := ⟨2, ![2048, 2048]⟩
abbrev S4096x10752 : Shape := ⟨2, ![4096, 10752]⟩
abbrev S4096x4096 : Shape := ⟨2, ![4096, 4096]⟩
abbrev S512x2048 : Shape := ⟨2, ![512, 2048]⟩
abbrev S1024x2048 : Shape := ⟨2, ![1024, 2048]⟩
abbrev S512x1024 : Shape := ⟨2, ![512, 1024]⟩
abbrev S512x4096 : Shape := ⟨2, ![512, 4096]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x10752, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .hbm, ⟨6, _⟩ => ⟨S4096x2048, .bf16⟩
  | .hbm, ⟨7, _⟩ => ⟨S4096x2048, .bf16⟩
  | .hbm, ⟨8, _⟩ => ⟨S4096x4096, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v1 : BitVec 32 := Scalar.muli arg1 c1024_i32
  let v2 : BitVec 32 := Scalar.addi c6656_i32 v1
  v2
def k0_mult2 (i : grid0.Coords) : BitVec 32 :=
  let c8704_i32 : BitVec 32 := 8704#32
  let arg1 : BitVec 32 := BitVec.ofNat 32 (i 1).val
  let c1024_i32 : BitVec 32 := 1024#32
  let v1 : BitVec 32 := Scalar.muli arg1 c1024_i32
  let v2 : BitVec 32 := Scalar.addi c8704_i32 v1
  v2
def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_17 : BitVec 32 := 0#32
  let v32 : BitVec 1 := Scalar.cmpi .ne v31 c0_i32_17
  v32

def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c6656_i32 : BitVec 32 := 6656#32
  let v2 : BitVec 32 := Scalar.addi c6656_i32 v1
  let v3 : BitVec 32 := v2
  let c0_i32 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c8704_i32 : BitVec 32 := 8704#32
  let v2 : BitVec 32 := Scalar.addi c8704_i32 v1
  let v3 : BitVec 32 := v2
  let c0_i32 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MergeRefIdeal.lean ====
abbrev S4096x2048 : Shape := ⟨2, ![4096, 2048]⟩
abbrev S2048x2048 : Shape := ⟨2, ![2048, 2048]⟩
abbrev S4096x10752 : Shape := ⟨2, ![4096, 10752]⟩
abbrev S_ : Shape := ⟨0, ![]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x10752, .f32⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S4096x2048, .bf16⟩
  | .hbm, ⟨47, _⟩ => ⟨S4096x4096, .f32⟩
  | .hbm, ⟨48, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== AdamIn.lean ====
abbrev S2048x2688 : Shape := ⟨2, ![2048, 2688]⟩
abbrev S128x2688 : Shape := ⟨2, ![128, 2688]⟩

abbrev nBuf : Space → Nat
  | .hbm => 8
  | .vmem => 16
  | .smem => 0
  | _ => 0

abbrev bufTy : (tb : Table) → Fin (tcTables nBuf tb) → BufTy
  | .hbm, ⟨0, _⟩ => ⟨S2048x2688, .f32⟩
  | .hbm, ⟨1, _⟩ => ⟨S2048x2688, .f32⟩
  | .hbm, ⟨2, _⟩ => ⟨S2048x2688, .f32⟩
  | .hbm, ⟨3, _⟩ => ⟨S2048x2688, .f32⟩
  | .hbm, ⟨4, _⟩ => ⟨S2048x2688, .f32⟩
  | .hbm, ⟨5, _⟩ => ⟨S2048x2688, .f32⟩
  | .hbm, ⟨6, _⟩ => ⟨S2048x2688, .f32⟩
  | .hbm, ⟨7, _⟩ => ⟨S2048x2688, .f32⟩
  | .local _ .vmem, ⟨0, _⟩ => ⟨S128x2688, .f32⟩
  | .local _ .vmem, ⟨1, _⟩ => ⟨S128x2688, .f32⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | .local _ .vmem, ⟨8, _⟩ => ⟨S128x2688, .f32⟩
  | .local _ .vmem, ⟨9, _⟩ => ⟨S128x2688, .f32⟩
  | .local _ .vmem, ⟨10, _⟩ => ⟨S128x2688, .f32⟩
  | .local _ .vmem, ⟨11, _⟩ => ⟨S128x2688, .f32⟩
  | .local _ .vmem, ⟨12, _⟩ => ⟨S128x2688, .f32⟩
  | .local _ .vmem, ⟨13, _⟩ => ⟨S128x2688, .f32⟩
  | .local _ .vmem, ⟨14, _⟩ => ⟨S128x2688, .f32⟩
  | .local _ .vmem, ⟨15, _⟩ => ⟨S128x2688, .f32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x2688 : Shape := ⟨2, ![2048, 2688]⟩
abbrev S128x2688 : Shape := ⟨2, ![128, 2688]⟩

abbrev nBuf : Space → Nat
  | .hbm => 8
  | .vmem => 16
  | .smem => 0
  | _ => 0

abbrev bufTy : (tb : Table) → Fin (tcTables nBuf tb) → BufTy
  | .hbm, ⟨0, _⟩ => ⟨S2048x2688, .f32⟩
  | .hbm, ⟨1, _⟩ => ⟨S2048x2688, .f32⟩
  | .hbm, ⟨2, _⟩ => ⟨S2048x2688, .f32⟩
  | .hbm, ⟨3, _⟩ => ⟨S2048x2688, .f32⟩
  | .hbm, ⟨4, _⟩ => ⟨S2048x2688, .f32⟩
  | .hbm, ⟨5, _⟩ => ⟨S2048x2688, .f32⟩
  | .hbm, ⟨6, _⟩ => ⟨S2048x2688, .f32⟩
  | .hbm, ⟨7, _⟩ => ⟨S2048x2688, .f32⟩
  | .local _ .vmem, ⟨0, _⟩ => ⟨S128x2688, .f32⟩
  | .local _ .vmem, ⟨1, _⟩ => ⟨S128x2688, .f32⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | .local _ .vmem, ⟨8, _⟩ => ⟨S128x2688, .f32⟩
  | .local _ .vmem, ⟨9, _⟩ => ⟨S128x2688, .f32⟩
  | .local _ .vmem, ⟨10, _⟩ => ⟨S128x2688, .f32⟩
  | .local _ .vmem, ⟨11, _⟩ => ⟨S128x2688, .f32⟩
  | .local _ .vmem, ⟨12, _⟩ => ⟨S128x2688, .f32⟩
  | .local _ .vmem, ⟨13, _⟩ => ⟨S128x2688, .f32⟩
  | .local _ .vmem, ⟨14, _⟩ => ⟨S128x2688, .f32⟩
  | .local _ .vmem, ⟨15, _⟩ => ⟨S128x2688, .f32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x2688 : Shape := ⟨2, ![2048, 2688]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2688, .f32⟩
  | .hbm, ⟨1, _⟩ => ⟨S2048x2688, .f32⟩
  | .hbm, ⟨2, _⟩ => ⟨S2048x2688, .f32⟩
  | .hbm, ⟨3, _⟩ => ⟨S2048x2688, .f32⟩
  | .hbm, ⟨4, _⟩ => ⟨S_, .f32⟩
  | .hbm, ⟨5, _⟩ => ⟨S2048x2688, .f32⟩
  | .hbm, ⟨6, _⟩ => ⟨S2048x2688, .f32⟩
  | .hbm, ⟨7, _⟩ => ⟨S_, .f32⟩
  | .hbm, ⟨8, _⟩ => ⟨S2048x2688, .f32⟩
  | .hbm, ⟨9, _⟩ => ⟨S2048x2688, .f32⟩
  | .hbm, ⟨10, _⟩ => ⟨S2048x2688, .f32⟩
  | .hbm, ⟨11, _⟩ => ⟨S_, .f32⟩
  | .hbm, ⟨12, _⟩ => ⟨S2048x2688, .f32⟩
  | .hbm, ⟨13, _⟩ => ⟨S2048x2688, .f32⟩
  | .hbm, ⟨14, _⟩ => ⟨S2048x2688, .f32⟩
  | .hbm, ⟨15, _⟩ => ⟨S_, .f32⟩
  | .hbm, ⟨16, _⟩ => ⟨S2048x2688, .f32⟩
  | .hbm, ⟨17, _⟩ => ⟨S2048x2688, .f32⟩
  | .hbm, ⟨18, _⟩ => ⟨S2048x2688, .f32⟩
  | .hbm, ⟨19, _⟩ => ⟨S_, .f32⟩
  | .hbm, ⟨20, _⟩ => ⟨S2048x2688, .f32⟩
  | .hbm, ⟨21, _⟩ => ⟨S2048x2688, .f32⟩
  | .hbm, ⟨22, _⟩ => ⟨S_, .f32⟩
  | .hbm, ⟨23, _⟩ => ⟨S2048x2688, .f32⟩
  | .hbm, ⟨24, _⟩ => ⟨S2048x2688, .f32⟩
  | .hbm, ⟨25, _⟩ => ⟨S2048x2688, .f32⟩
  | .hbm, ⟨26, _⟩ => ⟨S_, .f32⟩
  | .hbm, ⟨27, _⟩ => ⟨S2048x2688, .f32⟩
  | .hbm, ⟨28, _⟩ => ⟨S2048x2688, .f32⟩
  | .hbm, ⟨29, _⟩ => ⟨S2048x2688, .f32⟩
  | .hbm, ⟨30, _⟩ => ⟨S_, .f32⟩
  | .hbm, ⟨31, _⟩ => ⟨S2048x2688, .f32⟩
  | .hbm, ⟨32, _⟩ => ⟨S2048x2688, .f32⟩
  | .hbm, ⟨33, _⟩ => ⟨S2048x2688, .f32⟩
  | .hbm, ⟨34, _⟩ => ⟨S_, .f32⟩
  | .hbm, ⟨35, _⟩ => ⟨S2048x2688, .f32⟩
  | .hbm, ⟨36, _⟩ => ⟨S2048x2688, .f32⟩
  | _, _ => ⟨S2048x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttn.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAttnIdeal.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAttnRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHgrn.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamHgrnIdeal.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamHgrnRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S72x128 : Shape := ⟨2, ![72, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S72x128 : Shape := ⟨2, ![72, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S72x128, .f32⟩
  | .hbm, ⟨7, _⟩ => ⟨S_, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S_, .f32⟩
  | .hbm, ⟨12, _⟩ => ⟨S72x128, .f32⟩
  | .hbm, ⟨13, _⟩ => ⟨S72x128, .f32⟩
  | .hbm, ⟨14, _⟩ => ⟨S72x128, .f32⟩
  | .hbm, ⟨15, _⟩ => ⟨S_, .f32⟩
  | .hbm, ⟨16, _⟩ => ⟨S72x128, .f32⟩
  | .hbm, ⟨17, _⟩ => ⟨S72x128, .f32⟩
  | .hbm, ⟨18, _⟩ => ⟨S72x128, .f32⟩
  | .hbm, ⟨19, _⟩ => ⟨S_, .f32⟩
  | .hbm, ⟨20, _⟩ => ⟨S72x128, .f32⟩
  | .hbm, ⟨21, _⟩ => ⟨S72x128, .f32⟩
  | .hbm, ⟨22, _⟩ => ⟨S_, .f32⟩
  | .hbm, ⟨23, _⟩ => ⟨S72x128, .f32⟩
  | .hbm, ⟨24, _⟩ => ⟨S72x128, .f32⟩
  | .hbm, ⟨25, _⟩ => ⟨S72x128, .f32⟩
  | .hbm, ⟨26, _⟩ => ⟨S_, .f32⟩
  | .hbm, ⟨27, _⟩ => ⟨S72x128, .f32⟩
  | .hbm, ⟨28, _⟩ => ⟨S72x128, .f32⟩
  | .hbm, ⟨29, _⟩ => ⟨S72x128, .f32⟩
  | .hbm, ⟨30, _⟩ => ⟨S_, .f32⟩
  | .hbm, ⟨31, _⟩ => ⟨S72x128, .f32⟩
  | .hbm, ⟨32, _⟩ => ⟨S72x128, .f32⟩
  | .hbm, ⟨33, _⟩ => ⟨S72x128, .f32⟩
  | .hbm, ⟨34, _⟩ => ⟨S_, .f32⟩
  | .hbm, ⟨35, _⟩ => ⟨S72x128, .f32⟩
  | .hbm, ⟨36, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== PostLoss.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S1x1, .f32⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x1, .f32⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x1, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== SumIn0.lean ====
abbrev S4x1024x2688 : Shape := ⟨3, ![4, 1024, 2688]⟩
abbrev S3x1024x2688 : Shape := ⟨3, ![3, 1024, 2688]⟩
abbrev S_ : Shape := ⟨0, ![]⟩
abbrev S1 : Shape := ⟨1, ![1]⟩
abbrev S2 : Shape := ⟨1, ![2]⟩
abbrev S2x1024x2688 : Shape := ⟨3, ![2, 1024, 2688]⟩
abbrev S1x256x2688 : Shape := ⟨3, ![1, 256, 2688]⟩
abbrev S3x256x2688 : Shape := ⟨3, ![3, 256, 2688]⟩
abbrev S256x2688 : Shape := ⟨2, ![256, 2688]⟩
abbrev S1x1024x2688 : Shape := ⟨3, ![1, 1024, 2688]⟩
abbrev S1024x2688 : Shape := ⟨2, ![1024, 2688]⟩

abbrev nBuf : Space → Nat
  | .hbm => 14
  | .vmem => 8
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x1024x2688, .f32⟩
  | .hbm, ⟨12, _⟩ => ⟨S1x1024x2688, .f32⟩
  | .hbm, ⟨13, _⟩ => ⟨S1024x2688, .f32⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S3x256x2688, .bf16⟩
  | .local _ .vmem, ⟨5, _⟩ => ⟨S3x256x2688, .bf16⟩
  | .local _ .vmem, ⟨6, _⟩ => ⟨S1x256x2688, .f32⟩
  | .local _ .vmem, ⟨7, _⟩ => ⟨S1x256x2688, .f32⟩
  | .local _ .smem, ⟨0, _⟩ => ⟨S2, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumIn0Ideal.lean ====
abbrev S4x1024x2688 : Shape := ⟨3, ![4, 1024, 2688]⟩
abbrev S3x1024x2688 : Shape := ⟨3, ![3, 1024, 2688]⟩
abbrev S_ : Shape := ⟨0, ![]⟩
abbrev S1 : Shape := ⟨1, ![1]⟩
abbrev S2 : Shape := ⟨1, ![2]⟩
abbrev S2x1024x2688 : Shape := ⟨3, ![2, 1024, 2688]⟩
abbrev S1x256x2688 : Shape := ⟨3, ![1, 256, 2688]⟩
abbrev S3x256x2688 : Shape := ⟨3, ![3, 256, 2688]⟩
abbrev S256x2688 : Shape := ⟨2, ![256, 2688]⟩
abbrev S1x1024x2688 : Shape := ⟨3, ![1, 1024, 2688]⟩
abbrev S1024x2688 : Shape := ⟨2, ![1024, 2688]⟩

abbrev nBuf : Space → Nat
  | .hbm => 14
  | .vmem => 8
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x1024x2688, .f32⟩
  | .hbm, ⟨12, _⟩ => ⟨S1x1024x2688, .f32⟩
  | .hbm, ⟨13, _⟩ => ⟨S1024x2688, .f32⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S3x256x2688, .bf16⟩
  | .local _ .vmem, ⟨5, _⟩ => ⟨S3x256x2688, .bf16⟩
  | .local _ .vmem, ⟨6, _⟩ => ⟨S1x256x2688, .f32⟩
  | .local _ .vmem, ⟨7, _⟩ => ⟨S1x256x2688, .f32⟩
  | .local _ .smem, ⟨0, _⟩ => ⟨S2, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumIn0RefIdeal.lean ====
abbrev S4x1024x2688 : Shape := ⟨3, ![4, 1024, 2688]⟩
abbrev S3x1024x2688 : Shape := ⟨3, ![3, 1024, 2688]⟩
abbrev S1x1024x2688 : Shape := ⟨3, ![1, 1024, 2688]⟩
abbrev S1024x2688 : Shape := ⟨2, ![1024, 2688]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S1x1024x2688, .bf16⟩
  | .hbm, ⟨4, _⟩ => ⟨S1024x2688, .bf16⟩
  | .hbm, ⟨5, _⟩ => ⟨S1024x2688, .f32⟩
  | .hbm, ⟨6, _⟩ => ⟨S1x1024x2688, .bf16⟩
  | .hbm, ⟨7, _⟩ => ⟨S1024x2688, .bf16⟩
  | .hbm, ⟨8, _⟩ => ⟨S1024x2688, .f32⟩
  | .hbm, ⟨9, _⟩ => ⟨S1024x2688, .f32⟩
  | .hbm, ⟨10, _⟩ => ⟨S3x1024x2688, .f32⟩
  | .hbm, ⟨11, _⟩ => ⟨S_, .f32⟩
  | .hbm, ⟨12, _⟩ => ⟨S1024x2688, .f32⟩
  | .hbm, ⟨13, _⟩ => ⟨S1024x2688, .f32⟩
  | _, _ => ⟨S4x1024x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumIn1.lean ====
abbrev S4x1024x2688 : Shape := ⟨3, ![4, 1024, 2688]⟩
abbrev S3x1024x2688 : Shape := ⟨3, ![3, 1024, 2688]⟩
abbrev S_ : Shape := ⟨0, ![]⟩
abbrev S1 : Shape := ⟨1, ![1]⟩
abbrev S2 : Shape := ⟨1, ![2]⟩
abbrev S2x1024x2688 : Shape := ⟨3, ![2, 1024, 2688]⟩
abbrev S1x256x2688 : Shape := ⟨3, ![1, 256, 2688]⟩
abbrev S3x256x2688 : Shape := ⟨3, ![3, 256, 2688]⟩
abbrev S256x2688 : Shape := ⟨2, ![256, 2688]⟩
abbrev S1x1024x2688 : Shape := ⟨3, ![1, 1024, 2688]⟩
abbrev S1024x2688 : Shape := ⟨2, ![1024, 2688]⟩

abbrev nBuf : Space → Nat
  | .hbm => 14
  | .vmem => 8
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x1024x2688, .f32⟩
  | .hbm, ⟨12, _⟩ => ⟨S1x1024x2688, .f32⟩
  | .hbm, ⟨13, _⟩ => ⟨S1024x2688, .f32⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S3x256x2688, .bf16⟩
  | .local _ .vmem, ⟨5, _⟩ => ⟨S3x256x2688, .bf16⟩
  | .local _ .vmem, ⟨6, _⟩ => ⟨S1x256x2688, .f32⟩
  | .local _ .vmem, ⟨7, _⟩ => ⟨S1x256x2688, .f32⟩
  | .local _ .smem, ⟨0, _⟩ => ⟨S2, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumIn1Ideal.lean ====
abbrev S4x1024x2688 : Shape := ⟨3, ![4, 1024, 2688]⟩
abbrev S3x1024x2688 : Shape := ⟨3, ![3, 1024, 2688]⟩
abbrev S_ : Shape := ⟨0, ![]⟩
abbrev S1 : Shape := ⟨1, ![1]⟩
abbrev S2 : Shape := ⟨1, ![2]⟩
abbrev S2x1024x2688 : Shape := ⟨3, ![2, 1024, 2688]⟩
abbrev S1x256x2688 : Shape := ⟨3, ![1, 256, 2688]⟩
abbrev S3x256x2688 : Shape := ⟨3, ![3, 256, 2688]⟩
abbrev S256x2688 : Shape := ⟨2, ![256, 2688]⟩
abbrev S1x1024x2688 : Shape := ⟨3, ![1, 1024, 2688]⟩
abbrev S1024x2688 : Shape := ⟨2, ![1024, 2688]⟩

abbrev nBuf : Space → Nat
  | .hbm => 14
  | .vmem => 8
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x1024x2688, .f32⟩
  | .hbm, ⟨12, _⟩ => ⟨S1x1024x2688, .f32⟩
  | .hbm, ⟨13, _⟩ => ⟨S1024x2688, .f32⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S3x256x2688, .bf16⟩
  | .local _ .vmem, ⟨5, _⟩ => ⟨S3x256x2688, .bf16⟩
  | .local _ .vmem, ⟨6, _⟩ => ⟨S1x256x2688, .f32⟩
  | .local _ .vmem, ⟨7, _⟩ => ⟨S1x256x2688, .f32⟩
  | .local _ .smem, ⟨0, _⟩ => ⟨S2, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumIn1RefIdeal.lean ====
abbrev S4x1024x2688 : Shape := ⟨3, ![4, 1024, 2688]⟩
abbrev S3x1024x2688 : Shape := ⟨3, ![3, 1024, 2688]⟩
abbrev S1x1024x2688 : Shape := ⟨3, ![1, 1024, 2688]⟩
abbrev S1024x2688 : Shape := ⟨2, ![1024, 2688]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S1x1024x2688, .bf16⟩
  | .hbm, ⟨4, _⟩ => ⟨S1024x2688, .bf16⟩
  | .hbm, ⟨5, _⟩ => ⟨S1024x2688, .f32⟩
  | .hbm, ⟨6, _⟩ => ⟨S1x1024x2688, .bf16⟩
  | .hbm, ⟨7, _⟩ => ⟨S1024x2688, .bf16⟩
  | .hbm, ⟨8, _⟩ => ⟨S1024x2688, .f32⟩
  | .hbm, ⟨9, _⟩ => ⟨S1024x2688, .f32⟩
  | .hbm, ⟨10, _⟩ => ⟨S3x1024x2688, .f32⟩
  | .hbm, ⟨11, _⟩ => ⟨S_, .f32⟩
  | .hbm, ⟨12, _⟩ => ⟨S1024x2688, .f32⟩
  | .hbm, ⟨13, _⟩ => ⟨S1024x2688, .f32⟩
  | _, _ => ⟨S4x1024x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumAttn0.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumAttn0Ideal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumAttn0RefIdeal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x1x512x512 : Shape := ⟨4, ![1, 1, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S1x1x512x512, .bf16⟩
  | .hbm, ⟨4, _⟩ => ⟨S512x512, .bf16⟩
  | .hbm, ⟨5, _⟩ => ⟨S512x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S3x512x512, .f32⟩
  | .hbm, ⟨11, _⟩ => ⟨S_, .f32⟩
  | .hbm, ⟨12, _⟩ => ⟨S512x512, .f32⟩
  | .hbm, ⟨13, _⟩ => ⟨S512x512, .f32⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumAttn1.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumAttn1Ideal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumAttn1RefIdeal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x1x512x512 : Shape := ⟨4, ![1, 1, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S1x1x512x512, .bf16⟩
  | .hbm, ⟨4, _⟩ => ⟨S512x512, .bf16⟩
  | .hbm, ⟨5, _⟩ => ⟨S512x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S3x512x512, .f32⟩
  | .hbm, ⟨11, _⟩ => ⟨S_, .f32⟩
  | .hbm, ⟨12, _⟩ => ⟨S512x512, .f32⟩
  | .hbm, ⟨13, _⟩ => ⟨S512x512, .f32⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumHgrn0.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumHgrn0Ideal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumHgrn0RefIdeal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x1x512x512 : Shape := ⟨4, ![1, 1, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S1x1x512x512, .bf16⟩
  | .hbm, ⟨4, _⟩ => ⟨S512x512, .bf16⟩
  | .hbm, ⟨5, _⟩ => ⟨S512x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S3x512x512, .f32⟩
  | .hbm, ⟨11, _⟩ => ⟨S_, .f32⟩
  | .hbm, ⟨12, _⟩ => ⟨S512x512, .f32⟩
  | .hbm, ⟨13, _⟩ => ⟨S512x512, .f32⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumHgrn1.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumHgrn1Ideal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S2x512x512 : Shape := ⟨3, ![2, 512, 512]⟩
abbrev S1x1x256x512 : Shape := ⟨4, ![1, 1, 256, 512]⟩
abbrev S1x256x512 : Shape := ⟨3, ![1, 256, 512]⟩
abbrev S3x256x512 : Shape := ⟨3, ![3, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x512x512, .f32⟩
  | .hbm, ⟨12, _⟩ => ⟨S1x512x512, .f32⟩
  | .hbm, ⟨13, _⟩ => ⟨S512x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S1x256x512, .f32⟩
  | .local _ .vmem, ⟨7, _⟩ => ⟨S1x256x512, .f32⟩
  | .local _ .smem, ⟨0, _⟩ => ⟨S2, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumHgrn1RefIdeal.lean ====
abbrev S4x2x512x512 : Shape := ⟨4, ![4, 2, 512, 512]⟩
abbrev S4x512x512 : Shape := ⟨3, ![4, 512, 512]⟩
abbrev S3x512x512 : Shape := ⟨3, ![3, 512, 512]⟩
abbrev S1x1x512x512 : Shape := ⟨4, ![1, 1, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S3x512x512, .bf16⟩
  | .hbm, ⟨3, _⟩ => ⟨S1x1x512x512, .bf16⟩
  | .hbm, ⟨4, _⟩ => ⟨S512x512, .bf16⟩
  | .hbm, ⟨5, _⟩ => ⟨S512x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S3x512x512, .f32⟩
  | .hbm, ⟨11, _⟩ => ⟨S_, .f32⟩
  | .hbm, ⟨12, _⟩ => ⟨S512x512, .f32⟩
  | .hbm, ⟨13, _⟩ => ⟨S512x512, .f32⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumOut0.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S2x256x2048 : Shape := ⟨3, ![2, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 14
  | .vmem => 4
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x256x2048, .f32⟩
  | .hbm, ⟨12, _⟩ => ⟨S1x256x2048, .f32⟩
  | .hbm, ⟨13, _⟩ => ⟨S256x2048, .f32⟩
  | .local _ .vmem, ⟨0, _⟩ => ⟨S1x1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S1x256x2048, .f32⟩
  | .local _ .smem, ⟨0, _⟩ => ⟨S2, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumOut0Ideal.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S2x256x2048 : Shape := ⟨3, ![2, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 14
  | .vmem => 4
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x256x2048, .f32⟩
  | .hbm, ⟨12, _⟩ => ⟨S1x256x2048, .f32⟩
  | .hbm, ⟨13, _⟩ => ⟨S256x2048, .f32⟩
  | .local _ .vmem, ⟨0, _⟩ => ⟨S1x1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S1x256x2048, .f32⟩
  | .local _ .smem, ⟨0, _⟩ => ⟨S2, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumOut0RefIdeal.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S1x1x256x2048 : Shape := ⟨4, ![1, 1, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S1x1x256x2048, .bf16⟩
  | .hbm, ⟨4, _⟩ => ⟨S256x2048, .bf16⟩
  | .hbm, ⟨5, _⟩ => ⟨S256x2048, .f32⟩
  | .hbm, ⟨6, _⟩ => ⟨S1x256x2048, .bf16⟩
  | .hbm, ⟨7, _⟩ => ⟨S256x2048, .bf16⟩
  | .hbm, ⟨8, _⟩ => ⟨S256x2048, .f32⟩
  | .hbm, ⟨9, _⟩ => ⟨S256x2048, .f32⟩
  | .hbm, ⟨10, _⟩ => ⟨S3x256x2048, .f32⟩
  | .hbm, ⟨11, _⟩ => ⟨S_, .f32⟩
  | .hbm, ⟨12, _⟩ => ⟨S256x2048, .f32⟩
  | .hbm, ⟨13, _⟩ => ⟨S256x2048, .f32⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumOut1.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S2x256x2048 : Shape := ⟨3, ![2, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 14
  | .vmem => 4
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x256x2048, .f32⟩
  | .hbm, ⟨12, _⟩ => ⟨S1x256x2048, .f32⟩
  | .hbm, ⟨13, _⟩ => ⟨S256x2048, .f32⟩
  | .local _ .vmem, ⟨0, _⟩ => ⟨S1x1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S1x256x2048, .f32⟩
  | .local _ .smem, ⟨0, _⟩ => ⟨S2, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumOut1Ideal.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S2x256x2048 : Shape := ⟨3, ![2, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 14
  | .vmem => 4
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2x256x2048, .f32⟩
  | .hbm, ⟨12, _⟩ => ⟨S1x256x2048, .f32⟩
  | .hbm, ⟨13, _⟩ => ⟨S256x2048, .f32⟩
  | .local _ .vmem, ⟨0, _⟩ => ⟨S1x1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S1x256x2048, .f32⟩
  | .local _ .smem, ⟨0, _⟩ => ⟨S2, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S1x1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumOut1RefIdeal.lean ====
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S1x1x256x2048 : Shape := ⟨4, ![1, 1, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S3x256x2048, .bf16⟩
  | .hbm, ⟨3, _⟩ => ⟨S1x1x256x2048, .bf16⟩
  | .hbm, ⟨4, _⟩ => ⟨S256x2048, .bf16⟩
  | .hbm, ⟨5, _⟩ => ⟨S256x2048, .f32⟩
  | .hbm, ⟨6, _⟩ => ⟨S1x256x2048, .bf16⟩
  | .hbm, ⟨7, _⟩ => ⟨S256x2048, .bf16⟩
  | .hbm, ⟨8, _⟩ => ⟨S256x2048, .f32⟩
  | .hbm, ⟨9, _⟩ => ⟨S256x2048, .f32⟩
  | .hbm, ⟨10, _⟩ => ⟨S3x256x2048, .f32⟩
  | .hbm, ⟨11, _⟩ => ⟨S_, .f32⟩
  | .hbm, ⟨12, _⟩ => ⟨S256x2048, .f32⟩
  | .hbm, ⟨13, _⟩ => ⟨S256x2048, .f32⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== CastIn.lean ====
abbrev S2048x2688 : Shape := ⟨2, ![2048, 2688]⟩
abbrev S_ : Shape := ⟨0, ![]⟩
abbrev S1 : Shape := ⟨1, ![1]⟩
abbrev S2048x10752 : Shape := ⟨2, ![2048, 10752]⟩
abbrev S256x2688 : Shape := ⟨2, ![256, 2688]⟩

abbrev nBuf : Space → Nat
  | .hbm => 8
  | .vmem => 4
  | .smem => 1
  | _ => 0

abbrev bufTy : (tb : Table) → Fin (tcTables nBuf tb) → BufTy
  | .hbm, ⟨0, _⟩ => ⟨S2048x2688, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048x10752, .bf16⟩
  | .hbm, ⟨7, _⟩ => ⟨S2048x2688, .bf16⟩
  | .local _ .vmem, ⟨0, _⟩ => ⟨S256x2688, .f32⟩
  | .local _ .vmem, ⟨1, _⟩ => ⟨S256x2688, .f32⟩
  | .local _ .vmem, ⟨2, _⟩ => ⟨S256x2688, .bf16⟩
  | .local _ .vmem, ⟨3, _⟩ => ⟨S256x2688, .bf16⟩
  | .local _ .smem, ⟨0, _⟩ => ⟨S1, .i32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInIdeal.lean ====
abbrev S2048x2688 : Shape := ⟨2, ![2048, 2688]⟩
abbrev S_ : Shape := ⟨0, ![]⟩
abbrev S1 : Shape := ⟨1, ![1]⟩
abbrev S2048x10752 : Shape := ⟨2, ![2048, 10752]⟩
abbrev S256x2688 : Shape := ⟨2, ![256, 2688]⟩

abbrev nBuf : Space → Nat
  | .hbm => 8
  | .vmem => 4
  | .smem => 1
  | _ => 0

abbrev bufTy : (tb : Table) → Fin (tcTables nBuf tb) → BufTy
  | .hbm, ⟨0, _⟩ => ⟨S2048x2688, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048x10752, .bf16⟩
  | .hbm, ⟨7, _⟩ => ⟨S2048x2688, .bf16⟩
  | .local _ .vmem, ⟨0, _⟩ => ⟨S256x2688, .f32⟩
  | .local _ .vmem, ⟨1, _⟩ => ⟨S256x2688, .f32⟩
  | .local _ .vmem, ⟨2, _⟩ => ⟨S256x2688, .bf16⟩
  | .local _ .vmem, ⟨3, _⟩ => ⟨S256x2688, .bf16⟩
  | .local _ .smem, ⟨0, _⟩ => ⟨S1, .i32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInRefIdeal.lean ====
abbrev S2048x2688 : Shape := ⟨2, ![2048, 2688]⟩

abbrev nBuf : Space → Nat
  | .hbm => 2
  | .vmem => 0
  | .smem => 0
  | _ => 0

abbrev bufTy : (tb : Table) → Fin (tcTables nBuf tb) → BufTy
  | .hbm, ⟨0, _⟩ => ⟨S2048x2688, .f32⟩
  | .hbm, ⟨1, _⟩ => ⟨S2048x2688, .bf16⟩
  | _, _ => ⟨S2048x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastAttn.lean ====
abbrev S1024x512 : Shape := ⟨2, ![1024, 512]⟩
abbrev S_ : Shape := ⟨0, ![]⟩
abbrev S1 : Shape := ⟨1, ![1]⟩
abbrev S1024x2048 : Shape := ⟨2, ![1024, 2048]⟩
abbrev S256x512 : Shape := ⟨2, ![256, 512]⟩

abbrev nBuf : Space → Nat
  | .hbm => 8
  | .vmem => 4
  | .smem => 1
  | _ => 0

abbrev bufTy : (tb : Table) → Fin (tcTables nBuf tb) → BufTy
  | .hbm, ⟨0, _⟩ => ⟨S1024x512, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1024x2048, .bf16⟩
  | .hbm, ⟨7, _⟩ => ⟨S1024x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastAttnIdeal.lean ====
abbrev S1024x512 : Shape := ⟨2, ![1024, 512]⟩
abbrev S_ : Shape := ⟨0, ![]⟩
abbrev S1 : Shape := ⟨1, ![1]⟩
abbrev S1024x2048 : Shape := ⟨2, ![1024, 2048]⟩
abbrev S256x512 : Shape := ⟨2, ![256, 512]⟩

abbrev nBuf : Space → Nat
  | .hbm => 8
  | .vmem => 4
  | .smem => 1
  | _ => 0

abbrev bufTy : (tb : Table) → Fin (tcTables nBuf tb) → BufTy
  | .hbm, ⟨0, _⟩ => ⟨S1024x512, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1024x2048, .bf16⟩
  | .hbm, ⟨7, _⟩ => ⟨S1024x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastAttnRefIdeal.lean ====
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastHgrn.lean ====
abbrev S1024x512 : Shape := ⟨2, ![1024, 512]⟩
abbrev S_ : Shape := ⟨0, ![]⟩
abbrev S1 : Shape := ⟨1, ![1]⟩
abbrev S1024x2048 : Shape := ⟨2, ![1024, 2048]⟩
abbrev S256x512 : Shape := ⟨2, ![256, 512]⟩

abbrev nBuf : Space → Nat
  | .hbm => 8
  | .vmem => 4
  | .smem => 1
  | _ => 0

abbrev bufTy : (tb : Table) → Fin (tcTables nBuf tb) → BufTy
  | .hbm, ⟨0, _⟩ => ⟨S1024x512, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1024x2048, .bf16⟩
  | .hbm, ⟨7, _⟩ => ⟨S1024x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastHgrnIdeal.lean ====
abbrev S1024x512 : Shape := ⟨2, ![1024, 512]⟩
abbrev S_ : Shape := ⟨0, ![]⟩
abbrev S1 : Shape := ⟨1, ![1]⟩
abbrev S1024x2048 : Shape := ⟨2, ![1024, 2048]⟩
abbrev S256x512 : Shape := ⟨2, ![256, 512]⟩

abbrev nBuf : Space → Nat
  | .hbm => 8
  | .vmem => 4
  | .smem => 1
  | _ => 0

abbrev bufTy : (tb : Table) → Fin (tcTables nBuf tb) → BufTy
  | .hbm, ⟨0, _⟩ => ⟨S1024x512, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1024x2048, .bf16⟩
  | .hbm, ⟨7, _⟩ => ⟨S1024x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastHgrnRefIdeal.lean ====
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S512x2048 : Shape := ⟨2, ![512, 2048]⟩
abbrev S_ : Shape := ⟨0, ![]⟩
abbrev S1 : Shape := ⟨1, ![1]⟩
abbrev S2048x2048 : Shape := ⟨2, ![2048, 2048]⟩
abbrev S256x2048 : Shape := ⟨2, ![256, 2048]⟩

abbrev nBuf : Space → Nat
  | .hbm => 8
  | .vmem => 4
  | .smem => 1
  | _ => 0

abbrev bufTy : (tb : Table) → Fin (tcTables nBuf tb) → BufTy
  | .hbm, ⟨0, _⟩ => ⟨S512x2048, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048x2048, .bf16⟩
  | .hbm, ⟨7, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastOutIdeal.lean ====
abbrev S512x2048 : Shape := ⟨2, ![512, 2048]⟩
abbrev S_ : Shape := ⟨0, ![]⟩
abbrev S1 : Shape := ⟨1, ![1]⟩
abbrev S2048x2048 : Shape := ⟨2, ![2048, 2048]⟩
abbrev S256x2048 : Shape := ⟨2, ![256, 2048]⟩

abbrev nBuf : Space → Nat
  | .hbm => 8
  | .vmem => 4
  | .smem => 1
  | _ => 0

abbrev bufTy : (tb : Table) → Fin (tcTables nBuf tb) → BufTy
  | .hbm, ⟨0, _⟩ => ⟨S512x2048, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048x2048, .bf16⟩
  | .hbm, ⟨7, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastOutRefIdeal.lean ====
abbrev S512x2048 : Shape := ⟨2, ![512, 2048]⟩

abbrev nBuf : Space → Nat
  | .hbm => 2
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SibIn.lean ====
abbrev S4x1024x2688 : Shape := ⟨3, ![4, 1024, 2688]⟩
abbrev S_ : Shape := ⟨0, ![]⟩
abbrev S1 : Shape := ⟨1, ![1]⟩
abbrev S4 : Shape := ⟨1, ![4]⟩
abbrev S1x256x2688 : Shape := ⟨3, ![1, 256, 2688]⟩
abbrev S256x2688 : Shape := ⟨2, ![256, 2688]⟩
abbrev S3x1024x2688 : Shape := ⟨3, ![3, 1024, 2688]⟩

abbrev nBuf : Space → Nat
  | .hbm => 32
  | .vmem => 6
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x1024x2688, .bf16⟩
  | .hbm, ⟨31, _⟩ => ⟨S3x1024x2688, .bf16⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S1x256x2688, .bf16⟩
  | .local _ .vmem, ⟨5, _⟩ => ⟨S1x256x2688, .bf16⟩
  | .local _ .smem, ⟨0, _⟩ => ⟨S4, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibInIdeal.lean ====
abbrev S4x1024x2688 : Shape := ⟨3, ![4, 1024, 2688]⟩
abbrev S_ : Shape := ⟨0, ![]⟩
abbrev S1 : Shape := ⟨1, ![1]⟩
abbrev S4 : Shape := ⟨1, ![4]⟩
abbrev S1x256x2688 : Shape := ⟨3, ![1, 256, 2688]⟩
abbrev S256x2688 : Shape := ⟨2, ![256, 2688]⟩
abbrev S3x1024x2688 : Shape := ⟨3, ![3, 1024, 2688]⟩

abbrev nBuf : Space → Nat
  | .hbm => 32
  | .vmem => 6
  | .smem => 1
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x1024x2688, .bf16⟩
  | .hbm, ⟨31, _⟩ => ⟨S3x1024x2688, .bf16⟩
  | .local _ .vmem, ⟨0, _⟩ => ⟨S1x256x2688, .bf16⟩
  | .local _ .vmem, ⟨1, _⟩ => ⟨S1x256x2688, .bf16⟩
  | .local _ .vmem, ⟨2, _⟩ => ⟨S1x256x2688, .bf16⟩
  | .local _ .vmem, ⟨3, _⟩ => ⟨S1x256x2688, .bf16⟩
  | .local _ .vmem, ⟨4, _⟩ => ⟨S1x256x2688, .bf16⟩
  | .local _ .vmem, ⟨5, _⟩ => ⟨S1x256x2688, .bf16⟩
  | .local _ .smem, ⟨0, _⟩ => ⟨S4, .i32⟩
  | _, _ => ⟨S4x1024x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibInRefIdeal.lean ====
abbrev S4x1024x2688 : Shape := ⟨3, ![4, 1024, 2688]⟩
abbrev S3x1024x2688 : Shape := ⟨3, ![3, 1024, 2688]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x2688, .bf16⟩
  | .hbm, ⟨1, _⟩ => ⟨S4x1024x2688, .bf16⟩
  | .hbm, ⟨2, _⟩ => ⟨S3x1024x2688, .bf16⟩
  | .hbm, ⟨3, _⟩ => ⟨S3x1024x2688, .f32⟩
  | .hbm, ⟨4, _⟩ => ⟨S3x1024x2688, .bf16⟩
  | .hbm, ⟨5, _⟩ => ⟨S3x1024x2688, .f32⟩
  | .hbm, ⟨6, _⟩ => ⟨S3x1024x2688, .f32⟩
  | .hbm, ⟨7, _⟩ => ⟨S3x1024x2688, .bf16⟩
  | _, _ => ⟨S4x1024x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SibAttn.lean ====
abbrev S4x2x512x512 : Shape := ⟨4, ![4, 2, 512, 512]⟩
abbrev S4x512x512 : Shape := ⟨3, ![4, 512, 512]⟩
abbrev S_ : Shape := ⟨0, ![]⟩
abbrev S1 : Shape := ⟨1, ![1]⟩
abbrev S4 : Shape := ⟨1, ![4]⟩
abbrev S1x1x256x512 : Shape := ⟨4, ![1, 1, 256, 512]⟩
abbrev S1x256x512 : Shape := ⟨3, ![1, 256, 512]⟩
abbrev S256x512 : Shape := ⟨2, ![256, 512]⟩
abbrev S3x512x512 : Shape := ⟨3, ![3, 512, 512]⟩

abbrev nBuf : Space → Nat
  | .hbm => 32
  | .vmem => 6
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x512x512, .bf16⟩
  | .hbm, ⟨31, _⟩ => ⟨S3x512x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S4, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (inb_S4_S1_0 : ∀ a, (![0] : Fin 1 → Nat) a + S1.size a ≤ S4.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0 : Index := 0#32
  let v3 : BitVec 32 := pf.at 0 (Rect.unit (s := S4) ![0] S1.size inb_S4_S1_0) numel1_S1
  let c0_i32 : BitVec 32 := 0#32
  let c0_i32_0 : BitVec 32 := 0#32
  ![v2.toNat, v3.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibAttnIdeal.lean ====
abbrev S4x2x512x512 : Shape := ⟨4, ![4, 2, 512, 512]⟩
abbrev S4x512x512 : Shape := ⟨3, ![4, 512, 512]⟩
abbrev S_ : Shape := ⟨0, ![]⟩
abbrev S1 : Shape := ⟨1, ![1]⟩
abbrev S4 : Shape := ⟨1, ![4]⟩
abbrev S1x1x256x512 : Shape := ⟨4, ![1, 1, 256, 512]⟩
abbrev S1x256x512 : Shape := ⟨3, ![1, 256, 512]⟩
abbrev S256x512 : Shape := ⟨2, ![256, 512]⟩
abbrev S3x512x512 : Shape := ⟨3, ![3, 512, 512]⟩

abbrev nBuf : Space → Nat
  | .hbm => 32
  | .vmem => 6
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x512x512, .bf16⟩
  | .hbm, ⟨31, _⟩ => ⟨S3x512x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S4, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (inb_S4_S1_0 : ∀ a, (![0] : Fin 1 → Nat) a + S1.size a ≤ S4.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0 : Index := 0#32
  let v3 : BitVec 32 := pf.at 0 (Rect.unit (s := S4) ![0] S1.size inb_S4_S1_0) numel1_S1
  let c0_i32 : BitVec 32 := 0#32
  let c0_i32_0 : BitVec 32 := 0#32
  ![v2.toNat, v3.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibAttnRefIdeal.lean ====
abbrev S4x2x512x512 : Shape := ⟨4, ![4, 2, 512, 512]⟩
abbrev S4x512x512 : Shape := ⟨3, ![4, 512, 512]⟩
abbrev S4x1x512x512 : Shape := ⟨4, ![4, 1, 512, 512]⟩
abbrev S3x512x512 : Shape := ⟨3, ![3, 512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S4x1x512x512, .bf16⟩
  | .hbm, ⟨3, _⟩ => ⟨S4x512x512, .bf16⟩
  | .hbm, ⟨4, _⟩ => ⟨S3x512x512, .bf16⟩
  | .hbm, ⟨5, _⟩ => ⟨S3x512x512, .f32⟩
  | .hbm, ⟨6, _⟩ => ⟨S3x512x512, .bf16⟩
  | .hbm, ⟨7, _⟩ => ⟨S3x512x512, .f32⟩
  | .hbm, ⟨8, _⟩ => ⟨S3x512x512, .f32⟩
  | .hbm, ⟨9, _⟩ => ⟨S3x512x512, .bf16⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SibHgrn.lean ====
abbrev S4x2x512x512 : Shape := ⟨4, ![4, 2, 512, 512]⟩
abbrev S4x512x512 : Shape := ⟨3, ![4, 512, 512]⟩
abbrev S_ : Shape := ⟨0, ![]⟩
abbrev S1 : Shape := ⟨1, ![1]⟩
abbrev S4 : Shape := ⟨1, ![4]⟩
abbrev S1x1x256x512 : Shape := ⟨4, ![1, 1, 256, 512]⟩
abbrev S1x256x512 : Shape := ⟨3, ![1, 256, 512]⟩
abbrev S256x512 : Shape := ⟨2, ![256, 512]⟩
abbrev S3x512x512 : Shape := ⟨3, ![3, 512, 512]⟩

abbrev nBuf : Space → Nat
  | .hbm => 32
  | .vmem => 6
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x512x512, .bf16⟩
  | .hbm, ⟨31, _⟩ => ⟨S3x512x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S4, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (inb_S4_S1_0 : ∀ a, (![0] : Fin 1 → Nat) a + S1.size a ≤ S4.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0 : Index := 0#32
  let v3 : BitVec 32 := pf.at 0 (Rect.unit (s := S4) ![0] S1.size inb_S4_S1_0) numel1_S1
  let c0_i32 : BitVec 32 := 0#32
  let c0_i32_0 : BitVec 32 := 0#32
  ![v2.toNat, v3.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibHgrnIdeal.lean ====
abbrev S4x2x512x512 : Shape := ⟨4, ![4, 2, 512, 512]⟩
abbrev S4x512x512 : Shape := ⟨3, ![4, 512, 512]⟩
abbrev S_ : Shape := ⟨0, ![]⟩
abbrev S1 : Shape := ⟨1, ![1]⟩
abbrev S4 : Shape := ⟨1, ![4]⟩
abbrev S1x1x256x512 : Shape := ⟨4, ![1, 1, 256, 512]⟩
abbrev S1x256x512 : Shape := ⟨3, ![1, 256, 512]⟩
abbrev S256x512 : Shape := ⟨2, ![256, 512]⟩
abbrev S3x512x512 : Shape := ⟨3, ![3, 512, 512]⟩

abbrev nBuf : Space → Nat
  | .hbm => 32
  | .vmem => 6
  | .smem => 1
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x512x512, .bf16⟩
  | .hbm, ⟨31, _⟩ => ⟨S3x512x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S4, .i32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (inb_S4_S1_0 : ∀ a, (![0] : Fin 1 → Nat) a + S1.size a ≤ S4.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0 : Index := 0#32
  let v3 : BitVec 32 := pf.at 0 (Rect.unit (s := S4) ![0] S1.size inb_S4_S1_0) numel1_S1
  let c0_i32 : BitVec 32 := 0#32
  let c0_i32_0 : BitVec 32 := 0#32
  ![v2.toNat, v3.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibHgrnRefIdeal.lean ====
abbrev S4x2x512x512 : Shape := ⟨4, ![4, 2, 512, 512]⟩
abbrev S4x512x512 : Shape := ⟨3, ![4, 512, 512]⟩
abbrev S4x1x512x512 : Shape := ⟨4, ![4, 1, 512, 512]⟩
abbrev S3x512x512 : Shape := ⟨3, ![3, 512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S4x512x512, .bf16⟩
  | .hbm, ⟨2, _⟩ => ⟨S4x1x512x512, .bf16⟩
  | .hbm, ⟨3, _⟩ => ⟨S4x512x512, .bf16⟩
  | .hbm, ⟨4, _⟩ => ⟨S3x512x512, .bf16⟩
  | .hbm, ⟨5, _⟩ => ⟨S3x512x512, .f32⟩
  | .hbm, ⟨6, _⟩ => ⟨S3x512x512, .bf16⟩
  | .hbm, ⟨7, _⟩ => ⟨S3x512x512, .f32⟩
  | .hbm, ⟨8, _⟩ => ⟨S3x512x512, .f32⟩
  | .hbm, ⟨9, _⟩ => ⟨S3x512x512, .bf16⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SibOut.lean ====
abbrev S4x2x256x2048 : Shape := ⟨4, ![4, 2, 256, 2048]⟩
abbrev S4x256x2048 : Shape := ⟨3, ![4, 256, 2048]⟩
abbrev S_ : Shape := ⟨0, ![]⟩
abbrev S1 : Shape := ⟨1, ![1]⟩
abbrev S4 : Shape := ⟨1, ![4]⟩
abbrev S1x1x256x2048 : Shape := ⟨4, ![1, 1, 256, 2048]⟩
abbrev S1x256x2048 : Shape := ⟨3, ![1, 256, 2048]⟩
abbrev S256x2048 : Shape := ⟨2, ![256, 2048]⟩
abbrev S3x256x2048 : Shape := ⟨3, ![3, 256, 2048]⟩

abbrev nBuf : Space → Nat
  | .hbm => 32
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S4x256x2048, .bf16⟩
  | .hbm, ⟨31, _⟩ => ⟨S3x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S4, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_c_7 : Ref sig .tc := ⟨.hbm, 16, rfl⟩
abbrev main_c_8 : Ref sig .tc := ⟨.hbm, 17, rfl⟩
abbrev main_v6 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_c_11 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_12 : Ref sig .tc := ⟨.hbm, 28, rfl⟩
abbrev main_v13 : Ref sig .tc := ⟨.hbm, 29, rfl⟩
abbrev main_v15 : Ref sig .tc := ⟨.hbm, 30, rfl⟩
abbrev main_v16 : Ref sig .tc := ⟨.hbm, 31, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (k0_off1_inb : ∀ i : grid0.Coords, ∀ a, (k0_off1 i) a + S1.size a ≤ S4.size a) (numel1_S1 : S1.numel = 1) (inb_S4_S1_0 : ∀ a, (![0] : Fin 1 → Nat) a + S1.size a ≤ S4.size a) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0 : Index := 0#32
  let v3 : BitVec 32 := pf.at 0 (Rect.unit (s := S4) ![0] S1.size inb_S4_S1_0) numel1_S1
  let c0_i32 : BitVec 32 := 0#32
  let c0_i32_0 : BitVec 32 := 0#32
  ![v2.toNat, v3.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S4) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibOutRefIdeal.lean ====
abbrev S4x2x256x2048 : Shape := ⟨4, ![4, 2, 256, 2048]⟩
abbrev S4x256x2048 : Shape := ⟨3, ![4, 256, 2048]⟩
abbrev S4x1x256x2048 : Shape := ⟨4, ![4, 1, 256, 2048]⟩
abbrev S3x256x2048 : Shape := ⟨3, ![3, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S4x1x256x2048, .bf16⟩
  | .hbm, ⟨3, _⟩ => ⟨S4x256x2048, .bf16⟩
  | .hbm, ⟨4, _⟩ => ⟨S3x256x2048, .bf16⟩
  | .hbm, ⟨5, _⟩ => ⟨S3x256x2048, .f32⟩
  | .hbm, ⟨6, _⟩ => ⟨S3x256x2048, .bf16⟩
  | .hbm, ⟨7, _⟩ => ⟨S3x256x2048, .f32⟩
  | .hbm, ⟨8, _⟩ => ⟨S3x256x2048, .f32⟩
  | .hbm, ⟨9, _⟩ => ⟨S3x256x2048, .bf16⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.WgradOwnValue.lean ====
/- The gradient of the input projection's weight, the own half of its rows. Which half is read from a prefetched
   table, whose entry the host part fixes. -/
module

public import proofs.«01_k».proof.Proof.Gen.WgradOwnIdeal.Frame
public import proofs.«01_k».proof.Proof.Gen.WgradOwn.Frame
public import proofs.«01_k».proof.Proof.Gen.WgradOwnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradOwn.Hand

open Cert.WgradOwn Cert.WgradOwn.Gen

variable {F : FTy → Type} [FloatOps F] (m : (ℓ : Loc nD τ sig) → Buf (Elt F) ℓ)

/-- The prefetched table holds the number of the half of the rows: 0. -/
theorem half : V m (0 : Dev nD) main_v0 = broadcastInDim S1 ![] bcast_S_S1 (constantI S_ 32 0#32) := by
  entry_read
  rfl

/-- So the block of rows that every point reads is that half. -/
theorem rows (i : grid0.Coords) : cc0_transform_0 inb_S1_S1_0 numel1_S1 (tbl m) i = ![0, 0] := by
  have h : tbl m 0 = broadcastInDim S1 ![] bcast_S_S1 (constantI S_ 32 0#32) := half m
  unfold cc0_transform_0
  have h2 : (tbl m).at 0 (Rect.unit (s := S1) ![0] S1.size inb_S1_S1_0) numel1_S1 = 0#32 := by
    unfold Pipeline.Prefetch.Contents.at
    rw [h]
    rfl
  dsimp only
  rw [h2]
  rfl

/-- The block is inside the array. -/
theorem ok : Ok m := by
  intro i
  rw [rows]
  decide +kernel

end Cert.WgradOwn.Hand

namespace Cert.WgradOwnIdeal.Hand

open Cert.WgradOwnIdeal Cert.WgradOwnIdeal.Gen

section Table

variable {F : FTy → Type} [FloatOps F] (m : (ℓ : Loc nD τ sig) → Buf (Elt F) ℓ)

/-- The prefetched table holds the number of the half of the rows: 0. -/
theorem half : V m (0 : Dev nD) main_v0 = broadcastInDim S1 ![] bcast_S_S1 (constantI S_ 32 0#32) := by
  entry_read
  rfl

/-- So the block of rows that every point reads is that half. -/
theorem rows (i : grid0.Coords) : cc0_transform_0 inb_S1_S1_0 numel1_S1 (tbl m) i = ![0, 0] := by
  have h : tbl m 0 = broadcastInDim S1 ![] bcast_S_S1 (constantI S_ 32 0#32) := half m
  unfold cc0_transform_0
  have h2 : (tbl m).at 0 (Rect.unit (s := S1) ![0] S1.size inb_S1_S1_0) numel1_S1 = 0#32 := by
    unfold Pipeline.Prefetch.Contents.at
    rw [h]
    rfl
  dsimp only
  rw [h2]
  rfl

/-- The block is inside the array. -/
theorem ok : Ok m := by
  intro i
  rw [rows]
  decide +kernel

end Table

variable (m : (ℓ : Loc nD τ sig) → Buf (Elt Ideal) ℓ)

/-- The half of the gradient's rows, before it is cut into the shards of the four chips. -/
abbrev GRAD (x : FVec Ideal S4096x2048 .bf16) (dy : FVec Ideal S4096x10752 .bf16) : FVec Ideal Cert.WgradOwnRefIdeal.S1024x10752 .f32 :=
  extractStridedSlice Cert.WgradOwnRefIdeal.S1024x10752 ![0, 0] (transpose Cert.WgradOwnRefIdeal.S2048x10752 [1, 0] (Host.dotGeneral Cert.WgradOwnRefIdeal.dot_S4096x10752_S4096x2048_S10752x2048_0_0_1_1_n_n none (extf .f32 dy Cert.WgradOwnRefIdeal.Gen.bitsLt_bf16_f32) (extf .f32 x Cert.WgradOwnRefIdeal.Gen.bitsLt_bf16_f32)) Cert.WgradOwnRefIdeal.Gen.transposes_S10752x2048_S2048x10752_1_0) Cert.WgradOwnRefIdeal.Gen.slices_S2048x10752_S1024x10752_0_0

/-- Its four column blocks, one above another. -/
abbrev SHARDS (g : FVec Ideal Cert.WgradOwnRefIdeal.S1024x10752 .f32) : FVec Ideal Cert.WgradOwnRefIdeal.S4x1024x2688 .f32 :=
  concatenate Cert.WgradOwnRefIdeal.S4x1024x2688 0 [⟨Cert.WgradOwnRefIdeal.S1x1024x2688, broadcastInDim Cert.WgradOwnRefIdeal.S1x1024x2688 ![1, 2] Cert.WgradOwnRefIdeal.Gen.bcast_S1024x2688_S1x1024x2688_1_2 (extractStridedSlice Cert.WgradOwnRefIdeal.S1024x2688 ![0, 0] g Cert.WgradOwnRefIdeal.Gen.slices_S1024x10752_S1024x2688_0_0)⟩,
    ⟨Cert.WgradOwnRefIdeal.S1x1024x2688, broadcastInDim Cert.WgradOwnRefIdeal.S1x1024x2688 ![1, 2] Cert.WgradOwnRefIdeal.Gen.bcast_S1024x2688_S1x1024x2688_1_2 (extractStridedSlice Cert.WgradOwnRefIdeal.S1024x2688 ![0, 2688] g Cert.WgradOwnRefIdeal.Gen.slices_S1024x10752_S1024x2688_0_2688)⟩,
    ⟨Cert.WgradOwnRefIdeal.S1x1024x2688, broadcastInDim Cert.WgradOwnRefIdeal.S1x1024x2688 ![1, 2] Cert.WgradOwnRefIdeal.Gen.bcast_S1024x2688_S1x1024x2688_1_2 (extractStridedSlice Cert.WgradOwnRefIdeal.S1024x2688 ![0, 5376] g Cert.WgradOwnRefIdeal.Gen.slices_S1024x10752_S1024x2688_0_5376)⟩,
    ⟨Cert.WgradOwnRefIdeal.S1x1024x2688, broadcastInDim Cert.WgradOwnRefIdeal.S1x1024x2688 ![1, 2] Cert.WgradOwnRefIdeal.Gen.bcast_S1024x2688_S1x1024x2688_1_2 (extractStridedSlice Cert.WgradOwnRefIdeal.S1024x2688 ![0, 8064] g Cert.WgradOwnRefIdeal.Gen.slices_S1024x10752_S1024x2688_0_8064)⟩] Cert.WgradOwnRefIdeal.Gen.concatenates_S1x1024x2688_S1x1024x2688_S1x1024x2688_S1x1024x2688_S4x1024x2688_d0

/-- The reference's result as a term of the arguments. -/
abbrev REF (x : FVec Ideal S4096x2048 .bf16) (dy : FVec Ideal S4096x10752 .bf16) : FVec Ideal Cert.WgradOwnRefIdeal.S4x1024x2688 .bf16 :=
  truncf .bf16 (SHARDS (GRAD x dy)) Cert.WgradOwnRefIdeal.Gen.bitsLt_bf16_f32

/-- Shard `i 0` of the gradient, at row `i 1` and column `i 2`. -/
theorem shards (g : FVec Ideal Cert.WgradOwnRefIdeal.S1024x10752 .f32) (i) (j : Cert.WgradOwnRefIdeal.S1024x10752.Idx) (h0 : (j 0 : ℕ) = i 1)
    (h1 : (j 1 : ℕ) = 2688 * i 0 + i 2) : SHARDS g i = g j := by
  pointwise [SHARDS]
  blk_point []

/-- Which block each window has at point `t`. -/
theorem idx0 (hO : Ok m) (t : Fin (cfgM m hO).N) : ((cfgM m hO).win 0).index t = ![0, 0] := rows m (grid0.coords t)
theorem maps : ∀ t : Fin grid0.N, cc0_transform_1 (grid0.coords t) = ![0, t.val]
    ∧ cc0_transform_3 (grid0.coords t) = ![t.val / 3, 0, t.val % 3] := by decide +kernel
theorem idx1 (hO : Ok m) (t : Fin (cfgM m hO).N) : ((cfgM m hO).win 1).index t = ![0, t.val] := (maps t).1
theorem idx2 (hO : Ok m) (t : Fin (cfgM m hO).N) : ((cfgM m hO).win 2).index t = ![t.val / 3, 0, t.val % 3] := (maps t).2

/-- What point `t` stores at `y` is the gradient at row `y 1` of column block `t`. -/
theorem entry (hO : Ok m) (c : Dev nD) (t : Fin (cfgM m hO).N) (y : S1x1024x896.Idx) (j : Cert.WgradOwnRefIdeal.S1024x10752.Idx) (h0 : (j 0 : ℕ) = y 1)
    (h1 : (j 1 : ℕ) = 896 * t + y 2) : k0_pay1 (iblk m hO c 0 t) (iblk m hO c 1 t) y = GRAD (m ((c : Thread nD τ).loc main_arg0)) (m ((c : Thread nD τ).loc main_arg1)) j := by
  pointwise [k0_pay1, GRAD]
  refine (Finset.sum_congr rfl fun k _ => mul_comm _ _).trans ?_
  blk_point [iblk, V, idx0 m hO t, idx1 m hO t]

/-- So it is the reference's entry there. -/
theorem point (hO : Ok m) (c : Dev nD) (t : Fin (cfgM m hO).N) (y : S1x1024x896.Idx) : k0_pay1 (iblk m hO c 0 t) (iblk m hO c 1 t) y
    = REF (m ((c : Thread nD τ).loc main_arg0)) (m ((c : Thread nD τ).loc main_arg1)) ((((cfgM m hO).win 2).blk t).view.emb y) := by
  have ht : t.val < 12 := t.isLt
  idx_bounds
  refine (entry m hO c t y (ix2 ⟨y 1, by omega⟩ ⟨896 * t + y 2, by omega⟩) rfl rfl).trans (shards _ _ _ ?_ ?_).symm
  · blk_simp [idx2 m hO t]
  · blk_simp [idx2 m hO t]
    dsimp only
    omega

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by
  intro i
  rw [show cc0_transform_0 inb_S1_S1_0 numel1_S1 tab0 i = ![0, 0] from rfl]
  decide +kernel⟩

/-- The blocks written cover the result array. -/
theorem covers (hO : Ok m) : ((cfgM m hO).win 2).Covers :=
  (by decide +kernel : ((cfg0 adm0).win 2).Covers)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- What is written back at point `t` is the reference's block. -/
theorem written (hO : Ok m) (c : Dev nD) (t : Fin (cfgM m hO).N) (y : S1x1024x896.Idx) :
    (dats m hO 0 c).after 2 t y = REF (m ((c : Thread nD τ).loc main_arg0)) (m ((c : Thread nD τ).loc main_arg1)) ((((cfgM m hO).win 2).blk t).view.emb y) := by
  rw [after0_2, stored]
  exact point m hO c t y

/-- The result array is the reference's. -/
theorem final (hO : Ok m) (c : Dev nD) : (dats m hO 0 c).arrAt 2 (cfgM m hO).N = REF (m ((c : Thread nD τ).loc main_arg0)) (m ((c : Thread nD τ).loc main_arg1)) :=
  (dats m hO 0 c).arrAt_eq_of_covers 2 _ (covers m hO) fun t _ y => written m hO c t y

end Cert.WgradOwnIdeal.Hand

namespace Cert.Proof

theorem value_WgradOwn : Cert.algebraic_WgradOwnIdeal_WgradOwnRefIdeal := by
  pair_intro
  case refine_1 => exact fun c => Cert.WgradOwnIdeal.Hand.REF (m (c.tc.loc Cert.WgradOwnIdeal.main_arg0)) (m (c.tc.loc Cert.WgradOwnIdeal.main_arg1))
  · refine (θ_run _ _ _).mono (fun r h c => ?_)
      (θ_run_and (Cert.WgradOwnIdeal.Gen.unchanged m g (Cert.WgradOwnIdeal.Hand.ok m)) (Cert.WgradOwnIdeal.Gen.run_main m g (Cert.WgradOwnIdeal.Hand.ok m)))
    have e : r.2.mem (c.tc.loc Cert.WgradOwnIdeal.main_v1) = Cert.WgradOwnIdeal.Hand.REF (m (c.tc.loc Cert.WgradOwnIdeal.main_arg0)) (m (c.tc.loc Cert.WgradOwnIdeal.main_arg1)) :=
      ((h.2 c).1 2).trans (Cert.WgradOwnIdeal.Hand.final m (Cert.WgradOwnIdeal.Hand.ok m) c)
    exact ⟨e, h.1 c⟩
  · run_from Cert.WgradOwnRefIdeal.Value.run m' g'

theorem frame_WgradOwn : Cert.quiescent_WgradOwn := fun m ρ _ => Cert.WgradOwn.Gen.frame m ρ (Cert.WgradOwn.Hand.ok m)
theorem frame_WgradOwnIdeal : Cert.quiescent_WgradOwnIdeal := fun m ρ _ => Cert.WgradOwnIdeal.Gen.frame m ρ (Cert.WgradOwnIdeal.Hand.ok m)
theorem frame_WgradOwnRefIdeal : Cert.quiescent_WgradOwnRefIdeal := fun m ρ _ =>
  (θ_run Cert.WgradOwnRefIdeal.defs _ _).mono
    (fun r h => ⟨fun c => (h c).2, Idealize.ShloMosaic.sem_eq_zero_of_no_sems (by decide) r.2⟩)
    (Cert.WgradOwnRefIdeal.Value.run m ρ)

end Cert.Proof

end
-- ==== Proof.WgradSiblingValue.lean ====
/- The gradient of the input projection's weight, the other half of its rows. Which half is read from a prefetched
   table, whose entry the host part fixes. -/
module

public import proofs.«01_k».proof.Proof.Gen.WgradSiblingIdeal.Frame
public import proofs.«01_k».proof.Proof.Gen.WgradSibling.Frame
public import proofs.«01_k».proof.Proof.Gen.WgradSiblingRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradSibling.Hand

open Cert.WgradSibling Cert.WgradSibling.Gen

variable {F : FTy → Type} [FloatOps F] (m : (ℓ : Loc nD τ sig) → Buf (Elt F) ℓ)

/-- The prefetched table holds the number of the half of the rows: 1. -/
theorem half : V m (0 : Dev nD) main_v2 = subi (broadcastInDim S1 ![] bcast_S_S1 (constantI S_ 32 1#32)) (broadcastInDim S1 ![] bcast_S_S1 (constantI S_ 32 0#32)) := by
  entry_read
  rfl

/-- So the block of rows that every point reads is that half. -/
theorem rows (i : grid0.Coords) : cc0_transform_0 inb_S1_S1_0 numel1_S1 (tbl m) i = ![0, 1] := by
  have h : tbl m 0 = subi (broadcastInDim S1 ![] bcast_S_S1 (constantI S_ 32 1#32)) (broadcastInDim S1 ![] bcast_S_S1 (constantI S_ 32 0#32)) := half m
  unfold cc0_transform_0
  have h2 : (tbl m).at 0 (Rect.unit (s := S1) ![0] S1.size inb_S1_S1_0) numel1_S1 = 1#32 := by
    unfold Pipeline.Prefetch.Contents.at
    rw [h]
    rfl
  dsimp only
  rw [h2]
  rfl

/-- The block is inside the array. -/
theorem ok : Ok m := by
  intro i
  rw [rows]
  decide +kernel

end Cert.WgradSibling.Hand

namespace Cert.WgradSiblingIdeal.Hand

open Cert.WgradSiblingIdeal Cert.WgradSiblingIdeal.Gen

section Table

variable {F : FTy → Type} [FloatOps F] (m : (ℓ : Loc nD τ sig) → Buf (Elt F) ℓ)

/-- The prefetched table holds the number of the half of the rows: 1. -/
theorem half : V m (0 : Dev nD) main_v2 = subi (broadcastInDim S1 ![] bcast_S_S1 (constantI S_ 32 1#32)) (broadcastInDim S1 ![] bcast_S_S1 (constantI S_ 32 0#32)) := by
  entry_read
  rfl

/-- So the block of rows that every point reads is that half. -/
theorem rows (i : grid0.Coords) : cc0_transform_0 inb_S1_S1_0 numel1_S1 (tbl m) i = ![0, 1] := by
  have h : tbl m 0 = subi (broadcastInDim S1 ![] bcast_S_S1 (constantI S_ 32 1#32)) (broadcastInDim S1 ![] bcast_S_S1 (constantI S_ 32 0#32)) := half m
  unfold cc0_transform_0
  have h2 : (tbl m).at 0 (Rect.unit (s := S1) ![0] S1.size inb_S1_S1_0) numel1_S1 = 1#32 := by
    unfold Pipeline.Prefetch.Contents.at
    rw [h]
    rfl
  dsimp only
  rw [h2]
  rfl

/-- The block is inside the array. -/
theorem ok : Ok m := by
  intro i
  rw [rows]
  decide +kernel

end Table

variable (m : (ℓ : Loc nD τ sig) → Buf (Elt Ideal) ℓ)

/-- The half of the gradient's rows, before it is cut into the shards of the four chips. -/
abbrev GRAD (x : FVec Ideal S4096x2048 .bf16) (dy : FVec Ideal S4096x10752 .bf16) : FVec Ideal Cert.WgradSiblingRefIdeal.S1024x10752 .f32 :=
  extractStridedSlice Cert.WgradSiblingRefIdeal.S1024x10752 ![1024, 0] (transpose Cert.WgradSiblingRefIdeal.S2048x10752 [1, 0] (Host.dotGeneral Cert.WgradSiblingRefIdeal.dot_S4096x10752_S4096x2048_S10752x2048_0_0_1_1_n_n none (extf .f32 dy Cert.WgradSiblingRefIdeal.Gen.bitsLt_bf16_f32) (extf .f32 x Cert.WgradSiblingRefIdeal.Gen.bitsLt_bf16_f32)) Cert.WgradSiblingRefIdeal.Gen.transposes_S10752x2048_S2048x10752_1_0) Cert.WgradSiblingRefIdeal.Gen.slices_S2048x10752_S1024x10752_1024_0

/-- Its four column blocks, one above another. -/
abbrev SHARDS (g : FVec Ideal Cert.WgradSiblingRefIdeal.S1024x10752 .f32) : FVec Ideal Cert.WgradSiblingRefIdeal.S4x1024x2688 .f32 :=
  concatenate Cert.WgradSiblingRefIdeal.S4x1024x2688 0 [⟨Cert.WgradSiblingRefIdeal.S1x1024x2688, broadcastInDim Cert.WgradSiblingRefIdeal.S1x1024x2688 ![1, 2] Cert.WgradSiblingRefIdeal.Gen.bcast_S1024x2688_S1x1024x2688_1_2 (extractStridedSlice Cert.WgradSiblingRefIdeal.S1024x2688 ![0, 0] g Cert.WgradSiblingRefIdeal.Gen.slices_S1024x10752_S1024x2688_0_0)⟩,
    ⟨Cert.WgradSiblingRefIdeal.S1x1024x2688, broadcastInDim Cert.WgradSiblingRefIdeal.S1x1024x2688 ![1, 2] Cert.WgradSiblingRefIdeal.Gen.bcast_S1024x2688_S1x1024x2688_1_2 (extractStridedSlice Cert.WgradSiblingRefIdeal.S1024x2688 ![0, 2688] g Cert.WgradSiblingRefIdeal.Gen.slices_S1024x10752_S1024x2688_0_2688)⟩,
    ⟨Cert.WgradSiblingRefIdeal.S1x1024x2688, broadcastInDim Cert.WgradSiblingRefIdeal.S1x1024x2688 ![1, 2] Cert.WgradSiblingRefIdeal.Gen.bcast_S1024x2688_S1x1024x2688_1_2 (extractStridedSlice Cert.WgradSiblingRefIdeal.S1024x2688 ![0, 5376] g Cert.WgradSiblingRefIdeal.Gen.slices_S1024x10752_S1024x2688_0_5376)⟩,
    ⟨Cert.WgradSiblingRefIdeal.S1x1024x2688, broadcastInDim Cert.WgradSiblingRefIdeal.S1x1024x2688 ![1, 2] Cert.WgradSiblingRefIdeal.Gen.bcast_S1024x2688_S1x1024x2688_1_2 (extractStridedSlice Cert.WgradSiblingRefIdeal.S1024x2688 ![0, 8064] g Cert.WgradSiblingRefIdeal.Gen.slices_S1024x10752_S1024x2688_0_8064)⟩] Cert.WgradSiblingRefIdeal.Gen.concatenates_S1x1024x2688_S1x1024x2688_S1x1024x2688_S1x1024x2688_S4x1024x2688_d0

/-- The reference's result as a term of the arguments. -/
abbrev REF (x : FVec Ideal S4096x2048 .bf16) (dy : FVec Ideal S4096x10752 .bf16) : FVec Ideal Cert.WgradSiblingRefIdeal.S4x1024x2688 .bf16 :=
  truncf .bf16 (SHARDS (GRAD x dy)) Cert.WgradSiblingRefIdeal.Gen.bitsLt_bf16_f32

/-- Shard `i 0` of the gradient, at row `i 1` and column `i 2`. -/
theorem shards (g : FVec Ideal Cert.WgradSiblingRefIdeal.S1024x10752 .f32) (i) (j : Cert.WgradSiblingRefIdeal.S1024x10752.Idx) (h0 : (j 0 : ℕ) = i 1)
    (h1 : (j 1 : ℕ) = 2688 * i 0 + i 2) : SHARDS g i = g j := by
  pointwise [SHARDS]
  blk_point []

/-- Which block each window has at point `t`. -/
theorem idx0 (hO : Ok m) (t : Fin (cfgM m hO).N) : ((cfgM m hO).win 0).index t = ![0, 1] := rows m (grid0.coords t)
theorem maps : ∀ t : Fin grid0.N, cc0_transform_1 (grid0.coords t) = ![0, t.val]
    ∧ cc0_transform_2 (grid0.coords t) = ![t.val / 3, 0, t.val % 3] := by decide +kernel
theorem idx1 (hO : Ok m) (t : Fin (cfgM m hO).N) : ((cfgM m hO).win 1).index t = ![0, t.val] := (maps t).1
theorem idx2 (hO : Ok m) (t : Fin (cfgM m hO).N) : ((cfgM m hO).win 2).index t = ![t.val / 3, 0, t.val % 3] := (maps t).2

/-- What point `t` stores at `y` is the gradient at row `y 1` of column block `t`. -/
theorem entry (hO : Ok m) (c : Dev nD) (t : Fin (cfgM m hO).N) (y : S1x1024x896.Idx) (j : Cert.WgradSiblingRefIdeal.S1024x10752.Idx) (h0 : (j 0 : ℕ) = y 1)
    (h1 : (j 1 : ℕ) = 896 * t + y 2) : k0_pay1 (iblk m hO c 0 t) (iblk m hO c 1 t) y = GRAD (m ((c : Thread nD τ).loc main_arg0)) (m ((c : Thread nD τ).loc main_arg1)) j := by
  pointwise [k0_pay1, GRAD]
  refine (Finset.sum_congr rfl fun k _ => mul_comm _ _).trans ?_
  blk_point [iblk, V, idx0 m hO t, idx1 m hO t]

/-- So it is the reference's entry there. -/
theorem point (hO : Ok m) (c : Dev nD) (t : Fin (cfgM m hO).N) (y : S1x1024x896.Idx) : k0_pay1 (iblk m hO c 0 t) (iblk m hO c 1 t) y
    = REF (m ((c : Thread nD τ).loc main_arg0)) (m ((c : Thread nD τ).loc main_arg1)) ((((cfgM m hO).win 2).blk t).view.emb y) := by
  have ht : t.val < 12 := t.isLt
  idx_bounds
  refine (entry m hO c t y (ix2 ⟨y 1, by omega⟩ ⟨896 * t + y 2, by omega⟩) rfl rfl).trans (shards _ _ _ ?_ ?_).symm
  · blk_simp [idx2 m hO t]
  · blk_simp [idx2 m hO t]
    dsimp only
    omega

/-- The table's contents, written out. -/
abbrev tab0 : pre0.Contents (Elt Ideal) := fun
  | 0 => (constantI S1 32 1#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by
  intro i
  rw [show cc0_transform_0 inb_S1_S1_0 numel1_S1 tab0 i = ![0, 1] from rfl]
  decide +kernel⟩

/-- The blocks written cover the result array. -/
theorem covers (hO : Ok m) : ((cfgM m hO).win 2).Covers :=
  (by decide +kernel : ((cfg0 adm0).win 2).Covers)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- What is written back at point `t` is the reference's block. -/
theorem written (hO : Ok m) (c : Dev nD) (t : Fin (cfgM m hO).N) (y : S1x1024x896.Idx) :
    (dats m hO 0 c).after 2 t y = REF (m ((c : Thread nD τ).loc main_arg0)) (m ((c : Thread nD τ).loc main_arg1)) ((((cfgM m hO).win 2).blk t).view.emb y) := by
  rw [after0_2, stored]
  exact point m hO c t y

/-- The result array is the reference's. -/
theorem final (hO : Ok m) (c : Dev nD) : (dats m hO 0 c).arrAt 2 (cfgM m hO).N = REF (m ((c : Thread nD τ).loc main_arg0)) (m ((c : Thread nD τ).loc main_arg1)) :=
  (dats m hO 0 c).arrAt_eq_of_covers 2 _ (covers m hO) fun t _ y => written m hO c t y

end Cert.WgradSiblingIdeal.Hand

namespace Cert.Proof

theorem value_WgradSibling : Cert.algebraic_WgradSiblingIdeal_WgradSiblingRefIdeal := by
  pair_intro
  case refine_1 => exact fun c => Cert.WgradSiblingIdeal.Hand.REF (m (c.tc.loc Cert.WgradSiblingIdeal.main_arg0)) (m (c.tc.loc Cert.WgradSiblingIdeal.main_arg1))
  · refine (θ_run _ _ _).mono (fun r h c => ?_)
      (θ_run_and (Cert.WgradSiblingIdeal.Gen.unchanged m g (Cert.WgradSiblingIdeal.Hand.ok m)) (Cert.WgradSiblingIdeal.Gen.run_main m g (Cert.WgradSiblingIdeal.Hand.ok m)))
    have e : r.2.mem (c.tc.loc Cert.WgradSiblingIdeal.main_v3) = Cert.WgradSiblingIdeal.Hand.REF (m (c.tc.loc Cert.WgradSiblingIdeal.main_arg0)) (m (c.tc.loc Cert.WgradSiblingIdeal.main_arg1)) :=
      ((h.2 c).1 2).trans (Cert.WgradSiblingIdeal.Hand.final m (Cert.WgradSiblingIdeal.Hand.ok m) c)
    exact ⟨e, h.1 c⟩
  · run_from Cert.WgradSiblingRefIdeal.Value.run m' g'

theorem frame_WgradSibling : Cert.quiescent_WgradSibling := fun m ρ _ => Cert.WgradSibling.Gen.frame m ρ (Cert.WgradSibling.Hand.ok m)
theorem frame_WgradSiblingIdeal : Cert.quiescent_WgradSiblingIdeal := fun m ρ _ => Cert.WgradSiblingIdeal.Gen.frame m ρ (Cert.WgradSiblingIdeal.Hand.ok m)
theorem frame_WgradSiblingRefIdeal : Cert.quiescent_WgradSiblingRefIdeal := fun m ρ _ =>
  (θ_run Cert.WgradSiblingRefIdeal.defs _ _).mono
    (fun r h => ⟨fun c => (h c).2, Idealize.ShloMosaic.sem_eq_zero_of_no_sems (by decide) r.2⟩)
    (Cert.WgradSiblingRefIdeal.Value.run m ρ)

end Cert.Proof

end
-- ==== Proof.InDgradValue.lean ====
/- The gradient of the input projection in its input: three points of the grid add up one block, each the products of a
   third of the contracted columns, and the last of them writes the sum. -/
module

public import proofs.«01_k».proof.Proof.Gen.InDgradIdeal.Frame
public import proofs.«01_k».proof.Proof.Gen.InDgrad.Frame
public import proofs.«01_k».proof.Proof.Gen.InDgradRefIdeal
public import proofs.«01_k».proof.Defs
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InDgradIdeal.Hand

open Cert.InDgradIdeal Cert.InDgradIdeal.Gen

variable (m : (ℓ : Loc nD τ sig) → Buf (Elt Ideal) ℓ)

/-- The reference's result as a term of the arguments. -/
abbrev REF (dy : FVec Ideal S4096x10752 .bf16) (w : FVec Ideal S2048x10752 .f32) : FVec Ideal S4096x2048 .bf16 :=
  truncf .bf16 (Host.dotGeneral Cert.InDgradRefIdeal.dot_S4096x10752_S2048x10752_S4096x2048_1_1_0_0_n_n none
    (extf .f32 dy Cert.InDgradRefIdeal.Gen.bitsLt_bf16_f32) w) Cert.InDgradRefIdeal.Gen.bitsLt_bf16_f32

/-- Which block each window has at point `t`. -/
theorem idx : ∀ t : Fin cfg0.N, win0_0.index t = ![t.val / 6, t.val % 3] ∧ win0_1.index t = ![t.val / 3 % 2, t.val % 3]
    ∧ win0_2.index t = ![t.val / 6, t.val / 3 % 2] := (by decide +kernel : ∀ t : Fin grid0.N, _)

/-- A block is written back at the last of its three points only. -/
theorem last : ∀ t : Fin cfg0.N, (cfg0.win 2).flush t = true → t.val % 3 = 2 :=
  (by decide +kernel : ∀ t : Fin grid0.N, _)

/-- The point `k` before `t`. -/
abbrev back (t : Fin cfg0.N) (k : ℕ) : Fin cfg0.N := ⟨t.val - k, Nat.lt_of_le_of_lt (Nat.sub_le _ _) t.isLt⟩

/-- At the last of three points the block holds the three partial products' sum. -/
theorem stored (c : Dev nD) (t : Fin cfg0.N) (h : t.val % 3 = 2) : (outsAt0 m c t.val t.isLt).1
    = k0_pay4 (iblk m c 0 t) (iblk m c 1 t) (k0_pay3 (iblk m c 0 (back t 1)) (iblk m c 1 (back t 1))
        (k0_pay2 (iblk m c 0 (back t 2)) (iblk m c 1 (back t 2)))) := by
  have hA := outsAt0_A m c (back t 2) (by dsimp only; omega) (by dsimp only; omega) (by dsimp only; omega)
  have hB := outsAt0_B m c (back t 1) (by dsimp only; omega) (by dsimp only; omega) (by dsimp only; omega)
  rw [outsAt0_C m c t (by omega) (by omega) h]
  frame_out
  rw [hB]
  frame_out
  have e : (back t 1).val - 1 = (back t 2).val := by dsimp only; omega
  simp only [e]
  rw [hA]
  frame_out
  simp only [Memref.IsWhole.read_unread, read_unread_whole]

/-- The sum of the three partial products is the reference's entry. -/
theorem point (c : Dev nD) (t : Fin cfg0.N) (h : t.val % 3 = 2) (y) :
    k0_pay4 (iblk m c 0 t) (iblk m c 1 t) (k0_pay3 (iblk m c 0 (back t 1)) (iblk m c 1 (back t 1))
        (k0_pay2 (iblk m c 0 (back t 2)) (iblk m c 1 (back t 2)))) y
    = REF (m ((c : Thread nD τ).loc main_arg0)) (m ((c : Thread nD τ).loc main_arg1)) (((cfg0.win 2).blk t).view.emb y) := by
  pointwise [k0_pay1, k0_pay2, k0_pay3, k0_pay4, REF]
  refine Eq.trans ?_ (Fin.sum_mul_add_fin 3 3584 _)
  rw [Fin.sum_univ_three]
  blk_point [iblk, V, idx t, idx (back t 1), idx (back t 2)]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, stored m c t (last t hf)]
  exact point m c t (last t hf) y

end Cert.InDgradIdeal.Hand

namespace Cert.Proof

theorem value_InDgrad : Cert.algebraic_InDgradIdeal_InDgradRefIdeal := by
  pair_intro
  · run_from Cert.InDgradIdeal.Gen.run_main m g
  · hlo_run
    exact (Cert.InDgradIdeal.Hand.final m c).symm

theorem frame_InDgrad : Cert.quiescent_InDgrad := fun m ρ _ => Cert.InDgrad.Gen.frame m ρ
theorem frame_InDgradIdeal : Cert.quiescent_InDgradIdeal := fun m ρ _ => Cert.InDgradIdeal.Gen.frame m ρ
theorem frame_InDgradRefIdeal : Cert.quiescent_InDgradRefIdeal := by
  intro m g _
  hlo_run
  · simp
  · exact Idealize.ShloMosaic.sem_eq_zero_of_no_sems (by decide) _

end Cert.Proof

end
-- ==== Proof.OutWgradValue.lean ====
/- The gradient of the output projection's weight. -/
module

public import proofs.«01_k».proof.Proof.Gen.OutWgradIdeal.Frame
public import proofs.«01_k».proof.Proof.Gen.OutWgrad.Frame
public import proofs.«01_k».proof.Proof.Gen.OutWgradRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutWgradIdeal.Hand

open Cert.OutWgradIdeal Cert.OutWgradIdeal.Gen

variable (m : (ℓ : Loc nD τ sig) → Buf (Elt Ideal) ℓ)

/-- The reference's result as a term of the arguments. -/
abbrev REF (x : FVec Ideal S4096x2048 .bf16) (dy : FVec Ideal S4096x2048 .bf16) : FVec Ideal S2048x2048 .bf16 :=
  truncf .bf16 (transpose S2048x2048 [1, 0] (Host.dotGeneral Cert.OutWgradRefIdeal.dot_S4096x2048_S4096x2048_S2048x2048_0_0_1_1_n_n none (extf .f32 dy Cert.OutWgradRefIdeal.Gen.bitsLt_bf16_f32) (extf .f32 x Cert.OutWgradRefIdeal.Gen.bitsLt_bf16_f32)) Cert.OutWgradRefIdeal.Gen.transposes_S2048x2048_S2048x2048_1_0) Cert.OutWgradRefIdeal.Gen.bitsLt_bf16_f32

/-- Which block each window has at point `t`. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What point `t` stores at `y` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutWgradIdeal.Hand

namespace Cert.Proof

theorem value_OutWgrad : Cert.algebraic_OutWgradIdeal_OutWgradRefIdeal := by
  pair_intro
  · run_from Cert.OutWgradIdeal.Gen.run_main m g
  · hlo_run
    exact (Cert.OutWgradIdeal.Hand.final m c).symm

theorem frame_OutWgrad : Cert.quiescent_OutWgrad := fun m ρ _ => Cert.OutWgrad.Gen.frame m ρ
theorem frame_OutWgradIdeal : Cert.quiescent_OutWgradIdeal := fun m ρ _ => Cert.OutWgradIdeal.Gen.frame m ρ
theorem frame_OutWgradRefIdeal : Cert.quiescent_OutWgradRefIdeal := by
  intro m g _
  hlo_run
  · simp
  · exact Idealize.ShloMosaic.sem_eq_zero_of_no_sems (by decide) _

end Cert.Proof

end
-- ==== Proof.AttnWgradValue.lean ====
/- The gradient of the attention branch's projection in its weight. -/
module

public import proofs.«01_k».proof.Proof.Gen.AttnWgradIdeal.Frame
public import proofs.«01_k».proof.Proof.Gen.AttnWgrad.Frame
public import proofs.«01_k».proof.Proof.Gen.AttnWgradRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnWgradIdeal.Hand

open Cert.AttnWgradIdeal Cert.AttnWgradIdeal.Gen

variable (m : (ℓ : Loc nD τ sig) → Buf (Elt Ideal) ℓ)

/-- The whole gradient, before it is cut into the shards of the four chips. -/
abbrev GRAD (x : FVec Ideal S4096x1024 .bf16) (dy : FVec Ideal S4096x2048 .bf16) : FVec Ideal Cert.AttnWgradRefIdeal.S1024x2048 .f32 :=
  transpose Cert.AttnWgradRefIdeal.S1024x2048 [1, 0] (Host.dotGeneral Cert.AttnWgradRefIdeal.dot_S4096x2048_S4096x1024_S2048x1024_0_0_1_1_n_n none (extf .f32 dy Cert.AttnWgradRefIdeal.Gen.bitsLt_bf16_f32) (extf .f32 x Cert.AttnWgradRefIdeal.Gen.bitsLt_bf16_f32)) Cert.AttnWgradRefIdeal.Gen.transposes_S2048x1024_S1024x2048_1_0

/-- Its four column blocks, one above another. -/
abbrev SHARDS (g : FVec Ideal Cert.AttnWgradRefIdeal.S1024x2048 .f32) : FVec Ideal Cert.AttnWgradRefIdeal.S4x1024x512 .f32 :=
  concatenate Cert.AttnWgradRefIdeal.S4x1024x512 0 [⟨Cert.AttnWgradRefIdeal.S1x1024x512, broadcastInDim Cert.AttnWgradRefIdeal.S1x1024x512 ![1, 2] Cert.AttnWgradRefIdeal.Gen.bcast_S1024x512_S1x1024x512_1_2 (extractStridedSlice Cert.AttnWgradRefIdeal.S1024x512 ![0, 0] g Cert.AttnWgradRefIdeal.Gen.slices_S1024x2048_S1024x512_0_0)⟩,
    ⟨Cert.AttnWgradRefIdeal.S1x1024x512, broadcastInDim Cert.AttnWgradRefIdeal.S1x1024x512 ![1, 2] Cert.AttnWgradRefIdeal.Gen.bcast_S1024x512_S1x1024x512_1_2 (extractStridedSlice Cert.AttnWgradRefIdeal.S1024x512 ![0, 512] g Cert.AttnWgradRefIdeal.Gen.slices_S1024x2048_S1024x512_0_512)⟩,
    ⟨Cert.AttnWgradRefIdeal.S1x1024x512, broadcastInDim Cert.AttnWgradRefIdeal.S1x1024x512 ![1, 2] Cert.AttnWgradRefIdeal.Gen.bcast_S1024x512_S1x1024x512_1_2 (extractStridedSlice Cert.AttnWgradRefIdeal.S1024x512 ![0, 1024] g Cert.AttnWgradRefIdeal.Gen.slices_S1024x2048_S1024x512_0_1024)⟩,
    ⟨Cert.AttnWgradRefIdeal.S1x1024x512, broadcastInDim Cert.AttnWgradRefIdeal.S1x1024x512 ![1, 2] Cert.AttnWgradRefIdeal.Gen.bcast_S1024x512_S1x1024x512_1_2 (extractStridedSlice Cert.AttnWgradRefIdeal.S1024x512 ![0, 1536] g Cert.AttnWgradRefIdeal.Gen.slices_S1024x2048_S1024x512_0_1536)⟩] Cert.AttnWgradRefIdeal.Gen.concatenates_S1x1024x512_S1x1024x512_S1x1024x512_S1x1024x512_S4x1024x512_d0

/-- The reference's result as a term of the arguments. -/
abbrev REF (x : FVec Ideal S4096x1024 .bf16) (dy : FVec Ideal S4096x2048 .bf16) : FVec Ideal S4x1024x512 .bf16 :=
  truncf .bf16 (SHARDS (GRAD x dy)) Cert.AttnWgradRefIdeal.Gen.bitsLt_bf16_f32

/-- Shard `i 0` of the gradient, at row `i 1` and column `i 2`. -/
theorem shards (g : FVec Ideal Cert.AttnWgradRefIdeal.S1024x2048 .f32) (i) (j : Cert.AttnWgradRefIdeal.S1024x2048.Idx) (h0 : (j 0 : ℕ) = i 1)
    (h1 : (j 1 : ℕ) = 512 * i 0 + i 2) : SHARDS g i = g j := by
  pointwise [SHARDS]
  blk_point []

/-- Which block each window has at point `t`. -/
theorem idx : ∀ t : Fin cfg0.N, win0_0.index t = ![0, 0] ∧ win0_1.index t = ![0, t.val] ∧ win0_2.index t = ![t.val, 0, 0] :=
  (by decide +kernel : ∀ t : Fin grid0.N, _)

/-- What point `t` stores at `y` is the gradient at row `y 1` of column block `t`. -/
theorem entry (c : Dev nD) (t : Fin cfg0.N) (y : S1x1024x512.Idx) (j : Cert.AttnWgradRefIdeal.S1024x2048.Idx) (h0 : (j 0 : ℕ) = y 1)
    (h1 : (j 1 : ℕ) = 512 * t + y 2) : k0_pay1 (iblk m c 0 t) (iblk m c 1 t) y = GRAD (m ((c : Thread nD τ).loc main_arg0)) (m ((c : Thread nD τ).loc main_arg1)) j := by
  pointwise [k0_pay1, GRAD]
  refine (Finset.sum_congr rfl fun k _ => mul_comm _ _).trans ?_
  blk_point [iblk, V, idx t]

/-- So it is the reference's entry there. -/
theorem point (c : Dev nD) (t : Fin cfg0.N) (y : S1x1024x512.Idx) : k0_pay1 (iblk m c 0 t) (iblk m c 1 t) y
    = REF (m ((c : Thread nD τ).loc main_arg0)) (m ((c : Thread nD τ).loc main_arg1)) (((cfg0.win 2).blk t).view.emb y) := by
  idx_bounds
  refine (entry m c t y (ix2 ⟨y 1, by omega⟩ ⟨512 * t + y 2, by omega⟩) rfl rfl).trans (shards _ _ _ ?_ ?_).symm
  · blk_simp [idx t]
  · blk_simp [idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AttnWgradIdeal.Hand

namespace Cert.Proof

theorem value_AttnWgrad : Cert.algebraic_AttnWgradIdeal_AttnWgradRefIdeal := by
  pair_intro
  · run_from Cert.AttnWgradIdeal.Gen.run_main m g
  · run_from Cert.AttnWgradRefIdeal.Value.run m' g'
    exact (Cert.AttnWgradIdeal.Hand.final m c).symm

theorem frame_AttnWgrad : Cert.quiescent_AttnWgrad := fun m ρ _ => Cert.AttnWgrad.Gen.frame m ρ
theorem frame_AttnWgradIdeal : Cert.quiescent_AttnWgradIdeal := fun m ρ _ => Cert.AttnWgradIdeal.Gen.frame m ρ
theorem frame_AttnWgradRefIdeal : Cert.quiescent_AttnWgradRefIdeal := fun m ρ _ =>
  (θ_run Cert.AttnWgradRefIdeal.defs _ _).mono
    (fun r h => ⟨fun c => (h c).2, Idealize.ShloMosaic.sem_eq_zero_of_no_sems (by decide) r.2⟩)
    (Cert.AttnWgradRefIdeal.Value.run m ρ)

end Cert.Proof

end
-- ==== Proof.HgrnWgradValue.lean ====
/- The gradient of the recurrence branch's projection in its weight. -/
module

public import proofs.«01_k».proof.Proof.Gen.HgrnWgradIdeal.Frame
public import proofs.«01_k».proof.Proof.Gen.HgrnWgrad.Frame
public import proofs.«01_k».proof.Proof.Gen.HgrnWgradRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HgrnWgradIdeal.Hand

open Cert.HgrnWgradIdeal Cert.HgrnWgradIdeal.Gen

variable (m : (ℓ : Loc nD τ sig) → Buf (Elt Ideal) ℓ)

/-- The whole gradient, before it is cut into the shards of the four chips. -/
abbrev GRAD (x : FVec Ideal S4096x1024 .bf16) (dy : FVec Ideal S4096x2048 .bf16) : FVec Ideal Cert.HgrnWgradRefIdeal.S1024x2048 .f32 :=
  transpose Cert.HgrnWgradRefIdeal.S1024x2048 [1, 0] (Host.dotGeneral Cert.HgrnWgradRefIdeal.dot_S4096x2048_S4096x1024_S2048x1024_0_0_1_1_n_n none (extf .f32 dy Cert.HgrnWgradRefIdeal.Gen.bitsLt_bf16_f32) (extf .f32 x Cert.HgrnWgradRefIdeal.Gen.bitsLt_bf16_f32)) Cert.HgrnWgradRefIdeal.Gen.transposes_S2048x1024_S1024x2048_1_0

/-- Its four column blocks, one above another. -/
abbrev SHARDS (g : FVec Ideal Cert.HgrnWgradRefIdeal.S1024x2048 .f32) : FVec Ideal Cert.HgrnWgradRefIdeal.S4x1024x512 .f32 :=
  concatenate Cert.HgrnWgradRefIdeal.S4x1024x512 0 [⟨Cert.HgrnWgradRefIdeal.S1x1024x512, broadcastInDim Cert.HgrnWgradRefIdeal.S1x1024x512 ![1, 2] Cert.HgrnWgradRefIdeal.Gen.bcast_S1024x512_S1x1024x512_1_2 (extractStridedSlice Cert.HgrnWgradRefIdeal.S1024x512 ![0, 0] g Cert.HgrnWgradRefIdeal.Gen.slices_S1024x2048_S1024x512_0_0)⟩,
    ⟨Cert.HgrnWgradRefIdeal.S1x1024x512, broadcastInDim Cert.HgrnWgradRefIdeal.S1x1024x512 ![1, 2] Cert.HgrnWgradRefIdeal.Gen.bcast_S1024x512_S1x1024x512_1_2 (extractStridedSlice Cert.HgrnWgradRefIdeal.S1024x512 ![0, 512] g Cert.HgrnWgradRefIdeal.Gen.slices_S1024x2048_S1024x512_0_512)⟩,
    ⟨Cert.HgrnWgradRefIdeal.S1x1024x512, broadcastInDim Cert.HgrnWgradRefIdeal.S1x1024x512 ![1, 2] Cert.HgrnWgradRefIdeal.Gen.bcast_S1024x512_S1x1024x512_1_2 (extractStridedSlice Cert.HgrnWgradRefIdeal.S1024x512 ![0, 1024] g Cert.HgrnWgradRefIdeal.Gen.slices_S1024x2048_S1024x512_0_1024)⟩,
    ⟨Cert.HgrnWgradRefIdeal.S1x1024x512, broadcastInDim Cert.HgrnWgradRefIdeal.S1x1024x512 ![1, 2] Cert.HgrnWgradRefIdeal.Gen.bcast_S1024x512_S1x1024x512_1_2 (extractStridedSlice Cert.HgrnWgradRefIdeal.S1024x512 ![0, 1536] g Cert.HgrnWgradRefIdeal.Gen.slices_S1024x2048_S1024x512_0_1536)⟩] Cert.HgrnWgradRefIdeal.Gen.concatenates_S1x1024x512_S1x1024x512_S1x1024x512_S1x1024x512_S4x1024x512_d0

/-- The reference's result as a term of the arguments. -/
abbrev REF (x : FVec Ideal S4096x1024 .bf16) (dy : FVec Ideal S4096x2048 .bf16) : FVec Ideal S4x1024x512 .bf16 :=
  truncf .bf16 (SHARDS (GRAD x dy)) Cert.HgrnWgradRefIdeal.Gen.bitsLt_bf16_f32

/-- Shard `i 0` of the gradient, at row `i 1` and column `i 2`. -/
theorem shards (g : FVec Ideal Cert.HgrnWgradRefIdeal.S1024x2048 .f32) (i) (j : Cert.HgrnWgradRefIdeal.S1024x2048.Idx) (h0 : (j 0 : ℕ) = i 1)
    (h1 : (j 1 : ℕ) = 512 * i 0 + i 2) : SHARDS g i = g j := by
  pointwise [SHARDS]
  blk_point []

/-- Which block each window has at point `t`. -/
theorem idx : ∀ t : Fin cfg0.N, win0_0.index t = ![0, 0] ∧ win0_1.index t = ![0, t.val] ∧ win0_2.index t = ![t.val, 0, 0] :=
  (by decide +kernel : ∀ t : Fin grid0.N, _)

/-- What point `t` stores at `y` is the gradient at row `y 1` of column block `t`. -/
theorem entry (c : Dev nD) (t : Fin cfg0.N) (y : S1x1024x512.Idx) (j : Cert.HgrnWgradRefIdeal.S1024x2048.Idx) (h0 : (j 0 : ℕ) = y 1)
    (h1 : (j 1 : ℕ) = 512 * t + y 2) : k0_pay1 (iblk m c 0 t) (iblk m c 1 t) y = GRAD (m ((c : Thread nD τ).loc main_arg0)) (m ((c : Thread nD τ).loc main_arg1)) j := by
  pointwise [k0_pay1, GRAD]
  refine (Finset.sum_congr rfl fun k _ => mul_comm _ _).trans ?_
  blk_point [iblk, V, idx t]

/-- So it is the reference's entry there. -/
theorem point (c : Dev nD) (t : Fin cfg0.N) (y : S1x1024x512.Idx) : k0_pay1 (iblk m c 0 t) (iblk m c 1 t) y
    = REF (m ((c : Thread nD τ).loc main_arg0)) (m ((c : Thread nD τ).loc main_arg1)) (((cfg0.win 2).blk t).view.emb y) := by
  idx_bounds
  refine (entry m c t y (ix2 ⟨y 1, by omega⟩ ⟨512 * t + y 2, by omega⟩) rfl rfl).trans (shards _ _ _ ?_ ?_).symm
  · blk_simp [idx t]
  · blk_simp [idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.HgrnWgradIdeal.Hand

namespace Cert.Proof

theorem value_HgrnWgrad : Cert.algebraic_HgrnWgradIdeal_HgrnWgradRefIdeal := by
  pair_intro
  · run_from Cert.HgrnWgradIdeal.Gen.run_main m g
  · run_from Cert.HgrnWgradRefIdeal.Value.run m' g'
    exact (Cert.HgrnWgradIdeal.Hand.final m c).symm

theorem frame_HgrnWgrad : Cert.quiescent_HgrnWgrad := fun m ρ _ => Cert.HgrnWgrad.Gen.frame m ρ
theorem frame_HgrnWgradIdeal : Cert.quiescent_HgrnWgradIdeal := fun m ρ _ => Cert.HgrnWgradIdeal.Gen.frame m ρ
theorem frame_HgrnWgradRefIdeal : Cert.quiescent_HgrnWgradRefIdeal := fun m ρ _ =>
  (θ_run Cert.HgrnWgradRefIdeal.defs _ _).mono
    (fun r h => ⟨fun c => (h c).2, Idealize.ShloMosaic.sem_eq_zero_of_no_sems (by decide) r.2⟩)
    (Cert.HgrnWgradRefIdeal.Value.run m ρ)

end Cert.Proof

end
-- ==== Proof.AttnDgradValue.lean ====
/- The gradient of the attention branch's projection in its input. -/
module

public import proofs.«01_k».proof.Proof.Gen.AttnDgradIdeal.Frame
public import proofs.«01_k».proof.Proof.Gen.AttnDgrad.Frame
public import proofs.«01_k».proof.Proof.Gen.AttnDgradRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnDgradIdeal.Hand

open Cert.AttnDgradIdeal Cert.AttnDgradIdeal.Gen

variable (m : (ℓ : Loc nD τ sig) → Buf (Elt Ideal) ℓ)

/-- The reference's result as a term of the arguments. -/
abbrev REF (dy : FVec Ideal S4096x2048 .bf16) (w : FVec Ideal S1024x2048 .f32) : FVec Ideal S4096x1024 .bf16 :=
  truncf .bf16 (Host.dotGeneral Cert.AttnDgradRefIdeal.dot_S4096x2048_S1024x2048_S4096x1024_1_1_0_0_n_n none (extf .f32 dy Cert.AttnDgradRefIdeal.Gen.bitsLt_bf16_f32) w) Cert.AttnDgradRefIdeal.Gen.bitsLt_bf16_f32

/-- Which block each window has at point `t`. -/
theorem idx : ∀ t : Fin cfg0.N, win0_0.index t = ![t.val, 0] ∧ win0_1.index t = ![0, 0] ∧ win0_2.index t = ![t.val, 0] :=
  (by decide +kernel : ∀ t : Fin grid0.N, _)

/-- What point `t` stores at `y` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.AttnDgradIdeal.Hand

namespace Cert.Proof

theorem value_AttnDgrad : Cert.algebraic_AttnDgradIdeal_AttnDgradRefIdeal := by
  pair_intro
  · run_from Cert.AttnDgradIdeal.Gen.run_main m g
  · hlo_run
    exact (Cert.AttnDgradIdeal.Hand.final m c).symm

theorem frame_AttnDgrad : Cert.quiescent_AttnDgrad := fun m ρ _ => Cert.AttnDgrad.Gen.frame m ρ
theorem frame_AttnDgradIdeal : Cert.quiescent_AttnDgradIdeal := fun m ρ _ => Cert.AttnDgradIdeal.Gen.frame m ρ
theorem frame_AttnDgradRefIdeal : Cert.quiescent_AttnDgradRefIdeal := by
  intro m g _
  hlo_run
  · simp
  · exact Idealize.ShloMosaic.sem_eq_zero_of_no_sems (by decide) _

end Cert.Proof

end
-- ==== Proof.HgrnDgradValue.lean ====
/- The gradient of the recurrence branch's projection in its input. -/
module

public import proofs.«01_k».proof.Proof.Gen.HgrnDgradIdeal.Frame
public import proofs.«01_k».proof.Proof.Gen.HgrnDgrad.Frame
public import proofs.«01_k».proof.Proof.Gen.HgrnDgradRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HgrnDgradIdeal.Hand

open Cert.HgrnDgradIdeal Cert.HgrnDgradIdeal.Gen

variable (m : (ℓ : Loc nD τ sig) → Buf (Elt Ideal) ℓ)

/-- The reference's result as a term of the arguments. -/
abbrev REF (dy : FVec Ideal S4096x2048 .bf16) (w : FVec Ideal S1024x2048 .f32) : FVec Ideal S4096x1024 .bf16 :=
  truncf .bf16 (Host.dotGeneral Cert.HgrnDgradRefIdeal.dot_S4096x2048_S1024x2048_S4096x1024_1_1_0_0_n_n none (extf .f32 dy Cert.HgrnDgradRefIdeal.Gen.bitsLt_bf16_f32) w) Cert.HgrnDgradRefIdeal.Gen.bitsLt_bf16_f32

/-- Which block each window has at point `t`. -/
theorem idx : ∀ t : Fin cfg0.N, win0_0.index t = ![t.val, 0] ∧ win0_1.index t = ![0, 0] ∧ win0_2.index t = ![t.val, 0] :=
  (by decide +kernel : ∀ t : Fin grid0.N, _)

/-- What point `t` stores at `y` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.HgrnDgradIdeal.Hand

namespace Cert.Proof

theorem value_HgrnDgrad : Cert.algebraic_HgrnDgradIdeal_HgrnDgradRefIdeal := by
  pair_intro
  · run_from Cert.HgrnDgradIdeal.Gen.run_main m g
  · hlo_run
    exact (Cert.HgrnDgradIdeal.Hand.final m c).symm

theorem frame_HgrnDgrad : Cert.quiescent_HgrnDgrad := fun m ρ _ => Cert.HgrnDgrad.Gen.frame m ρ
theorem frame_HgrnDgradIdeal : Cert.quiescent_HgrnDgradIdeal := fun m ρ _ => Cert.HgrnDgradIdeal.Gen.frame m ρ
theorem frame_HgrnDgradRefIdeal : Cert.quiescent_HgrnDgradRefIdeal := by
  intro m g _
  hlo_run
  · simp
  · exact Idealize.ShloMosaic.sem_eq_zero_of_no_sems (by decide) _

end Cert.Proof

end
-- ==== Proof.InProjOwnValue.lean ====
/- The columns of the input projection that the chip computes with its own weights: they are written to a wide array, of which
   the host takes them. Which columns they are is read from a prefetched table, whose entry the host part fixes. -/
module

public import proofs.«01_k».proof.Proof.Gen.InProjOwnIdeal.Frame
public import proofs.«01_k».proof.Proof.Gen.InProjOwn.Frame
public import proofs.«01_k».proof.Proof.Gen.InProjOwnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjOwn.Hand

open Cert.InProjOwn Cert.InProjOwn.Gen

variable {F : FTy → Type} [FloatOps F] (m : (ℓ : Loc nD τ sig) → Buf (Elt F) ℓ)

/-- The prefetched table holds the chip's number: 0. -/
theorem number : V m (0 : Dev nD) main_v3 = constantI S1 32 0#32 := by
  entry_read
  funext i
  simp only [shapeCast, addi, subi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point reads that chip's weights, -/
theorem weights (i : grid0.Coords) : cc0_transform_1 inb_S1_S1_0 numel1_S1 (tbl m) i = ![0, 0] := by
  unfold cc0_transform_1
  dsimp only
  rw [word]
  revert i
  decide +kernel

/-- and writes that chip's columns. -/
theorem columns (i : grid0.Coords) : cc0_transform_3 inb_S1_S1_0 numel1_S1 (tbl m) i = ![(i 0 : ℕ), 0] := by
  unfold cc0_transform_3
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Cert.InProjOwn.Hand

namespace Cert.InProjOwnIdeal.Hand

open Cert.InProjOwnIdeal Cert.InProjOwnIdeal.Gen

section Table

variable {F : FTy → Type} [FloatOps F] (m : (ℓ : Loc nD τ sig) → Buf (Elt F) ℓ)

/-- The prefetched table holds the chip's number: 0. -/
theorem number : V m (0 : Dev nD) main_v3 = constantI S1 32 0#32 := by
  entry_read
  funext i
  simp only [shapeCast, addi, subi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point reads that chip's weights, -/
theorem weights (i : grid0.Coords) : cc0_transform_1 inb_S1_S1_0 numel1_S1 (tbl m) i = ![0, 0] := by
  unfold cc0_transform_1
  dsimp only
  rw [word]
  revert i
  decide +kernel

/-- and writes that chip's columns. -/
theorem columns (i : grid0.Coords) : cc0_transform_3 inb_S1_S1_0 numel1_S1 (tbl m) i = ![(i 0 : ℕ), 0] := by
  unfold cc0_transform_3
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Table

variable (m : (ℓ : Loc nD τ sig) → Buf (Elt Ideal) ℓ)

/-- The projection's columns of that chip. -/
abbrev MINE (h : FVec Ideal S4096x2048 .bf16) (w : FVec Ideal S2048x10752 .f32) : FVec Ideal Cert.InProjOwnRefIdeal.S4096x2688 .f32 :=
  Host.dotGeneral Cert.InProjOwnRefIdeal.dot_S4096x2048_S2048x2688_S4096x2688_1_0_0_1_n_n none (extf .f32 h Cert.InProjOwnRefIdeal.Gen.bitsLt_bf16_f32) (extractStridedSlice Cert.InProjOwnRefIdeal.S2048x2688 ![0, 0] w Cert.InProjOwnRefIdeal.Gen.slices_S2048x10752_S2048x2688_0_0)

/-- The projection's columns of this chip, among whatever the other columns hold. -/
def wide (h : FVec Ideal S4096x2048 .bf16) (w : FVec Ideal S2048x10752 .f32) (p : FVec Ideal S4096x10752 .f32) : FVec Ideal S4096x10752 .f32 :=
  fun i => if hi : (i 1 : ℕ) < 2688 then MINE h w (ix2 ⟨i 0, (i 0).isLt⟩ ⟨i 1, hi⟩) else p i

theorem wide_mine (h : FVec Ideal S4096x2048 .bf16) (w : FVec Ideal S2048x10752 .f32) (p : FVec Ideal S4096x10752 .f32) (i : S4096x10752.Idx)
    (j : Cert.InProjOwnRefIdeal.S4096x2688.Idx) (h0 : (i 0 : ℕ) = j 0) (h1 : (i 1 : ℕ) = j 1) : wide h w p i = MINE h w j := by
  have hj : (j 1 : ℕ) < 2688 := (j 1).isLt
  have e : (ix2 ⟨i 0, (i 0).isLt⟩ ⟨i 1, by omega⟩ : Cert.InProjOwnRefIdeal.S4096x2688.Idx) = j := by
    funext a
    match a with
    | 0 => exact Fin.ext h0
    | 1 => exact Fin.ext h1
  unfold wide
  rw [dif_pos (by omega), e]

theorem wide_kept (h : FVec Ideal S4096x2048 .bf16) (w : FVec Ideal S2048x10752 .f32) (p : FVec Ideal S4096x10752 .f32) (i : S4096x10752.Idx)
    (hi : (i 1 : ℕ) / 2688 ≠ 0) : wide h w p i = p i := by
  unfold wide
  exact dif_neg (by omega)

/-- Which block each window has at point `t`. -/
theorem maps : ∀ t : Fin grid0.N, cc0_transform_0 (grid0.coords t) = ![t.val, 0] := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![0, 0] := weights m (grid0.coords t)
theorem idx2 (hO : Ok m) (t : Fin (cfgM m hO).N) : ((cfgM m hO).win 2).index t = ![t.val, 0] :=
  (columns m (grid0.coords t)).trans (by
    have h : ∀ t : Fin grid0.N, (grid0.coords t 0 : ℕ) = t.val := by decide +kernel
    rw [h t])

/-- What point `t` stores at `y` is the projection in row `y 0` of row block `t`. -/
theorem entry (hO : Ok m) (c : Dev nD) (t : Fin (cfgM m hO).N) (y : S512x2688.Idx) (j : Cert.InProjOwnRefIdeal.S4096x2688.Idx) (h0 : (j 0 : ℕ) = 512 * t + y 0)
    (h1 : (j 1 : ℕ) = y 1) : k0_pay1 (iblk m hO c 0 t) (iblk m hO c 1 t) y = MINE (m ((c : Thread nD τ).loc main_arg0)) (m ((c : Thread nD τ).loc main_arg1)) j := by
  pointwise [k0_pay1, MINE]
  blk_point [iblk, V, idx0 m hO t, idx1 m hO t]

/-- So it is the projection's entry there. -/
theorem point (hO : Ok m) (c : Dev nD) (t : Fin (cfgM m hO).N) (y : S512x2688.Idx) : k0_pay1 (iblk m hO c 0 t) (iblk m hO c 1 t) y
    = wide (m ((c : Thread nD τ).loc main_arg0)) (m ((c : Thread nD τ).loc main_arg1)) (V m c main_v4) ((((cfgM m hO).win 2).blk t).view.emb y) := by
  have ht : t.val < 8 := t.isLt
  idx_bounds
  refine (entry m hO c t y (ix2 ⟨512 * t + y 0, by omega⟩ ⟨y 1, by omega⟩) rfl rfl).trans (wide_mine _ _ _ _ _ ?_ ?_).symm
  · blk_simp [idx2 m hO t]
    dsimp only
    omega
  · blk_simp [idx2 m hO t]

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 2).CoversWhere fun β => β (1 : Fin 2) = 0 := by
  subst e
  exact (by decide +kernel : ((cfg0 adm0).win 2).CoversWhere fun β => β (1 : Fin 2) = 0)

theorem covers (hO : Ok m) : ((cfgM m hO).win 2).CoversWhere fun β => β (1 : Fin 2) = 0 := covers_of (tbl m) hO (table m)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- The array the call writes has the projection in this chip's columns, and its earlier contents elsewhere. -/
theorem array (hO : Ok m) (c : Dev nD) : (dats m hO 0 c).arrAt 2 (cfgM m hO).N
    = wide (m ((c : Thread nD τ).loc main_arg0)) (m ((c : Thread nD τ).loc main_arg1)) (V m c main_v4) := by
  refine (dats m hO 0 c).arrAt_eq_of_coversWhere_of_agree 2 _ (fun β => β (1 : Fin 2) = 0) (covers m hO) (fun t _ y => ?_) (fun j hj => ?_)
  · rw [after0_2, stored]
    exact point m hO c t y
  · rw [A_eq]
    exact (wide_kept _ _ _ _ hj).symm

/-- The host's slice of it is the projection. -/
theorem final (hO : Ok m) (c : Dev nD) : Pipeline.afterTail pcfgs (fun _ => adm m hO) (dats m hO) 0 (V0 m) [hostOps1] c main_v5
    = MINE (m ((c : Thread nD τ).loc main_arg0)) (m ((c : Thread nD τ).loc main_arg1)) := by
  have e : Pipeline.withArrays ((Pipeline.pin pcfgs fun _ => adm m hO) 0).spec c (V0 m c) (fun w => (dats m hO 0 c).arrAt w (cfgM m hO).N) (Proc.devRef .tc main_v4)
      = wide (m ((c : Thread nD τ).loc main_arg0)) (m ((c : Thread nD τ).loc main_arg1)) (V m c main_v4) :=
    (Pipeline.withArrays_arr spec0 winFacts0.arr_inj c (V0 m c) _ 2).trans (array m hO c)
  unfold Pipeline.afterTail
  simp only [List.flatten_cons, List.flatten_nil, List.append_nil]
  after_results
  rw [e]
  funext j
  exact wide_mine _ _ _ _ _ (by simp) (by simp)

end Cert.InProjOwnIdeal.Hand

namespace Cert.Proof

theorem value_InProjOwn : Cert.algebraic_InProjOwnIdeal_InProjOwnRefIdeal := by
  pair_intro
  case refine_1 => exact fun c => Cert.InProjOwnIdeal.Hand.MINE (m (c.tc.loc Cert.InProjOwnIdeal.main_arg0)) (m (c.tc.loc Cert.InProjOwnIdeal.main_arg1))
  · refine (θ_run _ _ _).mono (fun r h c => ?_)
      (θ_run_and (Cert.InProjOwnIdeal.Gen.unchanged m g (Cert.InProjOwnIdeal.Hand.ok m)) (Cert.InProjOwnIdeal.Gen.run_main m g (Cert.InProjOwnIdeal.Hand.ok m)))
    have e : r.2.mem (c.tc.loc Cert.InProjOwnIdeal.main_v5) = Cert.InProjOwnIdeal.Hand.MINE (m (c.tc.loc Cert.InProjOwnIdeal.main_arg0)) (m (c.tc.loc Cert.InProjOwnIdeal.main_arg1)) :=
      ((h.2 c).2 Cert.InProjOwnIdeal.main_v5 (by decide : Cert.InProjOwnIdeal.main_v5 ∈ Pipeline.restRefs Cert.InProjOwnIdeal.sig Cert.InProjOwnIdeal.spec0)).trans (Cert.InProjOwnIdeal.Hand.final m (Cert.InProjOwnIdeal.Hand.ok m) c)
    exact ⟨e, h.1 c⟩
  · run_from Cert.InProjOwnRefIdeal.Value.run m' g'

theorem frame_InProjOwn : Cert.quiescent_InProjOwn := fun m ρ _ => Cert.InProjOwn.Gen.frame m ρ (Cert.InProjOwn.Hand.ok m)
theorem frame_InProjOwnIdeal : Cert.quiescent_InProjOwnIdeal := fun m ρ _ => Cert.InProjOwnIdeal.Gen.frame m ρ (Cert.InProjOwnIdeal.Hand.ok m)
theorem frame_InProjOwnRefIdeal : Cert.quiescent_InProjOwnRefIdeal := fun m ρ _ =>
  (θ_run Cert.InProjOwnRefIdeal.defs _ _).mono
    (fun r h => ⟨fun c => (h c).2, Idealize.ShloMosaic.sem_eq_zero_of_no_sems (by decide) r.2⟩)
    (Cert.InProjOwnRefIdeal.Value.run m ρ)

end Cert.Proof

end
-- ==== Proof.InProjPeer0Value.lean ====
/- The columns of the input projection that the chip computes with the weights of one neighbour: they are written among
   the columns that were there. Which columns they are is read from a prefetched table, whose entry the host part fixes. -/
module

public import proofs.«01_k».proof.Proof.Gen.InProjPeer0Ideal.Frame
public import proofs.«01_k».proof.Proof.Gen.InProjPeer0.Frame
public import proofs.«01_k».proof.Proof.Gen.InProjPeer0RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjPeer0.Hand

open Cert.InProjPeer0 Cert.InProjPeer0.Gen

variable {F : FTy → Type} [FloatOps F] (m : (ℓ : Loc nD τ sig) → Buf (Elt F) ℓ)

/-- The prefetched table holds the chip's number: 2. -/
theorem number : V m (0 : Dev nD) main_v4 = constantI S1 32 2#32 := by
  entry_read
  funext i
  simp only [shapeCast, addi, subi, muli, constantI]
  rfl

theorem word : (tbl m).at 0 (Rect.unit (s := S1) ![0] S1.size inb_S1_S1_0) numel1_S1 = 2#32 := by
  have h : tbl m 0 = constantI S1 32 2#32 := number m
  unfold Pipeline.Prefetch.Contents.at
  rw [h]
  rfl

/-- So every point reads that chip's weights, -/
theorem weights (i : grid0.Coords) : cc0_transform_1 inb_S1_S1_0 numel1_S1 (tbl m) i = ![0, 2] := by
  unfold cc0_transform_1
  dsimp only
  rw [word]
  revert i
  decide +kernel

/-- and writes that chip's columns. -/
theorem columns (i : grid0.Coords) : cc0_transform_4 inb_S1_S1_0 numel1_S1 (tbl m) i = ![(i 0 : ℕ), 2] := by
  unfold cc0_transform_4
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Cert.InProjPeer0.Hand

namespace Cert.InProjPeer0Ideal.Hand

open Cert.InProjPeer0Ideal Cert.InProjPeer0Ideal.Gen

section Table

variable {F : FTy → Type} [FloatOps F] (m : (ℓ : Loc nD τ sig) → Buf (Elt F) ℓ)

/-- The prefetched table holds the chip's number: 2. -/
theorem number : V m (0 : Dev nD) main_v4 = constantI S1 32 2#32 := by
  entry_read
  funext i
  simp only [shapeCast, addi, subi, muli, constantI]
  rfl

theorem word : (tbl m).at 0 (Rect.unit (s := S1) ![0] S1.size inb_S1_S1_0) numel1_S1 = 2#32 := by
  have h : tbl m 0 = constantI S1 32 2#32 := number m
  unfold Pipeline.Prefetch.Contents.at
  rw [h]
  rfl

/-- So every point reads that chip's weights, -/
theorem weights (i : grid0.Coords) : cc0_transform_1 inb_S1_S1_0 numel1_S1 (tbl m) i = ![0, 2] := by
  unfold cc0_transform_1
  dsimp only
  rw [word]
  revert i
  decide +kernel

/-- and writes that chip's columns. -/
theorem columns (i : grid0.Coords) : cc0_transform_4 inb_S1_S1_0 numel1_S1 (tbl m) i = ![(i 0 : ℕ), 2] := by
  unfold cc0_transform_4
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Table

variable (m : (ℓ : Loc nD τ sig) → Buf (Elt Ideal) ℓ)

/-- The projection's columns of that chip. -/
abbrev MINE (h : FVec Ideal S4096x2048 .bf16) (w : FVec Ideal S2048x10752 .f32) : FVec Ideal Cert.InProjPeer0RefIdeal.S4096x2688 .f32 :=
  Host.dotGeneral Cert.InProjPeer0RefIdeal.dot_S4096x2048_S2048x2688_S4096x2688_1_0_0_1_n_n none (extf .f32 h Cert.InProjPeer0RefIdeal.Gen.bitsLt_bf16_f32) (extractStridedSlice Cert.InProjPeer0RefIdeal.S2048x2688 ![0, 5376] w Cert.InProjPeer0RefIdeal.Gen.slices_S2048x10752_S2048x2688_0_5376)

/-- The reference's result as a term of the arguments. -/
abbrev REF (h : FVec Ideal S4096x2048 .bf16) (w : FVec Ideal S2048x10752 .f32) (p : FVec Ideal S4096x10752 .f32) : FVec Ideal S4096x10752 .f32 :=
  concatenate Cert.InProjPeer0RefIdeal.S4096x10752 1 [⟨Cert.InProjPeer0RefIdeal.S4096x2688, extractStridedSlice Cert.InProjPeer0RefIdeal.S4096x2688 ![0, 0] p Cert.InProjPeer0RefIdeal.Gen.slices_S4096x10752_S4096x2688_0_0⟩,
    ⟨Cert.InProjPeer0RefIdeal.S4096x2688, extractStridedSlice Cert.InProjPeer0RefIdeal.S4096x2688 ![0, 2688] p Cert.InProjPeer0RefIdeal.Gen.slices_S4096x10752_S4096x2688_0_2688⟩,
    ⟨Cert.InProjPeer0RefIdeal.S4096x2688, MINE h w⟩,
    ⟨Cert.InProjPeer0RefIdeal.S4096x2688, extractStridedSlice Cert.InProjPeer0RefIdeal.S4096x2688 ![0, 8064] p Cert.InProjPeer0RefIdeal.Gen.slices_S4096x10752_S4096x2688_0_8064⟩] Cert.InProjPeer0RefIdeal.Gen.concatenates_S4096x2688_S4096x2688_S4096x2688_S4096x2688_S4096x10752_d1

/-- Among that chip's columns the reference has the projection, -/
theorem ref_mine (h : FVec Ideal S4096x2048 .bf16) (w : FVec Ideal S2048x10752 .f32) (p : FVec Ideal S4096x10752 .f32) (i : S4096x10752.Idx)
    (j : Cert.InProjPeer0RefIdeal.S4096x2688.Idx) (h0 : (i 0 : ℕ) = j 0) (h1 : (i 1 : ℕ) = 5376 + j 1) : REF h w p i = MINE h w j := by
  idx_bounds
  pointwise [REF]
  blk_point []
  all_goals (exfalso; omega)

/-- and elsewhere the columns that were there. -/
theorem ref_kept (h : FVec Ideal S4096x2048 .bf16) (w : FVec Ideal S2048x10752 .f32) (p : FVec Ideal S4096x10752 .f32) (i : S4096x10752.Idx)
    (hi : (i 1 : ℕ) / 2688 ≠ 2) : REF h w p i = p i := by
  idx_bounds
  pointwise [REF]
  blk_point []
  all_goals (exfalso; omega)

/-- Which block each window has at point `t`. -/
theorem maps : ∀ t : Fin grid0.N, cc0_transform_0 (grid0.coords t) = ![t.val, 0] := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![0, 2] := weights m (grid0.coords t)
theorem idx2 (hO : Ok m) (t : Fin (cfgM m hO).N) : ((cfgM m hO).win 2).index t = ![t.val, 2] :=
  (columns m (grid0.coords t)).trans (by
    have h : ∀ t : Fin grid0.N, (grid0.coords t 0 : ℕ) = t.val := by decide +kernel
    rw [h t])

/-- What point `t` stores at `y` is the projection in row `y 0` of row block `t`. -/
theorem entry (hO : Ok m) (c : Dev nD) (t : Fin (cfgM m hO).N) (y : S512x2688.Idx) (j : Cert.InProjPeer0RefIdeal.S4096x2688.Idx) (h0 : (j 0 : ℕ) = 512 * t + y 0)
    (h1 : (j 1 : ℕ) = y 1) : k0_pay1 (iblk m hO c 0 t) (iblk m hO c 1 t) y = MINE (m ((c : Thread nD τ).loc main_arg0)) (m ((c : Thread nD τ).loc main_arg1)) j := by
  pointwise [k0_pay1, MINE]
  blk_point [iblk, V, idx0 m hO t, idx1 m hO t]

/-- So it is the reference's entry there. -/
theorem point (hO : Ok m) (c : Dev nD) (t : Fin (cfgM m hO).N) (y : S512x2688.Idx) : k0_pay1 (iblk m hO c 0 t) (iblk m hO c 1 t) y
    = REF (m ((c : Thread nD τ).loc main_arg0)) (m ((c : Thread nD τ).loc main_arg1)) (m ((c : Thread nD τ).loc main_arg2)) ((((cfgM m hO).win 2).blk t).view.emb y) := by
  have ht : t.val < 8 := t.isLt
  idx_bounds
  refine (entry m hO c t y (ix2 ⟨512 * t + y 0, by omega⟩ ⟨y 1, by omega⟩) rfl rfl).trans (ref_mine _ _ _ _ _ ?_ ?_).symm
  · blk_simp [idx2 m hO t]
    dsimp only
    omega
  · blk_simp [idx2 m hO t]

/-- The table's contents, written out. -/
abbrev tab0 : pre0.Contents (Elt Ideal) := fun
  | 0 => (constantI S1 32 2#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 2).CoversWhere fun β => β (1 : Fin 2) = 2 := by
  subst e
  exact (by decide +kernel : ((cfg0 adm0).win 2).CoversWhere fun β => β (1 : Fin 2) = 2)

theorem covers (hO : Ok m) : ((cfgM m hO).win 2).CoversWhere fun β => β (1 : Fin 2) = 2 := covers_of (tbl m) hO (table m)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- The buffer of the result holds the earlier columns when the region is entered. -/
theorem earlier (c : Dev nD) : V m c main_v5 = m ((c : Thread nD τ).loc main_arg2) := by
  entry_read
  rfl

/-- The result array is the reference's. -/
theorem final (hO : Ok m) (c : Dev nD) : (dats m hO 0 c).arrAt 2 (cfgM m hO).N
    = REF (m ((c : Thread nD τ).loc main_arg0)) (m ((c : Thread nD τ).loc main_arg1)) (m ((c : Thread nD τ).loc main_arg2)) := by
  refine (dats m hO 0 c).arrAt_eq_of_coversWhere_of_agree 2 _ (fun β => β (1 : Fin 2) = 2) (covers m hO) (fun t _ y => ?_) (fun j hj => ?_)
  · rw [after0_2, stored]
    exact point m hO c t y
  · rw [A_eq]
    exact (congrFun (earlier m c) _).trans (ref_kept _ _ _ _ hj).symm

end Cert.InProjPeer0Ideal.Hand

namespace Cert.Proof

theorem value_InProjPeer0 : Cert.algebraic_InProjPeer0Ideal_InProjPeer0RefIdeal := by
  pair_intro
  case refine_1 => exact fun c => Cert.InProjPeer0Ideal.Hand.REF (m (c.tc.loc Cert.InProjPeer0Ideal.main_arg0)) (m (c.tc.loc Cert.InProjPeer0Ideal.main_arg1)) (m (c.tc.loc Cert.InProjPeer0Ideal.main_arg2))
  · refine (θ_run _ _ _).mono (fun r h c => ?_)
      (θ_run_and (Cert.InProjPeer0Ideal.Gen.unchanged m g (Cert.InProjPeer0Ideal.Hand.ok m)) (Cert.InProjPeer0Ideal.Gen.run_main m g (Cert.InProjPeer0Ideal.Hand.ok m)))
    have e : r.2.mem (c.tc.loc Cert.InProjPeer0Ideal.main_v5) = Cert.InProjPeer0Ideal.Hand.REF (m (c.tc.loc Cert.InProjPeer0Ideal.main_arg0)) (m (c.tc.loc Cert.InProjPeer0Ideal.main_arg1)) (m (c.tc.loc Cert.InProjPeer0Ideal.main_arg2)) :=
      ((h.2 c).1 2).trans (Cert.InProjPeer0Ideal.Hand.final m (Cert.InProjPeer0Ideal.Hand.ok m) c)
    exact ⟨e, h.1 c⟩
  · run_from Cert.InProjPeer0RefIdeal.Value.run m' g'

theorem frame_InProjPeer0 : Cert.quiescent_InProjPeer0 := fun m ρ _ => Cert.InProjPeer0.Gen.frame m ρ (Cert.InProjPeer0.Hand.ok m)
theorem frame_InProjPeer0Ideal : Cert.quiescent_InProjPeer0Ideal := fun m ρ _ => Cert.InProjPeer0Ideal.Gen.frame m ρ (Cert.InProjPeer0Ideal.Hand.ok m)
theorem frame_InProjPeer0RefIdeal : Cert.quiescent_InProjPeer0RefIdeal := fun m ρ _ =>
  (θ_run Cert.InProjPeer0RefIdeal.defs _ _).mono
    (fun r h => ⟨fun c => (h c).2, Idealize.ShloMosaic.sem_eq_zero_of_no_sems (by decide) r.2⟩)
    (Cert.InProjPeer0RefIdeal.Value.run m ρ)

end Cert.Proof

end
-- ==== Proof.InProjPeer1Value.lean ====
/- The columns of the input projection that the chip computes with the weights of the other neighbour: they are written among
   the columns that were there. Which columns they are is read from a prefetched table, whose entry the host part fixes. -/
module

public import proofs.«01_k».proof.Proof.Gen.InProjPeer1Ideal.Frame
public import proofs.«01_k».proof.Proof.Gen.InProjPeer1.Frame
public import proofs.«01_k».proof.Proof.Gen.InProjPeer1RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjPeer1.Hand

open Cert.InProjPeer1 Cert.InProjPeer1.Gen

variable {F : FTy → Type} [FloatOps F] (m : (ℓ : Loc nD τ sig) → Buf (Elt F) ℓ)

/-- The prefetched table holds the chip's number: 1. -/
theorem number : V m (0 : Dev nD) main_v4 = constantI S1 32 1#32 := by
  entry_read
  funext i
  simp only [shapeCast, addi, subi, muli, constantI]
  rfl

theorem word : (tbl m).at 0 (Rect.unit (s := S1) ![0] S1.size inb_S1_S1_0) numel1_S1 = 1#32 := by
  have h : tbl m 0 = constantI S1 32 1#32 := number m
  unfold Pipeline.Prefetch.Contents.at
  rw [h]
  rfl

/-- So every point reads that chip's weights, -/
theorem weights (i : grid0.Coords) : cc0_transform_1 inb_S1_S1_0 numel1_S1 (tbl m) i = ![0, 1] := by
  unfold cc0_transform_1
  dsimp only
  rw [word]
  revert i
  decide +kernel

/-- and writes that chip's columns. -/
theorem columns (i : grid0.Coords) : cc0_transform_3 inb_S1_S1_0 numel1_S1 (tbl m) i = ![(i 0 : ℕ), 1] := by
  unfold cc0_transform_3
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Cert.InProjPeer1.Hand

namespace Cert.InProjPeer1Ideal.Hand

open Cert.InProjPeer1Ideal Cert.InProjPeer1Ideal.Gen

section Table

variable {F : FTy → Type} [FloatOps F] (m : (ℓ : Loc nD τ sig) → Buf (Elt F) ℓ)

/-- The prefetched table holds the chip's number: 1. -/
theorem number : V m (0 : Dev nD) main_v4 = constantI S1 32 1#32 := by
  entry_read
  funext i
  simp only [shapeCast, addi, subi, muli, constantI]
  rfl

theorem word : (tbl m).at 0 (Rect.unit (s := S1) ![0] S1.size inb_S1_S1_0) numel1_S1 = 1#32 := by
  have h : tbl m 0 = constantI S1 32 1#32 := number m
  unfold Pipeline.Prefetch.Contents.at
  rw [h]
  rfl

/-- So every point reads that chip's weights, -/
theorem weights (i : grid0.Coords) : cc0_transform_1 inb_S1_S1_0 numel1_S1 (tbl m) i = ![0, 1] := by
  unfold cc0_transform_1
  dsimp only
  rw [word]
  revert i
  decide +kernel

/-- and writes that chip's columns. -/
theorem columns (i : grid0.Coords) : cc0_transform_3 inb_S1_S1_0 numel1_S1 (tbl m) i = ![(i 0 : ℕ), 1] := by
  unfold cc0_transform_3
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Table

variable (m : (ℓ : Loc nD τ sig) → Buf (Elt Ideal) ℓ)

/-- The projection's columns of that chip. -/
abbrev MINE (h : FVec Ideal S4096x2048 .bf16) (w : FVec Ideal S2048x10752 .f32) : FVec Ideal Cert.InProjPeer1RefIdeal.S4096x2688 .f32 :=
  Host.dotGeneral Cert.InProjPeer1RefIdeal.dot_S4096x2048_S2048x2688_S4096x2688_1_0_0_1_n_n none (extf .f32 h Cert.InProjPeer1RefIdeal.Gen.bitsLt_bf16_f32) (extractStridedSlice Cert.InProjPeer1RefIdeal.S2048x2688 ![0, 2688] w Cert.InProjPeer1RefIdeal.Gen.slices_S2048x10752_S2048x2688_0_2688)

/-- The reference's result as a term of the arguments. -/
abbrev REF (h : FVec Ideal S4096x2048 .bf16) (w : FVec Ideal S2048x10752 .f32) (p : FVec Ideal S4096x10752 .f32) : FVec Ideal S4096x10752 .f32 :=
  concatenate Cert.InProjPeer1RefIdeal.S4096x10752 1 [⟨Cert.InProjPeer1RefIdeal.S4096x2688, extractStridedSlice Cert.InProjPeer1RefIdeal.S4096x2688 ![0, 0] p Cert.InProjPeer1RefIdeal.Gen.slices_S4096x10752_S4096x2688_0_0⟩,
    ⟨Cert.InProjPeer1RefIdeal.S4096x2688, MINE h w⟩,
    ⟨Cert.InProjPeer1RefIdeal.S4096x2688, extractStridedSlice Cert.InProjPeer1RefIdeal.S4096x2688 ![0, 5376] p Cert.InProjPeer1RefIdeal.Gen.slices_S4096x10752_S4096x2688_0_5376⟩,
    ⟨Cert.InProjPeer1RefIdeal.S4096x2688, extractStridedSlice Cert.InProjPeer1RefIdeal.S4096x2688 ![0, 8064] p Cert.InProjPeer1RefIdeal.Gen.slices_S4096x10752_S4096x2688_0_8064⟩] Cert.InProjPeer1RefIdeal.Gen.concatenates_S4096x2688_S4096x2688_S4096x2688_S4096x2688_S4096x10752_d1

/-- Among that chip's columns the reference has the projection, -/
theorem ref_mine (h : FVec Ideal S4096x2048 .bf16) (w : FVec Ideal S2048x10752 .f32) (p : FVec Ideal S4096x10752 .f32) (i : S4096x10752.Idx)
    (j : Cert.InProjPeer1RefIdeal.S4096x2688.Idx) (h0 : (i 0 : ℕ) = j 0) (h1 : (i 1 : ℕ) = 2688 + j 1) : REF h w p i = MINE h w j := by
  idx_bounds
  pointwise [REF]
  blk_point []
  all_goals (exfalso; omega)

/-- and elsewhere the columns that were there. -/
theorem ref_kept (h : FVec Ideal S4096x2048 .bf16) (w : FVec Ideal S2048x10752 .f32) (p : FVec Ideal S4096x10752 .f32) (i : S4096x10752.Idx)
    (hi : (i 1 : ℕ) / 2688 ≠ 1) : REF h w p i = p i := by
  idx_bounds
  pointwise [REF]
  blk_point []
  all_goals (exfalso; omega)

/-- Which block each window has at point `t`. -/
theorem maps : ∀ t : Fin grid0.N, cc0_transform_0 (grid0.coords t) = ![t.val, 0] := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![0, 1] := weights m (grid0.coords t)
theorem idx2 (hO : Ok m) (t : Fin (cfgM m hO).N) : ((cfgM m hO).win 2).index t = ![t.val, 1] :=
  (columns m (grid0.coords t)).trans (by
    have h : ∀ t : Fin grid0.N, (grid0.coords t 0 : ℕ) = t.val := by decide +kernel
    rw [h t])

/-- What point `t` stores at `y` is the projection in row `y 0` of row block `t`. -/
theorem entry (hO : Ok m) (c : Dev nD) (t : Fin (cfgM m hO).N) (y : S512x2688.Idx) (j : Cert.InProjPeer1RefIdeal.S4096x2688.Idx) (h0 : (j 0 : ℕ) = 512 * t + y 0)
    (h1 : (j 1 : ℕ) = y 1) : k0_pay1 (iblk m hO c 0 t) (iblk m hO c 1 t) y = MINE (m ((c : Thread nD τ).loc main_arg0)) (m ((c : Thread nD τ).loc main_arg1)) j := by
  pointwise [k0_pay1, MINE]
  blk_point [iblk, V, idx0 m hO t, idx1 m hO t]

/-- So it is the reference's entry there. -/
theorem point (hO : Ok m) (c : Dev nD) (t : Fin (cfgM m hO).N) (y : S512x2688.Idx) : k0_pay1 (iblk m hO c 0 t) (iblk m hO c 1 t) y
    = REF (m ((c : Thread nD τ).loc main_arg0)) (m ((c : Thread nD τ).loc main_arg1)) (m ((c : Thread nD τ).loc main_arg2)) ((((cfgM m hO).win 2).blk t).view.emb y) := by
  have ht : t.val < 8 := t.isLt
  idx_bounds
  refine (entry m hO c t y (ix2 ⟨512 * t + y 0, by omega⟩ ⟨y 1, by omega⟩) rfl rfl).trans (ref_mine _ _ _ _ _ ?_ ?_).symm
  · blk_simp [idx2 m hO t]
    dsimp only
    omega
  · blk_simp [idx2 m hO t]

/-- The table's contents, written out. -/
abbrev tab0 : pre0.Contents (Elt Ideal) := fun
  | 0 => (constantI S1 32 1#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 2).CoversWhere fun β => β (1 : Fin 2) = 1 := by
  subst e
  exact (by decide +kernel : ((cfg0 adm0).win 2).CoversWhere fun β => β (1 : Fin 2) = 1)

theorem covers (hO : Ok m) : ((cfgM m hO).win 2).CoversWhere fun β => β (1 : Fin 2) = 1 := covers_of (tbl m) hO (table m)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- The buffer of the result holds the earlier columns when the region is entered. -/
theorem earlier (c : Dev nD) : V m c main_v5 = m ((c : Thread nD τ).loc main_arg2) := by
  entry_read
  rfl

/-- The result array is the reference's. -/
theorem final (hO : Ok m) (c : Dev nD) : (dats m hO 0 c).arrAt 2 (cfgM m hO).N
    = REF (m ((c : Thread nD τ).loc main_arg0)) (m ((c : Thread nD τ).loc main_arg1)) (m ((c : Thread nD τ).loc main_arg2)) := by
  refine (dats m hO 0 c).arrAt_eq_of_coversWhere_of_agree 2 _ (fun β => β (1 : Fin 2) = 1) (covers m hO) (fun t _ y => ?_) (fun j hj => ?_)
  · rw [after0_2, stored]
    exact point m hO c t y
  · rw [A_eq]
    exact (congrFun (earlier m c) _).trans (ref_kept _ _ _ _ hj).symm

end Cert.InProjPeer1Ideal.Hand

namespace Cert.Proof

theorem value_InProjPeer1 : Cert.algebraic_InProjPeer1Ideal_InProjPeer1RefIdeal := by
  pair_intro
  case refine_1 => exact fun c => Cert.InProjPeer1Ideal.Hand.REF (m (c.tc.loc Cert.InProjPeer1Ideal.main_arg0)) (m (c.tc.loc Cert.InProjPeer1Ideal.main_arg1)) (m (c.tc.loc Cert.InProjPeer1Ideal.main_arg2))
  · refine (θ_run _ _ _).mono (fun r h c => ?_)
      (θ_run_and (Cert.InProjPeer1Ideal.Gen.unchanged m g (Cert.InProjPeer1Ideal.Hand.ok m)) (Cert.InProjPeer1Ideal.Gen.run_main m g (Cert.InProjPeer1Ideal.Hand.ok m)))
    have e : r.2.mem (c.tc.loc Cert.InProjPeer1Ideal.main_v5) = Cert.InProjPeer1Ideal.Hand.REF (m (c.tc.loc Cert.InProjPeer1Ideal.main_arg0)) (m (c.tc.loc Cert.InProjPeer1Ideal.main_arg1)) (m (c.tc.loc Cert.InProjPeer1Ideal.main_arg2)) :=
      ((h.2 c).1 2).trans (Cert.InProjPeer1Ideal.Hand.final m (Cert.InProjPeer1Ideal.Hand.ok m) c)
    exact ⟨e, h.1 c⟩
  · run_from Cert.InProjPeer1RefIdeal.Value.run m' g'
    exact congrArg (Cert.InProjPeer1Ideal.Hand.REF _ _) (hagree c).2.2

theorem frame_InProjPeer1 : Cert.quiescent_InProjPeer1 := fun m ρ _ => Cert.InProjPeer1.Gen.frame m ρ (Cert.InProjPeer1.Hand.ok m)
theorem frame_InProjPeer1Ideal : Cert.quiescent_InProjPeer1Ideal := fun m ρ _ => Cert.InProjPeer1Ideal.Gen.frame m ρ (Cert.InProjPeer1Ideal.Hand.ok m)
theorem frame_InProjPeer1RefIdeal : Cert.quiescent_InProjPeer1RefIdeal := fun m ρ _ =>
  (θ_run Cert.InProjPeer1RefIdeal.defs _ _).mono
    (fun r h => ⟨fun c => (h c).2, Idealize.ShloMosaic.sem_eq_zero_of_no_sems (by decide) r.2⟩)
    (Cert.InProjPeer1RefIdeal.Value.run m ρ)

end Cert.Proof

end
-- ==== Proof.InProjPeer2Value.lean ====
/- The columns of the input projection that the chip computes with the weights of the chip opposite: they are written among
   the columns that were there. Which columns they are is read from a prefetched table, whose entry the host part fixes. -/
module

public import proofs.«01_k».proof.Proof.Gen.InProjPeer2Ideal.Frame
public import proofs.«01_k».proof.Proof.Gen.InProjPeer2.Frame
public import proofs.«01_k».proof.Proof.Gen.InProjPeer2RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjPeer2.Hand

open Cert.InProjPeer2 Cert.InProjPeer2.Gen

variable {F : FTy → Type} [FloatOps F] (m : (ℓ : Loc nD τ sig) → Buf (Elt F) ℓ)

/-- The prefetched table holds the chip's number: 3. -/
theorem number : V m (0 : Dev nD) main_v5 = constantI S1 32 3#32 := by
  entry_read
  funext i
  simp only [shapeCast, addi, subi, muli, constantI]
  rfl

theorem word : (tbl m).at 0 (Rect.unit (s := S1) ![0] S1.size inb_S1_S1_0) numel1_S1 = 3#32 := by
  have h : tbl m 0 = constantI S1 32 3#32 := number m
  unfold Pipeline.Prefetch.Contents.at
  rw [h]
  rfl

/-- So every point reads that chip's weights, -/
theorem weights (i : grid0.Coords) : cc0_transform_1 inb_S1_S1_0 numel1_S1 (tbl m) i = ![0, 3] := by
  unfold cc0_transform_1
  dsimp only
  rw [word]
  revert i
  decide +kernel

/-- and writes that chip's columns. -/
theorem columns (i : grid0.Coords) : cc0_transform_4 inb_S1_S1_0 numel1_S1 (tbl m) i = ![(i 0 : ℕ), 3] := by
  unfold cc0_transform_4
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Cert.InProjPeer2.Hand

namespace Cert.InProjPeer2Ideal.Hand

open Cert.InProjPeer2Ideal Cert.InProjPeer2Ideal.Gen

section Table

variable {F : FTy → Type} [FloatOps F] (m : (ℓ : Loc nD τ sig) → Buf (Elt F) ℓ)

/-- The prefetched table holds the chip's number: 3. -/
theorem number : V m (0 : Dev nD) main_v5 = constantI S1 32 3#32 := by
  entry_read
  funext i
  simp only [shapeCast, addi, subi, muli, constantI]
  rfl

theorem word : (tbl m).at 0 (Rect.unit (s := S1) ![0] S1.size inb_S1_S1_0) numel1_S1 = 3#32 := by
  have h : tbl m 0 = constantI S1 32 3#32 := number m
  unfold Pipeline.Prefetch.Contents.at
  rw [h]
  rfl

/-- So every point reads that chip's weights, -/
theorem weights (i : grid0.Coords) : cc0_transform_1 inb_S1_S1_0 numel1_S1 (tbl m) i = ![0, 3] := by
  unfold cc0_transform_1
  dsimp only
  rw [word]
  revert i
  decide +kernel

/-- and writes that chip's columns. -/
theorem columns (i : grid0.Coords) : cc0_transform_4 inb_S1_S1_0 numel1_S1 (tbl m) i = ![(i 0 : ℕ), 3] := by
  unfold cc0_transform_4
  dsimp only
  rw [word]
  revert i
  decide +kernel

/-- The blocks are inside the arrays. -/
theorem ok : Ok m := by
  refine ⟨fun i => ?_, fun i => ?_⟩
  · rw [weights]
    decide +kernel
  · rw [columns]
    revert i
    decide +kernel

end Table

variable (m : (ℓ : Loc nD τ sig) → Buf (Elt Ideal) ℓ)

/-- The projection's columns of that chip. -/
abbrev MINE (h : FVec Ideal S4096x2048 .bf16) (w : FVec Ideal S2048x10752 .f32) : FVec Ideal Cert.InProjPeer2RefIdeal.S4096x2688 .f32 :=
  Host.dotGeneral Cert.InProjPeer2RefIdeal.dot_S4096x2048_S2048x2688_S4096x2688_1_0_0_1_n_n none (extf .f32 h Cert.InProjPeer2RefIdeal.Gen.bitsLt_bf16_f32) (extractStridedSlice Cert.InProjPeer2RefIdeal.S2048x2688 ![0, 8064] w Cert.InProjPeer2RefIdeal.Gen.slices_S2048x10752_S2048x2688_0_8064)

/-- The reference's result as a term of the arguments. -/
abbrev REF (h : FVec Ideal S4096x2048 .bf16) (w : FVec Ideal S2048x10752 .f32) (p : FVec Ideal S4096x10752 .f32) : FVec Ideal S4096x10752 .f32 :=
  concatenate Cert.InProjPeer2RefIdeal.S4096x10752 1 [⟨Cert.InProjPeer2RefIdeal.S4096x2688, extractStridedSlice Cert.InProjPeer2RefIdeal.S4096x2688 ![0, 0] p Cert.InProjPeer2RefIdeal.Gen.slices_S4096x10752_S4096x2688_0_0⟩,
    ⟨Cert.InProjPeer2RefIdeal.S4096x2688, extractStridedSlice Cert.InProjPeer2RefIdeal.S4096x2688 ![0, 2688] p Cert.InProjPeer2RefIdeal.Gen.slices_S4096x10752_S4096x2688_0_2688⟩,
    ⟨Cert.InProjPeer2RefIdeal.S4096x2688, extractStridedSlice Cert.InProjPeer2RefIdeal.S4096x2688 ![0, 5376] p Cert.InProjPeer2RefIdeal.Gen.slices_S4096x10752_S4096x2688_0_5376⟩,
    ⟨Cert.InProjPeer2RefIdeal.S4096x2688, MINE h w⟩] Cert.InProjPeer2RefIdeal.Gen.concatenates_S4096x2688_S4096x2688_S4096x2688_S4096x2688_S4096x10752_d1

/-- Among that chip's columns the reference has the projection, -/
theorem ref_mine (h : FVec Ideal S4096x2048 .bf16) (w : FVec Ideal S2048x10752 .f32) (p : FVec Ideal S4096x10752 .f32) (i : S4096x10752.Idx)
    (j : Cert.InProjPeer2RefIdeal.S4096x2688.Idx) (h0 : (i 0 : ℕ) = j 0) (h1 : (i 1 : ℕ) = 8064 + j 1) : REF h w p i = MINE h w j := by
  idx_bounds
  pointwise [REF]
  blk_point []
  all_goals (exfalso; omega)

/-- and elsewhere the columns that were there. -/
theorem ref_kept (h : FVec Ideal S4096x2048 .bf16) (w : FVec Ideal S2048x10752 .f32) (p : FVec Ideal S4096x10752 .f32) (i : S4096x10752.Idx)
    (hi : (i 1 : ℕ) / 2688 ≠ 3) : REF h w p i = p i := by
  idx_bounds
  pointwise [REF]
  blk_point []
  all_goals (exfalso; omega)

/-- Which block each window has at point `t`. -/
theorem maps : ∀ t : Fin grid0.N, cc0_transform_0 (grid0.coords t) = ![t.val, 0] := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![0, 3] := weights m (grid0.coords t)
theorem idx2 (hO : Ok m) (t : Fin (cfgM m hO).N) : ((cfgM m hO).win 2).index t = ![t.val, 3] :=
  (columns m (grid0.coords t)).trans (by
    have h : ∀ t : Fin grid0.N, (grid0.coords t 0 : ℕ) = t.val := by decide +kernel
    rw [h t])

/-- What point `t` stores at `y` is the projection in row `y 0` of row block `t`. -/
theorem entry (hO : Ok m) (c : Dev nD) (t : Fin (cfgM m hO).N) (y : S512x2688.Idx) (j : Cert.InProjPeer2RefIdeal.S4096x2688.Idx) (h0 : (j 0 : ℕ) = 512 * t + y 0)
    (h1 : (j 1 : ℕ) = y 1) : k0_pay1 (iblk m hO c 0 t) (iblk m hO c 1 t) y = MINE (m ((c : Thread nD τ).loc main_arg0)) (m ((c : Thread nD τ).loc main_arg1)) j := by
  pointwise [k0_pay1, MINE]
  blk_point [iblk, V, idx0 m hO t, idx1 m hO t]

/-- So it is the reference's entry there. -/
theorem point (hO : Ok m) (c : Dev nD) (t : Fin (cfgM m hO).N) (y : S512x2688.Idx) : k0_pay1 (iblk m hO c 0 t) (iblk m hO c 1 t) y
    = REF (m ((c : Thread nD τ).loc main_arg0)) (m ((c : Thread nD τ).loc main_arg1)) (m ((c : Thread nD τ).loc main_arg2)) ((((cfgM m hO).win 2).blk t).view.emb y) := by
  have ht : t.val < 8 := t.isLt
  idx_bounds
  refine (entry m hO c t y (ix2 ⟨512 * t + y 0, by omega⟩ ⟨y 1, by omega⟩) rfl rfl).trans (ref_mine _ _ _ _ _ ?_ ?_).symm
  · blk_simp [idx2 m hO t]
    dsimp only
    omega
  · blk_simp [idx2 m hO t]

/-- The table's contents, written out. -/
abbrev tab0 : pre0.Contents (Elt Ideal) := fun
  | 0 => (constantI S1 32 3#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 2).CoversWhere fun β => β (1 : Fin 2) = 3 := by
  subst e
  exact (by decide +kernel : ((cfg0 adm0).win 2).CoversWhere fun β => β (1 : Fin 2) = 3)

theorem covers (hO : Ok m) : ((cfgM m hO).win 2).CoversWhere fun β => β (1 : Fin 2) = 3 := covers_of (tbl m) hO (table m)

/-- What point `t` stores, of the blocks it reads. -/
theorem stored (hO : Ok m) (c : Dev nD) (t : Fin (cfgM m hO).N) :
    outsAt0 m hO c t = k0_pay1 (iblk m hO c 0 t) (iblk m hO c 1 t) := by
  unfold outsAt0
  frame_out
  exact congrArg₂ k0_pay1 ((hs0_0 m hO t).read_unread _) ((hs0_1 m hO t).read_unread _)

/-- The buffer of the result holds the earlier columns when the region is entered. -/
theorem earlier (c : Dev nD) : V m c main_v6 = m ((c : Thread nD τ).loc main_arg2) := by
  entry_read
  rfl

/-- The result array is the reference's. -/
theorem final (hO : Ok m) (c : Dev nD) : (dats m hO 0 c).arrAt 2 (cfgM m hO).N
    = REF (m ((c : Thread nD τ).loc main_arg0)) (m ((c : Thread nD τ).loc main_arg1)) (m ((c : Thread nD τ).loc main_arg2)) := by
  refine (dats m hO 0 c).arrAt_eq_of_coversWhere_of_agree 2 _ (fun β => β (1 : Fin 2) = 3) (covers m hO) (fun t _ y => ?_) (fun j hj => ?_)
  · rw [after0_2, stored]
    exact point m hO c t y
  · rw [A_eq]
    exact (congrFun (earlier m c) _).trans (ref_kept _ _ _ _ hj).symm

end Cert.InProjPeer2Ideal.Hand

namespace Cert.Proof

theorem value_InProjPeer2 : Cert.algebraic_InProjPeer2Ideal_InProjPeer2RefIdeal := by
  pair_intro
  case refine_1 => exact fun c => Cert.InProjPeer2Ideal.Hand.REF (m (c.tc.loc Cert.InProjPeer2Ideal.main_arg0)) (m (c.tc.loc Cert.InProjPeer2Ideal.main_arg1)) (m (c.tc.loc Cert.InProjPeer2Ideal.main_arg2))
  · refine (θ_run _ _ _).mono (fun r h c => ?_)
      (θ_run_and (Cert.InProjPeer2Ideal.Gen.unchanged m g (Cert.InProjPeer2Ideal.Hand.ok m)) (Cert.InProjPeer2Ideal.Gen.run_main m g (Cert.InProjPeer2Ideal.Hand.ok m)))
    have e : r.2.mem (c.tc.loc Cert.InProjPeer2Ideal.main_v6) = Cert.InProjPeer2Ideal.Hand.REF (m (c.tc.loc Cert.InProjPeer2Ideal.main_arg0)) (m (c.tc.loc Cert.InProjPeer2Ideal.main_arg1)) (m (c.tc.loc Cert.InProjPeer2Ideal.main_arg2)) :=
      ((h.2 c).1 2).trans (Cert.InProjPeer2Ideal.Hand.final m (Cert.InProjPeer2Ideal.Hand.ok m) c)
    exact ⟨e, h.1 c⟩
  · run_from Cert.InProjPeer2RefIdeal.Value.run m' g'

theorem frame_InProjPeer2 : Cert.quiescent_InProjPeer2 := fun m ρ _ => Cert.InProjPeer2.Gen.frame m ρ (Cert.InProjPeer2.Hand.ok m)
theorem frame_InProjPeer2Ideal : Cert.quiescent_InProjPeer2Ideal := fun m ρ _ => Cert.InProjPeer2Ideal.Gen.frame m ρ (Cert.InProjPeer2Ideal.Hand.ok m)
theorem frame_InProjPeer2RefIdeal : Cert.quiescent_InProjPeer2RefIdeal := fun m ρ _ =>
  (θ_run Cert.InProjPeer2RefIdeal.defs _ _).mono
    (fun r h => ⟨fun c => (h c).2, Idealize.ShloMosaic.sem_eq_zero_of_no_sems (by decide) r.2⟩)
    (Cert.InProjPeer2RefIdeal.Value.run m ρ)

end Cert.Proof

end
-- ==== Proof.OutProjValue.lean ====
/- The output projection: each block of the product is that block of the reference's product. -/
module

public import proofs.«01_k».proof.Proof.Gen.OutProjIdeal.Frame
public import proofs.«01_k».proof.Proof.Gen.OutProj.Frame
public import proofs.«01_k».proof.Proof.Gen.OutProjRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Hand

open Cert.OutProjIdeal Cert.OutProjIdeal.Gen

variable (m : (ℓ : Loc nD τ sig) → Buf (Elt Ideal) ℓ)

/-- The reference's result as a term of the arguments. -/
abbrev REF (x : FVec Ideal S4096x2048 .bf16) (w : FVec Ideal S2048x2048 .f32) : FVec Ideal S4096x2048 .bf16 :=
  truncf .bf16 (Host.dotGeneral Cert.OutProjRefIdeal.dot_S4096x2048_S2048x2048_S4096x2048_1_0_0_1_n_n none (extf .f32 x Cert.OutProjRefIdeal.Gen.bitsLt_bf16_f32) w) Cert.OutProjRefIdeal.Gen.bitsLt_bf16_f32

/-- Which block each window has at point `t`. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What point `t` stores at `y` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjIdeal.Hand

namespace Cert.Proof

theorem value_OutProj : Cert.algebraic_OutProjIdeal_OutProjRefIdeal := by
  pair_intro
  · run_from Cert.OutProjIdeal.Gen.run_main m g
  · hlo_run
    exact (Cert.OutProjIdeal.Hand.final m c).symm

theorem frame_OutProj : Cert.quiescent_OutProj := fun m ρ _ => Cert.OutProj.Gen.frame m ρ
theorem frame_OutProjIdeal : Cert.quiescent_OutProjIdeal := fun m ρ _ => Cert.OutProjIdeal.Gen.frame m ρ
theorem frame_OutProjRefIdeal : Cert.quiescent_OutProjRefIdeal := by
  intro m g _
  hlo_run
  · simp
  · exact Idealize.ShloMosaic.sem_eq_zero_of_no_sems (by decide) _

end Cert.Proof

end
-- ==== Proof.AttnProjValue.lean ====
/- The projection of the attention branch: each block of the product is that block of the reference's product. -/
module

public import proofs.«01_k».proof.Proof.Gen.AttnProjIdeal.Frame
public import proofs.«01_k».proof.Proof.Gen.AttnProj.Frame
public import proofs.«01_k».proof.Proof.Gen.AttnProjRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnProjIdeal.Hand

open Cert.AttnProjIdeal Cert.AttnProjIdeal.Gen

variable (m : (ℓ : Loc nD τ sig) → Buf (Elt Ideal) ℓ)

/-- The reference's result as a term of the arguments. -/
abbrev REF (x : FVec Ideal S4096x1024 .bf16) (w : FVec Ideal S1024x2048 .f32) : FVec Ideal S4096x2048 .bf16 :=
  truncf .bf16 (Host.dotGeneral Cert.AttnProjRefIdeal.dot_S4096x1024_S1024x2048_S4096x2048_1_0_0_1_n_n none (extf .f32 x Cert.AttnProjRefIdeal.Gen.bitsLt_bf16_f32) w) Cert.AttnProjRefIdeal.Gen.bitsLt_bf16_f32

/-- Which block each window has at point `t`. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What point `t` stores at `y` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AttnProjIdeal.Hand

namespace Cert.Proof

theorem value_AttnProj : Cert.algebraic_AttnProjIdeal_AttnProjRefIdeal := by
  pair_intro
  · run_from Cert.AttnProjIdeal.Gen.run_main m g
  · hlo_run
    exact (Cert.AttnProjIdeal.Hand.final m c).symm

theorem frame_AttnProj : Cert.quiescent_AttnProj := fun m ρ _ => Cert.AttnProj.Gen.frame m ρ
theorem frame_AttnProjIdeal : Cert.quiescent_AttnProjIdeal := fun m ρ _ => Cert.AttnProjIdeal.Gen.frame m ρ
theorem frame_AttnProjRefIdeal : Cert.quiescent_AttnProjRefIdeal := by
  intro m g _
  hlo_run
  · simp
  · exact Idealize.ShloMosaic.sem_eq_zero_of_no_sems (by decide) _

end Cert.Proof

end
-- ==== Proof.MergeFwdValue.lean ====
/- The projection of the recurrence branch with the two gated branches added: both results of the call. -/
module

public import proofs.«01_k».proof.Proof.Gen.MergeFwdIdeal.Frame
public import proofs.«01_k».proof.Proof.Gen.MergeFwd.Frame
public import proofs.«01_k».proof.Proof.Gen.MergeFwdRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeFwdIdeal.Hand

open Cert.MergeFwdIdeal Cert.MergeFwdIdeal.Gen

variable (m : (ℓ : Loc nD τ sig) → Buf (Elt Ideal) ℓ)

/-- The reference's projected branch. -/
abbrev PROJ (yh : FVec Ideal S4096x1024 .bf16) (w : FVec Ideal S1024x2048 .f32) : FVec Ideal S4096x2048 .f32 :=
  Host.dotGeneral Cert.MergeFwdRefIdeal.dot_S4096x1024_S1024x2048_S4096x2048_1_0_0_1_n_n none (extf .f32 yh Cert.MergeFwdRefIdeal.Gen.bitsLt_bf16_f32) w

/-- The reference's gated sum of the two branches. -/
abbrev MERGED (yh : FVec Ideal S4096x1024 .bf16) (w : FVec Ideal S1024x2048 .f32) (gates : FVec Ideal S4096x10752 .f32)
    (ua : FVec Ideal S4096x2048 .bf16) : FVec Ideal S4096x2048 .bf16 :=
  truncf .bf16 (addf
    (mulf (Host.divf (broadcastInDim S4096x2048 ![] Cert.MergeFwdRefIdeal.Gen.bcast_S_S4096x2048 (constant Cert.MergeFwdRefIdeal.S_ .f32 0x3F800000#32))
      (addf (broadcastInDim S4096x2048 ![] Cert.MergeFwdRefIdeal.Gen.bcast_S_S4096x2048 (constant Cert.MergeFwdRefIdeal.S_ .f32 0x3F800000#32))
        (Host.exp (Host.negf (extractStridedSlice S4096x2048 ![0, 6656] gates Cert.MergeFwdRefIdeal.Gen.slices_S4096x10752_S4096x2048_0_6656))))) (extf .f32 ua Cert.MergeFwdRefIdeal.Gen.bitsLt_bf16_f32))
    (mulf (Host.divf (broadcastInDim S4096x2048 ![] Cert.MergeFwdRefIdeal.Gen.bcast_S_S4096x2048 (constant Cert.MergeFwdRefIdeal.S_ .f32 0x3F800000#32))
      (addf (broadcastInDim S4096x2048 ![] Cert.MergeFwdRefIdeal.Gen.bcast_S_S4096x2048 (constant Cert.MergeFwdRefIdeal.S_ .f32 0x3F800000#32))
        (Host.exp (Host.negf (extractStridedSlice S4096x2048 ![0, 8704] gates Cert.MergeFwdRefIdeal.Gen.slices_S4096x10752_S4096x2048_0_8704))))) (PROJ yh w)))
    Cert.MergeFwdRefIdeal.Gen.bitsLt_bf16_f32

/-- Which block each window has at point `t`. -/
theorem idx : ∀ t : Fin cfg0.N, win0_0.index t = ![t.val / 2, 0] ∧ win0_1.index t = ![0, t.val % 2]
    ∧ win0_4.index t = ![t.val / 2, t.val % 2] ∧ win0_5.index t = ![t.val / 2, t.val % 2]
    ∧ win0_6.index t = ![t.val / 2, t.val % 2] := (by decide +kernel : ∀ t : Fin grid0.N, _)

theorem idxE : ∀ t : Fin cfg0.N, win0_2.index t = ![512 * (t.val / 2), 6656 + 1024 * (t.val % 2)]
    ∧ win0_3.index t = ![512 * (t.val / 2), 8704 + 1024 * (t.val % 2)] := (by decide +kernel : ∀ t : Fin grid0.N, _)

/-- Where a block of gates lies in the array: rows with the point's row block, columns from the window's offset. -/
theorem gates_a (t : Fin cfg0.N) (y : S512x1024.Idx) : ((win0_2.blk t).view.emb y 0 : ℕ) = t.val / 2 * 512 + y 0
    ∧ ((win0_2.blk t).view.emb y 1 : ℕ) = 6656 + (t.val % 2 * 1024 + y 1) := by
  have h0 : ((win0_2.blk t).view.emb y 0 : ℕ) = win0_2.index t 0 + y 0 := win0_2.rect_emb_val_off t y 0
  have h1 : ((win0_2.blk t).view.emb y 1 : ℕ) = win0_2.index t 1 + y 1 := win0_2.rect_emb_val_off t y 1
  rw [h0, h1, (idxE t).1]
  constructor <;> dsimp <;> omega

theorem gates_h (t : Fin cfg0.N) (y : S512x1024.Idx) : ((win0_3.blk t).view.emb y 0 : ℕ) = t.val / 2 * 512 + y 0
    ∧ ((win0_3.blk t).view.emb y 1 : ℕ) = 8704 + (t.val % 2 * 1024 + y 1) := by
  have h0 : ((win0_3.blk t).view.emb y 0 : ℕ) = win0_3.index t 0 + y 0 := win0_3.rect_emb_val_off t y 0
  have h1 : ((win0_3.blk t).view.emb y 1 : ℕ) = win0_3.index t 1 + y 1 := win0_3.rect_emb_val_off t y 1
  rw [h0, h1, (idxE t).2]
  constructor <;> dsimp <;> omega

/-- What point `t` stores of the projected branch. -/
theorem point_proj (c : Dev nD) (t : Fin cfg0.N) (y) : k0_pay1 (iblk m c 0 t) (iblk m c 1 t) y
    = truncf .bf16 (PROJ (m ((c : Thread nD τ).loc main_arg0)) (m ((c : Thread nD τ).loc main_arg1))) Cert.MergeFwdRefIdeal.Gen.bitsLt_bf16_f32
        (((cfg0.win 5).blk t).view.emb y) := by
  pointwise [k0_pay1, PROJ]
  blk_point [iblk, V, idx t]

/-- What point `t` stores of the gated sum. -/
theorem point_merged (c : Dev nD) (t : Fin cfg0.N) (y) :
    k0_pay2 (iblk m c 0 t) (iblk m c 1 t) (iblk m c 2 t) (iblk m c 4 t) (iblk m c 3 t) y
    = MERGED (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay2, MERGED, PROJ, Ideal.logistic]
  blk_point [iblk, V, idx t]
  · exact (gates_a t y).1
  · exact (gates_a t y).2
  · exact (gates_h t y).1
  · exact (gates_h t y).2

/-- The two result arrays are the reference's. -/
theorem final (c : Dev nD) : (dats m 0 c).arrAt 5 (cfgs 0).N
      = truncf .bf16 (PROJ (m ((c : Thread nD τ).loc main_arg0)) (m ((c : Thread nD τ).loc main_arg1))) Cert.MergeFwdRefIdeal.Gen.bitsLt_bf16_f32
    ∧ (dats m 0 c).arrAt 6 (cfgs 0).N = MERGED (m ((c : Thread nD τ).loc main_arg0)) (m ((c : Thread nD τ).loc main_arg1)) (m ((c : Thread nD τ).loc main_arg2)) (m ((c : Thread nD τ).loc main_arg3)) := by
  constructor
  · refine (dats m 0 c).arrAt_eq_of_covers 5 _ (by decide +kernel) fun t _ y => ?_
    blk_simp
    rw [after0_5]; frame_out
    exact point_proj m c t y
  · refine (dats m 0 c).arrAt_eq_of_covers 6 _ (by decide +kernel) fun t _ y => ?_
    blk_simp
    rw [after0_6]; frame_out
    exact point_merged m c t y

end Cert.MergeFwdIdeal.Hand

namespace Cert.Proof

theorem value_MergeFwd : Cert.algebraic_MergeFwdIdeal_MergeFwdRefIdeal := by
  pair_intro
  · run_from Cert.MergeFwdIdeal.Gen.run_main m g
  · hlo_run
    · exact (Cert.MergeFwdIdeal.Hand.final m c).1.symm
    · exact (Cert.MergeFwdIdeal.Hand.final m c).2.symm

theorem frame_MergeFwd : Cert.quiescent_MergeFwd := fun m ρ _ => Cert.MergeFwd.Gen.frame m ρ
theorem frame_MergeFwdIdeal : Cert.quiescent_MergeFwdIdeal := fun m ρ _ => Cert.MergeFwdIdeal.Gen.frame m ρ
theorem frame_MergeFwdRefIdeal : Cert.quiescent_MergeFwdRefIdeal := by
  intro m g _
  hlo_run
  · simp
  · exact Idealize.ShloMosaic.sem_eq_zero_of_no_sems (by decide) _

end Cert.Proof

end
-- ==== Proof.MergeRun.lean ====
/- One point of the kernel that carries the output projection's gradient back through the gated sum. Two result
   blocks are stored whole; of the third, the gates' gradient, a point stores one 1024-column chunk of each half: the
   first chunk at the points of even number, the second at the others. What a point leaves there is stated against
   what it found. -/
module

public import proofs.«01_k».proof.Proof.Gen.MergeIdeal.Frame
public import proofs.«01_k».proof.Proof.Gen.MergeIdeal.Skeleton
public import Idealize.ShloMosaic.Lib.Exec
public import Idealize.ShloMosaic.Lib.WritesUnit
public import Idealize.ShloMosaic.Lib.VecWindow
public import Idealize.ShloMosaic.Lib.Pipeline.ValueKit

@[expose] public section

set_option maxRecDepth 16384

noncomputable section

namespace Cert.MergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal Cert.MergeIdeal.Gen

/-- A 512 by 4096 block `X` is `Y` but for `p` stored in the 1024 columns from `s` and `q` in the 1024 from `2048 + s`. -/
def Stored (s : ℕ) (Y X : Vec Ideal S512x4096 .bf16) (p q : Vec Ideal S512x1024 .bf16) : Prop :=
  (∀ (y : S512x4096.Idx) (z : S512x1024.Idx), (y 0 : ℕ) = z 0 → (y 1 : ℕ) = s + z 1 → X y = p z)
  ∧ (∀ (y : S512x4096.Idx) (z : S512x1024.Idx), (y 0 : ℕ) = z 0 → (y 1 : ℕ) = 2048 + s + z 1 → X y = q z)
  ∧ ∀ y : S512x4096.Idx, (y 1 : ℕ) / 1024 % 2 ≠ s / 1024 → X y = Y y

/-- The first chunk of each half is stored at the points of even number. -/
theorem even_iff : ∀ t : Fin cfg0.N, k0_cond1 (grid0.coords t) = 1#1 ↔ t.val % 2 = 0 :=
  (fun t => by
    have ht : t.val < 16 := Nat.lt_of_lt_of_eq t.isLt N_0
    have e1 : (grid0.coords t 1).val = t.val / 1 % 2 := Pipeline.Grid.coords_val t 1 (by decide) rfl
    simp only [k0_cond1, e1]
    word_cmp : ∀ t : Fin grid0.N, _)

/-- The second chunk of each half is stored at the points of odd number. -/
theorem odd_iff : ∀ t : Fin cfg0.N, k0_cond2 (grid0.coords t) = 1#1 ↔ t.val % 2 = 1 :=
  (fun t => by
    have ht : t.val < 16 := Nat.lt_of_lt_of_eq t.isLt N_0
    have e1 : (grid0.coords t 1).val = t.val / 1 % 2 := Pipeline.Grid.coords_val t 1 (by decide) rfl
    simp only [k0_cond2, e1]
    word_cmp : ∀ t : Fin grid0.N, _)

/-- What the body is run on: the six inputs' blocks, and some contents of the three results'. -/
abbrev before (c : Dev nD) (a0 : Memref sig .tc .vmem S512x2048 .bf16) (a1 : Memref sig .tc .vmem S1024x2048 .bf16)
    (a2 a3 : Memref sig .tc .vmem S512x1024 .f32) (a4 a5 a6 a7 : Memref sig .tc .vmem S512x1024 .bf16) (a8 : Memref sig .tc .vmem S512x4096 .bf16)
    (x0 : Vec Ideal S512x2048 .bf16) (x1 : Vec Ideal S1024x2048 .bf16) (x2 x3 : Vec Ideal S512x1024 .f32) (x4 x5 x6 x7 : Vec Ideal S512x1024 .bf16)
    (x8 : Vec Ideal S512x4096 .bf16) : sProp (MT nD τ sig Unit (Elt Ideal) ℕ (UR sig nD τ) ℕ) :=
  iprop(owns (c : Thread nD τ) a0 fullShare x0 ∗ owns (c : Thread nD τ) a1 fullShare x1 ∗ owns (c : Thread nD τ) a2 fullShare x2
    ∗ owns (c : Thread nD τ) a3 fullShare x3 ∗ owns (c : Thread nD τ) a4 fullShare x4 ∗ owns (c : Thread nD τ) a5 fullShare x5
    ∗ owns (c : Thread nD τ) a6 fullShare x6 ∗ owns (c : Thread nD τ) a7 fullShare x7 ∗ owns (c : Thread nD τ) a8 fullShare x8)

/-- A load of a whole block reads what the block holds. -/
theorem loaded {d : Fin 2 → ℕ} {e : EltTy} {a : Memref sig .tc .vmem ⟨2, d⟩ e} (h : a.IsWhole) (x : Vec Ideal ⟨2, d⟩ e)
    (inb : ∀ k, (![0, 0] : Fin 2 → ℕ) k + d k ≤ d k) :
    View.readAt (Elt Ideal) a.view (Rect.unit (s := ⟨2, d⟩) ![0, 0] d inb).toLoadRect (h.unread x) = x := by
  refine (congrArg (fun X => View.ld X (Rect.unit (s := ⟨2, d⟩) ![0, 0] d inb)) (h.read_unread x)).trans ?_
  exact View.ld_unit_zero (S := ⟨2, d⟩) (by funext k; fin_cases k <;> rfl) inb x

/-- The two stores of a point into the gates' gradient. -/
theorem stored_of (s : ℕ) (hs : s = 0 ∨ s = 1024) {a : Memref sig .tc .vmem S512x4096 .bf16} (h : a.IsWhole) (Y : Vec Ideal S512x4096 .bf16)
    (p q : Vec Ideal S512x1024 .bf16) {o o' : Fin 2 → ℕ} (ho : o = ![0, s]) (ho' : o' = ![0, 2048 + s])
    (inb : ∀ k, o k + S512x1024.size k ≤ S512x4096.size k) (inb' : ∀ k, o' k + S512x1024.size k ≤ S512x4096.size k) :
    Stored s Y (a.view.read (Elt Ideal) (a.view.writes (Elt Ideal) (h.unread Y)
      [⟨Rect.unit (s := S512x4096) o' S512x1024.size inb', q⟩, ⟨Rect.unit (s := S512x4096) o S512x1024.size inb, p⟩])) p q := by
  have bound (z : S512x1024.Idx) : (z 1 : ℕ) < 1024 := (z 1).isLt
  refine ⟨fun y z e0 e1 => ?_, fun y z e0 e1 => ?_, fun y hy => ?_⟩
  · have := bound z
    rw [View.read_writes_cons_unit_of_not_mem _ _ inb' _ _ y ho' 1 (Or.inl (by show (y 1 : ℕ) < 2048 + s; omega))]
    exact View.read_writes_cons_unit_of_mem _ _ inb _ _ y z ho (Fin.forall_fin_two.mpr ⟨e0.trans (Nat.zero_add _).symm, e1⟩)
  · exact View.read_writes_cons_unit_of_mem _ _ inb' _ _ y z ho' (Fin.forall_fin_two.mpr ⟨e0.trans (Nat.zero_add _).symm, e1⟩)
  · rw [View.read_writes_cons_unit_of_not_mem _ _ inb' _ _ y ho' 1 (by show (y 1 : ℕ) < 2048 + s ∨ 2048 + s + 1024 ≤ (y 1 : ℕ); omega),
      View.read_writes_cons_unit_of_not_mem _ _ inb _ _ y ho 1 (by show (y 1 : ℕ) < s ∨ s + 1024 ≤ (y 1 : ℕ); omega)]
    exact congrFun (h.read_unread Y) y

set_option maxHeartbeats 1000000 in
/-- The body at a point of even number. -/
theorem run_even (c : Dev nD) (i : grid0.Coords) (a0 : Memref sig .tc .vmem S512x2048 .bf16) (h0 : a0.IsWhole) (a1 : Memref sig .tc .vmem S1024x2048 .bf16) (h1 : a1.IsWhole)
    (a2 : Memref sig .tc .vmem S512x1024 .f32) (h2 : a2.IsWhole) (a3 : Memref sig .tc .vmem S512x1024 .f32) (h3 : a3.IsWhole)
    (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .bf16) (h7 : a7.IsWhole)
    (a8 : Memref sig .tc .vmem S512x4096 .bf16) (h8 : a8.IsWhole) (hc : k0_cond1 i = 1#1) (hd : ¬k0_cond2 i = 1#1)
    (x0 : Vec Ideal S512x2048 .bf16) (x1 : Vec Ideal S1024x2048 .bf16) (x2 x3 : Vec Ideal S512x1024 .f32) (x4 x5 x6 x7 : Vec Ideal S512x1024 .bf16)
    (x8 : Vec Ideal S512x4096 .bf16) (E : Set ℕ) (K : PUnit → sProp (MT nD τ sig Unit (Elt Ideal) ℕ (UR sig nD τ) ℕ)) :
    iprop(before c a0 a1 a2 a3 a4 a5 a6 a7 a8 x0 x1 x2 x3 x4 x5 x6 x7 x8
        ∗ ((∃ X, ⌜Stored 0 x8 X (k0_pay6 x0 x1 x2 x4) (k0_pay7 x0 x1 x3 x5)⌝
            ∗ before c a0 a1 a2 a3 a4 a5 a6 a7 a8 x0 x1 x2 x3 x4 x5 (k0_pay4 x0 x1 x2) (k0_pay5 x0 x1 x3) X) -∗ K ⟨⟩))
      ⊢ wp frame (wpE (defs₀ (F := Ideal)) Variants.none c none) E (cc0_out_proj_dgrad_merge_bwd i a0 h0 a1 h1 a2 h2 a3 h3 a4 h4 a5 h5 a6 h6 a7 h7 a8 h8) K := by
  simp only [cc0_out_proj_dgrad_merge_bwd_eq_skeleton]; unfold cc0_out_proj_dgrad_merge_bwd_skel
  simp only [k0_part1_eq_skeleton]
  unfold before owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, -, H6⟩, ⟨%f7, -, H7⟩, ⟨%f8, %e8, H8⟩⟩, Hk⟩
  obtain rfl := h0.eq_unread e0; obtain rfl := h1.eq_unread e1; obtain rfl := h2.eq_unread e2; obtain rfl := h3.eq_unread e3
  obtain rfl := h4.eq_unread e4; obtain rfl := h5.eq_unread e5; obtain rfl := h8.eq_unread e8
  sl_exec (disch := first | sl_exact hc | sl_exact hd)
  sl_step
  have l0 := loaded h0 x0 inb_S512x2048_S512x2048_0_0
  have l1 := loaded h1 x1 inb_S1024x2048_S1024x2048_0_0
  have l2 := loaded h2 x2 inb_S512x1024_S512x1024_0_0
  have l3 := loaded h3 x3 inb_S512x1024_S512x1024_0_0
  have l4 := loaded h4 x4 inb_S512x1024_S512x1024_0_0
  have l5 := loaded h5 x5 inb_S512x1024_S512x1024_0_0
  iapply Hk
  iexists _
  isplitr; swap
  · isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; rw [View.read_writes_full, l0, l1, l2]
    isplitl [H7]
    · iexists _; isplitr; swap; · iexact H7
      ipureintro; rw [View.read_writes_full, l0, l1, l3]
    iexists _; isplitr; swap; · iexact H8
    ipureintro; rfl
  · ipureintro
    rw [l0, l1, l2, l3, l4, l5]
    exact stored_of 0 (.inl rfl) h8 x8 _ _ rfl rfl _ _

set_option maxHeartbeats 1000000 in
/-- The body at a point of odd number. -/
theorem run_odd (c : Dev nD) (i : grid0.Coords) (a0 : Memref sig .tc .vmem S512x2048 .bf16) (h0 : a0.IsWhole) (a1 : Memref sig .tc .vmem S1024x2048 .bf16) (h1 : a1.IsWhole)
    (a2 : Memref sig .tc .vmem S512x1024 .f32) (h2 : a2.IsWhole) (a3 : Memref sig .tc .vmem S512x1024 .f32) (h3 : a3.IsWhole)
    (a4 : Memref sig .tc .vmem S512x1024 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .bf16) (h7 : a7.IsWhole)
    (a8 : Memref sig .tc .vmem S512x4096 .bf16) (h8 : a8.IsWhole) (hc : ¬k0_cond1 i = 1#1) (hd : k0_cond2 i = 1#1)
    (x0 : Vec Ideal S512x2048 .bf16) (x1 : Vec Ideal S1024x2048 .bf16) (x2 x3 : Vec Ideal S512x1024 .f32) (x4 x5 x6 x7 : Vec Ideal S512x1024 .bf16)
    (x8 : Vec Ideal S512x4096 .bf16) (E : Set ℕ) (K : PUnit → sProp (MT nD τ sig Unit (Elt Ideal) ℕ (UR sig nD τ) ℕ)) :
    iprop(before c a0 a1 a2 a3 a4 a5 a6 a7 a8 x0 x1 x2 x3 x4 x5 x6 x7 x8
        ∗ ((∃ X, ⌜Stored 1024 x8 X (k0_pay6 x0 x1 x2 x4) (k0_pay7 x0 x1 x3 x5)⌝
            ∗ before c a0 a1 a2 a3 a4 a5 a6 a7 a8 x0 x1 x2 x3 x4 x5 (k0_pay4 x0 x1 x2) (k0_pay5 x0 x1 x3) X) -∗ K ⟨⟩))
      ⊢ wp frame (wpE (defs₀ (F := Ideal)) Variants.none c none) E (cc0_out_proj_dgrad_merge_bwd i a0 h0 a1 h1 a2 h2 a3 h3 a4 h4 a5 h5 a6 h6 a7 h7 a8 h8) K := by
  simp only [cc0_out_proj_dgrad_merge_bwd_eq_skeleton]; unfold cc0_out_proj_dgrad_merge_bwd_skel
  simp only [k0_part1_eq_skeleton]
  unfold before owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, -, H6⟩, ⟨%f7, -, H7⟩, ⟨%f8, %e8, H8⟩⟩, Hk⟩
  obtain rfl := h0.eq_unread e0; obtain rfl := h1.eq_unread e1; obtain rfl := h2.eq_unread e2; obtain rfl := h3.eq_unread e3
  obtain rfl := h4.eq_unread e4; obtain rfl := h5.eq_unread e5; obtain rfl := h8.eq_unread e8
  sl_exec (disch := first | sl_exact hc | sl_exact hd)
  sl_step
  have l0 := loaded h0 x0 inb_S512x2048_S512x2048_0_0
  have l1 := loaded h1 x1 inb_S1024x2048_S1024x2048_0_0
  have l2 := loaded h2 x2 inb_S512x1024_S512x1024_0_0
  have l3 := loaded h3 x3 inb_S512x1024_S512x1024_0_0
  have l4 := loaded h4 x4 inb_S512x1024_S512x1024_0_0
  have l5 := loaded h5 x5 inb_S512x1024_S512x1024_0_0
  iapply Hk
  iexists _
  isplitr; swap
  · isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; rw [View.read_writes_full, l0, l1, l2]
    isplitl [H7]
    · iexists _; isplitr; swap; · iexact H7
      ipureintro; rw [View.read_writes_full, l0, l1, l3]
    iexists _; isplitr; swap; · iexact H8
    ipureintro; rfl
  · ipureintro
    sl_unfold_words
    rw [l0, l1, l2, l3, l4, l5]
    exact stored_of 1024 (.inr rfl) h8 x8 _ _ rfl rfl _ _

end Cert.MergeIdeal.Hand

end
-- ==== Proof.MergePoint.lean ====
/- The gradient of the gated sum, point by point: what one point of the kernel stores is the reference's result at the
   place where it is stored. -/
module

public import proofs.«01_k».proof.Proof.Gen.MergeIdeal.Frame
public import proofs.«01_k».proof.Proof.Gen.MergeIdeal.Skeleton
public import proofs.«01_k».proof.Proof.Gen.MergeRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen

/-- The reference's gradient of the gated sum: the incoming gradient times the transposed weight. -/
abbrev GP (dy : FVec Ideal S4096x2048 .bf16) (w : FVec Ideal S2048x2048 .f32) : FVec Ideal S4096x2048 .f32 :=
  Host.dotGeneral Cert.MergeRefIdeal.dot_S4096x2048_S2048x2048_S4096x2048_1_1_0_0_n_n none (extf .f32 dy Cert.MergeRefIdeal.Gen.bitsLt_bf16_f32) w

/-- The number one, everywhere. -/
abbrev ONE : FVec Ideal S4096x2048 .f32 :=
  broadcastInDim S4096x2048 ![] Cert.MergeRefIdeal.Gen.bcast_S_S4096x2048 (constant Cert.MergeRefIdeal.S_ .f32 0x3F800000#32)

/-- The reference's gate of the attention branch. -/
abbrev SA (gates : FVec Ideal S4096x10752 .f32) : FVec Ideal S4096x2048 .f32 :=
  Host.divf ONE (addf ONE (Host.exp (Host.negf (extractStridedSlice S4096x2048 ![0, 6656] gates Cert.MergeRefIdeal.Gen.slices_S4096x10752_S4096x2048_0_6656))))

/-- The reference's gate of the recurrence branch. -/
abbrev SH (gates : FVec Ideal S4096x10752 .f32) : FVec Ideal S4096x2048 .f32 :=
  Host.divf ONE (addf ONE (Host.exp (Host.negf (extractStridedSlice S4096x2048 ![0, 8704] gates Cert.MergeRefIdeal.Gen.slices_S4096x10752_S4096x2048_0_8704))))

/-- The reference's gradient of a branch, of gate `s`. -/
abbrev DU (s g : FVec Ideal S4096x2048 .f32) : FVec Ideal S4096x2048 .bf16 :=
  truncf .bf16 (mulf s g) Cert.MergeRefIdeal.Gen.bitsLt_bf16_f32

/-- The reference's gradient of what a gate is computed from. -/
abbrev DG (s g : FVec Ideal S4096x2048 .f32) (u : FVec Ideal S4096x2048 .bf16) : FVec Ideal S4096x2048 .f32 :=
  mulf (mulf g (extf .f32 u Cert.MergeRefIdeal.Gen.bitsLt_bf16_f32)) (mulf s (subf ONE s))

/-- The reference's gradients of both gates, side by side. -/
abbrev GATES (g : FVec Ideal S4096x2048 .f32) (gates : FVec Ideal S4096x10752 .f32) (ua uh : FVec Ideal S4096x2048 .bf16) : FVec Ideal S4096x4096 .bf16 :=
  truncf .bf16 (concatenate S4096x4096 1 [⟨S4096x2048, DG (SA gates) g ua⟩, ⟨S4096x2048, DG (SH gates) g uh⟩]
    Cert.MergeRefIdeal.Gen.concatenates_S4096x2048_S4096x2048_S4096x4096_d1) Cert.MergeRefIdeal.Gen.bitsLt_bf16_f32

variable (m : (ℓ : Loc nD τ sig) → Buf (Elt Ideal) ℓ)

/-- Which block each block-indexed window has at point `t`. -/
theorem idx : ∀ t : Fin cfg0.N, win0_0.index t = ![t.val / 2, 0] ∧ win0_1.index t = ![t.val % 2, 0]
    ∧ win0_4.index t = ![t.val / 2, t.val % 2] ∧ win0_5.index t = ![t.val / 2, t.val % 2]
    ∧ win0_6.index t = ![t.val / 2, t.val % 2] ∧ win0_7.index t = ![t.val / 2, t.val % 2]
    ∧ win0_8.index t = ![t.val / 2, 0] := (by decide +kernel : ∀ t : Fin grid0.N, _)

theorem idxE : ∀ t : Fin cfg0.N, win0_2.index t = ![512 * (t.val / 2), 6656 + 1024 * (t.val % 2)]
    ∧ win0_3.index t = ![512 * (t.val / 2), 8704 + 1024 * (t.val % 2)] := (by decide +kernel : ∀ t : Fin grid0.N, _)

/-- Where a block of gates lies in the array. -/
theorem gates_a (t : Fin cfg0.N) (y : S512x1024.Idx) : ((win0_2.blk t).view.emb y 0 : ℕ) = t.val / 2 * 512 + y 0
    ∧ ((win0_2.blk t).view.emb y 1 : ℕ) = 6656 + (t.val % 2 * 1024 + y 1) := by
  have h0 : ((win0_2.blk t).view.emb y 0 : ℕ) = win0_2.index t 0 + y 0 := win0_2.rect_emb_val_off t y 0
  have h1 : ((win0_2.blk t).view.emb y 1 : ℕ) = win0_2.index t 1 + y 1 := win0_2.rect_emb_val_off t y 1
  rw [h0, h1, (idxE t).1]
  constructor <;> dsimp <;> omega

theorem gates_h (t : Fin cfg0.N) (y : S512x1024.Idx) : ((win0_3.blk t).view.emb y 0 : ℕ) = t.val / 2 * 512 + y 0
    ∧ ((win0_3.blk t).view.emb y 1 : ℕ) = 8704 + (t.val % 2 * 1024 + y 1) := by
  have h0 : ((win0_3.blk t).view.emb y 0 : ℕ) = win0_3.index t 0 + y 0 := win0_3.rect_emb_val_off t y 0
  have h1 : ((win0_3.blk t).view.emb y 1 : ℕ) = win0_3.index t 1 + y 1 := win0_3.rect_emb_val_off t y 1
  rw [h0, h1, (idxE t).2]
  constructor <;> dsimp <;> omega

/-- What point `t` stores of the attention branch's gradient. -/
theorem point_a (c : Dev nD) (t : Fin cfg0.N) (y) : k0_pay4 (iblk m c 0 t) (iblk m c 1 t) (iblk m c 2 t) y
    = DU (SA (m ((c : Thread nD τ).loc main_arg2))) (GP (m ((c : Thread nD τ).loc main_arg0)) (m ((c : Thread nD τ).loc main_arg1))) (((cfg0.win 6).blk t).view.emb y) := by
  pointwise [k0_pay1, k0_pay2, k0_pay4, DU, GP, SA, ONE, Ideal.logistic]
  rw [EReal.mul_comm]
  blk_point [iblk, V, idx t]
  · exact (gates_a t y).1
  · exact (gates_a t y).2

/-- What point `t` stores of the recurrence branch's gradient. -/
theorem point_h (c : Dev nD) (t : Fin cfg0.N) (y) : k0_pay5 (iblk m c 0 t) (iblk m c 1 t) (iblk m c 3 t) y
    = DU (SH (m ((c : Thread nD τ).loc main_arg2))) (GP (m ((c : Thread nD τ).loc main_arg0)) (m ((c : Thread nD τ).loc main_arg1))) (((cfg0.win 7).blk t).view.emb y) := by
  pointwise [k0_pay1, k0_pay3, k0_pay5, DU, GP, SH, ONE, Ideal.logistic]
  rw [EReal.mul_comm]
  blk_point [iblk, V, idx t]
  · exact (gates_h t y).1
  · exact (gates_h t y).2

/-- What point `t` stores of the attention gate's gradient, in the left half. -/
theorem point_ga (c : Dev nD) (t : Fin cfg0.N) (z : S512x1024.Idx) (j : S4096x4096.Idx)
    (h0 : (j 0 : ℕ) = t.val / 2 * 512 + z 0) (h1 : (j 1 : ℕ) = t.val % 2 * 1024 + z 1) :
    k0_pay6 (iblk m c 0 t) (iblk m c 1 t) (iblk m c 2 t) (iblk m c 4 t) z
      = GATES (GP (m ((c : Thread nD τ).loc main_arg0)) (m ((c : Thread nD τ).loc main_arg1))) (m ((c : Thread nD τ).loc main_arg2))
          (m ((c : Thread nD τ).loc main_arg3)) (m ((c : Thread nD τ).loc main_arg4)) j := by
  have hz : (z 1 : ℕ) < 1024 := (z 1).isLt
  pointwise [k0_pay1, k0_pay2, k0_pay6, GATES, DG, GP, SA, SH, ONE, Ideal.logistic]
  rw [dif_pos (by omega), mul_assoc]
  blk_point [iblk, V, idx t]
  · exact (gates_a t z).1.trans h0.symm
  · exact (gates_a t z).2.trans (by rw [h1])

/-- What point `t` stores of the recurrence gate's gradient, in the right half. -/
theorem point_gh (c : Dev nD) (t : Fin cfg0.N) (z : S512x1024.Idx) (j : S4096x4096.Idx)
    (h0 : (j 0 : ℕ) = t.val / 2 * 512 + z 0) (h1 : (j 1 : ℕ) = 2048 + t.val % 2 * 1024 + z 1) :
    k0_pay7 (iblk m c 0 t) (iblk m c 1 t) (iblk m c 3 t) (iblk m c 5 t) z
      = GATES (GP (m ((c : Thread nD τ).loc main_arg0)) (m ((c : Thread nD τ).loc main_arg1))) (m ((c : Thread nD τ).loc main_arg2))
          (m ((c : Thread nD τ).loc main_arg3)) (m ((c : Thread nD τ).loc main_arg4)) j := by
  pointwise [k0_pay1, k0_pay3, k0_pay7, GATES, DG, GP, SA, SH, ONE, Ideal.logistic]
  rw [dif_neg (by omega), mul_assoc]
  blk_point [iblk, V, idx t]
  · exact (gates_h t z).1.trans h0.symm
  · exact (gates_h t z).2.trans (by omega)

end Cert.MergeIdeal.Hand

end
-- ==== Proof.MergeBody.lean ====
/- The gradient of the gated sum: the kernel's body at every point. The third result's block is filled by two points, half
   of it by each, so what its buffer holds is followed from the first point to the second by a predicate. -/
module

public import proofs.«01_k».proof.Proof.MergeRun
public import proofs.«01_k».proof.Proof.MergePoint
public import proofs.«01_k».proof.Proof.Gen.Merge.Frame
public import proofs.«01_k».proof.Proof.Gen.MergeRefIdeal.Run
public import proofs.«01_k».proof.Defs
public import Idealize.ShloMosaic.Lib.Pipeline.DatRel
public import Idealize.ShloMosaic.Lib.Pipeline.ArrRel
public import Idealize.ShloMosaic.Lib.Claim
public import Idealize.ShloMosaic.Lib.Quiescent

@[expose] public section

set_option maxRecDepth 16384

noncomputable section

namespace Cert.MergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.MergeIdeal Cert.MergeIdeal.Gen

abbrev 𝓜 := MT nD τ sig Unit (Elt Ideal) ℕ (UR sig nD τ) ℕ

variable (m : (ℓ : Loc nD τ sig) → Buf (Elt Ideal) ℓ) (ρ : Dev nD → PrngReg)

/-- The reference's three results on core `c`. -/
abbrev grad (c : Dev nD) : FVec Ideal S4096x2048 .f32 :=
  GP (m ((c : Thread nD τ).loc main_arg0)) (m ((c : Thread nD τ).loc main_arg1))
abbrev dua (c : Dev nD) : FVec Ideal S4096x2048 .bf16 := DU (SA (m ((c : Thread nD τ).loc main_arg2))) (grad m c)
abbrev duh (c : Dev nD) : FVec Ideal S4096x2048 .bf16 := DU (SH (m ((c : Thread nD τ).loc main_arg2))) (grad m c)
abbrev dgates (c : Dev nD) : FVec Ideal S4096x4096 .bf16 :=
  GATES (grad m c) (m ((c : Thread nD τ).loc main_arg2)) (m ((c : Thread nD τ).loc main_arg3)) (m ((c : Thread nD τ).loc main_arg4))

/-- The pipeline's data: the arrays as the region finds them, each input's buffer at its block. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ _ := Pipeline.ΦA spec0 c
  q w := Pipeline.shareOf spec0 w
  owed _ := 0

theorem dat_A (c : Dev nD) (w : Fin cfg0.W) : (dat m c).A w = V m c (Pipeline.arrRef spec0 w) := by
  dsimp only [dat]

/-- The windows of the results. -/
def marked : Fin cfg0.W → Bool := fun w => w.val == 6 || w.val == 7 || w.val == 8

/-- The two halves of the third result's block at point `t`, as far as they are filled. -/
def Filled (c : Dev nD) (t : Fin cfg0.N) (X : Vec Ideal S512x4096 .bf16) : Prop :=
  ∀ y : S512x4096.Idx, (y 1 : ℕ) / 1024 % 2 ≤ t.val % 2 → X y = dgates m c (((cfg0.win 8).blk t).view.emb y)

/-- What the body may leave in a result's buffer at point `t`. -/
def Left (c : Dev nD) (w : Fin cfg0.W) (t : Fin cfg0.N) (X : (cfg0.win w).block.Idx → Elt Ideal (cfg0.win w).elt) : Prop :=
  match w, X with
  | ⟨6, _⟩, X => X = fun y => dua m c (((cfg0.win 6).blk t).view.emb y)
  | ⟨7, _⟩, X => X = fun y => duh m c (((cfg0.win 7).blk t).view.emb y)
  | ⟨8, _⟩, X => Filled m c t X
  | _, _ => True

/-- Where an element of the third result's block lies. -/
theorem place (t : Fin cfg0.N) (y : S512x4096.Idx) :
    ((((cfg0.win 8).blk t).view.emb y : S4096x4096.Idx) 0 : ℕ) = t.val / 2 * 512 + y 0
    ∧ ((((cfg0.win 8).blk t).view.emb y : S4096x4096.Idx) 1 : ℕ) = y 1 := by
  have h0 : (((win0_8.blk t).view.emb y : S4096x4096.Idx) 0 : ℕ) = win0_8.index t 0 * 512 + y 0 := win0_8.rect_emb_val t y 0
  have h1 : (((win0_8.blk t).view.emb y : S4096x4096.Idx) 1 : ℕ) = win0_8.index t 1 * 4096 + y 1 := win0_8.rect_emb_val t y 1
  obtain ⟨-, -, -, -, -, -, e⟩ := idx t
  rw [e] at h0 h1
  refine ⟨h0, h1.trans ?_⟩
  dsimp; omega

/-- A point's stores fill its part of the block, and keep what the point before it filled. -/
theorem filled_of (c : Dev nD) (t : Fin cfg0.N) (Y X : Vec Ideal S512x4096 .bf16)
    (h : Stored (1024 * (t.val % 2)) Y X (k0_pay6 (iblk m c 0 t) (iblk m c 1 t) (iblk m c 2 t) (iblk m c 4 t)) (k0_pay7 (iblk m c 0 t) (iblk m c 1 t) (iblk m c 3 t) (iblk m c 5 t)))
    (hY : ∀ y : S512x4096.Idx, (y 1 : ℕ) / 1024 % 2 < t.val % 2 → Y y = dgates m c (((cfg0.win 8).blk t).view.emb y)) :
    Filled m c t X := by
  intro y hy
  obtain ⟨p0, p1⟩ := place t y
  have hb0 : (y 0 : ℕ) < 512 := (y 0).isLt
  have hb1 : (y 1 : ℕ) < 4096 := (y 1).isLt
  obtain ⟨ha, hh, ho⟩ := h
  by_cases hlt : (y 1 : ℕ) / 1024 % 2 < t.val % 2
  · exact (ho y (by omega)).trans (hY y hlt)
  · by_cases hs : (y 1 : ℕ) < 2048
    · let z : S512x1024.Idx := ix2 ⟨y 0, hb0⟩ ⟨(y 1 : ℕ) - 1024 * (t.val % 2), by omega⟩
      have hz0 : (z 0 : ℕ) = y 0 := rfl
      have hz1 : (z 1 : ℕ) = (y 1 : ℕ) - 1024 * (t.val % 2) := rfl
      exact (ha y z (by omega) (by omega)).trans (point_ga m c t z _ (by omega) (by omega))
    · let z : S512x1024.Idx := ix2 ⟨y 0, hb0⟩ ⟨(y 1 : ℕ) - 2048 - 1024 * (t.val % 2), by omega⟩
      have hz0 : (z 0 : ℕ) = y 0 := rfl
      have hz1 : (z 1 : ℕ) = (y 1 : ℕ) - 2048 - 1024 * (t.val % 2) := rfl
      exact (hh y z (by omega) (by omega)).trans (point_gh m c t z _ (by omega) (by omega))

/-- At an odd point the third result's buffer still holds what the point before filled. -/
theorem found (c : Dev nD) (t : Fin cfg0.N) (ht : t.val % 2 = 1) (Y : Vec Ideal S512x4096 .bf16)
    (h : ((dat m c).toRRel marked (Left m c)).Finds 8 t Y) (y : S512x4096.Idx) (hy : (y 1 : ℕ) / 1024 % 2 < t.val % 2) :
    Y y = dgates m c (((cfg0.win 8).blk t).view.emb y) := by
  have hpos : t.val ≠ 0 := by omega
  have hf8 : (cfg0.win 8).fetch t = false := rfl
  rcases (RDat.finds_of_pos _ hf8 hpos Y).mp h with hf | hl
  · exact absurd ((flush0_8 _).mp hf) (by dsimp; omega)
  · have hp : Filled m c _ Y := (dat m c).toRRel_leaves rfl hl
    refine (hp y (by omega)).trans (congrArg (dgates m c) ?_)
    have p := place t y
    have q := place ⟨t.val - 1, Nat.lt_of_le_of_lt (Nat.sub_le _ _) t.isLt⟩ y
    have e : (t.val - 1) / 2 * 512 + (y 0 : ℕ) = t.val / 2 * 512 + y 0 := by omega
    exact funext fun a => Fin.ext (match a with
      | ⟨0, _⟩ => q.1.trans (e.trans p.1.symm)
      | ⟨1, _⟩ => q.2.trans p.2.symm)

/-- The windows' staging buffers at point `t`. -/
abbrev stg0 (t : Fin cfg0.N) : Memref sig .tc .vmem S512x2048 .bf16 := win0_0.stage (cfg0.slots t 0)
abbrev stg1 (t : Fin cfg0.N) : Memref sig .tc .vmem S1024x2048 .bf16 := win0_1.stage (cfg0.slots t 1)
abbrev stg2 (t : Fin cfg0.N) : Memref sig .tc .vmem S512x1024 .f32 := win0_2.stage (cfg0.slots t 2)
abbrev stg3 (t : Fin cfg0.N) : Memref sig .tc .vmem S512x1024 .f32 := win0_3.stage (cfg0.slots t 3)
abbrev stg4 (t : Fin cfg0.N) : Memref sig .tc .vmem S512x1024 .bf16 := win0_4.stage (cfg0.slots t 4)
abbrev stg5 (t : Fin cfg0.N) : Memref sig .tc .vmem S512x1024 .bf16 := win0_5.stage (cfg0.slots t 5)
abbrev stg6 (t : Fin cfg0.N) : Memref sig .tc .vmem S512x1024 .bf16 := win0_6.stage (cfg0.slots t 6)
abbrev stg7 (t : Fin cfg0.N) : Memref sig .tc .vmem S512x1024 .bf16 := win0_7.stage (cfg0.slots t 7)
abbrev stg8 (t : Fin cfg0.N) : Memref sig .tc .vmem S512x4096 .bf16 := win0_8.stage (cfg0.slots t 8)

/-- What the body is called with at point `t`, window by window, -/
def pre (c : Dev nD) (t : Fin cfg0.N) : sProp 𝓜 :=
  iprop((dat m c).Φ t.castSucc ∗ (dat m c).owesAt () t.castSucc
    ∗ (∃ d, owns (c : Thread nD τ) (stg0 t) fullShare ((dat m c).before 0 t d))
    ∗ (∃ d, owns (c : Thread nD τ) (stg1 t) fullShare ((dat m c).before 1 t d))
    ∗ (∃ d, owns (c : Thread nD τ) (stg2 t) fullShare ((dat m c).before 2 t d))
    ∗ (∃ d, owns (c : Thread nD τ) (stg3 t) fullShare ((dat m c).before 3 t d))
    ∗ (∃ d, owns (c : Thread nD τ) (stg4 t) fullShare ((dat m c).before 4 t d))
    ∗ (∃ d, owns (c : Thread nD τ) (stg5 t) fullShare ((dat m c).before 5 t d))
    ∗ (∃ Y, ⌜((dat m c).toRRel marked (Left m c)).Finds 6 t Y⌝ ∗ owns (c : Thread nD τ) (stg6 t) fullShare Y)
    ∗ (∃ Y, ⌜((dat m c).toRRel marked (Left m c)).Finds 7 t Y⌝ ∗ owns (c : Thread nD τ) (stg7 t) fullShare Y)
    ∗ (∃ Y, ⌜((dat m c).toRRel marked (Left m c)).Finds 8 t Y⌝ ∗ owns (c : Thread nD τ) (stg8 t) fullShare Y))

/-- and what it returns. -/
def post (c : Dev nD) (t : Fin cfg0.N) : sProp 𝓜 :=
  iprop((dat m c).Φ t.castSucc ∗ (dat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ X, ⌜Left m c 6 t X⌝ ∗ owns (c : Thread nD τ) (stg6 t) fullShare X)
    ∗ (∃ X, ⌜Left m c 7 t X⌝ ∗ owns (c : Thread nD τ) (stg7 t) fullShare X)
    ∗ (∃ X, ⌜Left m c 8 t X⌝ ∗ owns (c : Thread nD τ) (stg8 t) fullShare X))

/-- Each input's buffer holds its block. -/
theorem holds0 (c : Dev nD) (t : Fin cfg0.N) (d) : (dat m c).before 0 t d = iblk m c 0 t :=
  before0_0_of m (dat m c) (dat_A m c 0) (fun _ => by dsimp only [dat]) t d
theorem holds1 (c : Dev nD) (t : Fin cfg0.N) (d) : (dat m c).before 1 t d = iblk m c 1 t :=
  before0_1_of m (dat m c) (dat_A m c 1) (fun _ => by dsimp only [dat]) t d
theorem holds2 (c : Dev nD) (t : Fin cfg0.N) (d) : (dat m c).before 2 t d = iblk m c 2 t :=
  before0_2_of m (dat m c) (dat_A m c 2) (fun _ => by dsimp only [dat]) t d
theorem holds3 (c : Dev nD) (t : Fin cfg0.N) (d) : (dat m c).before 3 t d = iblk m c 3 t :=
  before0_3_of m (dat m c) (dat_A m c 3) (fun _ => by dsimp only [dat]) t d
theorem holds4 (c : Dev nD) (t : Fin cfg0.N) (d) : (dat m c).before 4 t d = iblk m c 4 t :=
  before0_4_of m (dat m c) (dat_A m c 4) (fun _ => by dsimp only [dat]) t d
theorem holds5 (c : Dev nD) (t : Fin cfg0.N) (d) : (dat m c).before 5 t d = iblk m c 5 t :=
  before0_5_of m (dat m c) (dat_A m c 5) (fun _ => by dsimp only [dat]) t d

/-- What the two kinds of point leave in the first two results' buffers. -/
theorem left6 (c : Dev nD) (t : Fin cfg0.N) : Left m c 6 t (k0_pay4 (iblk m c 0 t) (iblk m c 1 t) (iblk m c 2 t)) :=
  funext fun y => point_a m c t y
theorem left7 (c : Dev nD) (t : Fin cfg0.N) : Left m c 7 t (k0_pay5 (iblk m c 0 t) (iblk m c 1 t) (iblk m c 3 t)) :=
  funext fun y => point_h m c t y

/-- From a run of the body at a point, whichever kind it is, to the body's triple there. -/
theorem of_run (c : Dev nD) (t : Fin cfg0.N)
    (hrun : ∀ (x6 x7 : Vec Ideal S512x1024 .bf16) (x8 : Vec Ideal S512x4096 .bf16) (K : PUnit → sProp 𝓜),
      iprop(before c (stg0 t) (stg1 t) (stg2 t) (stg3 t) (stg4 t) (stg5 t) (stg6 t) (stg7 t) (stg8 t)
            (iblk m c 0 t) (iblk m c 1 t) (iblk m c 2 t) (iblk m c 3 t) (iblk m c 4 t) (iblk m c 5 t) x6 x7 x8
          ∗ ((∃ X, ⌜Stored (1024 * (t.val % 2)) x8 X (k0_pay6 (iblk m c 0 t) (iblk m c 1 t) (iblk m c 2 t) (iblk m c 4 t)) (k0_pay7 (iblk m c 0 t) (iblk m c 1 t) (iblk m c 3 t) (iblk m c 5 t))⌝
              ∗ before c (stg0 t) (stg1 t) (stg2 t) (stg3 t) (stg4 t) (stg5 t) (stg6 t) (stg7 t) (stg8 t)
                (iblk m c 0 t) (iblk m c 1 t) (iblk m c 2 t) (iblk m c 3 t) (iblk m c 4 t) (iblk m c 5 t)
                (k0_pay4 (iblk m c 0 t) (iblk m c 1 t) (iblk m c 2 t)) (k0_pay5 (iblk m c 0 t) (iblk m c 1 t) (iblk m c 3 t)) X) -∗ K ⟨⟩))
        ⊢ wp frame (wpE (defs₀ (F := Ideal)) Variants.none c none) Set.univ (bodyAt0 t) K) :
    pre m c t ⊢ wp frame (wpE (defs₀ (F := Ideal)) Variants.none c none) Set.univ (bodyAt0 t) (fun _ => post m c t) := by
  unfold pre post
  simp only [holds0, holds1, holds2, holds3, holds4, holds5]
  iintro ⟨HΦ, Ho, ⟨%d0, H0⟩, ⟨%d1, H1⟩, ⟨%d2, H2⟩, ⟨%d3, H3⟩, ⟨%d4, H4⟩, ⟨%d5, H5⟩, ⟨%x6, %h6, H6⟩, ⟨%x7, %h7, H7⟩, ⟨%x8, %h8, H8⟩⟩
  iapply (hrun x6 x7 x8 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨%X, %hX, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact left6 m c t
  isplitl [H7]
  · iexists _; isplitr; swap; · iexact H7
    ipureintro; exact left7 m c t
  iexists X; isplitr; swap; · iexact H8
  ipureintro
  exact filled_of m c t x8 X hX fun y hy => found m c t (by omega) x8 h8 y hy

/-- The body's triple at every point. -/
theorem sound (c : Dev nD) (t : Fin cfg0.N) :
    pre m c t ⊢ wp frame (wpE (defs₀ (F := Ideal)) Variants.none c none) Set.univ (bodyAt0 t) (fun _ => post m c t) := by
  by_cases ht : t.val % 2 = 0
  · refine of_run m c t fun x6 x7 x8 K => ?_
    rw [ht]
    exact run_even c (grid0.coords t) _ _ _ _ _ _ _ _ _ _ _ _ _ _ _ _ _ _ ((even_iff t).mpr ht) (fun h => by have := (odd_iff t).mp h; omega) _ _ _ _ _ _ _ _ _ Set.univ K
  · refine of_run m c t fun x6 x7 x8 K => ?_
    have ho : t.val % 2 = 1 := by omega
    rw [ho]
    exact run_odd c (grid0.coords t) _ _ _ _ _ _ _ _ _ _ _ _ _ _ _ _ _ _ (fun h => ht ((even_iff t).mp h)) ((odd_iff t).mpr ho) _ _ _ _ _ _ _ _ _ Set.univ K

/-- The body table's row at point `t`'s slots. -/
theorem row (t : Fin cfg0.N) : defs₀ (F := Ideal) .tc cfg0.body (cfg0.bodyArgs t (cfg0.slots t)) = bodyAt0 t := by
  unfold defs₀; rw [Defs.onTc_tc]

end Cert.MergeIdeal.Hand

end
-- ==== Proof.MergeValue.lean ====
/- The gradient of the gated sum: the kernel's run, its results and its frames. -/
module

public import proofs.«01_k».proof.Proof.MergeBody
public import proofs.«01_k».proof.Proof.Gen.MergeRefIdeal.Run
public import proofs.«01_k».proof.Defs
public import Idealize.ShloMosaic.Lib.Pipeline.DatRel
public import Idealize.ShloMosaic.Lib.Pipeline.ArrRel
public import Idealize.ShloMosaic.Lib.Claim
public import Idealize.ShloMosaic.Lib.Quiescent

@[expose] public section

set_option maxRecDepth 16384

noncomputable section

namespace Cert.MergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.MergeIdeal Cert.MergeIdeal.Gen

variable (m : (ℓ : Loc nD τ sig) → Buf (Elt Ideal) ℓ) (ρ : Dev nD → PrngReg)

/-- The body obligation, the results' windows held to `Left`. -/
theorem obligation (c : Dev nD) :
    Pipeline.BodyObligationRel (dat m c) (defs₀ (F := Ideal)) Variants.none () Set.univ marked (Left m c) := fun t => by
  rw [bigSep_W0, bigSep_W0, row]
  exact triple_restated (sound m c t) rfl .rfl fun _ => .rfl

/-- The data of the launch. -/
abbrev data (c : Dev nD) : RDat τ (Elt Ideal) Unit ℕ (UR sig nD τ) ℕ cfg0 c := (dat m c).toRRel marked (Left m c)

set_option backward.isDefEq.respectTransparency.types false in
/-- The run: every final state has what the data say, and no semaphore left raised. -/
theorem run : θ_run defs (onTc (τ := τ) (main (F := Ideal))) (s₀ m ρ)
    (fun r => RDat.FramePost (cfgs 0) (data m) (V m) r ∧ r.2.sem = fun _ => 0) :=
  RDat.θ_run_frame_track_shared (Q' := _) cfgs (0 : Fin 1) launch₀0 defs₀ Variants.none (data m) m ρ main
    (hbody := fun c => (obligation m c).toRRel) (hq := fun _ _ _ => rfl) (howed := fun _ _ => rfl) (V := V m)
    (hmain := hmain m Variants.none) (hA := dat_A m) (hin := fun _ => .rfl) (hout := fun _ => .rfl)

/-- The three result arrays at the end are the reference's. -/
theorem results (c : Dev nD) (r : PUnit × MemSt nD τ sig (Elt Ideal)) (h : RDat.FramePost (cfgs 0) (data m) (V m) r) :
    r.2.mem ((c : Thread nD τ).loc main_v1_0) = dua m c ∧ r.2.mem ((c : Thread nD τ).loc main_v1_1) = duh m c
      ∧ r.2.mem ((c : Thread nD τ).loc main_v1_2) = dgates m c := by
  obtain ⟨after, hl, he⟩ := RDat.FramePost.exists_exact h c
  refine ⟨(he 6).trans ?_, (he 7).trans ?_, (he 8).trans ?_⟩
  · refine Dat.arrAt_eq_of_covers _ 6 _ (by decide +kernel) fun t hf y => ?_
    blk_simp
    rw [RDat.withAfter_after]; frame_out
    exact congrFun ((dat m c).toRRel_leaves rfl (hl 6 t hf)) y
  · refine Dat.arrAt_eq_of_covers _ 7 _ (by decide +kernel) fun t hf y => ?_
    blk_simp
    rw [RDat.withAfter_after]; frame_out
    exact congrFun ((dat m c).toRRel_leaves rfl (hl 7 t hf)) y
  · refine Dat.arrAt_eq_of_covers _ 8 _ (by decide +kernel) fun t hf y => ?_
    have ht := (flush0_8 t).mp hf
    blk_simp
    rw [RDat.withAfter_after]; frame_out
    exact ((dat m c).toRRel_leaves rfl (hl 8 t hf) : Filled m c t _) y (by omega)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(RDat.FramePost.arr_in h.1 c 0 rfl).trans ((dat_A m c 0).trans (V_main_arg0 m c)),
      ((h.1 c).2 main_arg1 (Pipeline.mem_restRefs_of main_arg1 (by decide) (by decide))).trans (V_main_arg1 m c),
      (RDat.FramePost.arr_in h.1 c 3 rfl).trans ((dat_A m c 3).trans (V_main_arg2 m c)),
      (RDat.FramePost.arr_in h.1 c 4 rfl).trans ((dat_A m c 4).trans (V_main_arg3 m c)),
      (RDat.FramePost.arr_in h.1 c 5 rfl).trans ((dat_A m c 5).trans (V_main_arg4 m c))⟩) (run m ρ)

end Cert.MergeIdeal.Hand

namespace Cert.Proof

open Idealize.ShloMosaic Idealize.ShloMosaic.TcCoe Idealize.SL.Sem

theorem value_Merge : Cert.algebraic_MergeIdeal_MergeRefIdeal := by
  intro m g m' g' _ hagree
  refine ⟨fun c => Cert.MergeIdeal.Hand.dua m c, fun c => Cert.MergeIdeal.Hand.duh m c, fun c => Cert.MergeIdeal.Hand.dgates m c, ?_, ?_⟩
  · refine (θ_run _ _ _).mono (fun r h c => ?_) (θ_run_and (Cert.MergeIdeal.Hand.unchanged m g) (Cert.MergeIdeal.Hand.run m g))
    obtain ⟨a, b, d⟩ := Cert.MergeIdeal.Hand.results m c r h.2.1
    exact ⟨a, b, d, h.1 c⟩
  · refine (θ_run _ _ _).mono (fun r h c => ?_) (Cert.MergeRefIdeal.Value.run m' g')
    obtain ⟨a, b, d, hu⟩ := h c
    obtain ⟨e0, e1, e2, e3, e4⟩ := hagree c
    rw [e0, e1, e2] at a b
    rw [e0, e1, e2, e3, e4] at d
    exact ⟨a, b, d, hu⟩

theorem frame_MergeIdeal : Cert.quiescent_MergeIdeal := fun m ρ _ =>
  θ_run_and (Cert.MergeIdeal.Hand.unchanged m ρ) ((θ_run _ _ _).mono (fun _ h => h.2) (Cert.MergeIdeal.Hand.run m ρ))
theorem frame_MergeRefIdeal : Cert.quiescent_MergeRefIdeal := fun m ρ _ =>
  (θ_run Cert.MergeRefIdeal.defs _ _).mono
    (fun r h => ⟨fun c => (h c).2.2.2, sem_eq_zero_of_no_sems (by decide) r.2⟩)
    (Cert.MergeRefIdeal.Value.run m ρ)

end Cert.Proof

end
-- ==== Proof.MergeFrame.lean ====
/- The frame of the kernel that carries the output projection's gradient back through the gated sum: every point runs
   over its staging buffers and keeps the inputs' blocks. What it leaves in the results' buffers is not said. -/
module

public import proofs.«01_k».proof.Proof.Gen.Merge.Frame
public import proofs.«01_k».proof.Proof.Gen.Merge.Skeleton
public import Idealize.ShloMosaic.Lib.Exec
public import Idealize.ShloMosaic.Lib.WritesUnit
public import Idealize.ShloMosaic.Lib.Pipeline.DatRel
public import Idealize.ShloMosaic.Lib.Pipeline.ValueKit
public import Idealize.ShloMosaic.Lib.Claim
public import proofs.«01_k».proof.Defs

@[expose] public section

set_option maxRecDepth 16384

noncomputable section

namespace Cert.Merge.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)
open Cert.Merge Cert.Merge.Gen

abbrev 𝓜 := MT nD τ sig Unit (Elt Bits) ℕ (UR sig nD τ) ℕ

variable (m : (ℓ : Loc nD τ sig) → Buf (Elt Bits) ℓ) (ρ : Dev nD → PrngReg)

/-- A point is of even number and stores the first chunk of each half of the third result's block, or of odd number and
    stores the second. -/
theorem one_chunk : ∀ t : Fin cfg0.N, (k0_cond1 (grid0.coords t) = 1#1 ∧ ¬k0_cond2 (grid0.coords t) = 1#1)
    ∨ (¬k0_cond1 (grid0.coords t) = 1#1 ∧ k0_cond2 (grid0.coords t) = 1#1) :=
  (by decide +kernel : ∀ t : Fin grid0.N, _)

/-- The inputs' buffers at `x0`, …, `x5`, the results' at anything. -/
abbrev holding (c : Dev nD)
    (a0 : Memref sig .tc .vmem S512x2048 .bf16) (a1 : Memref sig .tc .vmem S1024x2048 .bf16) (a2 : Memref sig .tc .vmem S512x1024 .f32) (a3 : Memref sig .tc .vmem S512x1024 .f32) (a4 : Memref sig .tc .vmem S512x1024 .bf16) (a5 : Memref sig .tc .vmem S512x1024 .bf16) (a6 : Memref sig .tc .vmem S512x1024 .bf16) (a7 : Memref sig .tc .vmem S512x1024 .bf16) (a8 : Memref sig .tc .vmem S512x4096 .bf16)
    (x0 : Vec Bits S512x2048 .bf16) (x1 : Vec Bits S1024x2048 .bf16) (x2 x3 : Vec Bits S512x1024 .f32) (x4 x5 : Vec Bits S512x1024 .bf16) : sProp 𝓜 :=
  iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ (∃ d, owns (c : Thread nD τ) a8 fullShare d))

set_option maxHeartbeats 1000000 in
/-- The body at a point of either kind: it ends, and the inputs' buffers are as they were. -/
theorem body_runs (c : Dev nD) (i : grid0.Coords)
    (a0 : Memref sig .tc .vmem S512x2048 .bf16) (h0 : a0.IsWhole)
    (a1 : Memref sig .tc .vmem S1024x2048 .bf16) (h1 : a1.IsWhole)
    (a2 : Memref sig .tc .vmem S512x1024 .f32) (h2 : a2.IsWhole)
    (a3 : Memref sig .tc .vmem S512x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S512x1024 .bf16) (h6 : a6.IsWhole)
    (a7 : Memref sig .tc .vmem S512x1024 .bf16) (h7 : a7.IsWhole)
    (a8 : Memref sig .tc .vmem S512x4096 .bf16) (h8 : a8.IsWhole)
    (hk : (k0_cond1 i = 1#1 ∧ ¬k0_cond2 i = 1#1) ∨ (¬k0_cond1 i = 1#1 ∧ k0_cond2 i = 1#1))
    (x0 : Vec Bits S512x2048 .bf16) (x1 : Vec Bits S1024x2048 .bf16) (x2 x3 : Vec Bits S512x1024 .f32) (x4 x5 : Vec Bits S512x1024 .bf16)
    (E : Set ℕ) (K : PUnit → sProp 𝓜) :
    iprop(holding c a0 a1 a2 a3 a4 a5 a6 a7 a8 x0 x1 x2 x3 x4 x5 ∗ (holding c a0 a1 a2 a3 a4 a5 a6 a7 a8 x0 x1 x2 x3 x4 x5 -∗ K ⟨⟩))
      ⊢ wp frame (wpE (defs₀ (F := Bits)) Variants.none c none) E (cc0_out_proj_dgrad_merge_bwd i a0 h0 a1 h1 a2 h2 a3 h3 a4 h4 a5 h5 a6 h6 a7 h7 a8 h8) K := by
  simp only [cc0_out_proj_dgrad_merge_bwd_eq_skeleton]; unfold cc0_out_proj_dgrad_merge_bwd_skel
  simp only [k0_part1_eq_skeleton]
  unfold holding owns
  rcases hk with ⟨hc, hd⟩ | ⟨hc, hd⟩
  all_goals
    iintro ⟨⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩⟩, Hk⟩
    sl_exec (disch := first | sl_exact hc | sl_exact hd)
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The pipeline's data: the arrays as the region finds them, each input's buffer at its block. -/
def dat (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ _ := Pipeline.ΦA spec0 c
  q w := Pipeline.shareOf spec0 w
  owed _ := 0

theorem dat_A (c : Dev nD) (w : Fin cfg0.W) : (dat m c).A w = V m c (Pipeline.arrRef spec0 w) := by
  dsimp only [dat]

/-- The windows of the results, -/
def marked : Fin cfg0.W → Bool := fun w => w.val == 6 || w.val == 7 || w.val == 8

/-- of which nothing is said. -/
abbrev free (w : Fin cfg0.W) (t : Fin cfg0.N) (X : (cfg0.win w).block.Idx → Elt Bits (cfg0.win w).elt) : Prop := True

/-- The windows' staging buffers at point `t`. -/
abbrev stg0 (t : Fin cfg0.N) : Memref sig .tc .vmem S512x2048 .bf16 := win0_0.stage (cfg0.slots t 0)
abbrev stg1 (t : Fin cfg0.N) : Memref sig .tc .vmem S1024x2048 .bf16 := win0_1.stage (cfg0.slots t 1)
abbrev stg2 (t : Fin cfg0.N) : Memref sig .tc .vmem S512x1024 .f32 := win0_2.stage (cfg0.slots t 2)
abbrev stg3 (t : Fin cfg0.N) : Memref sig .tc .vmem S512x1024 .f32 := win0_3.stage (cfg0.slots t 3)
abbrev stg4 (t : Fin cfg0.N) : Memref sig .tc .vmem S512x1024 .bf16 := win0_4.stage (cfg0.slots t 4)
abbrev stg5 (t : Fin cfg0.N) : Memref sig .tc .vmem S512x1024 .bf16 := win0_5.stage (cfg0.slots t 5)
abbrev stg6 (t : Fin cfg0.N) : Memref sig .tc .vmem S512x1024 .bf16 := win0_6.stage (cfg0.slots t 6)
abbrev stg7 (t : Fin cfg0.N) : Memref sig .tc .vmem S512x1024 .bf16 := win0_7.stage (cfg0.slots t 7)
abbrev stg8 (t : Fin cfg0.N) : Memref sig .tc .vmem S512x4096 .bf16 := win0_8.stage (cfg0.slots t 8)

/-- What the body is called with at point `t`, window by window, -/
def pre (c : Dev nD) (t : Fin cfg0.N) : sProp 𝓜 :=
  iprop((dat m c).Φ t.castSucc ∗ (dat m c).owesAt () t.castSucc
    ∗ (∃ d, owns (c : Thread nD τ) (stg0 t) fullShare ((dat m c).before 0 t d))
    ∗ (∃ d, owns (c : Thread nD τ) (stg1 t) fullShare ((dat m c).before 1 t d))
    ∗ (∃ d, owns (c : Thread nD τ) (stg2 t) fullShare ((dat m c).before 2 t d))
    ∗ (∃ d, owns (c : Thread nD τ) (stg3 t) fullShare ((dat m c).before 3 t d))
    ∗ (∃ d, owns (c : Thread nD τ) (stg4 t) fullShare ((dat m c).before 4 t d))
    ∗ (∃ d, owns (c : Thread nD τ) (stg5 t) fullShare ((dat m c).before 5 t d))
    ∗ (∃ Y, ⌜((dat m c).toRRel marked free).Finds 6 t Y⌝ ∗ owns (c : Thread nD τ) (stg6 t) fullShare Y)
    ∗ (∃ Y, ⌜((dat m c).toRRel marked free).Finds 7 t Y⌝ ∗ owns (c : Thread nD τ) (stg7 t) fullShare Y)
    ∗ (∃ Y, ⌜((dat m c).toRRel marked free).Finds 8 t Y⌝ ∗ owns (c : Thread nD τ) (stg8 t) fullShare Y))

/-- and what it returns. -/
def post (c : Dev nD) (t : Fin cfg0.N) : sProp 𝓜 :=
  iprop((dat m c).Φ t.castSucc ∗ (dat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ X, ⌜free 6 t X⌝ ∗ owns (c : Thread nD τ) (stg6 t) fullShare X)
    ∗ (∃ X, ⌜free 7 t X⌝ ∗ owns (c : Thread nD τ) (stg7 t) fullShare X)
    ∗ (∃ X, ⌜free 8 t X⌝ ∗ owns (c : Thread nD τ) (stg8 t) fullShare X))

/-- Each input's buffer holds its block. -/
theorem holds0 (c : Dev nD) (t : Fin cfg0.N) (d) : (dat m c).before 0 t d = iblk m c 0 t :=
  before0_0_of m (dat m c) (dat_A m c 0) (fun _ => by dsimp only [dat]) t d
theorem holds1 (c : Dev nD) (t : Fin cfg0.N) (d) : (dat m c).before 1 t d = iblk m c 1 t :=
  before0_1_of m (dat m c) (dat_A m c 1) (fun _ => by dsimp only [dat]) t d
theorem holds2 (c : Dev nD) (t : Fin cfg0.N) (d) : (dat m c).before 2 t d = iblk m c 2 t :=
  before0_2_of m (dat m c) (dat_A m c 2) (fun _ => by dsimp only [dat]) t d
theorem holds3 (c : Dev nD) (t : Fin cfg0.N) (d) : (dat m c).before 3 t d = iblk m c 3 t :=
  before0_3_of m (dat m c) (dat_A m c 3) (fun _ => by dsimp only [dat]) t d
theorem holds4 (c : Dev nD) (t : Fin cfg0.N) (d) : (dat m c).before 4 t d = iblk m c 4 t :=
  before0_4_of m (dat m c) (dat_A m c 4) (fun _ => by dsimp only [dat]) t d
theorem holds5 (c : Dev nD) (t : Fin cfg0.N) (d) : (dat m c).before 5 t d = iblk m c 5 t :=
  before0_5_of m (dat m c) (dat_A m c 5) (fun _ => by dsimp only [dat]) t d

/-- The body's triple at every point. -/
theorem sound (c : Dev nD) (t : Fin cfg0.N) :
    pre m c t ⊢ wp frame (wpE (defs₀ (F := Bits)) Variants.none c none) Set.univ (bodyAt0 t) (fun _ => post m c t) := by
  unfold pre post
  simp only [holds0, holds1, holds2, holds3, holds4, holds5]
  iintro ⟨HΦ, Ho, ⟨%d0, H0⟩, ⟨%d1, H1⟩, ⟨%d2, H2⟩, ⟨%d3, H3⟩, ⟨%d4, H4⟩, ⟨%d5, H5⟩, ⟨%x6, %k6, H6⟩, ⟨%x7, %k7, H7⟩, ⟨%x8, %k8, H8⟩⟩
  iapply (body_runs c (grid0.coords t) _ _ _ _ _ _ _ _ _ _ _ _ _ _ _ _ _ _ (one_chunk t) (iblk m c 0 t) (iblk m c 1 t) (iblk m c 2 t) (iblk m c 3 t) (iblk m c 4 t) (iblk m c 5 t) Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  iintro ⟨H0, H1, H2, H3, H4, H5, ⟨%y6, H6⟩, ⟨%y7, H7⟩, ⟨%y8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists y6; isplitr; swap; · iexact H6
    ipureintro; exact trivial
  isplitl [H7]
  · iexists y7; isplitr; swap; · iexact H7
    ipureintro; exact trivial
  iexists y8; isplitr; swap; · iexact H8
  ipureintro; exact trivial

/-- The body table's row at point `t`'s slots. -/
theorem row (t : Fin cfg0.N) : defs₀ (F := Bits) .tc cfg0.body (cfg0.bodyArgs t (cfg0.slots t)) = bodyAt0 t := by
  unfold defs₀; rw [Defs.onTc_tc]

/-- The body obligation, nothing said of the results' windows. -/
theorem obligation (c : Dev nD) :
    Pipeline.BodyObligationRel (dat m c) (defs₀ (F := Bits)) Variants.none () Set.univ marked free := fun t => by
  rw [bigSep_W0, bigSep_W0, row]
  exact triple_restated (sound m c t) rfl .rfl fun _ => .rfl

/-- The data of the launch. -/
abbrev data (c : Dev nD) : RDat τ (Elt Bits) Unit ℕ (UR sig nD τ) ℕ cfg0 c := (dat m c).toRRel marked free

set_option backward.isDefEq.respectTransparency.types false in
/-- The run: every final state has what the data say, and no semaphore left raised. -/
theorem run : θ_run defs (onTc (τ := τ) (main (F := Bits))) (s₀ m ρ)
    (fun r => RDat.FramePost (cfgs 0) (data m) (V m) r ∧ r.2.sem = fun _ => 0) :=
  RDat.θ_run_frame_track_shared (Q' := _) cfgs (0 : Fin 1) launch₀0 defs₀ Variants.none (data m) m ρ main
    (hbody := fun c => (obligation m c).toRRel) (hq := fun _ _ _ => rfl) (howed := fun _ _ => rfl) (V := V m)
    (hmain := hmain m Variants.none) (hA := dat_A m) (hin := fun _ => .rfl) (hout := fun _ => .rfl)

end Cert.Merge.Hand

namespace Cert.Proof

open Idealize.ShloMosaic Idealize.ShloMosaic.TcCoe Idealize.SL.Sem Idealize.ShloMosaic.Pipeline
open Cert.Merge Cert.Merge.Gen Cert.Merge.Hand

theorem frame_Merge : Cert.quiescent_Merge := fun m ρ _ =>
  (θ_run Cert.Merge.defs _ _).mono (fun _ h => ⟨fun c =>
    ⟨(RDat.FramePost.arr_in h.1 c 0 rfl).trans ((dat_A m c 0).trans (V_main_arg0 m c)),
      ((h.1 c).2 main_arg1 (Pipeline.mem_restRefs_of main_arg1 (by decide) (by decide))).trans (V_main_arg1 m c),
      (RDat.FramePost.arr_in h.1 c 3 rfl).trans ((dat_A m c 3).trans (V_main_arg2 m c)),
      (RDat.FramePost.arr_in h.1 c 4 rfl).trans ((dat_A m c 4).trans (V_main_arg3 m c)),
      (RDat.FramePost.arr_in h.1 c 5 rfl).trans ((dat_A m c 5).trans (V_main_arg4 m c))⟩, h.2⟩) (Cert.Merge.Hand.run m ρ)

end Cert.Proof

end
-- ==== Proof.AdamInValue.lean ====
/- The optimiser's step on a chip's shard of `w_in` (`adamw_w_in`): each block of the four results is that block of the reference's. -/
module

public import proofs.«01_k».proof.Proof.Gen.AdamInIdeal.Frame
public import proofs.«01_k».proof.Proof.Gen.AdamIn.Frame
public import proofs.«01_k».proof.Proof.Gen.AdamInRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamInIdeal.Hand

open Cert.AdamInIdeal Cert.AdamInIdeal.Gen

variable (m : (ℓ : Loc nD τ sig) → Buf (Elt Ideal) ℓ)

/-- The reference's first moment, from the gradient and the moment before. -/
abbrev MEAN (g m : FVec Ideal S2048x2688 .f32) : FVec Ideal S2048x2688 .f32 :=
  addf (mulf (broadcastInDim S2048x2688 ![] Cert.AdamInRefIdeal.Gen.bcast_S_S2048x2688 (constant Cert.AdamInRefIdeal.S_ .f32 0x3F666666#32)) m)
    (mulf (broadcastInDim S2048x2688 ![] Cert.AdamInRefIdeal.Gen.bcast_S_S2048x2688 (constant Cert.AdamInRefIdeal.S_ .f32 0x3DCCCCCD#32)) g)

/-- The reference's second moment. -/
abbrev SQUARE (g v : FVec Ideal S2048x2688 .f32) : FVec Ideal S2048x2688 .f32 :=
  addf (mulf (broadcastInDim S2048x2688 ![] Cert.AdamInRefIdeal.Gen.bcast_S_S2048x2688 (constant Cert.AdamInRefIdeal.S_ .f32 0x3F7FBE77#32)) v)
    (mulf (broadcastInDim S2048x2688 ![] Cert.AdamInRefIdeal.Gen.bcast_S_S2048x2688 (constant Cert.AdamInRefIdeal.S_ .f32 0x3A83126F#32)) (mulf g g))

/-- The reference's change of the weight. -/
abbrev CHANGE (w g m v : FVec Ideal S2048x2688 .f32) : FVec Ideal S2048x2688 .f32 :=
  mulf (broadcastInDim S2048x2688 ![] Cert.AdamInRefIdeal.Gen.bcast_S_S2048x2688 (constant Cert.AdamInRefIdeal.S_ .f32 0xBA83126F#32))
    (addf (Host.divf (Host.divf (MEAN g m) (broadcastInDim S2048x2688 ![] Cert.AdamInRefIdeal.Gen.bcast_S_S2048x2688 (constant Cert.AdamInRefIdeal.S_ .f32 0x3F26BD02#32)))
        (addf (Host.sqrt (Host.divf (SQUARE g v) (broadcastInDim S2048x2688 ![] Cert.AdamInRefIdeal.Gen.bcast_S_S2048x2688 (constant Cert.AdamInRefIdeal.S_ .f32 0x3C231ACC#32))))
          (broadcastInDim S2048x2688 ![] Cert.AdamInRefIdeal.Gen.bcast_S_S2048x2688 (constant Cert.AdamInRefIdeal.S_ .f32 0x322BCC77#32))))
      (mulf (broadcastInDim S2048x2688 ![] Cert.AdamInRefIdeal.Gen.bcast_S_S2048x2688 (constant Cert.AdamInRefIdeal.S_ .f32 0x3C23D70A#32)) w))

/-- Every window has the rows of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

theorem point_mean (c : Dev nD) (t : Fin cfg0.N) (y) : k0_pay1 (iblk m c 1 t) (iblk m c 2 t) y
    = MEAN (m ((c : Thread nD τ).loc main_arg1)) (m ((c : Thread nD τ).loc main_arg2)) (((cfg0.win 5).blk t).view.emb y) := by
  pointwise [k0_pay1, MEAN]
  blk_point [iblk, V, idx t]

theorem point_square (c : Dev nD) (t : Fin cfg0.N) (y) : k0_pay2 (iblk m c 1 t) (iblk m c 3 t) y
    = SQUARE (m ((c : Thread nD τ).loc main_arg1)) (m ((c : Thread nD τ).loc main_arg3)) (((cfg0.win 6).blk t).view.emb y) := by
  pointwise [k0_pay2, SQUARE]
  blk_point [iblk, V, idx t]

theorem point_change (c : Dev nD) (t : Fin cfg0.N) (y) : k0_pay3 (iblk m c 1 t) (iblk m c 2 t) (iblk m c 3 t) (iblk m c 0 t) y
    = CHANGE (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, CHANGE, MEAN, SQUARE]
  blk_point [iblk, V, idx t]

theorem point_grad (c : Dev nD) (t : Fin cfg0.N) (y) : iblk m c 1 t y = (m ((c : Thread nD τ).loc main_arg1)) (((cfg0.win 7).blk t).view.emb y) := by
  blk_point [iblk, V, idx t]

theorem final_change (c : Dev nD) : (dats m 0 c).arrAt 4 (cfgs 0).N = CHANGE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_change m c t y

theorem final_mean (c : Dev nD) : (dats m 0 c).arrAt 5 (cfgs 0).N = MEAN (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_mean m c t y

theorem final_square (c : Dev nD) : (dats m 0 c).arrAt 6 (cfgs 0).N = SQUARE (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_square m c t y

theorem final_grad (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  exact point_grad m c t y

end Cert.AdamInIdeal.Hand

namespace Cert.Proof

theorem value_AdamIn : Cert.algebraic_AdamInIdeal_AdamInRefIdeal := by
  pair_intro
  · run_from Cert.AdamInIdeal.Gen.run_main m g
  · hlo_run
    · exact (Cert.AdamInIdeal.Hand.final_change m c).symm
    · exact (Cert.AdamInIdeal.Hand.final_mean m c).symm
    · exact (Cert.AdamInIdeal.Hand.final_square m c).symm
    · exact (Cert.AdamInIdeal.Hand.final_grad m c).symm

theorem frame_AdamIn : Cert.quiescent_AdamIn := fun m ρ _ => Cert.AdamIn.Gen.frame m ρ
theorem frame_AdamInIdeal : Cert.quiescent_AdamInIdeal := fun m ρ _ => Cert.AdamInIdeal.Gen.frame m ρ
theorem frame_AdamInRefIdeal : Cert.quiescent_AdamInRefIdeal := by
  intro m g _
  hlo_run
  · simp
  · exact Idealize.ShloMosaic.sem_eq_zero_of_no_sems (by decide) _

end Cert.Proof

end
-- ==== Proof.AdamAttnValue.lean ====
/- The optimiser's step on a chip's shard of `w_branch_attn` (`adamw_w_branch_attn`): each block of the four results is that block of the reference's. -/
module

public import proofs.«01_k».proof.Proof.Gen.AdamAttnIdeal.Frame
public import proofs.«01_k».proof.Proof.Gen.AdamAttn.Frame
public import proofs.«01_k».proof.Proof.Gen.AdamAttnRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamAttnIdeal.Hand

open Cert.AdamAttnIdeal Cert.AdamAttnIdeal.Gen

variable (m : (ℓ : Loc nD τ sig) → Buf (Elt Ideal) ℓ)

/-- The reference's first moment, from the gradient and the moment before. -/
abbrev MEAN (g m : FVec Ideal S1024x512 .f32) : FVec Ideal S1024x512 .f32 :=
  addf (mulf (broadcastInDim S1024x512 ![] Cert.AdamAttnRefIdeal.Gen.bcast_S_S1024x512 (constant Cert.AdamAttnRefIdeal.S_ .f32 0x3F666666#32)) m)
    (mulf (broadcastInDim S1024x512 ![] Cert.AdamAttnRefIdeal.Gen.bcast_S_S1024x512 (constant Cert.AdamAttnRefIdeal.S_ .f32 0x3DCCCCCD#32)) g)

/-- The reference's second moment. -/
abbrev SQUARE (g v : FVec Ideal S1024x512 .f32) : FVec Ideal S1024x512 .f32 :=
  addf (mulf (broadcastInDim S1024x512 ![] Cert.AdamAttnRefIdeal.Gen.bcast_S_S1024x512 (constant Cert.AdamAttnRefIdeal.S_ .f32 0x3F7FBE77#32)) v)
    (mulf (broadcastInDim S1024x512 ![] Cert.AdamAttnRefIdeal.Gen.bcast_S_S1024x512 (constant Cert.AdamAttnRefIdeal.S_ .f32 0x3A83126F#32)) (mulf g g))

/-- The reference's change of the weight. -/
abbrev CHANGE (w g m v : FVec Ideal S1024x512 .f32) : FVec Ideal S1024x512 .f32 :=
  mulf (broadcastInDim S1024x512 ![] Cert.AdamAttnRefIdeal.Gen.bcast_S_S1024x512 (constant Cert.AdamAttnRefIdeal.S_ .f32 0xBA83126F#32))
    (addf (Host.divf (Host.divf (MEAN g m) (broadcastInDim S1024x512 ![] Cert.AdamAttnRefIdeal.Gen.bcast_S_S1024x512 (constant Cert.AdamAttnRefIdeal.S_ .f32 0x3F26BD02#32)))
        (addf (Host.sqrt (Host.divf (SQUARE g v) (broadcastInDim S1024x512 ![] Cert.AdamAttnRefIdeal.Gen.bcast_S_S1024x512 (constant Cert.AdamAttnRefIdeal.S_ .f32 0x3C231ACC#32))))
          (broadcastInDim S1024x512 ![] Cert.AdamAttnRefIdeal.Gen.bcast_S_S1024x512 (constant Cert.AdamAttnRefIdeal.S_ .f32 0x322BCC77#32))))
      (mulf (broadcastInDim S1024x512 ![] Cert.AdamAttnRefIdeal.Gen.bcast_S_S1024x512 (constant Cert.AdamAttnRefIdeal.S_ .f32 0x3C23D70A#32)) w))

/-- Every window has the rows of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

theorem point_mean (c : Dev nD) (t : Fin cfg0.N) (y) : k0_pay1 (iblk m c 1 t) (iblk m c 2 t) y
    = MEAN (m ((c : Thread nD τ).loc main_arg1)) (m ((c : Thread nD τ).loc main_arg2)) (((cfg0.win 5).blk t).view.emb y) := by
  pointwise [k0_pay1, MEAN]
  blk_point [iblk, V, idx t]

theorem point_square (c : Dev nD) (t : Fin cfg0.N) (y) : k0_pay2 (iblk m c 1 t) (iblk m c 3 t) y
    = SQUARE (m ((c : Thread nD τ).loc main_arg1)) (m ((c : Thread nD τ).loc main_arg3)) (((cfg0.win 6).blk t).view.emb y) := by
  pointwise [k0_pay2, SQUARE]
  blk_point [iblk, V, idx t]

theorem point_change (c : Dev nD) (t : Fin cfg0.N) (y) : k0_pay3 (iblk m c 1 t) (iblk m c 2 t) (iblk m c 3 t) (iblk m c 0 t) y
    = CHANGE (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, CHANGE, MEAN, SQUARE]
  blk_point [iblk, V, idx t]

theorem point_grad (c : Dev nD) (t : Fin cfg0.N) (y) : iblk m c 1 t y = (m ((c : Thread nD τ).loc main_arg1)) (((cfg0.win 7).blk t).view.emb y) := by
  blk_point [iblk, V, idx t]

theorem final_change (c : Dev nD) : (dats m 0 c).arrAt 4 (cfgs 0).N = CHANGE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_change m c t y

theorem final_mean (c : Dev nD) : (dats m 0 c).arrAt 5 (cfgs 0).N = MEAN (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_mean m c t y

theorem final_square (c : Dev nD) : (dats m 0 c).arrAt 6 (cfgs 0).N = SQUARE (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_square m c t y

theorem final_grad (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  exact point_grad m c t y

end Cert.AdamAttnIdeal.Hand

namespace Cert.Proof

theorem value_AdamAttn : Cert.algebraic_AdamAttnIdeal_AdamAttnRefIdeal := by
  pair_intro
  · run_from Cert.AdamAttnIdeal.Gen.run_main m g
  · hlo_run
    · exact (Cert.AdamAttnIdeal.Hand.final_change m c).symm
    · exact (Cert.AdamAttnIdeal.Hand.final_mean m c).symm
    · exact (Cert.AdamAttnIdeal.Hand.final_square m c).symm
    · exact (Cert.AdamAttnIdeal.Hand.final_grad m c).symm

theorem frame_AdamAttn : Cert.quiescent_AdamAttn := fun m ρ _ => Cert.AdamAttn.Gen.frame m ρ
theorem frame_AdamAttnIdeal : Cert.quiescent_AdamAttnIdeal := fun m ρ _ => Cert.AdamAttnIdeal.Gen.frame m ρ
theorem frame_AdamAttnRefIdeal : Cert.quiescent_AdamAttnRefIdeal := by
  intro m g _
  hlo_run
  · simp
  · exact Idealize.ShloMosaic.sem_eq_zero_of_no_sems (by decide) _

end Cert.Proof

end
-- ==== Proof.AdamHgrnValue.lean ====
/- The optimiser's step on a chip's shard of `w_branch_hgrn` (`adamw_w_branch_hgrn`): each block of the four results is that block of the reference's. -/
module

public import proofs.«01_k».proof.Proof.Gen.AdamHgrnIdeal.Frame
public import proofs.«01_k».proof.Proof.Gen.AdamHgrn.Frame
public import proofs.«01_k».proof.Proof.Gen.AdamHgrnRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamHgrnIdeal.Hand

open Cert.AdamHgrnIdeal Cert.AdamHgrnIdeal.Gen

variable (m : (ℓ : Loc nD τ sig) → Buf (Elt Ideal) ℓ)

/-- The reference's first moment, from the gradient and the moment before. -/
abbrev MEAN (g m : FVec Ideal S1024x512 .f32) : FVec Ideal S1024x512 .f32 :=
  addf (mulf (broadcastInDim S1024x512 ![] Cert.AdamHgrnRefIdeal.Gen.bcast_S_S1024x512 (constant Cert.AdamHgrnRefIdeal.S_ .f32 0x3F666666#32)) m)
    (mulf (broadcastInDim S1024x512 ![] Cert.AdamHgrnRefIdeal.Gen.bcast_S_S1024x512 (constant Cert.AdamHgrnRefIdeal.S_ .f32 0x3DCCCCCD#32)) g)

/-- The reference's second moment. -/
abbrev SQUARE (g v : FVec Ideal S1024x512 .f32) : FVec Ideal S1024x512 .f32 :=
  addf (mulf (broadcastInDim S1024x512 ![] Cert.AdamHgrnRefIdeal.Gen.bcast_S_S1024x512 (constant Cert.AdamHgrnRefIdeal.S_ .f32 0x3F7FBE77#32)) v)
    (mulf (broadcastInDim S1024x512 ![] Cert.AdamHgrnRefIdeal.Gen.bcast_S_S1024x512 (constant Cert.AdamHgrnRefIdeal.S_ .f32 0x3A83126F#32)) (mulf g g))

/-- The reference's change of the weight. -/
abbrev CHANGE (w g m v : FVec Ideal S1024x512 .f32) : FVec Ideal S1024x512 .f32 :=
  mulf (broadcastInDim S1024x512 ![] Cert.AdamHgrnRefIdeal.Gen.bcast_S_S1024x512 (constant Cert.AdamHgrnRefIdeal.S_ .f32 0xBA83126F#32))
    (addf (Host.divf (Host.divf (MEAN g m) (broadcastInDim S1024x512 ![] Cert.AdamHgrnRefIdeal.Gen.bcast_S_S1024x512 (constant Cert.AdamHgrnRefIdeal.S_ .f32 0x3F26BD02#32)))
        (addf (Host.sqrt (Host.divf (SQUARE g v) (broadcastInDim S1024x512 ![] Cert.AdamHgrnRefIdeal.Gen.bcast_S_S1024x512 (constant Cert.AdamHgrnRefIdeal.S_ .f32 0x3C231ACC#32))))
          (broadcastInDim S1024x512 ![] Cert.AdamHgrnRefIdeal.Gen.bcast_S_S1024x512 (constant Cert.AdamHgrnRefIdeal.S_ .f32 0x322BCC77#32))))
      (mulf (broadcastInDim S1024x512 ![] Cert.AdamHgrnRefIdeal.Gen.bcast_S_S1024x512 (constant Cert.AdamHgrnRefIdeal.S_ .f32 0x3C23D70A#32)) w))

/-- Every window has the rows of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

theorem point_mean (c : Dev nD) (t : Fin cfg0.N) (y) : k0_pay1 (iblk m c 1 t) (iblk m c 2 t) y
    = MEAN (m ((c : Thread nD τ).loc main_arg1)) (m ((c : Thread nD τ).loc main_arg2)) (((cfg0.win 5).blk t).view.emb y) := by
  pointwise [k0_pay1, MEAN]
  blk_point [iblk, V, idx t]

theorem point_square (c : Dev nD) (t : Fin cfg0.N) (y) : k0_pay2 (iblk m c 1 t) (iblk m c 3 t) y
    = SQUARE (m ((c : Thread nD τ).loc main_arg1)) (m ((c : Thread nD τ).loc main_arg3)) (((cfg0.win 6).blk t).view.emb y) := by
  pointwise [k0_pay2, SQUARE]
  blk_point [iblk, V, idx t]

theorem point_change (c : Dev nD) (t : Fin cfg0.N) (y) : k0_pay3 (iblk m c 1 t) (iblk m c 2 t) (iblk m c 3 t) (iblk m c 0 t) y
    = CHANGE (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, CHANGE, MEAN, SQUARE]
  blk_point [iblk, V, idx t]

theorem point_grad (c : Dev nD) (t : Fin cfg0.N) (y) : iblk m c 1 t y = (m ((c : Thread nD τ).loc main_arg1)) (((cfg0.win 7).blk t).view.emb y) := by
  blk_point [iblk, V, idx t]

theorem final_change (c : Dev nD) : (dats m 0 c).arrAt 4 (cfgs 0).N = CHANGE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_change m c t y

theorem final_mean (c : Dev nD) : (dats m 0 c).arrAt 5 (cfgs 0).N = MEAN (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_mean m c t y

theorem final_square (c : Dev nD) : (dats m 0 c).arrAt 6 (cfgs 0).N = SQUARE (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_square m c t y

theorem final_grad (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  exact point_grad m c t y

end Cert.AdamHgrnIdeal.Hand

namespace Cert.Proof

theorem value_AdamHgrn : Cert.algebraic_AdamHgrnIdeal_AdamHgrnRefIdeal := by
  pair_intro
  · run_from Cert.AdamHgrnIdeal.Gen.run_main m g
  · hlo_run
    · exact (Cert.AdamHgrnIdeal.Hand.final_change m c).symm
    · exact (Cert.AdamHgrnIdeal.Hand.final_mean m c).symm
    · exact (Cert.AdamHgrnIdeal.Hand.final_square m c).symm
    · exact (Cert.AdamHgrnIdeal.Hand.final_grad m c).symm

theorem frame_AdamHgrn : Cert.quiescent_AdamHgrn := fun m ρ _ => Cert.AdamHgrn.Gen.frame m ρ
theorem frame_AdamHgrnIdeal : Cert.quiescent_AdamHgrnIdeal := fun m ρ _ => Cert.AdamHgrnIdeal.Gen.frame m ρ
theorem frame_AdamHgrnRefIdeal : Cert.quiescent_AdamHgrnRefIdeal := by
  intro m g _
  hlo_run
  · simp
  · exact Idealize.ShloMosaic.sem_eq_zero_of_no_sems (by decide) _

end Cert.Proof

end
-- ==== Proof.AdamOutValue.lean ====
/- The optimiser's step on a chip's shard of `w_out` (`adamw_w_out`): each block of the four results is that block of the reference's. -/
module

public import proofs.«01_k».proof.Proof.Gen.AdamOutIdeal.Frame
public import proofs.«01_k».proof.Proof.Gen.AdamOut.Frame
public import proofs.«01_k».proof.Proof.Gen.AdamOutRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamOutIdeal.Hand

open Cert.AdamOutIdeal Cert.AdamOutIdeal.Gen

variable (m : (ℓ : Loc nD τ sig) → Buf (Elt Ideal) ℓ)

/-- The reference's first moment, from the gradient and the moment before. -/
abbrev MEAN (g m : FVec Ideal S512x2048 .f32) : FVec Ideal S512x2048 .f32 :=
  addf (mulf (broadcastInDim S512x2048 ![] Cert.AdamOutRefIdeal.Gen.bcast_S_S512x2048 (constant Cert.AdamOutRefIdeal.S_ .f32 0x3F666666#32)) m)
    (mulf (broadcastInDim S512x2048 ![] Cert.AdamOutRefIdeal.Gen.bcast_S_S512x2048 (constant Cert.AdamOutRefIdeal.S_ .f32 0x3DCCCCCD#32)) g)

/-- The reference's second moment. -/
abbrev SQUARE (g v : FVec Ideal S512x2048 .f32) : FVec Ideal S512x2048 .f32 :=
  addf (mulf (broadcastInDim S512x2048 ![] Cert.AdamOutRefIdeal.Gen.bcast_S_S512x2048 (constant Cert.AdamOutRefIdeal.S_ .f32 0x3F7FBE77#32)) v)
    (mulf (broadcastInDim S512x2048 ![] Cert.AdamOutRefIdeal.Gen.bcast_S_S512x2048 (constant Cert.AdamOutRefIdeal.S_ .f32 0x3A83126F#32)) (mulf g g))

/-- The reference's change of the weight. -/
abbrev CHANGE (w g m v : FVec Ideal S512x2048 .f32) : FVec Ideal S512x2048 .f32 :=
  mulf (broadcastInDim S512x2048 ![] Cert.AdamOutRefIdeal.Gen.bcast_S_S512x2048 (constant Cert.AdamOutRefIdeal.S_ .f32 0xBA83126F#32))
    (addf (Host.divf (Host.divf (MEAN g m) (broadcastInDim S512x2048 ![] Cert.AdamOutRefIdeal.Gen.bcast_S_S512x2048 (constant Cert.AdamOutRefIdeal.S_ .f32 0x3F26BD02#32)))
        (addf (Host.sqrt (Host.divf (SQUARE g v) (broadcastInDim S512x2048 ![] Cert.AdamOutRefIdeal.Gen.bcast_S_S512x2048 (constant Cert.AdamOutRefIdeal.S_ .f32 0x3C231ACC#32))))
          (broadcastInDim S512x2048 ![] Cert.AdamOutRefIdeal.Gen.bcast_S_S512x2048 (constant Cert.AdamOutRefIdeal.S_ .f32 0x322BCC77#32))))
      (mulf (broadcastInDim S512x2048 ![] Cert.AdamOutRefIdeal.Gen.bcast_S_S512x2048 (constant Cert.AdamOutRefIdeal.S_ .f32 0x3C23D70A#32)) w))

/-- Every window has the rows of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

theorem point_mean (c : Dev nD) (t : Fin cfg0.N) (y) : k0_pay1 (iblk m c 1 t) (iblk m c 2 t) y
    = MEAN (m ((c : Thread nD τ).loc main_arg1)) (m ((c : Thread nD τ).loc main_arg2)) (((cfg0.win 5).blk t).view.emb y) := by
  pointwise [k0_pay1, MEAN]
  blk_point [iblk, V, idx t]

theorem point_square (c : Dev nD) (t : Fin cfg0.N) (y) : k0_pay2 (iblk m c 1 t) (iblk m c 3 t) y
    = SQUARE (m ((c : Thread nD τ).loc main_arg1)) (m ((c : Thread nD τ).loc main_arg3)) (((cfg0.win 6).blk t).view.emb y) := by
  pointwise [k0_pay2, SQUARE]
  blk_point [iblk, V, idx t]

theorem point_change (c : Dev nD) (t : Fin cfg0.N) (y) : k0_pay3 (iblk m c 1 t) (iblk m c 2 t) (iblk m c 3 t) (iblk m c 0 t) y
    = CHANGE (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, CHANGE, MEAN, SQUARE]
  blk_point [iblk, V, idx t]

theorem point_grad (c : Dev nD) (t : Fin cfg0.N) (y) : iblk m c 1 t y = (m ((c : Thread nD τ).loc main_arg1)) (((cfg0.win 7).blk t).view.emb y) := by
  blk_point [iblk, V, idx t]

theorem final_change (c : Dev nD) : (dats m 0 c).arrAt 4 (cfgs 0).N = CHANGE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_change m c t y

theorem final_mean (c : Dev nD) : (dats m 0 c).arrAt 5 (cfgs 0).N = MEAN (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_mean m c t y

theorem final_square (c : Dev nD) : (dats m 0 c).arrAt 6 (cfgs 0).N = SQUARE (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_square m c t y

theorem final_grad (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  exact point_grad m c t y

end Cert.AdamOutIdeal.Hand

namespace Cert.Proof

theorem value_AdamOut : Cert.algebraic_AdamOutIdeal_AdamOutRefIdeal := by
  pair_intro
  · run_from Cert.AdamOutIdeal.Gen.run_main m g
  · hlo_run
    · exact (Cert.AdamOutIdeal.Hand.final_change m c).symm
    · exact (Cert.AdamOutIdeal.Hand.final_mean m c).symm
    · exact (Cert.AdamOutIdeal.Hand.final_square m c).symm
    · exact (Cert.AdamOutIdeal.Hand.final_grad m c).symm

theorem frame_AdamOut : Cert.quiescent_AdamOut := fun m ρ _ => Cert.AdamOut.Gen.frame m ρ
theorem frame_AdamOutIdeal : Cert.quiescent_AdamOutIdeal := fun m ρ _ => Cert.AdamOutIdeal.Gen.frame m ρ
theorem frame_AdamOutRefIdeal : Cert.quiescent_AdamOutRefIdeal := by
  intro m g _
  hlo_run
  · simp
  · exact Idealize.ShloMosaic.sem_eq_zero_of_no_sems (by decide) _

end Cert.Proof

end
-- ==== Proof.AdamSmallValue.lean ====
/- The optimiser's step on the packed small weights (`adamw_small`): each block of the four results is that block of the reference's. -/
module

public import proofs.«01_k».proof.Proof.Gen.AdamSmallIdeal.Frame
public import proofs.«01_k».proof.Proof.Gen.AdamSmall.Frame
public import proofs.«01_k».proof.Proof.Gen.AdamSmallRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamSmallIdeal.Hand

open Cert.AdamSmallIdeal Cert.AdamSmallIdeal.Gen

variable (m : (ℓ : Loc nD τ sig) → Buf (Elt Ideal) ℓ)

/-- The reference's first moment, from the gradient and the moment before. -/
abbrev MEAN (g m : FVec Ideal S72x128 .f32) : FVec Ideal S72x128 .f32 :=
  addf (mulf (broadcastInDim S72x128 ![] Cert.AdamSmallRefIdeal.Gen.bcast_S_S72x128 (constant Cert.AdamSmallRefIdeal.S_ .f32 0x3F666666#32)) m)
    (mulf (broadcastInDim S72x128 ![] Cert.AdamSmallRefIdeal.Gen.bcast_S_S72x128 (constant Cert.AdamSmallRefIdeal.S_ .f32 0x3DCCCCCD#32)) g)

/-- The reference's second moment. -/
abbrev SQUARE (g v : FVec Ideal S72x128 .f32) : FVec Ideal S72x128 .f32 :=
  addf (mulf (broadcastInDim S72x128 ![] Cert.AdamSmallRefIdeal.Gen.bcast_S_S72x128 (constant Cert.AdamSmallRefIdeal.S_ .f32 0x3F7FBE77#32)) v)
    (mulf (broadcastInDim S72x128 ![] Cert.AdamSmallRefIdeal.Gen.bcast_S_S72x128 (constant Cert.AdamSmallRefIdeal.S_ .f32 0x3A83126F#32)) (mulf g g))

/-- The reference's change of the weight. -/
abbrev CHANGE (w g m v : FVec Ideal S72x128 .f32) : FVec Ideal S72x128 .f32 :=
  mulf (broadcastInDim S72x128 ![] Cert.AdamSmallRefIdeal.Gen.bcast_S_S72x128 (constant Cert.AdamSmallRefIdeal.S_ .f32 0xBA83126F#32))
    (addf (Host.divf (Host.divf (MEAN g m) (broadcastInDim S72x128 ![] Cert.AdamSmallRefIdeal.Gen.bcast_S_S72x128 (constant Cert.AdamSmallRefIdeal.S_ .f32 0x3F26BD02#32)))
        (addf (Host.sqrt (Host.divf (SQUARE g v) (broadcastInDim S72x128 ![] Cert.AdamSmallRefIdeal.Gen.bcast_S_S72x128 (constant Cert.AdamSmallRefIdeal.S_ .f32 0x3C231ACC#32))))
          (broadcastInDim S72x128 ![] Cert.AdamSmallRefIdeal.Gen.bcast_S_S72x128 (constant Cert.AdamSmallRefIdeal.S_ .f32 0x322BCC77#32))))
      (mulf (broadcastInDim S72x128 ![] Cert.AdamSmallRefIdeal.Gen.bcast_S_S72x128 (constant Cert.AdamSmallRefIdeal.S_ .f32 0x3C23D70A#32)) w))

/-- Every window has the rows of point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

theorem point_mean (c : Dev nD) (t : Fin cfg0.N) (y) : k0_pay1 (iblk m c 1 t) (iblk m c 2 t) y
    = MEAN (m ((c : Thread nD τ).loc main_arg1)) (m ((c : Thread nD τ).loc main_arg2)) (((cfg0.win 5).blk t).view.emb y) := by
  pointwise [k0_pay1, MEAN]
  blk_point [iblk, V, idx t]

theorem point_square (c : Dev nD) (t : Fin cfg0.N) (y) : k0_pay2 (iblk m c 1 t) (iblk m c 3 t) y
    = SQUARE (m ((c : Thread nD τ).loc main_arg1)) (m ((c : Thread nD τ).loc main_arg3)) (((cfg0.win 6).blk t).view.emb y) := by
  pointwise [k0_pay2, SQUARE]
  blk_point [iblk, V, idx t]

theorem point_change (c : Dev nD) (t : Fin cfg0.N) (y) : k0_pay3 (iblk m c 1 t) (iblk m c 2 t) (iblk m c 3 t) (iblk m c 0 t) y
    = CHANGE (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, CHANGE, MEAN, SQUARE]
  blk_point [iblk, V, idx t]

theorem point_grad (c : Dev nD) (t : Fin cfg0.N) (y) : iblk m c 1 t y = (m ((c : Thread nD τ).loc main_arg1)) (((cfg0.win 7).blk t).view.emb y) := by
  blk_point [iblk, V, idx t]

theorem final_change (c : Dev nD) : (dats m 0 c).arrAt 4 (cfgs 0).N = CHANGE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_change m c t y

theorem final_mean (c : Dev nD) : (dats m 0 c).arrAt 5 (cfgs 0).N = MEAN (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_mean m c t y

theorem final_square (c : Dev nD) : (dats m 0 c).arrAt 6 (cfgs 0).N = SQUARE (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_square m c t y

theorem final_grad (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  exact point_grad m c t y

end Cert.AdamSmallIdeal.Hand

namespace Cert.Proof

theorem value_AdamSmall : Cert.algebraic_AdamSmallIdeal_AdamSmallRefIdeal := by
  pair_intro
  · run_from Cert.AdamSmallIdeal.Gen.run_main m g
  · hlo_run
    · exact (Cert.AdamSmallIdeal.Hand.final_change m c).symm
    · exact (Cert.AdamSmallIdeal.Hand.final_mean m c).symm
    · exact (Cert.AdamSmallIdeal.Hand.final_square m c).symm
    · exact (Cert.AdamSmallIdeal.Hand.final_grad m c).symm

theorem frame_AdamSmall : Cert.quiescent_AdamSmall := fun m ρ _ => Cert.AdamSmall.Gen.frame m ρ
theorem frame_AdamSmallIdeal : Cert.quiescent_AdamSmallIdeal := fun m ρ _ => Cert.AdamSmallIdeal.Gen.frame m ρ
theorem frame_AdamSmallRefIdeal : Cert.quiescent_AdamSmallRefIdeal := by
  intro m g _
  hlo_run
  · simp
  · exact Idealize.ShloMosaic.sem_eq_zero_of_no_sems (by decide) _

end Cert.Proof

end
-- ==== Proof.NormFwdValue.lean ====
/- The norm before the projection (`rmsnorm_pre_fwd`): the normed rows and each row's factor. -/
module

public import proofs.«01_k».proof.Proof.Gen.NormFwdIdeal.Frame
public import proofs.«01_k».proof.Proof.Gen.NormFwd.Frame
public import proofs.«01_k».proof.Proof.Gen.NormFwdRefIdeal
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormFwdIdeal.Hand

open Cert.NormFwdIdeal Cert.NormFwdIdeal.Gen

variable (m : (ℓ : Loc nD τ sig) → Buf (Elt Ideal) ℓ)

/-- The reference's factor of each row: one over the root of the mean of its squares. -/
abbrev FACTOR (x : FVec Ideal S4096x2048 .f32) : FVec Ideal S4096x1 .f32 :=
  Host.rsqrt (addf (Host.divf (broadcastInDim S4096x1 ![0] Cert.NormFwdRefIdeal.Gen.bcast_S4096_S4096x1_0
        (Host.reduceAdd (mulf x x) (constant Cert.NormFwdRefIdeal.S_ .f32 0x00000000#32) Cert.NormFwdRefIdeal.Gen.reducesTo_S4096x2048_S4096_d1 Cert.NormFwdRefIdeal.Gen.h_S_))
      (broadcastInDim S4096x1 ![] Cert.NormFwdRefIdeal.Gen.bcast_S_S4096x1 (constant Cert.NormFwdRefIdeal.S_ .f32 0x45000000#32)))
    (broadcastInDim S4096x1 ![] Cert.NormFwdRefIdeal.Gen.bcast_S_S4096x1 (constant Cert.NormFwdRefIdeal.S_ .f32 0x358637BD#32)))

/-- The reference's normed rows. -/
abbrev NORMED (x : FVec Ideal S4096x2048 .f32) (g : FVec Ideal S1x2048 .f32) : FVec Ideal S4096x2048 .bf16 :=
  truncf .bf16 (mulf (mulf x (broadcastInDim S4096x2048 ![0, 1] Cert.NormFwdRefIdeal.Gen.bcast_S4096x1_S4096x2048_0_1 (FACTOR x)))
    (broadcastInDim S4096x2048 ![0, 1] Cert.NormFwdRefIdeal.Gen.bcast_S1x2048_S4096x2048_0_1 g)) Cert.NormFwdRefIdeal.Gen.bitsLt_bf16_f32

/-- Which block each window has at point `t`. -/
theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

theorem point_factor (c : Dev nD) (t : Fin cfg0.N) (y) : k0_pay1 (iblk m c 0 t) y = FACTOR (m ((c : Thread nD τ).loc main_arg0)) (((cfg0.win 3).blk t).view.emb y) := by
  pointwise [k0_pay1, FACTOR]
  blk_point [iblk, V, idx t]

theorem point_normed (c : Dev nD) (t : Fin cfg0.N) (y) : k0_pay2 (iblk m c 0 t) (iblk m c 1 t) y
    = NORMED (m ((c : Thread nD τ).loc main_arg0)) (m ((c : Thread nD τ).loc main_arg1)) (((cfg0.win 2).blk t).view.emb y) := by
  pointwise [k0_pay1, k0_pay2, NORMED, FACTOR]
  blk_point [iblk, V, idx t]

theorem final_normed (c : Dev nD) : (dats m 0 c).arrAt 2 (cfgs 0).N = NORMED (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_normed m c t y

theorem final_factor (c : Dev nD) : (dats m 0 c).arrAt 3 (cfgs 0).N = FACTOR (m ((c : Thread nD τ).loc main_arg0)) := by
  refine (dats m 0 c).arrAt_eq_of_covers 3 _ (by decide +kernel) fun t _ y => ?_
  blk_simp
  rw [after0_3]; frame_out
  exact point_factor m c t y

end Cert.NormFwdIdeal.Hand

namespace Cert.Proof

theorem value_NormFwd : Cert.algebraic_NormFwdIdeal_NormFwdRefIdeal := by
  pair_intro
  · run_from Cert.NormFwdIdeal.Gen.run_main m g
  · hlo_run
    · exact (Cert.NormFwdIdeal.Hand.final_normed m c).symm
    · exact (Cert.NormFwdIdeal.Hand.final_factor m c).symm

theorem frame_NormFwd : Cert.quiescent_NormFwd := fun m ρ _ => Cert.NormFwd.Gen.frame m ρ
theorem frame_NormFwdIdeal : Cert.quiescent_NormFwdIdeal := fun m ρ _ => Cert.NormFwdIdeal.Gen.frame m ρ
theorem frame_NormFwdRefIdeal : Cert.quiescent_NormFwdRefIdeal := by
  intro m g _
  hlo_run
  · simp
  · exact Idealize.ShloMosaic.sem_eq_zero_of_no_sems (by decide) _

end Cert.Proof

end
-- ==== Proof.NormGrad.lean ====
/- The gradient of a root-mean-square norm over the extended reals: the form with the normed entries, which the calls
   compute, is the form that differentiating the norm gives. -/
module

public import Idealize.ShloMosaic.PureOps.Ideal

@[expose] public section

namespace Cert.Hand

open Idealize.ShloMosaic

/-- A factor that is a real and not negative goes into a sum. -/
theorem mul_sum_real {ι : Type} (s : Finset ι) (f : ι → EReal) {r : ℝ} (h : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr h) (EReal.coe_ne_top r), ih]

/-- Twice an extended real is it added to itself. -/
theorem add_self (a : EReal) : a + a = ((2 : ℝ) : EReal) * a := by
  induction a with
  | bot => rw [EReal.coe_mul_bot_of_pos (by norm_num)]; rfl
  | coe x => rw [← EReal.coe_add, ← EReal.coe_mul, two_mul]
  | top => rw [EReal.coe_mul_top_of_pos (by norm_num)]; rfl

/-- Division by a real that is not zero. -/
theorem div_real (a : EReal) {n : ℝ} (h : n ≠ 0) : Ideal.div a n = a * ((n⁻¹ : ℝ) : EReal) := by
  rw [Ideal.div, if_neg (by simpa using h), EReal.coe_inv]

/-- A square is not negative. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The sum of squares over a positive count, a positive number added: it is positive, and so a positive real or the top. -/
theorem mean_square_pos {ι : Type} (s : Finset ι) (x : ι → EReal) {n e : ℝ} (hn : 0 < n) (he : 0 < e) :
    0 < Ideal.div (∑ i ∈ s, x i * x i) n + e := by
  rw [div_real _ hn.ne']
  have h : (0 : EReal) ≤ (∑ i ∈ s, x i * x i) * ((n⁻¹ : ℝ) : EReal) :=
    mul_nonneg (Finset.sum_nonneg fun i _ => square_nonneg (x i)) (EReal.coe_nonneg.mpr (by positivity))
  exact lt_of_lt_of_le (EReal.coe_pos.mpr he) (le_add_of_nonneg_left h)

/-- The two forms of the gradient of a norm's argument: `v` is the mean square with the small number added, `a` the
    cotangent of the normed entries, `x` the entries. -/
theorem norm_grad {ι : Type} (s : Finset ι) (a x : ι → EReal) (k : ι) {v : EReal} {n h : ℝ} (hn : 0 < n) (hv : 0 < v)
    (hh : h = -(1 / 2)) :
    Ideal.rsqrt v * (a k - x k * Ideal.rsqrt v * Ideal.div (∑ i ∈ s, a i * (x i * Ideal.rsqrt v)) n)
    = a k * Ideal.rsqrt v + x k * Ideal.div ((∑ i ∈ s, x i * a i) * (h * Ideal.div (Ideal.rsqrt v) v)) n
        + Ideal.div ((∑ i ∈ s, x i * a i) * (h * Ideal.div (Ideal.rsqrt v) v)) n * x k := by
  rw [div_real _ hn.ne', div_real _ hn.ne']
  induction v with
  | bot => exact absurd hv (by simp)
  | top => simp [Ideal.div]
  | coe v =>
    have hv' : 0 < v := EReal.coe_pos.mp hv
    obtain ⟨r, hr, hr0, hrr⟩ : ∃ r : ℝ, Ideal.rsqrt v = r ∧ 0 ≤ r ∧ r * r = v⁻¹ := by
      refine ⟨(Real.sqrt v)⁻¹, ?_, by positivity, ?_⟩
      · rw [Ideal.rsqrt_coe, if_neg (not_lt.mpr hv'.le), if_neg hv'.ne']
      · rw [← mul_inv, Real.mul_self_sqrt hv'.le]
    rw [hr, div_real _ hv'.ne']
    have hS : ∑ i ∈ s, a i * (x i * (r : EReal)) = r * ∑ i ∈ s, x i * a i := by
      rw [mul_sum_real s _ hr0]
      exact Finset.sum_congr rfl fun i _ => by rw [← mul_assoc, mul_comm (a i) (x i), mul_comm]
    rw [hS]
    generalize ∑ i ∈ s, x i * a i = T
    rw [sub_eq_add_neg, EReal.left_distrib_of_nonneg_of_ne_top (EReal.coe_nonneg.mpr hr0) (EReal.coe_ne_top r),
      mul_comm (r : EReal) (a k), add_assoc]
    congr 1
    have e : T * ((h : EReal) * ((r : EReal) * ((v⁻¹ : ℝ) : EReal))) * ((n⁻¹ : ℝ) : EReal) = ((h * r * v⁻¹ * n⁻¹ : ℝ) : EReal) * T := by
      rw [mul_comm T, mul_assoc, mul_comm T, ← mul_assoc]
      congr 1
      push_cast
      simp only [mul_assoc]
    rw [e, mul_comm _ (x k), add_self, mul_neg]
    have e2 : (r : EReal) * (x k * r * (r * T * ((n⁻¹ : ℝ) : EReal))) = ((r * r * r * n⁻¹ : ℝ) : EReal) * (x k * T) := by
      push_cast
      ac_rfl
    have e3 : ((2 : ℝ) : EReal) * (x k * (((h * r * v⁻¹ * n⁻¹ : ℝ) : EReal) * T)) = ((2 * (h * r * v⁻¹ * n⁻¹) : ℝ) : EReal) * (x k * T) := by
      push_cast
      ac_rfl
    rw [e2, e3, ← EReal.neg_mul, ← EReal.coe_neg]
    congr 2
    rw [hh, ← hrr]
    ring

/-- The word of the row's length. -/
theorem word_length : Ideal.ofBits .f32 0x45000000#32 = ((2048 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The word of the number that the norm adds to the mean square is a positive real. -/
theorem word_small : ∃ e : ℝ, 0 < e ∧ Ideal.ofBits .f32 0x358637BD#32 = (e : EReal) := by
  refine ⟨_, ?_, by simp [Ideal.ofBits, Ideal.ieee, -EReal.coe_mul]; rfl⟩
  positivity

/-- One over the root of a row's mean square, the small number added. -/
noncomputable abbrev factor (x : Fin 2048 → EReal) : EReal :=
  Ideal.rsqrt (Ideal.div (∑ j, x j * x j) (Ideal.ofBits .f32 0x45000000#32) + Ideal.ofBits .f32 0x358637BD#32)

/-- The cotangent of a row's mean square, from the cotangent `a` of the normed entries. -/
noncomputable abbrev through (a x : Fin 2048 → EReal) : EReal :=
  Ideal.div ((∑ j, x j * a j) * (Ideal.ofBits .f32 0xBF000000#32 * Ideal.div (factor x)
    (Ideal.div (∑ j, x j * x j) (Ideal.ofBits .f32 0x45000000#32) + Ideal.ofBits .f32 0x358637BD#32))) (Ideal.ofBits .f32 0x45000000#32)

/-- The two forms of a row's gradient, with the words of the constants. -/
theorem row_grad (a x : Fin 2048 → EReal) (k : Fin 2048) :
    a k * factor x + x k * through a x + through a x * x k
    = factor x * (a k - x k * factor x * Ideal.div (∑ j, a j * (x j * factor x)) (Ideal.ofBits .f32 0x45000000#32)) := by
  obtain ⟨e, he, hw⟩ := word_small
  unfold through factor
  rw [word_length, word_neg_half, hw]
  exact (norm_grad Finset.univ a x k (by norm_num) (mean_square_pos Finset.univ x (by norm_num) he) rfl).symm

end Cert.Hand
-- ==== Proof.NormBwdValue.lean ====
/- The backward of the norm before the projection (`rmsnorm_pre_bwd`): the gradients of the tokens and of the gain. -/
module

public import proofs.«01_k».proof.Proof.Gen.NormBwdIdeal.Frame
public import proofs.«01_k».proof.Proof.Gen.NormBwd.Frame
public import proofs.«01_k».proof.Proof.Gen.NormBwdRefIdeal
public import proofs.«01_k».proof.Proof.NormGrad
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormBwdIdeal.Hand

open Cert.NormBwdIdeal Cert.NormBwdIdeal.Gen

variable (m : (ℓ : Loc nD τ sig) → Buf (Elt Ideal) ℓ)

/-- The mean of the squares of each row, and the small number. -/
abbrev SQUARES (x : FVec Ideal S4096x2048 .f32) : FVec Ideal S4096x1 .f32 :=
  addf (Host.divf (broadcastInDim S4096x1 ![0] Cert.NormBwdRefIdeal.Gen.bcast_S4096_S4096x1_0
      (Host.reduceAdd (mulf x x) (constant Cert.NormBwdRefIdeal.S_ .f32 0x00000000#32) Cert.NormBwdRefIdeal.Gen.reducesTo_S4096x2048_S4096_d1 Cert.NormBwdRefIdeal.Gen.h_S_)) (broadcastInDim S4096x1 ![] Cert.NormBwdRefIdeal.Gen.bcast_S_S4096x1 (constant Cert.NormBwdRefIdeal.S_ .f32 0x45000000#32)))
    (broadcastInDim S4096x1 ![] Cert.NormBwdRefIdeal.Gen.bcast_S_S4096x1 (constant Cert.NormBwdRefIdeal.S_ .f32 0x358637BD#32))

/-- The cotangent of the normed entries. -/
abbrev COT (dh : FVec Ideal S4096x2048 .bf16) (g : FVec Ideal S1x2048 .f32) : FVec Ideal S4096x2048 .f32 :=
  mulf (extf .f32 dh Cert.NormBwdRefIdeal.Gen.bitsLt_bf16_f32) (broadcastInDim S4096x2048 ![0, 1] Cert.NormBwdRefIdeal.Gen.bcast_S1x2048_S4096x2048_0_1 g)

/-- The cotangent of each row's mean of squares, in every column. -/
abbrev THROUGH (dh : FVec Ideal S4096x2048 .bf16) (x : FVec Ideal S4096x2048 .f32) (g : FVec Ideal S1x2048 .f32) :
    FVec Ideal S4096x2048 .f32 :=
  broadcastInDim S4096x2048 ![0] Cert.NormBwdRefIdeal.Gen.bcast_S4096_S4096x2048_0
    (Host.reduceAdd (Host.divf (mulf
        (shapeCast S4096x1 (Host.reduceAdd (mulf x (COT dh g)) (constant Cert.NormBwdRefIdeal.S_ .f32 0x00000000#32) Cert.NormBwdRefIdeal.Gen.reducesTo_S4096x2048_S4096_d1 Cert.NormBwdRefIdeal.Gen.h_S_) Cert.NormBwdRefIdeal.Gen.shapeCasts_S4096_S4096x1)
        (mulf (broadcastInDim S4096x1 ![] Cert.NormBwdRefIdeal.Gen.bcast_S_S4096x1 (constant Cert.NormBwdRefIdeal.S_ .f32 0xBF000000#32)) (Host.divf (Host.rsqrt (SQUARES x)) (SQUARES x))))
      (broadcastInDim S4096x1 ![] Cert.NormBwdRefIdeal.Gen.bcast_S_S4096x1 (constant Cert.NormBwdRefIdeal.S_ .f32 0x45000000#32))) (constant Cert.NormBwdRefIdeal.S_ .f32 0x00000000#32) Cert.NormBwdRefIdeal.Gen.reducesTo_S4096x1_S4096_d1 Cert.NormBwdRefIdeal.Gen.h_S_)

/-- The reference's gradient of the tokens. -/
abbrev GRAD (dh : FVec Ideal S4096x2048 .bf16) (x : FVec Ideal S4096x2048 .f32) (g : FVec Ideal S1x2048 .f32)
    (dout : FVec Ideal S4096x2048 .f32) : FVec Ideal S4096x2048 .f32 :=
  addf (addf (addf dout (mulf (COT dh g) (broadcastInDim S4096x2048 ![0, 1] Cert.NormBwdRefIdeal.Gen.bcast_S4096x1_S4096x2048_0_1 (Host.rsqrt (SQUARES x)))))
    (mulf x (THROUGH dh x g))) (mulf (THROUGH dh x g) x)

/-- The reference's gradient of the gain. -/
abbrev GAIN (dh : FVec Ideal S4096x2048 .bf16) (x : FVec Ideal S4096x2048 .f32) : FVec Ideal S1x2048 .f32 :=
  shapeCast S1x2048 (Host.reduceAdd (mulf (mulf x (broadcastInDim S4096x2048 ![0, 1] Cert.NormBwdRefIdeal.Gen.bcast_S4096x1_S4096x2048_0_1 (Host.rsqrt (SQUARES x))))
    (extf .f32 dh Cert.NormBwdRefIdeal.Gen.bitsLt_bf16_f32)) (constant Cert.NormBwdRefIdeal.S_ .f32 0x00000000#32) Cert.NormBwdRefIdeal.Gen.reducesTo_S4096x2048_S2048_d0 Cert.NormBwdRefIdeal.Gen.h_S_) Cert.NormBwdRefIdeal.Gen.shapeCasts_S2048_S1x2048

/-- The factor of row `p`. -/
abbrev row_factor (x : FVec Ideal S4096x2048 .f32) (p : Fin 4096) : EReal :=
  Ideal.rsqrt (Ideal.div (∑ j : Fin 2048, x (ix2 p j) * x (ix2 p j)) (Ideal.ofBits .f32 0x45000000#32) + Ideal.ofBits .f32 0x358637BD#32)

/-- The factor of each row as the host computes it. -/
theorem rows_factor (c : Dev nD) (z : S4096x1.Idx) : V m c main_v7 z = row_factor (m ((c : Thread nD τ).loc main_arg1)) (z 0) := by
  have h : V m c main_v7 = Host.rsqrt (SQUARES (m ((c : Thread nD τ).loc main_arg1))) := by
    simp [V]
    rfl
  rw [h]
  pointwise [SQUARES]

/-- Which block each window has at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- What every point stores of the tokens' gradient. -/
theorem stored (c : Dev nD) (t : Fin cfg0.N) : (outsAt0 m c t.val t.isLt).1
    = k0_pay4 (iblk m c 1 t) (iblk m c 2 t) (iblk m c 0 t) (iblk m c 3 t) (iblk m c 4 t) (iblk m c 2 t) := by
  by_cases h : t.val % 16 = 0
  · rw [outsAt0_A m c t h]
    frame_out
  · rw [outsAt0_B m c t h]
    frame_out

/-- The reference's gradient of the tokens in the normed entries. -/
theorem grad_apply (dh : FVec Ideal S4096x2048 .bf16) (x : FVec Ideal S4096x2048 .f32) (g : FVec Ideal S1x2048 .f32)
    (dout : FVec Ideal S4096x2048 .f32) (i : S4096x2048.Idx) : GRAD dh x g dout i
    = dout i + Cert.Hand.factor (fun j => x (ix2 (i 0) j)) * (dh i * g (ix2 0 (i 1)) - x i * Cert.Hand.factor (fun j => x (ix2 (i 0) j))
        * Ideal.div (∑ j, dh (ix2 (i 0) j) * g (ix2 0 j) * (x (ix2 (i 0) j) * Cert.Hand.factor (fun j => x (ix2 (i 0) j)))) (Ideal.ofBits .f32 0x45000000#32)) := by
  obtain ⟨p, q, rfl⟩ : ∃ (p : Fin 4096) (q : Fin 2048), i = ix2 p q := ⟨i 0, i 1, by funext a; fin_cases a <;> rfl⟩
  refine Eq.trans ?_ (congrArg (dout (ix2 p q) + ·) (Cert.Hand.row_grad (fun j => dh (ix2 p j) * g (ix2 0 j)) (fun j => x (ix2 p j)) q))
  pointwise [GRAD, COT, THROUGH, SQUARES]
  simp only [Finset.univ_unique, Finset.sum_singleton, add_assoc]

/-- The row's factor and the row lie in the same row of their arrays. -/
theorem same_row (t : Fin cfg0.N) (y : S256x2048.Idx) :
    ((win0_2.blk t).view.emb (ix2 (y 0) 0) 0 : Fin 4096) = ((win0_5.blk t).view.emb y 0 : Fin 4096) := by
  apply Fin.ext
  simp [idx t]

/-- What point `t` stores is the reference's gradient there. -/
theorem point (c : Dev nD) (t : Fin cfg0.N) (y) :
    k0_pay4 (iblk m c 1 t) (iblk m c 2 t) (iblk m c 0 t) (iblk m c 3 t) (iblk m c 4 t) (iblk m c 2 t) y
    = GRAD (m ((c : Thread nD τ).loc main_arg0)) (m ((c : Thread nD τ).loc main_arg1)) (m ((c : Thread nD τ).loc main_arg2)) (m ((c : Thread nD τ).loc main_arg3)) (((cfg0.win 5).blk t).view.emb y) := by
  rw [grad_apply]
  pointwise [k0_pay2, k0_pay3, k0_pay4, Cert.Hand.factor]
  blk_point [iblk, rows_factor m c, row_factor, same_row t y, V, idx t]

/-- The gain's gradient after each point, over what the point before left. -/
theorem first (c : Dev nD) (t : Fin cfg0.N) (h : t.val % 16 = 0) : (outsAt0 m c t.val t.isLt).2
    = k0_pay5 (iblk m c 1 t) (iblk m c 2 t) (iblk m c 0 t) (k0_pay1 (F := Ideal)) := by
  rw [outsAt0_A m c t h]
  frame_out

theorem next (c : Dev nD) (t : Fin cfg0.N) (h : ¬t.val % 16 = 0) : (outsAt0 m c t.val t.isLt).2
    = k0_pay5 (iblk m c 1 t) (iblk m c 2 t) (iblk m c 0 t) (outsAt0 m c (t.val - 1) (Nat.lt_of_le_of_lt (Nat.sub_le _ _) t.isLt)).2 := by
  rw [outsAt0_B m c t h]
  frame_out

/-- The part of the gain's gradient from the rows of point `n`. -/
abbrev part (dh : FVec Ideal S4096x2048 .bf16) (x : FVec Ideal S4096x2048 .f32) (n : ℕ) (k : Fin 2048) : EReal :=
  if h : n < 16 then ∑ r : Fin 256, dh (ix2 ⟨n * 256 + r, by omega⟩ k)
      * (x (ix2 ⟨n * 256 + r, by omega⟩ k) * Cert.Hand.factor (fun j => x (ix2 ⟨n * 256 + r, by omega⟩ j)))
  else 0

theorem part_of (dh : FVec Ideal S4096x2048 .bf16) (x : FVec Ideal S4096x2048 .f32) (n : ℕ) (h : n < 16) (k : Fin 2048) :
    part dh x n k = ∑ r : Fin 256, dh (ix2 ⟨n * 256 + r, by omega⟩ k)
      * (x (ix2 ⟨n * 256 + r, by omega⟩ k) * Cert.Hand.factor (fun j => x (ix2 ⟨n * 256 + r, by omega⟩ j))) := dif_pos h

/-- The row of the factor of row `r` of point `t`. -/
theorem row_of (t : Fin cfg0.N) (r : Fin 256) (p : Fin 4096) (hp : p.val = t.val * 256 + r.val) :
    ((win0_2.blk t).view.emb (ix2 r (0 : Fin 1)) 0 : Fin 4096) = p := by
  apply Fin.ext
  rw [hp]
  simp [idx t]

/-- Point `t` adds its part. -/
theorem add (c : Dev nD) (t : Fin cfg0.N) (p : Vec Ideal S1x2048 .f32) (y) : k0_pay5 (iblk m c 1 t) (iblk m c 2 t) (iblk m c 0 t) p y
    = p y + part (m ((c : Thread nD τ).loc main_arg0)) (m ((c : Thread nD τ).loc main_arg1)) t.val (y 1) := by
  refine Eq.trans ?_ (congrArg (p y + ·) (part_of _ _ _ (lt_of_lt_of_eq t.isLt N_0) (y 1)).symm)
  pointwise [k0_pay2, k0_pay3, k0_pay5, Cert.Hand.factor]
  blk_point [iblk, rows_factor m c, row_factor, V, idx t]
  rw [row_of t x ⟨t.val * 256 + x.val, by omega⟩ rfl]

/-- After point `n` the gain's gradient is the sum of the parts so far. -/
theorem sum_so_far (c : Dev nD) (y : S1x2048.Idx) : ∀ (n : ℕ) (hn : n < cfg0.N), (outsAt0 m c n hn).2 y
    = ∑ i ∈ Finset.range (n + 1), part (m ((c : Thread nD τ).loc main_arg0)) (m ((c : Thread nD τ).loc main_arg1)) i (y 1)
  | 0, hn => by
    rw [first m c ⟨0, hn⟩ rfl, add]
    simp [k0_pay1, broadcast]
  | n + 1, hn => by
    have hN : n + 1 < 16 := lt_of_lt_of_eq hn N_0
    rw [next m c ⟨n + 1, hn⟩ (by dsimp only; omega), add, Finset.sum_range_succ]
    congr 1
    exact sum_so_far c y n _

/-- The parts of all points are the reference's gradient of the gain. -/
theorem gain (dh : FVec Ideal S4096x2048 .bf16) (x : FVec Ideal S4096x2048 .f32) (y) :
    ∑ i ∈ Finset.range 16, part dh x i (y 1) = GAIN dh x y := by
  rw [Finset.sum_range]
  pointwise [GAIN, SQUARES]
  refine Eq.trans ?_ (Fin.sum_mul_add_fin 16 256 _)
  refine Finset.sum_congr rfl fun n _ => ?_
  refine (part_of _ _ _ n.isLt (y 1)).trans ?_
  refine Finset.sum_congr rfl fun r _ => ?_
  rw [mul_comm]

theorem last : ∀ t : Fin cfg0.N, (cfg0.win 6).flush t = true → t.val = 15 :=
  (by decide +kernel : ∀ t : Fin grid0.N, _)

/-- The gradient of the tokens is the reference's. -/
theorem final_grad (c : Dev nD) : (dats m 0 c).arrAt 5 (cfgs 0).N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, stored m c t]
  exact point m c t y

/-- The gradient of the gain is the reference's. -/
theorem final_gain (c : Dev nD) : (dats m 0 c).arrAt 6 (cfgs 0).N = GAIN (m ((c : Thread nD τ).loc main_arg0)) (m ((c : Thread nD τ).loc main_arg1)) := by
  refine (dats m 0 c).arrAt_eq_of_covers 6 _ (by decide +kernel) fun t hf y => ?_
  blk_simp
  rw [after0_6, sum_so_far m c y t.val t.isLt, last t hf, gain]
  refine congrArg _ ?_
  funext a
  apply Fin.ext
  fin_cases a <;> simp [idx t]

end Cert.NormBwdIdeal.Hand

namespace Cert.Proof

theorem value_NormBwd : Cert.algebraic_NormBwdIdeal_NormBwdRefIdeal := by
  pair_intro
  · run_from Cert.NormBwdIdeal.Gen.run_main m g
  · hlo_run
    · exact (Cert.NormBwdIdeal.Hand.final_grad m c).symm
    · exact (Cert.NormBwdIdeal.Hand.final_gain m c).symm

theorem frame_NormBwd : Cert.quiescent_NormBwd := fun m ρ _ => Cert.NormBwd.Gen.frame m ρ
theorem frame_NormBwdIdeal : Cert.quiescent_NormBwdIdeal := fun m ρ _ => Cert.NormBwdIdeal.Gen.frame m ρ
theorem frame_NormBwdRefIdeal : Cert.quiescent_NormBwdRefIdeal := by
  intro m g _
  hlo_run
  · simp
  · exact Idealize.ShloMosaic.sem_eq_zero_of_no_sems (by decide) _

end Cert.Proof

end
-- ==== Proof.PostLossValue.lean ====
/- The norm after the projection and the loss (`post_norm_loss`): the loss of the tokens, and the gradients of the projected rows, of the
   tokens past the block and of the gain. -/
module

public import proofs.«01_k».proof.Proof.Gen.PostLossIdeal.Frame
public import proofs.«01_k».proof.Proof.Gen.PostLoss.Frame
public import proofs.«01_k».proof.Proof.Gen.PostLossRefIdeal
public import proofs.«01_k».proof.Proof.NormGrad
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PostLossIdeal.Hand

open Cert.PostLossIdeal Cert.PostLossIdeal.Gen

variable (m : (ℓ : Loc nD τ sig) → Buf (Elt Ideal) ℓ)

/-- The projected rows in f32. -/
abbrev RAISED (y : FVec Ideal S4096x2048 .bf16) : FVec Ideal S4096x2048 .f32 := extf .f32 y Cert.PostLossRefIdeal.Gen.bitsLt_bf16_f32

/-- The mean of the squares of each row, and the small number. -/
abbrev SQUARES (y : FVec Ideal S4096x2048 .bf16) : FVec Ideal Cert.PostLossRefIdeal.S4096x1 .f32 :=
  addf (Host.divf (broadcastInDim Cert.PostLossRefIdeal.S4096x1 ![0] Cert.PostLossRefIdeal.Gen.bcast_S4096_S4096x1_0
      (Host.reduceAdd (mulf (RAISED y) (RAISED y)) (constant Cert.PostLossRefIdeal.S_ .f32 0x00000000#32) Cert.PostLossRefIdeal.Gen.reducesTo_S4096x2048_S4096_d1 Cert.PostLossRefIdeal.Gen.h_S_)) (broadcastInDim Cert.PostLossRefIdeal.S4096x1 ![] Cert.PostLossRefIdeal.Gen.bcast_S_S4096x1 (constant Cert.PostLossRefIdeal.S_ .f32 0x45000000#32)))
    (broadcastInDim Cert.PostLossRefIdeal.S4096x1 ![] Cert.PostLossRefIdeal.Gen.bcast_S_S4096x1 (constant Cert.PostLossRefIdeal.S_ .f32 0x358637BD#32))

/-- The normed rows. -/
abbrev NORMED (y : FVec Ideal S4096x2048 .bf16) : FVec Ideal S4096x2048 .f32 :=
  mulf (RAISED y) (broadcastInDim S4096x2048 ![0, 1] Cert.PostLossRefIdeal.Gen.bcast_S4096x1_S4096x2048_0_1 (Host.rsqrt (SQUARES y)))

/-- How far the block's result is from the target. -/
abbrev ERR (y : FVec Ideal S4096x2048 .bf16) (x t : FVec Ideal S4096x2048 .f32) (g : FVec Ideal S1x2048 .f32) : FVec Ideal S4096x2048 .f32 :=
  subf (addf x (mulf (NORMED y) (broadcastInDim S4096x2048 ![0, 1] Cert.PostLossRefIdeal.Gen.bcast_S1x2048_S4096x2048_0_1 g))) t

/-- The loss of the tokens. -/
abbrev LOSS (y : FVec Ideal S4096x2048 .bf16) (x t : FVec Ideal S4096x2048 .f32) (g : FVec Ideal S1x2048 .f32) : FVec Ideal S1x1 .f32 :=
  shapeCast S1x1 (mulf (constant Cert.PostLossRefIdeal.S_ .f32 0x3F000000#32) (Host.reduceAdd (Host.divf (Host.reduceAdd (mulf (ERR y x t g) (ERR y x t g)) (constant Cert.PostLossRefIdeal.S_ .f32 0x00000000#32) Cert.PostLossRefIdeal.Gen.reducesTo_S4096x2048_S4096_d1 Cert.PostLossRefIdeal.Gen.h_S_)
    (broadcastInDim Cert.PostLossRefIdeal.S4096 ![] Cert.PostLossRefIdeal.Gen.bcast_S_S4096 (constant Cert.PostLossRefIdeal.S_ .f32 0x45000000#32))) (constant Cert.PostLossRefIdeal.S_ .f32 0x00000000#32) Cert.PostLossRefIdeal.Gen.reducesTo_S4096_S_d0 Cert.PostLossRefIdeal.Gen.h_S_)) Cert.PostLossRefIdeal.Gen.shapeCasts_S_S1x1

/-- The gradient of the tokens past the block. -/
abbrev PAST (y : FVec Ideal S4096x2048 .bf16) (x t : FVec Ideal S4096x2048 .f32) (g : FVec Ideal S1x2048 .f32) : FVec Ideal S4096x2048 .f32 :=
  mulf (broadcastInDim S4096x2048 ![0] Cert.PostLossRefIdeal.Gen.bcast_S4096_S4096x2048_0 (Host.divf (broadcastInDim Cert.PostLossRefIdeal.S4096 ![] Cert.PostLossRefIdeal.Gen.bcast_S_S4096 (mulf (constant Cert.PostLossRefIdeal.S_ .f32 0x3F000000#32) (constant Cert.PostLossRefIdeal.S_ .f32 0x3F800000#32)))
      (broadcastInDim Cert.PostLossRefIdeal.S4096 ![] Cert.PostLossRefIdeal.Gen.bcast_S_S4096 (constant Cert.PostLossRefIdeal.S_ .f32 0x45000000#32))))
    (mulf (broadcastInDim S4096x2048 ![] Cert.PostLossRefIdeal.Gen.bcast_S_S4096x2048 (constant Cert.PostLossRefIdeal.S_ .f32 0x40000000#32)) (ERR y x t g))

/-- The same gradient, the error over the length of the row. -/
abbrev SHARE (y : FVec Ideal S4096x2048 .bf16) (x t : FVec Ideal S4096x2048 .f32) (g : FVec Ideal S1x2048 .f32) : FVec Ideal S4096x2048 .f32 :=
  Host.divf (ERR y x t g) (broadcastInDim S4096x2048 ![] Cert.PostLossRefIdeal.Gen.bcast_S_S4096x2048 (constant Cert.PostLossRefIdeal.S_ .f32 0x45000000#32))

/-- The cotangent of each row's mean of squares, in every column. -/
abbrev THROUGH (y : FVec Ideal S4096x2048 .bf16) (a : FVec Ideal S4096x2048 .f32) : FVec Ideal S4096x2048 .f32 :=
  broadcastInDim S4096x2048 ![0] Cert.PostLossRefIdeal.Gen.bcast_S4096_S4096x2048_0
    (Host.reduceAdd (Host.divf (mulf
        (shapeCast Cert.PostLossRefIdeal.S4096x1 (Host.reduceAdd (mulf (RAISED y) a) (constant Cert.PostLossRefIdeal.S_ .f32 0x00000000#32) Cert.PostLossRefIdeal.Gen.reducesTo_S4096x2048_S4096_d1 Cert.PostLossRefIdeal.Gen.h_S_) Cert.PostLossRefIdeal.Gen.shapeCasts_S4096_S4096x1)
        (mulf (broadcastInDim Cert.PostLossRefIdeal.S4096x1 ![] Cert.PostLossRefIdeal.Gen.bcast_S_S4096x1 (constant Cert.PostLossRefIdeal.S_ .f32 0xBF000000#32)) (Host.divf (Host.rsqrt (SQUARES y)) (SQUARES y))))
      (broadcastInDim Cert.PostLossRefIdeal.S4096x1 ![] Cert.PostLossRefIdeal.Gen.bcast_S_S4096x1 (constant Cert.PostLossRefIdeal.S_ .f32 0x45000000#32))) (constant Cert.PostLossRefIdeal.S_ .f32 0x00000000#32) Cert.PostLossRefIdeal.Gen.reducesTo_S4096x1_S4096_d1 Cert.PostLossRefIdeal.Gen.h_S_)

/-- The gradient of the projected rows, from the gradient of the tokens past the block. -/
abbrev GRAD (y : FVec Ideal S4096x2048 .bf16) (a : FVec Ideal S4096x2048 .f32) : FVec Ideal S4096x2048 .bf16 :=
  truncf .bf16 (addf (addf (mulf a (broadcastInDim S4096x2048 ![0, 1] Cert.PostLossRefIdeal.Gen.bcast_S4096x1_S4096x2048_0_1 (Host.rsqrt (SQUARES y))))
    (mulf (RAISED y) (THROUGH y a))) (mulf (THROUGH y a) (RAISED y))) Cert.PostLossRefIdeal.Gen.bitsLt_bf16_f32

/-- The cotangent of the normed rows. -/
abbrev COT (d : FVec Ideal S4096x2048 .f32) (g : FVec Ideal S1x2048 .f32) : FVec Ideal S4096x2048 .f32 :=
  mulf d (broadcastInDim S4096x2048 ![0, 1] Cert.PostLossRefIdeal.Gen.bcast_S1x2048_S4096x2048_0_1 g)

/-- The gradient of the gain. -/
abbrev GAIN (y : FVec Ideal S4096x2048 .bf16) (d : FVec Ideal S4096x2048 .f32) : FVec Ideal S1x2048 .f32 :=
  shapeCast S1x2048 (Host.reduceAdd (mulf (NORMED y) d) (constant Cert.PostLossRefIdeal.S_ .f32 0x00000000#32) Cert.PostLossRefIdeal.Gen.reducesTo_S4096x2048_S2048_d0 Cert.PostLossRefIdeal.Gen.h_S_) Cert.PostLossRefIdeal.Gen.shapeCasts_S2048_S1x2048

/-- The word of one half. -/
theorem word_half : Ideal.ofBits .f32 0x3F000000#32 = ((1 / 2 : ℝ) : EReal) := by
  simp [Ideal.ofBits, Ideal.ieee, -EReal.coe_mul]; norm_num

/-- Half of one over the row's length, times twice a number, is that number over the length. -/
theorem half_twice (e : EReal) :
    Ideal.div (Ideal.ofBits .f32 0x3F000000#32) (Ideal.ofBits .f32 0x45000000#32)
      * (Ideal.ofBits .f32 0x40000000#32 * e) = Ideal.div e (Ideal.ofBits .f32 0x45000000#32) := by
  have h2 : Ideal.ofBits .f32 0x40000000#32 = ((2 : ℝ) : EReal) := by
    simp [Ideal.ofBits, Ideal.ieee, -EReal.coe_mul]; norm_num
  rw [word_half, h2, Cert.Hand.word_length, Cert.Hand.div_real _ (by norm_num), Cert.Hand.div_real _ (by norm_num),
    ← EReal.coe_mul, ← mul_assoc, ← EReal.coe_mul, mul_comm e]
  congr 2
  norm_num

/-- The two forms of the gradient of the tokens past the block. -/
theorem past_eq (y : FVec Ideal S4096x2048 .bf16) (x t : FVec Ideal S4096x2048 .f32) (g : FVec Ideal S1x2048 .f32) : PAST y x t g = SHARE y x t g := by
  funext i
  pointwise [PAST, SHARE]
  exact half_twice _

/-- An entry of the gradient of the projected rows, in the form with the normed entries. -/
theorem grad_apply (y : FVec Ideal S4096x2048 .bf16) (a : FVec Ideal S4096x2048 .f32) (i : S4096x2048.Idx) : GRAD y a i
    = Cert.Hand.factor (fun j => y (ix2 (i 0) j)) * (a i - y i * Cert.Hand.factor (fun j => y (ix2 (i 0) j))
      * Ideal.div (∑ j : Fin 2048, a (ix2 (i 0) j) * (y (ix2 (i 0) j) * Cert.Hand.factor (fun j => y (ix2 (i 0) j)))) (Ideal.ofBits .f32 0x45000000#32)) := by
  obtain ⟨p, q, rfl⟩ : ∃ (p : Fin 4096) (q : Fin 2048), i = ix2 p q := ⟨i 0, i 1, by funext a; fin_cases a <;> rfl⟩
  refine Eq.trans ?_ (Cert.Hand.row_grad (fun j => a (ix2 p j)) (fun j => y (ix2 p j)) q)
  pointwise [GRAD, THROUGH, SQUARES, RAISED]
  simp only [Finset.univ_unique, Finset.sum_singleton, add_assoc]

/-- Which block each window has at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] := (by decide +kernel : ∀ t : Fin grid0.N, _)

/-- What every point stores of the two gradients of the tokens. -/
theorem stored_grad (c : Dev nD) (t : Fin cfg0.N) : (outsAt0 m c t.val t.isLt).1
    = k0_pay3 (k0_pay7 (iblk m c 0 t)) (k0_pay8 (iblk m c 0 t)) (k0_pay9 (iblk m c 0 t) (iblk m c 1 t) (iblk m c 3 t) (iblk m c 2 t)) (Scalar.ofBits (F := Ideal) .f32 0x45000000#32) (iblk m c 3 t) := by
  by_cases h : t.val % 16 = 0
  · rw [outsAt0_A m c t h]
    frame_out
  · rw [outsAt0_B m c t h]
    frame_out

theorem stored_past (c : Dev nD) (t : Fin cfg0.N) : (outsAt0 m c t.val t.isLt).2.1 = k0_pay1 (k0_pay9 (iblk m c 0 t) (iblk m c 1 t) (iblk m c 3 t) (iblk m c 2 t)) (Scalar.ofBits (F := Ideal) .f32 0x45000000#32) := by
  by_cases h : t.val % 16 = 0
  · rw [outsAt0_A m c t h]
    frame_out
  · rw [outsAt0_B m c t h]
    frame_out

/-- The loss and the gain's gradient after each point, over what the point before left. -/
theorem first_loss (c : Dev nD) (t : Fin cfg0.N) (h : t.val % 16 = 0) : (outsAt0 m c t.val t.isLt).2.2.1
    = k0_pay10 (iblk m c 0 t) (iblk m c 1 t) (iblk m c 3 t) (iblk m c 2 t) (k0_pay5 (F := Ideal)) := by
  rw [outsAt0_A m c t h]
  frame_out

theorem next_loss (c : Dev nD) (t : Fin cfg0.N) (h : ¬t.val % 16 = 0) : (outsAt0 m c t.val t.isLt).2.2.1
    = k0_pay10 (iblk m c 0 t) (iblk m c 1 t) (iblk m c 3 t) (iblk m c 2 t) (outsAt0 m c (t.val - 1) (Nat.lt_of_le_of_lt (Nat.sub_le _ _) t.isLt)).2.2.1 := by
  rw [outsAt0_B m c t h]
  frame_out

theorem first_gain (c : Dev nD) (t : Fin cfg0.N) (h : t.val % 16 = 0) : (outsAt0 m c t.val t.isLt).2.2.2
    = k0_pay2 (k0_pay8 (iblk m c 0 t)) (k0_pay9 (iblk m c 0 t) (iblk m c 1 t) (iblk m c 3 t) (iblk m c 2 t)) (Scalar.ofBits (F := Ideal) .f32 0x45000000#32) (k0_pay4 (F := Ideal)) := by
  rw [outsAt0_A m c t h]
  frame_out

theorem next_gain (c : Dev nD) (t : Fin cfg0.N) (h : ¬t.val % 16 = 0) : (outsAt0 m c t.val t.isLt).2.2.2
    = k0_pay2 (k0_pay8 (iblk m c 0 t)) (k0_pay9 (iblk m c 0 t) (iblk m c 1 t) (iblk m c 3 t) (iblk m c 2 t)) (Scalar.ofBits (F := Ideal) .f32 0x45000000#32) (outsAt0 m c (t.val - 1) (Nat.lt_of_le_of_lt (Nat.sub_le _ _) t.isLt)).2.2.2 := by
  rw [outsAt0_B m c t h]
  frame_out

/-- What point `t` stores are the reference's gradients there. -/
theorem point_past (c : Dev nD) (t : Fin cfg0.N) (y) : k0_pay1 (k0_pay9 (iblk m c 0 t) (iblk m c 1 t) (iblk m c 3 t) (iblk m c 2 t)) (Scalar.ofBits (F := Ideal) .f32 0x45000000#32) y
    = SHARE (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay9, k0_pay8, k0_pay7, k0_pay6, SHARE, ERR, NORMED, SQUARES, RAISED]
  blk_point [iblk, V, idx t]

theorem point_grad (c : Dev nD) (t : Fin cfg0.N) (y) :
    k0_pay3 (k0_pay7 (iblk m c 0 t)) (k0_pay8 (iblk m c 0 t)) (k0_pay9 (iblk m c 0 t) (iblk m c 1 t) (iblk m c 3 t) (iblk m c 2 t)) (Scalar.ofBits (F := Ideal) .f32 0x45000000#32) (iblk m c 3 t) y
    = GRAD (m ((c : Thread nD τ).loc main_arg0)) (COT (SHARE (m ((c : Thread nD τ).loc main_arg0)) (m ((c : Thread nD τ).loc main_arg1)) (m ((c : Thread nD τ).loc main_arg2)) (m ((c : Thread nD τ).loc main_arg3))) (m ((c : Thread nD τ).loc main_arg3))) (((cfg0.win 4).blk t).view.emb y) := by
  rw [grad_apply]
  pointwise [k0_pay3, k0_pay1, k0_pay9, k0_pay8, k0_pay7, k0_pay6, COT, SHARE, ERR, NORMED, SQUARES, RAISED, Cert.Hand.factor]
  blk_point [iblk, V, idx t]

/-- The error of row `p` in column `j`. -/
abbrev err (y : FVec Ideal S4096x2048 .bf16) (x t : FVec Ideal S4096x2048 .f32) (g : FVec Ideal S1x2048 .f32) (p : Fin 4096) (j : Fin 2048) : EReal :=
  x (ix2 p j) + y (ix2 p j) * Cert.Hand.factor (fun j => y (ix2 p j)) * g (ix2 0 j) - t (ix2 p j)

/-- The mean of the squares of the error of row `p`. -/
abbrev row_loss (y : FVec Ideal S4096x2048 .bf16) (x t : FVec Ideal S4096x2048 .f32) (g : FVec Ideal S1x2048 .f32) (p : Fin 4096) : EReal :=
  Ideal.div (∑ j : Fin 2048, err y x t g p j * err y x t g p j) (Ideal.ofBits .f32 0x45000000#32)

/-- The part of the loss from the rows of point `n`. -/
abbrev part_loss (y : FVec Ideal S4096x2048 .bf16) (x t : FVec Ideal S4096x2048 .f32) (g : FVec Ideal S1x2048 .f32) (n : ℕ) : EReal :=
  if h : n < 16 then Ideal.ofBits .f32 0x3F000000#32 * ∑ r : Fin 256, row_loss y x t g ⟨n * 256 + r, by omega⟩ else 0

theorem part_loss_of (y : FVec Ideal S4096x2048 .bf16) (x t : FVec Ideal S4096x2048 .f32) (g : FVec Ideal S1x2048 .f32) (n : ℕ) (h : n < 16) : part_loss y x t g n
    = Ideal.ofBits .f32 0x3F000000#32 * ∑ r : Fin 256, row_loss y x t g ⟨n * 256 + r, by omega⟩ := dif_pos h

/-- The part of the gain's gradient from the rows of point `n`. -/
abbrev part_gain (y : FVec Ideal S4096x2048 .bf16) (x t : FVec Ideal S4096x2048 .f32) (g : FVec Ideal S1x2048 .f32) (n : ℕ) (k : Fin 2048) : EReal :=
  if h : n < 16 then ∑ r : Fin 256, Ideal.div (err y x t g ⟨n * 256 + r, by omega⟩ k) (Ideal.ofBits .f32 0x45000000#32)
      * (y (ix2 ⟨n * 256 + r, by omega⟩ k) * Cert.Hand.factor (fun j => y (ix2 ⟨n * 256 + r, by omega⟩ j)))
  else 0

theorem part_gain_of (y : FVec Ideal S4096x2048 .bf16) (x t : FVec Ideal S4096x2048 .f32) (g : FVec Ideal S1x2048 .f32) (n : ℕ) (h : n < 16) (k : Fin 2048) : part_gain y x t g n k
    = ∑ r : Fin 256, Ideal.div (err y x t g ⟨n * 256 + r, by omega⟩ k) (Ideal.ofBits .f32 0x45000000#32)
      * (y (ix2 ⟨n * 256 + r, by omega⟩ k) * Cert.Hand.factor (fun j => y (ix2 ⟨n * 256 + r, by omega⟩ j))) := dif_pos h

/-- Point `t` adds its parts. -/
theorem add_loss (c : Dev nD) (t : Fin cfg0.N) (p : Vec Ideal S1x1 .f32) (y) : k0_pay10 (iblk m c 0 t) (iblk m c 1 t) (iblk m c 3 t) (iblk m c 2 t) p y
    = p y + part_loss (m ((c : Thread nD τ).loc main_arg0)) (m ((c : Thread nD τ).loc main_arg1)) (m ((c : Thread nD τ).loc main_arg2)) (m ((c : Thread nD τ).loc main_arg3)) t.val := by
  refine Eq.trans ?_ (congrArg (p y + ·) (part_loss_of _ _ _ _ _ (lt_of_lt_of_eq t.isLt N_0)).symm)
  pointwise [k0_pay10, k0_pay9, k0_pay8, k0_pay7, k0_pay6, row_loss, err, Cert.Hand.factor]
  blk_point [iblk, V, idx t]

theorem add_gain (c : Dev nD) (t : Fin cfg0.N) (p : Vec Ideal S1x2048 .f32) (y) :
    k0_pay2 (k0_pay8 (iblk m c 0 t)) (k0_pay9 (iblk m c 0 t) (iblk m c 1 t) (iblk m c 3 t) (iblk m c 2 t)) (Scalar.ofBits (F := Ideal) .f32 0x45000000#32) p y = p y + part_gain (m ((c : Thread nD τ).loc main_arg0)) (m ((c : Thread nD τ).loc main_arg1)) (m ((c : Thread nD τ).loc main_arg2)) (m ((c : Thread nD τ).loc main_arg3)) t.val (y 1) := by
  refine Eq.trans ?_ (congrArg (p y + ·) (part_gain_of _ _ _ _ _ (lt_of_lt_of_eq t.isLt N_0) (y 1)).symm)
  pointwise [k0_pay2, k0_pay1, k0_pay9, k0_pay8, k0_pay7, k0_pay6, err, Cert.Hand.factor]
  blk_point [iblk, V, idx t]

/-- After point `n` the loss and the gain's gradient are the sums of the parts so far. -/
theorem loss_so_far (c : Dev nD) (y : S1x1.Idx) : ∀ (n : ℕ) (hn : n < cfg0.N), (outsAt0 m c n hn).2.2.1 y
    = ∑ i ∈ Finset.range (n + 1), part_loss (m ((c : Thread nD τ).loc main_arg0)) (m ((c : Thread nD τ).loc main_arg1)) (m ((c : Thread nD τ).loc main_arg2)) (m ((c : Thread nD τ).loc main_arg3)) i
  | 0, hn => by
    rw [first_loss m c ⟨0, hn⟩ rfl, add_loss]
    simp [k0_pay5, broadcast]
  | n + 1, hn => by
    have hN : n + 1 < 16 := lt_of_lt_of_eq hn N_0
    rw [next_loss m c ⟨n + 1, hn⟩ (by dsimp only; omega), add_loss, Finset.sum_range_succ]
    congr 1
    exact loss_so_far c y n _

theorem gain_so_far (c : Dev nD) (y : S1x2048.Idx) : ∀ (n : ℕ) (hn : n < cfg0.N), (outsAt0 m c n hn).2.2.2 y
    = ∑ i ∈ Finset.range (n + 1), part_gain (m ((c : Thread nD τ).loc main_arg0)) (m ((c : Thread nD τ).loc main_arg1)) (m ((c : Thread nD τ).loc main_arg2)) (m ((c : Thread nD τ).loc main_arg3)) i (y 1)
  | 0, hn => by
    rw [first_gain m c ⟨0, hn⟩ rfl, add_gain]
    simp [k0_pay4, broadcast]
  | n + 1, hn => by
    have hN : n + 1 < 16 := lt_of_lt_of_eq hn N_0
    rw [next_gain m c ⟨n + 1, hn⟩ (by dsimp only; omega), add_gain, Finset.sum_range_succ]
    congr 1
    exact gain_so_far c y n _

/-- The parts of all points are the reference's loss and gradient of the gain. -/
theorem loss (y : FVec Ideal S4096x2048 .bf16) (x t : FVec Ideal S4096x2048 .f32) (g : FVec Ideal S1x2048 .f32) (i) : ∑ n ∈ Finset.range 16, part_loss y x t g n = LOSS y x t g i := by
  rw [Finset.sum_range]
  refine (Finset.sum_congr rfl fun n _ => part_loss_of y x t g n.val n.isLt).trans ?_
  rw [word_half, ← Cert.Hand.mul_sum_real _ _ (by norm_num), ← word_half]
  refine (congrArg (Ideal.ofBits .f32 0x3F000000#32 * ·) (Fin.sum_mul_add_fin 16 256 (row_loss y x t g))).trans ?_
  pointwise [LOSS, ERR, NORMED, SQUARES, RAISED, row_loss, err, Cert.Hand.factor]

theorem gain (y : FVec Ideal S4096x2048 .bf16) (x t : FVec Ideal S4096x2048 .f32) (g : FVec Ideal S1x2048 .f32) (i) : ∑ n ∈ Finset.range 16, part_gain y x t g n (i 1) = GAIN y (SHARE y x t g) i := by
  rw [Finset.sum_range]
  pointwise [GAIN, SHARE, ERR, NORMED, SQUARES, RAISED]
  refine Eq.trans ?_ (Fin.sum_mul_add_fin 16 256 _)
  refine Finset.sum_congr rfl fun n _ => ?_
  refine (part_gain_of _ _ _ _ _ n.isLt (i 1)).trans ?_
  refine Finset.sum_congr rfl fun r _ => ?_
  rw [mul_comm]

theorem last_loss : ∀ t : Fin cfg0.N, (cfg0.win 6).flush t = true → t.val = 15 :=
  (by decide +kernel : ∀ t : Fin grid0.N, _)

theorem last_gain : ∀ t : Fin cfg0.N, (cfg0.win 7).flush t = true → t.val = 15 :=
  (by decide +kernel : ∀ t : Fin grid0.N, _)

/-- The four results are the reference's. -/
theorem final_grad (c : Dev nD) : (dats m 0 c).arrAt 4 (cfgs 0).N = GRAD (m ((c : Thread nD τ).loc main_arg0)) (COT (PAST (m ((c : Thread nD τ).loc main_arg0)) (m ((c : Thread nD τ).loc main_arg1)) (m ((c : Thread nD τ).loc main_arg2)) (m ((c : Thread nD τ).loc main_arg3))) (m ((c : Thread nD τ).loc main_arg3))) := by
  refine (dats m 0 c).arrAt_eq_of_covers 4 _ (by decide +kernel) fun t _ y => ?_
  blk_simp
  rw [after0_4, stored_grad m c t, past_eq]
  exact point_grad m c t y

theorem final_past (c : Dev nD) : (dats m 0 c).arrAt 5 (cfgs 0).N = PAST (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, stored_past m c t, past_eq]
  exact point_past m c t y

theorem final_loss (c : Dev nD) : (dats m 0 c).arrAt 6 (cfgs 0).N = LOSS (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, loss_so_far m c y t.val t.isLt, last_loss t hf]
  exact loss _ _ _ _ _

theorem final_gain (c : Dev nD) : (dats m 0 c).arrAt 7 (cfgs 0).N = GAIN (m ((c : Thread nD τ).loc main_arg0)) (PAST (m ((c : Thread nD τ).loc main_arg0)) (m ((c : Thread nD τ).loc main_arg1)) (m ((c : Thread nD τ).loc main_arg2)) (m ((c : Thread nD τ).loc main_arg3))) := by
  refine (dats m 0 c).arrAt_eq_of_covers 7 _ (by decide +kernel) fun t hf y => ?_
  blk_simp
  rw [after0_7, gain_so_far m c y t.val t.isLt, last_gain t hf, gain, past_eq]
  refine congrArg _ ?_
  funext a
  apply Fin.ext
  fin_cases a <;> simp [idx t]

end Cert.PostLossIdeal.Hand

namespace Cert.Proof

set_option maxHeartbeats 4000000 in
theorem value_PostLoss : Cert.algebraic_PostLossIdeal_PostLossRefIdeal := by
  pair_intro
  · run_from Cert.PostLossIdeal.Gen.run_main m g
  · hlo_run
    · exact (Cert.PostLossIdeal.Hand.final_grad m c).symm
    · exact (Cert.PostLossIdeal.Hand.final_past m c).symm
    · exact (Cert.PostLossIdeal.Hand.final_loss m c).symm
    · exact (Cert.PostLossIdeal.Hand.final_gain m c).symm

theorem frame_PostLoss : Cert.quiescent_PostLoss := fun m ρ _ => Cert.PostLoss.Gen.frame m ρ
theorem frame_PostLossIdeal : Cert.quiescent_PostLossIdeal := fun m ρ _ => Cert.PostLossIdeal.Gen.frame m ρ
theorem frame_PostLossRefIdeal : Cert.quiescent_PostLossRefIdeal := by
  intro m g _
  hlo_run
  · simp
  · exact Idealize.ShloMosaic.sem_eq_zero_of_no_sems (by decide) _

end Cert.Proof

end
-- ==== Proof.SumIn0Value.lean ====
/- The first half of the rows of a chip's shard of a weight's gradient, summed over the devices: the device's own part, its
   sibling's, and the sums that the three other chips sent. Which shard and which half they are is read from a prefetched table,
   whose entries the host part fixes. -/
module

public import proofs.«01_k».proof.Proof.Gen.SumIn0Ideal.Frame
public import proofs.«01_k».proof.Proof.Gen.SumIn0.Frame
public import proofs.«01_k».proof.Proof.Gen.SumIn0RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumIn0.Hand

open Cert.SumIn0 Cert.SumIn0.Gen

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 (tbl m) i = ![0, (i 0 : ℕ), 0] := by
  unfold cc0_transform_0
  dsimp only
  rw [first]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumIn0.Hand

namespace Cert.SumIn0Ideal.Hand

open Cert.SumIn0Ideal Cert.SumIn0Ideal.Gen

section Table

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 (tbl m) i = ![0, (i 0 : ℕ), 0] := by
  unfold cc0_transform_0
  dsimp only
  rw [first]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x1024x2688 .bf16) (l : FVec Ideal S4x1024x2688 .bf16) (r : FVec Ideal S3x1024x2688 .bf16) : FVec Ideal Cert.SumIn0RefIdeal.S1024x2688 .f32 :=
  addf (addf (extf .f32 (shapeCast Cert.SumIn0RefIdeal.S1024x2688 (extractStridedSlice Cert.SumIn0RefIdeal.S1x1024x2688 ![0, 0, 0] g Cert.SumIn0RefIdeal.Gen.slices_S4x1024x2688_S1x1024x2688_0_0_0) Cert.SumIn0RefIdeal.Gen.shapeCasts_S1x1024x2688_S1024x2688) Cert.SumIn0RefIdeal.Gen.bitsLt_bf16_f32)
      (extf .f32 (shapeCast Cert.SumIn0RefIdeal.S1024x2688 (extractStridedSlice Cert.SumIn0RefIdeal.S1x1024x2688 ![0, 0, 0] l Cert.SumIn0RefIdeal.Gen.slices_S4x1024x2688_S1x1024x2688_0_0_0) Cert.SumIn0RefIdeal.Gen.shapeCasts_S1x1024x2688_S1024x2688) Cert.SumIn0RefIdeal.Gen.bitsLt_bf16_f32))
    (Host.reduceAdd (extf .f32 r Cert.SumIn0RefIdeal.Gen.bitsLt_bf16_f32) (constant Cert.SumIn0RefIdeal.S_ .f32 0x00000000#32) Cert.SumIn0RefIdeal.Gen.reducesTo_S3x1024x2688_S1024x2688_d0 Cert.SumIn0RefIdeal.Gen.h_S_)

/-- Its entry at row `j 0` and column `j 1`: five numbers added. -/
theorem sum_entry (g : FVec Ideal S4x1024x2688 .bf16) (l : FVec Ideal S4x1024x2688 .bf16) (r : FVec Ideal S3x1024x2688 .bf16) (j : Cert.SumIn0RefIdeal.S1024x2688.Idx) : SUM g l r j
    = g (ix3 0 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x1024x2688 .bf16) (l : FVec Ideal S4x1024x2688 .bf16) (r : FVec Ideal S3x1024x2688 .bf16) (p : FVec Ideal S2x1024x2688 .f32) : FVec Ideal S2x1024x2688 .f32 :=
  fun i => if (i 0 : ℕ) = 0 then SUM g l r (ix2 (i 1) (i 2)) else p i

theorem both_mine (g : FVec Ideal S4x1024x2688 .bf16) (l : FVec Ideal S4x1024x2688 .bf16) (r : FVec Ideal S3x1024x2688 .bf16) (p : FVec Ideal S2x1024x2688 .f32) (i : S2x1024x2688.Idx) (j : Cert.SumIn0RefIdeal.S1024x2688.Idx) (h : (i 0 : ℕ) = 0) (h0 : (i 1 : ℕ) = j 0)
    (h1 : (i 2 : ℕ) = j 1) : both g l r p i = SUM g l r j := by
  have e : (ix2 (i 1) (i 2) : Cert.SumIn0RefIdeal.S1024x2688.Idx) = j := by
    funext a
    match a with
    | 0 => exact Fin.ext h0
    | 1 => exact Fin.ext h1
  unfold both
  rw [if_pos h, e]

theorem both_kept (g : FVec Ideal S4x1024x2688 .bf16) (l : FVec Ideal S4x1024x2688 .bf16) (r : FVec Ideal S3x1024x2688 .bf16) (p : FVec Ideal S2x1024x2688 .f32) (i : S2x1024x2688.Idx) (h : (i 0 : ℕ) / 1 ≠ 0) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![0, t.val, 0] := (rows m (grid0.coords t)).trans (by rw [coord t])

/-- What the body computes at `y` from a block of each array: five numbers added. -/
theorem pay (a : Vec Ideal S1x256x2688 .bf16) (b p q s : Vec Ideal S1x256x2688 .bf16) (y : S1x256x2688.Idx) :
    k0_pay1 a b p q s y = a y + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 2688] inb_S3x256x2688_S1x256x2688_0_0_0))
      (View.ld (iblk m hO c 2 t) (Rect.unit ![1, 0, 0] ![1, 256, 2688] inb_S3x256x2688_S1x256x2688_1_0_0)) (View.ld (iblk m hO c 2 t) (Rect.unit ![2, 0, 0] ![1, 256, 2688] inb_S3x256x2688_S1x256x2688_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    iblk m hO c 0 t y = m ((c : Thread nD τ).loc main_arg0) (ix3 0 (j 0) (j 1)) := by
  blk_point [iblk, V, idx0 m hO t]

theorem block1 (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    View.ld (iblk m hO c 2 t) (Rect.unit ![0, 0, 0] ![1, 256, 2688] inb_S3x256x2688_S1x256x2688_0_0_0) y = m ((c : Thread nD τ).loc main_arg2) (ix3 0 (j 0) (j 1)) := by
  blk_point [iblk, V, idx2 m hO t]

theorem sent1 (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    View.ld (iblk m hO c 2 t) (Rect.unit ![1, 0, 0] ![1, 256, 2688] inb_S3x256x2688_S1x256x2688_1_0_0) y = m ((c : Thread nD τ).loc main_arg2) (ix3 1 (j 0) (j 1)) := by
  blk_point [iblk, V, idx2 m hO t]

theorem sent2 (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    View.ld (iblk m hO c 2 t) (Rect.unit ![2, 0, 0] ![1, 256, 2688] inb_S3x256x2688_S1x256x2688_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x2688.Idx) (j : Cert.SumIn0RefIdeal.S1024x2688.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x2688.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 4 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 0#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 0 := by
  subst e
  exact (by decide +kernel : ((cfg0 adm0).win 3).CoversWhere fun β => β (0 : Fin 3) = 0)

theorem covers (hO : Ok m) : ((cfgM m hO).win 3).CoversWhere fun β => β (0 : Fin 3) = 0 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 0) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 0 (j 0) (j 1)) j rfl rfl rfl)
  pointwise []

end Cert.SumIn0Ideal.Hand

namespace Cert.Proof

theorem value_SumIn0 : Cert.algebraic_SumIn0Ideal_SumIn0RefIdeal := by
  pair_intro
  case refine_1 => exact fun c => Cert.SumIn0Ideal.Hand.SUM (m (c.tc.loc Cert.SumIn0Ideal.main_arg0)) (m (c.tc.loc Cert.SumIn0Ideal.main_arg1)) (m (c.tc.loc Cert.SumIn0Ideal.main_arg2))
  · refine (θ_run _ _ _).mono (fun r h c => ?_)
      (θ_run_and (Cert.SumIn0Ideal.Gen.unchanged m g (Cert.SumIn0Ideal.Hand.ok m)) (Cert.SumIn0Ideal.Gen.run_main m g (Cert.SumIn0Ideal.Hand.ok m)))
    have e : r.2.mem (c.tc.loc Cert.SumIn0Ideal.main_v7) = Cert.SumIn0Ideal.Hand.SUM (m (c.tc.loc Cert.SumIn0Ideal.main_arg0)) (m (c.tc.loc Cert.SumIn0Ideal.main_arg1)) (m (c.tc.loc Cert.SumIn0Ideal.main_arg2)) :=
      ((h.2 c).2 Cert.SumIn0Ideal.main_v7 (by decide : Cert.SumIn0Ideal.main_v7 ∈ Pipeline.restRefs Cert.SumIn0Ideal.sig Cert.SumIn0Ideal.spec0)).trans (Cert.SumIn0Ideal.Hand.final m (Cert.SumIn0Ideal.Hand.ok m) c)
    exact ⟨e, h.1 c⟩
  · run_from Cert.SumIn0RefIdeal.Value.run m' g'

theorem frame_SumIn0 : Cert.quiescent_SumIn0 := fun m ρ _ => Cert.SumIn0.Gen.frame m ρ (Cert.SumIn0.Hand.ok m)
theorem frame_SumIn0Ideal : Cert.quiescent_SumIn0Ideal := fun m ρ _ => Cert.SumIn0Ideal.Gen.frame m ρ (Cert.SumIn0Ideal.Hand.ok m)
theorem frame_SumIn0RefIdeal : Cert.quiescent_SumIn0RefIdeal := fun m ρ _ =>
  (θ_run Cert.SumIn0RefIdeal.defs _ _).mono
    (fun r h => ⟨fun c => (h c).2, Idealize.ShloMosaic.sem_eq_zero_of_no_sems (by decide) r.2⟩)
    (Cert.SumIn0RefIdeal.Value.run m ρ)

end Cert.Proof

end
-- ==== Proof.SumIn1Value.lean ====
/- The second half of the rows of a chip's shard of a weight's gradient, summed over the devices: the device's own part, its
   sibling's, and the sums that the three other chips sent. Which shard and which half they are is read from a prefetched table,
   whose entries the host part fixes. -/
module

public import proofs.«01_k».proof.Proof.Gen.SumIn1Ideal.Frame
public import proofs.«01_k».proof.Proof.Gen.SumIn1.Frame
public import proofs.«01_k».proof.Proof.Gen.SumIn1RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumIn1.Hand

open Cert.SumIn1 Cert.SumIn1.Gen

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 (tbl m) i = ![0, (i 0 : ℕ), 0] := by
  unfold cc0_transform_0
  dsimp only
  rw [first]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumIn1.Hand

namespace Cert.SumIn1Ideal.Hand

open Cert.SumIn1Ideal Cert.SumIn1Ideal.Gen

section Table

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 (tbl m) i = ![0, (i 0 : ℕ), 0] := by
  unfold cc0_transform_0
  dsimp only
  rw [first]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x1024x2688 .bf16) (l : FVec Ideal S4x1024x2688 .bf16) (r : FVec Ideal S3x1024x2688 .bf16) : FVec Ideal Cert.SumIn1RefIdeal.S1024x2688 .f32 :=
  addf (addf (extf .f32 (shapeCast Cert.SumIn1RefIdeal.S1024x2688 (extractStridedSlice Cert.SumIn1RefIdeal.S1x1024x2688 ![0, 0, 0] g Cert.SumIn1RefIdeal.Gen.slices_S4x1024x2688_S1x1024x2688_0_0_0) Cert.SumIn1RefIdeal.Gen.shapeCasts_S1x1024x2688_S1024x2688) Cert.SumIn1RefIdeal.Gen.bitsLt_bf16_f32)
      (extf .f32 (shapeCast Cert.SumIn1RefIdeal.S1024x2688 (extractStridedSlice Cert.SumIn1RefIdeal.S1x1024x2688 ![0, 0, 0] l Cert.SumIn1RefIdeal.Gen.slices_S4x1024x2688_S1x1024x2688_0_0_0) Cert.SumIn1RefIdeal.Gen.shapeCasts_S1x1024x2688_S1024x2688) Cert.SumIn1RefIdeal.Gen.bitsLt_bf16_f32))
    (Host.reduceAdd (extf .f32 r Cert.SumIn1RefIdeal.Gen.bitsLt_bf16_f32) (constant Cert.SumIn1RefIdeal.S_ .f32 0x00000000#32) Cert.SumIn1RefIdeal.Gen.reducesTo_S3x1024x2688_S1024x2688_d0 Cert.SumIn1RefIdeal.Gen.h_S_)

/-- Its entry at row `j 0` and column `j 1`: five numbers added. -/
theorem sum_entry (g : FVec Ideal S4x1024x2688 .bf16) (l : FVec Ideal S4x1024x2688 .bf16) (r : FVec Ideal S3x1024x2688 .bf16) (j : Cert.SumIn1RefIdeal.S1024x2688.Idx) : SUM g l r j
    = g (ix3 0 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x1024x2688 .bf16) (l : FVec Ideal S4x1024x2688 .bf16) (r : FVec Ideal S3x1024x2688 .bf16) (p : FVec Ideal S2x1024x2688 .f32) : FVec Ideal S2x1024x2688 .f32 :=
  fun i => if (i 0 : ℕ) = 1 then SUM g l r (ix2 (i 1) (i 2)) else p i

theorem both_mine (g : FVec Ideal S4x1024x2688 .bf16) (l : FVec Ideal S4x1024x2688 .bf16) (r : FVec Ideal S3x1024x2688 .bf16) (p : FVec Ideal S2x1024x2688 .f32) (i : S2x1024x2688.Idx) (j : Cert.SumIn1RefIdeal.S1024x2688.Idx) (h : (i 0 : ℕ) = 1) (h0 : (i 1 : ℕ) = j 0)
    (h1 : (i 2 : ℕ) = j 1) : both g l r p i = SUM g l r j := by
  have e : (ix2 (i 1) (i 2) : Cert.SumIn1RefIdeal.S1024x2688.Idx) = j := by
    funext a
    match a with
    | 0 => exact Fin.ext h0
    | 1 => exact Fin.ext h1
  unfold both
  rw [if_pos h, e]

theorem both_kept (g : FVec Ideal S4x1024x2688 .bf16) (l : FVec Ideal S4x1024x2688 .bf16) (r : FVec Ideal S3x1024x2688 .bf16) (p : FVec Ideal S2x1024x2688 .f32) (i : S2x1024x2688.Idx) (h : (i 0 : ℕ) / 1 ≠ 1) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![1, t.val, 0] := (rows m (grid0.coords t)).trans (by rw [coord t])

/-- What the body computes at `y` from a block of each array: five numbers added. -/
theorem pay (a : Vec Ideal S1x256x2688 .bf16) (b p q s : Vec Ideal S1x256x2688 .bf16) (y : S1x256x2688.Idx) :
    k0_pay1 a b p q s y = a y + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 2688] inb_S3x256x2688_S1x256x2688_0_0_0))
      (View.ld (iblk m hO c 2 t) (Rect.unit ![1, 0, 0] ![1, 256, 2688] inb_S3x256x2688_S1x256x2688_1_0_0)) (View.ld (iblk m hO c 2 t) (Rect.unit ![2, 0, 0] ![1, 256, 2688] inb_S3x256x2688_S1x256x2688_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    iblk m hO c 0 t y = m ((c : Thread nD τ).loc main_arg0) (ix3 0 (j 0) (j 1)) := by
  blk_point [iblk, V, idx0 m hO t]

theorem block1 (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    View.ld (iblk m hO c 2 t) (Rect.unit ![0, 0, 0] ![1, 256, 2688] inb_S3x256x2688_S1x256x2688_0_0_0) y = m ((c : Thread nD τ).loc main_arg2) (ix3 0 (j 0) (j 1)) := by
  blk_point [iblk, V, idx2 m hO t]

theorem sent1 (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    View.ld (iblk m hO c 2 t) (Rect.unit ![1, 0, 0] ![1, 256, 2688] inb_S3x256x2688_S1x256x2688_1_0_0) y = m ((c : Thread nD τ).loc main_arg2) (ix3 1 (j 0) (j 1)) := by
  blk_point [iblk, V, idx2 m hO t]

theorem sent2 (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    View.ld (iblk m hO c 2 t) (Rect.unit ![2, 0, 0] ![1, 256, 2688] inb_S3x256x2688_S1x256x2688_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x2688.Idx) (j : Cert.SumIn1RefIdeal.S1024x2688.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x2688.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 4 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 1#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 1 := by
  subst e
  exact (by decide +kernel : ((cfg0 adm0).win 3).CoversWhere fun β => β (0 : Fin 3) = 1)

theorem covers (hO : Ok m) : ((cfgM m hO).win 3).CoversWhere fun β => β (0 : Fin 3) = 1 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 1) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 1 (j 0) (j 1)) j rfl rfl rfl)
  pointwise []

end Cert.SumIn1Ideal.Hand

namespace Cert.Proof

theorem value_SumIn1 : Cert.algebraic_SumIn1Ideal_SumIn1RefIdeal := by
  pair_intro
  case refine_1 => exact fun c => Cert.SumIn1Ideal.Hand.SUM (m (c.tc.loc Cert.SumIn1Ideal.main_arg0)) (m (c.tc.loc Cert.SumIn1Ideal.main_arg1)) (m (c.tc.loc Cert.SumIn1Ideal.main_arg2))
  · refine (θ_run _ _ _).mono (fun r h c => ?_)
      (θ_run_and (Cert.SumIn1Ideal.Gen.unchanged m g (Cert.SumIn1Ideal.Hand.ok m)) (Cert.SumIn1Ideal.Gen.run_main m g (Cert.SumIn1Ideal.Hand.ok m)))
    have e : r.2.mem (c.tc.loc Cert.SumIn1Ideal.main_v7) = Cert.SumIn1Ideal.Hand.SUM (m (c.tc.loc Cert.SumIn1Ideal.main_arg0)) (m (c.tc.loc Cert.SumIn1Ideal.main_arg1)) (m (c.tc.loc Cert.SumIn1Ideal.main_arg2)) :=
      ((h.2 c).2 Cert.SumIn1Ideal.main_v7 (by decide : Cert.SumIn1Ideal.main_v7 ∈ Pipeline.restRefs Cert.SumIn1Ideal.sig Cert.SumIn1Ideal.spec0)).trans (Cert.SumIn1Ideal.Hand.final m (Cert.SumIn1Ideal.Hand.ok m) c)
    exact ⟨e, h.1 c⟩
  · run_from Cert.SumIn1RefIdeal.Value.run m' g'

theorem frame_SumIn1 : Cert.quiescent_SumIn1 := fun m ρ _ => Cert.SumIn1.Gen.frame m ρ (Cert.SumIn1.Hand.ok m)
theorem frame_SumIn1Ideal : Cert.quiescent_SumIn1Ideal := fun m ρ _ => Cert.SumIn1Ideal.Gen.frame m ρ (Cert.SumIn1Ideal.Hand.ok m)
theorem frame_SumIn1RefIdeal : Cert.quiescent_SumIn1RefIdeal := fun m ρ _ =>
  (θ_run Cert.SumIn1RefIdeal.defs _ _).mono
    (fun r h => ⟨fun c => (h c).2, Idealize.ShloMosaic.sem_eq_zero_of_no_sems (by decide) r.2⟩)
    (Cert.SumIn1RefIdeal.Value.run m ρ)

end Cert.Proof

end
-- ==== Proof.SumAttn0Value.lean ====
/- The first half of the rows of a chip's shard of a weight's gradient, summed over the devices: the device's own part, its
   sibling's, and the sums that the three other chips sent. Which shard and which half they are is read from a prefetched table,
   whose entries the host part fixes. -/
module

public import proofs.«01_k».proof.Proof.Gen.SumAttn0Ideal.Frame
public import proofs.«01_k».proof.Proof.Gen.SumAttn0.Frame
public import proofs.«01_k».proof.Proof.Gen.SumAttn0RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumAttn0.Hand

open Cert.SumAttn0 Cert.SumAttn0.Gen

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumAttn0.Hand

namespace Cert.SumAttn0Ideal.Hand

open Cert.SumAttn0Ideal Cert.SumAttn0Ideal.Gen

section Table

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x512x512 .bf16) (l : FVec Ideal S4x512x512 .bf16) (r : FVec Ideal S3x512x512 .bf16) : FVec Ideal Cert.SumAttn0RefIdeal.S512x512 .f32 :=
  addf (addf (extf .f32 (shapeCast Cert.SumAttn0RefIdeal.S512x512 (extractStridedSlice Cert.SumAttn0RefIdeal.S1x1x512x512 ![0, 0, 0, 0] g Cert.SumAttn0RefIdeal.Gen.slices_S4x2x512x512_S1x1x512x512_0_0_0_0) Cert.SumAttn0RefIdeal.Gen.shapeCasts_S1x1x512x512_S512x512) Cert.SumAttn0RefIdeal.Gen.bitsLt_bf16_f32)
      (extf .f32 (shapeCast Cert.SumAttn0RefIdeal.S512x512 (extractStridedSlice Cert.SumAttn0RefIdeal.S1x512x512 ![0, 0, 0] l Cert.SumAttn0RefIdeal.Gen.slices_S4x512x512_S1x512x512_0_0_0) Cert.SumAttn0RefIdeal.Gen.shapeCasts_S1x512x512_S512x512) Cert.SumAttn0RefIdeal.Gen.bitsLt_bf16_f32))
    (Host.reduceAdd (extf .f32 r Cert.SumAttn0RefIdeal.Gen.bitsLt_bf16_f32) (constant Cert.SumAttn0RefIdeal.S_ .f32 0x00000000#32) Cert.SumAttn0RefIdeal.Gen.reducesTo_S3x512x512_S512x512_d0 Cert.SumAttn0RefIdeal.Gen.h_S_)

/-- Its entry at row `j 0` and column `j 1`: five numbers added. -/
theorem sum_entry (g : FVec Ideal S4x2x512x512 .bf16) (l : FVec Ideal S4x512x512 .bf16) (r : FVec Ideal S3x512x512 .bf16) (j : Cert.SumAttn0RefIdeal.S512x512.Idx) : SUM g l r j
    = g (ix4 0 0 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x512x512 .bf16) (l : FVec Ideal S4x512x512 .bf16) (r : FVec Ideal S3x512x512 .bf16) (p : FVec Ideal S2x512x512 .f32) : FVec Ideal S2x512x512 .f32 :=
  fun i => if (i 0 : ℕ) = 0 then SUM g l r (ix2 (i 1) (i 2)) else p i

theorem both_mine (g : FVec Ideal S4x2x512x512 .bf16) (l : FVec Ideal S4x512x512 .bf16) (r : FVec Ideal S3x512x512 .bf16) (p : FVec Ideal S2x512x512 .f32) (i : S2x512x512.Idx) (j : Cert.SumAttn0RefIdeal.S512x512.Idx) (h : (i 0 : ℕ) = 0) (h0 : (i 1 : ℕ) = j 0)
    (h1 : (i 2 : ℕ) = j 1) : both g l r p i = SUM g l r j := by
  have e : (ix2 (i 1) (i 2) : Cert.SumAttn0RefIdeal.S512x512.Idx) = j := by
    funext a
    match a with
    | 0 => exact Fin.ext h0
    | 1 => exact Fin.ext h1
  unfold both
  rw [if_pos h, e]

theorem both_kept (g : FVec Ideal S4x2x512x512 .bf16) (l : FVec Ideal S4x512x512 .bf16) (r : FVec Ideal S3x512x512 .bf16) (p : FVec Ideal S2x512x512 .f32) (i : S2x512x512.Idx) (h : (i 0 : ℕ) / 1 ≠ 0) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 0, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![0, t.val, 0] := (rows m (grid0.coords t)).trans (by rw [coord t])

/-- What the body computes at `y` from a block of each array: five numbers added. -/
theorem pay (a : Vec Ideal S1x1x256x512 .bf16) (b p q s : Vec Ideal S1x256x512 .bf16) (y : S1x256x512.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 512] inb_S3x256x512_S1x256x512_0_0_0))
      (View.ld (iblk m hO c 2 t) (Rect.unit ![1, 0, 0] ![1, 256, 512] inb_S3x256x512_S1x256x512_1_0_0)) (View.ld (iblk m hO c 2 t) (Rect.unit ![2, 0, 0] ![1, 256, 512] inb_S3x256x512_S1x256x512_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    iblk m hO c 0 t (ix4 0 0 (y 1) (y 2)) = m ((c : Thread nD τ).loc main_arg0) (ix4 0 0 (j 0) (j 1)) := by
  blk_point [iblk, V, idx0 m hO t]

theorem block1 (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    View.ld (iblk m hO c 2 t) (Rect.unit ![0, 0, 0] ![1, 256, 512] inb_S3x256x512_S1x256x512_0_0_0) y = m ((c : Thread nD τ).loc main_arg2) (ix3 0 (j 0) (j 1)) := by
  blk_point [iblk, V, idx2 m hO t]

theorem sent1 (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    View.ld (iblk m hO c 2 t) (Rect.unit ![1, 0, 0] ![1, 256, 512] inb_S3x256x512_S1x256x512_1_0_0) y = m ((c : Thread nD τ).loc main_arg2) (ix3 1 (j 0) (j 1)) := by
  blk_point [iblk, V, idx2 m hO t]

theorem sent2 (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    View.ld (iblk m hO c 2 t) (Rect.unit ![2, 0, 0] ![1, 256, 512] inb_S3x256x512_S1x256x512_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x512.Idx) (j : Cert.SumAttn0RefIdeal.S512x512.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x512.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 2 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 0#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 0 := by
  subst e
  exact (by decide +kernel : ((cfg0 adm0).win 3).CoversWhere fun β => β (0 : Fin 3) = 0)

theorem covers (hO : Ok m) : ((cfgM m hO).win 3).CoversWhere fun β => β (0 : Fin 3) = 0 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 0) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 0 (j 0) (j 1)) j rfl rfl rfl)
  pointwise []

end Cert.SumAttn0Ideal.Hand

namespace Cert.Proof

theorem value_SumAttn0 : Cert.algebraic_SumAttn0Ideal_SumAttn0RefIdeal := by
  pair_intro
  case refine_1 => exact fun c => Cert.SumAttn0Ideal.Hand.SUM (m (c.tc.loc Cert.SumAttn0Ideal.main_arg0)) (m (c.tc.loc Cert.SumAttn0Ideal.main_arg1)) (m (c.tc.loc Cert.SumAttn0Ideal.main_arg2))
  · refine (θ_run _ _ _).mono (fun r h c => ?_)
      (θ_run_and (Cert.SumAttn0Ideal.Gen.unchanged m g (Cert.SumAttn0Ideal.Hand.ok m)) (Cert.SumAttn0Ideal.Gen.run_main m g (Cert.SumAttn0Ideal.Hand.ok m)))
    have e : r.2.mem (c.tc.loc Cert.SumAttn0Ideal.main_v7) = Cert.SumAttn0Ideal.Hand.SUM (m (c.tc.loc Cert.SumAttn0Ideal.main_arg0)) (m (c.tc.loc Cert.SumAttn0Ideal.main_arg1)) (m (c.tc.loc Cert.SumAttn0Ideal.main_arg2)) :=
      ((h.2 c).2 Cert.SumAttn0Ideal.main_v7 (by decide : Cert.SumAttn0Ideal.main_v7 ∈ Pipeline.restRefs Cert.SumAttn0Ideal.sig Cert.SumAttn0Ideal.spec0)).trans (Cert.SumAttn0Ideal.Hand.final m (Cert.SumAttn0Ideal.Hand.ok m) c)
    exact ⟨e, h.1 c⟩
  · run_from Cert.SumAttn0RefIdeal.Value.run m' g'

theorem frame_SumAttn0 : Cert.quiescent_SumAttn0 := fun m ρ _ => Cert.SumAttn0.Gen.frame m ρ (Cert.SumAttn0.Hand.ok m)
theorem frame_SumAttn0Ideal : Cert.quiescent_SumAttn0Ideal := fun m ρ _ => Cert.SumAttn0Ideal.Gen.frame m ρ (Cert.SumAttn0Ideal.Hand.ok m)
theorem frame_SumAttn0RefIdeal : Cert.quiescent_SumAttn0RefIdeal := fun m ρ _ =>
  (θ_run Cert.SumAttn0RefIdeal.defs _ _).mono
    (fun r h => ⟨fun c => (h c).2, Idealize.ShloMosaic.sem_eq_zero_of_no_sems (by decide) r.2⟩)
    (Cert.SumAttn0RefIdeal.Value.run m ρ)

end Cert.Proof

end
-- ==== Proof.SumAttn1Value.lean ====
/- The second half of the rows of a chip's shard of a weight's gradient, summed over the devices: the device's own part, its
   sibling's, and the sums that the three other chips sent. Which shard and which half they are is read from a prefetched table,
   whose entries the host part fixes. -/
module

public import proofs.«01_k».proof.Proof.Gen.SumAttn1Ideal.Frame
public import proofs.«01_k».proof.Proof.Gen.SumAttn1.Frame
public import proofs.«01_k».proof.Proof.Gen.SumAttn1RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumAttn1.Hand

open Cert.SumAttn1 Cert.SumAttn1.Gen

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumAttn1.Hand

namespace Cert.SumAttn1Ideal.Hand

open Cert.SumAttn1Ideal Cert.SumAttn1Ideal.Gen

section Table

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x512x512 .bf16) (l : FVec Ideal S4x512x512 .bf16) (r : FVec Ideal S3x512x512 .bf16) : FVec Ideal Cert.SumAttn1RefIdeal.S512x512 .f32 :=
  addf (addf (extf .f32 (shapeCast Cert.SumAttn1RefIdeal.S512x512 (extractStridedSlice Cert.SumAttn1RefIdeal.S1x1x512x512 ![0, 1, 0, 0] g Cert.SumAttn1RefIdeal.Gen.slices_S4x2x512x512_S1x1x512x512_0_1_0_0) Cert.SumAttn1RefIdeal.Gen.shapeCasts_S1x1x512x512_S512x512) Cert.SumAttn1RefIdeal.Gen.bitsLt_bf16_f32)
      (extf .f32 (shapeCast Cert.SumAttn1RefIdeal.S512x512 (extractStridedSlice Cert.SumAttn1RefIdeal.S1x512x512 ![0, 0, 0] l Cert.SumAttn1RefIdeal.Gen.slices_S4x512x512_S1x512x512_0_0_0) Cert.SumAttn1RefIdeal.Gen.shapeCasts_S1x512x512_S512x512) Cert.SumAttn1RefIdeal.Gen.bitsLt_bf16_f32))
    (Host.reduceAdd (extf .f32 r Cert.SumAttn1RefIdeal.Gen.bitsLt_bf16_f32) (constant Cert.SumAttn1RefIdeal.S_ .f32 0x00000000#32) Cert.SumAttn1RefIdeal.Gen.reducesTo_S3x512x512_S512x512_d0 Cert.SumAttn1RefIdeal.Gen.h_S_)

/-- Its entry at row `j 0` and column `j 1`: five numbers added. -/
theorem sum_entry (g : FVec Ideal S4x2x512x512 .bf16) (l : FVec Ideal S4x512x512 .bf16) (r : FVec Ideal S3x512x512 .bf16) (j : Cert.SumAttn1RefIdeal.S512x512.Idx) : SUM g l r j
    = g (ix4 0 1 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x512x512 .bf16) (l : FVec Ideal S4x512x512 .bf16) (r : FVec Ideal S3x512x512 .bf16) (p : FVec Ideal S2x512x512 .f32) : FVec Ideal S2x512x512 .f32 :=
  fun i => if (i 0 : ℕ) = 1 then SUM g l r (ix2 (i 1) (i 2)) else p i

theorem both_mine (g : FVec Ideal S4x2x512x512 .bf16) (l : FVec Ideal S4x512x512 .bf16) (r : FVec Ideal S3x512x512 .bf16) (p : FVec Ideal S2x512x512 .f32) (i : S2x512x512.Idx) (j : Cert.SumAttn1RefIdeal.S512x512.Idx) (h : (i 0 : ℕ) = 1) (h0 : (i 1 : ℕ) = j 0)
    (h1 : (i 2 : ℕ) = j 1) : both g l r p i = SUM g l r j := by
  have e : (ix2 (i 1) (i 2) : Cert.SumAttn1RefIdeal.S512x512.Idx) = j := by
    funext a
    match a with
    | 0 => exact Fin.ext h0
    | 1 => exact Fin.ext h1
  unfold both
  rw [if_pos h, e]

theorem both_kept (g : FVec Ideal S4x2x512x512 .bf16) (l : FVec Ideal S4x512x512 .bf16) (r : FVec Ideal S3x512x512 .bf16) (p : FVec Ideal S2x512x512 .f32) (i : S2x512x512.Idx) (h : (i 0 : ℕ) / 1 ≠ 1) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 1, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![1, t.val, 0] := (rows m (grid0.coords t)).trans (by rw [coord t])

/-- What the body computes at `y` from a block of each array: five numbers added. -/
theorem pay (a : Vec Ideal S1x1x256x512 .bf16) (b p q s : Vec Ideal S1x256x512 .bf16) (y : S1x256x512.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 512] inb_S3x256x512_S1x256x512_0_0_0))
      (View.ld (iblk m hO c 2 t) (Rect.unit ![1, 0, 0] ![1, 256, 512] inb_S3x256x512_S1x256x512_1_0_0)) (View.ld (iblk m hO c 2 t) (Rect.unit ![2, 0, 0] ![1, 256, 512] inb_S3x256x512_S1x256x512_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    iblk m hO c 0 t (ix4 0 0 (y 1) (y 2)) = m ((c : Thread nD τ).loc main_arg0) (ix4 0 1 (j 0) (j 1)) := by
  blk_point [iblk, V, idx0 m hO t]

theorem block1 (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    View.ld (iblk m hO c 2 t) (Rect.unit ![0, 0, 0] ![1, 256, 512] inb_S3x256x512_S1x256x512_0_0_0) y = m ((c : Thread nD τ).loc main_arg2) (ix3 0 (j 0) (j 1)) := by
  blk_point [iblk, V, idx2 m hO t]

theorem sent1 (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    View.ld (iblk m hO c 2 t) (Rect.unit ![1, 0, 0] ![1, 256, 512] inb_S3x256x512_S1x256x512_1_0_0) y = m ((c : Thread nD τ).loc main_arg2) (ix3 1 (j 0) (j 1)) := by
  blk_point [iblk, V, idx2 m hO t]

theorem sent2 (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    View.ld (iblk m hO c 2 t) (Rect.unit ![2, 0, 0] ![1, 256, 512] inb_S3x256x512_S1x256x512_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x512.Idx) (j : Cert.SumAttn1RefIdeal.S512x512.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x512.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 2 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 1#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 1 := by
  subst e
  exact (by decide +kernel : ((cfg0 adm0).win 3).CoversWhere fun β => β (0 : Fin 3) = 1)

theorem covers (hO : Ok m) : ((cfgM m hO).win 3).CoversWhere fun β => β (0 : Fin 3) = 1 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 1) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 1 (j 0) (j 1)) j rfl rfl rfl)
  pointwise []

end Cert.SumAttn1Ideal.Hand

namespace Cert.Proof

theorem value_SumAttn1 : Cert.algebraic_SumAttn1Ideal_SumAttn1RefIdeal := by
  pair_intro
  case refine_1 => exact fun c => Cert.SumAttn1Ideal.Hand.SUM (m (c.tc.loc Cert.SumAttn1Ideal.main_arg0)) (m (c.tc.loc Cert.SumAttn1Ideal.main_arg1)) (m (c.tc.loc Cert.SumAttn1Ideal.main_arg2))
  · refine (θ_run _ _ _).mono (fun r h c => ?_)
      (θ_run_and (Cert.SumAttn1Ideal.Gen.unchanged m g (Cert.SumAttn1Ideal.Hand.ok m)) (Cert.SumAttn1Ideal.Gen.run_main m g (Cert.SumAttn1Ideal.Hand.ok m)))
    have e : r.2.mem (c.tc.loc Cert.SumAttn1Ideal.main_v7) = Cert.SumAttn1Ideal.Hand.SUM (m (c.tc.loc Cert.SumAttn1Ideal.main_arg0)) (m (c.tc.loc Cert.SumAttn1Ideal.main_arg1)) (m (c.tc.loc Cert.SumAttn1Ideal.main_arg2)) :=
      ((h.2 c).2 Cert.SumAttn1Ideal.main_v7 (by decide : Cert.SumAttn1Ideal.main_v7 ∈ Pipeline.restRefs Cert.SumAttn1Ideal.sig Cert.SumAttn1Ideal.spec0)).trans (Cert.SumAttn1Ideal.Hand.final m (Cert.SumAttn1Ideal.Hand.ok m) c)
    exact ⟨e, h.1 c⟩
  · run_from Cert.SumAttn1RefIdeal.Value.run m' g'

theorem frame_SumAttn1 : Cert.quiescent_SumAttn1 := fun m ρ _ => Cert.SumAttn1.Gen.frame m ρ (Cert.SumAttn1.Hand.ok m)
theorem frame_SumAttn1Ideal : Cert.quiescent_SumAttn1Ideal := fun m ρ _ => Cert.SumAttn1Ideal.Gen.frame m ρ (Cert.SumAttn1Ideal.Hand.ok m)
theorem frame_SumAttn1RefIdeal : Cert.quiescent_SumAttn1RefIdeal := fun m ρ _ =>
  (θ_run Cert.SumAttn1RefIdeal.defs _ _).mono
    (fun r h => ⟨fun c => (h c).2, Idealize.ShloMosaic.sem_eq_zero_of_no_sems (by decide) r.2⟩)
    (Cert.SumAttn1RefIdeal.Value.run m ρ)

end Cert.Proof

end
-- ==== Proof.SumHgrn0Value.lean ====
/- The first half of the rows of a chip's shard of a weight's gradient, summed over the devices: the device's own part, its
   sibling's, and the sums that the three other chips sent. Which shard and which half they are is read from a prefetched table,
   whose entries the host part fixes. -/
module

public import proofs.«01_k».proof.Proof.Gen.SumHgrn0Ideal.Frame
public import proofs.«01_k».proof.Proof.Gen.SumHgrn0.Frame
public import proofs.«01_k».proof.Proof.Gen.SumHgrn0RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumHgrn0.Hand

open Cert.SumHgrn0 Cert.SumHgrn0.Gen

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumHgrn0.Hand

namespace Cert.SumHgrn0Ideal.Hand

open Cert.SumHgrn0Ideal Cert.SumHgrn0Ideal.Gen

section Table

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x512x512 .bf16) (l : FVec Ideal S4x512x512 .bf16) (r : FVec Ideal S3x512x512 .bf16) : FVec Ideal Cert.SumHgrn0RefIdeal.S512x512 .f32 :=
  addf (addf (extf .f32 (shapeCast Cert.SumHgrn0RefIdeal.S512x512 (extractStridedSlice Cert.SumHgrn0RefIdeal.S1x1x512x512 ![0, 0, 0, 0] g Cert.SumHgrn0RefIdeal.Gen.slices_S4x2x512x512_S1x1x512x512_0_0_0_0) Cert.SumHgrn0RefIdeal.Gen.shapeCasts_S1x1x512x512_S512x512) Cert.SumHgrn0RefIdeal.Gen.bitsLt_bf16_f32)
      (extf .f32 (shapeCast Cert.SumHgrn0RefIdeal.S512x512 (extractStridedSlice Cert.SumHgrn0RefIdeal.S1x512x512 ![0, 0, 0] l Cert.SumHgrn0RefIdeal.Gen.slices_S4x512x512_S1x512x512_0_0_0) Cert.SumHgrn0RefIdeal.Gen.shapeCasts_S1x512x512_S512x512) Cert.SumHgrn0RefIdeal.Gen.bitsLt_bf16_f32))
    (Host.reduceAdd (extf .f32 r Cert.SumHgrn0RefIdeal.Gen.bitsLt_bf16_f32) (constant Cert.SumHgrn0RefIdeal.S_ .f32 0x00000000#32) Cert.SumHgrn0RefIdeal.Gen.reducesTo_S3x512x512_S512x512_d0 Cert.SumHgrn0RefIdeal.Gen.h_S_)

/-- Its entry at row `j 0` and column `j 1`: five numbers added. -/
theorem sum_entry (g : FVec Ideal S4x2x512x512 .bf16) (l : FVec Ideal S4x512x512 .bf16) (r : FVec Ideal S3x512x512 .bf16) (j : Cert.SumHgrn0RefIdeal.S512x512.Idx) : SUM g l r j
    = g (ix4 0 0 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x512x512 .bf16) (l : FVec Ideal S4x512x512 .bf16) (r : FVec Ideal S3x512x512 .bf16) (p : FVec Ideal S2x512x512 .f32) : FVec Ideal S2x512x512 .f32 :=
  fun i => if (i 0 : ℕ) = 0 then SUM g l r (ix2 (i 1) (i 2)) else p i

theorem both_mine (g : FVec Ideal S4x2x512x512 .bf16) (l : FVec Ideal S4x512x512 .bf16) (r : FVec Ideal S3x512x512 .bf16) (p : FVec Ideal S2x512x512 .f32) (i : S2x512x512.Idx) (j : Cert.SumHgrn0RefIdeal.S512x512.Idx) (h : (i 0 : ℕ) = 0) (h0 : (i 1 : ℕ) = j 0)
    (h1 : (i 2 : ℕ) = j 1) : both g l r p i = SUM g l r j := by
  have e : (ix2 (i 1) (i 2) : Cert.SumHgrn0RefIdeal.S512x512.Idx) = j := by
    funext a
    match a with
    | 0 => exact Fin.ext h0
    | 1 => exact Fin.ext h1
  unfold both
  rw [if_pos h, e]

theorem both_kept (g : FVec Ideal S4x2x512x512 .bf16) (l : FVec Ideal S4x512x512 .bf16) (r : FVec Ideal S3x512x512 .bf16) (p : FVec Ideal S2x512x512 .f32) (i : S2x512x512.Idx) (h : (i 0 : ℕ) / 1 ≠ 0) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 0, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![0, t.val, 0] := (rows m (grid0.coords t)).trans (by rw [coord t])

/-- What the body computes at `y` from a block of each array: five numbers added. -/
theorem pay (a : Vec Ideal S1x1x256x512 .bf16) (b p q s : Vec Ideal S1x256x512 .bf16) (y : S1x256x512.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 512] inb_S3x256x512_S1x256x512_0_0_0))
      (View.ld (iblk m hO c 2 t) (Rect.unit ![1, 0, 0] ![1, 256, 512] inb_S3x256x512_S1x256x512_1_0_0)) (View.ld (iblk m hO c 2 t) (Rect.unit ![2, 0, 0] ![1, 256, 512] inb_S3x256x512_S1x256x512_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    iblk m hO c 0 t (ix4 0 0 (y 1) (y 2)) = m ((c : Thread nD τ).loc main_arg0) (ix4 0 0 (j 0) (j 1)) := by
  blk_point [iblk, V, idx0 m hO t]

theorem block1 (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    View.ld (iblk m hO c 2 t) (Rect.unit ![0, 0, 0] ![1, 256, 512] inb_S3x256x512_S1x256x512_0_0_0) y = m ((c : Thread nD τ).loc main_arg2) (ix3 0 (j 0) (j 1)) := by
  blk_point [iblk, V, idx2 m hO t]

theorem sent1 (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    View.ld (iblk m hO c 2 t) (Rect.unit ![1, 0, 0] ![1, 256, 512] inb_S3x256x512_S1x256x512_1_0_0) y = m ((c : Thread nD τ).loc main_arg2) (ix3 1 (j 0) (j 1)) := by
  blk_point [iblk, V, idx2 m hO t]

theorem sent2 (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    View.ld (iblk m hO c 2 t) (Rect.unit ![2, 0, 0] ![1, 256, 512] inb_S3x256x512_S1x256x512_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x512.Idx) (j : Cert.SumHgrn0RefIdeal.S512x512.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x512.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 2 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 0#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 0 := by
  subst e
  exact (by decide +kernel : ((cfg0 adm0).win 3).CoversWhere fun β => β (0 : Fin 3) = 0)

theorem covers (hO : Ok m) : ((cfgM m hO).win 3).CoversWhere fun β => β (0 : Fin 3) = 0 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 0) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 0 (j 0) (j 1)) j rfl rfl rfl)
  pointwise []

end Cert.SumHgrn0Ideal.Hand

namespace Cert.Proof

theorem value_SumHgrn0 : Cert.algebraic_SumHgrn0Ideal_SumHgrn0RefIdeal := by
  pair_intro
  case refine_1 => exact fun c => Cert.SumHgrn0Ideal.Hand.SUM (m (c.tc.loc Cert.SumHgrn0Ideal.main_arg0)) (m (c.tc.loc Cert.SumHgrn0Ideal.main_arg1)) (m (c.tc.loc Cert.SumHgrn0Ideal.main_arg2))
  · refine (θ_run _ _ _).mono (fun r h c => ?_)
      (θ_run_and (Cert.SumHgrn0Ideal.Gen.unchanged m g (Cert.SumHgrn0Ideal.Hand.ok m)) (Cert.SumHgrn0Ideal.Gen.run_main m g (Cert.SumHgrn0Ideal.Hand.ok m)))
    have e : r.2.mem (c.tc.loc Cert.SumHgrn0Ideal.main_v7) = Cert.SumHgrn0Ideal.Hand.SUM (m (c.tc.loc Cert.SumHgrn0Ideal.main_arg0)) (m (c.tc.loc Cert.SumHgrn0Ideal.main_arg1)) (m (c.tc.loc Cert.SumHgrn0Ideal.main_arg2)) :=
      ((h.2 c).2 Cert.SumHgrn0Ideal.main_v7 (by decide : Cert.SumHgrn0Ideal.main_v7 ∈ Pipeline.restRefs Cert.SumHgrn0Ideal.sig Cert.SumHgrn0Ideal.spec0)).trans (Cert.SumHgrn0Ideal.Hand.final m (Cert.SumHgrn0Ideal.Hand.ok m) c)
    exact ⟨e, h.1 c⟩
  · run_from Cert.SumHgrn0RefIdeal.Value.run m' g'

theorem frame_SumHgrn0 : Cert.quiescent_SumHgrn0 := fun m ρ _ => Cert.SumHgrn0.Gen.frame m ρ (Cert.SumHgrn0.Hand.ok m)
theorem frame_SumHgrn0Ideal : Cert.quiescent_SumHgrn0Ideal := fun m ρ _ => Cert.SumHgrn0Ideal.Gen.frame m ρ (Cert.SumHgrn0Ideal.Hand.ok m)
theorem frame_SumHgrn0RefIdeal : Cert.quiescent_SumHgrn0RefIdeal := fun m ρ _ =>
  (θ_run Cert.SumHgrn0RefIdeal.defs _ _).mono
    (fun r h => ⟨fun c => (h c).2, Idealize.ShloMosaic.sem_eq_zero_of_no_sems (by decide) r.2⟩)
    (Cert.SumHgrn0RefIdeal.Value.run m ρ)

end Cert.Proof

end
-- ==== Proof.SumHgrn1Value.lean ====
/- The second half of the rows of a chip's shard of a weight's gradient, summed over the devices: the device's own part, its
   sibling's, and the sums that the three other chips sent. Which shard and which half they are is read from a prefetched table,
   whose entries the host part fixes. -/
module

public import proofs.«01_k».proof.Proof.Gen.SumHgrn1Ideal.Frame
public import proofs.«01_k».proof.Proof.Gen.SumHgrn1.Frame
public import proofs.«01_k».proof.Proof.Gen.SumHgrn1RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumHgrn1.Hand

open Cert.SumHgrn1 Cert.SumHgrn1.Gen

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumHgrn1.Hand

namespace Cert.SumHgrn1Ideal.Hand

open Cert.SumHgrn1Ideal Cert.SumHgrn1Ideal.Gen

section Table

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x512x512 .bf16) (l : FVec Ideal S4x512x512 .bf16) (r : FVec Ideal S3x512x512 .bf16) : FVec Ideal Cert.SumHgrn1RefIdeal.S512x512 .f32 :=
  addf (addf (extf .f32 (shapeCast Cert.SumHgrn1RefIdeal.S512x512 (extractStridedSlice Cert.SumHgrn1RefIdeal.S1x1x512x512 ![0, 1, 0, 0] g Cert.SumHgrn1RefIdeal.Gen.slices_S4x2x512x512_S1x1x512x512_0_1_0_0) Cert.SumHgrn1RefIdeal.Gen.shapeCasts_S1x1x512x512_S512x512) Cert.SumHgrn1RefIdeal.Gen.bitsLt_bf16_f32)
      (extf .f32 (shapeCast Cert.SumHgrn1RefIdeal.S512x512 (extractStridedSlice Cert.SumHgrn1RefIdeal.S1x512x512 ![0, 0, 0] l Cert.SumHgrn1RefIdeal.Gen.slices_S4x512x512_S1x512x512_0_0_0) Cert.SumHgrn1RefIdeal.Gen.shapeCasts_S1x512x512_S512x512) Cert.SumHgrn1RefIdeal.Gen.bitsLt_bf16_f32))
    (Host.reduceAdd (extf .f32 r Cert.SumHgrn1RefIdeal.Gen.bitsLt_bf16_f32) (constant Cert.SumHgrn1RefIdeal.S_ .f32 0x00000000#32) Cert.SumHgrn1RefIdeal.Gen.reducesTo_S3x512x512_S512x512_d0 Cert.SumHgrn1RefIdeal.Gen.h_S_)

/-- Its entry at row `j 0` and column `j 1`: five numbers added. -/
theorem sum_entry (g : FVec Ideal S4x2x512x512 .bf16) (l : FVec Ideal S4x512x512 .bf16) (r : FVec Ideal S3x512x512 .bf16) (j : Cert.SumHgrn1RefIdeal.S512x512.Idx) : SUM g l r j
    = g (ix4 0 1 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x512x512 .bf16) (l : FVec Ideal S4x512x512 .bf16) (r : FVec Ideal S3x512x512 .bf16) (p : FVec Ideal S2x512x512 .f32) : FVec Ideal S2x512x512 .f32 :=
  fun i => if (i 0 : ℕ) = 1 then SUM g l r (ix2 (i 1) (i 2)) else p i

theorem both_mine (g : FVec Ideal S4x2x512x512 .bf16) (l : FVec Ideal S4x512x512 .bf16) (r : FVec Ideal S3x512x512 .bf16) (p : FVec Ideal S2x512x512 .f32) (i : S2x512x512.Idx) (j : Cert.SumHgrn1RefIdeal.S512x512.Idx) (h : (i 0 : ℕ) = 1) (h0 : (i 1 : ℕ) = j 0)
    (h1 : (i 2 : ℕ) = j 1) : both g l r p i = SUM g l r j := by
  have e : (ix2 (i 1) (i 2) : Cert.SumHgrn1RefIdeal.S512x512.Idx) = j := by
    funext a
    match a with
    | 0 => exact Fin.ext h0
    | 1 => exact Fin.ext h1
  unfold both
  rw [if_pos h, e]

theorem both_kept (g : FVec Ideal S4x2x512x512 .bf16) (l : FVec Ideal S4x512x512 .bf16) (r : FVec Ideal S3x512x512 .bf16) (p : FVec Ideal S2x512x512 .f32) (i : S2x512x512.Idx) (h : (i 0 : ℕ) / 1 ≠ 1) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 1, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![1, t.val, 0] := (rows m (grid0.coords t)).trans (by rw [coord t])

/-- What the body computes at `y` from a block of each array: five numbers added. -/
theorem pay (a : Vec Ideal S1x1x256x512 .bf16) (b p q s : Vec Ideal S1x256x512 .bf16) (y : S1x256x512.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 512] inb_S3x256x512_S1x256x512_0_0_0))
      (View.ld (iblk m hO c 2 t) (Rect.unit ![1, 0, 0] ![1, 256, 512] inb_S3x256x512_S1x256x512_1_0_0)) (View.ld (iblk m hO c 2 t) (Rect.unit ![2, 0, 0] ![1, 256, 512] inb_S3x256x512_S1x256x512_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    iblk m hO c 0 t (ix4 0 0 (y 1) (y 2)) = m ((c : Thread nD τ).loc main_arg0) (ix4 0 1 (j 0) (j 1)) := by
  blk_point [iblk, V, idx0 m hO t]

theorem block1 (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    View.ld (iblk m hO c 2 t) (Rect.unit ![0, 0, 0] ![1, 256, 512] inb_S3x256x512_S1x256x512_0_0_0) y = m ((c : Thread nD τ).loc main_arg2) (ix3 0 (j 0) (j 1)) := by
  blk_point [iblk, V, idx2 m hO t]

theorem sent1 (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    View.ld (iblk m hO c 2 t) (Rect.unit ![1, 0, 0] ![1, 256, 512] inb_S3x256x512_S1x256x512_1_0_0) y = m ((c : Thread nD τ).loc main_arg2) (ix3 1 (j 0) (j 1)) := by
  blk_point [iblk, V, idx2 m hO t]

theorem sent2 (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    View.ld (iblk m hO c 2 t) (Rect.unit ![2, 0, 0] ![1, 256, 512] inb_S3x256x512_S1x256x512_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x512.Idx) (j : Cert.SumHgrn1RefIdeal.S512x512.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x512.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 2 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 1#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 1 := by
  subst e
  exact (by decide +kernel : ((cfg0 adm0).win 3).CoversWhere fun β => β (0 : Fin 3) = 1)

theorem covers (hO : Ok m) : ((cfgM m hO).win 3).CoversWhere fun β => β (0 : Fin 3) = 1 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 1) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 1 (j 0) (j 1)) j rfl rfl rfl)
  pointwise []

end Cert.SumHgrn1Ideal.Hand

namespace Cert.Proof

theorem value_SumHgrn1 : Cert.algebraic_SumHgrn1Ideal_SumHgrn1RefIdeal := by
  pair_intro
  case refine_1 => exact fun c => Cert.SumHgrn1Ideal.Hand.SUM (m (c.tc.loc Cert.SumHgrn1Ideal.main_arg0)) (m (c.tc.loc Cert.SumHgrn1Ideal.main_arg1)) (m (c.tc.loc Cert.SumHgrn1Ideal.main_arg2))
  · refine (θ_run _ _ _).mono (fun r h c => ?_)
      (θ_run_and (Cert.SumHgrn1Ideal.Gen.unchanged m g (Cert.SumHgrn1Ideal.Hand.ok m)) (Cert.SumHgrn1Ideal.Gen.run_main m g (Cert.SumHgrn1Ideal.Hand.ok m)))
    have e : r.2.mem (c.tc.loc Cert.SumHgrn1Ideal.main_v7) = Cert.SumHgrn1Ideal.Hand.SUM (m (c.tc.loc Cert.SumHgrn1Ideal.main_arg0)) (m (c.tc.loc Cert.SumHgrn1Ideal.main_arg1)) (m (c.tc.loc Cert.SumHgrn1Ideal.main_arg2)) :=
      ((h.2 c).2 Cert.SumHgrn1Ideal.main_v7 (by decide : Cert.SumHgrn1Ideal.main_v7 ∈ Pipeline.restRefs Cert.SumHgrn1Ideal.sig Cert.SumHgrn1Ideal.spec0)).trans (Cert.SumHgrn1Ideal.Hand.final m (Cert.SumHgrn1Ideal.Hand.ok m) c)
    exact ⟨e, h.1 c⟩
  · run_from Cert.SumHgrn1RefIdeal.Value.run m' g'

theorem frame_SumHgrn1 : Cert.quiescent_SumHgrn1 := fun m ρ _ => Cert.SumHgrn1.Gen.frame m ρ (Cert.SumHgrn1.Hand.ok m)
theorem frame_SumHgrn1Ideal : Cert.quiescent_SumHgrn1Ideal := fun m ρ _ => Cert.SumHgrn1Ideal.Gen.frame m ρ (Cert.SumHgrn1Ideal.Hand.ok m)
theorem frame_SumHgrn1RefIdeal : Cert.quiescent_SumHgrn1RefIdeal := fun m ρ _ =>
  (θ_run Cert.SumHgrn1RefIdeal.defs _ _).mono
    (fun r h => ⟨fun c => (h c).2, Idealize.ShloMosaic.sem_eq_zero_of_no_sems (by decide) r.2⟩)
    (Cert.SumHgrn1RefIdeal.Value.run m ρ)

end Cert.Proof

end
-- ==== Proof.SumOut0Value.lean ====
/- The first half of the rows of a chip's shard of a weight's gradient, summed over the devices: the device's own part, its
   sibling's, and the sums that the three other chips sent. Which shard and which half they are is read from a prefetched table,
   whose entries the host part fixes. -/
module

public import proofs.«01_k».proof.Proof.Gen.SumOut0Ideal.Frame
public import proofs.«01_k».proof.Proof.Gen.SumOut0.Frame
public import proofs.«01_k».proof.Proof.Gen.SumOut0RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumOut0.Hand

open Cert.SumOut0 Cert.SumOut0.Gen

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumOut0.Hand

namespace Cert.SumOut0Ideal.Hand

open Cert.SumOut0Ideal Cert.SumOut0Ideal.Gen

section Table

variable {F : FTy → Type} [FloatOps F] (m : (ℓ : Loc nD τ sig) → Buf (Elt F) ℓ)

/-- The prefetched table holds the chip's number, 0, and the core's, 0. -/
theorem numbers : V m (0 : Dev nD) main_v4 = concatenate S2 0 [⟨S1, constantI S1 32 0#32⟩, ⟨S1, constantI S1 32 0#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 0#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 0#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 0, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![0, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x256x2048 .bf16) (l : FVec Ideal S4x256x2048 .bf16) (r : FVec Ideal S3x256x2048 .bf16) : FVec Ideal Cert.SumOut0RefIdeal.S256x2048 .f32 :=
  addf (addf (extf .f32 (shapeCast Cert.SumOut0RefIdeal.S256x2048 (extractStridedSlice Cert.SumOut0RefIdeal.S1x1x256x2048 ![0, 0, 0, 0] g Cert.SumOut0RefIdeal.Gen.slices_S4x2x256x2048_S1x1x256x2048_0_0_0_0) Cert.SumOut0RefIdeal.Gen.shapeCasts_S1x1x256x2048_S256x2048) Cert.SumOut0RefIdeal.Gen.bitsLt_bf16_f32)
      (extf .f32 (shapeCast Cert.SumOut0RefIdeal.S256x2048 (extractStridedSlice Cert.SumOut0RefIdeal.S1x256x2048 ![0, 0, 0] l Cert.SumOut0RefIdeal.Gen.slices_S4x256x2048_S1x256x2048_0_0_0) Cert.SumOut0RefIdeal.Gen.shapeCasts_S1x256x2048_S256x2048) Cert.SumOut0RefIdeal.Gen.bitsLt_bf16_f32))
    (Host.reduceAdd (extf .f32 r Cert.SumOut0RefIdeal.Gen.bitsLt_bf16_f32) (constant Cert.SumOut0RefIdeal.S_ .f32 0x00000000#32) Cert.SumOut0RefIdeal.Gen.reducesTo_S3x256x2048_S256x2048_d0 Cert.SumOut0RefIdeal.Gen.h_S_)

/-- Its entry at row `j 0` and column `j 1`: five numbers added. -/
theorem sum_entry (g : FVec Ideal S4x2x256x2048 .bf16) (l : FVec Ideal S4x256x2048 .bf16) (r : FVec Ideal S3x256x2048 .bf16) (j : Cert.SumOut0RefIdeal.S256x2048.Idx) : SUM g l r j
    = g (ix4 0 0 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x256x2048 .bf16) (l : FVec Ideal S4x256x2048 .bf16) (r : FVec Ideal S3x256x2048 .bf16) (p : FVec Ideal S2x256x2048 .f32) : FVec Ideal S2x256x2048 .f32 :=
  fun i => if (i 0 : ℕ) = 0 then SUM g l r (ix2 (i 1) (i 2)) else p i

theorem both_mine (g : FVec Ideal S4x2x256x2048 .bf16) (l : FVec Ideal S4x256x2048 .bf16) (r : FVec Ideal S3x256x2048 .bf16) (p : FVec Ideal S2x256x2048 .f32) (i : S2x256x2048.Idx) (j : Cert.SumOut0RefIdeal.S256x2048.Idx) (h : (i 0 : ℕ) = 0) (h0 : (i 1 : ℕ) = j 0)
    (h1 : (i 2 : ℕ) = j 1) : both g l r p i = SUM g l r j := by
  have e : (ix2 (i 1) (i 2) : Cert.SumOut0RefIdeal.S256x2048.Idx) = j := by
    funext a
    match a with
    | 0 => exact Fin.ext h0
    | 1 => exact Fin.ext h1
  unfold both
  rw [if_pos h, e]

theorem both_kept (g : FVec Ideal S4x2x256x2048 .bf16) (l : FVec Ideal S4x256x2048 .bf16) (r : FVec Ideal S3x256x2048 .bf16) (p : FVec Ideal S2x256x2048 .f32) (i : S2x256x2048.Idx) (h : (i 0 : ℕ) / 1 ≠ 0) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 0, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![0, t.val, 0] := (rows m (grid0.coords t)).trans (by rw [coord t])

/-- What the body computes at `y` from a block of each array: five numbers added. -/
theorem pay (a : Vec Ideal S1x1x256x2048 .bf16) (b p q s : Vec Ideal S1x256x2048 .bf16) (y : S1x256x2048.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 2048] inb_S3x256x2048_S1x256x2048_0_0_0))
      (View.ld (iblk m hO c 2 t) (Rect.unit ![1, 0, 0] ![1, 256, 2048] inb_S3x256x2048_S1x256x2048_1_0_0)) (View.ld (iblk m hO c 2 t) (Rect.unit ![2, 0, 0] ![1, 256, 2048] inb_S3x256x2048_S1x256x2048_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    iblk m hO c 0 t (ix4 0 0 (y 1) (y 2)) = m ((c : Thread nD τ).loc main_arg0) (ix4 0 0 (j 0) (j 1)) := by
  blk_point [iblk, V, idx0 m hO t]

theorem block1 (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    View.ld (iblk m hO c 2 t) (Rect.unit ![0, 0, 0] ![1, 256, 2048] inb_S3x256x2048_S1x256x2048_0_0_0) y = m ((c : Thread nD τ).loc main_arg2) (ix3 0 (j 0) (j 1)) := by
  blk_point [iblk, V, idx2 m hO t]

theorem sent1 (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    View.ld (iblk m hO c 2 t) (Rect.unit ![1, 0, 0] ![1, 256, 2048] inb_S3x256x2048_S1x256x2048_1_0_0) y = m ((c : Thread nD τ).loc main_arg2) (ix3 1 (j 0) (j 1)) := by
  blk_point [iblk, V, idx2 m hO t]

theorem sent2 (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    View.ld (iblk m hO c 2 t) (Rect.unit ![2, 0, 0] ![1, 256, 2048] inb_S3x256x2048_S1x256x2048_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x2048.Idx) (j : Cert.SumOut0RefIdeal.S256x2048.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x2048.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 1 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 0#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 0 := by
  subst e
  exact (by decide +kernel : ((cfg0 adm0).win 3).CoversWhere fun β => β (0 : Fin 3) = 0)

theorem covers (hO : Ok m) : ((cfgM m hO).win 3).CoversWhere fun β => β (0 : Fin 3) = 0 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 0) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 0 (j 0) (j 1)) j rfl rfl rfl)
  pointwise []

end Cert.SumOut0Ideal.Hand

namespace Cert.Proof

theorem value_SumOut0 : Cert.algebraic_SumOut0Ideal_SumOut0RefIdeal := by
  pair_intro
  case refine_1 => exact fun c => Cert.SumOut0Ideal.Hand.SUM (m (c.tc.loc Cert.SumOut0Ideal.main_arg0)) (m (c.tc.loc Cert.SumOut0Ideal.main_arg1)) (m (c.tc.loc Cert.SumOut0Ideal.main_arg2))
  · refine (θ_run _ _ _).mono (fun r h c => ?_)
      (θ_run_and (Cert.SumOut0Ideal.Gen.unchanged m g (Cert.SumOut0Ideal.Hand.ok m)) (Cert.SumOut0Ideal.Gen.run_main m g (Cert.SumOut0Ideal.Hand.ok m)))
    have e : r.2.mem (c.tc.loc Cert.SumOut0Ideal.main_v7) = Cert.SumOut0Ideal.Hand.SUM (m (c.tc.loc Cert.SumOut0Ideal.main_arg0)) (m (c.tc.loc Cert.SumOut0Ideal.main_arg1)) (m (c.tc.loc Cert.SumOut0Ideal.main_arg2)) :=
      ((h.2 c).2 Cert.SumOut0Ideal.main_v7 (by decide : Cert.SumOut0Ideal.main_v7 ∈ Pipeline.restRefs Cert.SumOut0Ideal.sig Cert.SumOut0Ideal.spec0)).trans (Cert.SumOut0Ideal.Hand.final m (Cert.SumOut0Ideal.Hand.ok m) c)
    exact ⟨e, h.1 c⟩
  · run_from Cert.SumOut0RefIdeal.Value.run m' g'

theorem frame_SumOut0 : Cert.quiescent_SumOut0 := fun m ρ _ => Cert.SumOut0.Gen.frame m ρ (Cert.SumOut0.Hand.ok m)
theorem frame_SumOut0Ideal : Cert.quiescent_SumOut0Ideal := fun m ρ _ => Cert.SumOut0Ideal.Gen.frame m ρ (Cert.SumOut0Ideal.Hand.ok m)
theorem frame_SumOut0RefIdeal : Cert.quiescent_SumOut0RefIdeal := fun m ρ _ =>
  (θ_run Cert.SumOut0RefIdeal.defs _ _).mono
    (fun r h => ⟨fun c => (h c).2, Idealize.ShloMosaic.sem_eq_zero_of_no_sems (by decide) r.2⟩)
    (Cert.SumOut0RefIdeal.Value.run m ρ)

end Cert.Proof

end
-- ==== Proof.SumOut1Value.lean ====
/- The second half of the rows of a chip's shard of a weight's gradient, summed over the devices: the device's own part, its
   sibling's, and the sums that the three other chips sent. Which shard and which half they are is read from a prefetched table,
   whose entries the host part fixes. -/
module

public import proofs.«01_k».proof.Proof.Gen.SumOut1Ideal.Frame
public import proofs.«01_k».proof.Proof.Gen.SumOut1.Frame
public import proofs.«01_k».proof.Proof.Gen.SumOut1RefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumOut1.Hand

open Cert.SumOut1 Cert.SumOut1.Gen

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Cert.SumOut1.Hand

namespace Cert.SumOut1Ideal.Hand

open Cert.SumOut1Ideal Cert.SumOut1Ideal.Gen

section Table

variable {F : FTy → Type} [FloatOps F] (m : (ℓ : Loc nD τ sig) → Buf (Elt F) ℓ)

/-- The prefetched table holds the chip's number, 0, and the core's, 1. -/
theorem numbers : V m (0 : Dev nD) main_v4 = concatenate S2 0 [⟨S1, constantI S1 32 0#32⟩, ⟨S1, constantI S1 32 1#32⟩] concatenates_S1_S1_S2_d0 := by
  have h2 : V m (0 : Dev nD) main_v2 = constantI S1 32 0#32 := by
    entry_read
    funext i
    simp only [shapeCast, addi, muli, constantI]
    rfl
  have h3 : V m (0 : Dev nD) main_v3 = constantI S1 32 1#32 := by
    entry_read
    rfl
  have h : V m (0 : Dev nD) main_v4 = concatenate S2 0 [⟨S1, V m (0 : Dev nD) main_v2⟩, ⟨S1, V m (0 : Dev nD) main_v3⟩] concatenates_S1_S1_S2_d0 := by
    simp [V]
    rfl
  rw [h, h2, h3]

theorem first : (tbl m).at 0 (Rect.unit (s := S2) ![0] S1.size inb_S2_S1_0) numel1_S1 = 0#32 := by
  have h : tbl m 0 = _ := numbers m
  unfold Pipeline.Prefetch.Contents.at
  rw [h]
  rfl

theorem second : (tbl m).at 0 (Rect.unit (s := S2) ![1] S1.size inb_S2_S1_1) numel1_S1 = 1#32 := by
  have h : tbl m 0 = _ := numbers m
  unfold Pipeline.Prefetch.Contents.at
  rw [h]
  rfl

/-- So every point reads that chip's shard, of the device's gradient -/
theorem own (i : grid0.Coords) : cc0_transform_0 inb_S2_S1_0 numel1_S1 inb_S2_S1_1 (tbl m) i = ![0, 1, (i 0 : ℕ), 0] := by
  unfold cc0_transform_0
  dsimp only
  rw [first, second]
  revert i
  decide +kernel

/-- and of its sibling's, -/
theorem sibling (i : grid0.Coords) : cc0_transform_1 inb_S2_S1_0 numel1_S1 (tbl m) i = ![0, (i 0 : ℕ), 0] := by
  unfold cc0_transform_1
  dsimp only
  rw [first]
  revert i
  decide +kernel

/-- and writes that core's half. -/
theorem rows (i : grid0.Coords) : cc0_transform_3 inb_S2_S1_1 numel1_S1 (tbl m) i = ![1, (i 0 : ℕ), 0] := by
  unfold cc0_transform_3
  dsimp only
  rw [second]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [rows]
    revert i
    decide +kernel

end Table

variable (m : (ℓ : Loc nD τ sig) → Buf (Elt Ideal) ℓ)

/-- The half of the shard's gradient. -/
abbrev SUM (g : FVec Ideal S4x2x256x2048 .bf16) (l : FVec Ideal S4x256x2048 .bf16) (r : FVec Ideal S3x256x2048 .bf16) : FVec Ideal Cert.SumOut1RefIdeal.S256x2048 .f32 :=
  addf (addf (extf .f32 (shapeCast Cert.SumOut1RefIdeal.S256x2048 (extractStridedSlice Cert.SumOut1RefIdeal.S1x1x256x2048 ![0, 1, 0, 0] g Cert.SumOut1RefIdeal.Gen.slices_S4x2x256x2048_S1x1x256x2048_0_1_0_0) Cert.SumOut1RefIdeal.Gen.shapeCasts_S1x1x256x2048_S256x2048) Cert.SumOut1RefIdeal.Gen.bitsLt_bf16_f32)
      (extf .f32 (shapeCast Cert.SumOut1RefIdeal.S256x2048 (extractStridedSlice Cert.SumOut1RefIdeal.S1x256x2048 ![0, 0, 0] l Cert.SumOut1RefIdeal.Gen.slices_S4x256x2048_S1x256x2048_0_0_0) Cert.SumOut1RefIdeal.Gen.shapeCasts_S1x256x2048_S256x2048) Cert.SumOut1RefIdeal.Gen.bitsLt_bf16_f32))
    (Host.reduceAdd (extf .f32 r Cert.SumOut1RefIdeal.Gen.bitsLt_bf16_f32) (constant Cert.SumOut1RefIdeal.S_ .f32 0x00000000#32) Cert.SumOut1RefIdeal.Gen.reducesTo_S3x256x2048_S256x2048_d0 Cert.SumOut1RefIdeal.Gen.h_S_)

/-- Its entry at row `j 0` and column `j 1`: five numbers added. -/
theorem sum_entry (g : FVec Ideal S4x2x256x2048 .bf16) (l : FVec Ideal S4x256x2048 .bf16) (r : FVec Ideal S3x256x2048 .bf16) (j : Cert.SumOut1RefIdeal.S256x2048.Idx) : SUM g l r j
    = g (ix4 0 1 (j 0) (j 1)) + l (ix3 0 (j 0) (j 1)) + r (ix3 0 (j 0) (j 1)) + r (ix3 1 (j 0) (j 1)) + r (ix3 2 (j 0) (j 1)) := by
  pointwise [SUM]
  rw [Fin.sum_univ_three, ← add_assoc, ← add_assoc]

/-- The half of the gradient, beside whatever the other half holds. -/
def both (g : FVec Ideal S4x2x256x2048 .bf16) (l : FVec Ideal S4x256x2048 .bf16) (r : FVec Ideal S3x256x2048 .bf16) (p : FVec Ideal S2x256x2048 .f32) : FVec Ideal S2x256x2048 .f32 :=
  fun i => if (i 0 : ℕ) = 1 then SUM g l r (ix2 (i 1) (i 2)) else p i

theorem both_mine (g : FVec Ideal S4x2x256x2048 .bf16) (l : FVec Ideal S4x256x2048 .bf16) (r : FVec Ideal S3x256x2048 .bf16) (p : FVec Ideal S2x256x2048 .f32) (i : S2x256x2048.Idx) (j : Cert.SumOut1RefIdeal.S256x2048.Idx) (h : (i 0 : ℕ) = 1) (h0 : (i 1 : ℕ) = j 0)
    (h1 : (i 2 : ℕ) = j 1) : both g l r p i = SUM g l r j := by
  have e : (ix2 (i 1) (i 2) : Cert.SumOut1RefIdeal.S256x2048.Idx) = j := by
    funext a
    match a with
    | 0 => exact Fin.ext h0
    | 1 => exact Fin.ext h1
  unfold both
  rw [if_pos h, e]

theorem both_kept (g : FVec Ideal S4x2x256x2048 .bf16) (l : FVec Ideal S4x256x2048 .bf16) (r : FVec Ideal S3x256x2048 .bf16) (p : FVec Ideal S2x256x2048 .f32) (i : S2x256x2048.Idx) (h : (i 0 : ℕ) / 1 ≠ 1) : both g l r p i = p i := by
  unfold both
  exact if_neg (by rwa [Nat.div_one] at h)

/-- Which block each window has at point `t`. -/
theorem coord : ∀ t : Fin grid0.N, (grid0.coords t 0 : ℕ) = t.val := by decide +kernel
theorem maps : ∀ t : Fin grid0.N, cc0_transform_2 (grid0.coords t) = ![0, t.val, 0] := by decide +kernel
theorem idx0 (hO : Ok m) (t : Fin (cfgM m hO).N) : ((cfgM m hO).win 0).index t = ![0, 1, t.val, 0] := (own m (grid0.coords t)).trans (by rw [coord t])
theorem idx1 (hO : Ok m) (t : Fin (cfgM m hO).N) : ((cfgM m hO).win 1).index t = ![0, t.val, 0] := (sibling m (grid0.coords t)).trans (by rw [coord t])
theorem idx2 (hO : Ok m) (t : Fin (cfgM m hO).N) : ((cfgM m hO).win 2).index t = ![0, t.val, 0] := maps t
theorem idx3 (hO : Ok m) (t : Fin (cfgM m hO).N) : ((cfgM m hO).win 3).index t = ![1, t.val, 0] := (rows m (grid0.coords t)).trans (by rw [coord t])

/-- What the body computes at `y` from a block of each array: five numbers added. -/
theorem pay (a : Vec Ideal S1x1x256x2048 .bf16) (b p q s : Vec Ideal S1x256x2048 .bf16) (y : S1x256x2048.Idx) :
    k0_pay1 a b p q s y = a (ix4 0 0 (y 1) (y 2)) + b y + p y + q y + s y := by
  pointwise [k0_pay1]

/-- What point `t` stores, of the blocks it reads: the third holds one above another what the three chips sent. -/
theorem stored (hO : Ok m) (c : Dev nD) (t : Fin (cfgM m hO).N) : outsAt0 m hO c t
    = k0_pay1 (iblk m hO c 0 t) (iblk m hO c 1 t) (View.ld (iblk m hO c 2 t) (Rect.unit ![0, 0, 0] ![1, 256, 2048] inb_S3x256x2048_S1x256x2048_0_0_0))
      (View.ld (iblk m hO c 2 t) (Rect.unit ![1, 0, 0] ![1, 256, 2048] inb_S3x256x2048_S1x256x2048_1_0_0)) (View.ld (iblk m hO c 2 t) (Rect.unit ![2, 0, 0] ![1, 256, 2048] inb_S3x256x2048_S1x256x2048_2_0_0)) := by
  unfold outsAt0
  frame_out
  have e0 := (hs0_0 m hO t).read_unread (iblk m hO c 0 t)
  have e1 := (hs0_1 m hO t).read_unread (iblk m hO c 1 t)
  have e2 := (hs0_2 m hO t).read_unread (iblk m hO c 2 t)
  exact congr (congr (congr (congrArg₂ k0_pay1 e0 e1) (congrArg (View.ld · _) e2)) (congrArg (View.ld · _) e2)) (congrArg (View.ld · _) e2)

/-- The entries of the blocks at point `t` are the arrays' in row block `t`. -/
theorem block0 (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    iblk m hO c 0 t (ix4 0 0 (y 1) (y 2)) = m ((c : Thread nD τ).loc main_arg0) (ix4 0 1 (j 0) (j 1)) := by
  blk_point [iblk, V, idx0 m hO t]

theorem block1 (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    iblk m hO c 1 t y = m ((c : Thread nD τ).loc main_arg1) (ix3 0 (j 0) (j 1)) := by
  blk_point [iblk, V, idx1 m hO t]

theorem sent0 (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    View.ld (iblk m hO c 2 t) (Rect.unit ![0, 0, 0] ![1, 256, 2048] inb_S3x256x2048_S1x256x2048_0_0_0) y = m ((c : Thread nD τ).loc main_arg2) (ix3 0 (j 0) (j 1)) := by
  blk_point [iblk, V, idx2 m hO t]

theorem sent1 (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    View.ld (iblk m hO c 2 t) (Rect.unit ![1, 0, 0] ![1, 256, 2048] inb_S3x256x2048_S1x256x2048_1_0_0) y = m ((c : Thread nD τ).loc main_arg2) (ix3 1 (j 0) (j 1)) := by
  blk_point [iblk, V, idx2 m hO t]

theorem sent2 (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    View.ld (iblk m hO c 2 t) (Rect.unit ![2, 0, 0] ![1, 256, 2048] inb_S3x256x2048_S1x256x2048_2_0_0) y = m ((c : Thread nD τ).loc main_arg2) (ix3 2 (j 0) (j 1)) := by
  blk_point [iblk, V, idx2 m hO t]

/-- So what point `t` stores is the sum in row block `t`. -/
theorem entry (hO : Ok m) (c : Dev nD) (t : Fin (cfgM m hO).N) (y : S1x256x2048.Idx) (j : Cert.SumOut1RefIdeal.S256x2048.Idx) (h0 : (j 0 : ℕ) = 256 * t + y 1) (h1 : (j 1 : ℕ) = y 2) :
    outsAt0 m hO c t y = SUM (m ((c : Thread nD τ).loc main_arg0)) (m ((c : Thread nD τ).loc main_arg1)) (m ((c : Thread nD τ).loc main_arg2)) j := by
  refine (congrFun (stored m hO c t) y).trans ((pay _ _ _ _ _ y).trans (Eq.trans ?_ (sum_entry _ _ _ j).symm))
  exact congrArg₂ (· + ·) (congrArg₂ (· + ·) (congrArg₂ (· + ·) (congrArg₂ (· + ·) (block0 m hO c t y j h0 h1) (block1 m hO c t y j h0 h1))
    (sent0 m hO c t y j h0 h1)) (sent1 m hO c t y j h0 h1)) (sent2 m hO c t y j h0 h1)

theorem point (hO : Ok m) (c : Dev nD) (t : Fin (cfgM m hO).N) (y : S1x256x2048.Idx) : outsAt0 m hO c t y
    = both (m ((c : Thread nD τ).loc main_arg0)) (m ((c : Thread nD τ).loc main_arg1)) (m ((c : Thread nD τ).loc main_arg2)) (V m c main_v5) ((((cfgM m hO).win 3).blk t).view.emb y) := by
  have ht : t.val < 1 := t.isLt
  idx_bounds
  refine (entry m hO c t y (ix2 ⟨256 * t + y 1, by omega⟩ ⟨y 2, by omega⟩) rfl rfl).trans (both_mine _ _ _ _ _ _ ?_ ?_ ?_).symm
  · blk_simp [idx3 m hO t]
  · blk_simp [idx3 m hO t]
    dsimp only
    omega
  · blk_simp [idx3 m hO t]

/-- The table's contents, written out. -/
abbrev tab0 : pre0.Contents (Elt Ideal) := fun
  | 0 => (concatenate S2 0 [⟨S1, constantI S1 32 0#32⟩, ⟨S1, constantI S1 32 1#32⟩] concatenates_S1_S1_S2_d0 : (⟨S2, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover that half of the result array. -/
theorem covers_of (p : pre0.Contents (Elt Ideal)) (h : ok0 p) (e : p = tab0) : ((cfg0 ⟨p, h⟩).win 3).CoversWhere fun β => β (0 : Fin 3) = 1 := by
  subst e
  exact (by decide +kernel : ((cfg0 adm0).win 3).CoversWhere fun β => β (0 : Fin 3) = 1)

theorem covers (hO : Ok m) : ((cfgM m hO).win 3).CoversWhere fun β => β (0 : Fin 3) = 1 := covers_of (tbl m) hO (table m)

/-- The array the call writes has the sum in that half, and its earlier contents in the other. -/
theorem array (hO : Ok m) (c : Dev nD) : (dats m hO 0 c).arrAt 3 (cfgM m hO).N = both (m ((c : Thread nD τ).loc main_arg0)) (m ((c : Thread nD τ).loc main_arg1)) (m ((c : Thread nD τ).loc main_arg2)) (V m c main_v5) := by
  refine (dats m hO 0 c).arrAt_eq_of_coversWhere_of_agree 3 _ (fun β => β (0 : Fin 3) = 1) (covers m hO) (fun t _ y => ?_) (fun j hj => ?_)
  · exact ((congrFun (after0_3 m hO c t) y).trans (point m hO c t y)).trans rfl
  · rw [A_eq]
    exact (both_kept _ _ _ _ _ hj).symm

/-- The host's slice of it is the sum. -/
theorem final (hO : Ok m) (c : Dev nD) : Pipeline.afterTail pcfgs (fun _ => adm m hO) (dats m hO) 0 (V0 m) [hostOps1] c main_v7 = SUM (m ((c : Thread nD τ).loc main_arg0)) (m ((c : Thread nD τ).loc main_arg1)) (m ((c : Thread nD τ).loc main_arg2)) := by
  have e : Pipeline.withArrays ((Pipeline.pin pcfgs fun _ => adm m hO) 0).spec c (V0 m c) (fun w => (dats m hO 0 c).arrAt w (cfgM m hO).N) (Proc.devRef .tc main_v5)
      = both (m ((c : Thread nD τ).loc main_arg0)) (m ((c : Thread nD τ).loc main_arg1)) (m ((c : Thread nD τ).loc main_arg2)) (V m c main_v5) :=
    (Pipeline.withArrays_arr spec0 winFacts0.arr_inj c (V0 m c) _ 3).trans (array m hO c)
  unfold Pipeline.afterTail
  simp only [List.flatten_cons, List.flatten_nil, List.append_nil]
  after_results
  rw [e]
  funext j
  refine Eq.trans ?_ (both_mine _ _ _ (V m c main_v5) (ix3 1 (j 0) (j 1)) j rfl rfl rfl)
  pointwise []

end Cert.SumOut1Ideal.Hand

namespace Cert.Proof

theorem value_SumOut1 : Cert.algebraic_SumOut1Ideal_SumOut1RefIdeal := by
  pair_intro
  case refine_1 => exact fun c => Cert.SumOut1Ideal.Hand.SUM (m (c.tc.loc Cert.SumOut1Ideal.main_arg0)) (m (c.tc.loc Cert.SumOut1Ideal.main_arg1)) (m (c.tc.loc Cert.SumOut1Ideal.main_arg2))
  · refine (θ_run _ _ _).mono (fun r h c => ?_)
      (θ_run_and (Cert.SumOut1Ideal.Gen.unchanged m g (Cert.SumOut1Ideal.Hand.ok m)) (Cert.SumOut1Ideal.Gen.run_main m g (Cert.SumOut1Ideal.Hand.ok m)))
    have e : r.2.mem (c.tc.loc Cert.SumOut1Ideal.main_v7) = Cert.SumOut1Ideal.Hand.SUM (m (c.tc.loc Cert.SumOut1Ideal.main_arg0)) (m (c.tc.loc Cert.SumOut1Ideal.main_arg1)) (m (c.tc.loc Cert.SumOut1Ideal.main_arg2)) :=
      ((h.2 c).2 Cert.SumOut1Ideal.main_v7 (by decide : Cert.SumOut1Ideal.main_v7 ∈ Pipeline.restRefs Cert.SumOut1Ideal.sig Cert.SumOut1Ideal.spec0)).trans (Cert.SumOut1Ideal.Hand.final m (Cert.SumOut1Ideal.Hand.ok m) c)
    exact ⟨e, h.1 c⟩
  · run_from Cert.SumOut1RefIdeal.Value.run m' g'

theorem frame_SumOut1 : Cert.quiescent_SumOut1 := fun m ρ _ => Cert.SumOut1.Gen.frame m ρ (Cert.SumOut1.Hand.ok m)
theorem frame_SumOut1Ideal : Cert.quiescent_SumOut1Ideal := fun m ρ _ => Cert.SumOut1Ideal.Gen.frame m ρ (Cert.SumOut1Ideal.Hand.ok m)
theorem frame_SumOut1RefIdeal : Cert.quiescent_SumOut1RefIdeal := fun m ρ _ =>
  (θ_run Cert.SumOut1RefIdeal.defs _ _).mono
    (fun r h => ⟨fun c => (h c).2, Idealize.ShloMosaic.sem_eq_zero_of_no_sems (by decide) r.2⟩)
    (Cert.SumOut1RefIdeal.Value.run m ρ)

end Cert.Proof

end
-- ==== Proof.CastInValue.lean ====
/- A chip's shard of a weight, rounded to bf16 and written among the columns of the whole weight, of which the host takes it. Which
   columns they are is read from a prefetched table, whose entry the host part fixes. -/
module

public import proofs.«01_k».proof.Proof.Gen.CastInIdeal.Frame
public import proofs.«01_k».proof.Proof.Gen.CastIn.Frame
public import proofs.«01_k».proof.Proof.Gen.CastInRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CastIn.Hand

open Cert.CastIn Cert.CastIn.Gen

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Cert.CastIn.Hand

namespace Cert.CastInIdeal.Hand

open Cert.CastInIdeal Cert.CastInIdeal.Gen

section Table

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Table

variable (m : (ℓ : Loc nD τ sig) → Buf (Elt Ideal) ℓ)

/-- The shard, rounded. -/
abbrev SHARD (w : FVec Ideal S2048x2688 .f32) : FVec Ideal Cert.CastInRefIdeal.S2048x2688 .bf16 := truncf .bf16 w Cert.CastInRefIdeal.Gen.bitsLt_bf16_f32

/-- The shard, among whatever the other columns hold. -/
def wide (w : FVec Ideal S2048x2688 .f32) (p : FVec Ideal S2048x10752 .bf16) : FVec Ideal S2048x10752 .bf16 :=
  fun i => if hi : (i 1 : ℕ) < 2688 then SHARD w (ix2 ⟨i 0, (i 0).isLt⟩ ⟨i 1, hi⟩) else p i

theorem wide_mine (w : FVec Ideal S2048x2688 .f32) (p : FVec Ideal S2048x10752 .bf16) (i : S2048x10752.Idx) (j : Cert.CastInRefIdeal.S2048x2688.Idx) (h0 : (i 0 : ℕ) = j 0)
    (h1 : (i 1 : ℕ) = j 1) : wide w p i = SHARD w j := by
  have hj : (j 1 : ℕ) < 2688 := (j 1).isLt
  have e : (ix2 ⟨i 0, (i 0).isLt⟩ ⟨i 1, by omega⟩ : Cert.CastInRefIdeal.S2048x2688.Idx) = j := by
    funext a
    match a with
    | 0 => exact Fin.ext h0
    | 1 => exact Fin.ext h1
  unfold wide
  rw [dif_pos (by omega), e]

theorem wide_kept (w : FVec Ideal S2048x2688 .f32) (p : FVec Ideal S2048x10752 .bf16) (i : S2048x10752.Idx) (hi : (i 1 : ℕ) / 2688 ≠ 0) : wide w p i = p i := by
  unfold wide
  exact dif_neg (by omega)

/-- Which block each window has at point `t`. -/
theorem maps : ∀ t : Fin grid0.N, cc0_transform_0 (grid0.coords t) = ![t.val, 0] := by decide +kernel
theorem coord : ∀ t : Fin grid0.N, (grid0.coords t 0 : ℕ) = t.val := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![t.val, 0] := (place m (grid0.coords t)).trans (by rw [coord t])

/-- What point `t` stores at `y` is the shard's row `y 0` of row block `t`. -/
theorem entry (hO : Ok m) (c : Dev nD) (t : Fin (cfgM m hO).N) (y : S256x2688.Idx) (j : Cert.CastInRefIdeal.S2048x2688.Idx) (h0 : (j 0 : ℕ) = 256 * t + y 0)
    (h1 : (j 1 : ℕ) = y 1) : k0_pay1 (iblk m hO c 0 t) y = SHARD (m ((c : Thread nD τ).loc main_arg0)) j := by
  pointwise [k0_pay1, SHARD]
  blk_point [iblk, V, idx0 m hO t]

theorem point (hO : Ok m) (c : Dev nD) (t : Fin (cfgM m hO).N) (y : S256x2688.Idx) :
    k0_pay1 (iblk m hO c 0 t) y = wide (m ((c : Thread nD τ).loc main_arg0)) (V m c main_v3) ((((cfgM m hO).win 1).blk t).view.emb y) := by
  have ht : t.val < 8 := t.isLt
  idx_bounds
  refine (entry m hO c t y (ix2 ⟨256 * t + y 0, by omega⟩ ⟨y 1, by omega⟩) rfl rfl).trans (wide_mine _ _ _ _ ?_ ?_).symm
  · blk_simp [idx1 m hO t]
    dsimp only
    omega
  · blk_simp [idx1 m hO t]

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 1).CoversWhere fun β => β (1 : Fin 2) = 0 := by
  subst e
  exact (by decide +kernel : ((cfg0 adm0).win 1).CoversWhere fun β => β (1 : Fin 2) = 0)

theorem covers (hO : Ok m) : ((cfgM m hO).win 1).CoversWhere fun β => β (1 : Fin 2) = 0 := covers_of (tbl m) hO (table m)

/-- What point `t` stores, of the block it reads. -/
theorem stored (hO : Ok m) (c : Dev nD) (t : Fin (cfgM m hO).N) : outsAt0 m hO c t = k0_pay1 (iblk m hO c 0 t) := by
  unfold outsAt0
  frame_out
  exact congrArg k0_pay1 ((hs0_0 m hO t).read_unread _)

/-- The array the call writes has the shard in this chip's columns, and its earlier contents elsewhere. -/
theorem array (hO : Ok m) (c : Dev nD) : (dats m hO 0 c).arrAt 1 (cfgM m hO).N = wide (m ((c : Thread nD τ).loc main_arg0)) (V m c main_v3) := by
  refine (dats m hO 0 c).arrAt_eq_of_coversWhere_of_agree 1 _ (fun β => β (1 : Fin 2) = 0) (covers m hO) (fun t _ y => ?_) (fun j hj => ?_)
  · exact (((congrFun (after0_1 m hO c t) y).trans (congrFun (stored m hO c t) y)).trans (point m hO c t y)).trans rfl
  · rw [A_eq]
    exact (wide_kept _ _ _ hj).symm

/-- The host's slice of it is the shard. -/
theorem final (hO : Ok m) (c : Dev nD) : Pipeline.afterTail pcfgs (fun _ => adm m hO) (dats m hO) 0 (V0 m) [hostOps1] c main_v4 = SHARD (m ((c : Thread nD τ).loc main_arg0)) := by
  have e : Pipeline.withArrays ((Pipeline.pin pcfgs fun _ => adm m hO) 0).spec c (V0 m c) (fun w => (dats m hO 0 c).arrAt w (cfgM m hO).N) (Proc.devRef .tc main_v3)
      = wide (m ((c : Thread nD τ).loc main_arg0)) (V m c main_v3) :=
    (Pipeline.withArrays_arr spec0 winFacts0.arr_inj c (V0 m c) _ 1).trans (array m hO c)
  unfold Pipeline.afterTail
  simp only [List.flatten_cons, List.flatten_nil, List.append_nil]
  after_results
  rw [e]
  funext j
  exact wide_mine _ _ _ _ (by simp) (by simp)

end Cert.CastInIdeal.Hand

namespace Cert.Proof

theorem value_CastIn : Cert.algebraic_CastInIdeal_CastInRefIdeal := by
  pair_intro
  case refine_1 => exact fun c => Cert.CastInIdeal.Hand.SHARD (m (c.tc.loc Cert.CastInIdeal.main_arg0))
  · refine (θ_run _ _ _).mono (fun r h c => ?_)
      (θ_run_and (Cert.CastInIdeal.Gen.unchanged m g (Cert.CastInIdeal.Hand.ok m)) (Cert.CastInIdeal.Gen.run_main m g (Cert.CastInIdeal.Hand.ok m)))
    have e : r.2.mem (c.tc.loc Cert.CastInIdeal.main_v4) = Cert.CastInIdeal.Hand.SHARD (m (c.tc.loc Cert.CastInIdeal.main_arg0)) :=
      ((h.2 c).2 Cert.CastInIdeal.main_v4 (by decide : Cert.CastInIdeal.main_v4 ∈ Pipeline.restRefs Cert.CastInIdeal.sig Cert.CastInIdeal.spec0)).trans (Cert.CastInIdeal.Hand.final m (Cert.CastInIdeal.Hand.ok m) c)
    exact ⟨e, h.1 c⟩
  · run_from Cert.CastInRefIdeal.Value.run m' g'

theorem frame_CastIn : Cert.quiescent_CastIn := fun m ρ _ => Cert.CastIn.Gen.frame m ρ (Cert.CastIn.Hand.ok m)
theorem frame_CastInIdeal : Cert.quiescent_CastInIdeal := fun m ρ _ => Cert.CastInIdeal.Gen.frame m ρ (Cert.CastInIdeal.Hand.ok m)
theorem frame_CastInRefIdeal : Cert.quiescent_CastInRefIdeal := fun m ρ _ =>
  (θ_run Cert.CastInRefIdeal.defs _ _).mono
    (fun r h => ⟨fun c => (h c).2, Idealize.ShloMosaic.sem_eq_zero_of_no_sems (by decide) r.2⟩)
    (Cert.CastInRefIdeal.Value.run m ρ)

end Cert.Proof

end
-- ==== Proof.CastAttnValue.lean ====
/- A chip's shard of a weight, rounded to bf16 and written among the columns of the whole weight, of which the host takes it. Which
   columns they are is read from a prefetched table, whose entry the host part fixes. -/
module

public import proofs.«01_k».proof.Proof.Gen.CastAttnIdeal.Frame
public import proofs.«01_k».proof.Proof.Gen.CastAttn.Frame
public import proofs.«01_k».proof.Proof.Gen.CastAttnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CastAttn.Hand

open Cert.CastAttn Cert.CastAttn.Gen

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Cert.CastAttn.Hand

namespace Cert.CastAttnIdeal.Hand

open Cert.CastAttnIdeal Cert.CastAttnIdeal.Gen

section Table

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Table

variable (m : (ℓ : Loc nD τ sig) → Buf (Elt Ideal) ℓ)

/-- The shard, rounded. -/
abbrev SHARD (w : FVec Ideal S1024x512 .f32) : FVec Ideal Cert.CastAttnRefIdeal.S1024x512 .bf16 := truncf .bf16 w Cert.CastAttnRefIdeal.Gen.bitsLt_bf16_f32

/-- The shard, among whatever the other columns hold. -/
def wide (w : FVec Ideal S1024x512 .f32) (p : FVec Ideal S1024x2048 .bf16) : FVec Ideal S1024x2048 .bf16 :=
  fun i => if hi : (i 1 : ℕ) < 512 then SHARD w (ix2 ⟨i 0, (i 0).isLt⟩ ⟨i 1, hi⟩) else p i

theorem wide_mine (w : FVec Ideal S1024x512 .f32) (p : FVec Ideal S1024x2048 .bf16) (i : S1024x2048.Idx) (j : Cert.CastAttnRefIdeal.S1024x512.Idx) (h0 : (i 0 : ℕ) = j 0)
    (h1 : (i 1 : ℕ) = j 1) : wide w p i = SHARD w j := by
  have hj : (j 1 : ℕ) < 512 := (j 1).isLt
  have e : (ix2 ⟨i 0, (i 0).isLt⟩ ⟨i 1, by omega⟩ : Cert.CastAttnRefIdeal.S1024x512.Idx) = j := by
    funext a
    match a with
    | 0 => exact Fin.ext h0
    | 1 => exact Fin.ext h1
  unfold wide
  rw [dif_pos (by omega), e]

theorem wide_kept (w : FVec Ideal S1024x512 .f32) (p : FVec Ideal S1024x2048 .bf16) (i : S1024x2048.Idx) (hi : (i 1 : ℕ) / 512 ≠ 0) : wide w p i = p i := by
  unfold wide
  exact dif_neg (by omega)

/-- Which block each window has at point `t`. -/
theorem maps : ∀ t : Fin grid0.N, cc0_transform_0 (grid0.coords t) = ![t.val, 0] := by decide +kernel
theorem coord : ∀ t : Fin grid0.N, (grid0.coords t 0 : ℕ) = t.val := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![t.val, 0] := (place m (grid0.coords t)).trans (by rw [coord t])

/-- What point `t` stores at `y` is the shard's row `y 0` of row block `t`. -/
theorem entry (hO : Ok m) (c : Dev nD) (t : Fin (cfgM m hO).N) (y : S256x512.Idx) (j : Cert.CastAttnRefIdeal.S1024x512.Idx) (h0 : (j 0 : ℕ) = 256 * t + y 0)
    (h1 : (j 1 : ℕ) = y 1) : k0_pay1 (iblk m hO c 0 t) y = SHARD (m ((c : Thread nD τ).loc main_arg0)) j := by
  pointwise [k0_pay1, SHARD]
  blk_point [iblk, V, idx0 m hO t]

theorem point (hO : Ok m) (c : Dev nD) (t : Fin (cfgM m hO).N) (y : S256x512.Idx) :
    k0_pay1 (iblk m hO c 0 t) y = wide (m ((c : Thread nD τ).loc main_arg0)) (V m c main_v3) ((((cfgM m hO).win 1).blk t).view.emb y) := by
  have ht : t.val < 4 := t.isLt
  idx_bounds
  refine (entry m hO c t y (ix2 ⟨256 * t + y 0, by omega⟩ ⟨y 1, by omega⟩) rfl rfl).trans (wide_mine _ _ _ _ ?_ ?_).symm
  · blk_simp [idx1 m hO t]
    dsimp only
    omega
  · blk_simp [idx1 m hO t]

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 1).CoversWhere fun β => β (1 : Fin 2) = 0 := by
  subst e
  exact (by decide +kernel : ((cfg0 adm0).win 1).CoversWhere fun β => β (1 : Fin 2) = 0)

theorem covers (hO : Ok m) : ((cfgM m hO).win 1).CoversWhere fun β => β (1 : Fin 2) = 0 := covers_of (tbl m) hO (table m)

/-- What point `t` stores, of the block it reads. -/
theorem stored (hO : Ok m) (c : Dev nD) (t : Fin (cfgM m hO).N) : outsAt0 m hO c t = k0_pay1 (iblk m hO c 0 t) := by
  unfold outsAt0
  frame_out
  exact congrArg k0_pay1 ((hs0_0 m hO t).read_unread _)

/-- The array the call writes has the shard in this chip's columns, and its earlier contents elsewhere. -/
theorem array (hO : Ok m) (c : Dev nD) : (dats m hO 0 c).arrAt 1 (cfgM m hO).N = wide (m ((c : Thread nD τ).loc main_arg0)) (V m c main_v3) := by
  refine (dats m hO 0 c).arrAt_eq_of_coversWhere_of_agree 1 _ (fun β => β (1 : Fin 2) = 0) (covers m hO) (fun t _ y => ?_) (fun j hj => ?_)
  · exact (((congrFun (after0_1 m hO c t) y).trans (congrFun (stored m hO c t) y)).trans (point m hO c t y)).trans rfl
  · rw [A_eq]
    exact (wide_kept _ _ _ hj).symm

/-- The host's slice of it is the shard. -/
theorem final (hO : Ok m) (c : Dev nD) : Pipeline.afterTail pcfgs (fun _ => adm m hO) (dats m hO) 0 (V0 m) [hostOps1] c main_v4 = SHARD (m ((c : Thread nD τ).loc main_arg0)) := by
  have e : Pipeline.withArrays ((Pipeline.pin pcfgs fun _ => adm m hO) 0).spec c (V0 m c) (fun w => (dats m hO 0 c).arrAt w (cfgM m hO).N) (Proc.devRef .tc main_v3)
      = wide (m ((c : Thread nD τ).loc main_arg0)) (V m c main_v3) :=
    (Pipeline.withArrays_arr spec0 winFacts0.arr_inj c (V0 m c) _ 1).trans (array m hO c)
  unfold Pipeline.afterTail
  simp only [List.flatten_cons, List.flatten_nil, List.append_nil]
  after_results
  rw [e]
  funext j
  exact wide_mine _ _ _ _ (by simp) (by simp)

end Cert.CastAttnIdeal.Hand

namespace Cert.Proof

theorem value_CastAttn : Cert.algebraic_CastAttnIdeal_CastAttnRefIdeal := by
  pair_intro
  case refine_1 => exact fun c => Cert.CastAttnIdeal.Hand.SHARD (m (c.tc.loc Cert.CastAttnIdeal.main_arg0))
  · refine (θ_run _ _ _).mono (fun r h c => ?_)
      (θ_run_and (Cert.CastAttnIdeal.Gen.unchanged m g (Cert.CastAttnIdeal.Hand.ok m)) (Cert.CastAttnIdeal.Gen.run_main m g (Cert.CastAttnIdeal.Hand.ok m)))
    have e : r.2.mem (c.tc.loc Cert.CastAttnIdeal.main_v4) = Cert.CastAttnIdeal.Hand.SHARD (m (c.tc.loc Cert.CastAttnIdeal.main_arg0)) :=
      ((h.2 c).2 Cert.CastAttnIdeal.main_v4 (by decide : Cert.CastAttnIdeal.main_v4 ∈ Pipeline.restRefs Cert.CastAttnIdeal.sig Cert.CastAttnIdeal.spec0)).trans (Cert.CastAttnIdeal.Hand.final m (Cert.CastAttnIdeal.Hand.ok m) c)
    exact ⟨e, h.1 c⟩
  · run_from Cert.CastAttnRefIdeal.Value.run m' g'

theorem frame_CastAttn : Cert.quiescent_CastAttn := fun m ρ _ => Cert.CastAttn.Gen.frame m ρ (Cert.CastAttn.Hand.ok m)
theorem frame_CastAttnIdeal : Cert.quiescent_CastAttnIdeal := fun m ρ _ => Cert.CastAttnIdeal.Gen.frame m ρ (Cert.CastAttnIdeal.Hand.ok m)
theorem frame_CastAttnRefIdeal : Cert.quiescent_CastAttnRefIdeal := fun m ρ _ =>
  (θ_run Cert.CastAttnRefIdeal.defs _ _).mono
    (fun r h => ⟨fun c => (h c).2, Idealize.ShloMosaic.sem_eq_zero_of_no_sems (by decide) r.2⟩)
    (Cert.CastAttnRefIdeal.Value.run m ρ)

end Cert.Proof

end
-- ==== Proof.CastHgrnValue.lean ====
/- A chip's shard of a weight, rounded to bf16 and written among the columns of the whole weight, of which the host takes it. Which
   columns they are is read from a prefetched table, whose entry the host part fixes. -/
module

public import proofs.«01_k».proof.Proof.Gen.CastHgrnIdeal.Frame
public import proofs.«01_k».proof.Proof.Gen.CastHgrn.Frame
public import proofs.«01_k».proof.Proof.Gen.CastHgrnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CastHgrn.Hand

open Cert.CastHgrn Cert.CastHgrn.Gen

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Cert.CastHgrn.Hand

namespace Cert.CastHgrnIdeal.Hand

open Cert.CastHgrnIdeal Cert.CastHgrnIdeal.Gen

section Table

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's columns. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Table

variable (m : (ℓ : Loc nD τ sig) → Buf (Elt Ideal) ℓ)

/-- The shard, rounded. -/
abbrev SHARD (w : FVec Ideal S1024x512 .f32) : FVec Ideal Cert.CastHgrnRefIdeal.S1024x512 .bf16 := truncf .bf16 w Cert.CastHgrnRefIdeal.Gen.bitsLt_bf16_f32

/-- The shard, among whatever the other columns hold. -/
def wide (w : FVec Ideal S1024x512 .f32) (p : FVec Ideal S1024x2048 .bf16) : FVec Ideal S1024x2048 .bf16 :=
  fun i => if hi : (i 1 : ℕ) < 512 then SHARD w (ix2 ⟨i 0, (i 0).isLt⟩ ⟨i 1, hi⟩) else p i

theorem wide_mine (w : FVec Ideal S1024x512 .f32) (p : FVec Ideal S1024x2048 .bf16) (i : S1024x2048.Idx) (j : Cert.CastHgrnRefIdeal.S1024x512.Idx) (h0 : (i 0 : ℕ) = j 0)
    (h1 : (i 1 : ℕ) = j 1) : wide w p i = SHARD w j := by
  have hj : (j 1 : ℕ) < 512 := (j 1).isLt
  have e : (ix2 ⟨i 0, (i 0).isLt⟩ ⟨i 1, by omega⟩ : Cert.CastHgrnRefIdeal.S1024x512.Idx) = j := by
    funext a
    match a with
    | 0 => exact Fin.ext h0
    | 1 => exact Fin.ext h1
  unfold wide
  rw [dif_pos (by omega), e]

theorem wide_kept (w : FVec Ideal S1024x512 .f32) (p : FVec Ideal S1024x2048 .bf16) (i : S1024x2048.Idx) (hi : (i 1 : ℕ) / 512 ≠ 0) : wide w p i = p i := by
  unfold wide
  exact dif_neg (by omega)

/-- Which block each window has at point `t`. -/
theorem maps : ∀ t : Fin grid0.N, cc0_transform_0 (grid0.coords t) = ![t.val, 0] := by decide +kernel
theorem coord : ∀ t : Fin grid0.N, (grid0.coords t 0 : ℕ) = t.val := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![t.val, 0] := (place m (grid0.coords t)).trans (by rw [coord t])

/-- What point `t` stores at `y` is the shard's row `y 0` of row block `t`. -/
theorem entry (hO : Ok m) (c : Dev nD) (t : Fin (cfgM m hO).N) (y : S256x512.Idx) (j : Cert.CastHgrnRefIdeal.S1024x512.Idx) (h0 : (j 0 : ℕ) = 256 * t + y 0)
    (h1 : (j 1 : ℕ) = y 1) : k0_pay1 (iblk m hO c 0 t) y = SHARD (m ((c : Thread nD τ).loc main_arg0)) j := by
  pointwise [k0_pay1, SHARD]
  blk_point [iblk, V, idx0 m hO t]

theorem point (hO : Ok m) (c : Dev nD) (t : Fin (cfgM m hO).N) (y : S256x512.Idx) :
    k0_pay1 (iblk m hO c 0 t) y = wide (m ((c : Thread nD τ).loc main_arg0)) (V m c main_v3) ((((cfgM m hO).win 1).blk t).view.emb y) := by
  have ht : t.val < 4 := t.isLt
  idx_bounds
  refine (entry m hO c t y (ix2 ⟨256 * t + y 0, by omega⟩ ⟨y 1, by omega⟩) rfl rfl).trans (wide_mine _ _ _ _ ?_ ?_).symm
  · blk_simp [idx1 m hO t]
    dsimp only
    omega
  · blk_simp [idx1 m hO t]

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's columns of the result array. -/
theorem covers_of (p : pre0.Contents (Elt Ideal)) (h : ok0 p) (e : p = tab0) : ((cfg0 ⟨p, h⟩).win 1).CoversWhere fun β => β (1 : Fin 2) = 0 := by
  subst e
  exact (by decide +kernel : ((cfg0 adm0).win 1).CoversWhere fun β => β (1 : Fin 2) = 0)

theorem covers (hO : Ok m) : ((cfgM m hO).win 1).CoversWhere fun β => β (1 : Fin 2) = 0 := covers_of (tbl m) hO (table m)

/-- What point `t` stores, of the block it reads. -/
theorem stored (hO : Ok m) (c : Dev nD) (t : Fin (cfgM m hO).N) : outsAt0 m hO c t = k0_pay1 (iblk m hO c 0 t) := by
  unfold outsAt0
  frame_out
  exact congrArg k0_pay1 ((hs0_0 m hO t).read_unread _)

/-- The array the call writes has the shard in this chip's columns, and its earlier contents elsewhere. -/
theorem array (hO : Ok m) (c : Dev nD) : (dats m hO 0 c).arrAt 1 (cfgM m hO).N = wide (m ((c : Thread nD τ).loc main_arg0)) (V m c main_v3) := by
  refine (dats m hO 0 c).arrAt_eq_of_coversWhere_of_agree 1 _ (fun β => β (1 : Fin 2) = 0) (covers m hO) (fun t _ y => ?_) (fun j hj => ?_)
  · exact (((congrFun (after0_1 m hO c t) y).trans (congrFun (stored m hO c t) y)).trans (point m hO c t y)).trans rfl
  · rw [A_eq]
    exact (wide_kept _ _ _ hj).symm

/-- The host's slice of it is the shard. -/
theorem final (hO : Ok m) (c : Dev nD) : Pipeline.afterTail pcfgs (fun _ => adm m hO) (dats m hO) 0 (V0 m) [hostOps1] c main_v4 = SHARD (m ((c : Thread nD τ).loc main_arg0)) := by
  have e : Pipeline.withArrays ((Pipeline.pin pcfgs fun _ => adm m hO) 0).spec c (V0 m c) (fun w => (dats m hO 0 c).arrAt w (cfgM m hO).N) (Proc.devRef .tc main_v3)
      = wide (m ((c : Thread nD τ).loc main_arg0)) (V m c main_v3) :=
    (Pipeline.withArrays_arr spec0 winFacts0.arr_inj c (V0 m c) _ 1).trans (array m hO c)
  unfold Pipeline.afterTail
  simp only [List.flatten_cons, List.flatten_nil, List.append_nil]
  after_results
  rw [e]
  funext j
  exact wide_mine _ _ _ _ (by simp) (by simp)

end Cert.CastHgrnIdeal.Hand

namespace Cert.Proof

theorem value_CastHgrn : Cert.algebraic_CastHgrnIdeal_CastHgrnRefIdeal := by
  pair_intro
  case refine_1 => exact fun c => Cert.CastHgrnIdeal.Hand.SHARD (m (c.tc.loc Cert.CastHgrnIdeal.main_arg0))
  · refine (θ_run _ _ _).mono (fun r h c => ?_)
      (θ_run_and (Cert.CastHgrnIdeal.Gen.unchanged m g (Cert.CastHgrnIdeal.Hand.ok m)) (Cert.CastHgrnIdeal.Gen.run_main m g (Cert.CastHgrnIdeal.Hand.ok m)))
    have e : r.2.mem (c.tc.loc Cert.CastHgrnIdeal.main_v4) = Cert.CastHgrnIdeal.Hand.SHARD (m (c.tc.loc Cert.CastHgrnIdeal.main_arg0)) :=
      ((h.2 c).2 Cert.CastHgrnIdeal.main_v4 (by decide : Cert.CastHgrnIdeal.main_v4 ∈ Pipeline.restRefs Cert.CastHgrnIdeal.sig Cert.CastHgrnIdeal.spec0)).trans (Cert.CastHgrnIdeal.Hand.final m (Cert.CastHgrnIdeal.Hand.ok m) c)
    exact ⟨e, h.1 c⟩
  · run_from Cert.CastHgrnRefIdeal.Value.run m' g'

theorem frame_CastHgrn : Cert.quiescent_CastHgrn := fun m ρ _ => Cert.CastHgrn.Gen.frame m ρ (Cert.CastHgrn.Hand.ok m)
theorem frame_CastHgrnIdeal : Cert.quiescent_CastHgrnIdeal := fun m ρ _ => Cert.CastHgrnIdeal.Gen.frame m ρ (Cert.CastHgrnIdeal.Hand.ok m)
theorem frame_CastHgrnRefIdeal : Cert.quiescent_CastHgrnRefIdeal := fun m ρ _ =>
  (θ_run Cert.CastHgrnRefIdeal.defs _ _).mono
    (fun r h => ⟨fun c => (h c).2, Idealize.ShloMosaic.sem_eq_zero_of_no_sems (by decide) r.2⟩)
    (Cert.CastHgrnRefIdeal.Value.run m ρ)

end Cert.Proof

end
-- ==== Proof.CastOutValue.lean ====
/- A chip's shard of a weight, rounded to bf16 and written among the rows of the whole weight, of which the host takes it. Which
   rows they are is read from a prefetched table, whose entry the host part fixes. -/
module

public import proofs.«01_k».proof.Proof.Gen.CastOutIdeal.Frame
public import proofs.«01_k».proof.Proof.Gen.CastOut.Frame
public import proofs.«01_k».proof.Proof.Gen.CastOutRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CastOut.Hand

open Cert.CastOut Cert.CastOut.Gen

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's rows. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Cert.CastOut.Hand

namespace Cert.CastOutIdeal.Hand

open Cert.CastOutIdeal Cert.CastOutIdeal.Gen

section Table

variable {F : FTy → Type} [FloatOps F] (m : (ℓ : Loc nD τ sig) → Buf (Elt F) ℓ)

/-- The prefetched table holds the chip's number: 0. -/
theorem number : V m (0 : Dev nD) main_v2 = constantI S1 32 0#32 := by
  entry_read
  funext i
  simp only [shapeCast, addi, muli, constantI]
  rfl

theorem word : (tbl m).at 0 (Rect.unit (s := S1) ![0] S1.size inb_S1_S1_0) numel1_S1 = 0#32 := by
  have h : tbl m 0 = constantI S1 32 0#32 := number m
  unfold Pipeline.Prefetch.Contents.at
  rw [h]
  rfl

/-- So every point writes that chip's rows. -/
theorem place (i : grid0.Coords) : cc0_transform_1 inb_S1_S1_0 numel1_S1 (tbl m) i = ![(i 0 : ℕ), 0] := by
  unfold cc0_transform_1
  dsimp only
  rw [word]
  revert i
  decide +kernel

/-- The blocks are inside the arrays. -/
theorem ok : Ok m := by
  intro i
  rw [place]
  revert i
  decide +kernel

end Table

variable (m : (ℓ : Loc nD τ sig) → Buf (Elt Ideal) ℓ)

/-- The shard, rounded. -/
abbrev SHARD (w : FVec Ideal S512x2048 .f32) : FVec Ideal Cert.CastOutRefIdeal.S512x2048 .bf16 := truncf .bf16 w Cert.CastOutRefIdeal.Gen.bitsLt_bf16_f32

/-- The shard, among whatever the other rows hold. -/
def wide (w : FVec Ideal S512x2048 .f32) (p : FVec Ideal S2048x2048 .bf16) : FVec Ideal S2048x2048 .bf16 :=
  fun i => if hi : (i 0 : ℕ) < 512 then SHARD w (ix2 ⟨i 0, hi⟩ ⟨i 1, (i 1).isLt⟩) else p i

theorem wide_mine (w : FVec Ideal S512x2048 .f32) (p : FVec Ideal S2048x2048 .bf16) (i : S2048x2048.Idx) (j : Cert.CastOutRefIdeal.S512x2048.Idx) (h0 : (i 0 : ℕ) = j 0)
    (h1 : (i 1 : ℕ) = j 1) : wide w p i = SHARD w j := by
  have hj : (j 0 : ℕ) < 512 := (j 0).isLt
  have e : (ix2 ⟨i 0, by omega⟩ ⟨i 1, (i 1).isLt⟩ : Cert.CastOutRefIdeal.S512x2048.Idx) = j := by
    funext a
    match a with
    | 0 => exact Fin.ext h0
    | 1 => exact Fin.ext h1
  unfold wide
  rw [dif_pos (by omega), e]

theorem wide_kept (w : FVec Ideal S512x2048 .f32) (p : FVec Ideal S2048x2048 .bf16) (i : S2048x2048.Idx) (hi : ¬ ((i 0 : ℕ) / 256 < 2)) : wide w p i = p i := by
  unfold wide
  exact dif_neg (by omega)

/-- Which block each window has at point `t`. -/
theorem maps : ∀ t : Fin grid0.N, cc0_transform_0 (grid0.coords t) = ![t.val, 0] := by decide +kernel
theorem coord : ∀ t : Fin grid0.N, (grid0.coords t 0 : ℕ) = t.val := by decide +kernel
theorem idx0 (hO : Ok m) (t : Fin (cfgM m hO).N) : ((cfgM m hO).win 0).index t = ![t.val, 0] := maps t
theorem idx1 (hO : Ok m) (t : Fin (cfgM m hO).N) : ((cfgM m hO).win 1).index t = ![t.val, 0] := (place m (grid0.coords t)).trans (by rw [coord t])

/-- What point `t` stores at `y` is the shard's row `y 0` of row block `t`. -/
theorem entry (hO : Ok m) (c : Dev nD) (t : Fin (cfgM m hO).N) (y : S256x2048.Idx) (j : Cert.CastOutRefIdeal.S512x2048.Idx) (h0 : (j 0 : ℕ) = 256 * t + y 0)
    (h1 : (j 1 : ℕ) = y 1) : k0_pay1 (iblk m hO c 0 t) y = SHARD (m ((c : Thread nD τ).loc main_arg0)) j := by
  pointwise [k0_pay1, SHARD]
  blk_point [iblk, V, idx0 m hO t]

theorem point (hO : Ok m) (c : Dev nD) (t : Fin (cfgM m hO).N) (y : S256x2048.Idx) :
    k0_pay1 (iblk m hO c 0 t) y = wide (m ((c : Thread nD τ).loc main_arg0)) (V m c main_v3) ((((cfgM m hO).win 1).blk t).view.emb y) := by
  have ht : t.val < 2 := t.isLt
  idx_bounds
  refine (entry m hO c t y (ix2 ⟨256 * t + y 0, by omega⟩ ⟨y 1, by omega⟩) rfl rfl).trans (wide_mine _ _ _ _ ?_ ?_).symm
  · blk_simp [idx1 m hO t]
    dsimp only
    omega
  · blk_simp [idx1 m hO t]

/-- The table's contents, written out. -/
abbrev tab0 : pre0.Contents (Elt Ideal) := fun
  | 0 => (constantI S1 32 0#32 : (⟨S1, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact number m

/-- The blocks written cover that chip's rows of the result array. -/
theorem covers_of (p : pre0.Contents (Elt Ideal)) (h : ok0 p) (e : p = tab0) : ((cfg0 ⟨p, h⟩).win 1).CoversWhere fun β => (β (0 : Fin 2) : ℕ) < 2 := by
  subst e
  exact (by decide +kernel : ((cfg0 adm0).win 1).CoversWhere fun β => (β (0 : Fin 2) : ℕ) < 2)

theorem covers (hO : Ok m) : ((cfgM m hO).win 1).CoversWhere fun β => (β (0 : Fin 2) : ℕ) < 2 := covers_of (tbl m) hO (table m)

/-- What point `t` stores, of the block it reads. -/
theorem stored (hO : Ok m) (c : Dev nD) (t : Fin (cfgM m hO).N) : outsAt0 m hO c t = k0_pay1 (iblk m hO c 0 t) := by
  unfold outsAt0
  frame_out
  exact congrArg k0_pay1 ((hs0_0 m hO t).read_unread _)

/-- The array the call writes has the shard in this chip's rows, and its earlier contents elsewhere. -/
theorem array (hO : Ok m) (c : Dev nD) : (dats m hO 0 c).arrAt 1 (cfgM m hO).N = wide (m ((c : Thread nD τ).loc main_arg0)) (V m c main_v3) := by
  refine (dats m hO 0 c).arrAt_eq_of_coversWhere_of_agree 1 _ (fun β => (β (0 : Fin 2) : ℕ) < 2) (covers m hO) (fun t _ y => ?_) (fun j hj => ?_)
  · exact (((congrFun (after0_1 m hO c t) y).trans (congrFun (stored m hO c t) y)).trans (point m hO c t y)).trans rfl
  · rw [A_eq]
    exact (wide_kept _ _ _ hj).symm

/-- The host's slice of it is the shard. -/
theorem final (hO : Ok m) (c : Dev nD) : Pipeline.afterTail pcfgs (fun _ => adm m hO) (dats m hO) 0 (V0 m) [hostOps1] c main_v4 = SHARD (m ((c : Thread nD τ).loc main_arg0)) := by
  have e : Pipeline.withArrays ((Pipeline.pin pcfgs fun _ => adm m hO) 0).spec c (V0 m c) (fun w => (dats m hO 0 c).arrAt w (cfgM m hO).N) (Proc.devRef .tc main_v3)
      = wide (m ((c : Thread nD τ).loc main_arg0)) (V m c main_v3) :=
    (Pipeline.withArrays_arr spec0 winFacts0.arr_inj c (V0 m c) _ 1).trans (array m hO c)
  unfold Pipeline.afterTail
  simp only [List.flatten_cons, List.flatten_nil, List.append_nil]
  after_results
  rw [e]
  funext j
  exact wide_mine _ _ _ _ (by simp) (by simp)

end Cert.CastOutIdeal.Hand

namespace Cert.Proof

theorem value_CastOut : Cert.algebraic_CastOutIdeal_CastOutRefIdeal := by
  pair_intro
  case refine_1 => exact fun c => Cert.CastOutIdeal.Hand.SHARD (m (c.tc.loc Cert.CastOutIdeal.main_arg0))
  · refine (θ_run _ _ _).mono (fun r h c => ?_)
      (θ_run_and (Cert.CastOutIdeal.Gen.unchanged m g (Cert.CastOutIdeal.Hand.ok m)) (Cert.CastOutIdeal.Gen.run_main m g (Cert.CastOutIdeal.Hand.ok m)))
    have e : r.2.mem (c.tc.loc Cert.CastOutIdeal.main_v4) = Cert.CastOutIdeal.Hand.SHARD (m (c.tc.loc Cert.CastOutIdeal.main_arg0)) :=
      ((h.2 c).2 Cert.CastOutIdeal.main_v4 (by decide : Cert.CastOutIdeal.main_v4 ∈ Pipeline.restRefs Cert.CastOutIdeal.sig Cert.CastOutIdeal.spec0)).trans (Cert.CastOutIdeal.Hand.final m (Cert.CastOutIdeal.Hand.ok m) c)
    exact ⟨e, h.1 c⟩
  · run_from Cert.CastOutRefIdeal.Value.run m' g'

theorem frame_CastOut : Cert.quiescent_CastOut := fun m ρ _ => Cert.CastOut.Gen.frame m ρ (Cert.CastOut.Hand.ok m)
theorem frame_CastOutIdeal : Cert.quiescent_CastOutIdeal := fun m ρ _ => Cert.CastOutIdeal.Gen.frame m ρ (Cert.CastOutIdeal.Hand.ok m)
theorem frame_CastOutRefIdeal : Cert.quiescent_CastOutRefIdeal := fun m ρ _ =>
  (θ_run Cert.CastOutRefIdeal.defs _ _).mono
    (fun r h => ⟨fun c => (h c).2, Idealize.ShloMosaic.sem_eq_zero_of_no_sems (by decide) r.2⟩)
    (Cert.CastOutRefIdeal.Value.run m ρ)

end Cert.Proof

end
-- ==== Proof.SibInValue.lean ====
/- The sums that a chip sends to the three others: of the shards of a weight's gradient that are theirs, the device's part and its
   sibling's. Which shards they are is read from a prefetched table, whose entries the host part fixes. -/
module

public import proofs.«01_k».proof.Proof.Gen.SibInIdeal.Frame
public import proofs.«01_k».proof.Proof.Gen.SibIn.Frame
public import proofs.«01_k».proof.Proof.Gen.SibInRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SibIn.Hand

open Cert.SibIn Cert.SibIn.Gen

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 (tbl m) i = ![(![2#32, 1#32, 3#32] (i 0 : Fin 3)).toNat, (i 1 : ℕ), 0] := by
  unfold cc0_transform_0
  dsimp only
  rw [other m (i 0) _ (offset i) (k0_off1_inb i)]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Cert.SibIn.Hand

namespace Cert.SibInIdeal.Hand

open Cert.SibInIdeal Cert.SibInIdeal.Gen

section Table

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 (tbl m) i = ![(![2#32, 1#32, 3#32] (i 0 : Fin 3)).toNat, (i 1 : ℕ), 0] := by
  unfold cc0_transform_0
  dsimp only
  rw [other m (i 0) _ (offset i) (k0_off1_inb i)]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Table

variable (m : (ℓ : Loc nD τ sig) → Buf (Elt Ideal) ℓ)

/-- The sums, of shards 1 to 3. -/
abbrev SUM (g : FVec Ideal S4x1024x2688 .bf16) (l : FVec Ideal S4x1024x2688 .bf16) : FVec Ideal Cert.SibInRefIdeal.S3x1024x2688 .bf16 :=
  truncf .bf16 (addf (extf .f32 (extractStridedSlice Cert.SibInRefIdeal.S3x1024x2688 ![1, 0, 0] g Cert.SibInRefIdeal.Gen.slices_S4x1024x2688_S3x1024x2688_1_0_0) Cert.SibInRefIdeal.Gen.bitsLt_bf16_f32)
    (extf .f32 (extractStridedSlice Cert.SibInRefIdeal.S3x1024x2688 ![1, 0, 0] l Cert.SibInRefIdeal.Gen.slices_S4x1024x2688_S3x1024x2688_1_0_0) Cert.SibInRefIdeal.Gen.bitsLt_bf16_f32)) Cert.SibInRefIdeal.Gen.bitsLt_bf16_f32

/-- The sums, beside whatever shard 0 holds. -/
def all (g : FVec Ideal S4x1024x2688 .bf16) (l : FVec Ideal S4x1024x2688 .bf16) (p : FVec Ideal S4x1024x2688 .bf16) : FVec Ideal S4x1024x2688 .bf16 :=
  fun i => if h : (i 0 : ℕ) ≠ 0 then SUM g l (ix3 ⟨(i 0 : ℕ) - 1, by have := (i 0).isLt; have : (i 0 : ℕ) < 4 := this; omega⟩ (i 1) (i 2)) else p i

theorem all_mine (g : FVec Ideal S4x1024x2688 .bf16) (l : FVec Ideal S4x1024x2688 .bf16) (p : FVec Ideal S4x1024x2688 .bf16) (i : S4x1024x2688.Idx) (j : Cert.SibInRefIdeal.S3x1024x2688.Idx) (h : (i 0 : ℕ) = 1 + j 0) (h0 : (i 1 : ℕ) = j 1)
    (h1 : (i 2 : ℕ) = j 2) : all g l p i = SUM g l j := by
  have e : (ix3 ⟨(i 0 : ℕ) - 1, by have := (j 0).isLt; have : (j 0 : ℕ) < 3 := this; omega⟩ (i 1) (i 2) : Cert.SibInRefIdeal.S3x1024x2688.Idx) = j := by
    funext a
    match a with
    | 0 => exact Fin.ext (show (i 0 : ℕ) - 1 = j 0 by omega)
    | 1 => exact Fin.ext h0
    | 2 => exact Fin.ext h1
  unfold all
  rw [dif_pos (by omega), e]

theorem all_kept (g : FVec Ideal S4x1024x2688 .bf16) (l : FVec Ideal S4x1024x2688 .bf16) (p : FVec Ideal S4x1024x2688 .bf16) (i : S4x1024x2688.Idx) (h : ¬ ((i 0 : ℕ) / 1 ≠ 0)) : all g l p i = p i := by
  unfold all
  exact dif_neg (by rwa [Nat.div_one] at h)

/-- The shard of point `t`. -/
def shard (t : ℕ) : ℕ := if t / 4 = 0 then 2 else if t / 4 = 1 then 1 else 3

theorem shard_pos (t : ℕ) : 0 < shard t ∧ shard t < 4 := by
  unfold shard
  split
  · omega
  · split <;> omega

/-- Which block each window has at point `t`. -/
theorem coords : ∀ t : Fin grid0.N, (![2#32, 1#32, 3#32] (grid0.coords t 0 : Fin 3)).toNat = shard t.val ∧ (grid0.coords t 1 : ℕ) = t.val % 4 := by decide +kernel
theorem idx0 (hO : Ok m) (t : Fin (cfgM m hO).N) : ((cfgM m hO).win 0).index t = ![shard t.val, t.val % 4, 0] :=
  (own m (grid0.coords t)).trans (by rw [(coords t).1, (coords t).2])
theorem idx1 (hO : Ok m) (t : Fin (cfgM m hO).N) : ((cfgM m hO).win 1).index t = ![shard t.val, t.val % 4, 0] :=
  (sibling m (grid0.coords t)).trans (by rw [(coords t).1, (coords t).2])
theorem idx2 (hO : Ok m) (t : Fin (cfgM m hO).N) : ((cfgM m hO).win 2).index t = ![shard t.val, t.val % 4, 0] :=
  (place m (grid0.coords t)).trans (by rw [(coords t).1, (coords t).2])

/-- What point `t` stores is the sum in its shard and row block. -/
theorem entry (hO : Ok m) (c : Dev nD) (t : Fin (cfgM m hO).N) (y : S1x256x2688.Idx) (j : Cert.SibInRefIdeal.S3x1024x2688.Idx) (h : shard t.val = 1 + j 0)
    (h0 : (j 1 : ℕ) = 256 * (t.val % 4) + y 1) (h1 : (j 2 : ℕ) = y 2) : k0_pay1 (iblk m hO c 0 t) (iblk m hO c 1 t) y = SUM (m ((c : Thread nD τ).loc main_arg0)) (m ((c : Thread nD τ).loc main_arg1)) j := by
  pointwise [k0_pay1, SUM]
  refine congrArg₂ (· + ·) ?_ ?_
  · blk_point [iblk, V, idx0 m hO t]
  · blk_point [iblk, V, idx1 m hO t]

theorem point (hO : Ok m) (c : Dev nD) (t : Fin (cfgM m hO).N) (y : S1x256x2688.Idx) : k0_pay1 (iblk m hO c 0 t) (iblk m hO c 1 t) y
    = all (m ((c : Thread nD τ).loc main_arg0)) (m ((c : Thread nD τ).loc main_arg1)) (V m c main_v15) ((((cfgM m hO).win 2).blk t).view.emb y) := by
  have ht : t.val < 12 := t.isLt
  have hs := shard_pos t.val
  have hn : shard t.val = 1 + (shard t.val - 1) := by omega
  idx_bounds
  refine (entry m hO c t y (ix3 ⟨shard t.val - 1, by omega⟩ ⟨256 * (t.val % 4) + y 1, by omega⟩ ⟨y 2, by omega⟩) hn rfl rfl).trans (all_mine _ _ _ _ _ ?_ ?_ ?_).symm
  · blk_simp [idx2 m hO t]
    dsimp only
    omega
  · blk_simp [idx2 m hO t]
    dsimp only
    omega
  · blk_simp [idx2 m hO t]

/-- The table's contents, written out. -/
abbrev tab0 : pre0.Contents (Elt Ideal) := fun
  | 0 => (concatenate S4 0 [⟨S1, constantI S1 32 0#32⟩, ⟨S1, constantI S1 32 2#32⟩, ⟨S1, constantI S1 32 1#32⟩, ⟨S1, constantI S1 32 3#32⟩] concatenates_S1_S1_S1_S1_S4_d0 : (⟨S4, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover shards 1 to 3 of the result array. -/
theorem covers_of (p : pre0.Contents (Elt Ideal)) (h : ok0 p) (e : p = tab0) : ((cfg0 ⟨p, h⟩).win 2).CoversWhere fun β => β (0 : Fin 3) ≠ 0 := by
  subst e
  exact (by decide +kernel : ((cfg0 adm0).win 2).CoversWhere fun β => β (0 : Fin 3) ≠ 0)

theorem covers (hO : Ok m) : ((cfgM m hO).win 2).CoversWhere fun β => β (0 : Fin 3) ≠ 0 := covers_of (tbl m) hO (table m)

/-- What point `t` stores, of the blocks it reads. -/
theorem stored (hO : Ok m) (c : Dev nD) (t : Fin (cfgM m hO).N) : outsAt0 m hO c t = k0_pay1 (iblk m hO c 0 t) (iblk m hO c 1 t) := by
  unfold outsAt0
  frame_out
  exact congrArg₂ k0_pay1 ((hs0_0 m hO t).read_unread _) ((hs0_1 m hO t).read_unread _)

/-- The array the call writes has the sums in shards 1 to 3, and its earlier contents in shard 0. -/
theorem array (hO : Ok m) (c : Dev nD) : (dats m hO 0 c).arrAt 2 (cfgM m hO).N = all (m ((c : Thread nD τ).loc main_arg0)) (m ((c : Thread nD τ).loc main_arg1)) (V m c main_v15) := by
  refine (dats m hO 0 c).arrAt_eq_of_coversWhere_of_agree 2 _ (fun β => β (0 : Fin 3) ≠ 0) (covers m hO) (fun t _ y => ?_) (fun j hj => ?_)
  · exact (((congrFun (after0_2 m hO c t) y).trans (congrFun (stored m hO c t) y)).trans (point m hO c t y)).trans rfl
  · rw [A_eq]
    exact (all_kept _ _ _ _ hj).symm

/-- The host's slice of it is the sums. -/
theorem final (hO : Ok m) (c : Dev nD) : Pipeline.afterTail pcfgs (fun _ => adm m hO) (dats m hO) 0 (V0 m) [hostOps1] c main_v16 = SUM (m ((c : Thread nD τ).loc main_arg0)) (m ((c : Thread nD τ).loc main_arg1)) := by
  have e : Pipeline.withArrays ((Pipeline.pin pcfgs fun _ => adm m hO) 0).spec c (V0 m c) (fun w => (dats m hO 0 c).arrAt w (cfgM m hO).N) (Proc.devRef .tc main_v15)
      = all (m ((c : Thread nD τ).loc main_arg0)) (m ((c : Thread nD τ).loc main_arg1)) (V m c main_v15) :=
    (Pipeline.withArrays_arr spec0 winFacts0.arr_inj c (V0 m c) _ 2).trans (array m hO c)
  unfold Pipeline.afterTail
  simp only [List.flatten_cons, List.flatten_nil, List.append_nil]
  after_results
  rw [e]
  funext j
  exact all_mine _ _ _ _ _ (by simp) (by simp) (by simp)

end Cert.SibInIdeal.Hand

namespace Cert.Proof

theorem value_SibIn : Cert.algebraic_SibInIdeal_SibInRefIdeal := by
  pair_intro
  case refine_1 => exact fun c => Cert.SibInIdeal.Hand.SUM (m (c.tc.loc Cert.SibInIdeal.main_arg0)) (m (c.tc.loc Cert.SibInIdeal.main_arg1))
  · refine (θ_run _ _ _).mono (fun r h c => ?_)
      (θ_run_and (Cert.SibInIdeal.Gen.unchanged m g (Cert.SibInIdeal.Hand.ok m)) (Cert.SibInIdeal.Gen.run_main m g (Cert.SibInIdeal.Hand.ok m)))
    have e : r.2.mem (c.tc.loc Cert.SibInIdeal.main_v16) = Cert.SibInIdeal.Hand.SUM (m (c.tc.loc Cert.SibInIdeal.main_arg0)) (m (c.tc.loc Cert.SibInIdeal.main_arg1)) :=
      ((h.2 c).2 Cert.SibInIdeal.main_v16 (by decide : Cert.SibInIdeal.main_v16 ∈ Pipeline.restRefs Cert.SibInIdeal.sig Cert.SibInIdeal.spec0)).trans (Cert.SibInIdeal.Hand.final m (Cert.SibInIdeal.Hand.ok m) c)
    exact ⟨e, h.1 c⟩
  · run_from Cert.SibInRefIdeal.Value.run m' g'

theorem frame_SibIn : Cert.quiescent_SibIn := fun m ρ _ => Cert.SibIn.Gen.frame m ρ (Cert.SibIn.Hand.ok m)
theorem frame_SibInIdeal : Cert.quiescent_SibInIdeal := fun m ρ _ => Cert.SibInIdeal.Gen.frame m ρ (Cert.SibInIdeal.Hand.ok m)
theorem frame_SibInRefIdeal : Cert.quiescent_SibInRefIdeal := fun m ρ _ =>
  (θ_run Cert.SibInRefIdeal.defs _ _).mono
    (fun r h => ⟨fun c => (h c).2, Idealize.ShloMosaic.sem_eq_zero_of_no_sems (by decide) r.2⟩)
    (Cert.SibInRefIdeal.Value.run m ρ)

end Cert.Proof

end
-- ==== Proof.SibAttnValue.lean ====
/- The sums that a chip sends to the three others: of the shards of a weight's gradient that are theirs, the device's part and its
   sibling's. Which shards they are is read from a prefetched table, whose entries the host part fixes. -/
module

public import proofs.«01_k».proof.Proof.Gen.SibAttnIdeal.Frame
public import proofs.«01_k».proof.Proof.Gen.SibAttn.Frame
public import proofs.«01_k».proof.Proof.Gen.SibAttnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SibAttn.Hand

open Cert.SibAttn Cert.SibAttn.Gen

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Cert.SibAttn.Hand

namespace Cert.SibAttnIdeal.Hand

open Cert.SibAttnIdeal Cert.SibAttnIdeal.Gen

section Table

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Table

variable (m : (ℓ : Loc nD τ sig) → Buf (Elt Ideal) ℓ)

/-- The sums, of shards 1 to 3. -/
abbrev SUM (g : FVec Ideal S4x2x512x512 .bf16) (l : FVec Ideal S4x512x512 .bf16) : FVec Ideal Cert.SibAttnRefIdeal.S3x512x512 .bf16 :=
  truncf .bf16 (addf (extf .f32 (extractStridedSlice Cert.SibAttnRefIdeal.S3x512x512 ![1, 0, 0] (shapeCast Cert.SibAttnRefIdeal.S4x512x512 (extractStridedSlice Cert.SibAttnRefIdeal.S4x1x512x512 ![0, 0, 0, 0] g Cert.SibAttnRefIdeal.Gen.slices_S4x2x512x512_S4x1x512x512_0_0_0_0) Cert.SibAttnRefIdeal.Gen.shapeCasts_S4x1x512x512_S4x512x512) Cert.SibAttnRefIdeal.Gen.slices_S4x512x512_S3x512x512_1_0_0) Cert.SibAttnRefIdeal.Gen.bitsLt_bf16_f32)
    (extf .f32 (extractStridedSlice Cert.SibAttnRefIdeal.S3x512x512 ![1, 0, 0] l Cert.SibAttnRefIdeal.Gen.slices_S4x512x512_S3x512x512_1_0_0) Cert.SibAttnRefIdeal.Gen.bitsLt_bf16_f32)) Cert.SibAttnRefIdeal.Gen.bitsLt_bf16_f32

/-- The sums, beside whatever shard 0 holds. -/
def all (g : FVec Ideal S4x2x512x512 .bf16) (l : FVec Ideal S4x512x512 .bf16) (p : FVec Ideal S4x512x512 .bf16) : FVec Ideal S4x512x512 .bf16 :=
  fun i => if h : (i 0 : ℕ) ≠ 0 then SUM g l (ix3 ⟨(i 0 : ℕ) - 1, by have := (i 0).isLt; have : (i 0 : ℕ) < 4 := this; omega⟩ (i 1) (i 2)) else p i

theorem all_mine (g : FVec Ideal S4x2x512x512 .bf16) (l : FVec Ideal S4x512x512 .bf16) (p : FVec Ideal S4x512x512 .bf16) (i : S4x512x512.Idx) (j : Cert.SibAttnRefIdeal.S3x512x512.Idx) (h : (i 0 : ℕ) = 1 + j 0) (h0 : (i 1 : ℕ) = j 1)
    (h1 : (i 2 : ℕ) = j 2) : all g l p i = SUM g l j := by
  have e : (ix3 ⟨(i 0 : ℕ) - 1, by have := (j 0).isLt; have : (j 0 : ℕ) < 3 := this; omega⟩ (i 1) (i 2) : Cert.SibAttnRefIdeal.S3x512x512.Idx) = j := by
    funext a
    match a with
    | 0 => exact Fin.ext (show (i 0 : ℕ) - 1 = j 0 by omega)
    | 1 => exact Fin.ext h0
    | 2 => exact Fin.ext h1
  unfold all
  rw [dif_pos (by omega), e]

theorem all_kept (g : FVec Ideal S4x2x512x512 .bf16) (l : FVec Ideal S4x512x512 .bf16) (p : FVec Ideal S4x512x512 .bf16) (i : S4x512x512.Idx) (h : ¬ ((i 0 : ℕ) / 1 ≠ 0)) : all g l p i = p i := by
  unfold all
  exact dif_neg (by rwa [Nat.div_one] at h)

/-- The shard of point `t`. -/
def shard (t : ℕ) : ℕ := if t / 2 = 0 then 2 else if t / 2 = 1 then 1 else 3

theorem shard_pos (t : ℕ) : 0 < shard t ∧ shard t < 4 := by
  unfold shard
  split
  · omega
  · split <;> omega

/-- Which block each window has at point `t`. -/
theorem coords : ∀ t : Fin grid0.N, (![2#32, 1#32, 3#32] (grid0.coords t 0 : Fin 3)).toNat = shard t.val ∧ (grid0.coords t 1 : ℕ) = t.val % 2 := by decide +kernel
theorem idx0 (hO : Ok m) (t : Fin (cfgM m hO).N) : ((cfgM m hO).win 0).index t = ![shard t.val, 0, t.val % 2, 0] :=
  (own m (grid0.coords t)).trans (by rw [(coords t).1, (coords t).2])
theorem idx1 (hO : Ok m) (t : Fin (cfgM m hO).N) : ((cfgM m hO).win 1).index t = ![shard t.val, t.val % 2, 0] :=
  (sibling m (grid0.coords t)).trans (by rw [(coords t).1, (coords t).2])
theorem idx2 (hO : Ok m) (t : Fin (cfgM m hO).N) : ((cfgM m hO).win 2).index t = ![shard t.val, t.val % 2, 0] :=
  (place m (grid0.coords t)).trans (by rw [(coords t).1, (coords t).2])

/-- What point `t` stores is the sum in its shard and row block. -/
theorem entry (hO : Ok m) (c : Dev nD) (t : Fin (cfgM m hO).N) (y : S1x256x512.Idx) (j : Cert.SibAttnRefIdeal.S3x512x512.Idx) (h : shard t.val = 1 + j 0)
    (h0 : (j 1 : ℕ) = 256 * (t.val % 2) + y 1) (h1 : (j 2 : ℕ) = y 2) : k0_pay1 (iblk m hO c 0 t) (iblk m hO c 1 t) y = SUM (m ((c : Thread nD τ).loc main_arg0)) (m ((c : Thread nD τ).loc main_arg1)) j := by
  pointwise [k0_pay1, SUM]
  refine congrArg₂ (· + ·) ?_ ?_
  · blk_point [iblk, V, idx0 m hO t]
  · blk_point [iblk, V, idx1 m hO t]

theorem point (hO : Ok m) (c : Dev nD) (t : Fin (cfgM m hO).N) (y : S1x256x512.Idx) : k0_pay1 (iblk m hO c 0 t) (iblk m hO c 1 t) y
    = all (m ((c : Thread nD τ).loc main_arg0)) (m ((c : Thread nD τ).loc main_arg1)) (V m c main_v15) ((((cfgM m hO).win 2).blk t).view.emb y) := by
  have ht : t.val < 6 := t.isLt
  have hs := shard_pos t.val
  have hn : shard t.val = 1 + (shard t.val - 1) := by omega
  idx_bounds
  refine (entry m hO c t y (ix3 ⟨shard t.val - 1, by omega⟩ ⟨256 * (t.val % 2) + y 1, by omega⟩ ⟨y 2, by omega⟩) hn rfl rfl).trans (all_mine _ _ _ _ _ ?_ ?_ ?_).symm
  · blk_simp [idx2 m hO t]
    dsimp only
    omega
  · blk_simp [idx2 m hO t]
    dsimp only
    omega
  · blk_simp [idx2 m hO t]

/-- The table's contents, written out. -/
abbrev tab0 : pre0.Contents (Elt Ideal) := fun
  | 0 => (concatenate S4 0 [⟨S1, constantI S1 32 0#32⟩, ⟨S1, constantI S1 32 2#32⟩, ⟨S1, constantI S1 32 1#32⟩, ⟨S1, constantI S1 32 3#32⟩] concatenates_S1_S1_S1_S1_S4_d0 : (⟨S4, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover shards 1 to 3 of the result array. -/
theorem covers_of (p : pre0.Contents (Elt Ideal)) (h : ok0 p) (e : p = tab0) : ((cfg0 ⟨p, h⟩).win 2).CoversWhere fun β => β (0 : Fin 3) ≠ 0 := by
  subst e
  exact (by decide +kernel : ((cfg0 adm0).win 2).CoversWhere fun β => β (0 : Fin 3) ≠ 0)

theorem covers (hO : Ok m) : ((cfgM m hO).win 2).CoversWhere fun β => β (0 : Fin 3) ≠ 0 := covers_of (tbl m) hO (table m)

/-- What point `t` stores, of the blocks it reads. -/
theorem stored (hO : Ok m) (c : Dev nD) (t : Fin (cfgM m hO).N) : outsAt0 m hO c t = k0_pay1 (iblk m hO c 0 t) (iblk m hO c 1 t) := by
  unfold outsAt0
  frame_out
  exact congrArg₂ k0_pay1 ((hs0_0 m hO t).read_unread _) ((hs0_1 m hO t).read_unread _)

/-- The array the call writes has the sums in shards 1 to 3, and its earlier contents in shard 0. -/
theorem array (hO : Ok m) (c : Dev nD) : (dats m hO 0 c).arrAt 2 (cfgM m hO).N = all (m ((c : Thread nD τ).loc main_arg0)) (m ((c : Thread nD τ).loc main_arg1)) (V m c main_v15) := by
  refine (dats m hO 0 c).arrAt_eq_of_coversWhere_of_agree 2 _ (fun β => β (0 : Fin 3) ≠ 0) (covers m hO) (fun t _ y => ?_) (fun j hj => ?_)
  · exact (((congrFun (after0_2 m hO c t) y).trans (congrFun (stored m hO c t) y)).trans (point m hO c t y)).trans rfl
  · rw [A_eq]
    exact (all_kept _ _ _ _ hj).symm

/-- The host's slice of it is the sums. -/
theorem final (hO : Ok m) (c : Dev nD) : Pipeline.afterTail pcfgs (fun _ => adm m hO) (dats m hO) 0 (V0 m) [hostOps1] c main_v16 = SUM (m ((c : Thread nD τ).loc main_arg0)) (m ((c : Thread nD τ).loc main_arg1)) := by
  have e : Pipeline.withArrays ((Pipeline.pin pcfgs fun _ => adm m hO) 0).spec c (V0 m c) (fun w => (dats m hO 0 c).arrAt w (cfgM m hO).N) (Proc.devRef .tc main_v15)
      = all (m ((c : Thread nD τ).loc main_arg0)) (m ((c : Thread nD τ).loc main_arg1)) (V m c main_v15) :=
    (Pipeline.withArrays_arr spec0 winFacts0.arr_inj c (V0 m c) _ 2).trans (array m hO c)
  unfold Pipeline.afterTail
  simp only [List.flatten_cons, List.flatten_nil, List.append_nil]
  after_results
  rw [e]
  funext j
  exact all_mine _ _ _ _ _ (by simp) (by simp) (by simp)

end Cert.SibAttnIdeal.Hand

namespace Cert.Proof

theorem value_SibAttn : Cert.algebraic_SibAttnIdeal_SibAttnRefIdeal := by
  pair_intro
  case refine_1 => exact fun c => Cert.SibAttnIdeal.Hand.SUM (m (c.tc.loc Cert.SibAttnIdeal.main_arg0)) (m (c.tc.loc Cert.SibAttnIdeal.main_arg1))
  · refine (θ_run _ _ _).mono (fun r h c => ?_)
      (θ_run_and (Cert.SibAttnIdeal.Gen.unchanged m g (Cert.SibAttnIdeal.Hand.ok m)) (Cert.SibAttnIdeal.Gen.run_main m g (Cert.SibAttnIdeal.Hand.ok m)))
    have e : r.2.mem (c.tc.loc Cert.SibAttnIdeal.main_v16) = Cert.SibAttnIdeal.Hand.SUM (m (c.tc.loc Cert.SibAttnIdeal.main_arg0)) (m (c.tc.loc Cert.SibAttnIdeal.main_arg1)) :=
      ((h.2 c).2 Cert.SibAttnIdeal.main_v16 (by decide : Cert.SibAttnIdeal.main_v16 ∈ Pipeline.restRefs Cert.SibAttnIdeal.sig Cert.SibAttnIdeal.spec0)).trans (Cert.SibAttnIdeal.Hand.final m (Cert.SibAttnIdeal.Hand.ok m) c)
    exact ⟨e, h.1 c⟩
  · run_from Cert.SibAttnRefIdeal.Value.run m' g'

theorem frame_SibAttn : Cert.quiescent_SibAttn := fun m ρ _ => Cert.SibAttn.Gen.frame m ρ (Cert.SibAttn.Hand.ok m)
theorem frame_SibAttnIdeal : Cert.quiescent_SibAttnIdeal := fun m ρ _ => Cert.SibAttnIdeal.Gen.frame m ρ (Cert.SibAttnIdeal.Hand.ok m)
theorem frame_SibAttnRefIdeal : Cert.quiescent_SibAttnRefIdeal := fun m ρ _ =>
  (θ_run Cert.SibAttnRefIdeal.defs _ _).mono
    (fun r h => ⟨fun c => (h c).2, Idealize.ShloMosaic.sem_eq_zero_of_no_sems (by decide) r.2⟩)
    (Cert.SibAttnRefIdeal.Value.run m ρ)

end Cert.Proof

end
-- ==== Proof.SibHgrnValue.lean ====
/- The sums that a chip sends to the three others: of the shards of a weight's gradient that are theirs, the device's part and its
   sibling's. Which shards they are is read from a prefetched table, whose entries the host part fixes. -/
module

public import proofs.«01_k».proof.Proof.Gen.SibHgrnIdeal.Frame
public import proofs.«01_k».proof.Proof.Gen.SibHgrn.Frame
public import proofs.«01_k».proof.Proof.Gen.SibHgrnRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SibHgrn.Hand

open Cert.SibHgrn Cert.SibHgrn.Gen

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Cert.SibHgrn.Hand

namespace Cert.SibHgrnIdeal.Hand

open Cert.SibHgrnIdeal Cert.SibHgrnIdeal.Gen

section Table

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Table

variable (m : (ℓ : Loc nD τ sig) → Buf (Elt Ideal) ℓ)

/-- The sums, of shards 1 to 3. -/
abbrev SUM (g : FVec Ideal S4x2x512x512 .bf16) (l : FVec Ideal S4x512x512 .bf16) : FVec Ideal Cert.SibHgrnRefIdeal.S3x512x512 .bf16 :=
  truncf .bf16 (addf (extf .f32 (extractStridedSlice Cert.SibHgrnRefIdeal.S3x512x512 ![1, 0, 0] (shapeCast Cert.SibHgrnRefIdeal.S4x512x512 (extractStridedSlice Cert.SibHgrnRefIdeal.S4x1x512x512 ![0, 0, 0, 0] g Cert.SibHgrnRefIdeal.Gen.slices_S4x2x512x512_S4x1x512x512_0_0_0_0) Cert.SibHgrnRefIdeal.Gen.shapeCasts_S4x1x512x512_S4x512x512) Cert.SibHgrnRefIdeal.Gen.slices_S4x512x512_S3x512x512_1_0_0) Cert.SibHgrnRefIdeal.Gen.bitsLt_bf16_f32)
    (extf .f32 (extractStridedSlice Cert.SibHgrnRefIdeal.S3x512x512 ![1, 0, 0] l Cert.SibHgrnRefIdeal.Gen.slices_S4x512x512_S3x512x512_1_0_0) Cert.SibHgrnRefIdeal.Gen.bitsLt_bf16_f32)) Cert.SibHgrnRefIdeal.Gen.bitsLt_bf16_f32

/-- The sums, beside whatever shard 0 holds. -/
def all (g : FVec Ideal S4x2x512x512 .bf16) (l : FVec Ideal S4x512x512 .bf16) (p : FVec Ideal S4x512x512 .bf16) : FVec Ideal S4x512x512 .bf16 :=
  fun i => if h : (i 0 : ℕ) ≠ 0 then SUM g l (ix3 ⟨(i 0 : ℕ) - 1, by have := (i 0).isLt; have : (i 0 : ℕ) < 4 := this; omega⟩ (i 1) (i 2)) else p i

theorem all_mine (g : FVec Ideal S4x2x512x512 .bf16) (l : FVec Ideal S4x512x512 .bf16) (p : FVec Ideal S4x512x512 .bf16) (i : S4x512x512.Idx) (j : Cert.SibHgrnRefIdeal.S3x512x512.Idx) (h : (i 0 : ℕ) = 1 + j 0) (h0 : (i 1 : ℕ) = j 1)
    (h1 : (i 2 : ℕ) = j 2) : all g l p i = SUM g l j := by
  have e : (ix3 ⟨(i 0 : ℕ) - 1, by have := (j 0).isLt; have : (j 0 : ℕ) < 3 := this; omega⟩ (i 1) (i 2) : Cert.SibHgrnRefIdeal.S3x512x512.Idx) = j := by
    funext a
    match a with
    | 0 => exact Fin.ext (show (i 0 : ℕ) - 1 = j 0 by omega)
    | 1 => exact Fin.ext h0
    | 2 => exact Fin.ext h1
  unfold all
  rw [dif_pos (by omega), e]

theorem all_kept (g : FVec Ideal S4x2x512x512 .bf16) (l : FVec Ideal S4x512x512 .bf16) (p : FVec Ideal S4x512x512 .bf16) (i : S4x512x512.Idx) (h : ¬ ((i 0 : ℕ) / 1 ≠ 0)) : all g l p i = p i := by
  unfold all
  exact dif_neg (by rwa [Nat.div_one] at h)

/-- The shard of point `t`. -/
def shard (t : ℕ) : ℕ := if t / 2 = 0 then 2 else if t / 2 = 1 then 1 else 3

theorem shard_pos (t : ℕ) : 0 < shard t ∧ shard t < 4 := by
  unfold shard
  split
  · omega
  · split <;> omega

/-- Which block each window has at point `t`. -/
theorem coords : ∀ t : Fin grid0.N, (![2#32, 1#32, 3#32] (grid0.coords t 0 : Fin 3)).toNat = shard t.val ∧ (grid0.coords t 1 : ℕ) = t.val % 2 := by decide +kernel
theorem idx0 (hO : Ok m) (t : Fin (cfgM m hO).N) : ((cfgM m hO).win 0).index t = ![shard t.val, 0, t.val % 2, 0] :=
  (own m (grid0.coords t)).trans (by rw [(coords t).1, (coords t).2])
theorem idx1 (hO : Ok m) (t : Fin (cfgM m hO).N) : ((cfgM m hO).win 1).index t = ![shard t.val, t.val % 2, 0] :=
  (sibling m (grid0.coords t)).trans (by rw [(coords t).1, (coords t).2])
theorem idx2 (hO : Ok m) (t : Fin (cfgM m hO).N) : ((cfgM m hO).win 2).index t = ![shard t.val, t.val % 2, 0] :=
  (place m (grid0.coords t)).trans (by rw [(coords t).1, (coords t).2])

/-- What point `t` stores is the sum in its shard and row block. -/
theorem entry (hO : Ok m) (c : Dev nD) (t : Fin (cfgM m hO).N) (y : S1x256x512.Idx) (j : Cert.SibHgrnRefIdeal.S3x512x512.Idx) (h : shard t.val = 1 + j 0)
    (h0 : (j 1 : ℕ) = 256 * (t.val % 2) + y 1) (h1 : (j 2 : ℕ) = y 2) : k0_pay1 (iblk m hO c 0 t) (iblk m hO c 1 t) y = SUM (m ((c : Thread nD τ).loc main_arg0)) (m ((c : Thread nD τ).loc main_arg1)) j := by
  pointwise [k0_pay1, SUM]
  refine congrArg₂ (· + ·) ?_ ?_
  · blk_point [iblk, V, idx0 m hO t]
  · blk_point [iblk, V, idx1 m hO t]

theorem point (hO : Ok m) (c : Dev nD) (t : Fin (cfgM m hO).N) (y : S1x256x512.Idx) : k0_pay1 (iblk m hO c 0 t) (iblk m hO c 1 t) y
    = all (m ((c : Thread nD τ).loc main_arg0)) (m ((c : Thread nD τ).loc main_arg1)) (V m c main_v15) ((((cfgM m hO).win 2).blk t).view.emb y) := by
  have ht : t.val < 6 := t.isLt
  have hs := shard_pos t.val
  have hn : shard t.val = 1 + (shard t.val - 1) := by omega
  idx_bounds
  refine (entry m hO c t y (ix3 ⟨shard t.val - 1, by omega⟩ ⟨256 * (t.val % 2) + y 1, by omega⟩ ⟨y 2, by omega⟩) hn rfl rfl).trans (all_mine _ _ _ _ _ ?_ ?_ ?_).symm
  · blk_simp [idx2 m hO t]
    dsimp only
    omega
  · blk_simp [idx2 m hO t]
    dsimp only
    omega
  · blk_simp [idx2 m hO t]

/-- The table's contents, written out. -/
abbrev tab0 : pre0.Contents (Elt Ideal) := fun
  | 0 => (concatenate S4 0 [⟨S1, constantI S1 32 0#32⟩, ⟨S1, constantI S1 32 2#32⟩, ⟨S1, constantI S1 32 1#32⟩, ⟨S1, constantI S1 32 3#32⟩] concatenates_S1_S1_S1_S1_S4_d0 : (⟨S4, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover shards 1 to 3 of the result array. -/
theorem covers_of (p : pre0.Contents (Elt Ideal)) (h : ok0 p) (e : p = tab0) : ((cfg0 ⟨p, h⟩).win 2).CoversWhere fun β => β (0 : Fin 3) ≠ 0 := by
  subst e
  exact (by decide +kernel : ((cfg0 adm0).win 2).CoversWhere fun β => β (0 : Fin 3) ≠ 0)

theorem covers (hO : Ok m) : ((cfgM m hO).win 2).CoversWhere fun β => β (0 : Fin 3) ≠ 0 := covers_of (tbl m) hO (table m)

/-- What point `t` stores, of the blocks it reads. -/
theorem stored (hO : Ok m) (c : Dev nD) (t : Fin (cfgM m hO).N) : outsAt0 m hO c t = k0_pay1 (iblk m hO c 0 t) (iblk m hO c 1 t) := by
  unfold outsAt0
  frame_out
  exact congrArg₂ k0_pay1 ((hs0_0 m hO t).read_unread _) ((hs0_1 m hO t).read_unread _)

/-- The array the call writes has the sums in shards 1 to 3, and its earlier contents in shard 0. -/
theorem array (hO : Ok m) (c : Dev nD) : (dats m hO 0 c).arrAt 2 (cfgM m hO).N = all (m ((c : Thread nD τ).loc main_arg0)) (m ((c : Thread nD τ).loc main_arg1)) (V m c main_v15) := by
  refine (dats m hO 0 c).arrAt_eq_of_coversWhere_of_agree 2 _ (fun β => β (0 : Fin 3) ≠ 0) (covers m hO) (fun t _ y => ?_) (fun j hj => ?_)
  · exact (((congrFun (after0_2 m hO c t) y).trans (congrFun (stored m hO c t) y)).trans (point m hO c t y)).trans rfl
  · rw [A_eq]
    exact (all_kept _ _ _ _ hj).symm

/-- The host's slice of it is the sums. -/
theorem final (hO : Ok m) (c : Dev nD) : Pipeline.afterTail pcfgs (fun _ => adm m hO) (dats m hO) 0 (V0 m) [hostOps1] c main_v16 = SUM (m ((c : Thread nD τ).loc main_arg0)) (m ((c : Thread nD τ).loc main_arg1)) := by
  have e : Pipeline.withArrays ((Pipeline.pin pcfgs fun _ => adm m hO) 0).spec c (V0 m c) (fun w => (dats m hO 0 c).arrAt w (cfgM m hO).N) (Proc.devRef .tc main_v15)
      = all (m ((c : Thread nD τ).loc main_arg0)) (m ((c : Thread nD τ).loc main_arg1)) (V m c main_v15) :=
    (Pipeline.withArrays_arr spec0 winFacts0.arr_inj c (V0 m c) _ 2).trans (array m hO c)
  unfold Pipeline.afterTail
  simp only [List.flatten_cons, List.flatten_nil, List.append_nil]
  after_results
  rw [e]
  funext j
  exact all_mine _ _ _ _ _ (by simp) (by simp) (by simp)

end Cert.SibHgrnIdeal.Hand

namespace Cert.Proof

theorem value_SibHgrn : Cert.algebraic_SibHgrnIdeal_SibHgrnRefIdeal := by
  pair_intro
  case refine_1 => exact fun c => Cert.SibHgrnIdeal.Hand.SUM (m (c.tc.loc Cert.SibHgrnIdeal.main_arg0)) (m (c.tc.loc Cert.SibHgrnIdeal.main_arg1))
  · refine (θ_run _ _ _).mono (fun r h c => ?_)
      (θ_run_and (Cert.SibHgrnIdeal.Gen.unchanged m g (Cert.SibHgrnIdeal.Hand.ok m)) (Cert.SibHgrnIdeal.Gen.run_main m g (Cert.SibHgrnIdeal.Hand.ok m)))
    have e : r.2.mem (c.tc.loc Cert.SibHgrnIdeal.main_v16) = Cert.SibHgrnIdeal.Hand.SUM (m (c.tc.loc Cert.SibHgrnIdeal.main_arg0)) (m (c.tc.loc Cert.SibHgrnIdeal.main_arg1)) :=
      ((h.2 c).2 Cert.SibHgrnIdeal.main_v16 (by decide : Cert.SibHgrnIdeal.main_v16 ∈ Pipeline.restRefs Cert.SibHgrnIdeal.sig Cert.SibHgrnIdeal.spec0)).trans (Cert.SibHgrnIdeal.Hand.final m (Cert.SibHgrnIdeal.Hand.ok m) c)
    exact ⟨e, h.1 c⟩
  · run_from Cert.SibHgrnRefIdeal.Value.run m' g'

theorem frame_SibHgrn : Cert.quiescent_SibHgrn := fun m ρ _ => Cert.SibHgrn.Gen.frame m ρ (Cert.SibHgrn.Hand.ok m)
theorem frame_SibHgrnIdeal : Cert.quiescent_SibHgrnIdeal := fun m ρ _ => Cert.SibHgrnIdeal.Gen.frame m ρ (Cert.SibHgrnIdeal.Hand.ok m)
theorem frame_SibHgrnRefIdeal : Cert.quiescent_SibHgrnRefIdeal := fun m ρ _ =>
  (θ_run Cert.SibHgrnRefIdeal.defs _ _).mono
    (fun r h => ⟨fun c => (h c).2, Idealize.ShloMosaic.sem_eq_zero_of_no_sems (by decide) r.2⟩)
    (Cert.SibHgrnRefIdeal.Value.run m ρ)

end Cert.Proof

end
-- ==== Proof.SibOutValue.lean ====
/- The sums that a chip sends to the three others: of the shards of a weight's gradient that are theirs, the device's part and its
   sibling's. Which shards they are is read from a prefetched table, whose entries the host part fixes. -/
module

public import proofs.«01_k».proof.Proof.Gen.SibOutIdeal.Frame
public import proofs.«01_k».proof.Proof.Gen.SibOut.Frame
public import proofs.«01_k».proof.Proof.Gen.SibOutRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SibOut.Hand

open Cert.SibOut Cert.SibOut.Gen

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Cert.SibOut.Hand

namespace Cert.SibOutIdeal.Hand

open Cert.SibOutIdeal Cert.SibOutIdeal.Gen

section Table

variable {F : FTy → Type} [FloatOps F] (m : (ℓ : Loc nD τ sig) → Buf (Elt F) ℓ)

theorem pieces {a b c d a' b' c' d' : IVec S1 32} (ha : a = a') (hb : b = b') (hc : c = c') (hd : d = d') :
    concatenate S4 0 [⟨S1, a⟩, ⟨S1, b⟩, ⟨S1, c⟩, ⟨S1, d⟩] concatenates_S1_S1_S1_S1_S4_d0
      = concatenate S4 0 [⟨S1, a'⟩, ⟨S1, b'⟩, ⟨S1, c'⟩, ⟨S1, d'⟩] concatenates_S1_S1_S1_S1_S4_d0 := by
  rw [ha, hb, hc, hd]

/-- The prefetched table holds the core's number, 0, and those of the three other chips: 2, 1 and 3. -/
theorem numbers : V m (0 : Dev nD) main_v14
    = concatenate S4 0 [⟨S1, constantI S1 32 0#32⟩, ⟨S1, constantI S1 32 2#32⟩, ⟨S1, constantI S1 32 1#32⟩, ⟨S1, constantI S1 32 3#32⟩] concatenates_S1_S1_S1_S1_S4_d0 := by
  simp only [V, V0, hostOps0, List.flatten_cons, List.flatten_nil, List.append_nil, StableHlo.after_cons, StableHlo.after_nil]
  refine (StableHlo.nary_result _ _ _ _ _ _).trans (pieces ?_ ?_ ?_ ?_)
  all_goals
    dsimp only [Matrix.cons_val]
    simp only [↓ StableHlo.readResult]
    funext i
    simp only [shapeCast, addi, subi, muli, IntOp.addi, IntOp.subi, IntOp.muli, constantI] <;> (change @Eq (BitVec 32) _ _; decide)

theorem half : (tbl m).at 0 (Rect.unit (s := S4) ![0] S1.size inb_S4_S1_0) numel1_S1 = 0#32 := by
  have h : tbl m 0 = _ := numbers m
  unfold Pipeline.Prefetch.Contents.at
  rw [h]
  rfl

/-- Entry `k + 1` is the number of the `k`-th other chip. -/
theorem other (k : Fin 3) (o : Fin 1 → ℕ) (ho : o = ![1 + (k : ℕ)]) (hin : ∀ a, o a + S1.size a ≤ S4.size a) :
    (tbl m).at 0 (Rect.unit (s := S4) o S1.size hin) numel1_S1 = ![2#32, 1#32, 3#32] k := by
  subst ho
  have h : tbl m 0 = _ := numbers m
  unfold Pipeline.Prefetch.Contents.at
  rw [h]
  match k with
  | 0 => rfl
  | 1 => rfl
  | 2 => rfl

theorem offset : ∀ i : grid0.Coords, ![(Scalar.indexCast (Scalar.addi 1#32 (BitVec.ofNat 32 (i 0).val))).toNat] = ![1 + ((i 0 : Fin 3) : ℕ)] := by decide +kernel

/-- So a point reads that chip's shard of the device's gradient -/
theorem own (i : grid0.Coords) : cc0_transform_0 k0_off1_inb numel1_S1 inb_S4_S1_0 (tbl m) i = ![(![2#32, 1#32, 3#32] (i 0 : Fin 3)).toNat, 0, (i 1 : ℕ), 0] := by
  unfold cc0_transform_0
  dsimp only
  rw [other m (i 0) _ (offset i) (k0_off1_inb i), half]
  revert i
  decide +kernel

/-- and of its sibling's, -/
theorem sibling (i : grid0.Coords) : cc0_transform_1 k0_off1_inb numel1_S1 (tbl m) i = ![(![2#32, 1#32, 3#32] (i 0 : Fin 3)).toNat, (i 1 : ℕ), 0] := by
  unfold cc0_transform_1
  dsimp only
  rw [other m (i 0) _ (offset i) (k0_off1_inb i)]
  revert i
  decide +kernel

/-- and writes there. -/
theorem place (i : grid0.Coords) : cc0_transform_2 k0_off1_inb numel1_S1 (tbl m) i = ![(![2#32, 1#32, 3#32] (i 0 : Fin 3)).toNat, (i 1 : ℕ), 0] := by
  unfold cc0_transform_2
  dsimp only
  rw [other m (i 0) _ (offset i) (k0_off1_inb i)]
  revert i
  decide +kernel

/-- The blocks are inside the arrays. -/
theorem ok : Ok m := by
  refine ⟨fun i => ?_, fun i => ?_, fun i => ?_⟩
  · rw [own]
    revert i
    decide +kernel
  · rw [sibling]
    revert i
    decide +kernel
  · rw [place]
    revert i
    decide +kernel

end Table

variable (m : (ℓ : Loc nD τ sig) → Buf (Elt Ideal) ℓ)

/-- The sums, of shards 1 to 3. -/
abbrev SUM (g : FVec Ideal S4x2x256x2048 .bf16) (l : FVec Ideal S4x256x2048 .bf16) : FVec Ideal Cert.SibOutRefIdeal.S3x256x2048 .bf16 :=
  truncf .bf16 (addf (extf .f32 (extractStridedSlice Cert.SibOutRefIdeal.S3x256x2048 ![1, 0, 0] (shapeCast Cert.SibOutRefIdeal.S4x256x2048 (extractStridedSlice Cert.SibOutRefIdeal.S4x1x256x2048 ![0, 0, 0, 0] g Cert.SibOutRefIdeal.Gen.slices_S4x2x256x2048_S4x1x256x2048_0_0_0_0) Cert.SibOutRefIdeal.Gen.shapeCasts_S4x1x256x2048_S4x256x2048) Cert.SibOutRefIdeal.Gen.slices_S4x256x2048_S3x256x2048_1_0_0) Cert.SibOutRefIdeal.Gen.bitsLt_bf16_f32)
    (extf .f32 (extractStridedSlice Cert.SibOutRefIdeal.S3x256x2048 ![1, 0, 0] l Cert.SibOutRefIdeal.Gen.slices_S4x256x2048_S3x256x2048_1_0_0) Cert.SibOutRefIdeal.Gen.bitsLt_bf16_f32)) Cert.SibOutRefIdeal.Gen.bitsLt_bf16_f32

/-- The sums, beside whatever shard 0 holds. -/
def all (g : FVec Ideal S4x2x256x2048 .bf16) (l : FVec Ideal S4x256x2048 .bf16) (p : FVec Ideal S4x256x2048 .bf16) : FVec Ideal S4x256x2048 .bf16 :=
  fun i => if h : (i 0 : ℕ) ≠ 0 then SUM g l (ix3 ⟨(i 0 : ℕ) - 1, by have := (i 0).isLt; have : (i 0 : ℕ) < 4 := this; omega⟩ (i 1) (i 2)) else p i

theorem all_mine (g : FVec Ideal S4x2x256x2048 .bf16) (l : FVec Ideal S4x256x2048 .bf16) (p : FVec Ideal S4x256x2048 .bf16) (i : S4x256x2048.Idx) (j : Cert.SibOutRefIdeal.S3x256x2048.Idx) (h : (i 0 : ℕ) = 1 + j 0) (h0 : (i 1 : ℕ) = j 1)
    (h1 : (i 2 : ℕ) = j 2) : all g l p i = SUM g l j := by
  have e : (ix3 ⟨(i 0 : ℕ) - 1, by have := (j 0).isLt; have : (j 0 : ℕ) < 3 := this; omega⟩ (i 1) (i 2) : Cert.SibOutRefIdeal.S3x256x2048.Idx) = j := by
    funext a
    match a with
    | 0 => exact Fin.ext (show (i 0 : ℕ) - 1 = j 0 by omega)
    | 1 => exact Fin.ext h0
    | 2 => exact Fin.ext h1
  unfold all
  rw [dif_pos (by omega), e]

theorem all_kept (g : FVec Ideal S4x2x256x2048 .bf16) (l : FVec Ideal S4x256x2048 .bf16) (p : FVec Ideal S4x256x2048 .bf16) (i : S4x256x2048.Idx) (h : ¬ ((i 0 : ℕ) / 1 ≠ 0)) : all g l p i = p i := by
  unfold all
  exact dif_neg (by rwa [Nat.div_one] at h)

/-- The shard of point `t`. -/
def shard (t : ℕ) : ℕ := if t / 1 = 0 then 2 else if t / 1 = 1 then 1 else 3

theorem shard_pos (t : ℕ) : 0 < shard t ∧ shard t < 4 := by
  unfold shard
  split
  · omega
  · split <;> omega

/-- Which block each window has at point `t`. -/
theorem coords : ∀ t : Fin grid0.N, (![2#32, 1#32, 3#32] (grid0.coords t 0 : Fin 3)).toNat = shard t.val ∧ (grid0.coords t 1 : ℕ) = t.val % 1 := by decide +kernel
theorem idx0 (hO : Ok m) (t : Fin (cfgM m hO).N) : ((cfgM m hO).win 0).index t = ![shard t.val, 0, t.val % 1, 0] :=
  (own m (grid0.coords t)).trans (by rw [(coords t).1, (coords t).2])
theorem idx1 (hO : Ok m) (t : Fin (cfgM m hO).N) : ((cfgM m hO).win 1).index t = ![shard t.val, t.val % 1, 0] :=
  (sibling m (grid0.coords t)).trans (by rw [(coords t).1, (coords t).2])
theorem idx2 (hO : Ok m) (t : Fin (cfgM m hO).N) : ((cfgM m hO).win 2).index t = ![shard t.val, t.val % 1, 0] :=
  (place m (grid0.coords t)).trans (by rw [(coords t).1, (coords t).2])

/-- What point `t` stores is the sum in its shard and row block. -/
theorem entry (hO : Ok m) (c : Dev nD) (t : Fin (cfgM m hO).N) (y : S1x256x2048.Idx) (j : Cert.SibOutRefIdeal.S3x256x2048.Idx) (h : shard t.val = 1 + j 0)
    (h0 : (j 1 : ℕ) = 256 * (t.val % 1) + y 1) (h1 : (j 2 : ℕ) = y 2) : k0_pay1 (iblk m hO c 0 t) (iblk m hO c 1 t) y = SUM (m ((c : Thread nD τ).loc main_arg0)) (m ((c : Thread nD τ).loc main_arg1)) j := by
  pointwise [k0_pay1, SUM]
  refine congrArg₂ (· + ·) ?_ ?_
  · blk_point [iblk, V, idx0 m hO t]
  · blk_point [iblk, V, idx1 m hO t]

theorem point (hO : Ok m) (c : Dev nD) (t : Fin (cfgM m hO).N) (y : S1x256x2048.Idx) : k0_pay1 (iblk m hO c 0 t) (iblk m hO c 1 t) y
    = all (m ((c : Thread nD τ).loc main_arg0)) (m ((c : Thread nD τ).loc main_arg1)) (V m c main_v15) ((((cfgM m hO).win 2).blk t).view.emb y) := by
  have ht : t.val < 3 := t.isLt
  have hs := shard_pos t.val
  have hn : shard t.val = 1 + (shard t.val - 1) := by omega
  idx_bounds
  refine (entry m hO c t y (ix3 ⟨shard t.val - 1, by omega⟩ ⟨256 * (t.val % 1) + y 1, by omega⟩ ⟨y 2, by omega⟩) hn rfl rfl).trans (all_mine _ _ _ _ _ ?_ ?_ ?_).symm
  · blk_simp [idx2 m hO t]
    dsimp only
    omega
  · blk_simp [idx2 m hO t]
    dsimp only
    omega
  · blk_simp [idx2 m hO t]

/-- The table's contents, written out. -/
abbrev tab0 : pre0.Contents (Elt Ideal) := fun
  | 0 => (concatenate S4 0 [⟨S1, constantI S1 32 0#32⟩, ⟨S1, constantI S1 32 2#32⟩, ⟨S1, constantI S1 32 1#32⟩, ⟨S1, constantI S1 32 3#32⟩] concatenates_S1_S1_S1_S1_S4_d0 : (⟨S4, .i32⟩ : BufTy).Contents (Elt Ideal))
  | ⟨_ + 1, h⟩ => absurd h (Nat.not_lt.2 (Nat.le_add_left _ _))

/-- Contents of the table that the pipeline admits. -/
abbrev adm0 : (pcfg0 (F := Ideal)).Adm := ⟨tab0, by decide +kernel⟩

theorem table : tbl m = tab0 := funext fun j => by
  obtain rfl : j = 0 := Subsingleton.elim _ _
  exact numbers m

/-- The blocks written cover shards 1 to 3 of the result array. -/
theorem covers_of (p : pre0.Contents (Elt Ideal)) (h : ok0 p) (e : p = tab0) : ((cfg0 ⟨p, h⟩).win 2).CoversWhere fun β => β (0 : Fin 3) ≠ 0 := by
  subst e
  exact (by decide +kernel : ((cfg0 adm0).win 2).CoversWhere fun β => β (0 : Fin 3) ≠ 0)

theorem covers (hO : Ok m) : ((cfgM m hO).win 2).CoversWhere fun β => β (0 : Fin 3) ≠ 0 := covers_of (tbl m) hO (table m)

/-- What point `t` stores, of the blocks it reads. -/
theorem stored (hO : Ok m) (c : Dev nD) (t : Fin (cfgM m hO).N) : outsAt0 m hO c t = k0_pay1 (iblk m hO c 0 t) (iblk m hO c 1 t) := by
  unfold outsAt0
  frame_out
  exact congrArg₂ k0_pay1 ((hs0_0 m hO t).read_unread _) ((hs0_1 m hO t).read_unread _)

/-- The array the call writes has the sums in shards 1 to 3, and its earlier contents in shard 0. -/
theorem array (hO : Ok m) (c : Dev nD) : (dats m hO 0 c).arrAt 2 (cfgM m hO).N = all (m ((c : Thread nD τ).loc main_arg0)) (m ((c : Thread nD τ).loc main_arg1)) (V m c main_v15) := by
  refine (dats m hO 0 c).arrAt_eq_of_coversWhere_of_agree 2 _ (fun β => β (0 : Fin 3) ≠ 0) (covers m hO) (fun t _ y => ?_) (fun j hj => ?_)
  · exact (((congrFun (after0_2 m hO c t) y).trans (congrFun (stored m hO c t) y)).trans (point m hO c t y)).trans rfl
  · rw [A_eq]
    exact (all_kept _ _ _ _ hj).symm

/-- The host's slice of it is the sums. -/
theorem final (hO : Ok m) (c : Dev nD) : Pipeline.afterTail pcfgs (fun _ => adm m hO) (dats m hO) 0 (V0 m) [hostOps1] c main_v16 = SUM (m ((c : Thread nD τ).loc main_arg0)) (m ((c : Thread nD τ).loc main_arg1)) := by
  have e : Pipeline.withArrays ((Pipeline.pin pcfgs fun _ => adm m hO) 0).spec c (V0 m c) (fun w => (dats m hO 0 c).arrAt w (cfgM m hO).N) (Proc.devRef .tc main_v15)
      = all (m ((c : Thread nD τ).loc main_arg0)) (m ((c : Thread nD τ).loc main_arg1)) (V m c main_v15) :=
    (Pipeline.withArrays_arr spec0 winFacts0.arr_inj c (V0 m c) _ 2).trans (array m hO c)
  unfold Pipeline.afterTail
  simp only [List.flatten_cons, List.flatten_nil, List.append_nil]
  after_results
  rw [e]
  funext j
  exact all_mine _ _ _ _ _ (by simp) (by simp) (by simp)

end Cert.SibOutIdeal.Hand

namespace Cert.Proof

theorem value_SibOut : Cert.algebraic_SibOutIdeal_SibOutRefIdeal := by
  pair_intro
  case refine_1 => exact fun c => Cert.SibOutIdeal.Hand.SUM (m (c.tc.loc Cert.SibOutIdeal.main_arg0)) (m (c.tc.loc Cert.SibOutIdeal.main_arg1))
  · refine (θ_run _ _ _).mono (fun r h c => ?_)
      (θ_run_and (Cert.SibOutIdeal.Gen.unchanged m g (Cert.SibOutIdeal.Hand.ok m)) (Cert.SibOutIdeal.Gen.run_main m g (Cert.SibOutIdeal.Hand.ok m)))
    have e : r.2.mem (c.tc.loc Cert.SibOutIdeal.main_v16) = Cert.SibOutIdeal.Hand.SUM (m (c.tc.loc Cert.SibOutIdeal.main_arg0)) (m (c.tc.loc Cert.SibOutIdeal.main_arg1)) :=
      ((h.2 c).2 Cert.SibOutIdeal.main_v16 (by decide : Cert.SibOutIdeal.main_v16 ∈ Pipeline.restRefs Cert.SibOutIdeal.sig Cert.SibOutIdeal.spec0)).trans (Cert.SibOutIdeal.Hand.final m (Cert.SibOutIdeal.Hand.ok m) c)
    exact ⟨e, h.1 c⟩
  · run_from Cert.SibOutRefIdeal.Value.run m' g'

theorem frame_SibOut : Cert.quiescent_SibOut := fun m ρ _ => Cert.SibOut.Gen.frame m ρ (Cert.SibOut.Hand.ok m)
theorem frame_SibOutIdeal : Cert.quiescent_SibOutIdeal := fun m ρ _ => Cert.SibOutIdeal.Gen.frame m ρ (Cert.SibOutIdeal.Hand.ok m)
theorem frame_SibOutRefIdeal : Cert.quiescent_SibOutRefIdeal := fun m ρ _ =>
  (θ_run Cert.SibOutRefIdeal.defs _ _).mono
    (fun r h => ⟨fun c => (h c).2, Idealize.ShloMosaic.sem_eq_zero_of_no_sems (by decide) r.2⟩)
    (Cert.SibOutRefIdeal.Value.run m ρ)

end Cert.Proof

end
-- ==== Proof.lean ====
/- The claims of the step's calls put together: the frames of every program, and of each call with a reference that its
   idealization computes the reference's value. -/
module

public import proofs.«01_k».proof.Defs
public import proofs.«01_k».proof.Proof.Gen.WgradOwn
public import proofs.«01_k».proof.Proof.Gen.WgradOwnIdeal
public import proofs.«01_k».proof.Proof.Gen.WgradOwnRefIdeal
public import proofs.«01_k».proof.Proof.Gen.WgradSibling
public import proofs.«01_k».proof.Proof.Gen.WgradSiblingIdeal
public import proofs.«01_k».proof.Proof.Gen.WgradSiblingRefIdeal
public import proofs.«01_k».proof.Proof.Gen.InDgrad
public import proofs.«01_k».proof.Proof.Gen.InDgradIdeal
public import proofs.«01_k».proof.Proof.Gen.InDgradRefIdeal
public import proofs.«01_k».proof.Proof.Gen.OutWgrad
public import proofs.«01_k».proof.Proof.Gen.OutWgradIdeal
public import proofs.«01_k».proof.Proof.Gen.OutWgradRefIdeal
public import proofs.«01_k».proof.Proof.Gen.AttnWgrad
public import proofs.«01_k».proof.Proof.Gen.AttnWgradIdeal
public import proofs.«01_k».proof.Proof.Gen.AttnWgradRefIdeal
public import proofs.«01_k».proof.Proof.Gen.HgrnWgrad
public import proofs.«01_k».proof.Proof.Gen.HgrnWgradIdeal
public import proofs.«01_k».proof.Proof.Gen.HgrnWgradRefIdeal
public import proofs.«01_k».proof.Proof.Gen.AttnDgrad
public import proofs.«01_k».proof.Proof.Gen.AttnDgradIdeal
public import proofs.«01_k».proof.Proof.Gen.AttnDgradRefIdeal
public import proofs.«01_k».proof.Proof.Gen.HgrnDgrad
public import proofs.«01_k».proof.Proof.Gen.HgrnDgradIdeal
public import proofs.«01_k».proof.Proof.Gen.HgrnDgradRefIdeal
public import proofs.«01_k».proof.Proof.Gen.InProjOwn
public import proofs.«01_k».proof.Proof.Gen.InProjOwnIdeal
public import proofs.«01_k».proof.Proof.Gen.InProjOwnRefIdeal
public import proofs.«01_k».proof.Proof.Gen.InProjPeer0
public import proofs.«01_k».proof.Proof.Gen.InProjPeer0Ideal
public import proofs.«01_k».proof.Proof.Gen.InProjPeer0RefIdeal
public import proofs.«01_k».proof.Proof.Gen.InProjPeer1
public import proofs.«01_k».proof.Proof.Gen.InProjPeer1Ideal
public import proofs.«01_k».proof.Proof.Gen.InProjPeer1RefIdeal
public import proofs.«01_k».proof.Proof.Gen.InProjPeer2
public import proofs.«01_k».proof.Proof.Gen.InProjPeer2Ideal
public import proofs.«01_k».proof.Proof.Gen.InProjPeer2RefIdeal
public import proofs.«01_k».proof.Proof.Gen.OutProj
public import proofs.«01_k».proof.Proof.Gen.OutProjIdeal
public import proofs.«01_k».proof.Proof.Gen.OutProjRefIdeal
public import proofs.«01_k».proof.Proof.Gen.AttnProj
public import proofs.«01_k».proof.Proof.Gen.AttnProjIdeal
public import proofs.«01_k».proof.Proof.Gen.AttnProjRefIdeal
public import proofs.«01_k».proof.Proof.Gen.MergeFwd
public import proofs.«01_k».proof.Proof.Gen.MergeFwdIdeal
public import proofs.«01_k».proof.Proof.Gen.MergeFwdRefIdeal
public import proofs.«01_k».proof.Proof.Gen.Merge
public import proofs.«01_k».proof.Proof.Gen.MergeIdeal
public import proofs.«01_k».proof.Proof.Gen.MergeRefIdeal
public import proofs.«01_k».proof.Proof.Gen.AdamIn
public import proofs.«01_k».proof.Proof.Gen.AdamInIdeal
public import proofs.«01_k».proof.Proof.Gen.AdamInRefIdeal
public import proofs.«01_k».proof.Proof.Gen.AdamAttn
public import proofs.«01_k».proof.Proof.Gen.AdamAttnIdeal
public import proofs.«01_k».proof.Proof.Gen.AdamAttnRefIdeal
public import proofs.«01_k».proof.Proof.Gen.AdamHgrn
public import proofs.«01_k».proof.Proof.Gen.AdamHgrnIdeal
public import proofs.«01_k».proof.Proof.Gen.AdamHgrnRefIdeal
public import proofs.«01_k».proof.Proof.Gen.AdamOut
public import proofs.«01_k».proof.Proof.Gen.AdamOutIdeal
public import proofs.«01_k».proof.Proof.Gen.AdamOutRefIdeal
public import proofs.«01_k».proof.Proof.Gen.AdamSmall
public import proofs.«01_k».proof.Proof.Gen.AdamSmallIdeal
public import proofs.«01_k».proof.Proof.Gen.AdamSmallRefIdeal
public import proofs.«01_k».proof.Proof.Gen.NormFwd
public import proofs.«01_k».proof.Proof.Gen.NormFwdIdeal
public import proofs.«01_k».proof.Proof.Gen.NormFwdRefIdeal
public import proofs.«01_k».proof.Proof.Gen.NormBwd
public import proofs.«01_k».proof.Proof.Gen.NormBwdIdeal
public import proofs.«01_k».proof.Proof.Gen.NormBwdRefIdeal
public import proofs.«01_k».proof.Proof.Gen.PostLoss
public import proofs.«01_k».proof.Proof.Gen.PostLossIdeal
public import proofs.«01_k».proof.Proof.Gen.PostLossRefIdeal
public import proofs.«01_k».proof.Proof.Gen.SumIn0
public import proofs.«01_k».proof.Proof.Gen.SumIn0Ideal
public import proofs.«01_k».proof.Proof.Gen.SumIn0RefIdeal
public import proofs.«01_k».proof.Proof.Gen.SumIn1
public import proofs.«01_k».proof.Proof.Gen.SumIn1Ideal
public import proofs.«01_k».proof.Proof.Gen.SumIn1RefIdeal
public import proofs.«01_k».proof.Proof.Gen.SumAttn0
public import proofs.«01_k».proof.Proof.Gen.SumAttn0Ideal
public import proofs.«01_k».proof.Proof.Gen.SumAttn0RefIdeal
public import proofs.«01_k».proof.Proof.Gen.SumAttn1
public import proofs.«01_k».proof.Proof.Gen.SumAttn1Ideal
public import proofs.«01_k».proof.Proof.Gen.SumAttn1RefIdeal
public import proofs.«01_k».proof.Proof.Gen.SumHgrn0
public import proofs.«01_k».proof.Proof.Gen.SumHgrn0Ideal
public import proofs.«01_k».proof.Proof.Gen.SumHgrn0RefIdeal
public import proofs.«01_k».proof.Proof.Gen.SumHgrn1
public import proofs.«01_k».proof.Proof.Gen.SumHgrn1Ideal
public import proofs.«01_k».proof.Proof.Gen.SumHgrn1RefIdeal
public import proofs.«01_k».proof.Proof.Gen.SumOut0
public import proofs.«01_k».proof.Proof.Gen.SumOut0Ideal
public import proofs.«01_k».proof.Proof.Gen.SumOut0RefIdeal
public import proofs.«01_k».proof.Proof.Gen.SumOut1
public import proofs.«01_k».proof.Proof.Gen.SumOut1Ideal
public import proofs.«01_k».proof.Proof.Gen.SumOut1RefIdeal
public import proofs.«01_k».proof.Proof.Gen.CastIn
public import proofs.«01_k».proof.Proof.Gen.CastInIdeal
public import proofs.«01_k».proof.Proof.Gen.CastInRefIdeal
public import proofs.«01_k».proof.Proof.Gen.CastAttn
public import proofs.«01_k».proof.Proof.Gen.CastAttnIdeal
public import proofs.«01_k».proof.Proof.Gen.CastAttnRefIdeal
public import proofs.«01_k».proof.Proof.Gen.CastHgrn
public import proofs.«01_k».proof.Proof.Gen.CastHgrnIdeal
public import proofs.«01_k».proof.Proof.Gen.CastHgrnRefIdeal
public import proofs.«01_k».proof.Proof.Gen.CastOut
public import proofs.«01_k».proof.Proof.Gen.CastOutIdeal
public import proofs.«01_k».proof.Proof.Gen.CastOutRefIdeal
public import proofs.«01_k».proof.Proof.Gen.SibIn
public import proofs.«01_k».proof.Proof.Gen.SibInIdeal
public import proofs.«01_k».proof.Proof.Gen.SibInRefIdeal
public import proofs.«01_k».proof.Proof.Gen.SibAttn
public import proofs.«01_k».proof.Proof.Gen.SibAttnIdeal
public import proofs.«01_k».proof.Proof.Gen.SibAttnRefIdeal
public import proofs.«01_k».proof.Proof.Gen.SibHgrn
public import proofs.«01_k».proof.Proof.Gen.SibHgrnIdeal
public import proofs.«01_k».proof.Proof.Gen.SibHgrnRefIdeal
public import proofs.«01_k».proof.Proof.Gen.SibOut
public import proofs.«01_k».proof.Proof.Gen.SibOutIdeal
public import proofs.«01_k».proof.Proof.Gen.SibOutRefIdeal
public import proofs.«01_k».proof.Proof.Gen.WgradOwnRefIdeal.Run
public import proofs.«01_k».proof.Proof.WgradOwnValue
public import proofs.«01_k».proof.Proof.Gen.WgradSiblingRefIdeal.Run
public import proofs.«01_k».proof.Proof.WgradSiblingValue
public import proofs.«01_k».proof.Proof.InDgradValue
public import proofs.«01_k».proof.Proof.OutWgradValue
public import proofs.«01_k».proof.Proof.Gen.AttnWgradRefIdeal.Run
public import proofs.«01_k».proof.Proof.AttnWgradValue
public import proofs.«01_k».proof.Proof.Gen.HgrnWgradRefIdeal.Run
public import proofs.«01_k».proof.Proof.HgrnWgradValue
public import proofs.«01_k».proof.Proof.AttnDgradValue
public import proofs.«01_k».proof.Proof.HgrnDgradValue
public import proofs.«01_k».proof.Proof.Gen.InProjOwnRefIdeal.Run
public import proofs.«01_k».proof.Proof.InProjOwnValue
public import proofs.«01_k».proof.Proof.Gen.InProjPeer0RefIdeal.Run
public import proofs.«01_k».proof.Proof.InProjPeer0Value
public import proofs.«01_k».proof.Proof.Gen.InProjPeer1RefIdeal.Run
public import proofs.«01_k».proof.Proof.InProjPeer1Value
public import proofs.«01_k».proof.Proof.Gen.InProjPeer2RefIdeal.Run
public import proofs.«01_k».proof.Proof.InProjPeer2Value
public import proofs.«01_k».proof.Proof.OutProjValue
public import proofs.«01_k».proof.Proof.AttnProjValue
public import proofs.«01_k».proof.Proof.MergeFwdValue
public import proofs.«01_k».proof.Proof.Gen.MergeRefIdeal.Run
public import proofs.«01_k».proof.Proof.MergeValue
public import proofs.«01_k».proof.Proof.MergeFrame
public import proofs.«01_k».proof.Proof.AdamInValue
public import proofs.«01_k».proof.Proof.AdamAttnValue
public import proofs.«01_k».proof.Proof.AdamHgrnValue
public import proofs.«01_k».proof.Proof.AdamOutValue
public import proofs.«01_k».proof.Proof.AdamSmallValue
public import proofs.«01_k».proof.Proof.NormFwdValue
public import proofs.«01_k».proof.Proof.NormBwdValue
public import proofs.«01_k».proof.Proof.PostLossValue
public import proofs.«01_k».proof.Proof.Gen.SumIn0RefIdeal.Run
public import proofs.«01_k».proof.Proof.SumIn0Value
public import proofs.«01_k».proof.Proof.Gen.SumIn1RefIdeal.Run
public import proofs.«01_k».proof.Proof.SumIn1Value
public import proofs.«01_k».proof.Proof.Gen.SumAttn0RefIdeal.Run
public import proofs.«01_k».proof.Proof.SumAttn0Value
public import proofs.«01_k».proof.Proof.Gen.SumAttn1RefIdeal.Run
public import proofs.«01_k».proof.Proof.SumAttn1Value
public import proofs.«01_k».proof.Proof.Gen.SumHgrn0RefIdeal.Run
public import proofs.«01_k».proof.Proof.SumHgrn0Value
public import proofs.«01_k».proof.Proof.Gen.SumHgrn1RefIdeal.Run
public import proofs.«01_k».proof.Proof.SumHgrn1Value
public import proofs.«01_k».proof.Proof.Gen.SumOut0RefIdeal.Run
public import proofs.«01_k».proof.Proof.SumOut0Value
public import proofs.«01_k».proof.Proof.Gen.SumOut1RefIdeal.Run
public import proofs.«01_k».proof.Proof.SumOut1Value
public import proofs.«01_k».proof.Proof.Gen.CastInRefIdeal.Run
public import proofs.«01_k».proof.Proof.CastInValue
public import proofs.«01_k».proof.Proof.Gen.CastAttnRefIdeal.Run
public import proofs.«01_k».proof.Proof.CastAttnValue
public import proofs.«01_k».proof.Proof.Gen.CastHgrnRefIdeal.Run
public import proofs.«01_k».proof.Proof.CastHgrnValue
public import proofs.«01_k».proof.Proof.Gen.CastOutRefIdeal.Run
public import proofs.«01_k».proof.Proof.CastOutValue
public import proofs.«01_k».proof.Proof.Gen.SibInRefIdeal.Run
public import proofs.«01_k».proof.Proof.SibInValue
public import proofs.«01_k».proof.Proof.Gen.SibAttnRefIdeal.Run
public import proofs.«01_k».proof.Proof.SibAttnValue
public import proofs.«01_k».proof.Proof.Gen.SibHgrnRefIdeal.Run
public import proofs.«01_k».proof.Proof.SibHgrnValue
public import proofs.«01_k».proof.Proof.Gen.SibOutRefIdeal.Run
public import proofs.«01_k».proof.Proof.SibOutValue

@[expose] public section

noncomputable section

namespace Cert.Proof

open Idealize.ShloMosaic Idealize.SL.Sem

/-- Every claim of the certificate. -/
theorem claim : Cert.Claim := ⟨
    Cert.WgradOwn.Gen.facts, Cert.WgradOwnIdeal.Gen.facts, Cert.WgradOwnRefIdeal.Gen.facts,
    Cert.WgradSibling.Gen.facts, Cert.WgradSiblingIdeal.Gen.facts, Cert.WgradSiblingRefIdeal.Gen.facts,
    Cert.InDgrad.Gen.facts, Cert.InDgradIdeal.Gen.facts, Cert.InDgradRefIdeal.Gen.facts, Cert.OutWgrad.Gen.facts,
    Cert.OutWgradIdeal.Gen.facts, Cert.OutWgradRefIdeal.Gen.facts, Cert.AttnWgrad.Gen.facts,
    Cert.AttnWgradIdeal.Gen.facts, Cert.AttnWgradRefIdeal.Gen.facts, Cert.HgrnWgrad.Gen.facts,
    Cert.HgrnWgradIdeal.Gen.facts, Cert.HgrnWgradRefIdeal.Gen.facts, Cert.AttnDgrad.Gen.facts,
    Cert.AttnDgradIdeal.Gen.facts, Cert.AttnDgradRefIdeal.Gen.facts, Cert.HgrnDgrad.Gen.facts,
    Cert.HgrnDgradIdeal.Gen.facts, Cert.HgrnDgradRefIdeal.Gen.facts, Cert.InProjOwn.Gen.facts,
    Cert.InProjOwnIdeal.Gen.facts, Cert.InProjOwnRefIdeal.Gen.facts, Cert.InProjPeer0.Gen.facts,
    Cert.InProjPeer0Ideal.Gen.facts, Cert.InProjPeer0RefIdeal.Gen.facts, Cert.InProjPeer1.Gen.facts,
    Cert.InProjPeer1Ideal.Gen.facts, Cert.InProjPeer1RefIdeal.Gen.facts, Cert.InProjPeer2.Gen.facts,
    Cert.InProjPeer2Ideal.Gen.facts, Cert.InProjPeer2RefIdeal.Gen.facts, Cert.OutProj.Gen.facts,
    Cert.OutProjIdeal.Gen.facts, Cert.OutProjRefIdeal.Gen.facts, Cert.AttnProj.Gen.facts,
    Cert.AttnProjIdeal.Gen.facts, Cert.AttnProjRefIdeal.Gen.facts, Cert.MergeFwd.Gen.facts,
    Cert.MergeFwdIdeal.Gen.facts, Cert.MergeFwdRefIdeal.Gen.facts, Cert.Merge.Gen.facts, Cert.MergeIdeal.Gen.facts,
    Cert.MergeRefIdeal.Gen.facts, Cert.AdamIn.Gen.facts, Cert.AdamInIdeal.Gen.facts, Cert.AdamInRefIdeal.Gen.facts,
    Cert.AdamAttn.Gen.facts, Cert.AdamAttnIdeal.Gen.facts, Cert.AdamAttnRefIdeal.Gen.facts,
    Cert.AdamHgrn.Gen.facts, Cert.AdamHgrnIdeal.Gen.facts, Cert.AdamHgrnRefIdeal.Gen.facts, Cert.AdamOut.Gen.facts,
    Cert.AdamOutIdeal.Gen.facts, Cert.AdamOutRefIdeal.Gen.facts, Cert.AdamSmall.Gen.facts,
    Cert.AdamSmallIdeal.Gen.facts, Cert.AdamSmallRefIdeal.Gen.facts, Cert.NormFwd.Gen.facts,
    Cert.NormFwdIdeal.Gen.facts, Cert.NormFwdRefIdeal.Gen.facts, Cert.NormBwd.Gen.facts,
    Cert.NormBwdIdeal.Gen.facts, Cert.NormBwdRefIdeal.Gen.facts, Cert.PostLoss.Gen.facts,
    Cert.PostLossIdeal.Gen.facts, Cert.PostLossRefIdeal.Gen.facts, Cert.SumIn0.Gen.facts,
    Cert.SumIn0Ideal.Gen.facts, Cert.SumIn0RefIdeal.Gen.facts, Cert.SumIn1.Gen.facts, Cert.SumIn1Ideal.Gen.facts,
    Cert.SumIn1RefIdeal.Gen.facts, Cert.SumAttn0.Gen.facts, Cert.SumAttn0Ideal.Gen.facts,
    Cert.SumAttn0RefIdeal.Gen.facts, Cert.SumAttn1.Gen.facts, Cert.SumAttn1Ideal.Gen.facts,
    Cert.SumAttn1RefIdeal.Gen.facts, Cert.SumHgrn0.Gen.facts, Cert.SumHgrn0Ideal.Gen.facts,
    Cert.SumHgrn0RefIdeal.Gen.facts, Cert.SumHgrn1.Gen.facts, Cert.SumHgrn1Ideal.Gen.facts,
    Cert.SumHgrn1RefIdeal.Gen.facts, Cert.SumOut0.Gen.facts, Cert.SumOut0Ideal.Gen.facts,
    Cert.SumOut0RefIdeal.Gen.facts, Cert.SumOut1.Gen.facts, Cert.SumOut1Ideal.Gen.facts,
    Cert.SumOut1RefIdeal.Gen.facts, Cert.CastIn.Gen.facts, Cert.CastInIdeal.Gen.facts,
    Cert.CastInRefIdeal.Gen.facts, Cert.CastAttn.Gen.facts, Cert.CastAttnIdeal.Gen.facts,
    Cert.CastAttnRefIdeal.Gen.facts, Cert.CastHgrn.Gen.facts, Cert.CastHgrnIdeal.Gen.facts,
    Cert.CastHgrnRefIdeal.Gen.facts, Cert.CastOut.Gen.facts, Cert.CastOutIdeal.Gen.facts,
    Cert.CastOutRefIdeal.Gen.facts, Cert.SibIn.Gen.facts, Cert.SibInIdeal.Gen.facts, Cert.SibInRefIdeal.Gen.facts,
    Cert.SibAttn.Gen.facts, Cert.SibAttnIdeal.Gen.facts, Cert.SibAttnRefIdeal.Gen.facts, Cert.SibHgrn.Gen.facts,
    Cert.SibHgrnIdeal.Gen.facts, Cert.SibHgrnRefIdeal.Gen.facts, Cert.SibOut.Gen.facts, Cert.SibOutIdeal.Gen.facts,
    Cert.SibOutRefIdeal.Gen.facts, by
  exact ⟨
    frame_WgradOwn, frame_WgradOwnIdeal, frame_WgradOwnRefIdeal, frame_WgradSibling, frame_WgradSiblingIdeal,
    frame_WgradSiblingRefIdeal, frame_InDgrad, frame_InDgradIdeal, frame_InDgradRefIdeal, frame_OutWgrad,
    frame_OutWgradIdeal, frame_OutWgradRefIdeal, frame_AttnWgrad, frame_AttnWgradIdeal, frame_AttnWgradRefIdeal,
    frame_HgrnWgrad, frame_HgrnWgradIdeal, frame_HgrnWgradRefIdeal, frame_AttnDgrad, frame_AttnDgradIdeal,
    frame_AttnDgradRefIdeal, frame_HgrnDgrad, frame_HgrnDgradIdeal, frame_HgrnDgradRefIdeal, frame_InProjOwn,
    frame_InProjOwnIdeal, frame_InProjOwnRefIdeal, frame_InProjPeer0, frame_InProjPeer0Ideal,
    frame_InProjPeer0RefIdeal, frame_InProjPeer1, frame_InProjPeer1Ideal, frame_InProjPeer1RefIdeal,
    frame_InProjPeer2, frame_InProjPeer2Ideal, frame_InProjPeer2RefIdeal, frame_OutProj, frame_OutProjIdeal,
    frame_OutProjRefIdeal, frame_AttnProj, frame_AttnProjIdeal, frame_AttnProjRefIdeal, frame_MergeFwd,
    frame_MergeFwdIdeal, frame_MergeFwdRefIdeal, frame_Merge, frame_MergeIdeal, frame_MergeRefIdeal, frame_AdamIn,
    frame_AdamInIdeal, frame_AdamInRefIdeal, frame_AdamAttn, frame_AdamAttnIdeal, frame_AdamAttnRefIdeal,
    frame_AdamHgrn, frame_AdamHgrnIdeal, frame_AdamHgrnRefIdeal, frame_AdamOut, frame_AdamOutIdeal,
    frame_AdamOutRefIdeal, frame_AdamSmall, frame_AdamSmallIdeal, frame_AdamSmallRefIdeal, frame_NormFwd,
    frame_NormFwdIdeal, frame_NormFwdRefIdeal, frame_NormBwd, frame_NormBwdIdeal, frame_NormBwdRefIdeal,
    frame_PostLoss, frame_PostLossIdeal, frame_PostLossRefIdeal, frame_SumIn0, frame_SumIn0Ideal,
    frame_SumIn0RefIdeal, frame_SumIn1, frame_SumIn1Ideal, frame_SumIn1RefIdeal, frame_SumAttn0,
    frame_SumAttn0Ideal, frame_SumAttn0RefIdeal, frame_SumAttn1, frame_SumAttn1Ideal, frame_SumAttn1RefIdeal,
    frame_SumHgrn0, frame_SumHgrn0Ideal, frame_SumHgrn0RefIdeal, frame_SumHgrn1, frame_SumHgrn1Ideal,
    frame_SumHgrn1RefIdeal, frame_SumOut0, frame_SumOut0Ideal, frame_SumOut0RefIdeal, frame_SumOut1,
    frame_SumOut1Ideal, frame_SumOut1RefIdeal, frame_CastIn, frame_CastInIdeal, frame_CastInRefIdeal,
    frame_CastAttn, frame_CastAttnIdeal, frame_CastAttnRefIdeal, frame_CastHgrn, frame_CastHgrnIdeal,
    frame_CastHgrnRefIdeal, frame_CastOut, frame_CastOutIdeal, frame_CastOutRefIdeal, frame_SibIn,
    frame_SibInIdeal, frame_SibInRefIdeal, frame_SibAttn, frame_SibAttnIdeal, frame_SibAttnRefIdeal, frame_SibHgrn,
    frame_SibHgrnIdeal, frame_SibHgrnRefIdeal, frame_SibOut, frame_SibOutIdeal, frame_SibOutRefIdeal,
    trivial, value_WgradOwn, trivial, value_WgradSibling, trivial, value_InDgrad, trivial, value_OutWgrad, trivial,
    value_AttnWgrad, trivial, value_HgrnWgrad, trivial, value_AttnDgrad, trivial, value_HgrnDgrad, trivial,
    value_InProjOwn, trivial, value_InProjPeer0, trivial, value_InProjPeer1, trivial, value_InProjPeer2, trivial,
    value_OutProj, trivial, value_AttnProj, trivial, value_MergeFwd, trivial, value_Merge, trivial, value_AdamIn,
    trivial, value_AdamAttn, trivial, value_AdamHgrn, trivial, value_AdamOut, trivial, value_AdamSmall, trivial,
    value_NormFwd, trivial, value_NormBwd, trivial, value_PostLoss, trivial, value_SumIn0, trivial, value_SumIn1,
    trivial, value_SumAttn0, trivial, value_SumAttn1, trivial, value_SumHgrn0, trivial, value_SumHgrn1, trivial,
    value_SumOut0, trivial, value_SumOut1, trivial, value_CastIn, trivial, value_CastAttn, trivial, value_CastHgrn,
    trivial, value_CastOut, trivial, value_SibIn, trivial, value_SibAttn, trivial, value_SibHgrn, trivial,
    value_SibOut⟩⟩

end Cert.Proof

end
